-- ==== Defs.lean ====
def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradRefIdeal (m : (ℓ : Loc Cert.ProjWgradRefIdeal.nD Cert.ProjWgradRefIdeal.τ Cert.ProjWgradRefIdeal.sig) → Buf (Elt Ideal) ℓ) : Prop :=
  True

def Pre_FfnWgrad (m : (ℓ : Loc Cert.FfnWgrad.nD Cert.FfnWgrad.τ Cert.FfnWgrad.sig) → Buf (Elt Bits) ℓ) : Prop :=
  True

def Pre_FfnWgradIdeal (m : (ℓ : Loc Cert.FfnWgradIdeal.nD Cert.FfnWgradIdeal.τ Cert.FfnWgradIdeal.sig) → Buf (Elt Ideal) ℓ) : Prop :=
  True

def Pre_FfnWgradRefIdeal (m : (ℓ : Loc Cert.FfnWgradRefIdeal.nD Cert.FfnWgradRefIdeal.τ Cert.FfnWgradRefIdeal.sig) → Buf (Elt Ideal) ℓ) : Prop :=
  True

def Pre_FfnDownWgrad (m : (ℓ : Loc Cert.FfnDownWgrad.nD Cert.FfnDownWgrad.τ Cert.FfnDownWgrad.sig) → Buf (Elt Bits) ℓ) : Prop :=
  True

def Pre_FfnDownWgradIdeal (m : (ℓ : Loc Cert.FfnDownWgradIdeal.nD Cert.FfnDownWgradIdeal.τ Cert.FfnDownWgradIdeal.sig) → Buf (Elt Ideal) ℓ) : Prop :=
  True

def Pre_FfnDownWgradRefIdeal (m : (ℓ : Loc Cert.FfnDownWgradRefIdeal.nD Cert.FfnDownWgradRefIdeal.τ Cert.FfnDownWgradRefIdeal.sig) → Buf (Elt Ideal) ℓ) : Prop :=
  True

def Pre_MixerWgrad (m : (ℓ : Loc Cert.MixerWgrad.nD Cert.MixerWgrad.τ Cert.MixerWgrad.sig) → Buf (Elt Bits) ℓ) : Prop :=
  True

def Pre_MixerWgradIdeal (m : (ℓ : Loc Cert.MixerWgradIdeal.nD Cert.MixerWgradIdeal.τ Cert.MixerWgradIdeal.sig) → Buf (Elt Ideal) ℓ) : Prop :=
  True

def Pre_MixerWgradRefIdeal (m : (ℓ : Loc Cert.MixerWgradRefIdeal.nD Cert.MixerWgradRefIdeal.τ Cert.MixerWgradRefIdeal.sig) → Buf (Elt Ideal) ℓ) : Prop :=
  True

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerBwdRefIdeal (m : (ℓ : Loc Cert.MixerBwdRefIdeal.nD Cert.MixerBwdRefIdeal.τ Cert.MixerBwdRefIdeal.sig) → Buf (Elt Ideal) ℓ) : Prop :=
  True

def Pre_FfnInBwd (m : (ℓ : Loc Cert.FfnInBwd.nD Cert.FfnInBwd.τ Cert.FfnInBwd.sig) → Buf (Elt Bits) ℓ) : Prop :=
  True

def Pre_FfnInBwdIdeal (m : (ℓ : Loc Cert.FfnInBwdIdeal.nD Cert.FfnInBwdIdeal.τ Cert.FfnInBwdIdeal.sig) → Buf (Elt Ideal) ℓ) : Prop :=
  True

def Pre_FfnInBwdRefIdeal (m : (ℓ : Loc Cert.FfnInBwdRefIdeal.nD Cert.FfnInBwdRefIdeal.τ Cert.FfnInBwdRefIdeal.sig) → Buf (Elt Ideal) ℓ) : Prop :=
  True

def Pre_FfnOutBwd (m : (ℓ : Loc Cert.FfnOutBwd.nD Cert.FfnOutBwd.τ Cert.FfnOutBwd.sig) → Buf (Elt Bits) ℓ) : Prop :=
  True

def Pre_FfnOutBwdIdeal (m : (ℓ : Loc Cert.FfnOutBwdIdeal.nD Cert.FfnOutBwdIdeal.τ Cert.FfnOutBwdIdeal.sig) → Buf (Elt Ideal) ℓ) : Prop :=
  True

def Pre_FfnOutBwdIdeal_ffn_out_bwd_finite [hPre_ffn_out_bwd_finite : Cert.Pre_ffn_out_bwd_finite.Facts] (m : (ℓ : Loc Cert.FfnOutBwdIdeal.nD Cert.FfnOutBwdIdeal.τ Cert.FfnOutBwdIdeal.sig) → Buf (Elt Ideal) ℓ) : Prop :=
  ∀ c : Dev Cert.FfnOutBwdIdeal.nD,
    (Cert.Pre_ffn_out_bwd_finite.fn (F := Ideal) (m ((c.tc : Thread Cert.FfnOutBwdIdeal.nD Cert.FfnOutBwdIdeal.τ).loc Cert.FfnOutBwdIdeal.main_arg0)) (m ((c.tc : Thread Cert.FfnOutBwdIdeal.nD Cert.FfnOutBwdIdeal.τ).loc Cert.FfnOutBwdIdeal.main_arg1)) (m ((c.tc : Thread Cert.FfnOutBwdIdeal.nD Cert.FfnOutBwdIdeal.τ).loc Cert.FfnOutBwdIdeal.main_arg2)) (m ((c.tc : Thread Cert.FfnOutBwdIdeal.nD Cert.FfnOutBwdIdeal.τ).loc Cert.FfnOutBwdIdeal.main_arg3))) = (fun _ => 1#1)

def Pre_FfnOutBwdRefIdeal (m : (ℓ : Loc Cert.FfnOutBwdRefIdeal.nD Cert.FfnOutBwdRefIdeal.τ Cert.FfnOutBwdRefIdeal.sig) → Buf (Elt Ideal) ℓ) : Prop :=
  True

def Pre_FfnOutBwdRefIdeal_ffn_out_bwd_finite [hPre_ffn_out_bwd_finite : Cert.Pre_ffn_out_bwd_finite.Facts] (m : (ℓ : Loc Cert.FfnOutBwdRefIdeal.nD Cert.FfnOutBwdRefIdeal.τ Cert.FfnOutBwdRefIdeal.sig) → Buf (Elt Ideal) ℓ) : Prop :=
  ∀ c : Dev Cert.FfnOutBwdRefIdeal.nD,
    (Cert.Pre_ffn_out_bwd_finite.fn (F := Ideal) (m ((c.tc : Thread Cert.FfnOutBwdRefIdeal.nD Cert.FfnOutBwdRefIdeal.τ).loc Cert.FfnOutBwdRefIdeal.main_arg0)) (m ((c.tc : Thread Cert.FfnOutBwdRefIdeal.nD Cert.FfnOutBwdRefIdeal.τ).loc Cert.FfnOutBwdRefIdeal.main_arg1)) (m ((c.tc : Thread Cert.FfnOutBwdRefIdeal.nD Cert.FfnOutBwdRefIdeal.τ).loc Cert.FfnOutBwdRefIdeal.main_arg2)) (m ((c.tc : Thread Cert.FfnOutBwdRefIdeal.nD Cert.FfnOutBwdRefIdeal.τ).loc Cert.FfnOutBwdRefIdeal.main_arg3))) = (fun _ => 1#1)

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_AdamwNorm (m : (ℓ : Loc Cert.AdamwNorm.nD Cert.AdamwNorm.τ Cert.AdamwNorm.sig) → Buf (Elt Bits) ℓ) : Prop :=
  True

def Pre_AdamwNormIdeal (m : (ℓ : Loc Cert.AdamwNormIdeal.nD Cert.AdamwNormIdeal.τ Cert.AdamwNormIdeal.sig) → Buf (Elt Ideal) ℓ) : Prop :=
  True

def Pre_AdamwNormRefIdeal (m : (ℓ : Loc Cert.AdamwNormRefIdeal.nD Cert.AdamwNormRefIdeal.τ Cert.AdamwNormRefIdeal.sig) → Buf (Elt Ideal) ℓ) : Prop :=
  True

def Pre_AdamwFinal (m : (ℓ : Loc Cert.AdamwFinal.nD Cert.AdamwFinal.τ Cert.AdamwFinal.sig) → Buf (Elt Bits) ℓ) : Prop :=
  True

def Pre_AdamwFinalIdeal (m : (ℓ : Loc Cert.AdamwFinalIdeal.nD Cert.AdamwFinalIdeal.τ Cert.AdamwFinalIdeal.sig) → Buf (Elt Ideal) ℓ) : Prop :=
  True

def Pre_AdamwFinalRefIdeal (m : (ℓ : Loc Cert.AdamwFinalRefIdeal.nD Cert.AdamwFinalRefIdeal.τ Cert.AdamwFinalRefIdeal.sig) → Buf (Elt Ideal) ℓ) : Prop :=
  True

def Pre_AdamwGateBias (m : (ℓ : Loc Cert.AdamwGateBias.nD Cert.AdamwGateBias.τ Cert.AdamwGateBias.sig) → Buf (Elt Bits) ℓ) : Prop :=
  True

def Pre_AdamwGateBiasIdeal (m : (ℓ : Loc Cert.AdamwGateBiasIdeal.nD Cert.AdamwGateBiasIdeal.τ Cert.AdamwGateBiasIdeal.sig) → Buf (Elt Ideal) ℓ) : Prop :=
  True

def Pre_AdamwGateBiasRefIdeal (m : (ℓ : Loc Cert.AdamwGateBiasRefIdeal.nD Cert.AdamwGateBiasRefIdeal.τ Cert.AdamwGateBiasRefIdeal.sig) → Buf (Elt Ideal) ℓ) : Prop :=
  True

def Pre_AdamwGlaNorm (m : (ℓ : Loc Cert.AdamwGlaNorm.nD Cert.AdamwGlaNorm.τ Cert.AdamwGlaNorm.sig) → Buf (Elt Bits) ℓ) : Prop :=
  True

def Pre_AdamwGlaNormIdeal (m : (ℓ : Loc Cert.AdamwGlaNormIdeal.nD Cert.AdamwGlaNormIdeal.τ Cert.AdamwGlaNormIdeal.sig) → Buf (Elt Ideal) ℓ) : Prop :=
  True

def Pre_AdamwGlaNormRefIdeal (m : (ℓ : Loc Cert.AdamwGlaNormRefIdeal.nD Cert.AdamwGlaNormRefIdeal.τ Cert.AdamwGlaNormRefIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvRefIdeal (m : (ℓ : Loc Cert.AdamwConvRefIdeal.nD Cert.AdamwConvRefIdeal.τ Cert.AdamwConvRefIdeal.sig) → Buf (Elt Ideal) ℓ) : Prop :=
  True

def Pre_AdamwGateRank (m : (ℓ : Loc Cert.AdamwGateRank.nD Cert.AdamwGateRank.τ Cert.AdamwGateRank.sig) → Buf (Elt Bits) ℓ) : Prop :=
  True

def Pre_AdamwGateRankIdeal (m : (ℓ : Loc Cert.AdamwGateRankIdeal.nD Cert.AdamwGateRankIdeal.τ Cert.AdamwGateRankIdeal.sig) → Buf (Elt Ideal) ℓ) : Prop :=
  True

def Pre_AdamwGateRankRefIdeal (m : (ℓ : Loc Cert.AdamwGateRankRefIdeal.nD Cert.AdamwGateRankRefIdeal.τ Cert.AdamwGateRankRefIdeal.sig) → Buf (Elt Ideal) ℓ) : Prop :=
  True

def Pre_AdamwMixer (m : (ℓ : Loc Cert.AdamwMixer.nD Cert.AdamwMixer.τ Cert.AdamwMixer.sig) → Buf (Elt Bits) ℓ) : Prop :=
  True

def Pre_AdamwMixerIdeal (m : (ℓ : Loc Cert.AdamwMixerIdeal.nD Cert.AdamwMixerIdeal.τ Cert.AdamwMixerIdeal.sig) → Buf (Elt Ideal) ℓ) : Prop :=
  True

def Pre_AdamwMixerRefIdeal (m : (ℓ : Loc Cert.AdamwMixerRefIdeal.nD Cert.AdamwMixerRefIdeal.τ Cert.AdamwMixerRefIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRefIdeal (m : (ℓ : Loc Cert.AdamwDownRefIdeal.nD Cert.AdamwDownRefIdeal.τ Cert.AdamwDownRefIdeal.sig) → Buf (Elt Ideal) ℓ) : Prop :=
  True

def Pre_AdamwGate (m : (ℓ : Loc Cert.AdamwGate.nD Cert.AdamwGate.τ Cert.AdamwGate.sig) → Buf (Elt Bits) ℓ) : Prop :=
  True

def Pre_AdamwGateIdeal (m : (ℓ : Loc Cert.AdamwGateIdeal.nD Cert.AdamwGateIdeal.τ Cert.AdamwGateIdeal.sig) → Buf (Elt Ideal) ℓ) : Prop :=
  True

def Pre_AdamwGateRefIdeal (m : (ℓ : Loc Cert.AdamwGateRefIdeal.nD Cert.AdamwGateRefIdeal.τ Cert.AdamwGateRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_FfnOutFwd (m : (ℓ : Loc Cert.FfnOutFwd.nD Cert.FfnOutFwd.τ Cert.FfnOutFwd.sig) → Buf (Elt Bits) ℓ) : Prop :=
  True

def Pre_FfnOutFwdIdeal (m : (ℓ : Loc Cert.FfnOutFwdIdeal.nD Cert.FfnOutFwdIdeal.τ Cert.FfnOutFwdIdeal.sig) → Buf (Elt Ideal) ℓ) : Prop :=
  True

def Pre_FfnOutFwdRefIdeal (m : (ℓ : Loc Cert.FfnOutFwdRefIdeal.nD Cert.FfnOutFwdRefIdeal.τ Cert.FfnOutFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_FfnHiddenFwd (m : (ℓ : Loc Cert.FfnHiddenFwd.nD Cert.FfnHiddenFwd.τ Cert.FfnHiddenFwd.sig) → Buf (Elt Bits) ℓ) : Prop :=
  True

def Pre_FfnHiddenFwdIdeal (m : (ℓ : Loc Cert.FfnHiddenFwdIdeal.nD Cert.FfnHiddenFwdIdeal.τ Cert.FfnHiddenFwdIdeal.sig) → Buf (Elt Ideal) ℓ) : Prop :=
  True

def Pre_FfnHiddenFwdRefIdeal (m : (ℓ : Loc Cert.FfnHiddenFwdRefIdeal.nD Cert.FfnHiddenFwdRefIdeal.τ Cert.FfnHiddenFwdRefIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdRefIdeal (m : (ℓ : Loc Cert.MixerFwdRefIdeal.nD Cert.MixerFwdRefIdeal.τ Cert.MixerFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_LossTotal (m : (ℓ : Loc Cert.LossTotal.nD Cert.LossTotal.τ Cert.LossTotal.sig) → Buf (Elt Bits) ℓ) : Prop :=
  True

def Pre_LossTotalIdeal (m : (ℓ : Loc Cert.LossTotalIdeal.nD Cert.LossTotalIdeal.τ Cert.LossTotalIdeal.sig) → Buf (Elt Ideal) ℓ) : Prop :=
  True

def Pre_LossTotalRefIdeal (m : (ℓ : Loc Cert.LossTotalRefIdeal.nD Cert.LossTotalRefIdeal.τ Cert.LossTotalRefIdeal.sig) → Buf (Elt Ideal) ℓ) : Prop :=
  True

def Pre_PutGate (m : (ℓ : Loc Cert.PutGate.nD Cert.PutGate.τ Cert.PutGate.sig) → Buf (Elt Bits) ℓ) : Prop :=
  True

def Pre_PutGateIdeal (m : (ℓ : Loc Cert.PutGateIdeal.nD Cert.PutGateIdeal.τ Cert.PutGateIdeal.sig) → Buf (Elt Ideal) ℓ) : Prop :=
  True

def Pre_PutGateRefIdeal (m : (ℓ : Loc Cert.PutGateRefIdeal.nD Cert.PutGateRefIdeal.τ Cert.PutGateRefIdeal.sig) → Buf (Elt Ideal) ℓ) : Prop :=
  True

def Pre_RowsIn (m : (ℓ : Loc Cert.RowsIn.nD Cert.RowsIn.τ Cert.RowsIn.sig) → Buf (Elt Bits) ℓ) : Prop :=
  True

def Pre_RowsInIdeal (m : (ℓ : Loc Cert.RowsInIdeal.nD Cert.RowsInIdeal.τ Cert.RowsInIdeal.sig) → Buf (Elt Ideal) ℓ) : Prop :=
  True

def Pre_RowsInRefIdeal (m : (ℓ : Loc Cert.RowsInRefIdeal.nD Cert.RowsInRefIdeal.τ Cert.RowsInRefIdeal.sig) → Buf (Elt Ideal) ℓ) : Prop :=
  True

def Pre_RowsOut (m : (ℓ : Loc Cert.RowsOut.nD Cert.RowsOut.τ Cert.RowsOut.sig) → Buf (Elt Bits) ℓ) : Prop :=
  True

def Pre_RowsOutIdeal (m : (ℓ : Loc Cert.RowsOutIdeal.nD Cert.RowsOutIdeal.τ Cert.RowsOutIdeal.sig) → Buf (Elt Ideal) ℓ) : Prop :=
  True

def Pre_RowsOutRefIdeal (m : (ℓ : Loc Cert.RowsOutRefIdeal.nD Cert.RowsOutRefIdeal.τ Cert.RowsOutRefIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdRefIdeal (m : (ℓ : Loc Cert.GlaFwdRefIdeal.nD Cert.GlaFwdRefIdeal.τ Cert.GlaFwdRefIdeal.sig) → Buf (Elt Ideal) ℓ) : Prop :=
  True

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1)
      ∧ r.2.mem ((c.tc : Thread Cert.ProjWgrad.nD Cert.ProjWgrad.τ).loc Cert.ProjWgrad.main_arg2) = m ((c.tc : Thread Cert.ProjWgrad.nD Cert.ProjWgrad.τ).loc Cert.ProjWgrad.main_arg2))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1)
      ∧ r.2.mem ((c.tc : Thread Cert.ProjWgradIdeal.nD Cert.ProjWgradIdeal.τ).loc Cert.ProjWgradIdeal.main_arg2) = m ((c.tc : Thread Cert.ProjWgradIdeal.nD Cert.ProjWgradIdeal.τ).loc Cert.ProjWgradIdeal.main_arg2))
      ∧ r.2.sem = fun _ => 0)

def quiescent_ProjWgradRefIdeal [hProjWgradRefIdeal : Cert.ProjWgradRefIdeal.Facts] : Prop :=
  ∀ (m : (ℓ : Loc Cert.ProjWgradRefIdeal.nD Cert.ProjWgradRefIdeal.τ Cert.ProjWgradRefIdeal.sig) → Buf (Elt Ideal) ℓ) (g : Dev Cert.ProjWgradRefIdeal.nD → PrngReg), Pre_ProjWgradRefIdeal m →
    θ_run (Cert.ProjWgradRefIdeal.defs (F := Ideal)) (onTc (τ := Cert.ProjWgradRefIdeal.τ) (Cert.ProjWgradRefIdeal.main (F := Ideal))) ⟨m, fun _ => 0, g⟩ (fun r => (∀ c : Dev Cert.ProjWgradRefIdeal.nD,
      r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1)
      ∧ r.2.mem ((c.tc : Thread Cert.ProjWgradRefIdeal.nD Cert.ProjWgradRefIdeal.τ).loc Cert.ProjWgradRefIdeal.main_arg2) = m ((c.tc : Thread Cert.ProjWgradRefIdeal.nD Cert.ProjWgradRefIdeal.τ).loc Cert.ProjWgradRefIdeal.main_arg2))
      ∧ r.2.sem = fun _ => 0)

def quiescent_FfnWgrad [hFfnWgrad : Cert.FfnWgrad.Facts] : Prop :=
  ∀ (m : (ℓ : Loc Cert.FfnWgrad.nD Cert.FfnWgrad.τ Cert.FfnWgrad.sig) → Buf (Elt Bits) ℓ) (g : Dev Cert.FfnWgrad.nD → PrngReg), Pre_FfnWgrad m →
    θ_run (Cert.FfnWgrad.defs (F := Bits)) (onTc (τ := Cert.FfnWgrad.τ) (Cert.FfnWgrad.main (F := Bits))) ⟨m, fun _ => 0, g⟩ (fun r => (∀ c : Dev Cert.FfnWgrad.nD,
      r.2.mem ((c.tc : Thread Cert.FfnWgrad.nD Cert.FfnWgrad.τ).loc Cert.FfnWgrad.main_arg0) = m ((c.tc : Thread Cert.FfnWgrad.nD Cert.FfnWgrad.τ).loc Cert.FfnWgrad.main_arg0)
      ∧ r.2.mem ((c.tc : Thread Cert.FfnWgrad.nD Cert.FfnWgrad.τ).loc Cert.FfnWgrad.main_arg1) = m ((c.tc : Thread Cert.FfnWgrad.nD Cert.FfnWgrad.τ).loc Cert.FfnWgrad.main_arg1)
      ∧ r.2.mem ((c.tc : Thread Cert.FfnWgrad.nD Cert.FfnWgrad.τ).loc Cert.FfnWgrad.main_arg2) = m ((c.tc : Thread Cert.FfnWgrad.nD Cert.FfnWgrad.τ).loc Cert.FfnWgrad.main_arg2))
      ∧ r.2.sem = fun _ => 0)

def quiescent_FfnWgradIdeal [hFfnWgradIdeal : Cert.FfnWgradIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg), Pre_FfnWgradIdeal m →
    θ_run (Cert.FfnWgradIdeal.defs (F := Ideal)) (onTc (τ := Cert.FfnWgradIdeal.τ) (Cert.FfnWgradIdeal.main (F := Ideal))) ⟨m, fun _ => 0, g⟩ (fun r => (∀ c : Dev Cert.FfnWgradIdeal.nD,
      r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
      ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
      ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2))
      ∧ r.2.sem = fun _ => 0)

def quiescent_FfnWgradRefIdeal [hFfnWgradRefIdeal : Cert.FfnWgradRefIdeal.Facts] : Prop :=
  ∀ (m : (ℓ : Loc Cert.FfnWgradRefIdeal.nD Cert.FfnWgradRefIdeal.τ Cert.FfnWgradRefIdeal.sig) → Buf (Elt Ideal) ℓ) (g : Dev Cert.FfnWgradRefIdeal.nD → PrngReg), Pre_FfnWgradRefIdeal m →
    θ_run (Cert.FfnWgradRefIdeal.defs (F := Ideal)) (onTc (τ := Cert.FfnWgradRefIdeal.τ) (Cert.FfnWgradRefIdeal.main (F := Ideal))) ⟨m, fun _ => 0, g⟩ (fun r => (∀ c : Dev Cert.FfnWgradRefIdeal.nD,
      r.2.mem ((c.tc : Thread Cert.FfnWgradRefIdeal.nD Cert.FfnWgradRefIdeal.τ).loc Cert.FfnWgradRefIdeal.main_arg0) = m ((c.tc : Thread Cert.FfnWgradRefIdeal.nD Cert.FfnWgradRefIdeal.τ).loc Cert.FfnWgradRefIdeal.main_arg0)
      ∧ r.2.mem ((c.tc : Thread Cert.FfnWgradRefIdeal.nD Cert.FfnWgradRefIdeal.τ).loc Cert.FfnWgradRefIdeal.main_arg1) = m ((c.tc : Thread Cert.FfnWgradRefIdeal.nD Cert.FfnWgradRefIdeal.τ).loc Cert.FfnWgradRefIdeal.main_arg1)
      ∧ r.2.mem ((c.tc : Thread Cert.FfnWgradRefIdeal.nD Cert.FfnWgradRefIdeal.τ).loc Cert.FfnWgradRefIdeal.main_arg2) = m ((c.tc : Thread Cert.FfnWgradRefIdeal.nD Cert.FfnWgradRefIdeal.τ).loc Cert.FfnWgradRefIdeal.main_arg2))
      ∧ r.2.sem = fun _ => 0)

def quiescent_FfnDownWgrad [hFfnDownWgrad : Cert.FfnDownWgrad.Facts] : Prop :=
  ∀ (m : (ℓ : Loc Cert.FfnDownWgrad.nD Cert.FfnDownWgrad.τ Cert.FfnDownWgrad.sig) → Buf (Elt Bits) ℓ) (g : Dev Cert.FfnDownWgrad.nD → PrngReg), Pre_FfnDownWgrad m →
    θ_run (Cert.FfnDownWgrad.defs (F := Bits)) (onTc (τ := Cert.FfnDownWgrad.τ) (Cert.FfnDownWgrad.main (F := Bits))) ⟨m, fun _ => 0, g⟩ (fun r => (∀ c : Dev Cert.FfnDownWgrad.nD,
      r.2.mem ((c.tc : Thread Cert.FfnDownWgrad.nD Cert.FfnDownWgrad.τ).loc Cert.FfnDownWgrad.main_arg0) = m ((c.tc : Thread Cert.FfnDownWgrad.nD Cert.FfnDownWgrad.τ).loc Cert.FfnDownWgrad.main_arg0)
      ∧ r.2.mem ((c.tc : Thread Cert.FfnDownWgrad.nD Cert.FfnDownWgrad.τ).loc Cert.FfnDownWgrad.main_arg1) = m ((c.tc : Thread Cert.FfnDownWgrad.nD Cert.FfnDownWgrad.τ).loc Cert.FfnDownWgrad.main_arg1))
      ∧ r.2.sem = fun _ => 0)

def quiescent_FfnDownWgradIdeal [hFfnDownWgradIdeal : Cert.FfnDownWgradIdeal.Facts] : Prop :=
  ∀ (m : (ℓ : Loc Cert.FfnDownWgradIdeal.nD Cert.FfnDownWgradIdeal.τ Cert.FfnDownWgradIdeal.sig) → Buf (Elt Ideal) ℓ) (g : Dev Cert.FfnDownWgradIdeal.nD → PrngReg), Pre_FfnDownWgradIdeal m →
    θ_run (Cert.FfnDownWgradIdeal.defs (F := Ideal)) (onTc (τ := Cert.FfnDownWgradIdeal.τ) (Cert.FfnDownWgradIdeal.main (F := Ideal))) ⟨m, fun _ => 0, g⟩ (fun r => (∀ c : Dev Cert.FfnDownWgradIdeal.nD,
      r.2.mem ((c.tc : Thread Cert.FfnDownWgradIdeal.nD Cert.FfnDownWgradIdeal.τ).loc Cert.FfnDownWgradIdeal.main_arg0) = m ((c.tc : Thread Cert.FfnDownWgradIdeal.nD Cert.FfnDownWgradIdeal.τ).loc Cert.FfnDownWgradIdeal.main_arg0)
      ∧ r.2.mem ((c.tc : Thread Cert.FfnDownWgradIdeal.nD Cert.FfnDownWgradIdeal.τ).loc Cert.FfnDownWgradIdeal.main_arg1) = m ((c.tc : Thread Cert.FfnDownWgradIdeal.nD Cert.FfnDownWgradIdeal.τ).loc Cert.FfnDownWgradIdeal.main_arg1))
      ∧ r.2.sem = fun _ => 0)

def quiescent_FfnDownWgradRefIdeal [hFfnDownWgradRefIdeal : Cert.FfnDownWgradRefIdeal.Facts] : Prop :=
  ∀ (m : (ℓ : Loc Cert.FfnDownWgradRefIdeal.nD Cert.FfnDownWgradRefIdeal.τ Cert.FfnDownWgradRefIdeal.sig) → Buf (Elt Ideal) ℓ) (g : Dev Cert.FfnDownWgradRefIdeal.nD → PrngReg), Pre_FfnDownWgradRefIdeal m →
    θ_run (Cert.FfnDownWgradRefIdeal.defs (F := Ideal)) (onTc (τ := Cert.FfnDownWgradRefIdeal.τ) (Cert.FfnDownWgradRefIdeal.main (F := Ideal))) ⟨m, fun _ => 0, g⟩ (fun r => (∀ c : Dev Cert.FfnDownWgradRefIdeal.nD,
      r.2.mem ((c.tc : Thread Cert.FfnDownWgradRefIdeal.nD Cert.FfnDownWgradRefIdeal.τ).loc Cert.FfnDownWgradRefIdeal.main_arg0) = m ((c.tc : Thread Cert.FfnDownWgradRefIdeal.nD Cert.FfnDownWgradRefIdeal.τ).loc Cert.FfnDownWgradRefIdeal.main_arg0)
      ∧ r.2.mem ((c.tc : Thread Cert.FfnDownWgradRefIdeal.nD Cert.FfnDownWgradRefIdeal.τ).loc Cert.FfnDownWgradRefIdeal.main_arg1) = m ((c.tc : Thread Cert.FfnDownWgradRefIdeal.nD Cert.FfnDownWgradRefIdeal.τ).loc Cert.FfnDownWgradRefIdeal.main_arg1))
      ∧ r.2.sem = fun _ => 0)

def quiescent_MixerWgrad [hMixerWgrad : Cert.MixerWgrad.Facts] : Prop :=
  ∀ (m : (ℓ : Loc Cert.MixerWgrad.nD Cert.MixerWgrad.τ Cert.MixerWgrad.sig) → Buf (Elt Bits) ℓ) (g : Dev Cert.MixerWgrad.nD → PrngReg), Pre_MixerWgrad m →
    θ_run (Cert.MixerWgrad.defs (F := Bits)) (onTc (τ := Cert.MixerWgrad.τ) (Cert.MixerWgrad.main (F := Bits))) ⟨m, fun _ => 0, g⟩ (fun r => (∀ c : Dev Cert.MixerWgrad.nD,
      r.2.mem ((c.tc : Thread Cert.MixerWgrad.nD Cert.MixerWgrad.τ).loc Cert.MixerWgrad.main_arg0) = m ((c.tc : Thread Cert.MixerWgrad.nD Cert.MixerWgrad.τ).loc Cert.MixerWgrad.main_arg0)
      ∧ r.2.mem ((c.tc : Thread Cert.MixerWgrad.nD Cert.MixerWgrad.τ).loc Cert.MixerWgrad.main_arg1) = m ((c.tc : Thread Cert.MixerWgrad.nD Cert.MixerWgrad.τ).loc Cert.MixerWgrad.main_arg1))
      ∧ r.2.sem = fun _ => 0)

def quiescent_MixerWgradIdeal [hMixerWgradIdeal : Cert.MixerWgradIdeal.Facts] : Prop :=
  ∀ (m : (ℓ : Loc Cert.MixerWgradIdeal.nD Cert.MixerWgradIdeal.τ Cert.MixerWgradIdeal.sig) → Buf (Elt Ideal) ℓ) (g : Dev Cert.MixerWgradIdeal.nD → PrngReg), Pre_MixerWgradIdeal m →
    θ_run (Cert.MixerWgradIdeal.defs (F := Ideal)) (onTc (τ := Cert.MixerWgradIdeal.τ) (Cert.MixerWgradIdeal.main (F := Ideal))) ⟨m, fun _ => 0, g⟩ (fun r => (∀ c : Dev Cert.MixerWgradIdeal.nD,
      r.2.mem ((c.tc : Thread Cert.MixerWgradIdeal.nD Cert.MixerWgradIdeal.τ).loc Cert.MixerWgradIdeal.main_arg0) = m ((c.tc : Thread Cert.MixerWgradIdeal.nD Cert.MixerWgradIdeal.τ).loc Cert.MixerWgradIdeal.main_arg0)
      ∧ r.2.mem ((c.tc : Thread Cert.MixerWgradIdeal.nD Cert.MixerWgradIdeal.τ).loc Cert.MixerWgradIdeal.main_arg1) = m ((c.tc : Thread Cert.MixerWgradIdeal.nD Cert.MixerWgradIdeal.τ).loc Cert.MixerWgradIdeal.main_arg1))
      ∧ r.2.sem = fun _ => 0)

def quiescent_MixerWgradRefIdeal [hMixerWgradRefIdeal : Cert.MixerWgradRefIdeal.Facts] : Prop :=
  ∀ (m : (ℓ : Loc Cert.MixerWgradRefIdeal.nD Cert.MixerWgradRefIdeal.τ Cert.MixerWgradRefIdeal.sig) → Buf (Elt Ideal) ℓ) (g : Dev Cert.MixerWgradRefIdeal.nD → PrngReg), Pre_MixerWgradRefIdeal m →
    θ_run (Cert.MixerWgradRefIdeal.defs (F := Ideal)) (onTc (τ := Cert.MixerWgradRefIdeal.τ) (Cert.MixerWgradRefIdeal.main (F := Ideal))) ⟨m, fun _ => 0, g⟩ (fun r => (∀ c : Dev Cert.MixerWgradRefIdeal.nD,
      r.2.mem ((c.tc : Thread Cert.MixerWgradRefIdeal.nD Cert.MixerWgradRefIdeal.τ).loc Cert.MixerWgradRefIdeal.main_arg0) = m ((c.tc : Thread Cert.MixerWgradRefIdeal.nD Cert.MixerWgradRefIdeal.τ).loc Cert.MixerWgradRefIdeal.main_arg0)
      ∧ r.2.mem ((c.tc : Thread Cert.MixerWgradRefIdeal.nD Cert.MixerWgradRefIdeal.τ).loc Cert.MixerWgradRefIdeal.main_arg1) = m ((c.tc : Thread Cert.MixerWgradRefIdeal.nD Cert.MixerWgradRefIdeal.τ).loc Cert.MixerWgradRefIdeal.main_arg1))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6))
      ∧ r.2.sem = fun _ => 0)

def quiescent_MixerBwdRefIdeal [hMixerBwdRefIdeal : Cert.MixerBwdRefIdeal.Facts] : Prop :=
  ∀ (m : (ℓ : Loc Cert.MixerBwdRefIdeal.nD Cert.MixerBwdRefIdeal.τ Cert.MixerBwdRefIdeal.sig) → Buf (Elt Ideal) ℓ) (g : Dev Cert.MixerBwdRefIdeal.nD → PrngReg), Pre_MixerBwdRefIdeal m →
    θ_run (Cert.MixerBwdRefIdeal.defs (F := Ideal)) (onTc (τ := Cert.MixerBwdRefIdeal.τ) (Cert.MixerBwdRefIdeal.main (F := Ideal))) ⟨m, fun _ => 0, g⟩ (fun r => (∀ c : Dev Cert.MixerBwdRefIdeal.nD,
      r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0)
      ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1)
      ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2)
      ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3)
      ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4)
      ∧ r.2.mem ((c.tc : Thread Cert.MixerBwdRefIdeal.nD Cert.MixerBwdRefIdeal.τ).loc Cert.MixerBwdRefIdeal.main_arg5) = m ((c.tc : Thread Cert.MixerBwdRefIdeal.nD Cert.MixerBwdRefIdeal.τ).loc Cert.MixerBwdRefIdeal.main_arg5)
      ∧ r.2.mem ((c.tc : Thread Cert.MixerBwdRefIdeal.nD Cert.MixerBwdRefIdeal.τ).loc Cert.MixerBwdRefIdeal.main_arg6) = m ((c.tc : Thread Cert.MixerBwdRefIdeal.nD Cert.MixerBwdRefIdeal.τ).loc Cert.MixerBwdRefIdeal.main_arg6))
      ∧ r.2.sem = fun _ => 0)

def quiescent_FfnInBwd [hFfnInBwd : Cert.FfnInBwd.Facts] : Prop :=
  ∀ (m : (ℓ : Loc Cert.FfnInBwd.nD Cert.FfnInBwd.τ Cert.FfnInBwd.sig) → Buf (Elt Bits) ℓ) (g : Dev Cert.FfnInBwd.nD → PrngReg), Pre_FfnInBwd m →
    θ_run (Cert.FfnInBwd.defs (F := Bits)) (onTc (τ := Cert.FfnInBwd.τ) (Cert.FfnInBwd.main (F := Bits))) ⟨m, fun _ => 0, g⟩ (fun r => (∀ c : Dev Cert.FfnInBwd.nD,
      r.2.mem ((c.tc : Thread Cert.FfnInBwd.nD Cert.FfnInBwd.τ).loc Cert.FfnInBwd.main_arg0) = m ((c.tc : Thread Cert.FfnInBwd.nD Cert.FfnInBwd.τ).loc Cert.FfnInBwd.main_arg0)
      ∧ r.2.mem ((c.tc : Thread Cert.FfnInBwd.nD Cert.FfnInBwd.τ).loc Cert.FfnInBwd.main_arg1) = m ((c.tc : Thread Cert.FfnInBwd.nD Cert.FfnInBwd.τ).loc Cert.FfnInBwd.main_arg1)
      ∧ r.2.mem ((c.tc : Thread Cert.FfnInBwd.nD Cert.FfnInBwd.τ).loc Cert.FfnInBwd.main_arg2) = m ((c.tc : Thread Cert.FfnInBwd.nD Cert.FfnInBwd.τ).loc Cert.FfnInBwd.main_arg2)
      ∧ r.2.mem ((c.tc : Thread Cert.FfnInBwd.nD Cert.FfnInBwd.τ).loc Cert.FfnInBwd.main_arg3) = m ((c.tc : Thread Cert.FfnInBwd.nD Cert.FfnInBwd.τ).loc Cert.FfnInBwd.main_arg3)
      ∧ r.2.mem ((c.tc : Thread Cert.FfnInBwd.nD Cert.FfnInBwd.τ).loc Cert.FfnInBwd.main_arg4) = m ((c.tc : Thread Cert.FfnInBwd.nD Cert.FfnInBwd.τ).loc Cert.FfnInBwd.main_arg4)
      ∧ r.2.mem ((c.tc : Thread Cert.FfnInBwd.nD Cert.FfnInBwd.τ).loc Cert.FfnInBwd.main_arg5) = m ((c.tc : Thread Cert.FfnInBwd.nD Cert.FfnInBwd.τ).loc Cert.FfnInBwd.main_arg5)
      ∧ r.2.mem ((c.tc : Thread Cert.FfnInBwd.nD Cert.FfnInBwd.τ).loc Cert.FfnInBwd.main_arg6) = m ((c.tc : Thread Cert.FfnInBwd.nD Cert.FfnInBwd.τ).loc Cert.FfnInBwd.main_arg6))
      ∧ r.2.sem = fun _ => 0)

def quiescent_FfnInBwdIdeal [hFfnInBwdIdeal : Cert.FfnInBwdIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
      ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6))
      ∧ r.2.sem = fun _ => 0)

def quiescent_FfnInBwdRefIdeal [hFfnInBwdRefIdeal : Cert.FfnInBwdRefIdeal.Facts] : Prop :=
  ∀ (m : (ℓ : Loc Cert.FfnInBwdRefIdeal.nD Cert.FfnInBwdRefIdeal.τ Cert.FfnInBwdRefIdeal.sig) → Buf (Elt Ideal) ℓ) (g : Dev Cert.FfnInBwdRefIdeal.nD → PrngReg), Pre_FfnInBwdRefIdeal m →
    θ_run (Cert.FfnInBwdRefIdeal.defs (F := Ideal)) (onTc (τ := Cert.FfnInBwdRefIdeal.τ) (Cert.FfnInBwdRefIdeal.main (F := Ideal))) ⟨m, fun _ => 0, g⟩ (fun r => (∀ c : Dev Cert.FfnInBwdRefIdeal.nD,
      r.2.mem ((c.tc : Thread Cert.FfnInBwdRefIdeal.nD Cert.FfnInBwdRefIdeal.τ).loc Cert.FfnInBwdRefIdeal.main_arg0) = m ((c.tc : Thread Cert.FfnInBwdRefIdeal.nD Cert.FfnInBwdRefIdeal.τ).loc Cert.FfnInBwdRefIdeal.main_arg0)
      ∧ r.2.mem ((c.tc : Thread Cert.FfnInBwdRefIdeal.nD Cert.FfnInBwdRefIdeal.τ).loc Cert.FfnInBwdRefIdeal.main_arg1) = m ((c.tc : Thread Cert.FfnInBwdRefIdeal.nD Cert.FfnInBwdRefIdeal.τ).loc Cert.FfnInBwdRefIdeal.main_arg1)
      ∧ r.2.mem ((c.tc : Thread Cert.FfnInBwdRefIdeal.nD Cert.FfnInBwdRefIdeal.τ).loc Cert.FfnInBwdRefIdeal.main_arg2) = m ((c.tc : Thread Cert.FfnInBwdRefIdeal.nD Cert.FfnInBwdRefIdeal.τ).loc Cert.FfnInBwdRefIdeal.main_arg2)
      ∧ r.2.mem ((c.tc : Thread Cert.FfnInBwdRefIdeal.nD Cert.FfnInBwdRefIdeal.τ).loc Cert.FfnInBwdRefIdeal.main_arg3) = m ((c.tc : Thread Cert.FfnInBwdRefIdeal.nD Cert.FfnInBwdRefIdeal.τ).loc Cert.FfnInBwdRefIdeal.main_arg3)
      ∧ r.2.mem ((c.tc : Thread Cert.FfnInBwdRefIdeal.nD Cert.FfnInBwdRefIdeal.τ).loc Cert.FfnInBwdRefIdeal.main_arg4) = m ((c.tc : Thread Cert.FfnInBwdRefIdeal.nD Cert.FfnInBwdRefIdeal.τ).loc Cert.FfnInBwdRefIdeal.main_arg4)
      ∧ r.2.mem ((c.tc : Thread Cert.FfnInBwdRefIdeal.nD Cert.FfnInBwdRefIdeal.τ).loc Cert.FfnInBwdRefIdeal.main_arg5) = m ((c.tc : Thread Cert.FfnInBwdRefIdeal.nD Cert.FfnInBwdRefIdeal.τ).loc Cert.FfnInBwdRefIdeal.main_arg5)
      ∧ r.2.mem ((c.tc : Thread Cert.FfnInBwdRefIdeal.nD Cert.FfnInBwdRefIdeal.τ).loc Cert.FfnInBwdRefIdeal.main_arg6) = m ((c.tc : Thread Cert.FfnInBwdRefIdeal.nD Cert.FfnInBwdRefIdeal.τ).loc Cert.FfnInBwdRefIdeal.main_arg6))
      ∧ r.2.sem = fun _ => 0)

def quiescent_FfnOutBwd [hFfnOutBwd : Cert.FfnOutBwd.Facts] : Prop :=
  ∀ (m : (ℓ : Loc Cert.FfnOutBwd.nD Cert.FfnOutBwd.τ Cert.FfnOutBwd.sig) → Buf (Elt Bits) ℓ) (g : Dev Cert.FfnOutBwd.nD → PrngReg), Pre_FfnOutBwd m →
    θ_run (Cert.FfnOutBwd.defs (F := Bits)) (onTc (τ := Cert.FfnOutBwd.τ) (Cert.FfnOutBwd.main (F := Bits))) ⟨m, fun _ => 0, g⟩ (fun r => (∀ c : Dev Cert.FfnOutBwd.nD,
      r.2.mem ((c.tc : Thread Cert.FfnOutBwd.nD Cert.FfnOutBwd.τ).loc Cert.FfnOutBwd.main_arg0) = m ((c.tc : Thread Cert.FfnOutBwd.nD Cert.FfnOutBwd.τ).loc Cert.FfnOutBwd.main_arg0)
      ∧ r.2.mem ((c.tc : Thread Cert.FfnOutBwd.nD Cert.FfnOutBwd.τ).loc Cert.FfnOutBwd.main_arg1) = m ((c.tc : Thread Cert.FfnOutBwd.nD Cert.FfnOutBwd.τ).loc Cert.FfnOutBwd.main_arg1)
      ∧ r.2.mem ((c.tc : Thread Cert.FfnOutBwd.nD Cert.FfnOutBwd.τ).loc Cert.FfnOutBwd.main_arg2) = m ((c.tc : Thread Cert.FfnOutBwd.nD Cert.FfnOutBwd.τ).loc Cert.FfnOutBwd.main_arg2)
      ∧ r.2.mem ((c.tc : Thread Cert.FfnOutBwd.nD Cert.FfnOutBwd.τ).loc Cert.FfnOutBwd.main_arg3) = m ((c.tc : Thread Cert.FfnOutBwd.nD Cert.FfnOutBwd.τ).loc Cert.FfnOutBwd.main_arg3))
      ∧ r.2.sem = fun _ => 0)

def quiescent_FfnOutBwdIdeal [hFfnOutBwdIdeal : Cert.FfnOutBwdIdeal.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdIdeal_pre_ffn_out_bwd_finite [hFfnOutBwdIdeal : Cert.FfnOutBwdIdeal.Facts] [hPre_ffn_out_bwd_finite : Cert.Pre_ffn_out_bwd_finite.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal_ffn_out_bwd_finite m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdRefIdeal [hFfnOutBwdRefIdeal : Cert.FfnOutBwdRefIdeal.Facts] : Prop :=
  ∀ (m : (ℓ : Loc Cert.FfnOutBwdRefIdeal.nD Cert.FfnOutBwdRefIdeal.τ Cert.FfnOutBwdRefIdeal.sig) → Buf (Elt Ideal) ℓ) (g : Dev Cert.FfnOutBwdRefIdeal.nD → PrngReg), Pre_FfnOutBwdRefIdeal m →
    θ_run (Cert.FfnOutBwdRefIdeal.defs (F := Ideal)) (onTc (τ := Cert.FfnOutBwdRefIdeal.τ) (Cert.FfnOutBwdRefIdeal.main (F := Ideal))) ⟨m, fun _ => 0, g⟩ (fun r => (∀ c : Dev Cert.FfnOutBwdRefIdeal.nD,
      r.2.mem ((c.tc : Thread Cert.FfnOutBwdRefIdeal.nD Cert.FfnOutBwdRefIdeal.τ).loc Cert.FfnOutBwdRefIdeal.main_arg0) = m ((c.tc : Thread Cert.FfnOutBwdRefIdeal.nD Cert.FfnOutBwdRefIdeal.τ).loc Cert.FfnOutBwdRefIdeal.main_arg0)
      ∧ r.2.mem ((c.tc : Thread Cert.FfnOutBwdRefIdeal.nD Cert.FfnOutBwdRefIdeal.τ).loc Cert.FfnOutBwdRefIdeal.main_arg1) = m ((c.tc : Thread Cert.FfnOutBwdRefIdeal.nD Cert.FfnOutBwdRefIdeal.τ).loc Cert.FfnOutBwdRefIdeal.main_arg1)
      ∧ r.2.mem ((c.tc : Thread Cert.FfnOutBwdRefIdeal.nD Cert.FfnOutBwdRefIdeal.τ).loc Cert.FfnOutBwdRefIdeal.main_arg2) = m ((c.tc : Thread Cert.FfnOutBwdRefIdeal.nD Cert.FfnOutBwdRefIdeal.τ).loc Cert.FfnOutBwdRefIdeal.main_arg2)
      ∧ r.2.mem ((c.tc : Thread Cert.FfnOutBwdRefIdeal.nD Cert.FfnOutBwdRefIdeal.τ).loc Cert.FfnOutBwdRefIdeal.main_arg3) = m ((c.tc : Thread Cert.FfnOutBwdRefIdeal.nD Cert.FfnOutBwdRefIdeal.τ).loc Cert.FfnOutBwdRefIdeal.main_arg3))
      ∧ r.2.sem = fun _ => 0)

def quiescent_FfnOutBwdRefIdeal_pre_ffn_out_bwd_finite [hFfnOutBwdRefIdeal : Cert.FfnOutBwdRefIdeal.Facts] [hPre_ffn_out_bwd_finite : Cert.Pre_ffn_out_bwd_finite.Facts] : Prop :=
  ∀ (m : (ℓ : Loc Cert.FfnOutBwdRefIdeal.nD Cert.FfnOutBwdRefIdeal.τ Cert.FfnOutBwdRefIdeal.sig) → Buf (Elt Ideal) ℓ) (g : Dev Cert.FfnOutBwdRefIdeal.nD → PrngReg), Pre_FfnOutBwdRefIdeal_ffn_out_bwd_finite m →
    θ_run (Cert.FfnOutBwdRefIdeal.defs (F := Ideal)) (onTc (τ := Cert.FfnOutBwdRefIdeal.τ) (Cert.FfnOutBwdRefIdeal.main (F := Ideal))) ⟨m, fun _ => 0, g⟩ (fun r => (∀ c : Dev Cert.FfnOutBwdRefIdeal.nD,
      r.2.mem ((c.tc : Thread Cert.FfnOutBwdRefIdeal.nD Cert.FfnOutBwdRefIdeal.τ).loc Cert.FfnOutBwdRefIdeal.main_arg0) = m ((c.tc : Thread Cert.FfnOutBwdRefIdeal.nD Cert.FfnOutBwdRefIdeal.τ).loc Cert.FfnOutBwdRefIdeal.main_arg0)
      ∧ r.2.mem ((c.tc : Thread Cert.FfnOutBwdRefIdeal.nD Cert.FfnOutBwdRefIdeal.τ).loc Cert.FfnOutBwdRefIdeal.main_arg1) = m ((c.tc : Thread Cert.FfnOutBwdRefIdeal.nD Cert.FfnOutBwdRefIdeal.τ).loc Cert.FfnOutBwdRefIdeal.main_arg1)
      ∧ r.2.mem ((c.tc : Thread Cert.FfnOutBwdRefIdeal.nD Cert.FfnOutBwdRefIdeal.τ).loc Cert.FfnOutBwdRefIdeal.main_arg2) = m ((c.tc : Thread Cert.FfnOutBwdRefIdeal.nD Cert.FfnOutBwdRefIdeal.τ).loc Cert.FfnOutBwdRefIdeal.main_arg2)
      ∧ r.2.mem ((c.tc : Thread Cert.FfnOutBwdRefIdeal.nD Cert.FfnOutBwdRefIdeal.τ).loc Cert.FfnOutBwdRefIdeal.main_arg3) = m ((c.tc : Thread Cert.FfnOutBwdRefIdeal.nD Cert.FfnOutBwdRefIdeal.τ).loc Cert.FfnOutBwdRefIdeal.main_arg3))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4))
      ∧ r.2.sem = fun _ => 0)

def quiescent_AdamwNorm [hAdamwNorm : Cert.AdamwNorm.Facts] : Prop :=
  ∀ (m : (ℓ : Loc Cert.AdamwNorm.nD Cert.AdamwNorm.τ Cert.AdamwNorm.sig) → Buf (Elt Bits) ℓ) (g : Dev Cert.AdamwNorm.nD → PrngReg), Pre_AdamwNorm m →
    θ_run (Cert.AdamwNorm.defs (F := Bits)) (onTc (τ := Cert.AdamwNorm.τ) (Cert.AdamwNorm.main (F := Bits))) ⟨m, fun _ => 0, g⟩ (fun r => (∀ c : Dev Cert.AdamwNorm.nD,
      r.2.mem ((c.tc : Thread Cert.AdamwNorm.nD Cert.AdamwNorm.τ).loc Cert.AdamwNorm.main_arg0) = m ((c.tc : Thread Cert.AdamwNorm.nD Cert.AdamwNorm.τ).loc Cert.AdamwNorm.main_arg0)
      ∧ r.2.mem ((c.tc : Thread Cert.AdamwNorm.nD Cert.AdamwNorm.τ).loc Cert.AdamwNorm.main_arg1) = m ((c.tc : Thread Cert.AdamwNorm.nD Cert.AdamwNorm.τ).loc Cert.AdamwNorm.main_arg1)
      ∧ r.2.mem ((c.tc : Thread Cert.AdamwNorm.nD Cert.AdamwNorm.τ).loc Cert.AdamwNorm.main_arg2) = m ((c.tc : Thread Cert.AdamwNorm.nD Cert.AdamwNorm.τ).loc Cert.AdamwNorm.main_arg2)
      ∧ r.2.mem ((c.tc : Thread Cert.AdamwNorm.nD Cert.AdamwNorm.τ).loc Cert.AdamwNorm.main_arg3) = m ((c.tc : Thread Cert.AdamwNorm.nD Cert.AdamwNorm.τ).loc Cert.AdamwNorm.main_arg3))
      ∧ r.2.sem = fun _ => 0)

def quiescent_AdamwNormIdeal [hAdamwNormIdeal : Cert.AdamwNormIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg), Pre_AdamwNormIdeal m →
    θ_run (Cert.AdamwNormIdeal.defs (F := Ideal)) (onTc (τ := Cert.AdamwNormIdeal.τ) (Cert.AdamwNormIdeal.main (F := Ideal))) ⟨m, fun _ => 0, g⟩ (fun r => (∀ c : Dev Cert.AdamwNormIdeal.nD,
      r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
      ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
      ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
      ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ r.2.sem = fun _ => 0)

def quiescent_AdamwNormRefIdeal [hAdamwNormRefIdeal : Cert.AdamwNormRefIdeal.Facts] : Prop :=
  ∀ (m : (ℓ : Loc Cert.AdamwNormRefIdeal.nD Cert.AdamwNormRefIdeal.τ Cert.AdamwNormRefIdeal.sig) → Buf (Elt Ideal) ℓ) (g : Dev Cert.AdamwNormRefIdeal.nD → PrngReg), Pre_AdamwNormRefIdeal m →
    θ_run (Cert.AdamwNormRefIdeal.defs (F := Ideal)) (onTc (τ := Cert.AdamwNormRefIdeal.τ) (Cert.AdamwNormRefIdeal.main (F := Ideal))) ⟨m, fun _ => 0, g⟩ (fun r => (∀ c : Dev Cert.AdamwNormRefIdeal.nD,
      r.2.mem ((c.tc : Thread Cert.AdamwNormRefIdeal.nD Cert.AdamwNormRefIdeal.τ).loc Cert.AdamwNormRefIdeal.main_arg0) = m ((c.tc : Thread Cert.AdamwNormRefIdeal.nD Cert.AdamwNormRefIdeal.τ).loc Cert.AdamwNormRefIdeal.main_arg0)
      ∧ r.2.mem ((c.tc : Thread Cert.AdamwNormRefIdeal.nD Cert.AdamwNormRefIdeal.τ).loc Cert.AdamwNormRefIdeal.main_arg1) = m ((c.tc : Thread Cert.AdamwNormRefIdeal.nD Cert.AdamwNormRefIdeal.τ).loc Cert.AdamwNormRefIdeal.main_arg1)
      ∧ r.2.mem ((c.tc : Thread Cert.AdamwNormRefIdeal.nD Cert.AdamwNormRefIdeal.τ).loc Cert.AdamwNormRefIdeal.main_arg2) = m ((c.tc : Thread Cert.AdamwNormRefIdeal.nD Cert.AdamwNormRefIdeal.τ).loc Cert.AdamwNormRefIdeal.main_arg2)
      ∧ r.2.mem ((c.tc : Thread Cert.AdamwNormRefIdeal.nD Cert.AdamwNormRefIdeal.τ).loc Cert.AdamwNormRefIdeal.main_arg3) = m ((c.tc : Thread Cert.AdamwNormRefIdeal.nD Cert.AdamwNormRefIdeal.τ).loc Cert.AdamwNormRefIdeal.main_arg3))
      ∧ r.2.sem = fun _ => 0)

def quiescent_AdamwFinal [hAdamwFinal : Cert.AdamwFinal.Facts] : Prop :=
  ∀ (m : (ℓ : Loc Cert.AdamwFinal.nD Cert.AdamwFinal.τ Cert.AdamwFinal.sig) → Buf (Elt Bits) ℓ) (g : Dev Cert.AdamwFinal.nD → PrngReg), Pre_AdamwFinal m →
    θ_run (Cert.AdamwFinal.defs (F := Bits)) (onTc (τ := Cert.AdamwFinal.τ) (Cert.AdamwFinal.main (F := Bits))) ⟨m, fun _ => 0, g⟩ (fun r => (∀ c : Dev Cert.AdamwFinal.nD,
      r.2.mem ((c.tc : Thread Cert.AdamwFinal.nD Cert.AdamwFinal.τ).loc Cert.AdamwFinal.main_arg0) = m ((c.tc : Thread Cert.AdamwFinal.nD Cert.AdamwFinal.τ).loc Cert.AdamwFinal.main_arg0)
      ∧ r.2.mem ((c.tc : Thread Cert.AdamwFinal.nD Cert.AdamwFinal.τ).loc Cert.AdamwFinal.main_arg1) = m ((c.tc : Thread Cert.AdamwFinal.nD Cert.AdamwFinal.τ).loc Cert.AdamwFinal.main_arg1)
      ∧ r.2.mem ((c.tc : Thread Cert.AdamwFinal.nD Cert.AdamwFinal.τ).loc Cert.AdamwFinal.main_arg2) = m ((c.tc : Thread Cert.AdamwFinal.nD Cert.AdamwFinal.τ).loc Cert.AdamwFinal.main_arg2)
      ∧ r.2.mem ((c.tc : Thread Cert.AdamwFinal.nD Cert.AdamwFinal.τ).loc Cert.AdamwFinal.main_arg3) = m ((c.tc : Thread Cert.AdamwFinal.nD Cert.AdamwFinal.τ).loc Cert.AdamwFinal.main_arg3))
      ∧ r.2.sem = fun _ => 0)

def quiescent_AdamwFinalIdeal [hAdamwFinalIdeal : Cert.AdamwFinalIdeal.Facts] : Prop :=
  ∀ (m : (ℓ : Loc Cert.AdamwFinalIdeal.nD Cert.AdamwFinalIdeal.τ Cert.AdamwFinalIdeal.sig) → Buf (Elt Ideal) ℓ) (g : Dev Cert.AdamwFinalIdeal.nD → PrngReg), Pre_AdamwFinalIdeal m →
    θ_run (Cert.AdamwFinalIdeal.defs (F := Ideal)) (onTc (τ := Cert.AdamwFinalIdeal.τ) (Cert.AdamwFinalIdeal.main (F := Ideal))) ⟨m, fun _ => 0, g⟩ (fun r => (∀ c : Dev Cert.AdamwFinalIdeal.nD,
      r.2.mem ((c.tc : Thread Cert.AdamwFinalIdeal.nD Cert.AdamwFinalIdeal.τ).loc Cert.AdamwFinalIdeal.main_arg0) = m ((c.tc : Thread Cert.AdamwFinalIdeal.nD Cert.AdamwFinalIdeal.τ).loc Cert.AdamwFinalIdeal.main_arg0)
      ∧ r.2.mem ((c.tc : Thread Cert.AdamwFinalIdeal.nD Cert.AdamwFinalIdeal.τ).loc Cert.AdamwFinalIdeal.main_arg1) = m ((c.tc : Thread Cert.AdamwFinalIdeal.nD Cert.AdamwFinalIdeal.τ).loc Cert.AdamwFinalIdeal.main_arg1)
      ∧ r.2.mem ((c.tc : Thread Cert.AdamwFinalIdeal.nD Cert.AdamwFinalIdeal.τ).loc Cert.AdamwFinalIdeal.main_arg2) = m ((c.tc : Thread Cert.AdamwFinalIdeal.nD Cert.AdamwFinalIdeal.τ).loc Cert.AdamwFinalIdeal.main_arg2)
      ∧ r.2.mem ((c.tc : Thread Cert.AdamwFinalIdeal.nD Cert.AdamwFinalIdeal.τ).loc Cert.AdamwFinalIdeal.main_arg3) = m ((c.tc : Thread Cert.AdamwFinalIdeal.nD Cert.AdamwFinalIdeal.τ).loc Cert.AdamwFinalIdeal.main_arg3))
      ∧ r.2.sem = fun _ => 0)

def quiescent_AdamwFinalRefIdeal [hAdamwFinalRefIdeal : Cert.AdamwFinalRefIdeal.Facts] : Prop :=
  ∀ (m : (ℓ : Loc Cert.AdamwFinalRefIdeal.nD Cert.AdamwFinalRefIdeal.τ Cert.AdamwFinalRefIdeal.sig) → Buf (Elt Ideal) ℓ) (g : Dev Cert.AdamwFinalRefIdeal.nD → PrngReg), Pre_AdamwFinalRefIdeal m →
    θ_run (Cert.AdamwFinalRefIdeal.defs (F := Ideal)) (onTc (τ := Cert.AdamwFinalRefIdeal.τ) (Cert.AdamwFinalRefIdeal.main (F := Ideal))) ⟨m, fun _ => 0, g⟩ (fun r => (∀ c : Dev Cert.AdamwFinalRefIdeal.nD,
      r.2.mem ((c.tc : Thread Cert.AdamwFinalRefIdeal.nD Cert.AdamwFinalRefIdeal.τ).loc Cert.AdamwFinalRefIdeal.main_arg0) = m ((c.tc : Thread Cert.AdamwFinalRefIdeal.nD Cert.AdamwFinalRefIdeal.τ).loc Cert.AdamwFinalRefIdeal.main_arg0)
      ∧ r.2.mem ((c.tc : Thread Cert.AdamwFinalRefIdeal.nD Cert.AdamwFinalRefIdeal.τ).loc Cert.AdamwFinalRefIdeal.main_arg1) = m ((c.tc : Thread Cert.AdamwFinalRefIdeal.nD Cert.AdamwFinalRefIdeal.τ).loc Cert.AdamwFinalRefIdeal.main_arg1)
      ∧ r.2.mem ((c.tc : Thread Cert.AdamwFinalRefIdeal.nD Cert.AdamwFinalRefIdeal.τ).loc Cert.AdamwFinalRefIdeal.main_arg2) = m ((c.tc : Thread Cert.AdamwFinalRefIdeal.nD Cert.AdamwFinalRefIdeal.τ).loc Cert.AdamwFinalRefIdeal.main_arg2)
      ∧ r.2.mem ((c.tc : Thread Cert.AdamwFinalRefIdeal.nD Cert.AdamwFinalRefIdeal.τ).loc Cert.AdamwFinalRefIdeal.main_arg3) = m ((c.tc : Thread Cert.AdamwFinalRefIdeal.nD Cert.AdamwFinalRefIdeal.τ).loc Cert.AdamwFinalRefIdeal.main_arg3))
      ∧ r.2.sem = fun _ => 0)

def quiescent_AdamwGateBias [hAdamwGateBias : Cert.AdamwGateBias.Facts] : Prop :=
  ∀ (m : (ℓ : Loc Cert.AdamwGateBias.nD Cert.AdamwGateBias.τ Cert.AdamwGateBias.sig) → Buf (Elt Bits) ℓ) (g : Dev Cert.AdamwGateBias.nD → PrngReg), Pre_AdamwGateBias m →
    θ_run (Cert.AdamwGateBias.defs (F := Bits)) (onTc (τ := Cert.AdamwGateBias.τ) (Cert.AdamwGateBias.main (F := Bits))) ⟨m, fun _ => 0, g⟩ (fun r => (∀ c : Dev Cert.AdamwGateBias.nD,
      r.2.mem ((c.tc : Thread Cert.AdamwGateBias.nD Cert.AdamwGateBias.τ).loc Cert.AdamwGateBias.main_arg0) = m ((c.tc : Thread Cert.AdamwGateBias.nD Cert.AdamwGateBias.τ).loc Cert.AdamwGateBias.main_arg0)
      ∧ r.2.mem ((c.tc : Thread Cert.AdamwGateBias.nD Cert.AdamwGateBias.τ).loc Cert.AdamwGateBias.main_arg1) = m ((c.tc : Thread Cert.AdamwGateBias.nD Cert.AdamwGateBias.τ).loc Cert.AdamwGateBias.main_arg1)
      ∧ r.2.mem ((c.tc : Thread Cert.AdamwGateBias.nD Cert.AdamwGateBias.τ).loc Cert.AdamwGateBias.main_arg2) = m ((c.tc : Thread Cert.AdamwGateBias.nD Cert.AdamwGateBias.τ).loc Cert.AdamwGateBias.main_arg2)
      ∧ r.2.mem ((c.tc : Thread Cert.AdamwGateBias.nD Cert.AdamwGateBias.τ).loc Cert.AdamwGateBias.main_arg3) = m ((c.tc : Thread Cert.AdamwGateBias.nD Cert.AdamwGateBias.τ).loc Cert.AdamwGateBias.main_arg3))
      ∧ r.2.sem = fun _ => 0)

def quiescent_AdamwGateBiasIdeal [hAdamwGateBiasIdeal : Cert.AdamwGateBiasIdeal.Facts] : Prop :=
  ∀ (m : (ℓ : Loc Cert.AdamwGateBiasIdeal.nD Cert.AdamwGateBiasIdeal.τ Cert.AdamwGateBiasIdeal.sig) → Buf (Elt Ideal) ℓ) (g : Dev Cert.AdamwGateBiasIdeal.nD → PrngReg), Pre_AdamwGateBiasIdeal m →
    θ_run (Cert.AdamwGateBiasIdeal.defs (F := Ideal)) (onTc (τ := Cert.AdamwGateBiasIdeal.τ) (Cert.AdamwGateBiasIdeal.main (F := Ideal))) ⟨m, fun _ => 0, g⟩ (fun r => (∀ c : Dev Cert.AdamwGateBiasIdeal.nD,
      r.2.mem ((c.tc : Thread Cert.AdamwGateBiasIdeal.nD Cert.AdamwGateBiasIdeal.τ).loc Cert.AdamwGateBiasIdeal.main_arg0) = m ((c.tc : Thread Cert.AdamwGateBiasIdeal.nD Cert.AdamwGateBiasIdeal.τ).loc Cert.AdamwGateBiasIdeal.main_arg0)
      ∧ r.2.mem ((c.tc : Thread Cert.AdamwGateBiasIdeal.nD Cert.AdamwGateBiasIdeal.τ).loc Cert.AdamwGateBiasIdeal.main_arg1) = m ((c.tc : Thread Cert.AdamwGateBiasIdeal.nD Cert.AdamwGateBiasIdeal.τ).loc Cert.AdamwGateBiasIdeal.main_arg1)
      ∧ r.2.mem ((c.tc : Thread Cert.AdamwGateBiasIdeal.nD Cert.AdamwGateBiasIdeal.τ).loc Cert.AdamwGateBiasIdeal.main_arg2) = m ((c.tc : Thread Cert.AdamwGateBiasIdeal.nD Cert.AdamwGateBiasIdeal.τ).loc Cert.AdamwGateBiasIdeal.main_arg2)
      ∧ r.2.mem ((c.tc : Thread Cert.AdamwGateBiasIdeal.nD Cert.AdamwGateBiasIdeal.τ).loc Cert.AdamwGateBiasIdeal.main_arg3) = m ((c.tc : Thread Cert.AdamwGateBiasIdeal.nD Cert.AdamwGateBiasIdeal.τ).loc Cert.AdamwGateBiasIdeal.main_arg3))
      ∧ r.2.sem = fun _ => 0)

def quiescent_AdamwGateBiasRefIdeal [hAdamwGateBiasRefIdeal : Cert.AdamwGateBiasRefIdeal.Facts] : Prop :=
  ∀ (m : (ℓ : Loc Cert.AdamwGateBiasRefIdeal.nD Cert.AdamwGateBiasRefIdeal.τ Cert.AdamwGateBiasRefIdeal.sig) → Buf (Elt Ideal) ℓ) (g : Dev Cert.AdamwGateBiasRefIdeal.nD → PrngReg), Pre_AdamwGateBiasRefIdeal m →
    θ_run (Cert.AdamwGateBiasRefIdeal.defs (F := Ideal)) (onTc (τ := Cert.AdamwGateBiasRefIdeal.τ) (Cert.AdamwGateBiasRefIdeal.main (F := Ideal))) ⟨m, fun _ => 0, g⟩ (fun r => (∀ c : Dev Cert.AdamwGateBiasRefIdeal.nD,
      r.2.mem ((c.tc : Thread Cert.AdamwGateBiasRefIdeal.nD Cert.AdamwGateBiasRefIdeal.τ).loc Cert.AdamwGateBiasRefIdeal.main_arg0) = m ((c.tc : Thread Cert.AdamwGateBiasRefIdeal.nD Cert.AdamwGateBiasRefIdeal.τ).loc Cert.AdamwGateBiasRefIdeal.main_arg0)
      ∧ r.2.mem ((c.tc : Thread Cert.AdamwGateBiasRefIdeal.nD Cert.AdamwGateBiasRefIdeal.τ).loc Cert.AdamwGateBiasRefIdeal.main_arg1) = m ((c.tc : Thread Cert.AdamwGateBiasRefIdeal.nD Cert.AdamwGateBiasRefIdeal.τ).loc Cert.AdamwGateBiasRefIdeal.main_arg1)
      ∧ r.2.mem ((c.tc : Thread Cert.AdamwGateBiasRefIdeal.nD Cert.AdamwGateBiasRefIdeal.τ).loc Cert.AdamwGateBiasRefIdeal.main_arg2) = m ((c.tc : Thread Cert.AdamwGateBiasRefIdeal.nD Cert.AdamwGateBiasRefIdeal.τ).loc Cert.AdamwGateBiasRefIdeal.main_arg2)
      ∧ r.2.mem ((c.tc : Thread Cert.AdamwGateBiasRefIdeal.nD Cert.AdamwGateBiasRefIdeal.τ).loc Cert.AdamwGateBiasRefIdeal.main_arg3) = m ((c.tc : Thread Cert.AdamwGateBiasRefIdeal.nD Cert.AdamwGateBiasRefIdeal.τ).loc Cert.AdamwGateBiasRefIdeal.main_arg3))
      ∧ r.2.sem = fun _ => 0)

def quiescent_AdamwGlaNorm [hAdamwGlaNorm : Cert.AdamwGlaNorm.Facts] : Prop :=
  ∀ (m : (ℓ : Loc Cert.AdamwGlaNorm.nD Cert.AdamwGlaNorm.τ Cert.AdamwGlaNorm.sig) → Buf (Elt Bits) ℓ) (g : Dev Cert.AdamwGlaNorm.nD → PrngReg), Pre_AdamwGlaNorm m →
    θ_run (Cert.AdamwGlaNorm.defs (F := Bits)) (onTc (τ := Cert.AdamwGlaNorm.τ) (Cert.AdamwGlaNorm.main (F := Bits))) ⟨m, fun _ => 0, g⟩ (fun r => (∀ c : Dev Cert.AdamwGlaNorm.nD,
      r.2.mem ((c.tc : Thread Cert.AdamwGlaNorm.nD Cert.AdamwGlaNorm.τ).loc Cert.AdamwGlaNorm.main_arg0) = m ((c.tc : Thread Cert.AdamwGlaNorm.nD Cert.AdamwGlaNorm.τ).loc Cert.AdamwGlaNorm.main_arg0)
      ∧ r.2.mem ((c.tc : Thread Cert.AdamwGlaNorm.nD Cert.AdamwGlaNorm.τ).loc Cert.AdamwGlaNorm.main_arg1) = m ((c.tc : Thread Cert.AdamwGlaNorm.nD Cert.AdamwGlaNorm.τ).loc Cert.AdamwGlaNorm.main_arg1)
      ∧ r.2.mem ((c.tc : Thread Cert.AdamwGlaNorm.nD Cert.AdamwGlaNorm.τ).loc Cert.AdamwGlaNorm.main_arg2) = m ((c.tc : Thread Cert.AdamwGlaNorm.nD Cert.AdamwGlaNorm.τ).loc Cert.AdamwGlaNorm.main_arg2)
      ∧ r.2.mem ((c.tc : Thread Cert.AdamwGlaNorm.nD Cert.AdamwGlaNorm.τ).loc Cert.AdamwGlaNorm.main_arg3) = m ((c.tc : Thread Cert.AdamwGlaNorm.nD Cert.AdamwGlaNorm.τ).loc Cert.AdamwGlaNorm.main_arg3))
      ∧ r.2.sem = fun _ => 0)

def quiescent_AdamwGlaNormIdeal [hAdamwGlaNormIdeal : Cert.AdamwGlaNormIdeal.Facts] : Prop :=
  ∀ (m : (ℓ : Loc Cert.AdamwGlaNormIdeal.nD Cert.AdamwGlaNormIdeal.τ Cert.AdamwGlaNormIdeal.sig) → Buf (Elt Ideal) ℓ) (g : Dev Cert.AdamwGlaNormIdeal.nD → PrngReg), Pre_AdamwGlaNormIdeal m →
    θ_run (Cert.AdamwGlaNormIdeal.defs (F := Ideal)) (onTc (τ := Cert.AdamwGlaNormIdeal.τ) (Cert.AdamwGlaNormIdeal.main (F := Ideal))) ⟨m, fun _ => 0, g⟩ (fun r => (∀ c : Dev Cert.AdamwGlaNormIdeal.nD,
      r.2.mem ((c.tc : Thread Cert.AdamwGlaNormIdeal.nD Cert.AdamwGlaNormIdeal.τ).loc Cert.AdamwGlaNormIdeal.main_arg0) = m ((c.tc : Thread Cert.AdamwGlaNormIdeal.nD Cert.AdamwGlaNormIdeal.τ).loc Cert.AdamwGlaNormIdeal.main_arg0)
      ∧ r.2.mem ((c.tc : Thread Cert.AdamwGlaNormIdeal.nD Cert.AdamwGlaNormIdeal.τ).loc Cert.AdamwGlaNormIdeal.main_arg1) = m ((c.tc : Thread Cert.AdamwGlaNormIdeal.nD Cert.AdamwGlaNormIdeal.τ).loc Cert.AdamwGlaNormIdeal.main_arg1)
      ∧ r.2.mem ((c.tc : Thread Cert.AdamwGlaNormIdeal.nD Cert.AdamwGlaNormIdeal.τ).loc Cert.AdamwGlaNormIdeal.main_arg2) = m ((c.tc : Thread Cert.AdamwGlaNormIdeal.nD Cert.AdamwGlaNormIdeal.τ).loc Cert.AdamwGlaNormIdeal.main_arg2)
      ∧ r.2.mem ((c.tc : Thread Cert.AdamwGlaNormIdeal.nD Cert.AdamwGlaNormIdeal.τ).loc Cert.AdamwGlaNormIdeal.main_arg3) = m ((c.tc : Thread Cert.AdamwGlaNormIdeal.nD Cert.AdamwGlaNormIdeal.τ).loc Cert.AdamwGlaNormIdeal.main_arg3))
      ∧ r.2.sem = fun _ => 0)

def quiescent_AdamwGlaNormRefIdeal [hAdamwGlaNormRefIdeal : Cert.AdamwGlaNormRefIdeal.Facts] : Prop :=
  ∀ (m : (ℓ : Loc Cert.AdamwGlaNormRefIdeal.nD Cert.AdamwGlaNormRefIdeal.τ Cert.AdamwGlaNormRefIdeal.sig) → Buf (Elt Ideal) ℓ) (g : Dev Cert.AdamwGlaNormRefIdeal.nD → PrngReg), Pre_AdamwGlaNormRefIdeal m →
    θ_run (Cert.AdamwGlaNormRefIdeal.defs (F := Ideal)) (onTc (τ := Cert.AdamwGlaNormRefIdeal.τ) (Cert.AdamwGlaNormRefIdeal.main (F := Ideal))) ⟨m, fun _ => 0, g⟩ (fun r => (∀ c : Dev Cert.AdamwGlaNormRefIdeal.nD,
      r.2.mem ((c.tc : Thread Cert.AdamwGlaNormRefIdeal.nD Cert.AdamwGlaNormRefIdeal.τ).loc Cert.AdamwGlaNormRefIdeal.main_arg0) = m ((c.tc : Thread Cert.AdamwGlaNormRefIdeal.nD Cert.AdamwGlaNormRefIdeal.τ).loc Cert.AdamwGlaNormRefIdeal.main_arg0)
      ∧ r.2.mem ((c.tc : Thread Cert.AdamwGlaNormRefIdeal.nD Cert.AdamwGlaNormRefIdeal.τ).loc Cert.AdamwGlaNormRefIdeal.main_arg1) = m ((c.tc : Thread Cert.AdamwGlaNormRefIdeal.nD Cert.AdamwGlaNormRefIdeal.τ).loc Cert.AdamwGlaNormRefIdeal.main_arg1)
      ∧ r.2.mem ((c.tc : Thread Cert.AdamwGlaNormRefIdeal.nD Cert.AdamwGlaNormRefIdeal.τ).loc Cert.AdamwGlaNormRefIdeal.main_arg2) = m ((c.tc : Thread Cert.AdamwGlaNormRefIdeal.nD Cert.AdamwGlaNormRefIdeal.τ).loc Cert.AdamwGlaNormRefIdeal.main_arg2)
      ∧ r.2.mem ((c.tc : Thread Cert.AdamwGlaNormRefIdeal.nD Cert.AdamwGlaNormRefIdeal.τ).loc Cert.AdamwGlaNormRefIdeal.main_arg3) = m ((c.tc : Thread Cert.AdamwGlaNormRefIdeal.nD Cert.AdamwGlaNormRefIdeal.τ).loc Cert.AdamwGlaNormRefIdeal.main_arg3))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_AdamwConvRefIdeal [hAdamwConvRefIdeal : Cert.AdamwConvRefIdeal.Facts] : Prop :=
  ∀ (m : (ℓ : Loc Cert.AdamwConvRefIdeal.nD Cert.AdamwConvRefIdeal.τ Cert.AdamwConvRefIdeal.sig) → Buf (Elt Ideal) ℓ) (g : Dev Cert.AdamwConvRefIdeal.nD → PrngReg), Pre_AdamwConvRefIdeal m →
    θ_run (Cert.AdamwConvRefIdeal.defs (F := Ideal)) (onTc (τ := Cert.AdamwConvRefIdeal.τ) (Cert.AdamwConvRefIdeal.main (F := Ideal))) ⟨m, fun _ => 0, g⟩ (fun r => (∀ c : Dev Cert.AdamwConvRefIdeal.nD,
      r.2.mem ((c.tc : Thread Cert.AdamwConvRefIdeal.nD Cert.AdamwConvRefIdeal.τ).loc Cert.AdamwConvRefIdeal.main_arg0) = m ((c.tc : Thread Cert.AdamwConvRefIdeal.nD Cert.AdamwConvRefIdeal.τ).loc Cert.AdamwConvRefIdeal.main_arg0)
      ∧ r.2.mem ((c.tc : Thread Cert.AdamwConvRefIdeal.nD Cert.AdamwConvRefIdeal.τ).loc Cert.AdamwConvRefIdeal.main_arg1) = m ((c.tc : Thread Cert.AdamwConvRefIdeal.nD Cert.AdamwConvRefIdeal.τ).loc Cert.AdamwConvRefIdeal.main_arg1)
      ∧ r.2.mem ((c.tc : Thread Cert.AdamwConvRefIdeal.nD Cert.AdamwConvRefIdeal.τ).loc Cert.AdamwConvRefIdeal.main_arg2) = m ((c.tc : Thread Cert.AdamwConvRefIdeal.nD Cert.AdamwConvRefIdeal.τ).loc Cert.AdamwConvRefIdeal.main_arg2)
      ∧ r.2.mem ((c.tc : Thread Cert.AdamwConvRefIdeal.nD Cert.AdamwConvRefIdeal.τ).loc Cert.AdamwConvRefIdeal.main_arg3) = m ((c.tc : Thread Cert.AdamwConvRefIdeal.nD Cert.AdamwConvRefIdeal.τ).loc Cert.AdamwConvRefIdeal.main_arg3))
      ∧ r.2.sem = fun _ => 0)

def quiescent_AdamwGateRank [hAdamwGateRank : Cert.AdamwGateRank.Facts] : Prop :=
  ∀ (m : (ℓ : Loc Cert.AdamwGateRank.nD Cert.AdamwGateRank.τ Cert.AdamwGateRank.sig) → Buf (Elt Bits) ℓ) (g : Dev Cert.AdamwGateRank.nD → PrngReg), Pre_AdamwGateRank m →
    θ_run (Cert.AdamwGateRank.defs (F := Bits)) (onTc (τ := Cert.AdamwGateRank.τ) (Cert.AdamwGateRank.main (F := Bits))) ⟨m, fun _ => 0, g⟩ (fun r => (∀ c : Dev Cert.AdamwGateRank.nD,
      r.2.mem ((c.tc : Thread Cert.AdamwGateRank.nD Cert.AdamwGateRank.τ).loc Cert.AdamwGateRank.main_arg0) = m ((c.tc : Thread Cert.AdamwGateRank.nD Cert.AdamwGateRank.τ).loc Cert.AdamwGateRank.main_arg0)
      ∧ r.2.mem ((c.tc : Thread Cert.AdamwGateRank.nD Cert.AdamwGateRank.τ).loc Cert.AdamwGateRank.main_arg1) = m ((c.tc : Thread Cert.AdamwGateRank.nD Cert.AdamwGateRank.τ).loc Cert.AdamwGateRank.main_arg1)
      ∧ r.2.mem ((c.tc : Thread Cert.AdamwGateRank.nD Cert.AdamwGateRank.τ).loc Cert.AdamwGateRank.main_arg2) = m ((c.tc : Thread Cert.AdamwGateRank.nD Cert.AdamwGateRank.τ).loc Cert.AdamwGateRank.main_arg2)
      ∧ r.2.mem ((c.tc : Thread Cert.AdamwGateRank.nD Cert.AdamwGateRank.τ).loc Cert.AdamwGateRank.main_arg3) = m ((c.tc : Thread Cert.AdamwGateRank.nD Cert.AdamwGateRank.τ).loc Cert.AdamwGateRank.main_arg3))
      ∧ r.2.sem = fun _ => 0)

def quiescent_AdamwGateRankIdeal [hAdamwGateRankIdeal : Cert.AdamwGateRankIdeal.Facts] : Prop :=
  ∀ (m : (ℓ : Loc Cert.AdamwGateRankIdeal.nD Cert.AdamwGateRankIdeal.τ Cert.AdamwGateRankIdeal.sig) → Buf (Elt Ideal) ℓ) (g : Dev Cert.AdamwGateRankIdeal.nD → PrngReg), Pre_AdamwGateRankIdeal m →
    θ_run (Cert.AdamwGateRankIdeal.defs (F := Ideal)) (onTc (τ := Cert.AdamwGateRankIdeal.τ) (Cert.AdamwGateRankIdeal.main (F := Ideal))) ⟨m, fun _ => 0, g⟩ (fun r => (∀ c : Dev Cert.AdamwGateRankIdeal.nD,
      r.2.mem ((c.tc : Thread Cert.AdamwGateRankIdeal.nD Cert.AdamwGateRankIdeal.τ).loc Cert.AdamwGateRankIdeal.main_arg0) = m ((c.tc : Thread Cert.AdamwGateRankIdeal.nD Cert.AdamwGateRankIdeal.τ).loc Cert.AdamwGateRankIdeal.main_arg0)
      ∧ r.2.mem ((c.tc : Thread Cert.AdamwGateRankIdeal.nD Cert.AdamwGateRankIdeal.τ).loc Cert.AdamwGateRankIdeal.main_arg1) = m ((c.tc : Thread Cert.AdamwGateRankIdeal.nD Cert.AdamwGateRankIdeal.τ).loc Cert.AdamwGateRankIdeal.main_arg1)
      ∧ r.2.mem ((c.tc : Thread Cert.AdamwGateRankIdeal.nD Cert.AdamwGateRankIdeal.τ).loc Cert.AdamwGateRankIdeal.main_arg2) = m ((c.tc : Thread Cert.AdamwGateRankIdeal.nD Cert.AdamwGateRankIdeal.τ).loc Cert.AdamwGateRankIdeal.main_arg2)
      ∧ r.2.mem ((c.tc : Thread Cert.AdamwGateRankIdeal.nD Cert.AdamwGateRankIdeal.τ).loc Cert.AdamwGateRankIdeal.main_arg3) = m ((c.tc : Thread Cert.AdamwGateRankIdeal.nD Cert.AdamwGateRankIdeal.τ).loc Cert.AdamwGateRankIdeal.main_arg3))
      ∧ r.2.sem = fun _ => 0)

def quiescent_AdamwGateRankRefIdeal [hAdamwGateRankRefIdeal : Cert.AdamwGateRankRefIdeal.Facts] : Prop :=
  ∀ (m : (ℓ : Loc Cert.AdamwGateRankRefIdeal.nD Cert.AdamwGateRankRefIdeal.τ Cert.AdamwGateRankRefIdeal.sig) → Buf (Elt Ideal) ℓ) (g : Dev Cert.AdamwGateRankRefIdeal.nD → PrngReg), Pre_AdamwGateRankRefIdeal m →
    θ_run (Cert.AdamwGateRankRefIdeal.defs (F := Ideal)) (onTc (τ := Cert.AdamwGateRankRefIdeal.τ) (Cert.AdamwGateRankRefIdeal.main (F := Ideal))) ⟨m, fun _ => 0, g⟩ (fun r => (∀ c : Dev Cert.AdamwGateRankRefIdeal.nD,
      r.2.mem ((c.tc : Thread Cert.AdamwGateRankRefIdeal.nD Cert.AdamwGateRankRefIdeal.τ).loc Cert.AdamwGateRankRefIdeal.main_arg0) = m ((c.tc : Thread Cert.AdamwGateRankRefIdeal.nD Cert.AdamwGateRankRefIdeal.τ).loc Cert.AdamwGateRankRefIdeal.main_arg0)
      ∧ r.2.mem ((c.tc : Thread Cert.AdamwGateRankRefIdeal.nD Cert.AdamwGateRankRefIdeal.τ).loc Cert.AdamwGateRankRefIdeal.main_arg1) = m ((c.tc : Thread Cert.AdamwGateRankRefIdeal.nD Cert.AdamwGateRankRefIdeal.τ).loc Cert.AdamwGateRankRefIdeal.main_arg1)
      ∧ r.2.mem ((c.tc : Thread Cert.AdamwGateRankRefIdeal.nD Cert.AdamwGateRankRefIdeal.τ).loc Cert.AdamwGateRankRefIdeal.main_arg2) = m ((c.tc : Thread Cert.AdamwGateRankRefIdeal.nD Cert.AdamwGateRankRefIdeal.τ).loc Cert.AdamwGateRankRefIdeal.main_arg2)
      ∧ r.2.mem ((c.tc : Thread Cert.AdamwGateRankRefIdeal.nD Cert.AdamwGateRankRefIdeal.τ).loc Cert.AdamwGateRankRefIdeal.main_arg3) = m ((c.tc : Thread Cert.AdamwGateRankRefIdeal.nD Cert.AdamwGateRankRefIdeal.τ).loc Cert.AdamwGateRankRefIdeal.main_arg3))
      ∧ r.2.sem = fun _ => 0)

def quiescent_AdamwMixer [hAdamwMixer : Cert.AdamwMixer.Facts] : Prop :=
  ∀ (m : (ℓ : Loc Cert.AdamwMixer.nD Cert.AdamwMixer.τ Cert.AdamwMixer.sig) → Buf (Elt Bits) ℓ) (g : Dev Cert.AdamwMixer.nD → PrngReg), Pre_AdamwMixer m →
    θ_run (Cert.AdamwMixer.defs (F := Bits)) (onTc (τ := Cert.AdamwMixer.τ) (Cert.AdamwMixer.main (F := Bits))) ⟨m, fun _ => 0, g⟩ (fun r => (∀ c : Dev Cert.AdamwMixer.nD,
      r.2.mem ((c.tc : Thread Cert.AdamwMixer.nD Cert.AdamwMixer.τ).loc Cert.AdamwMixer.main_arg0) = m ((c.tc : Thread Cert.AdamwMixer.nD Cert.AdamwMixer.τ).loc Cert.AdamwMixer.main_arg0)
      ∧ r.2.mem ((c.tc : Thread Cert.AdamwMixer.nD Cert.AdamwMixer.τ).loc Cert.AdamwMixer.main_arg1) = m ((c.tc : Thread Cert.AdamwMixer.nD Cert.AdamwMixer.τ).loc Cert.AdamwMixer.main_arg1)
      ∧ r.2.mem ((c.tc : Thread Cert.AdamwMixer.nD Cert.AdamwMixer.τ).loc Cert.AdamwMixer.main_arg2) = m ((c.tc : Thread Cert.AdamwMixer.nD Cert.AdamwMixer.τ).loc Cert.AdamwMixer.main_arg2)
      ∧ r.2.mem ((c.tc : Thread Cert.AdamwMixer.nD Cert.AdamwMixer.τ).loc Cert.AdamwMixer.main_arg3) = m ((c.tc : Thread Cert.AdamwMixer.nD Cert.AdamwMixer.τ).loc Cert.AdamwMixer.main_arg3)
      ∧ r.2.mem ((c.tc : Thread Cert.AdamwMixer.nD Cert.AdamwMixer.τ).loc Cert.AdamwMixer.main_arg4) = m ((c.tc : Thread Cert.AdamwMixer.nD Cert.AdamwMixer.τ).loc Cert.AdamwMixer.main_arg4)
      ∧ r.2.mem ((c.tc : Thread Cert.AdamwMixer.nD Cert.AdamwMixer.τ).loc Cert.AdamwMixer.main_arg5) = m ((c.tc : Thread Cert.AdamwMixer.nD Cert.AdamwMixer.τ).loc Cert.AdamwMixer.main_arg5)
      ∧ r.2.mem ((c.tc : Thread Cert.AdamwMixer.nD Cert.AdamwMixer.τ).loc Cert.AdamwMixer.main_arg6) = m ((c.tc : Thread Cert.AdamwMixer.nD Cert.AdamwMixer.τ).loc Cert.AdamwMixer.main_arg6)
      ∧ r.2.mem ((c.tc : Thread Cert.AdamwMixer.nD Cert.AdamwMixer.τ).loc Cert.AdamwMixer.main_arg7) = m ((c.tc : Thread Cert.AdamwMixer.nD Cert.AdamwMixer.τ).loc Cert.AdamwMixer.main_arg7))
      ∧ r.2.sem = fun _ => 0)

def quiescent_AdamwMixerIdeal [hAdamwMixerIdeal : Cert.AdamwMixerIdeal.Facts] : Prop :=
  ∀ (m : (ℓ : Loc Cert.AdamwMixerIdeal.nD Cert.AdamwMixerIdeal.τ Cert.AdamwMixerIdeal.sig) → Buf (Elt Ideal) ℓ) (g : Dev Cert.AdamwMixerIdeal.nD → PrngReg), Pre_AdamwMixerIdeal m →
    θ_run (Cert.AdamwMixerIdeal.defs (F := Ideal)) (onTc (τ := Cert.AdamwMixerIdeal.τ) (Cert.AdamwMixerIdeal.main (F := Ideal))) ⟨m, fun _ => 0, g⟩ (fun r => (∀ c : Dev Cert.AdamwMixerIdeal.nD,
      r.2.mem ((c.tc : Thread Cert.AdamwMixerIdeal.nD Cert.AdamwMixerIdeal.τ).loc Cert.AdamwMixerIdeal.main_arg0) = m ((c.tc : Thread Cert.AdamwMixerIdeal.nD Cert.AdamwMixerIdeal.τ).loc Cert.AdamwMixerIdeal.main_arg0)
      ∧ r.2.mem ((c.tc : Thread Cert.AdamwMixerIdeal.nD Cert.AdamwMixerIdeal.τ).loc Cert.AdamwMixerIdeal.main_arg1) = m ((c.tc : Thread Cert.AdamwMixerIdeal.nD Cert.AdamwMixerIdeal.τ).loc Cert.AdamwMixerIdeal.main_arg1)
      ∧ r.2.mem ((c.tc : Thread Cert.AdamwMixerIdeal.nD Cert.AdamwMixerIdeal.τ).loc Cert.AdamwMixerIdeal.main_arg2) = m ((c.tc : Thread Cert.AdamwMixerIdeal.nD Cert.AdamwMixerIdeal.τ).loc Cert.AdamwMixerIdeal.main_arg2)
      ∧ r.2.mem ((c.tc : Thread Cert.AdamwMixerIdeal.nD Cert.AdamwMixerIdeal.τ).loc Cert.AdamwMixerIdeal.main_arg3) = m ((c.tc : Thread Cert.AdamwMixerIdeal.nD Cert.AdamwMixerIdeal.τ).loc Cert.AdamwMixerIdeal.main_arg3)
      ∧ r.2.mem ((c.tc : Thread Cert.AdamwMixerIdeal.nD Cert.AdamwMixerIdeal.τ).loc Cert.AdamwMixerIdeal.main_arg4) = m ((c.tc : Thread Cert.AdamwMixerIdeal.nD Cert.AdamwMixerIdeal.τ).loc Cert.AdamwMixerIdeal.main_arg4)
      ∧ r.2.mem ((c.tc : Thread Cert.AdamwMixerIdeal.nD Cert.AdamwMixerIdeal.τ).loc Cert.AdamwMixerIdeal.main_arg5) = m ((c.tc : Thread Cert.AdamwMixerIdeal.nD Cert.AdamwMixerIdeal.τ).loc Cert.AdamwMixerIdeal.main_arg5)
      ∧ r.2.mem ((c.tc : Thread Cert.AdamwMixerIdeal.nD Cert.AdamwMixerIdeal.τ).loc Cert.AdamwMixerIdeal.main_arg6) = m ((c.tc : Thread Cert.AdamwMixerIdeal.nD Cert.AdamwMixerIdeal.τ).loc Cert.AdamwMixerIdeal.main_arg6)
      ∧ r.2.mem ((c.tc : Thread Cert.AdamwMixerIdeal.nD Cert.AdamwMixerIdeal.τ).loc Cert.AdamwMixerIdeal.main_arg7) = m ((c.tc : Thread Cert.AdamwMixerIdeal.nD Cert.AdamwMixerIdeal.τ).loc Cert.AdamwMixerIdeal.main_arg7))
      ∧ r.2.sem = fun _ => 0)

def quiescent_AdamwMixerRefIdeal [hAdamwMixerRefIdeal : Cert.AdamwMixerRefIdeal.Facts] : Prop :=
  ∀ (m : (ℓ : Loc Cert.AdamwMixerRefIdeal.nD Cert.AdamwMixerRefIdeal.τ Cert.AdamwMixerRefIdeal.sig) → Buf (Elt Ideal) ℓ) (g : Dev Cert.AdamwMixerRefIdeal.nD → PrngReg), Pre_AdamwMixerRefIdeal m →
    θ_run (Cert.AdamwMixerRefIdeal.defs (F := Ideal)) (onTc (τ := Cert.AdamwMixerRefIdeal.τ) (Cert.AdamwMixerRefIdeal.main (F := Ideal))) ⟨m, fun _ => 0, g⟩ (fun r => (∀ c : Dev Cert.AdamwMixerRefIdeal.nD,
      r.2.mem ((c.tc : Thread Cert.AdamwMixerRefIdeal.nD Cert.AdamwMixerRefIdeal.τ).loc Cert.AdamwMixerRefIdeal.main_arg0) = m ((c.tc : Thread Cert.AdamwMixerRefIdeal.nD Cert.AdamwMixerRefIdeal.τ).loc Cert.AdamwMixerRefIdeal.main_arg0)
      ∧ r.2.mem ((c.tc : Thread Cert.AdamwMixerRefIdeal.nD Cert.AdamwMixerRefIdeal.τ).loc Cert.AdamwMixerRefIdeal.main_arg1) = m ((c.tc : Thread Cert.AdamwMixerRefIdeal.nD Cert.AdamwMixerRefIdeal.τ).loc Cert.AdamwMixerRefIdeal.main_arg1)
      ∧ r.2.mem ((c.tc : Thread Cert.AdamwMixerRefIdeal.nD Cert.AdamwMixerRefIdeal.τ).loc Cert.AdamwMixerRefIdeal.main_arg2) = m ((c.tc : Thread Cert.AdamwMixerRefIdeal.nD Cert.AdamwMixerRefIdeal.τ).loc Cert.AdamwMixerRefIdeal.main_arg2)
      ∧ r.2.mem ((c.tc : Thread Cert.AdamwMixerRefIdeal.nD Cert.AdamwMixerRefIdeal.τ).loc Cert.AdamwMixerRefIdeal.main_arg3) = m ((c.tc : Thread Cert.AdamwMixerRefIdeal.nD Cert.AdamwMixerRefIdeal.τ).loc Cert.AdamwMixerRefIdeal.main_arg3)
      ∧ r.2.mem ((c.tc : Thread Cert.AdamwMixerRefIdeal.nD Cert.AdamwMixerRefIdeal.τ).loc Cert.AdamwMixerRefIdeal.main_arg4) = m ((c.tc : Thread Cert.AdamwMixerRefIdeal.nD Cert.AdamwMixerRefIdeal.τ).loc Cert.AdamwMixerRefIdeal.main_arg4)
      ∧ r.2.mem ((c.tc : Thread Cert.AdamwMixerRefIdeal.nD Cert.AdamwMixerRefIdeal.τ).loc Cert.AdamwMixerRefIdeal.main_arg5) = m ((c.tc : Thread Cert.AdamwMixerRefIdeal.nD Cert.AdamwMixerRefIdeal.τ).loc Cert.AdamwMixerRefIdeal.main_arg5)
      ∧ r.2.mem ((c.tc : Thread Cert.AdamwMixerRefIdeal.nD Cert.AdamwMixerRefIdeal.τ).loc Cert.AdamwMixerRefIdeal.main_arg6) = m ((c.tc : Thread Cert.AdamwMixerRefIdeal.nD Cert.AdamwMixerRefIdeal.τ).loc Cert.AdamwMixerRefIdeal.main_arg6)
      ∧ r.2.mem ((c.tc : Thread Cert.AdamwMixerRefIdeal.nD Cert.AdamwMixerRefIdeal.τ).loc Cert.AdamwMixerRefIdeal.main_arg7) = m ((c.tc : Thread Cert.AdamwMixerRefIdeal.nD Cert.AdamwMixerRefIdeal.τ).loc Cert.AdamwMixerRefIdeal.main_arg7))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4)
      ∧ r.2.mem ((c.tc : Thread Cert.AdamwDown.nD Cert.AdamwDown.τ).loc Cert.AdamwDown.main_arg5) = m ((c.tc : Thread Cert.AdamwDown.nD Cert.AdamwDown.τ).loc Cert.AdamwDown.main_arg5)
      ∧ r.2.mem ((c.tc : Thread Cert.AdamwDown.nD Cert.AdamwDown.τ).loc Cert.AdamwDown.main_arg6) = m ((c.tc : Thread Cert.AdamwDown.nD Cert.AdamwDown.τ).loc Cert.AdamwDown.main_arg6)
      ∧ r.2.mem ((c.tc : Thread Cert.AdamwDown.nD Cert.AdamwDown.τ).loc Cert.AdamwDown.main_arg7) = m ((c.tc : Thread Cert.AdamwDown.nD Cert.AdamwDown.τ).loc Cert.AdamwDown.main_arg7))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
      ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5)
      ∧ r.2.mem ((c.tc : Thread Cert.AdamwDownIdeal.nD Cert.AdamwDownIdeal.τ).loc Cert.AdamwDownIdeal.main_arg6) = m ((c.tc : Thread Cert.AdamwDownIdeal.nD Cert.AdamwDownIdeal.τ).loc Cert.AdamwDownIdeal.main_arg6)
      ∧ r.2.mem ((c.tc : Thread Cert.AdamwDownIdeal.nD Cert.AdamwDownIdeal.τ).loc Cert.AdamwDownIdeal.main_arg7) = m ((c.tc : Thread Cert.AdamwDownIdeal.nD Cert.AdamwDownIdeal.τ).loc Cert.AdamwDownIdeal.main_arg7))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3)
      ∧ r.2.mem ((c.tc : Thread Cert.AdamwDownRefIdeal.nD Cert.AdamwDownRefIdeal.τ).loc Cert.AdamwDownRefIdeal.main_arg4) = m ((c.tc : Thread Cert.AdamwDownRefIdeal.nD Cert.AdamwDownRefIdeal.τ).loc Cert.AdamwDownRefIdeal.main_arg4)
      ∧ r.2.mem ((c.tc : Thread Cert.AdamwDownRefIdeal.nD Cert.AdamwDownRefIdeal.τ).loc Cert.AdamwDownRefIdeal.main_arg5) = m ((c.tc : Thread Cert.AdamwDownRefIdeal.nD Cert.AdamwDownRefIdeal.τ).loc Cert.AdamwDownRefIdeal.main_arg5)
      ∧ r.2.mem ((c.tc : Thread Cert.AdamwDownRefIdeal.nD Cert.AdamwDownRefIdeal.τ).loc Cert.AdamwDownRefIdeal.main_arg6) = m ((c.tc : Thread Cert.AdamwDownRefIdeal.nD Cert.AdamwDownRefIdeal.τ).loc Cert.AdamwDownRefIdeal.main_arg6)
      ∧ r.2.mem ((c.tc : Thread Cert.AdamwDownRefIdeal.nD Cert.AdamwDownRefIdeal.τ).loc Cert.AdamwDownRefIdeal.main_arg7) = m ((c.tc : Thread Cert.AdamwDownRefIdeal.nD Cert.AdamwDownRefIdeal.τ).loc Cert.AdamwDownRefIdeal.main_arg7))
      ∧ r.2.sem = fun _ => 0)

def quiescent_AdamwGate [hAdamwGate : Cert.AdamwGate.Facts] : Prop :=
  ∀ (m : (ℓ : Loc Cert.AdamwGate.nD Cert.AdamwGate.τ Cert.AdamwGate.sig) → Buf (Elt Bits) ℓ) (g : Dev Cert.AdamwGate.nD → PrngReg), Pre_AdamwGate m →
    θ_run (Cert.AdamwGate.defs (F := Bits)) (onTc (τ := Cert.AdamwGate.τ) (Cert.AdamwGate.main (F := Bits))) ⟨m, fun _ => 0, g⟩ (fun r => (∀ c : Dev Cert.AdamwGate.nD,
      r.2.mem ((c.tc : Thread Cert.AdamwGate.nD Cert.AdamwGate.τ).loc Cert.AdamwGate.main_arg0) = m ((c.tc : Thread Cert.AdamwGate.nD Cert.AdamwGate.τ).loc Cert.AdamwGate.main_arg0)
      ∧ r.2.mem ((c.tc : Thread Cert.AdamwGate.nD Cert.AdamwGate.τ).loc Cert.AdamwGate.main_arg1) = m ((c.tc : Thread Cert.AdamwGate.nD Cert.AdamwGate.τ).loc Cert.AdamwGate.main_arg1)
      ∧ r.2.mem ((c.tc : Thread Cert.AdamwGate.nD Cert.AdamwGate.τ).loc Cert.AdamwGate.main_arg2) = m ((c.tc : Thread Cert.AdamwGate.nD Cert.AdamwGate.τ).loc Cert.AdamwGate.main_arg2)
      ∧ r.2.mem ((c.tc : Thread Cert.AdamwGate.nD Cert.AdamwGate.τ).loc Cert.AdamwGate.main_arg3) = m ((c.tc : Thread Cert.AdamwGate.nD Cert.AdamwGate.τ).loc Cert.AdamwGate.main_arg3)
      ∧ r.2.mem ((c.tc : Thread Cert.AdamwGate.nD Cert.AdamwGate.τ).loc Cert.AdamwGate.main_arg4) = m ((c.tc : Thread Cert.AdamwGate.nD Cert.AdamwGate.τ).loc Cert.AdamwGate.main_arg4)
      ∧ r.2.mem ((c.tc : Thread Cert.AdamwGate.nD Cert.AdamwGate.τ).loc Cert.AdamwGate.main_arg5) = m ((c.tc : Thread Cert.AdamwGate.nD Cert.AdamwGate.τ).loc Cert.AdamwGate.main_arg5)
      ∧ r.2.mem ((c.tc : Thread Cert.AdamwGate.nD Cert.AdamwGate.τ).loc Cert.AdamwGate.main_arg6) = m ((c.tc : Thread Cert.AdamwGate.nD Cert.AdamwGate.τ).loc Cert.AdamwGate.main_arg6)
      ∧ r.2.mem ((c.tc : Thread Cert.AdamwGate.nD Cert.AdamwGate.τ).loc Cert.AdamwGate.main_arg7) = m ((c.tc : Thread Cert.AdamwGate.nD Cert.AdamwGate.τ).loc Cert.AdamwGate.main_arg7))
      ∧ r.2.sem = fun _ => 0)

def quiescent_AdamwGateIdeal [hAdamwGateIdeal : Cert.AdamwGateIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg), Pre_AdamwGateIdeal m →
    θ_run (Cert.AdamwGateIdeal.defs (F := Ideal)) (onTc (τ := Cert.AdamwGateIdeal.τ) (Cert.AdamwGateIdeal.main (F := Ideal))) ⟨m, fun _ => 0, g⟩ (fun r => (∀ c : Dev Cert.AdamwGateIdeal.nD,
      r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
      ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
      ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
      ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3)
      ∧ r.2.mem ((c.tc : Thread Cert.AdamwGateIdeal.nD Cert.AdamwGateIdeal.τ).loc Cert.AdamwGateIdeal.main_arg4) = m ((c.tc : Thread Cert.AdamwGateIdeal.nD Cert.AdamwGateIdeal.τ).loc Cert.AdamwGateIdeal.main_arg4)
      ∧ r.2.mem ((c.tc : Thread Cert.AdamwGateIdeal.nD Cert.AdamwGateIdeal.τ).loc Cert.AdamwGateIdeal.main_arg5) = m ((c.tc : Thread Cert.AdamwGateIdeal.nD Cert.AdamwGateIdeal.τ).loc Cert.AdamwGateIdeal.main_arg5)
      ∧ r.2.mem ((c.tc : Thread Cert.AdamwGateIdeal.nD Cert.AdamwGateIdeal.τ).loc Cert.AdamwGateIdeal.main_arg6) = m ((c.tc : Thread Cert.AdamwGateIdeal.nD Cert.AdamwGateIdeal.τ).loc Cert.AdamwGateIdeal.main_arg6)
      ∧ r.2.mem ((c.tc : Thread Cert.AdamwGateIdeal.nD Cert.AdamwGateIdeal.τ).loc Cert.AdamwGateIdeal.main_arg7) = m ((c.tc : Thread Cert.AdamwGateIdeal.nD Cert.AdamwGateIdeal.τ).loc Cert.AdamwGateIdeal.main_arg7))
      ∧ r.2.sem = fun _ => 0)

def quiescent_AdamwGateRefIdeal [hAdamwGateRefIdeal : Cert.AdamwGateRefIdeal.Facts] : Prop :=
  ∀ (m : (ℓ : Loc Cert.AdamwGateRefIdeal.nD Cert.AdamwGateRefIdeal.τ Cert.AdamwGateRefIdeal.sig) → Buf (Elt Ideal) ℓ) (g : Dev Cert.AdamwGateRefIdeal.nD → PrngReg), Pre_AdamwGateRefIdeal m →
    θ_run (Cert.AdamwGateRefIdeal.defs (F := Ideal)) (onTc (τ := Cert.AdamwGateRefIdeal.τ) (Cert.AdamwGateRefIdeal.main (F := Ideal))) ⟨m, fun _ => 0, g⟩ (fun r => (∀ c : Dev Cert.AdamwGateRefIdeal.nD,
      r.2.mem ((c.tc : Thread Cert.AdamwGateRefIdeal.nD Cert.AdamwGateRefIdeal.τ).loc Cert.AdamwGateRefIdeal.main_arg0) = m ((c.tc : Thread Cert.AdamwGateRefIdeal.nD Cert.AdamwGateRefIdeal.τ).loc Cert.AdamwGateRefIdeal.main_arg0)
      ∧ r.2.mem ((c.tc : Thread Cert.AdamwGateRefIdeal.nD Cert.AdamwGateRefIdeal.τ).loc Cert.AdamwGateRefIdeal.main_arg1) = m ((c.tc : Thread Cert.AdamwGateRefIdeal.nD Cert.AdamwGateRefIdeal.τ).loc Cert.AdamwGateRefIdeal.main_arg1)
      ∧ r.2.mem ((c.tc : Thread Cert.AdamwGateRefIdeal.nD Cert.AdamwGateRefIdeal.τ).loc Cert.AdamwGateRefIdeal.main_arg2) = m ((c.tc : Thread Cert.AdamwGateRefIdeal.nD Cert.AdamwGateRefIdeal.τ).loc Cert.AdamwGateRefIdeal.main_arg2)
      ∧ r.2.mem ((c.tc : Thread Cert.AdamwGateRefIdeal.nD Cert.AdamwGateRefIdeal.τ).loc Cert.AdamwGateRefIdeal.main_arg3) = m ((c.tc : Thread Cert.AdamwGateRefIdeal.nD Cert.AdamwGateRefIdeal.τ).loc Cert.AdamwGateRefIdeal.main_arg3)
      ∧ r.2.mem ((c.tc : Thread Cert.AdamwGateRefIdeal.nD Cert.AdamwGateRefIdeal.τ).loc Cert.AdamwGateRefIdeal.main_arg4) = m ((c.tc : Thread Cert.AdamwGateRefIdeal.nD Cert.AdamwGateRefIdeal.τ).loc Cert.AdamwGateRefIdeal.main_arg4)
      ∧ r.2.mem ((c.tc : Thread Cert.AdamwGateRefIdeal.nD Cert.AdamwGateRefIdeal.τ).loc Cert.AdamwGateRefIdeal.main_arg5) = m ((c.tc : Thread Cert.AdamwGateRefIdeal.nD Cert.AdamwGateRefIdeal.τ).loc Cert.AdamwGateRefIdeal.main_arg5)
      ∧ r.2.mem ((c.tc : Thread Cert.AdamwGateRefIdeal.nD Cert.AdamwGateRefIdeal.τ).loc Cert.AdamwGateRefIdeal.main_arg6) = m ((c.tc : Thread Cert.AdamwGateRefIdeal.nD Cert.AdamwGateRefIdeal.τ).loc Cert.AdamwGateRefIdeal.main_arg6)
      ∧ r.2.mem ((c.tc : Thread Cert.AdamwGateRefIdeal.nD Cert.AdamwGateRefIdeal.τ).loc Cert.AdamwGateRefIdeal.main_arg7) = m ((c.tc : Thread Cert.AdamwGateRefIdeal.nD Cert.AdamwGateRefIdeal.τ).loc Cert.AdamwGateRefIdeal.main_arg7))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4)
      ∧ r.2.mem ((c.tc : Thread Cert.AdamwIn.nD Cert.AdamwIn.τ).loc Cert.AdamwIn.main_arg5) = m ((c.tc : Thread Cert.AdamwIn.nD Cert.AdamwIn.τ).loc Cert.AdamwIn.main_arg5)
      ∧ r.2.mem ((c.tc : Thread Cert.AdamwIn.nD Cert.AdamwIn.τ).loc Cert.AdamwIn.main_arg6) = m ((c.tc : Thread Cert.AdamwIn.nD Cert.AdamwIn.τ).loc Cert.AdamwIn.main_arg6)
      ∧ r.2.mem ((c.tc : Thread Cert.AdamwIn.nD Cert.AdamwIn.τ).loc Cert.AdamwIn.main_arg7) = m ((c.tc : Thread Cert.AdamwIn.nD Cert.AdamwIn.τ).loc Cert.AdamwIn.main_arg7))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
      ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
      ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6)
      ∧ r.2.mem ((c.tc : Thread Cert.AdamwInIdeal.nD Cert.AdamwInIdeal.τ).loc Cert.AdamwInIdeal.main_arg7) = m ((c.tc : Thread Cert.AdamwInIdeal.nD Cert.AdamwInIdeal.τ).loc Cert.AdamwInIdeal.main_arg7))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4)
      ∧ r.2.mem ((c.tc : Thread Cert.AdamwInRefIdeal.nD Cert.AdamwInRefIdeal.τ).loc Cert.AdamwInRefIdeal.main_arg5) = m ((c.tc : Thread Cert.AdamwInRefIdeal.nD Cert.AdamwInRefIdeal.τ).loc Cert.AdamwInRefIdeal.main_arg5)
      ∧ r.2.mem ((c.tc : Thread Cert.AdamwInRefIdeal.nD Cert.AdamwInRefIdeal.τ).loc Cert.AdamwInRefIdeal.main_arg6) = m ((c.tc : Thread Cert.AdamwInRefIdeal.nD Cert.AdamwInRefIdeal.τ).loc Cert.AdamwInRefIdeal.main_arg6)
      ∧ r.2.mem ((c.tc : Thread Cert.AdamwInRefIdeal.nD Cert.AdamwInRefIdeal.τ).loc Cert.AdamwInRefIdeal.main_arg7) = m ((c.tc : Thread Cert.AdamwInRefIdeal.nD Cert.AdamwInRefIdeal.τ).loc Cert.AdamwInRefIdeal.main_arg7))
      ∧ r.2.sem = fun _ => 0)

def quiescent_FfnOutFwd [hFfnOutFwd : Cert.FfnOutFwd.Facts] : Prop :=
  ∀ (m : (ℓ : Loc Cert.FfnOutFwd.nD Cert.FfnOutFwd.τ Cert.FfnOutFwd.sig) → Buf (Elt Bits) ℓ) (g : Dev Cert.FfnOutFwd.nD → PrngReg), Pre_FfnOutFwd m →
    θ_run (Cert.FfnOutFwd.defs (F := Bits)) (onTc (τ := Cert.FfnOutFwd.τ) (Cert.FfnOutFwd.main (F := Bits))) ⟨m, fun _ => 0, g⟩ (fun r => (∀ c : Dev Cert.FfnOutFwd.nD,
      r.2.mem ((c.tc : Thread Cert.FfnOutFwd.nD Cert.FfnOutFwd.τ).loc Cert.FfnOutFwd.main_arg0) = m ((c.tc : Thread Cert.FfnOutFwd.nD Cert.FfnOutFwd.τ).loc Cert.FfnOutFwd.main_arg0)
      ∧ r.2.mem ((c.tc : Thread Cert.FfnOutFwd.nD Cert.FfnOutFwd.τ).loc Cert.FfnOutFwd.main_arg1) = m ((c.tc : Thread Cert.FfnOutFwd.nD Cert.FfnOutFwd.τ).loc Cert.FfnOutFwd.main_arg1)
      ∧ r.2.mem ((c.tc : Thread Cert.FfnOutFwd.nD Cert.FfnOutFwd.τ).loc Cert.FfnOutFwd.main_arg2) = m ((c.tc : Thread Cert.FfnOutFwd.nD Cert.FfnOutFwd.τ).loc Cert.FfnOutFwd.main_arg2))
      ∧ r.2.sem = fun _ => 0)

def quiescent_FfnOutFwdIdeal [hFfnOutFwdIdeal : Cert.FfnOutFwdIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg), Pre_FfnOutFwdIdeal m →
    θ_run (Cert.FfnOutFwdIdeal.defs (F := Ideal)) (onTc (τ := Cert.FfnOutFwdIdeal.τ) (Cert.FfnOutFwdIdeal.main (F := Ideal))) ⟨m, fun _ => 0, g⟩ (fun r => (∀ c : Dev Cert.FfnOutFwdIdeal.nD,
      r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
      ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
      ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2))
      ∧ r.2.sem = fun _ => 0)

def quiescent_FfnOutFwdRefIdeal [hFfnOutFwdRefIdeal : Cert.FfnOutFwdRefIdeal.Facts] : Prop :=
  ∀ (m : (ℓ : Loc Cert.FfnOutFwdRefIdeal.nD Cert.FfnOutFwdRefIdeal.τ Cert.FfnOutFwdRefIdeal.sig) → Buf (Elt Ideal) ℓ) (g : Dev Cert.FfnOutFwdRefIdeal.nD → PrngReg), Pre_FfnOutFwdRefIdeal m →
    θ_run (Cert.FfnOutFwdRefIdeal.defs (F := Ideal)) (onTc (τ := Cert.FfnOutFwdRefIdeal.τ) (Cert.FfnOutFwdRefIdeal.main (F := Ideal))) ⟨m, fun _ => 0, g⟩ (fun r => (∀ c : Dev Cert.FfnOutFwdRefIdeal.nD,
      r.2.mem ((c.tc : Thread Cert.FfnOutFwdRefIdeal.nD Cert.FfnOutFwdRefIdeal.τ).loc Cert.FfnOutFwdRefIdeal.main_arg0) = m ((c.tc : Thread Cert.FfnOutFwdRefIdeal.nD Cert.FfnOutFwdRefIdeal.τ).loc Cert.FfnOutFwdRefIdeal.main_arg0)
      ∧ r.2.mem ((c.tc : Thread Cert.FfnOutFwdRefIdeal.nD Cert.FfnOutFwdRefIdeal.τ).loc Cert.FfnOutFwdRefIdeal.main_arg1) = m ((c.tc : Thread Cert.FfnOutFwdRefIdeal.nD Cert.FfnOutFwdRefIdeal.τ).loc Cert.FfnOutFwdRefIdeal.main_arg1)
      ∧ r.2.mem ((c.tc : Thread Cert.FfnOutFwdRefIdeal.nD Cert.FfnOutFwdRefIdeal.τ).loc Cert.FfnOutFwdRefIdeal.main_arg2) = m ((c.tc : Thread Cert.FfnOutFwdRefIdeal.nD Cert.FfnOutFwdRefIdeal.τ).loc Cert.FfnOutFwdRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_FfnHiddenFwd [hFfnHiddenFwd : Cert.FfnHiddenFwd.Facts] : Prop :=
  ∀ (m : (ℓ : Loc Cert.FfnHiddenFwd.nD Cert.FfnHiddenFwd.τ Cert.FfnHiddenFwd.sig) → Buf (Elt Bits) ℓ) (g : Dev Cert.FfnHiddenFwd.nD → PrngReg), Pre_FfnHiddenFwd m →
    θ_run (Cert.FfnHiddenFwd.defs (F := Bits)) (onTc (τ := Cert.FfnHiddenFwd.τ) (Cert.FfnHiddenFwd.main (F := Bits))) ⟨m, fun _ => 0, g⟩ (fun r => (∀ c : Dev Cert.FfnHiddenFwd.nD,
      r.2.mem ((c.tc : Thread Cert.FfnHiddenFwd.nD Cert.FfnHiddenFwd.τ).loc Cert.FfnHiddenFwd.main_arg0) = m ((c.tc : Thread Cert.FfnHiddenFwd.nD Cert.FfnHiddenFwd.τ).loc Cert.FfnHiddenFwd.main_arg0)
      ∧ r.2.mem ((c.tc : Thread Cert.FfnHiddenFwd.nD Cert.FfnHiddenFwd.τ).loc Cert.FfnHiddenFwd.main_arg1) = m ((c.tc : Thread Cert.FfnHiddenFwd.nD Cert.FfnHiddenFwd.τ).loc Cert.FfnHiddenFwd.main_arg1)
      ∧ r.2.mem ((c.tc : Thread Cert.FfnHiddenFwd.nD Cert.FfnHiddenFwd.τ).loc Cert.FfnHiddenFwd.main_arg2) = m ((c.tc : Thread Cert.FfnHiddenFwd.nD Cert.FfnHiddenFwd.τ).loc Cert.FfnHiddenFwd.main_arg2)
      ∧ r.2.mem ((c.tc : Thread Cert.FfnHiddenFwd.nD Cert.FfnHiddenFwd.τ).loc Cert.FfnHiddenFwd.main_arg3) = m ((c.tc : Thread Cert.FfnHiddenFwd.nD Cert.FfnHiddenFwd.τ).loc Cert.FfnHiddenFwd.main_arg3))
      ∧ r.2.sem = fun _ => 0)

def quiescent_FfnHiddenFwdIdeal [hFfnHiddenFwdIdeal : Cert.FfnHiddenFwdIdeal.Facts] : Prop :=
  ∀ (m : (ℓ : Loc Cert.FfnHiddenFwdIdeal.nD Cert.FfnHiddenFwdIdeal.τ Cert.FfnHiddenFwdIdeal.sig) → Buf (Elt Ideal) ℓ) (g : Dev Cert.FfnHiddenFwdIdeal.nD → PrngReg), Pre_FfnHiddenFwdIdeal m →
    θ_run (Cert.FfnHiddenFwdIdeal.defs (F := Ideal)) (onTc (τ := Cert.FfnHiddenFwdIdeal.τ) (Cert.FfnHiddenFwdIdeal.main (F := Ideal))) ⟨m, fun _ => 0, g⟩ (fun r => (∀ c : Dev Cert.FfnHiddenFwdIdeal.nD,
      r.2.mem ((c.tc : Thread Cert.FfnHiddenFwdIdeal.nD Cert.FfnHiddenFwdIdeal.τ).loc Cert.FfnHiddenFwdIdeal.main_arg0) = m ((c.tc : Thread Cert.FfnHiddenFwdIdeal.nD Cert.FfnHiddenFwdIdeal.τ).loc Cert.FfnHiddenFwdIdeal.main_arg0)
      ∧ r.2.mem ((c.tc : Thread Cert.FfnHiddenFwdIdeal.nD Cert.FfnHiddenFwdIdeal.τ).loc Cert.FfnHiddenFwdIdeal.main_arg1) = m ((c.tc : Thread Cert.FfnHiddenFwdIdeal.nD Cert.FfnHiddenFwdIdeal.τ).loc Cert.FfnHiddenFwdIdeal.main_arg1)
      ∧ r.2.mem ((c.tc : Thread Cert.FfnHiddenFwdIdeal.nD Cert.FfnHiddenFwdIdeal.τ).loc Cert.FfnHiddenFwdIdeal.main_arg2) = m ((c.tc : Thread Cert.FfnHiddenFwdIdeal.nD Cert.FfnHiddenFwdIdeal.τ).loc Cert.FfnHiddenFwdIdeal.main_arg2)
      ∧ r.2.mem ((c.tc : Thread Cert.FfnHiddenFwdIdeal.nD Cert.FfnHiddenFwdIdeal.τ).loc Cert.FfnHiddenFwdIdeal.main_arg3) = m ((c.tc : Thread Cert.FfnHiddenFwdIdeal.nD Cert.FfnHiddenFwdIdeal.τ).loc Cert.FfnHiddenFwdIdeal.main_arg3))
      ∧ r.2.sem = fun _ => 0)

def quiescent_FfnHiddenFwdRefIdeal [hFfnHiddenFwdRefIdeal : Cert.FfnHiddenFwdRefIdeal.Facts] : Prop :=
  ∀ (m : (ℓ : Loc Cert.FfnHiddenFwdRefIdeal.nD Cert.FfnHiddenFwdRefIdeal.τ Cert.FfnHiddenFwdRefIdeal.sig) → Buf (Elt Ideal) ℓ) (g : Dev Cert.FfnHiddenFwdRefIdeal.nD → PrngReg), Pre_FfnHiddenFwdRefIdeal m →
    θ_run (Cert.FfnHiddenFwdRefIdeal.defs (F := Ideal)) (onTc (τ := Cert.FfnHiddenFwdRefIdeal.τ) (Cert.FfnHiddenFwdRefIdeal.main (F := Ideal))) ⟨m, fun _ => 0, g⟩ (fun r => (∀ c : Dev Cert.FfnHiddenFwdRefIdeal.nD,
      r.2.mem ((c.tc : Thread Cert.FfnHiddenFwdRefIdeal.nD Cert.FfnHiddenFwdRefIdeal.τ).loc Cert.FfnHiddenFwdRefIdeal.main_arg0) = m ((c.tc : Thread Cert.FfnHiddenFwdRefIdeal.nD Cert.FfnHiddenFwdRefIdeal.τ).loc Cert.FfnHiddenFwdRefIdeal.main_arg0)
      ∧ r.2.mem ((c.tc : Thread Cert.FfnHiddenFwdRefIdeal.nD Cert.FfnHiddenFwdRefIdeal.τ).loc Cert.FfnHiddenFwdRefIdeal.main_arg1) = m ((c.tc : Thread Cert.FfnHiddenFwdRefIdeal.nD Cert.FfnHiddenFwdRefIdeal.τ).loc Cert.FfnHiddenFwdRefIdeal.main_arg1)
      ∧ r.2.mem ((c.tc : Thread Cert.FfnHiddenFwdRefIdeal.nD Cert.FfnHiddenFwdRefIdeal.τ).loc Cert.FfnHiddenFwdRefIdeal.main_arg2) = m ((c.tc : Thread Cert.FfnHiddenFwdRefIdeal.nD Cert.FfnHiddenFwdRefIdeal.τ).loc Cert.FfnHiddenFwdRefIdeal.main_arg2)
      ∧ r.2.mem ((c.tc : Thread Cert.FfnHiddenFwdRefIdeal.nD Cert.FfnHiddenFwdRefIdeal.τ).loc Cert.FfnHiddenFwdRefIdeal.main_arg3) = m ((c.tc : Thread Cert.FfnHiddenFwdRefIdeal.nD Cert.FfnHiddenFwdRefIdeal.τ).loc Cert.FfnHiddenFwdRefIdeal.main_arg3))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5)
      ∧ r.2.mem ((c.tc : Thread Cert.MixerFwd.nD Cert.MixerFwd.τ).loc Cert.MixerFwd.main_arg6) = m ((c.tc : Thread Cert.MixerFwd.nD Cert.MixerFwd.τ).loc Cert.MixerFwd.main_arg6))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5)
      ∧ r.2.mem ((c.tc : Thread Cert.MixerFwdRefIdeal.nD Cert.MixerFwdRefIdeal.τ).loc Cert.MixerFwdRefIdeal.main_arg6) = m ((c.tc : Thread Cert.MixerFwdRefIdeal.nD Cert.MixerFwdRefIdeal.τ).loc Cert.MixerFwdRefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_LossTotal [hLossTotal : Cert.LossTotal.Facts] : Prop :=
  ∀ (m : (ℓ : Loc Cert.LossTotal.nD Cert.LossTotal.τ Cert.LossTotal.sig) → Buf (Elt Bits) ℓ) (g : Dev Cert.LossTotal.nD → PrngReg), Pre_LossTotal m →
    θ_run (Cert.LossTotal.defs (F := Bits)) (onTc (τ := Cert.LossTotal.τ) (Cert.LossTotal.main (F := Bits))) ⟨m, fun _ => 0, g⟩ (fun r => (∀ c : Dev Cert.LossTotal.nD,
      r.2.mem ((c.tc : Thread Cert.LossTotal.nD Cert.LossTotal.τ).loc Cert.LossTotal.main_arg0) = m ((c.tc : Thread Cert.LossTotal.nD Cert.LossTotal.τ).loc Cert.LossTotal.main_arg0)
      ∧ r.2.mem ((c.tc : Thread Cert.LossTotal.nD Cert.LossTotal.τ).loc Cert.LossTotal.main_arg1) = m ((c.tc : Thread Cert.LossTotal.nD Cert.LossTotal.τ).loc Cert.LossTotal.main_arg1)
      ∧ r.2.mem ((c.tc : Thread Cert.LossTotal.nD Cert.LossTotal.τ).loc Cert.LossTotal.main_arg2) = m ((c.tc : Thread Cert.LossTotal.nD Cert.LossTotal.τ).loc Cert.LossTotal.main_arg2))
      ∧ r.2.sem = fun _ => 0)

def quiescent_LossTotalIdeal [hLossTotalIdeal : Cert.LossTotalIdeal.Facts] : Prop :=
  ∀ (m : (ℓ : Loc Cert.LossTotalIdeal.nD Cert.LossTotalIdeal.τ Cert.LossTotalIdeal.sig) → Buf (Elt Ideal) ℓ) (g : Dev Cert.LossTotalIdeal.nD → PrngReg), Pre_LossTotalIdeal m →
    θ_run (Cert.LossTotalIdeal.defs (F := Ideal)) (onTc (τ := Cert.LossTotalIdeal.τ) (Cert.LossTotalIdeal.main (F := Ideal))) ⟨m, fun _ => 0, g⟩ (fun r => (∀ c : Dev Cert.LossTotalIdeal.nD,
      r.2.mem ((c.tc : Thread Cert.LossTotalIdeal.nD Cert.LossTotalIdeal.τ).loc Cert.LossTotalIdeal.main_arg0) = m ((c.tc : Thread Cert.LossTotalIdeal.nD Cert.LossTotalIdeal.τ).loc Cert.LossTotalIdeal.main_arg0)
      ∧ r.2.mem ((c.tc : Thread Cert.LossTotalIdeal.nD Cert.LossTotalIdeal.τ).loc Cert.LossTotalIdeal.main_arg1) = m ((c.tc : Thread Cert.LossTotalIdeal.nD Cert.LossTotalIdeal.τ).loc Cert.LossTotalIdeal.main_arg1)
      ∧ r.2.mem ((c.tc : Thread Cert.LossTotalIdeal.nD Cert.LossTotalIdeal.τ).loc Cert.LossTotalIdeal.main_arg2) = m ((c.tc : Thread Cert.LossTotalIdeal.nD Cert.LossTotalIdeal.τ).loc Cert.LossTotalIdeal.main_arg2))
      ∧ r.2.sem = fun _ => 0)

def quiescent_LossTotalRefIdeal [hLossTotalRefIdeal : Cert.LossTotalRefIdeal.Facts] : Prop :=
  ∀ (m : (ℓ : Loc Cert.LossTotalRefIdeal.nD Cert.LossTotalRefIdeal.τ Cert.LossTotalRefIdeal.sig) → Buf (Elt Ideal) ℓ) (g : Dev Cert.LossTotalRefIdeal.nD → PrngReg), Pre_LossTotalRefIdeal m →
    θ_run (Cert.LossTotalRefIdeal.defs (F := Ideal)) (onTc (τ := Cert.LossTotalRefIdeal.τ) (Cert.LossTotalRefIdeal.main (F := Ideal))) ⟨m, fun _ => 0, g⟩ (fun r => (∀ c : Dev Cert.LossTotalRefIdeal.nD,
      r.2.mem ((c.tc : Thread Cert.LossTotalRefIdeal.nD Cert.LossTotalRefIdeal.τ).loc Cert.LossTotalRefIdeal.main_arg0) = m ((c.tc : Thread Cert.LossTotalRefIdeal.nD Cert.LossTotalRefIdeal.τ).loc Cert.LossTotalRefIdeal.main_arg0)
      ∧ r.2.mem ((c.tc : Thread Cert.LossTotalRefIdeal.nD Cert.LossTotalRefIdeal.τ).loc Cert.LossTotalRefIdeal.main_arg1) = m ((c.tc : Thread Cert.LossTotalRefIdeal.nD Cert.LossTotalRefIdeal.τ).loc Cert.LossTotalRefIdeal.main_arg1)
      ∧ r.2.mem ((c.tc : Thread Cert.LossTotalRefIdeal.nD Cert.LossTotalRefIdeal.τ).loc Cert.LossTotalRefIdeal.main_arg2) = m ((c.tc : Thread Cert.LossTotalRefIdeal.nD Cert.LossTotalRefIdeal.τ).loc Cert.LossTotalRefIdeal.main_arg2))
      ∧ r.2.sem = fun _ => 0)

def quiescent_PutGate [hPutGate : Cert.PutGate.Facts] : Prop :=
  ∀ (m : (ℓ : Loc Cert.PutGate.nD Cert.PutGate.τ Cert.PutGate.sig) → Buf (Elt Bits) ℓ) (g : Dev Cert.PutGate.nD → PrngReg), Pre_PutGate m →
    θ_run (Cert.PutGate.defs (F := Bits)) (onTc (τ := Cert.PutGate.τ) (Cert.PutGate.main (F := Bits))) ⟨m, fun _ => 0, g⟩ (fun r => (∀ c : Dev Cert.PutGate.nD,
      r.2.mem ((c.tc : Thread Cert.PutGate.nD Cert.PutGate.τ).loc Cert.PutGate.main_arg0) = m ((c.tc : Thread Cert.PutGate.nD Cert.PutGate.τ).loc Cert.PutGate.main_arg0)
      ∧ r.2.mem ((c.tc : Thread Cert.PutGate.nD Cert.PutGate.τ).loc Cert.PutGate.main_arg1) = m ((c.tc : Thread Cert.PutGate.nD Cert.PutGate.τ).loc Cert.PutGate.main_arg1))
      ∧ r.2.sem = fun _ => 0)

def quiescent_PutGateIdeal [hPutGateIdeal : Cert.PutGateIdeal.Facts] : Prop :=
  ∀ (m : (ℓ : Loc Cert.PutGateIdeal.nD Cert.PutGateIdeal.τ Cert.PutGateIdeal.sig) → Buf (Elt Ideal) ℓ) (g : Dev Cert.PutGateIdeal.nD → PrngReg), Pre_PutGateIdeal m →
    θ_run (Cert.PutGateIdeal.defs (F := Ideal)) (onTc (τ := Cert.PutGateIdeal.τ) (Cert.PutGateIdeal.main (F := Ideal))) ⟨m, fun _ => 0, g⟩ (fun r => (∀ c : Dev Cert.PutGateIdeal.nD,
      r.2.mem ((c.tc : Thread Cert.PutGateIdeal.nD Cert.PutGateIdeal.τ).loc Cert.PutGateIdeal.main_arg0) = m ((c.tc : Thread Cert.PutGateIdeal.nD Cert.PutGateIdeal.τ).loc Cert.PutGateIdeal.main_arg0)
      ∧ r.2.mem ((c.tc : Thread Cert.PutGateIdeal.nD Cert.PutGateIdeal.τ).loc Cert.PutGateIdeal.main_arg1) = m ((c.tc : Thread Cert.PutGateIdeal.nD Cert.PutGateIdeal.τ).loc Cert.PutGateIdeal.main_arg1))
      ∧ r.2.sem = fun _ => 0)

def quiescent_PutGateRefIdeal [hPutGateRefIdeal : Cert.PutGateRefIdeal.Facts] : Prop :=
  ∀ (m : (ℓ : Loc Cert.PutGateRefIdeal.nD Cert.PutGateRefIdeal.τ Cert.PutGateRefIdeal.sig) → Buf (Elt Ideal) ℓ) (g : Dev Cert.PutGateRefIdeal.nD → PrngReg), Pre_PutGateRefIdeal m →
    θ_run (Cert.PutGateRefIdeal.defs (F := Ideal)) (onTc (τ := Cert.PutGateRefIdeal.τ) (Cert.PutGateRefIdeal.main (F := Ideal))) ⟨m, fun _ => 0, g⟩ (fun r => (∀ c : Dev Cert.PutGateRefIdeal.nD,
      r.2.mem ((c.tc : Thread Cert.PutGateRefIdeal.nD Cert.PutGateRefIdeal.τ).loc Cert.PutGateRefIdeal.main_arg0) = m ((c.tc : Thread Cert.PutGateRefIdeal.nD Cert.PutGateRefIdeal.τ).loc Cert.PutGateRefIdeal.main_arg0)
      ∧ r.2.mem ((c.tc : Thread Cert.PutGateRefIdeal.nD Cert.PutGateRefIdeal.τ).loc Cert.PutGateRefIdeal.main_arg1) = m ((c.tc : Thread Cert.PutGateRefIdeal.nD Cert.PutGateRefIdeal.τ).loc Cert.PutGateRefIdeal.main_arg1))
      ∧ r.2.sem = fun _ => 0)

def quiescent_RowsIn [hRowsIn : Cert.RowsIn.Facts] : Prop :=
  ∀ (m : (ℓ : Loc Cert.RowsIn.nD Cert.RowsIn.τ Cert.RowsIn.sig) → Buf (Elt Bits) ℓ) (g : Dev Cert.RowsIn.nD → PrngReg), Pre_RowsIn m →
    θ_run (Cert.RowsIn.defs (F := Bits)) (onTc (τ := Cert.RowsIn.τ) (Cert.RowsIn.main (F := Bits))) ⟨m, fun _ => 0, g⟩ (fun r => (∀ c : Dev Cert.RowsIn.nD,
      r.2.mem ((c.tc : Thread Cert.RowsIn.nD Cert.RowsIn.τ).loc Cert.RowsIn.main_arg0) = m ((c.tc : Thread Cert.RowsIn.nD Cert.RowsIn.τ).loc Cert.RowsIn.main_arg0))
      ∧ r.2.sem = fun _ => 0)

def quiescent_RowsInIdeal [hRowsInIdeal : Cert.RowsInIdeal.Facts] : Prop :=
  ∀ (m : (ℓ : Loc Cert.RowsInIdeal.nD Cert.RowsInIdeal.τ Cert.RowsInIdeal.sig) → Buf (Elt Ideal) ℓ) (g : Dev Cert.RowsInIdeal.nD → PrngReg), Pre_RowsInIdeal m →
    θ_run (Cert.RowsInIdeal.defs (F := Ideal)) (onTc (τ := Cert.RowsInIdeal.τ) (Cert.RowsInIdeal.main (F := Ideal))) ⟨m, fun _ => 0, g⟩ (fun r => (∀ c : Dev Cert.RowsInIdeal.nD,
      r.2.mem ((c.tc : Thread Cert.RowsInIdeal.nD Cert.RowsInIdeal.τ).loc Cert.RowsInIdeal.main_arg0) = m ((c.tc : Thread Cert.RowsInIdeal.nD Cert.RowsInIdeal.τ).loc Cert.RowsInIdeal.main_arg0))
      ∧ r.2.sem = fun _ => 0)

def quiescent_RowsInRefIdeal [hRowsInRefIdeal : Cert.RowsInRefIdeal.Facts] : Prop :=
  ∀ (m : (ℓ : Loc Cert.RowsInRefIdeal.nD Cert.RowsInRefIdeal.τ Cert.RowsInRefIdeal.sig) → Buf (Elt Ideal) ℓ) (g : Dev Cert.RowsInRefIdeal.nD → PrngReg), Pre_RowsInRefIdeal m →
    θ_run (Cert.RowsInRefIdeal.defs (F := Ideal)) (onTc (τ := Cert.RowsInRefIdeal.τ) (Cert.RowsInRefIdeal.main (F := Ideal))) ⟨m, fun _ => 0, g⟩ (fun r => (∀ c : Dev Cert.RowsInRefIdeal.nD,
      r.2.mem ((c.tc : Thread Cert.RowsInRefIdeal.nD Cert.RowsInRefIdeal.τ).loc Cert.RowsInRefIdeal.main_arg0) = m ((c.tc : Thread Cert.RowsInRefIdeal.nD Cert.RowsInRefIdeal.τ).loc Cert.RowsInRefIdeal.main_arg0))
      ∧ r.2.sem = fun _ => 0)

def quiescent_RowsOut [hRowsOut : Cert.RowsOut.Facts] : Prop :=
  ∀ (m : (ℓ : Loc Cert.RowsOut.nD Cert.RowsOut.τ Cert.RowsOut.sig) → Buf (Elt Bits) ℓ) (g : Dev Cert.RowsOut.nD → PrngReg), Pre_RowsOut m →
    θ_run (Cert.RowsOut.defs (F := Bits)) (onTc (τ := Cert.RowsOut.τ) (Cert.RowsOut.main (F := Bits))) ⟨m, fun _ => 0, g⟩ (fun r => (∀ c : Dev Cert.RowsOut.nD,
      r.2.mem ((c.tc : Thread Cert.RowsOut.nD Cert.RowsOut.τ).loc Cert.RowsOut.main_arg0) = m ((c.tc : Thread Cert.RowsOut.nD Cert.RowsOut.τ).loc Cert.RowsOut.main_arg0))
      ∧ r.2.sem = fun _ => 0)

def quiescent_RowsOutIdeal [hRowsOutIdeal : Cert.RowsOutIdeal.Facts] : Prop :=
  ∀ (m : (ℓ : Loc Cert.RowsOutIdeal.nD Cert.RowsOutIdeal.τ Cert.RowsOutIdeal.sig) → Buf (Elt Ideal) ℓ) (g : Dev Cert.RowsOutIdeal.nD → PrngReg), Pre_RowsOutIdeal m →
    θ_run (Cert.RowsOutIdeal.defs (F := Ideal)) (onTc (τ := Cert.RowsOutIdeal.τ) (Cert.RowsOutIdeal.main (F := Ideal))) ⟨m, fun _ => 0, g⟩ (fun r => (∀ c : Dev Cert.RowsOutIdeal.nD,
      r.2.mem ((c.tc : Thread Cert.RowsOutIdeal.nD Cert.RowsOutIdeal.τ).loc Cert.RowsOutIdeal.main_arg0) = m ((c.tc : Thread Cert.RowsOutIdeal.nD Cert.RowsOutIdeal.τ).loc Cert.RowsOutIdeal.main_arg0))
      ∧ r.2.sem = fun _ => 0)

def quiescent_RowsOutRefIdeal [hRowsOutRefIdeal : Cert.RowsOutRefIdeal.Facts] : Prop :=
  ∀ (m : (ℓ : Loc Cert.RowsOutRefIdeal.nD Cert.RowsOutRefIdeal.τ Cert.RowsOutRefIdeal.sig) → Buf (Elt Ideal) ℓ) (g : Dev Cert.RowsOutRefIdeal.nD → PrngReg), Pre_RowsOutRefIdeal m →
    θ_run (Cert.RowsOutRefIdeal.defs (F := Ideal)) (onTc (τ := Cert.RowsOutRefIdeal.τ) (Cert.RowsOutRefIdeal.main (F := Ideal))) ⟨m, fun _ => 0, g⟩ (fun r => (∀ c : Dev Cert.RowsOutRefIdeal.nD,
      r.2.mem ((c.tc : Thread Cert.RowsOutRefIdeal.nD Cert.RowsOutRefIdeal.τ).loc Cert.RowsOutRefIdeal.main_arg0) = m ((c.tc : Thread Cert.RowsOutRefIdeal.nD Cert.RowsOutRefIdeal.τ).loc Cert.RowsOutRefIdeal.main_arg0))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3))
      ∧ r.2.sem = fun _ => 0)

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v14)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v14) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v16) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2))

def preserves_ProjWgrad_ProjWgradIdeal : Prop :=
  True

def algebraic_ProjWgradIdeal_ProjWgradRefIdeal [hProjWgradIdeal : Cert.ProjWgradIdeal.Facts] [hProjWgradRefIdeal : Cert.ProjWgradRefIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradRefIdeal.nD Cert.ProjWgradRefIdeal.τ Cert.ProjWgradRefIdeal.sig) → Buf (Elt Ideal) ℓ) (g' : Dev Cert.ProjWgradRefIdeal.nD → PrngReg), Pre_ProjWgradIdeal m →
    (∀ c : Dev Cert.ProjWgradIdeal.nD,
      m' ((c.tc : Thread Cert.ProjWgradRefIdeal.nD Cert.ProjWgradRefIdeal.τ).loc Cert.ProjWgradRefIdeal.main_arg0) = m ((c.tc : Thread Cert.ProjWgradIdeal.nD Cert.ProjWgradIdeal.τ).loc Cert.ProjWgradIdeal.main_arg0)
      ∧ m' ((c.tc : Thread Cert.ProjWgradRefIdeal.nD Cert.ProjWgradRefIdeal.τ).loc Cert.ProjWgradRefIdeal.main_arg1) = m ((c.tc : Thread Cert.ProjWgradIdeal.nD Cert.ProjWgradIdeal.τ).loc Cert.ProjWgradIdeal.main_arg1)
      ∧ m' ((c.tc : Thread Cert.ProjWgradRefIdeal.nD Cert.ProjWgradRefIdeal.τ).loc Cert.ProjWgradRefIdeal.main_arg2) = m ((c.tc : Thread Cert.ProjWgradIdeal.nD Cert.ProjWgradIdeal.τ).loc Cert.ProjWgradIdeal.main_arg2)) →
    ∃ (v0 : (c : Dev Cert.ProjWgradIdeal.nD) → Buf (Elt Ideal) ((c.tc : Thread Cert.ProjWgradIdeal.nD Cert.ProjWgradIdeal.τ).loc Cert.ProjWgradIdeal.main_v14)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v14) = v0 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1)
          ∧ r.2.mem ((c.tc : Thread Cert.ProjWgradIdeal.nD Cert.ProjWgradIdeal.τ).loc Cert.ProjWgradIdeal.main_arg2) = m ((c.tc : Thread Cert.ProjWgradIdeal.nD Cert.ProjWgradIdeal.τ).loc Cert.ProjWgradIdeal.main_arg2))
      ∧ θ_run (Cert.ProjWgradRefIdeal.defs (F := Ideal)) (onTc (τ := Cert.ProjWgradRefIdeal.τ) (Cert.ProjWgradRefIdeal.main (F := Ideal))) ⟨m', fun _ => 0, g'⟩ (fun r => ∀ c : Dev Cert.ProjWgradRefIdeal.nD,
          r.2.mem ((c.tc : Thread Cert.ProjWgradRefIdeal.nD Cert.ProjWgradRefIdeal.τ).loc Cert.ProjWgradRefIdeal.main_v20) = v0 c
          ∧ r.2.mem ((c.tc : Thread Cert.ProjWgradRefIdeal.nD Cert.ProjWgradRefIdeal.τ).loc Cert.ProjWgradRefIdeal.main_arg0) = m' ((c.tc : Thread Cert.ProjWgradRefIdeal.nD Cert.ProjWgradRefIdeal.τ).loc Cert.ProjWgradRefIdeal.main_arg0)
          ∧ r.2.mem ((c.tc : Thread Cert.ProjWgradRefIdeal.nD Cert.ProjWgradRefIdeal.τ).loc Cert.ProjWgradRefIdeal.main_arg1) = m' ((c.tc : Thread Cert.ProjWgradRefIdeal.nD Cert.ProjWgradRefIdeal.τ).loc Cert.ProjWgradRefIdeal.main_arg1)
          ∧ r.2.mem ((c.tc : Thread Cert.ProjWgradRefIdeal.nD Cert.ProjWgradRefIdeal.τ).loc Cert.ProjWgradRefIdeal.main_arg2) = m' ((c.tc : Thread Cert.ProjWgradRefIdeal.nD Cert.ProjWgradRefIdeal.τ).loc Cert.ProjWgradRefIdeal.main_arg2))

def preserves_FfnWgrad_FfnWgradIdeal : Prop :=
  True

def algebraic_FfnWgradIdeal_FfnWgradRefIdeal [hFfnWgradIdeal : Cert.FfnWgradIdeal.Facts] [hFfnWgradRefIdeal : Cert.FfnWgradRefIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg)
    (m' : (ℓ : Loc Cert.FfnWgradRefIdeal.nD Cert.FfnWgradRefIdeal.τ Cert.FfnWgradRefIdeal.sig) → Buf (Elt Ideal) ℓ) (g' : Dev Cert.FfnWgradRefIdeal.nD → PrngReg), Pre_FfnWgradIdeal m →
    (∀ c : Dev Cert.FfnWgradIdeal.nD,
      m' ((c.tc : Thread Cert.FfnWgradRefIdeal.nD Cert.FfnWgradRefIdeal.τ).loc Cert.FfnWgradRefIdeal.main_arg0) = m ((c.tc : Thread Cert.FfnWgradIdeal.nD Cert.FfnWgradIdeal.τ).loc Cert.FfnWgradIdeal.main_arg0)
      ∧ m' ((c.tc : Thread Cert.FfnWgradRefIdeal.nD Cert.FfnWgradRefIdeal.τ).loc Cert.FfnWgradRefIdeal.main_arg1) = m ((c.tc : Thread Cert.FfnWgradIdeal.nD Cert.FfnWgradIdeal.τ).loc Cert.FfnWgradIdeal.main_arg1)
      ∧ m' ((c.tc : Thread Cert.FfnWgradRefIdeal.nD Cert.FfnWgradRefIdeal.τ).loc Cert.FfnWgradRefIdeal.main_arg2) = m ((c.tc : Thread Cert.FfnWgradIdeal.nD Cert.FfnWgradIdeal.τ).loc Cert.FfnWgradIdeal.main_arg2)) →
    ∃ (v0 : (c : Dev Cert.FfnWgradIdeal.nD) → Buf (Elt Ideal) ((c.tc : Thread Cert.FfnWgradIdeal.nD Cert.FfnWgradIdeal.τ).loc Cert.FfnWgradIdeal.main_v14)),
      θ_run (Cert.FfnWgradIdeal.defs (F := Ideal)) (onTc (τ := Cert.FfnWgradIdeal.τ) (Cert.FfnWgradIdeal.main (F := Ideal))) ⟨m, fun _ => 0, g⟩ (fun r => ∀ c : Dev Cert.FfnWgradIdeal.nD,
          r.2.mem ((c.tc : Thread Cert.FfnWgradIdeal.nD Cert.FfnWgradIdeal.τ).loc Cert.FfnWgradIdeal.main_v14) = v0 c
          ∧ r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
          ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
          ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2))
      ∧ θ_run (Cert.FfnWgradRefIdeal.defs (F := Ideal)) (onTc (τ := Cert.FfnWgradRefIdeal.τ) (Cert.FfnWgradRefIdeal.main (F := Ideal))) ⟨m', fun _ => 0, g'⟩ (fun r => ∀ c : Dev Cert.FfnWgradRefIdeal.nD,
          r.2.mem ((c.tc : Thread Cert.FfnWgradRefIdeal.nD Cert.FfnWgradRefIdeal.τ).loc Cert.FfnWgradRefIdeal.main_v20) = v0 c
          ∧ r.2.mem ((c.tc : Thread Cert.FfnWgradRefIdeal.nD Cert.FfnWgradRefIdeal.τ).loc Cert.FfnWgradRefIdeal.main_arg0) = m' ((c.tc : Thread Cert.FfnWgradRefIdeal.nD Cert.FfnWgradRefIdeal.τ).loc Cert.FfnWgradRefIdeal.main_arg0)
          ∧ r.2.mem ((c.tc : Thread Cert.FfnWgradRefIdeal.nD Cert.FfnWgradRefIdeal.τ).loc Cert.FfnWgradRefIdeal.main_arg1) = m' ((c.tc : Thread Cert.FfnWgradRefIdeal.nD Cert.FfnWgradRefIdeal.τ).loc Cert.FfnWgradRefIdeal.main_arg1)
          ∧ r.2.mem ((c.tc : Thread Cert.FfnWgradRefIdeal.nD Cert.FfnWgradRefIdeal.τ).loc Cert.FfnWgradRefIdeal.main_arg2) = m' ((c.tc : Thread Cert.FfnWgradRefIdeal.nD Cert.FfnWgradRefIdeal.τ).loc Cert.FfnWgradRefIdeal.main_arg2))

def preserves_FfnDownWgrad_FfnDownWgradIdeal : Prop :=
  True

def algebraic_FfnDownWgradIdeal_FfnDownWgradRefIdeal [hFfnDownWgradIdeal : Cert.FfnDownWgradIdeal.Facts] [hFfnDownWgradRefIdeal : Cert.FfnDownWgradRefIdeal.Facts] : Prop :=
  ∀ (m : (ℓ : Loc Cert.FfnDownWgradIdeal.nD Cert.FfnDownWgradIdeal.τ Cert.FfnDownWgradIdeal.sig) → Buf (Elt Ideal) ℓ) (g : Dev Cert.FfnDownWgradIdeal.nD → PrngReg)
    (m' : (ℓ : Loc Cert.FfnDownWgradRefIdeal.nD Cert.FfnDownWgradRefIdeal.τ Cert.FfnDownWgradRefIdeal.sig) → Buf (Elt Ideal) ℓ) (g' : Dev Cert.FfnDownWgradRefIdeal.nD → PrngReg), Pre_FfnDownWgradIdeal m →
    (∀ c : Dev Cert.FfnDownWgradIdeal.nD,
      m' ((c.tc : Thread Cert.FfnDownWgradRefIdeal.nD Cert.FfnDownWgradRefIdeal.τ).loc Cert.FfnDownWgradRefIdeal.main_arg0) = m ((c.tc : Thread Cert.FfnDownWgradIdeal.nD Cert.FfnDownWgradIdeal.τ).loc Cert.FfnDownWgradIdeal.main_arg0)
      ∧ m' ((c.tc : Thread Cert.FfnDownWgradRefIdeal.nD Cert.FfnDownWgradRefIdeal.τ).loc Cert.FfnDownWgradRefIdeal.main_arg1) = m ((c.tc : Thread Cert.FfnDownWgradIdeal.nD Cert.FfnDownWgradIdeal.τ).loc Cert.FfnDownWgradIdeal.main_arg1)) →
    ∃ (v0 : (c : Dev Cert.FfnDownWgradIdeal.nD) → Buf (Elt Ideal) ((c.tc : Thread Cert.FfnDownWgradIdeal.nD Cert.FfnDownWgradIdeal.τ).loc Cert.FfnDownWgradIdeal.main_v0)),
      θ_run (Cert.FfnDownWgradIdeal.defs (F := Ideal)) (onTc (τ := Cert.FfnDownWgradIdeal.τ) (Cert.FfnDownWgradIdeal.main (F := Ideal))) ⟨m, fun _ => 0, g⟩ (fun r => ∀ c : Dev Cert.FfnDownWgradIdeal.nD,
          r.2.mem ((c.tc : Thread Cert.FfnDownWgradIdeal.nD Cert.FfnDownWgradIdeal.τ).loc Cert.FfnDownWgradIdeal.main_v0) = v0 c
          ∧ r.2.mem ((c.tc : Thread Cert.FfnDownWgradIdeal.nD Cert.FfnDownWgradIdeal.τ).loc Cert.FfnDownWgradIdeal.main_arg0) = m ((c.tc : Thread Cert.FfnDownWgradIdeal.nD Cert.FfnDownWgradIdeal.τ).loc Cert.FfnDownWgradIdeal.main_arg0)
          ∧ r.2.mem ((c.tc : Thread Cert.FfnDownWgradIdeal.nD Cert.FfnDownWgradIdeal.τ).loc Cert.FfnDownWgradIdeal.main_arg1) = m ((c.tc : Thread Cert.FfnDownWgradIdeal.nD Cert.FfnDownWgradIdeal.τ).loc Cert.FfnDownWgradIdeal.main_arg1))
      ∧ θ_run (Cert.FfnDownWgradRefIdeal.defs (F := Ideal)) (onTc (τ := Cert.FfnDownWgradRefIdeal.τ) (Cert.FfnDownWgradRefIdeal.main (F := Ideal))) ⟨m', fun _ => 0, g'⟩ (fun r => ∀ c : Dev Cert.FfnDownWgradRefIdeal.nD,
          r.2.mem ((c.tc : Thread Cert.FfnDownWgradRefIdeal.nD Cert.FfnDownWgradRefIdeal.τ).loc Cert.FfnDownWgradRefIdeal.main_v6) = v0 c
          ∧ r.2.mem ((c.tc : Thread Cert.FfnDownWgradRefIdeal.nD Cert.FfnDownWgradRefIdeal.τ).loc Cert.FfnDownWgradRefIdeal.main_arg0) = m' ((c.tc : Thread Cert.FfnDownWgradRefIdeal.nD Cert.FfnDownWgradRefIdeal.τ).loc Cert.FfnDownWgradRefIdeal.main_arg0)
          ∧ r.2.mem ((c.tc : Thread Cert.FfnDownWgradRefIdeal.nD Cert.FfnDownWgradRefIdeal.τ).loc Cert.FfnDownWgradRefIdeal.main_arg1) = m' ((c.tc : Thread Cert.FfnDownWgradRefIdeal.nD Cert.FfnDownWgradRefIdeal.τ).loc Cert.FfnDownWgradRefIdeal.main_arg1))

def preserves_MixerWgrad_MixerWgradIdeal : Prop :=
  True

def algebraic_MixerWgradIdeal_MixerWgradRefIdeal [hMixerWgradIdeal : Cert.MixerWgradIdeal.Facts] [hMixerWgradRefIdeal : Cert.MixerWgradRefIdeal.Facts] : Prop :=
  ∀ (m : (ℓ : Loc Cert.MixerWgradIdeal.nD Cert.MixerWgradIdeal.τ Cert.MixerWgradIdeal.sig) → Buf (Elt Ideal) ℓ) (g : Dev Cert.MixerWgradIdeal.nD → PrngReg)
    (m' : (ℓ : Loc Cert.MixerWgradRefIdeal.nD Cert.MixerWgradRefIdeal.τ Cert.MixerWgradRefIdeal.sig) → Buf (Elt Ideal) ℓ) (g' : Dev Cert.MixerWgradRefIdeal.nD → PrngReg), Pre_MixerWgradIdeal m →
    (∀ c : Dev Cert.MixerWgradIdeal.nD,
      m' ((c.tc : Thread Cert.MixerWgradRefIdeal.nD Cert.MixerWgradRefIdeal.τ).loc Cert.MixerWgradRefIdeal.main_arg0) = m ((c.tc : Thread Cert.MixerWgradIdeal.nD Cert.MixerWgradIdeal.τ).loc Cert.MixerWgradIdeal.main_arg0)
      ∧ m' ((c.tc : Thread Cert.MixerWgradRefIdeal.nD Cert.MixerWgradRefIdeal.τ).loc Cert.MixerWgradRefIdeal.main_arg1) = m ((c.tc : Thread Cert.MixerWgradIdeal.nD Cert.MixerWgradIdeal.τ).loc Cert.MixerWgradIdeal.main_arg1)) →
    ∃ (v0 : (c : Dev Cert.MixerWgradIdeal.nD) → Buf (Elt Ideal) ((c.tc : Thread Cert.MixerWgradIdeal.nD Cert.MixerWgradIdeal.τ).loc Cert.MixerWgradIdeal.main_v0)),
      θ_run (Cert.MixerWgradIdeal.defs (F := Ideal)) (onTc (τ := Cert.MixerWgradIdeal.τ) (Cert.MixerWgradIdeal.main (F := Ideal))) ⟨m, fun _ => 0, g⟩ (fun r => ∀ c : Dev Cert.MixerWgradIdeal.nD,
          r.2.mem ((c.tc : Thread Cert.MixerWgradIdeal.nD Cert.MixerWgradIdeal.τ).loc Cert.MixerWgradIdeal.main_v0) = v0 c
          ∧ r.2.mem ((c.tc : Thread Cert.MixerWgradIdeal.nD Cert.MixerWgradIdeal.τ).loc Cert.MixerWgradIdeal.main_arg0) = m ((c.tc : Thread Cert.MixerWgradIdeal.nD Cert.MixerWgradIdeal.τ).loc Cert.MixerWgradIdeal.main_arg0)
          ∧ r.2.mem ((c.tc : Thread Cert.MixerWgradIdeal.nD Cert.MixerWgradIdeal.τ).loc Cert.MixerWgradIdeal.main_arg1) = m ((c.tc : Thread Cert.MixerWgradIdeal.nD Cert.MixerWgradIdeal.τ).loc Cert.MixerWgradIdeal.main_arg1))
      ∧ θ_run (Cert.MixerWgradRefIdeal.defs (F := Ideal)) (onTc (τ := Cert.MixerWgradRefIdeal.τ) (Cert.MixerWgradRefIdeal.main (F := Ideal))) ⟨m', fun _ => 0, g'⟩ (fun r => ∀ c : Dev Cert.MixerWgradRefIdeal.nD,
          r.2.mem ((c.tc : Thread Cert.MixerWgradRefIdeal.nD Cert.MixerWgradRefIdeal.τ).loc Cert.MixerWgradRefIdeal.main_v6) = v0 c
          ∧ r.2.mem ((c.tc : Thread Cert.MixerWgradRefIdeal.nD Cert.MixerWgradRefIdeal.τ).loc Cert.MixerWgradRefIdeal.main_arg0) = m' ((c.tc : Thread Cert.MixerWgradRefIdeal.nD Cert.MixerWgradRefIdeal.τ).loc Cert.MixerWgradRefIdeal.main_arg0)
          ∧ r.2.mem ((c.tc : Thread Cert.MixerWgradRefIdeal.nD Cert.MixerWgradRefIdeal.τ).loc Cert.MixerWgradRefIdeal.main_arg1) = m' ((c.tc : Thread Cert.MixerWgradRefIdeal.nD Cert.MixerWgradRefIdeal.τ).loc Cert.MixerWgradRefIdeal.main_arg1))

def preserves_MixerBwd_MixerBwdIdeal : Prop :=
  True

def algebraic_MixerBwdIdeal_MixerBwdRefIdeal_on_mixer_bwd_written [hMixerBwdIdeal : Cert.MixerBwdIdeal.Facts] [hMixerBwdRefIdeal : Cert.MixerBwdRefIdeal.Facts] [hOn_mixer_bwd_written : Cert.On_mixer_bwd_written.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg)
    (m' : (ℓ : Loc Cert.MixerBwdRefIdeal.nD Cert.MixerBwdRefIdeal.τ Cert.MixerBwdRefIdeal.sig) → Buf (Elt Ideal) ℓ) (g' : Dev Cert.MixerBwdRefIdeal.nD → PrngReg), Pre_MixerBwdIdeal m →
    (∀ c : Dev Cert.MixerBwdIdeal.nD,
      m' ((c.tc : Thread Cert.MixerBwdRefIdeal.nD Cert.MixerBwdRefIdeal.τ).loc Cert.MixerBwdRefIdeal.main_arg0) = m ((c.tc : Thread Cert.MixerBwdIdeal.nD Cert.MixerBwdIdeal.τ).loc Cert.MixerBwdIdeal.main_arg0)
      ∧ m' ((c.tc : Thread Cert.MixerBwdRefIdeal.nD Cert.MixerBwdRefIdeal.τ).loc Cert.MixerBwdRefIdeal.main_arg1) = m ((c.tc : Thread Cert.MixerBwdIdeal.nD Cert.MixerBwdIdeal.τ).loc Cert.MixerBwdIdeal.main_arg1)
      ∧ m' ((c.tc : Thread Cert.MixerBwdRefIdeal.nD Cert.MixerBwdRefIdeal.τ).loc Cert.MixerBwdRefIdeal.main_arg2) = m ((c.tc : Thread Cert.MixerBwdIdeal.nD Cert.MixerBwdIdeal.τ).loc Cert.MixerBwdIdeal.main_arg2)
      ∧ m' ((c.tc : Thread Cert.MixerBwdRefIdeal.nD Cert.MixerBwdRefIdeal.τ).loc Cert.MixerBwdRefIdeal.main_arg3) = m ((c.tc : Thread Cert.MixerBwdIdeal.nD Cert.MixerBwdIdeal.τ).loc Cert.MixerBwdIdeal.main_arg3)
      ∧ m' ((c.tc : Thread Cert.MixerBwdRefIdeal.nD Cert.MixerBwdRefIdeal.τ).loc Cert.MixerBwdRefIdeal.main_arg4) = m ((c.tc : Thread Cert.MixerBwdIdeal.nD Cert.MixerBwdIdeal.τ).loc Cert.MixerBwdIdeal.main_arg4)
      ∧ m' ((c.tc : Thread Cert.MixerBwdRefIdeal.nD Cert.MixerBwdRefIdeal.τ).loc Cert.MixerBwdRefIdeal.main_arg5) = m ((c.tc : Thread Cert.MixerBwdIdeal.nD Cert.MixerBwdIdeal.τ).loc Cert.MixerBwdIdeal.main_arg5)
      ∧ m' ((c.tc : Thread Cert.MixerBwdRefIdeal.nD Cert.MixerBwdRefIdeal.τ).loc Cert.MixerBwdRefIdeal.main_arg6) = m ((c.tc : Thread Cert.MixerBwdIdeal.nD Cert.MixerBwdIdeal.τ).loc Cert.MixerBwdIdeal.main_arg6)) →
    ∃ (v0 : (c : Dev Cert.MixerBwdIdeal.nD) → Buf (Elt Ideal) ((c.tc : Thread Cert.MixerBwdIdeal.nD Cert.MixerBwdIdeal.τ).loc Cert.MixerBwdIdeal.main_v8_0)) (v1 : (c : Dev Cert.MixerBwdIdeal.nD) → Buf (Elt Ideal) ((c.tc : Thread Cert.MixerBwdIdeal.nD Cert.MixerBwdIdeal.τ).loc Cert.MixerBwdIdeal.main_v8_1)) (v2 : (c : Dev Cert.MixerBwdIdeal.nD) → Buf (Elt Ideal) ((c.tc : Thread Cert.MixerBwdIdeal.nD Cert.MixerBwdIdeal.τ).loc Cert.MixerBwdIdeal.main_v8_2)) (v3 : (c : Dev Cert.MixerBwdIdeal.nD) → Buf (Elt Ideal) ((c.tc : Thread Cert.MixerBwdIdeal.nD Cert.MixerBwdIdeal.τ).loc Cert.MixerBwdIdeal.main_v8_3)) (v4 : (c : Dev Cert.MixerBwdIdeal.nD) → Buf (Elt Ideal) ((c.tc : Thread Cert.MixerBwdIdeal.nD Cert.MixerBwdIdeal.τ).loc Cert.MixerBwdIdeal.main_v8_4)),
      θ_run (Cert.MixerBwdIdeal.defs (F := Ideal)) (onTc (τ := Cert.MixerBwdIdeal.τ) (Cert.MixerBwdIdeal.main (F := Ideal))) ⟨m, fun _ => 0, g⟩ (fun r => ∀ c : Dev Cert.MixerBwdIdeal.nD,
          (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).1 i = 1#1 → r.2.mem ((c.tc : Thread Cert.MixerBwdIdeal.nD Cert.MixerBwdIdeal.τ).loc Cert.MixerBwdIdeal.main_v8_0) i = v0 c i)
          ∧ (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.1 i = 1#1 → r.2.mem ((c.tc : Thread Cert.MixerBwdIdeal.nD Cert.MixerBwdIdeal.τ).loc Cert.MixerBwdIdeal.main_v8_1) i = v1 c i)
          ∧ (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.2.1 i = 1#1 → r.2.mem ((c.tc : Thread Cert.MixerBwdIdeal.nD Cert.MixerBwdIdeal.τ).loc Cert.MixerBwdIdeal.main_v8_2) i = v2 c i)
          ∧ (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.2.2.1 i = 1#1 → r.2.mem ((c.tc : Thread Cert.MixerBwdIdeal.nD Cert.MixerBwdIdeal.τ).loc Cert.MixerBwdIdeal.main_v8_3) i = v3 c i)
          ∧ (∀ i : (⟨2, ![4096, 8320]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.2.2.2 i = 1#1 → r.2.mem ((c.tc : Thread Cert.MixerBwdIdeal.nD Cert.MixerBwdIdeal.τ).loc Cert.MixerBwdIdeal.main_v8_4) i = v4 c i)
          ∧ r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
          ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
          ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
          ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
          ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
          ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
          ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6))
      ∧ θ_run (Cert.MixerBwdRefIdeal.defs (F := Ideal)) (onTc (τ := Cert.MixerBwdRefIdeal.τ) (Cert.MixerBwdRefIdeal.main (F := Ideal))) ⟨m', fun _ => 0, g'⟩ (fun r => ∀ c : Dev Cert.MixerBwdRefIdeal.nD,
          (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).1 i = 1#1 → r.2.mem ((c.tc : Thread Cert.MixerBwdRefIdeal.nD Cert.MixerBwdRefIdeal.τ).loc Cert.MixerBwdRefIdeal.main_v45) i = v0 c i)
          ∧ (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.1 i = 1#1 → r.2.mem ((c.tc : Thread Cert.MixerBwdRefIdeal.nD Cert.MixerBwdRefIdeal.τ).loc Cert.MixerBwdRefIdeal.main_v46) i = v1 c i)
          ∧ (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.2.1 i = 1#1 → r.2.mem ((c.tc : Thread Cert.MixerBwdRefIdeal.nD Cert.MixerBwdRefIdeal.τ).loc Cert.MixerBwdRefIdeal.main_v47) i = v2 c i)
          ∧ (∀ i : (⟨2, ![4096, 1024]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.2.2.1 i = 1#1 → r.2.mem ((c.tc : Thread Cert.MixerBwdRefIdeal.nD Cert.MixerBwdRefIdeal.τ).loc Cert.MixerBwdRefIdeal.main_v48) i = v3 c i)
          ∧ (∀ i : (⟨2, ![4096, 8320]⟩ : Shape).Idx, (Cert.On_mixer_bwd_written.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6))).2.2.2.2 i = 1#1 → r.2.mem ((c.tc : Thread Cert.MixerBwdRefIdeal.nD Cert.MixerBwdRefIdeal.τ).loc Cert.MixerBwdRefIdeal.main_v49) i = v4 c i)
          ∧ r.2.mem ((c.tc : Thread Cert.MixerBwdRefIdeal.nD Cert.MixerBwdRefIdeal.τ).loc Cert.MixerBwdRefIdeal.main_arg0) = m' ((c.tc : Thread Cert.MixerBwdRefIdeal.nD Cert.MixerBwdRefIdeal.τ).loc Cert.MixerBwdRefIdeal.main_arg0)
          ∧ r.2.mem ((c.tc : Thread Cert.MixerBwdRefIdeal.nD Cert.MixerBwdRefIdeal.τ).loc Cert.MixerBwdRefIdeal.main_arg1) = m' ((c.tc : Thread Cert.MixerBwdRefIdeal.nD Cert.MixerBwdRefIdeal.τ).loc Cert.MixerBwdRefIdeal.main_arg1)
          ∧ r.2.mem ((c.tc : Thread Cert.MixerBwdRefIdeal.nD Cert.MixerBwdRefIdeal.τ).loc Cert.MixerBwdRefIdeal.main_arg2) = m' ((c.tc : Thread Cert.MixerBwdRefIdeal.nD Cert.MixerBwdRefIdeal.τ).loc Cert.MixerBwdRefIdeal.main_arg2)
          ∧ r.2.mem ((c.tc : Thread Cert.MixerBwdRefIdeal.nD Cert.MixerBwdRefIdeal.τ).loc Cert.MixerBwdRefIdeal.main_arg3) = m' ((c.tc : Thread Cert.MixerBwdRefIdeal.nD Cert.MixerBwdRefIdeal.τ).loc Cert.MixerBwdRefIdeal.main_arg3)
          ∧ r.2.mem ((c.tc : Thread Cert.MixerBwdRefIdeal.nD Cert.MixerBwdRefIdeal.τ).loc Cert.MixerBwdRefIdeal.main_arg4) = m' ((c.tc : Thread Cert.MixerBwdRefIdeal.nD Cert.MixerBwdRefIdeal.τ).loc Cert.MixerBwdRefIdeal.main_arg4)
          ∧ r.2.mem ((c.tc : Thread Cert.MixerBwdRefIdeal.nD Cert.MixerBwdRefIdeal.τ).loc Cert.MixerBwdRefIdeal.main_arg5) = m' ((c.tc : Thread Cert.MixerBwdRefIdeal.nD Cert.MixerBwdRefIdeal.τ).loc Cert.MixerBwdRefIdeal.main_arg5)
          ∧ r.2.mem ((c.tc : Thread Cert.MixerBwdRefIdeal.nD Cert.MixerBwdRefIdeal.τ).loc Cert.MixerBwdRefIdeal.main_arg6) = m' ((c.tc : Thread Cert.MixerBwdRefIdeal.nD Cert.MixerBwdRefIdeal.τ).loc Cert.MixerBwdRefIdeal.main_arg6))

def preserves_FfnInBwd_FfnInBwdIdeal : Prop :=
  True

def algebraic_FfnInBwdIdeal_FfnInBwdRefIdeal [hFfnInBwdIdeal : Cert.FfnInBwdIdeal.Facts] [hFfnInBwdRefIdeal : Cert.FfnInBwdRefIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg)
    (m' : (ℓ : Loc Cert.FfnInBwdRefIdeal.nD Cert.FfnInBwdRefIdeal.τ Cert.FfnInBwdRefIdeal.sig) → Buf (Elt Ideal) ℓ) (g' : Dev Cert.FfnInBwdRefIdeal.nD → PrngReg), Pre_FfnInBwdIdeal m →
    (∀ c : Dev Cert.FfnInBwdIdeal.nD,
      m' ((c.tc : Thread Cert.FfnInBwdRefIdeal.nD Cert.FfnInBwdRefIdeal.τ).loc Cert.FfnInBwdRefIdeal.main_arg0) = m ((c.tc : Thread Cert.FfnInBwdIdeal.nD Cert.FfnInBwdIdeal.τ).loc Cert.FfnInBwdIdeal.main_arg0)
      ∧ m' ((c.tc : Thread Cert.FfnInBwdRefIdeal.nD Cert.FfnInBwdRefIdeal.τ).loc Cert.FfnInBwdRefIdeal.main_arg1) = m ((c.tc : Thread Cert.FfnInBwdIdeal.nD Cert.FfnInBwdIdeal.τ).loc Cert.FfnInBwdIdeal.main_arg1)
      ∧ m' ((c.tc : Thread Cert.FfnInBwdRefIdeal.nD Cert.FfnInBwdRefIdeal.τ).loc Cert.FfnInBwdRefIdeal.main_arg2) = m ((c.tc : Thread Cert.FfnInBwdIdeal.nD Cert.FfnInBwdIdeal.τ).loc Cert.FfnInBwdIdeal.main_arg2)
      ∧ m' ((c.tc : Thread Cert.FfnInBwdRefIdeal.nD Cert.FfnInBwdRefIdeal.τ).loc Cert.FfnInBwdRefIdeal.main_arg3) = m ((c.tc : Thread Cert.FfnInBwdIdeal.nD Cert.FfnInBwdIdeal.τ).loc Cert.FfnInBwdIdeal.main_arg3)
      ∧ m' ((c.tc : Thread Cert.FfnInBwdRefIdeal.nD Cert.FfnInBwdRefIdeal.τ).loc Cert.FfnInBwdRefIdeal.main_arg4) = m ((c.tc : Thread Cert.FfnInBwdIdeal.nD Cert.FfnInBwdIdeal.τ).loc Cert.FfnInBwdIdeal.main_arg4)
      ∧ m' ((c.tc : Thread Cert.FfnInBwdRefIdeal.nD Cert.FfnInBwdRefIdeal.τ).loc Cert.FfnInBwdRefIdeal.main_arg5) = m ((c.tc : Thread Cert.FfnInBwdIdeal.nD Cert.FfnInBwdIdeal.τ).loc Cert.FfnInBwdIdeal.main_arg5)
      ∧ m' ((c.tc : Thread Cert.FfnInBwdRefIdeal.nD Cert.FfnInBwdRefIdeal.τ).loc Cert.FfnInBwdRefIdeal.main_arg6) = m ((c.tc : Thread Cert.FfnInBwdIdeal.nD Cert.FfnInBwdIdeal.τ).loc Cert.FfnInBwdIdeal.main_arg6)) →
    ∃ (v0 : (c : Dev Cert.FfnInBwdIdeal.nD) → Buf (Elt Ideal) ((c.tc : Thread Cert.FfnInBwdIdeal.nD Cert.FfnInBwdIdeal.τ).loc Cert.FfnInBwdIdeal.main_v1_0)) (v1 : (c : Dev Cert.FfnInBwdIdeal.nD) → Buf (Elt Ideal) ((c.tc : Thread Cert.FfnInBwdIdeal.nD Cert.FfnInBwdIdeal.τ).loc Cert.FfnInBwdIdeal.main_v1_1)) (v2 : (c : Dev Cert.FfnInBwdIdeal.nD) → Buf (Elt Ideal) ((c.tc : Thread Cert.FfnInBwdIdeal.nD Cert.FfnInBwdIdeal.τ).loc Cert.FfnInBwdIdeal.main_v1_2)),
      θ_run (Cert.FfnInBwdIdeal.defs (F := Ideal)) (onTc (τ := Cert.FfnInBwdIdeal.τ) (Cert.FfnInBwdIdeal.main (F := Ideal))) ⟨m, fun _ => 0, g⟩ (fun r => ∀ c : Dev Cert.FfnInBwdIdeal.nD,
          r.2.mem ((c.tc : Thread Cert.FfnInBwdIdeal.nD Cert.FfnInBwdIdeal.τ).loc Cert.FfnInBwdIdeal.main_v1_0) = v0 c
          ∧ r.2.mem ((c.tc : Thread Cert.FfnInBwdIdeal.nD Cert.FfnInBwdIdeal.τ).loc Cert.FfnInBwdIdeal.main_v1_1) = v1 c
          ∧ r.2.mem ((c.tc : Thread Cert.FfnInBwdIdeal.nD Cert.FfnInBwdIdeal.τ).loc Cert.FfnInBwdIdeal.main_v1_2) = v2 c
          ∧ r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
          ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
          ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
          ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
          ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
          ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
          ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6))
      ∧ θ_run (Cert.FfnInBwdRefIdeal.defs (F := Ideal)) (onTc (τ := Cert.FfnInBwdRefIdeal.τ) (Cert.FfnInBwdRefIdeal.main (F := Ideal))) ⟨m', fun _ => 0, g'⟩ (fun r => ∀ c : Dev Cert.FfnInBwdRefIdeal.nD,
          r.2.mem ((c.tc : Thread Cert.FfnInBwdRefIdeal.nD Cert.FfnInBwdRefIdeal.τ).loc Cert.FfnInBwdRefIdeal.main_v47) = v0 c
          ∧ r.2.mem ((c.tc : Thread Cert.FfnInBwdRefIdeal.nD Cert.FfnInBwdRefIdeal.τ).loc Cert.FfnInBwdRefIdeal.main_v49) = v1 c
          ∧ r.2.mem ((c.tc : Thread Cert.FfnInBwdRefIdeal.nD Cert.FfnInBwdRefIdeal.τ).loc Cert.FfnInBwdRefIdeal.main_v50) = v2 c
          ∧ r.2.mem ((c.tc : Thread Cert.FfnInBwdRefIdeal.nD Cert.FfnInBwdRefIdeal.τ).loc Cert.FfnInBwdRefIdeal.main_arg0) = m' ((c.tc : Thread Cert.FfnInBwdRefIdeal.nD Cert.FfnInBwdRefIdeal.τ).loc Cert.FfnInBwdRefIdeal.main_arg0)
          ∧ r.2.mem ((c.tc : Thread Cert.FfnInBwdRefIdeal.nD Cert.FfnInBwdRefIdeal.τ).loc Cert.FfnInBwdRefIdeal.main_arg1) = m' ((c.tc : Thread Cert.FfnInBwdRefIdeal.nD Cert.FfnInBwdRefIdeal.τ).loc Cert.FfnInBwdRefIdeal.main_arg1)
          ∧ r.2.mem ((c.tc : Thread Cert.FfnInBwdRefIdeal.nD Cert.FfnInBwdRefIdeal.τ).loc Cert.FfnInBwdRefIdeal.main_arg2) = m' ((c.tc : Thread Cert.FfnInBwdRefIdeal.nD Cert.FfnInBwdRefIdeal.τ).loc Cert.FfnInBwdRefIdeal.main_arg2)
          ∧ r.2.mem ((c.tc : Thread Cert.FfnInBwdRefIdeal.nD Cert.FfnInBwdRefIdeal.τ).loc Cert.FfnInBwdRefIdeal.main_arg3) = m' ((c.tc : Thread Cert.FfnInBwdRefIdeal.nD Cert.FfnInBwdRefIdeal.τ).loc Cert.FfnInBwdRefIdeal.main_arg3)
          ∧ r.2.mem ((c.tc : Thread Cert.FfnInBwdRefIdeal.nD Cert.FfnInBwdRefIdeal.τ).loc Cert.FfnInBwdRefIdeal.main_arg4) = m' ((c.tc : Thread Cert.FfnInBwdRefIdeal.nD Cert.FfnInBwdRefIdeal.τ).loc Cert.FfnInBwdRefIdeal.main_arg4)
          ∧ r.2.mem ((c.tc : Thread Cert.FfnInBwdRefIdeal.nD Cert.FfnInBwdRefIdeal.τ).loc Cert.FfnInBwdRefIdeal.main_arg5) = m' ((c.tc : Thread Cert.FfnInBwdRefIdeal.nD Cert.FfnInBwdRefIdeal.τ).loc Cert.FfnInBwdRefIdeal.main_arg5)
          ∧ r.2.mem ((c.tc : Thread Cert.FfnInBwdRefIdeal.nD Cert.FfnInBwdRefIdeal.τ).loc Cert.FfnInBwdRefIdeal.main_arg6) = m' ((c.tc : Thread Cert.FfnInBwdRefIdeal.nD Cert.FfnInBwdRefIdeal.τ).loc Cert.FfnInBwdRefIdeal.main_arg6))

def preserves_FfnOutBwd_FfnOutBwdIdeal : Prop :=
  True

def algebraic_FfnOutBwdIdeal_FfnOutBwdRefIdeal_pre_ffn_out_bwd_finite [hFfnOutBwdIdeal : Cert.FfnOutBwdIdeal.Facts] [hFfnOutBwdRefIdeal : Cert.FfnOutBwdRefIdeal.Facts] [hPre_ffn_out_bwd_finite : Cert.Pre_ffn_out_bwd_finite.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg)
    (m' : (ℓ : Loc Cert.FfnOutBwdRefIdeal.nD Cert.FfnOutBwdRefIdeal.τ Cert.FfnOutBwdRefIdeal.sig) → Buf (Elt Ideal) ℓ) (g' : Dev Cert.FfnOutBwdRefIdeal.nD → PrngReg), Pre_FfnOutBwdIdeal_ffn_out_bwd_finite m →
    (∀ c : Dev Cert.FfnOutBwdIdeal.nD,
      m' ((c.tc : Thread Cert.FfnOutBwdRefIdeal.nD Cert.FfnOutBwdRefIdeal.τ).loc Cert.FfnOutBwdRefIdeal.main_arg0) = m ((c.tc : Thread Cert.FfnOutBwdIdeal.nD Cert.FfnOutBwdIdeal.τ).loc Cert.FfnOutBwdIdeal.main_arg0)
      ∧ m' ((c.tc : Thread Cert.FfnOutBwdRefIdeal.nD Cert.FfnOutBwdRefIdeal.τ).loc Cert.FfnOutBwdRefIdeal.main_arg1) = m ((c.tc : Thread Cert.FfnOutBwdIdeal.nD Cert.FfnOutBwdIdeal.τ).loc Cert.FfnOutBwdIdeal.main_arg1)
      ∧ m' ((c.tc : Thread Cert.FfnOutBwdRefIdeal.nD Cert.FfnOutBwdRefIdeal.τ).loc Cert.FfnOutBwdRefIdeal.main_arg2) = m ((c.tc : Thread Cert.FfnOutBwdIdeal.nD Cert.FfnOutBwdIdeal.τ).loc Cert.FfnOutBwdIdeal.main_arg2)
      ∧ m' ((c.tc : Thread Cert.FfnOutBwdRefIdeal.nD Cert.FfnOutBwdRefIdeal.τ).loc Cert.FfnOutBwdRefIdeal.main_arg3) = m ((c.tc : Thread Cert.FfnOutBwdIdeal.nD Cert.FfnOutBwdIdeal.τ).loc Cert.FfnOutBwdIdeal.main_arg3)) →
    ∃ (v0 : (c : Dev Cert.FfnOutBwdIdeal.nD) → Buf (Elt Ideal) ((c.tc : Thread Cert.FfnOutBwdIdeal.nD Cert.FfnOutBwdIdeal.τ).loc Cert.FfnOutBwdIdeal.main_v0_0)) (v1 : (c : Dev Cert.FfnOutBwdIdeal.nD) → Buf (Elt Ideal) ((c.tc : Thread Cert.FfnOutBwdIdeal.nD Cert.FfnOutBwdIdeal.τ).loc Cert.FfnOutBwdIdeal.main_v0_1)),
      θ_run (Cert.FfnOutBwdIdeal.defs (F := Ideal)) (onTc (τ := Cert.FfnOutBwdIdeal.τ) (Cert.FfnOutBwdIdeal.main (F := Ideal))) ⟨m, fun _ => 0, g⟩ (fun r => ∀ c : Dev Cert.FfnOutBwdIdeal.nD,
          r.2.mem ((c.tc : Thread Cert.FfnOutBwdIdeal.nD Cert.FfnOutBwdIdeal.τ).loc Cert.FfnOutBwdIdeal.main_v0_0) = v0 c
          ∧ r.2.mem ((c.tc : Thread Cert.FfnOutBwdIdeal.nD Cert.FfnOutBwdIdeal.τ).loc Cert.FfnOutBwdIdeal.main_v0_1) = v1 c
          ∧ r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
          ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
          ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
          ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ θ_run (Cert.FfnOutBwdRefIdeal.defs (F := Ideal)) (onTc (τ := Cert.FfnOutBwdRefIdeal.τ) (Cert.FfnOutBwdRefIdeal.main (F := Ideal))) ⟨m', fun _ => 0, g'⟩ (fun r => ∀ c : Dev Cert.FfnOutBwdRefIdeal.nD,
          r.2.mem ((c.tc : Thread Cert.FfnOutBwdRefIdeal.nD Cert.FfnOutBwdRefIdeal.τ).loc Cert.FfnOutBwdRefIdeal.main_v11) = v0 c
          ∧ r.2.mem ((c.tc : Thread Cert.FfnOutBwdRefIdeal.nD Cert.FfnOutBwdRefIdeal.τ).loc Cert.FfnOutBwdRefIdeal.main_v12) = v1 c
          ∧ r.2.mem ((c.tc : Thread Cert.FfnOutBwdRefIdeal.nD Cert.FfnOutBwdRefIdeal.τ).loc Cert.FfnOutBwdRefIdeal.main_arg0) = m' ((c.tc : Thread Cert.FfnOutBwdRefIdeal.nD Cert.FfnOutBwdRefIdeal.τ).loc Cert.FfnOutBwdRefIdeal.main_arg0)
          ∧ r.2.mem ((c.tc : Thread Cert.FfnOutBwdRefIdeal.nD Cert.FfnOutBwdRefIdeal.τ).loc Cert.FfnOutBwdRefIdeal.main_arg1) = m' ((c.tc : Thread Cert.FfnOutBwdRefIdeal.nD Cert.FfnOutBwdRefIdeal.τ).loc Cert.FfnOutBwdRefIdeal.main_arg1)
          ∧ r.2.mem ((c.tc : Thread Cert.FfnOutBwdRefIdeal.nD Cert.FfnOutBwdRefIdeal.τ).loc Cert.FfnOutBwdRefIdeal.main_arg2) = m' ((c.tc : Thread Cert.FfnOutBwdRefIdeal.nD Cert.FfnOutBwdRefIdeal.τ).loc Cert.FfnOutBwdRefIdeal.main_arg2)
          ∧ r.2.mem ((c.tc : Thread Cert.FfnOutBwdRefIdeal.nD Cert.FfnOutBwdRefIdeal.τ).loc Cert.FfnOutBwdRefIdeal.main_arg3) = m' ((c.tc : Thread Cert.FfnOutBwdRefIdeal.nD Cert.FfnOutBwdRefIdeal.τ).loc Cert.FfnOutBwdRefIdeal.main_arg3))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v1_0)) (v1 : (c : Dev Cert.ProjBwdIdeal.nD) → Buf (Elt Ideal) ((c.tc : Thread Cert.ProjBwdIdeal.nD Cert.ProjBwdIdeal.τ).loc Cert.ProjBwdIdeal.main_v1_1)) (v2 : (c : Dev Cert.ProjBwdIdeal.nD) → Buf (Elt Ideal) ((c.tc : Thread Cert.ProjBwdIdeal.nD Cert.ProjBwdIdeal.τ).loc Cert.ProjBwdIdeal.main_v1_2)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v1_0) = v0 c
          ∧ r.2.mem ((c.tc : Thread Cert.ProjBwdIdeal.nD Cert.ProjBwdIdeal.τ).loc Cert.ProjBwdIdeal.main_v1_1) = v1 c
          ∧ r.2.mem ((c.tc : Thread Cert.ProjBwdIdeal.nD Cert.ProjBwdIdeal.τ).loc Cert.ProjBwdIdeal.main_v1_2) = v2 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v41) = v0 c
          ∧ r.2.mem ((c.tc : Thread Cert.ProjBwdRefIdeal.nD Cert.ProjBwdRefIdeal.τ).loc Cert.ProjBwdRefIdeal.main_v43) = v1 c
          ∧ r.2.mem ((c.tc : Thread Cert.ProjBwdRefIdeal.nD Cert.ProjBwdRefIdeal.τ).loc Cert.ProjBwdRefIdeal.main_v44) = v2 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4))

def preserves_AdamwNorm_AdamwNormIdeal : Prop :=
  IdealRules.named_const.Statement Cert.AdamwNormIdeal.κ "debias_m" .f32 0x3FC48605#32 ((8388608 / 5463681 : ℝ) : EReal)
  ∧ IdealRules.named_const.Statement Cert.AdamwNormIdeal.κ "debias_v" .f32 0x42C8E6D3#32 ((268435456 / 2672307 : ℝ) : EReal)

def algebraic_AdamwNormIdeal_AdamwNormRefIdeal [hAdamwNormIdeal : Cert.AdamwNormIdeal.Facts] [hAdamwNormRefIdeal : Cert.AdamwNormRefIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg)
    (m' : (ℓ : Loc Cert.AdamwNormRefIdeal.nD Cert.AdamwNormRefIdeal.τ Cert.AdamwNormRefIdeal.sig) → Buf (Elt Ideal) ℓ) (g' : Dev Cert.AdamwNormRefIdeal.nD → PrngReg), Pre_AdamwNormIdeal m →
    (∀ c : Dev Cert.AdamwNormIdeal.nD,
      m' ((c.tc : Thread Cert.AdamwNormRefIdeal.nD Cert.AdamwNormRefIdeal.τ).loc Cert.AdamwNormRefIdeal.main_arg0) = m ((c.tc : Thread Cert.AdamwNormIdeal.nD Cert.AdamwNormIdeal.τ).loc Cert.AdamwNormIdeal.main_arg0)
      ∧ m' ((c.tc : Thread Cert.AdamwNormRefIdeal.nD Cert.AdamwNormRefIdeal.τ).loc Cert.AdamwNormRefIdeal.main_arg1) = m ((c.tc : Thread Cert.AdamwNormIdeal.nD Cert.AdamwNormIdeal.τ).loc Cert.AdamwNormIdeal.main_arg1)
      ∧ m' ((c.tc : Thread Cert.AdamwNormRefIdeal.nD Cert.AdamwNormRefIdeal.τ).loc Cert.AdamwNormRefIdeal.main_arg2) = m ((c.tc : Thread Cert.AdamwNormIdeal.nD Cert.AdamwNormIdeal.τ).loc Cert.AdamwNormIdeal.main_arg2)
      ∧ m' ((c.tc : Thread Cert.AdamwNormRefIdeal.nD Cert.AdamwNormRefIdeal.τ).loc Cert.AdamwNormRefIdeal.main_arg3) = m ((c.tc : Thread Cert.AdamwNormIdeal.nD Cert.AdamwNormIdeal.τ).loc Cert.AdamwNormIdeal.main_arg3)) →
    ∃ (v0 : (c : Dev Cert.AdamwNormIdeal.nD) → Buf (Elt Ideal) ((c.tc : Thread Cert.AdamwNormIdeal.nD Cert.AdamwNormIdeal.τ).loc Cert.AdamwNormIdeal.main_v4_0)) (v1 : (c : Dev Cert.AdamwNormIdeal.nD) → Buf (Elt Ideal) ((c.tc : Thread Cert.AdamwNormIdeal.nD Cert.AdamwNormIdeal.τ).loc Cert.AdamwNormIdeal.main_v4_1)) (v2 : (c : Dev Cert.AdamwNormIdeal.nD) → Buf (Elt Ideal) ((c.tc : Thread Cert.AdamwNormIdeal.nD Cert.AdamwNormIdeal.τ).loc Cert.AdamwNormIdeal.main_v4_2)),
      θ_run (Cert.AdamwNormIdeal.defs (F := Ideal)) (onTc (τ := Cert.AdamwNormIdeal.τ) (Cert.AdamwNormIdeal.main (F := Ideal))) ⟨m, fun _ => 0, g⟩ (fun r => ∀ c : Dev Cert.AdamwNormIdeal.nD,
          r.2.mem ((c.tc : Thread Cert.AdamwNormIdeal.nD Cert.AdamwNormIdeal.τ).loc Cert.AdamwNormIdeal.main_v4_0) = v0 c
          ∧ r.2.mem ((c.tc : Thread Cert.AdamwNormIdeal.nD Cert.AdamwNormIdeal.τ).loc Cert.AdamwNormIdeal.main_v4_1) = v1 c
          ∧ r.2.mem ((c.tc : Thread Cert.AdamwNormIdeal.nD Cert.AdamwNormIdeal.τ).loc Cert.AdamwNormIdeal.main_v4_2) = v2 c
          ∧ r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
          ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
          ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
          ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ θ_run (Cert.AdamwNormRefIdeal.defs (F := Ideal)) (onTc (τ := Cert.AdamwNormRefIdeal.τ) (Cert.AdamwNormRefIdeal.main (F := Ideal))) ⟨m', fun _ => 0, g'⟩ (fun r => ∀ c : Dev Cert.AdamwNormRefIdeal.nD,
          r.2.mem ((c.tc : Thread Cert.AdamwNormRefIdeal.nD Cert.AdamwNormRefIdeal.τ).loc Cert.AdamwNormRefIdeal.main_v24) = v0 c
          ∧ r.2.mem ((c.tc : Thread Cert.AdamwNormRefIdeal.nD Cert.AdamwNormRefIdeal.τ).loc Cert.AdamwNormRefIdeal.main_v25) = v1 c
          ∧ r.2.mem ((c.tc : Thread Cert.AdamwNormRefIdeal.nD Cert.AdamwNormRefIdeal.τ).loc Cert.AdamwNormRefIdeal.main_v26) = v2 c
          ∧ r.2.mem ((c.tc : Thread Cert.AdamwNormRefIdeal.nD Cert.AdamwNormRefIdeal.τ).loc Cert.AdamwNormRefIdeal.main_arg0) = m' ((c.tc : Thread Cert.AdamwNormRefIdeal.nD Cert.AdamwNormRefIdeal.τ).loc Cert.AdamwNormRefIdeal.main_arg0)
          ∧ r.2.mem ((c.tc : Thread Cert.AdamwNormRefIdeal.nD Cert.AdamwNormRefIdeal.τ).loc Cert.AdamwNormRefIdeal.main_arg1) = m' ((c.tc : Thread Cert.AdamwNormRefIdeal.nD Cert.AdamwNormRefIdeal.τ).loc Cert.AdamwNormRefIdeal.main_arg1)
          ∧ r.2.mem ((c.tc : Thread Cert.AdamwNormRefIdeal.nD Cert.AdamwNormRefIdeal.τ).loc Cert.AdamwNormRefIdeal.main_arg2) = m' ((c.tc : Thread Cert.AdamwNormRefIdeal.nD Cert.AdamwNormRefIdeal.τ).loc Cert.AdamwNormRefIdeal.main_arg2)
          ∧ r.2.mem ((c.tc : Thread Cert.AdamwNormRefIdeal.nD Cert.AdamwNormRefIdeal.τ).loc Cert.AdamwNormRefIdeal.main_arg3) = m' ((c.tc : Thread Cert.AdamwNormRefIdeal.nD Cert.AdamwNormRefIdeal.τ).loc Cert.AdamwNormRefIdeal.main_arg3))

def preserves_AdamwFinal_AdamwFinalIdeal : Prop :=
  IdealRules.named_const.Statement Cert.AdamwFinalIdeal.κ "debias_m" .f32 0x3FC48605#32 ((8388608 / 5463681 : ℝ) : EReal)
  ∧ IdealRules.named_const.Statement Cert.AdamwFinalIdeal.κ "debias_v" .f32 0x42C8E6D3#32 ((268435456 / 2672307 : ℝ) : EReal)

def algebraic_AdamwFinalIdeal_AdamwFinalRefIdeal [hAdamwFinalIdeal : Cert.AdamwFinalIdeal.Facts] [hAdamwFinalRefIdeal : Cert.AdamwFinalRefIdeal.Facts] : Prop :=
  ∀ (m : (ℓ : Loc Cert.AdamwFinalIdeal.nD Cert.AdamwFinalIdeal.τ Cert.AdamwFinalIdeal.sig) → Buf (Elt Ideal) ℓ) (g : Dev Cert.AdamwFinalIdeal.nD → PrngReg)
    (m' : (ℓ : Loc Cert.AdamwFinalRefIdeal.nD Cert.AdamwFinalRefIdeal.τ Cert.AdamwFinalRefIdeal.sig) → Buf (Elt Ideal) ℓ) (g' : Dev Cert.AdamwFinalRefIdeal.nD → PrngReg), Pre_AdamwFinalIdeal m →
    (∀ c : Dev Cert.AdamwFinalIdeal.nD,
      m' ((c.tc : Thread Cert.AdamwFinalRefIdeal.nD Cert.AdamwFinalRefIdeal.τ).loc Cert.AdamwFinalRefIdeal.main_arg0) = m ((c.tc : Thread Cert.AdamwFinalIdeal.nD Cert.AdamwFinalIdeal.τ).loc Cert.AdamwFinalIdeal.main_arg0)
      ∧ m' ((c.tc : Thread Cert.AdamwFinalRefIdeal.nD Cert.AdamwFinalRefIdeal.τ).loc Cert.AdamwFinalRefIdeal.main_arg1) = m ((c.tc : Thread Cert.AdamwFinalIdeal.nD Cert.AdamwFinalIdeal.τ).loc Cert.AdamwFinalIdeal.main_arg1)
      ∧ m' ((c.tc : Thread Cert.AdamwFinalRefIdeal.nD Cert.AdamwFinalRefIdeal.τ).loc Cert.AdamwFinalRefIdeal.main_arg2) = m ((c.tc : Thread Cert.AdamwFinalIdeal.nD Cert.AdamwFinalIdeal.τ).loc Cert.AdamwFinalIdeal.main_arg2)
      ∧ m' ((c.tc : Thread Cert.AdamwFinalRefIdeal.nD Cert.AdamwFinalRefIdeal.τ).loc Cert.AdamwFinalRefIdeal.main_arg3) = m ((c.tc : Thread Cert.AdamwFinalIdeal.nD Cert.AdamwFinalIdeal.τ).loc Cert.AdamwFinalIdeal.main_arg3)) →
    ∃ (v0 : (c : Dev Cert.AdamwFinalIdeal.nD) → Buf (Elt Ideal) ((c.tc : Thread Cert.AdamwFinalIdeal.nD Cert.AdamwFinalIdeal.τ).loc Cert.AdamwFinalIdeal.main_v4_0)) (v1 : (c : Dev Cert.AdamwFinalIdeal.nD) → Buf (Elt Ideal) ((c.tc : Thread Cert.AdamwFinalIdeal.nD Cert.AdamwFinalIdeal.τ).loc Cert.AdamwFinalIdeal.main_v4_1)) (v2 : (c : Dev Cert.AdamwFinalIdeal.nD) → Buf (Elt Ideal) ((c.tc : Thread Cert.AdamwFinalIdeal.nD Cert.AdamwFinalIdeal.τ).loc Cert.AdamwFinalIdeal.main_v4_2)),
      θ_run (Cert.AdamwFinalIdeal.defs (F := Ideal)) (onTc (τ := Cert.AdamwFinalIdeal.τ) (Cert.AdamwFinalIdeal.main (F := Ideal))) ⟨m, fun _ => 0, g⟩ (fun r => ∀ c : Dev Cert.AdamwFinalIdeal.nD,
          r.2.mem ((c.tc : Thread Cert.AdamwFinalIdeal.nD Cert.AdamwFinalIdeal.τ).loc Cert.AdamwFinalIdeal.main_v4_0) = v0 c
          ∧ r.2.mem ((c.tc : Thread Cert.AdamwFinalIdeal.nD Cert.AdamwFinalIdeal.τ).loc Cert.AdamwFinalIdeal.main_v4_1) = v1 c
          ∧ r.2.mem ((c.tc : Thread Cert.AdamwFinalIdeal.nD Cert.AdamwFinalIdeal.τ).loc Cert.AdamwFinalIdeal.main_v4_2) = v2 c
          ∧ r.2.mem ((c.tc : Thread Cert.AdamwFinalIdeal.nD Cert.AdamwFinalIdeal.τ).loc Cert.AdamwFinalIdeal.main_arg0) = m ((c.tc : Thread Cert.AdamwFinalIdeal.nD Cert.AdamwFinalIdeal.τ).loc Cert.AdamwFinalIdeal.main_arg0)
          ∧ r.2.mem ((c.tc : Thread Cert.AdamwFinalIdeal.nD Cert.AdamwFinalIdeal.τ).loc Cert.AdamwFinalIdeal.main_arg1) = m ((c.tc : Thread Cert.AdamwFinalIdeal.nD Cert.AdamwFinalIdeal.τ).loc Cert.AdamwFinalIdeal.main_arg1)
          ∧ r.2.mem ((c.tc : Thread Cert.AdamwFinalIdeal.nD Cert.AdamwFinalIdeal.τ).loc Cert.AdamwFinalIdeal.main_arg2) = m ((c.tc : Thread Cert.AdamwFinalIdeal.nD Cert.AdamwFinalIdeal.τ).loc Cert.AdamwFinalIdeal.main_arg2)
          ∧ r.2.mem ((c.tc : Thread Cert.AdamwFinalIdeal.nD Cert.AdamwFinalIdeal.τ).loc Cert.AdamwFinalIdeal.main_arg3) = m ((c.tc : Thread Cert.AdamwFinalIdeal.nD Cert.AdamwFinalIdeal.τ).loc Cert.AdamwFinalIdeal.main_arg3))
      ∧ θ_run (Cert.AdamwFinalRefIdeal.defs (F := Ideal)) (onTc (τ := Cert.AdamwFinalRefIdeal.τ) (Cert.AdamwFinalRefIdeal.main (F := Ideal))) ⟨m', fun _ => 0, g'⟩ (fun r => ∀ c : Dev Cert.AdamwFinalRefIdeal.nD,
          r.2.mem ((c.tc : Thread Cert.AdamwFinalRefIdeal.nD Cert.AdamwFinalRefIdeal.τ).loc Cert.AdamwFinalRefIdeal.main_v24) = v0 c
          ∧ r.2.mem ((c.tc : Thread Cert.AdamwFinalRefIdeal.nD Cert.AdamwFinalRefIdeal.τ).loc Cert.AdamwFinalRefIdeal.main_v25) = v1 c
          ∧ r.2.mem ((c.tc : Thread Cert.AdamwFinalRefIdeal.nD Cert.AdamwFinalRefIdeal.τ).loc Cert.AdamwFinalRefIdeal.main_v26) = v2 c
          ∧ r.2.mem ((c.tc : Thread Cert.AdamwFinalRefIdeal.nD Cert.AdamwFinalRefIdeal.τ).loc Cert.AdamwFinalRefIdeal.main_arg0) = m' ((c.tc : Thread Cert.AdamwFinalRefIdeal.nD Cert.AdamwFinalRefIdeal.τ).loc Cert.AdamwFinalRefIdeal.main_arg0)
          ∧ r.2.mem ((c.tc : Thread Cert.AdamwFinalRefIdeal.nD Cert.AdamwFinalRefIdeal.τ).loc Cert.AdamwFinalRefIdeal.main_arg1) = m' ((c.tc : Thread Cert.AdamwFinalRefIdeal.nD Cert.AdamwFinalRefIdeal.τ).loc Cert.AdamwFinalRefIdeal.main_arg1)
          ∧ r.2.mem ((c.tc : Thread Cert.AdamwFinalRefIdeal.nD Cert.AdamwFinalRefIdeal.τ).loc Cert.AdamwFinalRefIdeal.main_arg2) = m' ((c.tc : Thread Cert.AdamwFinalRefIdeal.nD Cert.AdamwFinalRefIdeal.τ).loc Cert.AdamwFinalRefIdeal.main_arg2)
          ∧ r.2.mem ((c.tc : Thread Cert.AdamwFinalRefIdeal.nD Cert.AdamwFinalRefIdeal.τ).loc Cert.AdamwFinalRefIdeal.main_arg3) = m' ((c.tc : Thread Cert.AdamwFinalRefIdeal.nD Cert.AdamwFinalRefIdeal.τ).loc Cert.AdamwFinalRefIdeal.main_arg3))

def preserves_AdamwGateBias_AdamwGateBiasIdeal : Prop :=
  IdealRules.named_const.Statement Cert.AdamwGateBiasIdeal.κ "debias_m" .f32 0x3FC48605#32 ((8388608 / 5463681 : ℝ) : EReal)
  ∧ IdealRules.named_const.Statement Cert.AdamwGateBiasIdeal.κ "debias_v" .f32 0x42C8E6D3#32 ((268435456 / 2672307 : ℝ) : EReal)

def algebraic_AdamwGateBiasIdeal_AdamwGateBiasRefIdeal [hAdamwGateBiasIdeal : Cert.AdamwGateBiasIdeal.Facts] [hAdamwGateBiasRefIdeal : Cert.AdamwGateBiasRefIdeal.Facts] : Prop :=
  ∀ (m : (ℓ : Loc Cert.AdamwGateBiasIdeal.nD Cert.AdamwGateBiasIdeal.τ Cert.AdamwGateBiasIdeal.sig) → Buf (Elt Ideal) ℓ) (g : Dev Cert.AdamwGateBiasIdeal.nD → PrngReg)
    (m' : (ℓ : Loc Cert.AdamwGateBiasRefIdeal.nD Cert.AdamwGateBiasRefIdeal.τ Cert.AdamwGateBiasRefIdeal.sig) → Buf (Elt Ideal) ℓ) (g' : Dev Cert.AdamwGateBiasRefIdeal.nD → PrngReg), Pre_AdamwGateBiasIdeal m →
    (∀ c : Dev Cert.AdamwGateBiasIdeal.nD,
      m' ((c.tc : Thread Cert.AdamwGateBiasRefIdeal.nD Cert.AdamwGateBiasRefIdeal.τ).loc Cert.AdamwGateBiasRefIdeal.main_arg0) = m ((c.tc : Thread Cert.AdamwGateBiasIdeal.nD Cert.AdamwGateBiasIdeal.τ).loc Cert.AdamwGateBiasIdeal.main_arg0)
      ∧ m' ((c.tc : Thread Cert.AdamwGateBiasRefIdeal.nD Cert.AdamwGateBiasRefIdeal.τ).loc Cert.AdamwGateBiasRefIdeal.main_arg1) = m ((c.tc : Thread Cert.AdamwGateBiasIdeal.nD Cert.AdamwGateBiasIdeal.τ).loc Cert.AdamwGateBiasIdeal.main_arg1)
      ∧ m' ((c.tc : Thread Cert.AdamwGateBiasRefIdeal.nD Cert.AdamwGateBiasRefIdeal.τ).loc Cert.AdamwGateBiasRefIdeal.main_arg2) = m ((c.tc : Thread Cert.AdamwGateBiasIdeal.nD Cert.AdamwGateBiasIdeal.τ).loc Cert.AdamwGateBiasIdeal.main_arg2)
      ∧ m' ((c.tc : Thread Cert.AdamwGateBiasRefIdeal.nD Cert.AdamwGateBiasRefIdeal.τ).loc Cert.AdamwGateBiasRefIdeal.main_arg3) = m ((c.tc : Thread Cert.AdamwGateBiasIdeal.nD Cert.AdamwGateBiasIdeal.τ).loc Cert.AdamwGateBiasIdeal.main_arg3)) →
    ∃ (v0 : (c : Dev Cert.AdamwGateBiasIdeal.nD) → Buf (Elt Ideal) ((c.tc : Thread Cert.AdamwGateBiasIdeal.nD Cert.AdamwGateBiasIdeal.τ).loc Cert.AdamwGateBiasIdeal.main_v4_0)) (v1 : (c : Dev Cert.AdamwGateBiasIdeal.nD) → Buf (Elt Ideal) ((c.tc : Thread Cert.AdamwGateBiasIdeal.nD Cert.AdamwGateBiasIdeal.τ).loc Cert.AdamwGateBiasIdeal.main_v4_1)) (v2 : (c : Dev Cert.AdamwGateBiasIdeal.nD) → Buf (Elt Ideal) ((c.tc : Thread Cert.AdamwGateBiasIdeal.nD Cert.AdamwGateBiasIdeal.τ).loc Cert.AdamwGateBiasIdeal.main_v4_2)),
      θ_run (Cert.AdamwGateBiasIdeal.defs (F := Ideal)) (onTc (τ := Cert.AdamwGateBiasIdeal.τ) (Cert.AdamwGateBiasIdeal.main (F := Ideal))) ⟨m, fun _ => 0, g⟩ (fun r => ∀ c : Dev Cert.AdamwGateBiasIdeal.nD,
          r.2.mem ((c.tc : Thread Cert.AdamwGateBiasIdeal.nD Cert.AdamwGateBiasIdeal.τ).loc Cert.AdamwGateBiasIdeal.main_v4_0) = v0 c
          ∧ r.2.mem ((c.tc : Thread Cert.AdamwGateBiasIdeal.nD Cert.AdamwGateBiasIdeal.τ).loc Cert.AdamwGateBiasIdeal.main_v4_1) = v1 c
          ∧ r.2.mem ((c.tc : Thread Cert.AdamwGateBiasIdeal.nD Cert.AdamwGateBiasIdeal.τ).loc Cert.AdamwGateBiasIdeal.main_v4_2) = v2 c
          ∧ r.2.mem ((c.tc : Thread Cert.AdamwGateBiasIdeal.nD Cert.AdamwGateBiasIdeal.τ).loc Cert.AdamwGateBiasIdeal.main_arg0) = m ((c.tc : Thread Cert.AdamwGateBiasIdeal.nD Cert.AdamwGateBiasIdeal.τ).loc Cert.AdamwGateBiasIdeal.main_arg0)
          ∧ r.2.mem ((c.tc : Thread Cert.AdamwGateBiasIdeal.nD Cert.AdamwGateBiasIdeal.τ).loc Cert.AdamwGateBiasIdeal.main_arg1) = m ((c.tc : Thread Cert.AdamwGateBiasIdeal.nD Cert.AdamwGateBiasIdeal.τ).loc Cert.AdamwGateBiasIdeal.main_arg1)
          ∧ r.2.mem ((c.tc : Thread Cert.AdamwGateBiasIdeal.nD Cert.AdamwGateBiasIdeal.τ).loc Cert.AdamwGateBiasIdeal.main_arg2) = m ((c.tc : Thread Cert.AdamwGateBiasIdeal.nD Cert.AdamwGateBiasIdeal.τ).loc Cert.AdamwGateBiasIdeal.main_arg2)
          ∧ r.2.mem ((c.tc : Thread Cert.AdamwGateBiasIdeal.nD Cert.AdamwGateBiasIdeal.τ).loc Cert.AdamwGateBiasIdeal.main_arg3) = m ((c.tc : Thread Cert.AdamwGateBiasIdeal.nD Cert.AdamwGateBiasIdeal.τ).loc Cert.AdamwGateBiasIdeal.main_arg3))
      ∧ θ_run (Cert.AdamwGateBiasRefIdeal.defs (F := Ideal)) (onTc (τ := Cert.AdamwGateBiasRefIdeal.τ) (Cert.AdamwGateBiasRefIdeal.main (F := Ideal))) ⟨m', fun _ => 0, g'⟩ (fun r => ∀ c : Dev Cert.AdamwGateBiasRefIdeal.nD,
          r.2.mem ((c.tc : Thread Cert.AdamwGateBiasRefIdeal.nD Cert.AdamwGateBiasRefIdeal.τ).loc Cert.AdamwGateBiasRefIdeal.main_v24) = v0 c
          ∧ r.2.mem ((c.tc : Thread Cert.AdamwGateBiasRefIdeal.nD Cert.AdamwGateBiasRefIdeal.τ).loc Cert.AdamwGateBiasRefIdeal.main_v25) = v1 c
          ∧ r.2.mem ((c.tc : Thread Cert.AdamwGateBiasRefIdeal.nD Cert.AdamwGateBiasRefIdeal.τ).loc Cert.AdamwGateBiasRefIdeal.main_v26) = v2 c
          ∧ r.2.mem ((c.tc : Thread Cert.AdamwGateBiasRefIdeal.nD Cert.AdamwGateBiasRefIdeal.τ).loc Cert.AdamwGateBiasRefIdeal.main_arg0) = m' ((c.tc : Thread Cert.AdamwGateBiasRefIdeal.nD Cert.AdamwGateBiasRefIdeal.τ).loc Cert.AdamwGateBiasRefIdeal.main_arg0)
          ∧ r.2.mem ((c.tc : Thread Cert.AdamwGateBiasRefIdeal.nD Cert.AdamwGateBiasRefIdeal.τ).loc Cert.AdamwGateBiasRefIdeal.main_arg1) = m' ((c.tc : Thread Cert.AdamwGateBiasRefIdeal.nD Cert.AdamwGateBiasRefIdeal.τ).loc Cert.AdamwGateBiasRefIdeal.main_arg1)
          ∧ r.2.mem ((c.tc : Thread Cert.AdamwGateBiasRefIdeal.nD Cert.AdamwGateBiasRefIdeal.τ).loc Cert.AdamwGateBiasRefIdeal.main_arg2) = m' ((c.tc : Thread Cert.AdamwGateBiasRefIdeal.nD Cert.AdamwGateBiasRefIdeal.τ).loc Cert.AdamwGateBiasRefIdeal.main_arg2)
          ∧ r.2.mem ((c.tc : Thread Cert.AdamwGateBiasRefIdeal.nD Cert.AdamwGateBiasRefIdeal.τ).loc Cert.AdamwGateBiasRefIdeal.main_arg3) = m' ((c.tc : Thread Cert.AdamwGateBiasRefIdeal.nD Cert.AdamwGateBiasRefIdeal.τ).loc Cert.AdamwGateBiasRefIdeal.main_arg3))

def preserves_AdamwGlaNorm_AdamwGlaNormIdeal : Prop :=
  IdealRules.named_const.Statement Cert.AdamwGlaNormIdeal.κ "debias_m" .f32 0x3FC48605#32 ((8388608 / 5463681 : ℝ) : EReal)
  ∧ IdealRules.named_const.Statement Cert.AdamwGlaNormIdeal.κ "debias_v" .f32 0x42C8E6D3#32 ((268435456 / 2672307 : ℝ) : EReal)

def algebraic_AdamwGlaNormIdeal_AdamwGlaNormRefIdeal [hAdamwGlaNormIdeal : Cert.AdamwGlaNormIdeal.Facts] [hAdamwGlaNormRefIdeal : Cert.AdamwGlaNormRefIdeal.Facts] : Prop :=
  ∀ (m : (ℓ : Loc Cert.AdamwGlaNormIdeal.nD Cert.AdamwGlaNormIdeal.τ Cert.AdamwGlaNormIdeal.sig) → Buf (Elt Ideal) ℓ) (g : Dev Cert.AdamwGlaNormIdeal.nD → PrngReg)
    (m' : (ℓ : Loc Cert.AdamwGlaNormRefIdeal.nD Cert.AdamwGlaNormRefIdeal.τ Cert.AdamwGlaNormRefIdeal.sig) → Buf (Elt Ideal) ℓ) (g' : Dev Cert.AdamwGlaNormRefIdeal.nD → PrngReg), Pre_AdamwGlaNormIdeal m →
    (∀ c : Dev Cert.AdamwGlaNormIdeal.nD,
      m' ((c.tc : Thread Cert.AdamwGlaNormRefIdeal.nD Cert.AdamwGlaNormRefIdeal.τ).loc Cert.AdamwGlaNormRefIdeal.main_arg0) = m ((c.tc : Thread Cert.AdamwGlaNormIdeal.nD Cert.AdamwGlaNormIdeal.τ).loc Cert.AdamwGlaNormIdeal.main_arg0)
      ∧ m' ((c.tc : Thread Cert.AdamwGlaNormRefIdeal.nD Cert.AdamwGlaNormRefIdeal.τ).loc Cert.AdamwGlaNormRefIdeal.main_arg1) = m ((c.tc : Thread Cert.AdamwGlaNormIdeal.nD Cert.AdamwGlaNormIdeal.τ).loc Cert.AdamwGlaNormIdeal.main_arg1)
      ∧ m' ((c.tc : Thread Cert.AdamwGlaNormRefIdeal.nD Cert.AdamwGlaNormRefIdeal.τ).loc Cert.AdamwGlaNormRefIdeal.main_arg2) = m ((c.tc : Thread Cert.AdamwGlaNormIdeal.nD Cert.AdamwGlaNormIdeal.τ).loc Cert.AdamwGlaNormIdeal.main_arg2)
      ∧ m' ((c.tc : Thread Cert.AdamwGlaNormRefIdeal.nD Cert.AdamwGlaNormRefIdeal.τ).loc Cert.AdamwGlaNormRefIdeal.main_arg3) = m ((c.tc : Thread Cert.AdamwGlaNormIdeal.nD Cert.AdamwGlaNormIdeal.τ).loc Cert.AdamwGlaNormIdeal.main_arg3)) →
    ∃ (v0 : (c : Dev Cert.AdamwGlaNormIdeal.nD) → Buf (Elt Ideal) ((c.tc : Thread Cert.AdamwGlaNormIdeal.nD Cert.AdamwGlaNormIdeal.τ).loc Cert.AdamwGlaNormIdeal.main_v4_0)) (v1 : (c : Dev Cert.AdamwGlaNormIdeal.nD) → Buf (Elt Ideal) ((c.tc : Thread Cert.AdamwGlaNormIdeal.nD Cert.AdamwGlaNormIdeal.τ).loc Cert.AdamwGlaNormIdeal.main_v4_1)) (v2 : (c : Dev Cert.AdamwGlaNormIdeal.nD) → Buf (Elt Ideal) ((c.tc : Thread Cert.AdamwGlaNormIdeal.nD Cert.AdamwGlaNormIdeal.τ).loc Cert.AdamwGlaNormIdeal.main_v4_2)),
      θ_run (Cert.AdamwGlaNormIdeal.defs (F := Ideal)) (onTc (τ := Cert.AdamwGlaNormIdeal.τ) (Cert.AdamwGlaNormIdeal.main (F := Ideal))) ⟨m, fun _ => 0, g⟩ (fun r => ∀ c : Dev Cert.AdamwGlaNormIdeal.nD,
          r.2.mem ((c.tc : Thread Cert.AdamwGlaNormIdeal.nD Cert.AdamwGlaNormIdeal.τ).loc Cert.AdamwGlaNormIdeal.main_v4_0) = v0 c
          ∧ r.2.mem ((c.tc : Thread Cert.AdamwGlaNormIdeal.nD Cert.AdamwGlaNormIdeal.τ).loc Cert.AdamwGlaNormIdeal.main_v4_1) = v1 c
          ∧ r.2.mem ((c.tc : Thread Cert.AdamwGlaNormIdeal.nD Cert.AdamwGlaNormIdeal.τ).loc Cert.AdamwGlaNormIdeal.main_v4_2) = v2 c
          ∧ r.2.mem ((c.tc : Thread Cert.AdamwGlaNormIdeal.nD Cert.AdamwGlaNormIdeal.τ).loc Cert.AdamwGlaNormIdeal.main_arg0) = m ((c.tc : Thread Cert.AdamwGlaNormIdeal.nD Cert.AdamwGlaNormIdeal.τ).loc Cert.AdamwGlaNormIdeal.main_arg0)
          ∧ r.2.mem ((c.tc : Thread Cert.AdamwGlaNormIdeal.nD Cert.AdamwGlaNormIdeal.τ).loc Cert.AdamwGlaNormIdeal.main_arg1) = m ((c.tc : Thread Cert.AdamwGlaNormIdeal.nD Cert.AdamwGlaNormIdeal.τ).loc Cert.AdamwGlaNormIdeal.main_arg1)
          ∧ r.2.mem ((c.tc : Thread Cert.AdamwGlaNormIdeal.nD Cert.AdamwGlaNormIdeal.τ).loc Cert.AdamwGlaNormIdeal.main_arg2) = m ((c.tc : Thread Cert.AdamwGlaNormIdeal.nD Cert.AdamwGlaNormIdeal.τ).loc Cert.AdamwGlaNormIdeal.main_arg2)
          ∧ r.2.mem ((c.tc : Thread Cert.AdamwGlaNormIdeal.nD Cert.AdamwGlaNormIdeal.τ).loc Cert.AdamwGlaNormIdeal.main_arg3) = m ((c.tc : Thread Cert.AdamwGlaNormIdeal.nD Cert.AdamwGlaNormIdeal.τ).loc Cert.AdamwGlaNormIdeal.main_arg3))
      ∧ θ_run (Cert.AdamwGlaNormRefIdeal.defs (F := Ideal)) (onTc (τ := Cert.AdamwGlaNormRefIdeal.τ) (Cert.AdamwGlaNormRefIdeal.main (F := Ideal))) ⟨m', fun _ => 0, g'⟩ (fun r => ∀ c : Dev Cert.AdamwGlaNormRefIdeal.nD,
          r.2.mem ((c.tc : Thread Cert.AdamwGlaNormRefIdeal.nD Cert.AdamwGlaNormRefIdeal.τ).loc Cert.AdamwGlaNormRefIdeal.main_v24) = v0 c
          ∧ r.2.mem ((c.tc : Thread Cert.AdamwGlaNormRefIdeal.nD Cert.AdamwGlaNormRefIdeal.τ).loc Cert.AdamwGlaNormRefIdeal.main_v25) = v1 c
          ∧ r.2.mem ((c.tc : Thread Cert.AdamwGlaNormRefIdeal.nD Cert.AdamwGlaNormRefIdeal.τ).loc Cert.AdamwGlaNormRefIdeal.main_v26) = v2 c
          ∧ r.2.mem ((c.tc : Thread Cert.AdamwGlaNormRefIdeal.nD Cert.AdamwGlaNormRefIdeal.τ).loc Cert.AdamwGlaNormRefIdeal.main_arg0) = m' ((c.tc : Thread Cert.AdamwGlaNormRefIdeal.nD Cert.AdamwGlaNormRefIdeal.τ).loc Cert.AdamwGlaNormRefIdeal.main_arg0)
          ∧ r.2.mem ((c.tc : Thread Cert.AdamwGlaNormRefIdeal.nD Cert.AdamwGlaNormRefIdeal.τ).loc Cert.AdamwGlaNormRefIdeal.main_arg1) = m' ((c.tc : Thread Cert.AdamwGlaNormRefIdeal.nD Cert.AdamwGlaNormRefIdeal.τ).loc Cert.AdamwGlaNormRefIdeal.main_arg1)
          ∧ r.2.mem ((c.tc : Thread Cert.AdamwGlaNormRefIdeal.nD Cert.AdamwGlaNormRefIdeal.τ).loc Cert.AdamwGlaNormRefIdeal.main_arg2) = m' ((c.tc : Thread Cert.AdamwGlaNormRefIdeal.nD Cert.AdamwGlaNormRefIdeal.τ).loc Cert.AdamwGlaNormRefIdeal.main_arg2)
          ∧ r.2.mem ((c.tc : Thread Cert.AdamwGlaNormRefIdeal.nD Cert.AdamwGlaNormRefIdeal.τ).loc Cert.AdamwGlaNormRefIdeal.main_arg3) = m' ((c.tc : Thread Cert.AdamwGlaNormRefIdeal.nD Cert.AdamwGlaNormRefIdeal.τ).loc Cert.AdamwGlaNormRefIdeal.main_arg3))

def preserves_AdamwConv_AdamwConvIdeal : Prop :=
  IdealRules.named_const.Statement Cert.AdamwConvIdeal.κ "debias_m" .f32 0x3FC48605#32 ((8388608 / 5463681 : ℝ) : EReal)
  ∧ IdealRules.named_const.Statement Cert.AdamwConvIdeal.κ "debias_v" .f32 0x42C8E6D3#32 ((268435456 / 2672307 : ℝ) : EReal)

def algebraic_AdamwConvIdeal_AdamwConvRefIdeal [hAdamwConvIdeal : Cert.AdamwConvIdeal.Facts] [hAdamwConvRefIdeal : Cert.AdamwConvRefIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvRefIdeal.nD Cert.AdamwConvRefIdeal.τ Cert.AdamwConvRefIdeal.sig) → Buf (Elt Ideal) ℓ) (g' : Dev Cert.AdamwConvRefIdeal.nD → PrngReg), Pre_AdamwConvIdeal m →
    (∀ c : Dev Cert.AdamwConvIdeal.nD,
      m' ((c.tc : Thread Cert.AdamwConvRefIdeal.nD Cert.AdamwConvRefIdeal.τ).loc Cert.AdamwConvRefIdeal.main_arg0) = m ((c.tc : Thread Cert.AdamwConvIdeal.nD Cert.AdamwConvIdeal.τ).loc Cert.AdamwConvIdeal.main_arg0)
      ∧ m' ((c.tc : Thread Cert.AdamwConvRefIdeal.nD Cert.AdamwConvRefIdeal.τ).loc Cert.AdamwConvRefIdeal.main_arg1) = m ((c.tc : Thread Cert.AdamwConvIdeal.nD Cert.AdamwConvIdeal.τ).loc Cert.AdamwConvIdeal.main_arg1)
      ∧ m' ((c.tc : Thread Cert.AdamwConvRefIdeal.nD Cert.AdamwConvRefIdeal.τ).loc Cert.AdamwConvRefIdeal.main_arg2) = m ((c.tc : Thread Cert.AdamwConvIdeal.nD Cert.AdamwConvIdeal.τ).loc Cert.AdamwConvIdeal.main_arg2)
      ∧ m' ((c.tc : Thread Cert.AdamwConvRefIdeal.nD Cert.AdamwConvRefIdeal.τ).loc Cert.AdamwConvRefIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v0_0)) (v1 : (c : Dev Cert.AdamwConvIdeal.nD) → Buf (Elt Ideal) ((c.tc : Thread Cert.AdamwConvIdeal.nD Cert.AdamwConvIdeal.τ).loc Cert.AdamwConvIdeal.main_v0_1)) (v2 : (c : Dev Cert.AdamwConvIdeal.nD) → Buf (Elt Ideal) ((c.tc : Thread Cert.AdamwConvIdeal.nD Cert.AdamwConvIdeal.τ).loc Cert.AdamwConvIdeal.main_v0_2)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v0_0) = v0 c
          ∧ r.2.mem ((c.tc : Thread Cert.AdamwConvIdeal.nD Cert.AdamwConvIdeal.τ).loc Cert.AdamwConvIdeal.main_v0_1) = v1 c
          ∧ r.2.mem ((c.tc : Thread Cert.AdamwConvIdeal.nD Cert.AdamwConvIdeal.τ).loc Cert.AdamwConvIdeal.main_v0_2) = v2 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.AdamwConvRefIdeal.defs (F := Ideal)) (onTc (τ := Cert.AdamwConvRefIdeal.τ) (Cert.AdamwConvRefIdeal.main (F := Ideal))) ⟨m', fun _ => 0, g'⟩ (fun r => ∀ c : Dev Cert.AdamwConvRefIdeal.nD,
          r.2.mem ((c.tc : Thread Cert.AdamwConvRefIdeal.nD Cert.AdamwConvRefIdeal.τ).loc Cert.AdamwConvRefIdeal.main_v23) = v0 c
          ∧ r.2.mem ((c.tc : Thread Cert.AdamwConvRefIdeal.nD Cert.AdamwConvRefIdeal.τ).loc Cert.AdamwConvRefIdeal.main_v4) = v1 c
          ∧ r.2.mem ((c.tc : Thread Cert.AdamwConvRefIdeal.nD Cert.AdamwConvRefIdeal.τ).loc Cert.AdamwConvRefIdeal.main_v10) = v2 c
          ∧ r.2.mem ((c.tc : Thread Cert.AdamwConvRefIdeal.nD Cert.AdamwConvRefIdeal.τ).loc Cert.AdamwConvRefIdeal.main_arg0) = m' ((c.tc : Thread Cert.AdamwConvRefIdeal.nD Cert.AdamwConvRefIdeal.τ).loc Cert.AdamwConvRefIdeal.main_arg0)
          ∧ r.2.mem ((c.tc : Thread Cert.AdamwConvRefIdeal.nD Cert.AdamwConvRefIdeal.τ).loc Cert.AdamwConvRefIdeal.main_arg1) = m' ((c.tc : Thread Cert.AdamwConvRefIdeal.nD Cert.AdamwConvRefIdeal.τ).loc Cert.AdamwConvRefIdeal.main_arg1)
          ∧ r.2.mem ((c.tc : Thread Cert.AdamwConvRefIdeal.nD Cert.AdamwConvRefIdeal.τ).loc Cert.AdamwConvRefIdeal.main_arg2) = m' ((c.tc : Thread Cert.AdamwConvRefIdeal.nD Cert.AdamwConvRefIdeal.τ).loc Cert.AdamwConvRefIdeal.main_arg2)
          ∧ r.2.mem ((c.tc : Thread Cert.AdamwConvRefIdeal.nD Cert.AdamwConvRefIdeal.τ).loc Cert.AdamwConvRefIdeal.main_arg3) = m' ((c.tc : Thread Cert.AdamwConvRefIdeal.nD Cert.AdamwConvRefIdeal.τ).loc Cert.AdamwConvRefIdeal.main_arg3))

def preserves_AdamwGateRank_AdamwGateRankIdeal : Prop :=
  IdealRules.named_const.Statement Cert.AdamwGateRankIdeal.κ "debias_m" .f32 0x3FC48605#32 ((8388608 / 5463681 : ℝ) : EReal)
  ∧ IdealRules.named_const.Statement Cert.AdamwGateRankIdeal.κ "debias_v" .f32 0x42C8E6D3#32 ((268435456 / 2672307 : ℝ) : EReal)

def algebraic_AdamwGateRankIdeal_AdamwGateRankRefIdeal [hAdamwGateRankIdeal : Cert.AdamwGateRankIdeal.Facts] [hAdamwGateRankRefIdeal : Cert.AdamwGateRankRefIdeal.Facts] : Prop :=
  ∀ (m : (ℓ : Loc Cert.AdamwGateRankIdeal.nD Cert.AdamwGateRankIdeal.τ Cert.AdamwGateRankIdeal.sig) → Buf (Elt Ideal) ℓ) (g : Dev Cert.AdamwGateRankIdeal.nD → PrngReg)
    (m' : (ℓ : Loc Cert.AdamwGateRankRefIdeal.nD Cert.AdamwGateRankRefIdeal.τ Cert.AdamwGateRankRefIdeal.sig) → Buf (Elt Ideal) ℓ) (g' : Dev Cert.AdamwGateRankRefIdeal.nD → PrngReg), Pre_AdamwGateRankIdeal m →
    (∀ c : Dev Cert.AdamwGateRankIdeal.nD,
      m' ((c.tc : Thread Cert.AdamwGateRankRefIdeal.nD Cert.AdamwGateRankRefIdeal.τ).loc Cert.AdamwGateRankRefIdeal.main_arg0) = m ((c.tc : Thread Cert.AdamwGateRankIdeal.nD Cert.AdamwGateRankIdeal.τ).loc Cert.AdamwGateRankIdeal.main_arg0)
      ∧ m' ((c.tc : Thread Cert.AdamwGateRankRefIdeal.nD Cert.AdamwGateRankRefIdeal.τ).loc Cert.AdamwGateRankRefIdeal.main_arg1) = m ((c.tc : Thread Cert.AdamwGateRankIdeal.nD Cert.AdamwGateRankIdeal.τ).loc Cert.AdamwGateRankIdeal.main_arg1)
      ∧ m' ((c.tc : Thread Cert.AdamwGateRankRefIdeal.nD Cert.AdamwGateRankRefIdeal.τ).loc Cert.AdamwGateRankRefIdeal.main_arg2) = m ((c.tc : Thread Cert.AdamwGateRankIdeal.nD Cert.AdamwGateRankIdeal.τ).loc Cert.AdamwGateRankIdeal.main_arg2)
      ∧ m' ((c.tc : Thread Cert.AdamwGateRankRefIdeal.nD Cert.AdamwGateRankRefIdeal.τ).loc Cert.AdamwGateRankRefIdeal.main_arg3) = m ((c.tc : Thread Cert.AdamwGateRankIdeal.nD Cert.AdamwGateRankIdeal.τ).loc Cert.AdamwGateRankIdeal.main_arg3)) →
    ∃ (v0 : (c : Dev Cert.AdamwGateRankIdeal.nD) → Buf (Elt Ideal) ((c.tc : Thread Cert.AdamwGateRankIdeal.nD Cert.AdamwGateRankIdeal.τ).loc Cert.AdamwGateRankIdeal.main_v0_0)) (v1 : (c : Dev Cert.AdamwGateRankIdeal.nD) → Buf (Elt Ideal) ((c.tc : Thread Cert.AdamwGateRankIdeal.nD Cert.AdamwGateRankIdeal.τ).loc Cert.AdamwGateRankIdeal.main_v0_1)) (v2 : (c : Dev Cert.AdamwGateRankIdeal.nD) → Buf (Elt Ideal) ((c.tc : Thread Cert.AdamwGateRankIdeal.nD Cert.AdamwGateRankIdeal.τ).loc Cert.AdamwGateRankIdeal.main_v0_2)),
      θ_run (Cert.AdamwGateRankIdeal.defs (F := Ideal)) (onTc (τ := Cert.AdamwGateRankIdeal.τ) (Cert.AdamwGateRankIdeal.main (F := Ideal))) ⟨m, fun _ => 0, g⟩ (fun r => ∀ c : Dev Cert.AdamwGateRankIdeal.nD,
          r.2.mem ((c.tc : Thread Cert.AdamwGateRankIdeal.nD Cert.AdamwGateRankIdeal.τ).loc Cert.AdamwGateRankIdeal.main_v0_0) = v0 c
          ∧ r.2.mem ((c.tc : Thread Cert.AdamwGateRankIdeal.nD Cert.AdamwGateRankIdeal.τ).loc Cert.AdamwGateRankIdeal.main_v0_1) = v1 c
          ∧ r.2.mem ((c.tc : Thread Cert.AdamwGateRankIdeal.nD Cert.AdamwGateRankIdeal.τ).loc Cert.AdamwGateRankIdeal.main_v0_2) = v2 c
          ∧ r.2.mem ((c.tc : Thread Cert.AdamwGateRankIdeal.nD Cert.AdamwGateRankIdeal.τ).loc Cert.AdamwGateRankIdeal.main_arg0) = m ((c.tc : Thread Cert.AdamwGateRankIdeal.nD Cert.AdamwGateRankIdeal.τ).loc Cert.AdamwGateRankIdeal.main_arg0)
          ∧ r.2.mem ((c.tc : Thread Cert.AdamwGateRankIdeal.nD Cert.AdamwGateRankIdeal.τ).loc Cert.AdamwGateRankIdeal.main_arg1) = m ((c.tc : Thread Cert.AdamwGateRankIdeal.nD Cert.AdamwGateRankIdeal.τ).loc Cert.AdamwGateRankIdeal.main_arg1)
          ∧ r.2.mem ((c.tc : Thread Cert.AdamwGateRankIdeal.nD Cert.AdamwGateRankIdeal.τ).loc Cert.AdamwGateRankIdeal.main_arg2) = m ((c.tc : Thread Cert.AdamwGateRankIdeal.nD Cert.AdamwGateRankIdeal.τ).loc Cert.AdamwGateRankIdeal.main_arg2)
          ∧ r.2.mem ((c.tc : Thread Cert.AdamwGateRankIdeal.nD Cert.AdamwGateRankIdeal.τ).loc Cert.AdamwGateRankIdeal.main_arg3) = m ((c.tc : Thread Cert.AdamwGateRankIdeal.nD Cert.AdamwGateRankIdeal.τ).loc Cert.AdamwGateRankIdeal.main_arg3))
      ∧ θ_run (Cert.AdamwGateRankRefIdeal.defs (F := Ideal)) (onTc (τ := Cert.AdamwGateRankRefIdeal.τ) (Cert.AdamwGateRankRefIdeal.main (F := Ideal))) ⟨m', fun _ => 0, g'⟩ (fun r => ∀ c : Dev Cert.AdamwGateRankRefIdeal.nD,
          r.2.mem ((c.tc : Thread Cert.AdamwGateRankRefIdeal.nD Cert.AdamwGateRankRefIdeal.τ).loc Cert.AdamwGateRankRefIdeal.main_v23) = v0 c
          ∧ r.2.mem ((c.tc : Thread Cert.AdamwGateRankRefIdeal.nD Cert.AdamwGateRankRefIdeal.τ).loc Cert.AdamwGateRankRefIdeal.main_v4) = v1 c
          ∧ r.2.mem ((c.tc : Thread Cert.AdamwGateRankRefIdeal.nD Cert.AdamwGateRankRefIdeal.τ).loc Cert.AdamwGateRankRefIdeal.main_v10) = v2 c
          ∧ r.2.mem ((c.tc : Thread Cert.AdamwGateRankRefIdeal.nD Cert.AdamwGateRankRefIdeal.τ).loc Cert.AdamwGateRankRefIdeal.main_arg0) = m' ((c.tc : Thread Cert.AdamwGateRankRefIdeal.nD Cert.AdamwGateRankRefIdeal.τ).loc Cert.AdamwGateRankRefIdeal.main_arg0)
          ∧ r.2.mem ((c.tc : Thread Cert.AdamwGateRankRefIdeal.nD Cert.AdamwGateRankRefIdeal.τ).loc Cert.AdamwGateRankRefIdeal.main_arg1) = m' ((c.tc : Thread Cert.AdamwGateRankRefIdeal.nD Cert.AdamwGateRankRefIdeal.τ).loc Cert.AdamwGateRankRefIdeal.main_arg1)
          ∧ r.2.mem ((c.tc : Thread Cert.AdamwGateRankRefIdeal.nD Cert.AdamwGateRankRefIdeal.τ).loc Cert.AdamwGateRankRefIdeal.main_arg2) = m' ((c.tc : Thread Cert.AdamwGateRankRefIdeal.nD Cert.AdamwGateRankRefIdeal.τ).loc Cert.AdamwGateRankRefIdeal.main_arg2)
          ∧ r.2.mem ((c.tc : Thread Cert.AdamwGateRankRefIdeal.nD Cert.AdamwGateRankRefIdeal.τ).loc Cert.AdamwGateRankRefIdeal.main_arg3) = m' ((c.tc : Thread Cert.AdamwGateRankRefIdeal.nD Cert.AdamwGateRankRefIdeal.τ).loc Cert.AdamwGateRankRefIdeal.main_arg3))

def preserves_AdamwMixer_AdamwMixerIdeal : Prop :=
  IdealRules.named_const.Statement Cert.AdamwMixerIdeal.κ "debias_m" .f32 0x3FC48605#32 ((8388608 / 5463681 : ℝ) : EReal)
  ∧ IdealRules.named_const.Statement Cert.AdamwMixerIdeal.κ "debias_v" .f32 0x42C8E6D3#32 ((268435456 / 2672307 : ℝ) : EReal)

def algebraic_AdamwMixerIdeal_AdamwMixerRefIdeal [hAdamwMixerIdeal : Cert.AdamwMixerIdeal.Facts] [hAdamwMixerRefIdeal : Cert.AdamwMixerRefIdeal.Facts] : Prop :=
  ∀ (m : (ℓ : Loc Cert.AdamwMixerIdeal.nD Cert.AdamwMixerIdeal.τ Cert.AdamwMixerIdeal.sig) → Buf (Elt Ideal) ℓ) (g : Dev Cert.AdamwMixerIdeal.nD → PrngReg)
    (m' : (ℓ : Loc Cert.AdamwMixerRefIdeal.nD Cert.AdamwMixerRefIdeal.τ Cert.AdamwMixerRefIdeal.sig) → Buf (Elt Ideal) ℓ) (g' : Dev Cert.AdamwMixerRefIdeal.nD → PrngReg), Pre_AdamwMixerIdeal m →
    (∀ c : Dev Cert.AdamwMixerIdeal.nD,
      m' ((c.tc : Thread Cert.AdamwMixerRefIdeal.nD Cert.AdamwMixerRefIdeal.τ).loc Cert.AdamwMixerRefIdeal.main_arg0) = m ((c.tc : Thread Cert.AdamwMixerIdeal.nD Cert.AdamwMixerIdeal.τ).loc Cert.AdamwMixerIdeal.main_arg0)
      ∧ m' ((c.tc : Thread Cert.AdamwMixerRefIdeal.nD Cert.AdamwMixerRefIdeal.τ).loc Cert.AdamwMixerRefIdeal.main_arg1) = m ((c.tc : Thread Cert.AdamwMixerIdeal.nD Cert.AdamwMixerIdeal.τ).loc Cert.AdamwMixerIdeal.main_arg1)
      ∧ m' ((c.tc : Thread Cert.AdamwMixerRefIdeal.nD Cert.AdamwMixerRefIdeal.τ).loc Cert.AdamwMixerRefIdeal.main_arg2) = m ((c.tc : Thread Cert.AdamwMixerIdeal.nD Cert.AdamwMixerIdeal.τ).loc Cert.AdamwMixerIdeal.main_arg2)
      ∧ m' ((c.tc : Thread Cert.AdamwMixerRefIdeal.nD Cert.AdamwMixerRefIdeal.τ).loc Cert.AdamwMixerRefIdeal.main_arg3) = m ((c.tc : Thread Cert.AdamwMixerIdeal.nD Cert.AdamwMixerIdeal.τ).loc Cert.AdamwMixerIdeal.main_arg3)
      ∧ m' ((c.tc : Thread Cert.AdamwMixerRefIdeal.nD Cert.AdamwMixerRefIdeal.τ).loc Cert.AdamwMixerRefIdeal.main_arg4) = m ((c.tc : Thread Cert.AdamwMixerIdeal.nD Cert.AdamwMixerIdeal.τ).loc Cert.AdamwMixerIdeal.main_arg4)
      ∧ m' ((c.tc : Thread Cert.AdamwMixerRefIdeal.nD Cert.AdamwMixerRefIdeal.τ).loc Cert.AdamwMixerRefIdeal.main_arg5) = m ((c.tc : Thread Cert.AdamwMixerIdeal.nD Cert.AdamwMixerIdeal.τ).loc Cert.AdamwMixerIdeal.main_arg5)
      ∧ m' ((c.tc : Thread Cert.AdamwMixerRefIdeal.nD Cert.AdamwMixerRefIdeal.τ).loc Cert.AdamwMixerRefIdeal.main_arg6) = m ((c.tc : Thread Cert.AdamwMixerIdeal.nD Cert.AdamwMixerIdeal.τ).loc Cert.AdamwMixerIdeal.main_arg6)
      ∧ m' ((c.tc : Thread Cert.AdamwMixerRefIdeal.nD Cert.AdamwMixerRefIdeal.τ).loc Cert.AdamwMixerRefIdeal.main_arg7) = m ((c.tc : Thread Cert.AdamwMixerIdeal.nD Cert.AdamwMixerIdeal.τ).loc Cert.AdamwMixerIdeal.main_arg7)) →
    ∃ (v0 : (c : Dev Cert.AdamwMixerIdeal.nD) → Buf (Elt Ideal) ((c.tc : Thread Cert.AdamwMixerIdeal.nD Cert.AdamwMixerIdeal.τ).loc Cert.AdamwMixerIdeal.main_v0_0)) (v1 : (c : Dev Cert.AdamwMixerIdeal.nD) → Buf (Elt Ideal) ((c.tc : Thread Cert.AdamwMixerIdeal.nD Cert.AdamwMixerIdeal.τ).loc Cert.AdamwMixerIdeal.main_v0_1)) (v2 : (c : Dev Cert.AdamwMixerIdeal.nD) → Buf (Elt Ideal) ((c.tc : Thread Cert.AdamwMixerIdeal.nD Cert.AdamwMixerIdeal.τ).loc Cert.AdamwMixerIdeal.main_v0_2)) (v3 : (c : Dev Cert.AdamwMixerIdeal.nD) → Buf (Elt Ideal) ((c.tc : Thread Cert.AdamwMixerIdeal.nD Cert.AdamwMixerIdeal.τ).loc Cert.AdamwMixerIdeal.main_v0_3)),
      θ_run (Cert.AdamwMixerIdeal.defs (F := Ideal)) (onTc (τ := Cert.AdamwMixerIdeal.τ) (Cert.AdamwMixerIdeal.main (F := Ideal))) ⟨m, fun _ => 0, g⟩ (fun r => ∀ c : Dev Cert.AdamwMixerIdeal.nD,
          r.2.mem ((c.tc : Thread Cert.AdamwMixerIdeal.nD Cert.AdamwMixerIdeal.τ).loc Cert.AdamwMixerIdeal.main_v0_0) = v0 c
          ∧ r.2.mem ((c.tc : Thread Cert.AdamwMixerIdeal.nD Cert.AdamwMixerIdeal.τ).loc Cert.AdamwMixerIdeal.main_v0_1) = v1 c
          ∧ r.2.mem ((c.tc : Thread Cert.AdamwMixerIdeal.nD Cert.AdamwMixerIdeal.τ).loc Cert.AdamwMixerIdeal.main_v0_2) = v2 c
          ∧ r.2.mem ((c.tc : Thread Cert.AdamwMixerIdeal.nD Cert.AdamwMixerIdeal.τ).loc Cert.AdamwMixerIdeal.main_v0_3) = v3 c
          ∧ r.2.mem ((c.tc : Thread Cert.AdamwMixerIdeal.nD Cert.AdamwMixerIdeal.τ).loc Cert.AdamwMixerIdeal.main_arg0) = m ((c.tc : Thread Cert.AdamwMixerIdeal.nD Cert.AdamwMixerIdeal.τ).loc Cert.AdamwMixerIdeal.main_arg0)
          ∧ r.2.mem ((c.tc : Thread Cert.AdamwMixerIdeal.nD Cert.AdamwMixerIdeal.τ).loc Cert.AdamwMixerIdeal.main_arg1) = m ((c.tc : Thread Cert.AdamwMixerIdeal.nD Cert.AdamwMixerIdeal.τ).loc Cert.AdamwMixerIdeal.main_arg1)
          ∧ r.2.mem ((c.tc : Thread Cert.AdamwMixerIdeal.nD Cert.AdamwMixerIdeal.τ).loc Cert.AdamwMixerIdeal.main_arg2) = m ((c.tc : Thread Cert.AdamwMixerIdeal.nD Cert.AdamwMixerIdeal.τ).loc Cert.AdamwMixerIdeal.main_arg2)
          ∧ r.2.mem ((c.tc : Thread Cert.AdamwMixerIdeal.nD Cert.AdamwMixerIdeal.τ).loc Cert.AdamwMixerIdeal.main_arg3) = m ((c.tc : Thread Cert.AdamwMixerIdeal.nD Cert.AdamwMixerIdeal.τ).loc Cert.AdamwMixerIdeal.main_arg3)
          ∧ r.2.mem ((c.tc : Thread Cert.AdamwMixerIdeal.nD Cert.AdamwMixerIdeal.τ).loc Cert.AdamwMixerIdeal.main_arg4) = m ((c.tc : Thread Cert.AdamwMixerIdeal.nD Cert.AdamwMixerIdeal.τ).loc Cert.AdamwMixerIdeal.main_arg4)
          ∧ r.2.mem ((c.tc : Thread Cert.AdamwMixerIdeal.nD Cert.AdamwMixerIdeal.τ).loc Cert.AdamwMixerIdeal.main_arg5) = m ((c.tc : Thread Cert.AdamwMixerIdeal.nD Cert.AdamwMixerIdeal.τ).loc Cert.AdamwMixerIdeal.main_arg5)
          ∧ r.2.mem ((c.tc : Thread Cert.AdamwMixerIdeal.nD Cert.AdamwMixerIdeal.τ).loc Cert.AdamwMixerIdeal.main_arg6) = m ((c.tc : Thread Cert.AdamwMixerIdeal.nD Cert.AdamwMixerIdeal.τ).loc Cert.AdamwMixerIdeal.main_arg6)
          ∧ r.2.mem ((c.tc : Thread Cert.AdamwMixerIdeal.nD Cert.AdamwMixerIdeal.τ).loc Cert.AdamwMixerIdeal.main_arg7) = m ((c.tc : Thread Cert.AdamwMixerIdeal.nD Cert.AdamwMixerIdeal.τ).loc Cert.AdamwMixerIdeal.main_arg7))
      ∧ θ_run (Cert.AdamwMixerRefIdeal.defs (F := Ideal)) (onTc (τ := Cert.AdamwMixerRefIdeal.τ) (Cert.AdamwMixerRefIdeal.main (F := Ideal))) ⟨m', fun _ => 0, g'⟩ (fun r => ∀ c : Dev Cert.AdamwMixerRefIdeal.nD,
          r.2.mem ((c.tc : Thread Cert.AdamwMixerRefIdeal.nD Cert.AdamwMixerRefIdeal.τ).loc Cert.AdamwMixerRefIdeal.main_v9) = v0 c
          ∧ r.2.mem ((c.tc : Thread Cert.AdamwMixerRefIdeal.nD Cert.AdamwMixerRefIdeal.τ).loc Cert.AdamwMixerRefIdeal.main_v33) = v1 c
          ∧ r.2.mem ((c.tc : Thread Cert.AdamwMixerRefIdeal.nD Cert.AdamwMixerRefIdeal.τ).loc Cert.AdamwMixerRefIdeal.main_v14) = v2 c
          ∧ r.2.mem ((c.tc : Thread Cert.AdamwMixerRefIdeal.nD Cert.AdamwMixerRefIdeal.τ).loc Cert.AdamwMixerRefIdeal.main_v20) = v3 c
          ∧ r.2.mem ((c.tc : Thread Cert.AdamwMixerRefIdeal.nD Cert.AdamwMixerRefIdeal.τ).loc Cert.AdamwMixerRefIdeal.main_arg0) = m' ((c.tc : Thread Cert.AdamwMixerRefIdeal.nD Cert.AdamwMixerRefIdeal.τ).loc Cert.AdamwMixerRefIdeal.main_arg0)
          ∧ r.2.mem ((c.tc : Thread Cert.AdamwMixerRefIdeal.nD Cert.AdamwMixerRefIdeal.τ).loc Cert.AdamwMixerRefIdeal.main_arg1) = m' ((c.tc : Thread Cert.AdamwMixerRefIdeal.nD Cert.AdamwMixerRefIdeal.τ).loc Cert.AdamwMixerRefIdeal.main_arg1)
          ∧ r.2.mem ((c.tc : Thread Cert.AdamwMixerRefIdeal.nD Cert.AdamwMixerRefIdeal.τ).loc Cert.AdamwMixerRefIdeal.main_arg2) = m' ((c.tc : Thread Cert.AdamwMixerRefIdeal.nD Cert.AdamwMixerRefIdeal.τ).loc Cert.AdamwMixerRefIdeal.main_arg2)
          ∧ r.2.mem ((c.tc : Thread Cert.AdamwMixerRefIdeal.nD Cert.AdamwMixerRefIdeal.τ).loc Cert.AdamwMixerRefIdeal.main_arg3) = m' ((c.tc : Thread Cert.AdamwMixerRefIdeal.nD Cert.AdamwMixerRefIdeal.τ).loc Cert.AdamwMixerRefIdeal.main_arg3)
          ∧ r.2.mem ((c.tc : Thread Cert.AdamwMixerRefIdeal.nD Cert.AdamwMixerRefIdeal.τ).loc Cert.AdamwMixerRefIdeal.main_arg4) = m' ((c.tc : Thread Cert.AdamwMixerRefIdeal.nD Cert.AdamwMixerRefIdeal.τ).loc Cert.AdamwMixerRefIdeal.main_arg4)
          ∧ r.2.mem ((c.tc : Thread Cert.AdamwMixerRefIdeal.nD Cert.AdamwMixerRefIdeal.τ).loc Cert.AdamwMixerRefIdeal.main_arg5) = m' ((c.tc : Thread Cert.AdamwMixerRefIdeal.nD Cert.AdamwMixerRefIdeal.τ).loc Cert.AdamwMixerRefIdeal.main_arg5)
          ∧ r.2.mem ((c.tc : Thread Cert.AdamwMixerRefIdeal.nD Cert.AdamwMixerRefIdeal.τ).loc Cert.AdamwMixerRefIdeal.main_arg6) = m' ((c.tc : Thread Cert.AdamwMixerRefIdeal.nD Cert.AdamwMixerRefIdeal.τ).loc Cert.AdamwMixerRefIdeal.main_arg6)
          ∧ r.2.mem ((c.tc : Thread Cert.AdamwMixerRefIdeal.nD Cert.AdamwMixerRefIdeal.τ).loc Cert.AdamwMixerRefIdeal.main_arg7) = m' ((c.tc : Thread Cert.AdamwMixerRefIdeal.nD Cert.AdamwMixerRefIdeal.τ).loc Cert.AdamwMixerRefIdeal.main_arg7))

def preserves_AdamwDown_AdamwDownIdeal : Prop :=
  IdealRules.named_const.Statement Cert.AdamwDownIdeal.κ "debias_m" .f32 0x3FC48605#32 ((8388608 / 5463681 : ℝ) : EReal)
  ∧ IdealRules.named_const.Statement Cert.AdamwDownIdeal.κ "debias_v" .f32 0x42C8E6D3#32 ((268435456 / 2672307 : ℝ) : EReal)

def algebraic_AdamwDownIdeal_AdamwDownRefIdeal [hAdamwDownIdeal : Cert.AdamwDownIdeal.Facts] [hAdamwDownRefIdeal : Cert.AdamwDownRefIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)
      ∧ m' ((c.tc : Thread Cert.AdamwDownRefIdeal.nD Cert.AdamwDownRefIdeal.τ).loc Cert.AdamwDownRefIdeal.main_arg4) = m ((c.tc : Thread Cert.AdamwDownIdeal.nD Cert.AdamwDownIdeal.τ).loc Cert.AdamwDownIdeal.main_arg4)
      ∧ m' ((c.tc : Thread Cert.AdamwDownRefIdeal.nD Cert.AdamwDownRefIdeal.τ).loc Cert.AdamwDownRefIdeal.main_arg5) = m ((c.tc : Thread Cert.AdamwDownIdeal.nD Cert.AdamwDownIdeal.τ).loc Cert.AdamwDownIdeal.main_arg5)
      ∧ m' ((c.tc : Thread Cert.AdamwDownRefIdeal.nD Cert.AdamwDownRefIdeal.τ).loc Cert.AdamwDownRefIdeal.main_arg6) = m ((c.tc : Thread Cert.AdamwDownIdeal.nD Cert.AdamwDownIdeal.τ).loc Cert.AdamwDownIdeal.main_arg6)
      ∧ m' ((c.tc : Thread Cert.AdamwDownRefIdeal.nD Cert.AdamwDownRefIdeal.τ).loc Cert.AdamwDownRefIdeal.main_arg7) = m ((c.tc : Thread Cert.AdamwDownIdeal.nD Cert.AdamwDownIdeal.τ).loc Cert.AdamwDownIdeal.main_arg7)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
          ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5)
          ∧ r.2.mem ((c.tc : Thread Cert.AdamwDownIdeal.nD Cert.AdamwDownIdeal.τ).loc Cert.AdamwDownIdeal.main_arg6) = m ((c.tc : Thread Cert.AdamwDownIdeal.nD Cert.AdamwDownIdeal.τ).loc Cert.AdamwDownIdeal.main_arg6)
          ∧ r.2.mem ((c.tc : Thread Cert.AdamwDownIdeal.nD Cert.AdamwDownIdeal.τ).loc Cert.AdamwDownIdeal.main_arg7) = m ((c.tc : Thread Cert.AdamwDownIdeal.nD Cert.AdamwDownIdeal.τ).loc Cert.AdamwDownIdeal.main_arg7))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v9) = v0 c
          ∧ r.2.mem ((c.tc : Thread Cert.AdamwDownRefIdeal.nD Cert.AdamwDownRefIdeal.τ).loc Cert.AdamwDownRefIdeal.main_v33) = v1 c
          ∧ r.2.mem ((c.tc : Thread Cert.AdamwDownRefIdeal.nD Cert.AdamwDownRefIdeal.τ).loc Cert.AdamwDownRefIdeal.main_v14) = v2 c
          ∧ r.2.mem ((c.tc : Thread Cert.AdamwDownRefIdeal.nD Cert.AdamwDownRefIdeal.τ).loc Cert.AdamwDownRefIdeal.main_v20) = v3 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3)
          ∧ r.2.mem ((c.tc : Thread Cert.AdamwDownRefIdeal.nD Cert.AdamwDownRefIdeal.τ).loc Cert.AdamwDownRefIdeal.main_arg4) = m' ((c.tc : Thread Cert.AdamwDownRefIdeal.nD Cert.AdamwDownRefIdeal.τ).loc Cert.AdamwDownRefIdeal.main_arg4)
          ∧ r.2.mem ((c.tc : Thread Cert.AdamwDownRefIdeal.nD Cert.AdamwDownRefIdeal.τ).loc Cert.AdamwDownRefIdeal.main_arg5) = m' ((c.tc : Thread Cert.AdamwDownRefIdeal.nD Cert.AdamwDownRefIdeal.τ).loc Cert.AdamwDownRefIdeal.main_arg5)
          ∧ r.2.mem ((c.tc : Thread Cert.AdamwDownRefIdeal.nD Cert.AdamwDownRefIdeal.τ).loc Cert.AdamwDownRefIdeal.main_arg6) = m' ((c.tc : Thread Cert.AdamwDownRefIdeal.nD Cert.AdamwDownRefIdeal.τ).loc Cert.AdamwDownRefIdeal.main_arg6)
          ∧ r.2.mem ((c.tc : Thread Cert.AdamwDownRefIdeal.nD Cert.AdamwDownRefIdeal.τ).loc Cert.AdamwDownRefIdeal.main_arg7) = m' ((c.tc : Thread Cert.AdamwDownRefIdeal.nD Cert.AdamwDownRefIdeal.τ).loc Cert.AdamwDownRefIdeal.main_arg7))

def preserves_AdamwGate_AdamwGateIdeal : Prop :=
  IdealRules.named_const.Statement Cert.AdamwGateIdeal.κ "debias_m" .f32 0x3FC48605#32 ((8388608 / 5463681 : ℝ) : EReal)
  ∧ IdealRules.named_const.Statement Cert.AdamwGateIdeal.κ "debias_v" .f32 0x42C8E6D3#32 ((268435456 / 2672307 : ℝ) : EReal)

def algebraic_AdamwGateIdeal_AdamwGateRefIdeal [hAdamwGateIdeal : Cert.AdamwGateIdeal.Facts] [hAdamwGateRefIdeal : Cert.AdamwGateRefIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg)
    (m' : (ℓ : Loc Cert.AdamwGateRefIdeal.nD Cert.AdamwGateRefIdeal.τ Cert.AdamwGateRefIdeal.sig) → Buf (Elt Ideal) ℓ) (g' : Dev Cert.AdamwGateRefIdeal.nD → PrngReg), Pre_AdamwGateIdeal m →
    (∀ c : Dev Cert.AdamwGateIdeal.nD,
      m' ((c.tc : Thread Cert.AdamwGateRefIdeal.nD Cert.AdamwGateRefIdeal.τ).loc Cert.AdamwGateRefIdeal.main_arg0) = m ((c.tc : Thread Cert.AdamwGateIdeal.nD Cert.AdamwGateIdeal.τ).loc Cert.AdamwGateIdeal.main_arg0)
      ∧ m' ((c.tc : Thread Cert.AdamwGateRefIdeal.nD Cert.AdamwGateRefIdeal.τ).loc Cert.AdamwGateRefIdeal.main_arg1) = m ((c.tc : Thread Cert.AdamwGateIdeal.nD Cert.AdamwGateIdeal.τ).loc Cert.AdamwGateIdeal.main_arg1)
      ∧ m' ((c.tc : Thread Cert.AdamwGateRefIdeal.nD Cert.AdamwGateRefIdeal.τ).loc Cert.AdamwGateRefIdeal.main_arg2) = m ((c.tc : Thread Cert.AdamwGateIdeal.nD Cert.AdamwGateIdeal.τ).loc Cert.AdamwGateIdeal.main_arg2)
      ∧ m' ((c.tc : Thread Cert.AdamwGateRefIdeal.nD Cert.AdamwGateRefIdeal.τ).loc Cert.AdamwGateRefIdeal.main_arg3) = m ((c.tc : Thread Cert.AdamwGateIdeal.nD Cert.AdamwGateIdeal.τ).loc Cert.AdamwGateIdeal.main_arg3)
      ∧ m' ((c.tc : Thread Cert.AdamwGateRefIdeal.nD Cert.AdamwGateRefIdeal.τ).loc Cert.AdamwGateRefIdeal.main_arg4) = m ((c.tc : Thread Cert.AdamwGateIdeal.nD Cert.AdamwGateIdeal.τ).loc Cert.AdamwGateIdeal.main_arg4)
      ∧ m' ((c.tc : Thread Cert.AdamwGateRefIdeal.nD Cert.AdamwGateRefIdeal.τ).loc Cert.AdamwGateRefIdeal.main_arg5) = m ((c.tc : Thread Cert.AdamwGateIdeal.nD Cert.AdamwGateIdeal.τ).loc Cert.AdamwGateIdeal.main_arg5)
      ∧ m' ((c.tc : Thread Cert.AdamwGateRefIdeal.nD Cert.AdamwGateRefIdeal.τ).loc Cert.AdamwGateRefIdeal.main_arg6) = m ((c.tc : Thread Cert.AdamwGateIdeal.nD Cert.AdamwGateIdeal.τ).loc Cert.AdamwGateIdeal.main_arg6)
      ∧ m' ((c.tc : Thread Cert.AdamwGateRefIdeal.nD Cert.AdamwGateRefIdeal.τ).loc Cert.AdamwGateRefIdeal.main_arg7) = m ((c.tc : Thread Cert.AdamwGateIdeal.nD Cert.AdamwGateIdeal.τ).loc Cert.AdamwGateIdeal.main_arg7)) →
    ∃ (v0 : (c : Dev Cert.AdamwGateIdeal.nD) → Buf (Elt Ideal) ((c.tc : Thread Cert.AdamwGateIdeal.nD Cert.AdamwGateIdeal.τ).loc Cert.AdamwGateIdeal.main_v4)) (v1 : (c : Dev Cert.AdamwGateIdeal.nD) → Buf (Elt Ideal) ((c.tc : Thread Cert.AdamwGateIdeal.nD Cert.AdamwGateIdeal.τ).loc Cert.AdamwGateIdeal.main_v5)) (v2 : (c : Dev Cert.AdamwGateIdeal.nD) → Buf (Elt Ideal) ((c.tc : Thread Cert.AdamwGateIdeal.nD Cert.AdamwGateIdeal.τ).loc Cert.AdamwGateIdeal.main_v6)) (v3 : (c : Dev Cert.AdamwGateIdeal.nD) → Buf (Elt Ideal) ((c.tc : Thread Cert.AdamwGateIdeal.nD Cert.AdamwGateIdeal.τ).loc Cert.AdamwGateIdeal.main_v7)),
      θ_run (Cert.AdamwGateIdeal.defs (F := Ideal)) (onTc (τ := Cert.AdamwGateIdeal.τ) (Cert.AdamwGateIdeal.main (F := Ideal))) ⟨m, fun _ => 0, g⟩ (fun r => ∀ c : Dev Cert.AdamwGateIdeal.nD,
          r.2.mem ((c.tc : Thread Cert.AdamwGateIdeal.nD Cert.AdamwGateIdeal.τ).loc Cert.AdamwGateIdeal.main_v4) = v0 c
          ∧ r.2.mem ((c.tc : Thread Cert.AdamwGateIdeal.nD Cert.AdamwGateIdeal.τ).loc Cert.AdamwGateIdeal.main_v5) = v1 c
          ∧ r.2.mem ((c.tc : Thread Cert.AdamwGateIdeal.nD Cert.AdamwGateIdeal.τ).loc Cert.AdamwGateIdeal.main_v6) = v2 c
          ∧ r.2.mem ((c.tc : Thread Cert.AdamwGateIdeal.nD Cert.AdamwGateIdeal.τ).loc Cert.AdamwGateIdeal.main_v7) = v3 c
          ∧ r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
          ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
          ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
          ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3)
          ∧ r.2.mem ((c.tc : Thread Cert.AdamwGateIdeal.nD Cert.AdamwGateIdeal.τ).loc Cert.AdamwGateIdeal.main_arg4) = m ((c.tc : Thread Cert.AdamwGateIdeal.nD Cert.AdamwGateIdeal.τ).loc Cert.AdamwGateIdeal.main_arg4)
          ∧ r.2.mem ((c.tc : Thread Cert.AdamwGateIdeal.nD Cert.AdamwGateIdeal.τ).loc Cert.AdamwGateIdeal.main_arg5) = m ((c.tc : Thread Cert.AdamwGateIdeal.nD Cert.AdamwGateIdeal.τ).loc Cert.AdamwGateIdeal.main_arg5)
          ∧ r.2.mem ((c.tc : Thread Cert.AdamwGateIdeal.nD Cert.AdamwGateIdeal.τ).loc Cert.AdamwGateIdeal.main_arg6) = m ((c.tc : Thread Cert.AdamwGateIdeal.nD Cert.AdamwGateIdeal.τ).loc Cert.AdamwGateIdeal.main_arg6)
          ∧ r.2.mem ((c.tc : Thread Cert.AdamwGateIdeal.nD Cert.AdamwGateIdeal.τ).loc Cert.AdamwGateIdeal.main_arg7) = m ((c.tc : Thread Cert.AdamwGateIdeal.nD Cert.AdamwGateIdeal.τ).loc Cert.AdamwGateIdeal.main_arg7))
      ∧ θ_run (Cert.AdamwGateRefIdeal.defs (F := Ideal)) (onTc (τ := Cert.AdamwGateRefIdeal.τ) (Cert.AdamwGateRefIdeal.main (F := Ideal))) ⟨m', fun _ => 0, g'⟩ (fun r => ∀ c : Dev Cert.AdamwGateRefIdeal.nD,
          r.2.mem ((c.tc : Thread Cert.AdamwGateRefIdeal.nD Cert.AdamwGateRefIdeal.τ).loc Cert.AdamwGateRefIdeal.main_v13) = v0 c
          ∧ r.2.mem ((c.tc : Thread Cert.AdamwGateRefIdeal.nD Cert.AdamwGateRefIdeal.τ).loc Cert.AdamwGateRefIdeal.main_v37) = v1 c
          ∧ r.2.mem ((c.tc : Thread Cert.AdamwGateRefIdeal.nD Cert.AdamwGateRefIdeal.τ).loc Cert.AdamwGateRefIdeal.main_v18) = v2 c
          ∧ r.2.mem ((c.tc : Thread Cert.AdamwGateRefIdeal.nD Cert.AdamwGateRefIdeal.τ).loc Cert.AdamwGateRefIdeal.main_v24) = v3 c
          ∧ r.2.mem ((c.tc : Thread Cert.AdamwGateRefIdeal.nD Cert.AdamwGateRefIdeal.τ).loc Cert.AdamwGateRefIdeal.main_arg0) = m' ((c.tc : Thread Cert.AdamwGateRefIdeal.nD Cert.AdamwGateRefIdeal.τ).loc Cert.AdamwGateRefIdeal.main_arg0)
          ∧ r.2.mem ((c.tc : Thread Cert.AdamwGateRefIdeal.nD Cert.AdamwGateRefIdeal.τ).loc Cert.AdamwGateRefIdeal.main_arg1) = m' ((c.tc : Thread Cert.AdamwGateRefIdeal.nD Cert.AdamwGateRefIdeal.τ).loc Cert.AdamwGateRefIdeal.main_arg1)
          ∧ r.2.mem ((c.tc : Thread Cert.AdamwGateRefIdeal.nD Cert.AdamwGateRefIdeal.τ).loc Cert.AdamwGateRefIdeal.main_arg2) = m' ((c.tc : Thread Cert.AdamwGateRefIdeal.nD Cert.AdamwGateRefIdeal.τ).loc Cert.AdamwGateRefIdeal.main_arg2)
          ∧ r.2.mem ((c.tc : Thread Cert.AdamwGateRefIdeal.nD Cert.AdamwGateRefIdeal.τ).loc Cert.AdamwGateRefIdeal.main_arg3) = m' ((c.tc : Thread Cert.AdamwGateRefIdeal.nD Cert.AdamwGateRefIdeal.τ).loc Cert.AdamwGateRefIdeal.main_arg3)
          ∧ r.2.mem ((c.tc : Thread Cert.AdamwGateRefIdeal.nD Cert.AdamwGateRefIdeal.τ).loc Cert.AdamwGateRefIdeal.main_arg4) = m' ((c.tc : Thread Cert.AdamwGateRefIdeal.nD Cert.AdamwGateRefIdeal.τ).loc Cert.AdamwGateRefIdeal.main_arg4)
          ∧ r.2.mem ((c.tc : Thread Cert.AdamwGateRefIdeal.nD Cert.AdamwGateRefIdeal.τ).loc Cert.AdamwGateRefIdeal.main_arg5) = m' ((c.tc : Thread Cert.AdamwGateRefIdeal.nD Cert.AdamwGateRefIdeal.τ).loc Cert.AdamwGateRefIdeal.main_arg5)
          ∧ r.2.mem ((c.tc : Thread Cert.AdamwGateRefIdeal.nD Cert.AdamwGateRefIdeal.τ).loc Cert.AdamwGateRefIdeal.main_arg6) = m' ((c.tc : Thread Cert.AdamwGateRefIdeal.nD Cert.AdamwGateRefIdeal.τ).loc Cert.AdamwGateRefIdeal.main_arg6)
          ∧ r.2.mem ((c.tc : Thread Cert.AdamwGateRefIdeal.nD Cert.AdamwGateRefIdeal.τ).loc Cert.AdamwGateRefIdeal.main_arg7) = m' ((c.tc : Thread Cert.AdamwGateRefIdeal.nD Cert.AdamwGateRefIdeal.τ).loc Cert.AdamwGateRefIdeal.main_arg7))

def preserves_AdamwIn_AdamwInIdeal : Prop :=
  IdealRules.named_const.Statement Cert.AdamwInIdeal.κ "debias_m" .f32 0x3FC48605#32 ((8388608 / 5463681 : ℝ) : EReal)
  ∧ IdealRules.named_const.Statement Cert.AdamwInIdeal.κ "debias_v" .f32 0x42C8E6D3#32 ((268435456 / 2672307 : ℝ) : EReal)

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)
      ∧ m' ((c.tc : Thread Cert.AdamwInRefIdeal.nD Cert.AdamwInRefIdeal.τ).loc Cert.AdamwInRefIdeal.main_arg5) = m ((c.tc : Thread Cert.AdamwInIdeal.nD Cert.AdamwInIdeal.τ).loc Cert.AdamwInIdeal.main_arg5)
      ∧ m' ((c.tc : Thread Cert.AdamwInRefIdeal.nD Cert.AdamwInRefIdeal.τ).loc Cert.AdamwInRefIdeal.main_arg6) = m ((c.tc : Thread Cert.AdamwInIdeal.nD Cert.AdamwInIdeal.τ).loc Cert.AdamwInIdeal.main_arg6)
      ∧ m' ((c.tc : Thread Cert.AdamwInRefIdeal.nD Cert.AdamwInRefIdeal.τ).loc Cert.AdamwInRefIdeal.main_arg7) = m ((c.tc : Thread Cert.AdamwInIdeal.nD Cert.AdamwInIdeal.τ).loc Cert.AdamwInIdeal.main_arg7)) →
    ∃ (v0 : (c : Dev Cert.AdamwInIdeal.nD) → Buf (Elt Ideal) ((c.tc : Thread Cert.AdamwInIdeal.nD Cert.AdamwInIdeal.τ).loc Cert.AdamwInIdeal.main_v8)) (v1 : (c : Dev Cert.AdamwInIdeal.nD) → Buf (Elt Ideal) ((c.tc : Thread Cert.AdamwInIdeal.nD Cert.AdamwInIdeal.τ).loc Cert.AdamwInIdeal.main_v10)) (v2 : (c : Dev Cert.AdamwInIdeal.nD) → Buf (Elt Ideal) ((c.tc : Thread Cert.AdamwInIdeal.nD Cert.AdamwInIdeal.τ).loc Cert.AdamwInIdeal.main_v12)) (v3 : (c : Dev Cert.AdamwInIdeal.nD) → Buf (Elt Ideal) ((c.tc : Thread Cert.AdamwInIdeal.nD Cert.AdamwInIdeal.τ).loc Cert.AdamwInIdeal.main_v14)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v8) = v0 c
          ∧ r.2.mem ((c.tc : Thread Cert.AdamwInIdeal.nD Cert.AdamwInIdeal.τ).loc Cert.AdamwInIdeal.main_v10) = v1 c
          ∧ r.2.mem ((c.tc : Thread Cert.AdamwInIdeal.nD Cert.AdamwInIdeal.τ).loc Cert.AdamwInIdeal.main_v12) = v2 c
          ∧ r.2.mem ((c.tc : Thread Cert.AdamwInIdeal.nD Cert.AdamwInIdeal.τ).loc Cert.AdamwInIdeal.main_v14) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
          ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
          ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6)
          ∧ r.2.mem ((c.tc : Thread Cert.AdamwInIdeal.nD Cert.AdamwInIdeal.τ).loc Cert.AdamwInIdeal.main_arg7) = m ((c.tc : Thread Cert.AdamwInIdeal.nD Cert.AdamwInIdeal.τ).loc Cert.AdamwInIdeal.main_arg7))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v17) = v0 c
          ∧ r.2.mem ((c.tc : Thread Cert.AdamwInRefIdeal.nD Cert.AdamwInRefIdeal.τ).loc Cert.AdamwInRefIdeal.main_v41) = v1 c
          ∧ r.2.mem ((c.tc : Thread Cert.AdamwInRefIdeal.nD Cert.AdamwInRefIdeal.τ).loc Cert.AdamwInRefIdeal.main_v22) = v2 c
          ∧ r.2.mem ((c.tc : Thread Cert.AdamwInRefIdeal.nD Cert.AdamwInRefIdeal.τ).loc Cert.AdamwInRefIdeal.main_v28) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4)
          ∧ r.2.mem ((c.tc : Thread Cert.AdamwInRefIdeal.nD Cert.AdamwInRefIdeal.τ).loc Cert.AdamwInRefIdeal.main_arg5) = m' ((c.tc : Thread Cert.AdamwInRefIdeal.nD Cert.AdamwInRefIdeal.τ).loc Cert.AdamwInRefIdeal.main_arg5)
          ∧ r.2.mem ((c.tc : Thread Cert.AdamwInRefIdeal.nD Cert.AdamwInRefIdeal.τ).loc Cert.AdamwInRefIdeal.main_arg6) = m' ((c.tc : Thread Cert.AdamwInRefIdeal.nD Cert.AdamwInRefIdeal.τ).loc Cert.AdamwInRefIdeal.main_arg6)
          ∧ r.2.mem ((c.tc : Thread Cert.AdamwInRefIdeal.nD Cert.AdamwInRefIdeal.τ).loc Cert.AdamwInRefIdeal.main_arg7) = m' ((c.tc : Thread Cert.AdamwInRefIdeal.nD Cert.AdamwInRefIdeal.τ).loc Cert.AdamwInRefIdeal.main_arg7))

def preserves_FfnOutFwd_FfnOutFwdIdeal : Prop :=
  True

def algebraic_FfnOutFwdIdeal_FfnOutFwdRefIdeal [hFfnOutFwdIdeal : Cert.FfnOutFwdIdeal.Facts] [hFfnOutFwdRefIdeal : Cert.FfnOutFwdRefIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg)
    (m' : (ℓ : Loc Cert.FfnOutFwdRefIdeal.nD Cert.FfnOutFwdRefIdeal.τ Cert.FfnOutFwdRefIdeal.sig) → Buf (Elt Ideal) ℓ) (g' : Dev Cert.FfnOutFwdRefIdeal.nD → PrngReg), Pre_FfnOutFwdIdeal m →
    (∀ c : Dev Cert.FfnOutFwdIdeal.nD,
      m' ((c.tc : Thread Cert.FfnOutFwdRefIdeal.nD Cert.FfnOutFwdRefIdeal.τ).loc Cert.FfnOutFwdRefIdeal.main_arg0) = m ((c.tc : Thread Cert.FfnOutFwdIdeal.nD Cert.FfnOutFwdIdeal.τ).loc Cert.FfnOutFwdIdeal.main_arg0)
      ∧ m' ((c.tc : Thread Cert.FfnOutFwdRefIdeal.nD Cert.FfnOutFwdRefIdeal.τ).loc Cert.FfnOutFwdRefIdeal.main_arg1) = m ((c.tc : Thread Cert.FfnOutFwdIdeal.nD Cert.FfnOutFwdIdeal.τ).loc Cert.FfnOutFwdIdeal.main_arg1)
      ∧ m' ((c.tc : Thread Cert.FfnOutFwdRefIdeal.nD Cert.FfnOutFwdRefIdeal.τ).loc Cert.FfnOutFwdRefIdeal.main_arg2) = m ((c.tc : Thread Cert.FfnOutFwdIdeal.nD Cert.FfnOutFwdIdeal.τ).loc Cert.FfnOutFwdIdeal.main_arg2)) →
    ∃ (v0 : (c : Dev Cert.FfnOutFwdIdeal.nD) → Buf (Elt Ideal) ((c.tc : Thread Cert.FfnOutFwdIdeal.nD Cert.FfnOutFwdIdeal.τ).loc Cert.FfnOutFwdIdeal.main_v0)),
      θ_run (Cert.FfnOutFwdIdeal.defs (F := Ideal)) (onTc (τ := Cert.FfnOutFwdIdeal.τ) (Cert.FfnOutFwdIdeal.main (F := Ideal))) ⟨m, fun _ => 0, g⟩ (fun r => ∀ c : Dev Cert.FfnOutFwdIdeal.nD,
          r.2.mem ((c.tc : Thread Cert.FfnOutFwdIdeal.nD Cert.FfnOutFwdIdeal.τ).loc Cert.FfnOutFwdIdeal.main_v0) = v0 c
          ∧ r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
          ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
          ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2))
      ∧ θ_run (Cert.FfnOutFwdRefIdeal.defs (F := Ideal)) (onTc (τ := Cert.FfnOutFwdRefIdeal.τ) (Cert.FfnOutFwdRefIdeal.main (F := Ideal))) ⟨m', fun _ => 0, g'⟩ (fun r => ∀ c : Dev Cert.FfnOutFwdRefIdeal.nD,
          r.2.mem ((c.tc : Thread Cert.FfnOutFwdRefIdeal.nD Cert.FfnOutFwdRefIdeal.τ).loc Cert.FfnOutFwdRefIdeal.main_v3) = v0 c
          ∧ r.2.mem ((c.tc : Thread Cert.FfnOutFwdRefIdeal.nD Cert.FfnOutFwdRefIdeal.τ).loc Cert.FfnOutFwdRefIdeal.main_arg0) = m' ((c.tc : Thread Cert.FfnOutFwdRefIdeal.nD Cert.FfnOutFwdRefIdeal.τ).loc Cert.FfnOutFwdRefIdeal.main_arg0)
          ∧ r.2.mem ((c.tc : Thread Cert.FfnOutFwdRefIdeal.nD Cert.FfnOutFwdRefIdeal.τ).loc Cert.FfnOutFwdRefIdeal.main_arg1) = m' ((c.tc : Thread Cert.FfnOutFwdRefIdeal.nD Cert.FfnOutFwdRefIdeal.τ).loc Cert.FfnOutFwdRefIdeal.main_arg1)
          ∧ r.2.mem ((c.tc : Thread Cert.FfnOutFwdRefIdeal.nD Cert.FfnOutFwdRefIdeal.τ).loc Cert.FfnOutFwdRefIdeal.main_arg2) = m' ((c.tc : Thread Cert.FfnOutFwdRefIdeal.nD Cert.FfnOutFwdRefIdeal.τ).loc Cert.FfnOutFwdRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_FfnHiddenFwd_FfnHiddenFwdIdeal : Prop :=
  True

def algebraic_FfnHiddenFwdIdeal_FfnHiddenFwdRefIdeal [hFfnHiddenFwdIdeal : Cert.FfnHiddenFwdIdeal.Facts] [hFfnHiddenFwdRefIdeal : Cert.FfnHiddenFwdRefIdeal.Facts] : Prop :=
  ∀ (m : (ℓ : Loc Cert.FfnHiddenFwdIdeal.nD Cert.FfnHiddenFwdIdeal.τ Cert.FfnHiddenFwdIdeal.sig) → Buf (Elt Ideal) ℓ) (g : Dev Cert.FfnHiddenFwdIdeal.nD → PrngReg)
    (m' : (ℓ : Loc Cert.FfnHiddenFwdRefIdeal.nD Cert.FfnHiddenFwdRefIdeal.τ Cert.FfnHiddenFwdRefIdeal.sig) → Buf (Elt Ideal) ℓ) (g' : Dev Cert.FfnHiddenFwdRefIdeal.nD → PrngReg), Pre_FfnHiddenFwdIdeal m →
    (∀ c : Dev Cert.FfnHiddenFwdIdeal.nD,
      m' ((c.tc : Thread Cert.FfnHiddenFwdRefIdeal.nD Cert.FfnHiddenFwdRefIdeal.τ).loc Cert.FfnHiddenFwdRefIdeal.main_arg0) = m ((c.tc : Thread Cert.FfnHiddenFwdIdeal.nD Cert.FfnHiddenFwdIdeal.τ).loc Cert.FfnHiddenFwdIdeal.main_arg0)
      ∧ m' ((c.tc : Thread Cert.FfnHiddenFwdRefIdeal.nD Cert.FfnHiddenFwdRefIdeal.τ).loc Cert.FfnHiddenFwdRefIdeal.main_arg1) = m ((c.tc : Thread Cert.FfnHiddenFwdIdeal.nD Cert.FfnHiddenFwdIdeal.τ).loc Cert.FfnHiddenFwdIdeal.main_arg1)
      ∧ m' ((c.tc : Thread Cert.FfnHiddenFwdRefIdeal.nD Cert.FfnHiddenFwdRefIdeal.τ).loc Cert.FfnHiddenFwdRefIdeal.main_arg2) = m ((c.tc : Thread Cert.FfnHiddenFwdIdeal.nD Cert.FfnHiddenFwdIdeal.τ).loc Cert.FfnHiddenFwdIdeal.main_arg2)
      ∧ m' ((c.tc : Thread Cert.FfnHiddenFwdRefIdeal.nD Cert.FfnHiddenFwdRefIdeal.τ).loc Cert.FfnHiddenFwdRefIdeal.main_arg3) = m ((c.tc : Thread Cert.FfnHiddenFwdIdeal.nD Cert.FfnHiddenFwdIdeal.τ).loc Cert.FfnHiddenFwdIdeal.main_arg3)) →
    ∃ (v0 : (c : Dev Cert.FfnHiddenFwdIdeal.nD) → Buf (Elt Ideal) ((c.tc : Thread Cert.FfnHiddenFwdIdeal.nD Cert.FfnHiddenFwdIdeal.τ).loc Cert.FfnHiddenFwdIdeal.main_v1_0)) (v1 : (c : Dev Cert.FfnHiddenFwdIdeal.nD) → Buf (Elt Ideal) ((c.tc : Thread Cert.FfnHiddenFwdIdeal.nD Cert.FfnHiddenFwdIdeal.τ).loc Cert.FfnHiddenFwdIdeal.main_v1_1)) (v2 : (c : Dev Cert.FfnHiddenFwdIdeal.nD) → Buf (Elt Ideal) ((c.tc : Thread Cert.FfnHiddenFwdIdeal.nD Cert.FfnHiddenFwdIdeal.τ).loc Cert.FfnHiddenFwdIdeal.main_v1_2)) (v3 : (c : Dev Cert.FfnHiddenFwdIdeal.nD) → Buf (Elt Ideal) ((c.tc : Thread Cert.FfnHiddenFwdIdeal.nD Cert.FfnHiddenFwdIdeal.τ).loc Cert.FfnHiddenFwdIdeal.main_v1_3)),
      θ_run (Cert.FfnHiddenFwdIdeal.defs (F := Ideal)) (onTc (τ := Cert.FfnHiddenFwdIdeal.τ) (Cert.FfnHiddenFwdIdeal.main (F := Ideal))) ⟨m, fun _ => 0, g⟩ (fun r => ∀ c : Dev Cert.FfnHiddenFwdIdeal.nD,
          r.2.mem ((c.tc : Thread Cert.FfnHiddenFwdIdeal.nD Cert.FfnHiddenFwdIdeal.τ).loc Cert.FfnHiddenFwdIdeal.main_v1_0) = v0 c
          ∧ r.2.mem ((c.tc : Thread Cert.FfnHiddenFwdIdeal.nD Cert.FfnHiddenFwdIdeal.τ).loc Cert.FfnHiddenFwdIdeal.main_v1_1) = v1 c
          ∧ r.2.mem ((c.tc : Thread Cert.FfnHiddenFwdIdeal.nD Cert.FfnHiddenFwdIdeal.τ).loc Cert.FfnHiddenFwdIdeal.main_v1_2) = v2 c
          ∧ r.2.mem ((c.tc : Thread Cert.FfnHiddenFwdIdeal.nD Cert.FfnHiddenFwdIdeal.τ).loc Cert.FfnHiddenFwdIdeal.main_v1_3) = v3 c
          ∧ r.2.mem ((c.tc : Thread Cert.FfnHiddenFwdIdeal.nD Cert.FfnHiddenFwdIdeal.τ).loc Cert.FfnHiddenFwdIdeal.main_arg0) = m ((c.tc : Thread Cert.FfnHiddenFwdIdeal.nD Cert.FfnHiddenFwdIdeal.τ).loc Cert.FfnHiddenFwdIdeal.main_arg0)
          ∧ r.2.mem ((c.tc : Thread Cert.FfnHiddenFwdIdeal.nD Cert.FfnHiddenFwdIdeal.τ).loc Cert.FfnHiddenFwdIdeal.main_arg1) = m ((c.tc : Thread Cert.FfnHiddenFwdIdeal.nD Cert.FfnHiddenFwdIdeal.τ).loc Cert.FfnHiddenFwdIdeal.main_arg1)
          ∧ r.2.mem ((c.tc : Thread Cert.FfnHiddenFwdIdeal.nD Cert.FfnHiddenFwdIdeal.τ).loc Cert.FfnHiddenFwdIdeal.main_arg2) = m ((c.tc : Thread Cert.FfnHiddenFwdIdeal.nD Cert.FfnHiddenFwdIdeal.τ).loc Cert.FfnHiddenFwdIdeal.main_arg2)
          ∧ r.2.mem ((c.tc : Thread Cert.FfnHiddenFwdIdeal.nD Cert.FfnHiddenFwdIdeal.τ).loc Cert.FfnHiddenFwdIdeal.main_arg3) = m ((c.tc : Thread Cert.FfnHiddenFwdIdeal.nD Cert.FfnHiddenFwdIdeal.τ).loc Cert.FfnHiddenFwdIdeal.main_arg3))
      ∧ θ_run (Cert.FfnHiddenFwdRefIdeal.defs (F := Ideal)) (onTc (τ := Cert.FfnHiddenFwdRefIdeal.τ) (Cert.FfnHiddenFwdRefIdeal.main (F := Ideal))) ⟨m', fun _ => 0, g'⟩ (fun r => ∀ c : Dev Cert.FfnHiddenFwdRefIdeal.nD,
          r.2.mem ((c.tc : Thread Cert.FfnHiddenFwdRefIdeal.nD Cert.FfnHiddenFwdRefIdeal.τ).loc Cert.FfnHiddenFwdRefIdeal.main_v21) = v0 c
          ∧ r.2.mem ((c.tc : Thread Cert.FfnHiddenFwdRefIdeal.nD Cert.FfnHiddenFwdRefIdeal.τ).loc Cert.FfnHiddenFwdRefIdeal.main_v22) = v1 c
          ∧ r.2.mem ((c.tc : Thread Cert.FfnHiddenFwdRefIdeal.nD Cert.FfnHiddenFwdRefIdeal.τ).loc Cert.FfnHiddenFwdRefIdeal.main_v23) = v2 c
          ∧ r.2.mem ((c.tc : Thread Cert.FfnHiddenFwdRefIdeal.nD Cert.FfnHiddenFwdRefIdeal.τ).loc Cert.FfnHiddenFwdRefIdeal.main_v24) = v3 c
          ∧ r.2.mem ((c.tc : Thread Cert.FfnHiddenFwdRefIdeal.nD Cert.FfnHiddenFwdRefIdeal.τ).loc Cert.FfnHiddenFwdRefIdeal.main_arg0) = m' ((c.tc : Thread Cert.FfnHiddenFwdRefIdeal.nD Cert.FfnHiddenFwdRefIdeal.τ).loc Cert.FfnHiddenFwdRefIdeal.main_arg0)
          ∧ r.2.mem ((c.tc : Thread Cert.FfnHiddenFwdRefIdeal.nD Cert.FfnHiddenFwdRefIdeal.τ).loc Cert.FfnHiddenFwdRefIdeal.main_arg1) = m' ((c.tc : Thread Cert.FfnHiddenFwdRefIdeal.nD Cert.FfnHiddenFwdRefIdeal.τ).loc Cert.FfnHiddenFwdRefIdeal.main_arg1)
          ∧ r.2.mem ((c.tc : Thread Cert.FfnHiddenFwdRefIdeal.nD Cert.FfnHiddenFwdRefIdeal.τ).loc Cert.FfnHiddenFwdRefIdeal.main_arg2) = m' ((c.tc : Thread Cert.FfnHiddenFwdRefIdeal.nD Cert.FfnHiddenFwdRefIdeal.τ).loc Cert.FfnHiddenFwdRefIdeal.main_arg2)
          ∧ r.2.mem ((c.tc : Thread Cert.FfnHiddenFwdRefIdeal.nD Cert.FfnHiddenFwdRefIdeal.τ).loc Cert.FfnHiddenFwdRefIdeal.main_arg3) = m' ((c.tc : Thread Cert.FfnHiddenFwdRefIdeal.nD Cert.FfnHiddenFwdRefIdeal.τ).loc Cert.FfnHiddenFwdRefIdeal.main_arg3))

def preserves_MixerFwd_MixerFwdIdeal : Prop :=
  True

def algebraic_MixerFwdIdeal_MixerFwdRefIdeal [hMixerFwdIdeal : Cert.MixerFwdIdeal.Facts] [hMixerFwdRefIdeal : Cert.MixerFwdRefIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)
      ∧ m' ((c.tc : Thread Cert.MixerFwdRefIdeal.nD Cert.MixerFwdRefIdeal.τ).loc Cert.MixerFwdRefIdeal.main_arg5) = m ((c.tc : Thread Cert.MixerFwdIdeal.nD Cert.MixerFwdIdeal.τ).loc Cert.MixerFwdIdeal.main_arg5)
      ∧ m' ((c.tc : Thread Cert.MixerFwdRefIdeal.nD Cert.MixerFwdRefIdeal.τ).loc Cert.MixerFwdRefIdeal.main_arg6) = m ((c.tc : Thread Cert.MixerFwdIdeal.nD Cert.MixerFwdIdeal.τ).loc Cert.MixerFwdIdeal.main_arg6)) →
    ∃ (v0 : (c : Dev Cert.MixerFwdIdeal.nD) → Buf (Elt Ideal) ((c.tc : Thread Cert.MixerFwdIdeal.nD Cert.MixerFwdIdeal.τ).loc Cert.MixerFwdIdeal.main_v0_0)) (v1 : (c : Dev Cert.MixerFwdIdeal.nD) → Buf (Elt Ideal) ((c.tc : Thread Cert.MixerFwdIdeal.nD Cert.MixerFwdIdeal.τ).loc Cert.MixerFwdIdeal.main_v0_1)) (v2 : (c : Dev Cert.MixerFwdIdeal.nD) → Buf (Elt Ideal) ((c.tc : Thread Cert.MixerFwdIdeal.nD Cert.MixerFwdIdeal.τ).loc Cert.MixerFwdIdeal.main_v0_2)) (v3 : (c : Dev Cert.MixerFwdIdeal.nD) → Buf (Elt Ideal) ((c.tc : Thread Cert.MixerFwdIdeal.nD Cert.MixerFwdIdeal.τ).loc Cert.MixerFwdIdeal.main_v0_3)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v0_0) = v0 c
          ∧ r.2.mem ((c.tc : Thread Cert.MixerFwdIdeal.nD Cert.MixerFwdIdeal.τ).loc Cert.MixerFwdIdeal.main_v0_1) = v1 c
          ∧ r.2.mem ((c.tc : Thread Cert.MixerFwdIdeal.nD Cert.MixerFwdIdeal.τ).loc Cert.MixerFwdIdeal.main_v0_2) = v2 c
          ∧ r.2.mem ((c.tc : Thread Cert.MixerFwdIdeal.nD Cert.MixerFwdIdeal.τ).loc Cert.MixerFwdIdeal.main_v0_3) = v3 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
          ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
          ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v28) = v0 c
          ∧ r.2.mem ((c.tc : Thread Cert.MixerFwdRefIdeal.nD Cert.MixerFwdRefIdeal.τ).loc Cert.MixerFwdRefIdeal.main_v29) = v1 c
          ∧ r.2.mem ((c.tc : Thread Cert.MixerFwdRefIdeal.nD Cert.MixerFwdRefIdeal.τ).loc Cert.MixerFwdRefIdeal.main_v30) = v2 c
          ∧ r.2.mem ((c.tc : Thread Cert.MixerFwdRefIdeal.nD Cert.MixerFwdRefIdeal.τ).loc Cert.MixerFwdRefIdeal.main_v27) = v3 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4)
          ∧ r.2.mem ((c.tc : Thread Cert.MixerFwdRefIdeal.nD Cert.MixerFwdRefIdeal.τ).loc Cert.MixerFwdRefIdeal.main_arg5) = m' ((c.tc : Thread Cert.MixerFwdRefIdeal.nD Cert.MixerFwdRefIdeal.τ).loc Cert.MixerFwdRefIdeal.main_arg5)
          ∧ r.2.mem ((c.tc : Thread Cert.MixerFwdRefIdeal.nD Cert.MixerFwdRefIdeal.τ).loc Cert.MixerFwdRefIdeal.main_arg6) = m' ((c.tc : Thread Cert.MixerFwdRefIdeal.nD Cert.MixerFwdRefIdeal.τ).loc Cert.MixerFwdRefIdeal.main_arg6))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v37) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v87) = v0 c
          ∧ r.2.mem ((c.tc : Thread Cert.ConvBwdRefIdeal.nD Cert.ConvBwdRefIdeal.τ).loc Cert.ConvBwdRefIdeal.main_v84) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_LossTotal_LossTotalIdeal : Prop :=
  True

def algebraic_LossTotalIdeal_LossTotalRefIdeal [hLossTotalIdeal : Cert.LossTotalIdeal.Facts] [hLossTotalRefIdeal : Cert.LossTotalRefIdeal.Facts] : Prop :=
  ∀ (m : (ℓ : Loc Cert.LossTotalIdeal.nD Cert.LossTotalIdeal.τ Cert.LossTotalIdeal.sig) → Buf (Elt Ideal) ℓ) (g : Dev Cert.LossTotalIdeal.nD → PrngReg)
    (m' : (ℓ : Loc Cert.LossTotalRefIdeal.nD Cert.LossTotalRefIdeal.τ Cert.LossTotalRefIdeal.sig) → Buf (Elt Ideal) ℓ) (g' : Dev Cert.LossTotalRefIdeal.nD → PrngReg), Pre_LossTotalIdeal m →
    (∀ c : Dev Cert.LossTotalIdeal.nD,
      m ((c.tc : Thread Cert.LossTotalIdeal.nD Cert.LossTotalIdeal.τ).loc Cert.LossTotalIdeal.main_arg0) = Layout.block ⟨2, ![4096, 1024]⟩ ⟨2, ![32768, 1024]⟩ 0 8 c (m' (((0 : Dev Cert.LossTotalRefIdeal.nD).tc : Thread Cert.LossTotalRefIdeal.nD Cert.LossTotalRefIdeal.τ).loc Cert.LossTotalRefIdeal.main_arg0))
      ∧ m ((c.tc : Thread Cert.LossTotalIdeal.nD Cert.LossTotalIdeal.τ).loc Cert.LossTotalIdeal.main_arg1) = m' (((0 : Dev Cert.LossTotalRefIdeal.nD).tc : Thread Cert.LossTotalRefIdeal.nD Cert.LossTotalRefIdeal.τ).loc Cert.LossTotalRefIdeal.main_arg1)
      ∧ m ((c.tc : Thread Cert.LossTotalIdeal.nD Cert.LossTotalIdeal.τ).loc Cert.LossTotalIdeal.main_arg2) = Layout.block ⟨2, ![4096, 1024]⟩ ⟨2, ![32768, 1024]⟩ 0 8 c (m' (((0 : Dev Cert.LossTotalRefIdeal.nD).tc : Thread Cert.LossTotalRefIdeal.nD Cert.LossTotalRefIdeal.τ).loc Cert.LossTotalRefIdeal.main_arg2))) →
    ∃ (v0 : Buf (Elt Ideal) (((0 : Dev Cert.LossTotalRefIdeal.nD).tc : Thread Cert.LossTotalRefIdeal.nD Cert.LossTotalRefIdeal.τ).loc Cert.LossTotalRefIdeal.main_v19)),
      θ_run (Cert.LossTotalIdeal.defs (F := Ideal)) (onTc (τ := Cert.LossTotalIdeal.τ) (Cert.LossTotalIdeal.main (F := Ideal))) ⟨m, fun _ => 0, g⟩ (fun r => ∀ c : Dev Cert.LossTotalIdeal.nD,
          r.2.mem ((c.tc : Thread Cert.LossTotalIdeal.nD Cert.LossTotalIdeal.τ).loc Cert.LossTotalIdeal.main_v4) = v0
          ∧ r.2.mem ((c.tc : Thread Cert.LossTotalIdeal.nD Cert.LossTotalIdeal.τ).loc Cert.LossTotalIdeal.main_arg0) = m ((c.tc : Thread Cert.LossTotalIdeal.nD Cert.LossTotalIdeal.τ).loc Cert.LossTotalIdeal.main_arg0)
          ∧ r.2.mem ((c.tc : Thread Cert.LossTotalIdeal.nD Cert.LossTotalIdeal.τ).loc Cert.LossTotalIdeal.main_arg1) = m ((c.tc : Thread Cert.LossTotalIdeal.nD Cert.LossTotalIdeal.τ).loc Cert.LossTotalIdeal.main_arg1)
          ∧ r.2.mem ((c.tc : Thread Cert.LossTotalIdeal.nD Cert.LossTotalIdeal.τ).loc Cert.LossTotalIdeal.main_arg2) = m ((c.tc : Thread Cert.LossTotalIdeal.nD Cert.LossTotalIdeal.τ).loc Cert.LossTotalIdeal.main_arg2))
      ∧ θ_run (Cert.LossTotalRefIdeal.defs (F := Ideal)) (onTc (τ := Cert.LossTotalRefIdeal.τ) (Cert.LossTotalRefIdeal.main (F := Ideal))) ⟨m', fun _ => 0, g'⟩ (fun r =>
          r.2.mem (((0 : Dev Cert.LossTotalRefIdeal.nD).tc : Thread Cert.LossTotalRefIdeal.nD Cert.LossTotalRefIdeal.τ).loc Cert.LossTotalRefIdeal.main_v19) = v0
          ∧ r.2.mem (((0 : Dev Cert.LossTotalRefIdeal.nD).tc : Thread Cert.LossTotalRefIdeal.nD Cert.LossTotalRefIdeal.τ).loc Cert.LossTotalRefIdeal.main_arg0) = m' (((0 : Dev Cert.LossTotalRefIdeal.nD).tc : Thread Cert.LossTotalRefIdeal.nD Cert.LossTotalRefIdeal.τ).loc Cert.LossTotalRefIdeal.main_arg0)
          ∧ r.2.mem (((0 : Dev Cert.LossTotalRefIdeal.nD).tc : Thread Cert.LossTotalRefIdeal.nD Cert.LossTotalRefIdeal.τ).loc Cert.LossTotalRefIdeal.main_arg1) = m' (((0 : Dev Cert.LossTotalRefIdeal.nD).tc : Thread Cert.LossTotalRefIdeal.nD Cert.LossTotalRefIdeal.τ).loc Cert.LossTotalRefIdeal.main_arg1)
          ∧ r.2.mem (((0 : Dev Cert.LossTotalRefIdeal.nD).tc : Thread Cert.LossTotalRefIdeal.nD Cert.LossTotalRefIdeal.τ).loc Cert.LossTotalRefIdeal.main_arg2) = m' (((0 : Dev Cert.LossTotalRefIdeal.nD).tc : Thread Cert.LossTotalRefIdeal.nD Cert.LossTotalRefIdeal.τ).loc Cert.LossTotalRefIdeal.main_arg2))

def preserves_PutGate_PutGateIdeal : Prop :=
  True

def algebraic_PutGateIdeal_PutGateRefIdeal [hPutGateIdeal : Cert.PutGateIdeal.Facts] [hPutGateRefIdeal : Cert.PutGateRefIdeal.Facts] : Prop :=
  ∀ (m : (ℓ : Loc Cert.PutGateIdeal.nD Cert.PutGateIdeal.τ Cert.PutGateIdeal.sig) → Buf (Elt Ideal) ℓ) (g : Dev Cert.PutGateIdeal.nD → PrngReg)
    (m' : (ℓ : Loc Cert.PutGateRefIdeal.nD Cert.PutGateRefIdeal.τ Cert.PutGateRefIdeal.sig) → Buf (Elt Ideal) ℓ) (g' : Dev Cert.PutGateRefIdeal.nD → PrngReg), Pre_PutGateIdeal m →
    (∀ c : Dev Cert.PutGateIdeal.nD,
      m' ((c.tc : Thread Cert.PutGateRefIdeal.nD Cert.PutGateRefIdeal.τ).loc Cert.PutGateRefIdeal.main_arg0) = m ((c.tc : Thread Cert.PutGateIdeal.nD Cert.PutGateIdeal.τ).loc Cert.PutGateIdeal.main_arg0)
      ∧ m' ((c.tc : Thread Cert.PutGateRefIdeal.nD Cert.PutGateRefIdeal.τ).loc Cert.PutGateRefIdeal.main_arg1) = m ((c.tc : Thread Cert.PutGateIdeal.nD Cert.PutGateIdeal.τ).loc Cert.PutGateIdeal.main_arg1)) →
    ∃ (v0 : (c : Dev Cert.PutGateIdeal.nD) → Buf (Elt Ideal) ((c.tc : Thread Cert.PutGateIdeal.nD Cert.PutGateIdeal.τ).loc Cert.PutGateIdeal.main_v0)),
      θ_run (Cert.PutGateIdeal.defs (F := Ideal)) (onTc (τ := Cert.PutGateIdeal.τ) (Cert.PutGateIdeal.main (F := Ideal))) ⟨m, fun _ => 0, g⟩ (fun r => ∀ c : Dev Cert.PutGateIdeal.nD,
          r.2.mem ((c.tc : Thread Cert.PutGateIdeal.nD Cert.PutGateIdeal.τ).loc Cert.PutGateIdeal.main_v0) = v0 c
          ∧ r.2.mem ((c.tc : Thread Cert.PutGateIdeal.nD Cert.PutGateIdeal.τ).loc Cert.PutGateIdeal.main_arg0) = m ((c.tc : Thread Cert.PutGateIdeal.nD Cert.PutGateIdeal.τ).loc Cert.PutGateIdeal.main_arg0)
          ∧ r.2.mem ((c.tc : Thread Cert.PutGateIdeal.nD Cert.PutGateIdeal.τ).loc Cert.PutGateIdeal.main_arg1) = m ((c.tc : Thread Cert.PutGateIdeal.nD Cert.PutGateIdeal.τ).loc Cert.PutGateIdeal.main_arg1))
      ∧ θ_run (Cert.PutGateRefIdeal.defs (F := Ideal)) (onTc (τ := Cert.PutGateRefIdeal.τ) (Cert.PutGateRefIdeal.main (F := Ideal))) ⟨m', fun _ => 0, g'⟩ (fun r => ∀ c : Dev Cert.PutGateRefIdeal.nD,
          r.2.mem ((c.tc : Thread Cert.PutGateRefIdeal.nD Cert.PutGateRefIdeal.τ).loc Cert.PutGateRefIdeal.main_v1) = v0 c
          ∧ r.2.mem ((c.tc : Thread Cert.PutGateRefIdeal.nD Cert.PutGateRefIdeal.τ).loc Cert.PutGateRefIdeal.main_arg0) = m' ((c.tc : Thread Cert.PutGateRefIdeal.nD Cert.PutGateRefIdeal.τ).loc Cert.PutGateRefIdeal.main_arg0)
          ∧ r.2.mem ((c.tc : Thread Cert.PutGateRefIdeal.nD Cert.PutGateRefIdeal.τ).loc Cert.PutGateRefIdeal.main_arg1) = m' ((c.tc : Thread Cert.PutGateRefIdeal.nD Cert.PutGateRefIdeal.τ).loc Cert.PutGateRefIdeal.main_arg1))

def preserves_RowsIn_RowsInIdeal : Prop :=
  True

def algebraic_RowsInIdeal_RowsInRefIdeal [hRowsInIdeal : Cert.RowsInIdeal.Facts] [hRowsInRefIdeal : Cert.RowsInRefIdeal.Facts] : Prop :=
  ∀ (m : (ℓ : Loc Cert.RowsInIdeal.nD Cert.RowsInIdeal.τ Cert.RowsInIdeal.sig) → Buf (Elt Ideal) ℓ) (g : Dev Cert.RowsInIdeal.nD → PrngReg)
    (m' : (ℓ : Loc Cert.RowsInRefIdeal.nD Cert.RowsInRefIdeal.τ Cert.RowsInRefIdeal.sig) → Buf (Elt Ideal) ℓ) (g' : Dev Cert.RowsInRefIdeal.nD → PrngReg), Pre_RowsInIdeal m →
    (∀ c : Dev Cert.RowsInIdeal.nD,
      m' ((c.tc : Thread Cert.RowsInRefIdeal.nD Cert.RowsInRefIdeal.τ).loc Cert.RowsInRefIdeal.main_arg0) = m ((c.tc : Thread Cert.RowsInIdeal.nD Cert.RowsInIdeal.τ).loc Cert.RowsInIdeal.main_arg0)) →
    ∃ (v0 : (c : Dev Cert.RowsInIdeal.nD) → Buf (Elt Ideal) ((c.tc : Thread Cert.RowsInIdeal.nD Cert.RowsInIdeal.τ).loc Cert.RowsInIdeal.main_v1)),
      θ_run (Cert.RowsInIdeal.defs (F := Ideal)) (onTc (τ := Cert.RowsInIdeal.τ) (Cert.RowsInIdeal.main (F := Ideal))) ⟨m, fun _ => 0, g⟩ (fun r => ∀ c : Dev Cert.RowsInIdeal.nD,
          r.2.mem ((c.tc : Thread Cert.RowsInIdeal.nD Cert.RowsInIdeal.τ).loc Cert.RowsInIdeal.main_v1) = v0 c
          ∧ r.2.mem ((c.tc : Thread Cert.RowsInIdeal.nD Cert.RowsInIdeal.τ).loc Cert.RowsInIdeal.main_arg0) = m ((c.tc : Thread Cert.RowsInIdeal.nD Cert.RowsInIdeal.τ).loc Cert.RowsInIdeal.main_arg0))
      ∧ θ_run (Cert.RowsInRefIdeal.defs (F := Ideal)) (onTc (τ := Cert.RowsInRefIdeal.τ) (Cert.RowsInRefIdeal.main (F := Ideal))) ⟨m', fun _ => 0, g'⟩ (fun r => ∀ c : Dev Cert.RowsInRefIdeal.nD,
          r.2.mem ((c.tc : Thread Cert.RowsInRefIdeal.nD Cert.RowsInRefIdeal.τ).loc Cert.RowsInRefIdeal.main_v6) = v0 c
          ∧ r.2.mem ((c.tc : Thread Cert.RowsInRefIdeal.nD Cert.RowsInRefIdeal.τ).loc Cert.RowsInRefIdeal.main_arg0) = m' ((c.tc : Thread Cert.RowsInRefIdeal.nD Cert.RowsInRefIdeal.τ).loc Cert.RowsInRefIdeal.main_arg0))

def preserves_RowsOut_RowsOutIdeal : Prop :=
  True

def algebraic_RowsOutIdeal_RowsOutRefIdeal [hRowsOutIdeal : Cert.RowsOutIdeal.Facts] [hRowsOutRefIdeal : Cert.RowsOutRefIdeal.Facts] : Prop :=
  ∀ (m : (ℓ : Loc Cert.RowsOutIdeal.nD Cert.RowsOutIdeal.τ Cert.RowsOutIdeal.sig) → Buf (Elt Ideal) ℓ) (g : Dev Cert.RowsOutIdeal.nD → PrngReg)
    (m' : (ℓ : Loc Cert.RowsOutRefIdeal.nD Cert.RowsOutRefIdeal.τ Cert.RowsOutRefIdeal.sig) → Buf (Elt Ideal) ℓ) (g' : Dev Cert.RowsOutRefIdeal.nD → PrngReg), Pre_RowsOutIdeal m →
    (∀ c : Dev Cert.RowsOutIdeal.nD,
      m' ((c.tc : Thread Cert.RowsOutRefIdeal.nD Cert.RowsOutRefIdeal.τ).loc Cert.RowsOutRefIdeal.main_arg0) = m ((c.tc : Thread Cert.RowsOutIdeal.nD Cert.RowsOutIdeal.τ).loc Cert.RowsOutIdeal.main_arg0)) →
    ∃ (v0 : (c : Dev Cert.RowsOutIdeal.nD) → Buf (Elt Ideal) ((c.tc : Thread Cert.RowsOutIdeal.nD Cert.RowsOutIdeal.τ).loc Cert.RowsOutIdeal.main_v0)),
      θ_run (Cert.RowsOutIdeal.defs (F := Ideal)) (onTc (τ := Cert.RowsOutIdeal.τ) (Cert.RowsOutIdeal.main (F := Ideal))) ⟨m, fun _ => 0, g⟩ (fun r => ∀ c : Dev Cert.RowsOutIdeal.nD,
          r.2.mem ((c.tc : Thread Cert.RowsOutIdeal.nD Cert.RowsOutIdeal.τ).loc Cert.RowsOutIdeal.main_v0) = v0 c
          ∧ r.2.mem ((c.tc : Thread Cert.RowsOutIdeal.nD Cert.RowsOutIdeal.τ).loc Cert.RowsOutIdeal.main_arg0) = m ((c.tc : Thread Cert.RowsOutIdeal.nD Cert.RowsOutIdeal.τ).loc Cert.RowsOutIdeal.main_arg0))
      ∧ θ_run (Cert.RowsOutRefIdeal.defs (F := Ideal)) (onTc (τ := Cert.RowsOutRefIdeal.τ) (Cert.RowsOutRefIdeal.main (F := Ideal))) ⟨m', fun _ => 0, g'⟩ (fun r => ∀ c : Dev Cert.RowsOutRefIdeal.nD,
          r.2.mem ((c.tc : Thread Cert.RowsOutRefIdeal.nD Cert.RowsOutRefIdeal.τ).loc Cert.RowsOutRefIdeal.main_v6) = v0 c
          ∧ r.2.mem ((c.tc : Thread Cert.RowsOutRefIdeal.nD Cert.RowsOutRefIdeal.τ).loc Cert.RowsOutRefIdeal.main_arg0) = m' ((c.tc : Thread Cert.RowsOutRefIdeal.nD Cert.RowsOutRefIdeal.τ).loc Cert.RowsOutRefIdeal.main_arg0))

def preserves_GlaFwd_GlaFwdIdeal : Prop :=
  True

def algebraic_GlaFwdIdeal_GlaFwdRefIdeal [hGlaFwdIdeal : Cert.GlaFwdIdeal.Facts] [hGlaFwdRefIdeal : Cert.GlaFwdRefIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)
      ∧ m' ((c.tc : Thread Cert.GlaFwdRefIdeal.nD Cert.GlaFwdRefIdeal.τ).loc Cert.GlaFwdRefIdeal.main_arg3) = m ((c.tc : Thread Cert.GlaFwdIdeal.nD Cert.GlaFwdIdeal.τ).loc Cert.GlaFwdIdeal.main_arg3)) →
    ∃ (v0 : (c : Dev Cert.GlaFwdIdeal.nD) → Buf (Elt Ideal) ((c.tc : Thread Cert.GlaFwdIdeal.nD Cert.GlaFwdIdeal.τ).loc Cert.GlaFwdIdeal.main_v0_0)) (v1 : (c : Dev Cert.GlaFwdIdeal.nD) → Buf (Elt Ideal) ((c.tc : Thread Cert.GlaFwdIdeal.nD Cert.GlaFwdIdeal.τ).loc Cert.GlaFwdIdeal.main_v0_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v0_0) = v0 c
          ∧ r.2.mem ((c.tc : Thread Cert.GlaFwdIdeal.nD Cert.GlaFwdIdeal.τ).loc Cert.GlaFwdIdeal.main_v0_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v71) = v0 c
          ∧ r.2.mem ((c.tc : Thread Cert.GlaFwdRefIdeal.nD Cert.GlaFwdRefIdeal.τ).loc Cert.GlaFwdRefIdeal.main_v74) = v1 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2)
          ∧ r.2.mem ((c.tc : Thread Cert.GlaFwdRefIdeal.nD Cert.GlaFwdRefIdeal.τ).loc Cert.GlaFwdRefIdeal.main_arg3) = m' ((c.tc : Thread Cert.GlaFwdRefIdeal.nD Cert.GlaFwdRefIdeal.τ).loc Cert.GlaFwdRefIdeal.main_arg3))

def Claim : Prop :=
  ∃ (hProjFwd : Cert.ProjFwd.Facts) (hProjFwdIdeal : Cert.ProjFwdIdeal.Facts) (hProjFwdRefIdeal : Cert.ProjFwdRefIdeal.Facts) (hProjWgrad : Cert.ProjWgrad.Facts) (hProjWgradIdeal : Cert.ProjWgradIdeal.Facts) (hProjWgradRefIdeal : Cert.ProjWgradRefIdeal.Facts) (hFfnWgrad : Cert.FfnWgrad.Facts) (hFfnWgradIdeal : Cert.FfnWgradIdeal.Facts) (hFfnWgradRefIdeal : Cert.FfnWgradRefIdeal.Facts) (hFfnDownWgrad : Cert.FfnDownWgrad.Facts) (hFfnDownWgradIdeal : Cert.FfnDownWgradIdeal.Facts) (hFfnDownWgradRefIdeal : Cert.FfnDownWgradRefIdeal.Facts) (hMixerWgrad : Cert.MixerWgrad.Facts) (hMixerWgradIdeal : Cert.MixerWgradIdeal.Facts) (hMixerWgradRefIdeal : Cert.MixerWgradRefIdeal.Facts) (hMixerBwd : Cert.MixerBwd.Facts) (hMixerBwdIdeal : Cert.MixerBwdIdeal.Facts) (hMixerBwdRefIdeal : Cert.MixerBwdRefIdeal.Facts) (hFfnInBwd : Cert.FfnInBwd.Facts) (hFfnInBwdIdeal : Cert.FfnInBwdIdeal.Facts) (hFfnInBwdRefIdeal : Cert.FfnInBwdRefIdeal.Facts) (hFfnOutBwd : Cert.FfnOutBwd.Facts) (hFfnOutBwdIdeal : Cert.FfnOutBwdIdeal.Facts) (hFfnOutBwdRefIdeal : Cert.FfnOutBwdRefIdeal.Facts) (hProjBwd : Cert.ProjBwd.Facts) (hProjBwdIdeal : Cert.ProjBwdIdeal.Facts) (hProjBwdRefIdeal : Cert.ProjBwdRefIdeal.Facts) (hAdamwNorm : Cert.AdamwNorm.Facts) (hAdamwNormIdeal : Cert.AdamwNormIdeal.Facts) (hAdamwNormRefIdeal : Cert.AdamwNormRefIdeal.Facts) (hAdamwFinal : Cert.AdamwFinal.Facts) (hAdamwFinalIdeal : Cert.AdamwFinalIdeal.Facts) (hAdamwFinalRefIdeal : Cert.AdamwFinalRefIdeal.Facts) (hAdamwGateBias : Cert.AdamwGateBias.Facts) (hAdamwGateBiasIdeal : Cert.AdamwGateBiasIdeal.Facts) (hAdamwGateBiasRefIdeal : Cert.AdamwGateBiasRefIdeal.Facts) (hAdamwGlaNorm : Cert.AdamwGlaNorm.Facts) (hAdamwGlaNormIdeal : Cert.AdamwGlaNormIdeal.Facts) (hAdamwGlaNormRefIdeal : Cert.AdamwGlaNormRefIdeal.Facts) (hAdamwConv : Cert.AdamwConv.Facts) (hAdamwConvIdeal : Cert.AdamwConvIdeal.Facts) (hAdamwConvRefIdeal : Cert.AdamwConvRefIdeal.Facts) (hAdamwGateRank : Cert.AdamwGateRank.Facts) (hAdamwGateRankIdeal : Cert.AdamwGateRankIdeal.Facts) (hAdamwGateRankRefIdeal : Cert.AdamwGateRankRefIdeal.Facts) (hAdamwMixer : Cert.AdamwMixer.Facts) (hAdamwMixerIdeal : Cert.AdamwMixerIdeal.Facts) (hAdamwMixerRefIdeal : Cert.AdamwMixerRefIdeal.Facts) (hAdamwDown : Cert.AdamwDown.Facts) (hAdamwDownIdeal : Cert.AdamwDownIdeal.Facts) (hAdamwDownRefIdeal : Cert.AdamwDownRefIdeal.Facts) (hAdamwGate : Cert.AdamwGate.Facts) (hAdamwGateIdeal : Cert.AdamwGateIdeal.Facts) (hAdamwGateRefIdeal : Cert.AdamwGateRefIdeal.Facts) (hAdamwIn : Cert.AdamwIn.Facts) (hAdamwInIdeal : Cert.AdamwInIdeal.Facts) (hAdamwInRefIdeal : Cert.AdamwInRefIdeal.Facts) (hFfnOutFwd : Cert.FfnOutFwd.Facts) (hFfnOutFwdIdeal : Cert.FfnOutFwdIdeal.Facts) (hFfnOutFwdRefIdeal : Cert.FfnOutFwdRefIdeal.Facts) (hRmsFwd : Cert.RmsFwd.Facts) (hRmsFwdIdeal : Cert.RmsFwdIdeal.Facts) (hRmsFwdRefIdeal : Cert.RmsFwdRefIdeal.Facts) (hFfnHiddenFwd : Cert.FfnHiddenFwd.Facts) (hFfnHiddenFwdIdeal : Cert.FfnHiddenFwdIdeal.Facts) (hFfnHiddenFwdRefIdeal : Cert.FfnHiddenFwdRefIdeal.Facts) (hMixerFwd : Cert.MixerFwd.Facts) (hMixerFwdIdeal : Cert.MixerFwdIdeal.Facts) (hMixerFwdRefIdeal : Cert.MixerFwdRefIdeal.Facts) (hLossHead : Cert.LossHead.Facts) (hLossHeadIdeal : Cert.LossHeadIdeal.Facts) (hLossHeadRefIdeal : Cert.LossHeadRefIdeal.Facts) (hConvFwd : Cert.ConvFwd.Facts) (hConvFwdIdeal : Cert.ConvFwdIdeal.Facts) (hConvFwdRefIdeal : Cert.ConvFwdRefIdeal.Facts) (hConvBwd : Cert.ConvBwd.Facts) (hConvBwdIdeal : Cert.ConvBwdIdeal.Facts) (hConvBwdRefIdeal : Cert.ConvBwdRefIdeal.Facts) (hLossTotal : Cert.LossTotal.Facts) (hLossTotalIdeal : Cert.LossTotalIdeal.Facts) (hLossTotalRefIdeal : Cert.LossTotalRefIdeal.Facts) (hPutGate : Cert.PutGate.Facts) (hPutGateIdeal : Cert.PutGateIdeal.Facts) (hPutGateRefIdeal : Cert.PutGateRefIdeal.Facts) (hRowsIn : Cert.RowsIn.Facts) (hRowsInIdeal : Cert.RowsInIdeal.Facts) (hRowsInRefIdeal : Cert.RowsInRefIdeal.Facts) (hRowsOut : Cert.RowsOut.Facts) (hRowsOutIdeal : Cert.RowsOutIdeal.Facts) (hRowsOutRefIdeal : Cert.RowsOutRefIdeal.Facts) (hGlaFwd : Cert.GlaFwd.Facts) (hGlaFwdIdeal : Cert.GlaFwdIdeal.Facts) (hGlaFwdRefIdeal : Cert.GlaFwdRefIdeal.Facts) (hPre_ffn_out_bwd_finite : Cert.Pre_ffn_out_bwd_finite.Facts) (hOn_mixer_bwd_written : Cert.On_mixer_bwd_written.Facts),
    quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_ProjWgrad (hProjWgrad := hProjWgrad)
    ∧ quiescent_ProjWgradIdeal (hProjWgradIdeal := hProjWgradIdeal)
    ∧ quiescent_ProjWgradRefIdeal (hProjWgradRefIdeal := hProjWgradRefIdeal)
    ∧ quiescent_FfnWgrad (hFfnWgrad := hFfnWgrad)
    ∧ quiescent_FfnWgradIdeal (hFfnWgradIdeal := hFfnWgradIdeal)
    ∧ quiescent_FfnWgradRefIdeal (hFfnWgradRefIdeal := hFfnWgradRefIdeal)
    ∧ quiescent_FfnDownWgrad (hFfnDownWgrad := hFfnDownWgrad)
    ∧ quiescent_FfnDownWgradIdeal (hFfnDownWgradIdeal := hFfnDownWgradIdeal)
    ∧ quiescent_FfnDownWgradRefIdeal (hFfnDownWgradRefIdeal := hFfnDownWgradRefIdeal)
    ∧ quiescent_MixerWgrad (hMixerWgrad := hMixerWgrad)
    ∧ quiescent_MixerWgradIdeal (hMixerWgradIdeal := hMixerWgradIdeal)
    ∧ quiescent_MixerWgradRefIdeal (hMixerWgradRefIdeal := hMixerWgradRefIdeal)
    ∧ quiescent_MixerBwd (hMixerBwd := hMixerBwd)
    ∧ quiescent_MixerBwdIdeal (hMixerBwdIdeal := hMixerBwdIdeal)
    ∧ quiescent_MixerBwdRefIdeal (hMixerBwdRefIdeal := hMixerBwdRefIdeal)
    ∧ quiescent_FfnInBwd (hFfnInBwd := hFfnInBwd)
    ∧ quiescent_FfnInBwdIdeal (hFfnInBwdIdeal := hFfnInBwdIdeal)
    ∧ quiescent_FfnInBwdRefIdeal (hFfnInBwdRefIdeal := hFfnInBwdRefIdeal)
    ∧ quiescent_FfnOutBwd (hFfnOutBwd := hFfnOutBwd)
    ∧ quiescent_FfnOutBwdIdeal (hFfnOutBwdIdeal := hFfnOutBwdIdeal)
    ∧ quiescent_FfnOutBwdIdeal_pre_ffn_out_bwd_finite (hFfnOutBwdIdeal := hFfnOutBwdIdeal) (hPre_ffn_out_bwd_finite := hPre_ffn_out_bwd_finite)
    ∧ quiescent_FfnOutBwdRefIdeal (hFfnOutBwdRefIdeal := hFfnOutBwdRefIdeal)
    ∧ quiescent_FfnOutBwdRefIdeal_pre_ffn_out_bwd_finite (hFfnOutBwdRefIdeal := hFfnOutBwdRefIdeal) (hPre_ffn_out_bwd_finite := hPre_ffn_out_bwd_finite)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_AdamwNorm (hAdamwNorm := hAdamwNorm)
    ∧ quiescent_AdamwNormIdeal (hAdamwNormIdeal := hAdamwNormIdeal)
    ∧ quiescent_AdamwNormRefIdeal (hAdamwNormRefIdeal := hAdamwNormRefIdeal)
    ∧ quiescent_AdamwFinal (hAdamwFinal := hAdamwFinal)
    ∧ quiescent_AdamwFinalIdeal (hAdamwFinalIdeal := hAdamwFinalIdeal)
    ∧ quiescent_AdamwFinalRefIdeal (hAdamwFinalRefIdeal := hAdamwFinalRefIdeal)
    ∧ quiescent_AdamwGateBias (hAdamwGateBias := hAdamwGateBias)
    ∧ quiescent_AdamwGateBiasIdeal (hAdamwGateBiasIdeal := hAdamwGateBiasIdeal)
    ∧ quiescent_AdamwGateBiasRefIdeal (hAdamwGateBiasRefIdeal := hAdamwGateBiasRefIdeal)
    ∧ quiescent_AdamwGlaNorm (hAdamwGlaNorm := hAdamwGlaNorm)
    ∧ quiescent_AdamwGlaNormIdeal (hAdamwGlaNormIdeal := hAdamwGlaNormIdeal)
    ∧ quiescent_AdamwGlaNormRefIdeal (hAdamwGlaNormRefIdeal := hAdamwGlaNormRefIdeal)
    ∧ quiescent_AdamwConv (hAdamwConv := hAdamwConv)
    ∧ quiescent_AdamwConvIdeal (hAdamwConvIdeal := hAdamwConvIdeal)
    ∧ quiescent_AdamwConvRefIdeal (hAdamwConvRefIdeal := hAdamwConvRefIdeal)
    ∧ quiescent_AdamwGateRank (hAdamwGateRank := hAdamwGateRank)
    ∧ quiescent_AdamwGateRankIdeal (hAdamwGateRankIdeal := hAdamwGateRankIdeal)
    ∧ quiescent_AdamwGateRankRefIdeal (hAdamwGateRankRefIdeal := hAdamwGateRankRefIdeal)
    ∧ quiescent_AdamwMixer (hAdamwMixer := hAdamwMixer)
    ∧ quiescent_AdamwMixerIdeal (hAdamwMixerIdeal := hAdamwMixerIdeal)
    ∧ quiescent_AdamwMixerRefIdeal (hAdamwMixerRefIdeal := hAdamwMixerRefIdeal)
    ∧ quiescent_AdamwDown (hAdamwDown := hAdamwDown)
    ∧ quiescent_AdamwDownIdeal (hAdamwDownIdeal := hAdamwDownIdeal)
    ∧ quiescent_AdamwDownRefIdeal (hAdamwDownRefIdeal := hAdamwDownRefIdeal)
    ∧ quiescent_AdamwGate (hAdamwGate := hAdamwGate)
    ∧ quiescent_AdamwGateIdeal (hAdamwGateIdeal := hAdamwGateIdeal)
    ∧ quiescent_AdamwGateRefIdeal (hAdamwGateRefIdeal := hAdamwGateRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_FfnOutFwd (hFfnOutFwd := hFfnOutFwd)
    ∧ quiescent_FfnOutFwdIdeal (hFfnOutFwdIdeal := hFfnOutFwdIdeal)
    ∧ quiescent_FfnOutFwdRefIdeal (hFfnOutFwdRefIdeal := hFfnOutFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_FfnHiddenFwd (hFfnHiddenFwd := hFfnHiddenFwd)
    ∧ quiescent_FfnHiddenFwdIdeal (hFfnHiddenFwdIdeal := hFfnHiddenFwdIdeal)
    ∧ quiescent_FfnHiddenFwdRefIdeal (hFfnHiddenFwdRefIdeal := hFfnHiddenFwdRefIdeal)
    ∧ quiescent_MixerFwd (hMixerFwd := hMixerFwd)
    ∧ quiescent_MixerFwdIdeal (hMixerFwdIdeal := hMixerFwdIdeal)
    ∧ quiescent_MixerFwdRefIdeal (hMixerFwdRefIdeal := hMixerFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_LossTotal (hLossTotal := hLossTotal)
    ∧ quiescent_LossTotalIdeal (hLossTotalIdeal := hLossTotalIdeal)
    ∧ quiescent_LossTotalRefIdeal (hLossTotalRefIdeal := hLossTotalRefIdeal)
    ∧ quiescent_PutGate (hPutGate := hPutGate)
    ∧ quiescent_PutGateIdeal (hPutGateIdeal := hPutGateIdeal)
    ∧ quiescent_PutGateRefIdeal (hPutGateRefIdeal := hPutGateRefIdeal)
    ∧ quiescent_RowsIn (hRowsIn := hRowsIn)
    ∧ quiescent_RowsInIdeal (hRowsInIdeal := hRowsInIdeal)
    ∧ quiescent_RowsInRefIdeal (hRowsInRefIdeal := hRowsInRefIdeal)
    ∧ quiescent_RowsOut (hRowsOut := hRowsOut)
    ∧ quiescent_RowsOutIdeal (hRowsOutIdeal := hRowsOutIdeal)
    ∧ quiescent_RowsOutRefIdeal (hRowsOutRefIdeal := hRowsOutRefIdeal)
    ∧ quiescent_GlaFwd (hGlaFwd := hGlaFwd)
    ∧ quiescent_GlaFwdIdeal (hGlaFwdIdeal := hGlaFwdIdeal)
    ∧ quiescent_GlaFwdRefIdeal (hGlaFwdRefIdeal := hGlaFwdRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_ProjWgrad_ProjWgradIdeal
    ∧ algebraic_ProjWgradIdeal_ProjWgradRefIdeal (hProjWgradIdeal := hProjWgradIdeal) (hProjWgradRefIdeal := hProjWgradRefIdeal)
    ∧ preserves_FfnWgrad_FfnWgradIdeal
    ∧ algebraic_FfnWgradIdeal_FfnWgradRefIdeal (hFfnWgradIdeal := hFfnWgradIdeal) (hFfnWgradRefIdeal := hFfnWgradRefIdeal)
    ∧ preserves_FfnDownWgrad_FfnDownWgradIdeal
    ∧ algebraic_FfnDownWgradIdeal_FfnDownWgradRefIdeal (hFfnDownWgradIdeal := hFfnDownWgradIdeal) (hFfnDownWgradRefIdeal := hFfnDownWgradRefIdeal)
    ∧ preserves_MixerWgrad_MixerWgradIdeal
    ∧ algebraic_MixerWgradIdeal_MixerWgradRefIdeal (hMixerWgradIdeal := hMixerWgradIdeal) (hMixerWgradRefIdeal := hMixerWgradRefIdeal)
    ∧ preserves_MixerBwd_MixerBwdIdeal
    ∧ algebraic_MixerBwdIdeal_MixerBwdRefIdeal_on_mixer_bwd_written (hMixerBwdIdeal := hMixerBwdIdeal) (hMixerBwdRefIdeal := hMixerBwdRefIdeal) (hOn_mixer_bwd_written := hOn_mixer_bwd_written)
    ∧ preserves_FfnInBwd_FfnInBwdIdeal
    ∧ algebraic_FfnInBwdIdeal_FfnInBwdRefIdeal (hFfnInBwdIdeal := hFfnInBwdIdeal) (hFfnInBwdRefIdeal := hFfnInBwdRefIdeal)
    ∧ preserves_FfnOutBwd_FfnOutBwdIdeal
    ∧ algebraic_FfnOutBwdIdeal_FfnOutBwdRefIdeal_pre_ffn_out_bwd_finite (hFfnOutBwdIdeal := hFfnOutBwdIdeal) (hFfnOutBwdRefIdeal := hFfnOutBwdRefIdeal) (hPre_ffn_out_bwd_finite := hPre_ffn_out_bwd_finite)
    ∧ preserves_ProjBwd_ProjBwdIdeal
    ∧ algebraic_ProjBwdIdeal_ProjBwdRefIdeal (hProjBwdIdeal := hProjBwdIdeal) (hProjBwdRefIdeal := hProjBwdRefIdeal)
    ∧ preserves_AdamwNorm_AdamwNormIdeal
    ∧ algebraic_AdamwNormIdeal_AdamwNormRefIdeal (hAdamwNormIdeal := hAdamwNormIdeal) (hAdamwNormRefIdeal := hAdamwNormRefIdeal)
    ∧ preserves_AdamwFinal_AdamwFinalIdeal
    ∧ algebraic_AdamwFinalIdeal_AdamwFinalRefIdeal (hAdamwFinalIdeal := hAdamwFinalIdeal) (hAdamwFinalRefIdeal := hAdamwFinalRefIdeal)
    ∧ preserves_AdamwGateBias_AdamwGateBiasIdeal
    ∧ algebraic_AdamwGateBiasIdeal_AdamwGateBiasRefIdeal (hAdamwGateBiasIdeal := hAdamwGateBiasIdeal) (hAdamwGateBiasRefIdeal := hAdamwGateBiasRefIdeal)
    ∧ preserves_AdamwGlaNorm_AdamwGlaNormIdeal
    ∧ algebraic_AdamwGlaNormIdeal_AdamwGlaNormRefIdeal (hAdamwGlaNormIdeal := hAdamwGlaNormIdeal) (hAdamwGlaNormRefIdeal := hAdamwGlaNormRefIdeal)
    ∧ preserves_AdamwConv_AdamwConvIdeal
    ∧ algebraic_AdamwConvIdeal_AdamwConvRefIdeal (hAdamwConvIdeal := hAdamwConvIdeal) (hAdamwConvRefIdeal := hAdamwConvRefIdeal)
    ∧ preserves_AdamwGateRank_AdamwGateRankIdeal
    ∧ algebraic_AdamwGateRankIdeal_AdamwGateRankRefIdeal (hAdamwGateRankIdeal := hAdamwGateRankIdeal) (hAdamwGateRankRefIdeal := hAdamwGateRankRefIdeal)
    ∧ preserves_AdamwMixer_AdamwMixerIdeal
    ∧ algebraic_AdamwMixerIdeal_AdamwMixerRefIdeal (hAdamwMixerIdeal := hAdamwMixerIdeal) (hAdamwMixerRefIdeal := hAdamwMixerRefIdeal)
    ∧ preserves_AdamwDown_AdamwDownIdeal
    ∧ algebraic_AdamwDownIdeal_AdamwDownRefIdeal (hAdamwDownIdeal := hAdamwDownIdeal) (hAdamwDownRefIdeal := hAdamwDownRefIdeal)
    ∧ preserves_AdamwGate_AdamwGateIdeal
    ∧ algebraic_AdamwGateIdeal_AdamwGateRefIdeal (hAdamwGateIdeal := hAdamwGateIdeal) (hAdamwGateRefIdeal := hAdamwGateRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_FfnOutFwd_FfnOutFwdIdeal
    ∧ algebraic_FfnOutFwdIdeal_FfnOutFwdRefIdeal (hFfnOutFwdIdeal := hFfnOutFwdIdeal) (hFfnOutFwdRefIdeal := hFfnOutFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_FfnHiddenFwd_FfnHiddenFwdIdeal
    ∧ algebraic_FfnHiddenFwdIdeal_FfnHiddenFwdRefIdeal (hFfnHiddenFwdIdeal := hFfnHiddenFwdIdeal) (hFfnHiddenFwdRefIdeal := hFfnHiddenFwdRefIdeal)
    ∧ preserves_MixerFwd_MixerFwdIdeal
    ∧ algebraic_MixerFwdIdeal_MixerFwdRefIdeal (hMixerFwdIdeal := hMixerFwdIdeal) (hMixerFwdRefIdeal := hMixerFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_LossTotal_LossTotalIdeal
    ∧ algebraic_LossTotalIdeal_LossTotalRefIdeal (hLossTotalIdeal := hLossTotalIdeal) (hLossTotalRefIdeal := hLossTotalRefIdeal)
    ∧ preserves_PutGate_PutGateIdeal
    ∧ algebraic_PutGateIdeal_PutGateRefIdeal (hPutGateIdeal := hPutGateIdeal) (hPutGateRefIdeal := hPutGateRefIdeal)
    ∧ preserves_RowsIn_RowsInIdeal
    ∧ algebraic_RowsInIdeal_RowsInRefIdeal (hRowsInIdeal := hRowsInIdeal) (hRowsInRefIdeal := hRowsInRefIdeal)
    ∧ preserves_RowsOut_RowsOutIdeal
    ∧ algebraic_RowsOutIdeal_RowsOutRefIdeal (hRowsOutIdeal := hRowsOutIdeal) (hRowsOutRefIdeal := hRowsOutRefIdeal)
    ∧ preserves_GlaFwd_GlaFwdIdeal
    ∧ algebraic_GlaFwdIdeal_GlaFwdRefIdeal (hGlaFwdIdeal := hGlaFwdIdeal) (hGlaFwdRefIdeal := hGlaFwdRefIdeal)
-- ==== On_mixer_bwd_written.lean ====
abbrev S4096x1024 : Shape := ⟨2, ![4096, 1024]⟩
abbrev S4096x8320 : Shape := ⟨2, ![4096, 8320]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x8320 : S_.BroadcastsInDim S4096x8320 (![] : Fin 0 → Fin S4096x8320.rank)

variable [Facts]

def fn {F : FTy → Type} [FloatOps F] (main_arg0 : FVec F S4096x1024 .bf16) (main_arg1 : FVec F S4096x8320 .bf16) (main_arg2 : FVec F S4096x1024 .bf16) (main_arg3 : FVec F S4096x1024 .bf16) (main_arg4 : FVec F S1024x1024 .bf16) (main_arg5 : FVec F S1024x1024 .bf16) (main_arg6 : FVec F S1024x1024 .bf16) : IVec S4096x1024 1 × IVec S4096x1024 1 × IVec S4096x1024 1 × IVec S4096x1024 1 × IVec S4096x8320 1 :=
  let main_c : IVec S_ 1 := constantI S_ 1 1#1
  let main_v0 : IVec S4096x1024 1 := broadcastInDim S4096x1024 ![] bcast_S_S4096x1024 main_c
  let main_v1 : IVec S4096x8320 32 := iotaInDim S4096x8320 32 1
  let main_c_0 : IVec S_ 32 := constantI S_ 32 6144#32
  let main_v2 : IVec S4096x8320 32 := broadcastInDim S4096x8320 ![] bcast_S_S4096x8320 main_c_0
  let main_v3 : IVec S4096x8320 1 := cmpi .sge main_v1 main_v2
  let main_c_1 : IVec S_ 32 := constantI S_ 32 8192#32
  let main_v4 : IVec S4096x8320 32 := broadcastInDim S4096x8320 ![] bcast_S_S4096x8320 main_c_1
  let main_v5 : IVec S4096x8320 1 := cmpi .slt main_v1 main_v4
  let main_v6 : IVec S4096x8320 1 := andi main_v3 main_v5
  (main_v0, main_v0, main_v0, main_v0, main_v6)
-- ==== Pre_ffn_out_bwd_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_arg3
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  main_v16
-- ==== ProjFwd.lean ====
abbrev S4096x1024 : Shape := ⟨2, ![4096, 1024]⟩
abbrev S1024 : Shape := ⟨1, ![1024]⟩
abbrev S8320x1024 : Shape := ⟨2, ![8320, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x8320 : Shape := ⟨2, ![4096, 8320]⟩
abbrev S1024x1024 : Shape := ⟨2, ![1024, 1024]⟩
abbrev S1664x1024 : Shape := ⟨2, ![1664, 1024]⟩
abbrev S1024x1664 : Shape := ⟨2, ![1024, 1664]⟩

abbrev nBuf : Space → Nat
  | .hbm => 21
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8320x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x8320, .bf16⟩
  | .local _ .vmem, ⟨0, _⟩ => ⟨S1024x1024, .bf16⟩
  | .local _ .vmem, ⟨1, _⟩ => ⟨S1024x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1664, .bf16⟩
  | .local _ .vmem, ⟨5, _⟩ => ⟨S1024x1664, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S4096x1024 : Shape := ⟨2, ![4096, 1024]⟩
abbrev S1024 : Shape := ⟨1, ![1024]⟩
abbrev S8320x1024 : Shape := ⟨2, ![8320, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8320 : Shape := ⟨2, ![1024, 8320]⟩
abbrev S4096x8320 : Shape := ⟨2, ![4096, 8320]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8320x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S8320x1024, .f32⟩
  | .hbm, ⟨20, _⟩ => ⟨S1024x8320, .f32⟩
  | .hbm, ⟨21, _⟩ => ⟨S4096x8320, .f32⟩
  | .hbm, ⟨22, _⟩ => ⟨S4096x8320, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ProjWgrad.lean ====
abbrev S4096x8320 : Shape := ⟨2, ![4096, 8320]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8320x1024 : Shape := ⟨2, ![8320, 1024]⟩
abbrev S1024x1664 : Shape := ⟨2, ![1024, 1664]⟩
abbrev S1024x1024 : Shape := ⟨2, ![1024, 1024]⟩
abbrev S1664x1024 : Shape := ⟨2, ![1664, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4096x8320, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S8320x1024, .bf16⟩
  | .local _ .vmem, ⟨0, _⟩ => ⟨S1024x1664, .bf16⟩
  | .local _ .vmem, ⟨1, _⟩ => ⟨S1024x1664, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWgradRefIdeal.lean ====
abbrev S4096x8320 : Shape := ⟨2, ![4096, 8320]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8320x1024 : Shape := ⟨2, ![8320, 1024]⟩
abbrev S1024x8320 : Shape := ⟨2, ![1024, 8320]⟩

abbrev nBuf : Space → Nat
  | .hbm => 28
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S8320x1024, .f32⟩
  | .hbm, ⟨21, _⟩ => ⟨S1024x8320, .f32⟩
  | .hbm, ⟨22, _⟩ => ⟨S4096x8320, .f32⟩
  | .hbm, ⟨23, _⟩ => ⟨S4096x8320, .f32⟩
  | .hbm, ⟨24, _⟩ => ⟨S8320x1024, .f32⟩
  | .hbm, ⟨25, _⟩ => ⟨S1024x8320, .f32⟩
  | .hbm, ⟨26, _⟩ => ⟨S8320x1024, .f32⟩
  | .hbm, ⟨27, _⟩ => ⟨S8320x1024, .bf16⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FfnWgrad.lean ====
abbrev S4096x2816 : Shape := ⟨2, ![4096, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnWgradRefIdeal.lean ====
abbrev S4096x2816 : Shape := ⟨2, ![4096, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩
abbrev S1024x2816 : Shape := ⟨2, ![1024, 2816]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S2816x1024, .f32⟩
  | .hbm, ⟨21, _⟩ => ⟨S1024x2816, .f32⟩
  | .hbm, ⟨22, _⟩ => ⟨S4096x2816, .f32⟩
  | .hbm, ⟨23, _⟩ => ⟨S4096x2816, .f32⟩
  | .hbm, ⟨24, _⟩ => ⟨S2816x1024, .f32⟩
  | .hbm, ⟨25, _⟩ => ⟨S1024x2816, .f32⟩
  | .hbm, ⟨26, _⟩ => ⟨S2816x1024, .f32⟩
  | .hbm, ⟨27, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FfnDownWgrad.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownWgradRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixerWgrad.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixerWgradRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixerBwd.lean ====
abbrev S4096x1024 : Shape := ⟨2, ![4096, 1024]⟩
abbrev S4096x8320 : Shape := ⟨2, ![4096, 8320]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 20
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x8320, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x2048, .bf16⟩
  | .local _ .vmem, ⟨22, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixerBwdRefIdeal.lean ====
abbrev S4096x1024 : Shape := ⟨2, ![4096, 1024]⟩
abbrev S4096x8320 : Shape := ⟨2, ![4096, 8320]⟩
abbrev S1024x1024 : Shape := ⟨2, ![1024, 1024]⟩
abbrev S_ : Shape := ⟨0, ![]⟩
abbrev S4096x6144 : Shape := ⟨2, ![4096, 6144]⟩
abbrev S4096x128 : Shape := ⟨2, ![4096, 128]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S4096x8320, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x6144, .f32⟩
  | .hbm, ⟨57, _⟩ => ⟨S_, .f32⟩
  | .hbm, ⟨58, _⟩ => ⟨S4096x128, .f32⟩
  | .hbm, ⟨59, _⟩ => ⟨S4096x8320, .f32⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x8320, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== FfnInBwd.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_24 : BitVec 32 := 0#32
  let v42 : BitVec 1 := Scalar.cmpi .ne v41 c0_i32_24
  v42

def k0_cond2 (i : grid0.Coords) : BitVec 1 :=
  let arg0 : BitVec 32 := BitVec.ofNat 32 (i 0).val
  let c0_i32_25 : BitVec 32 := 0#32
  let v43 : BitVec 1 := Scalar.cmpi .sgt arg0 c0_i32_25
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FfnInBwdRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩

abbrev nBuf : Space → Nat
  | .hbm => 67
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S2816x1024, .f32⟩
  | .hbm, ⟨8, _⟩ => ⟨S2816x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S4096x2816, .f32⟩
  | .hbm, ⟨31, _⟩ => ⟨S1024x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | .hbm, ⟨66, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== FfnOutBwd.lean ====
abbrev S4096x1024 : Shape := ⟨2, ![4096, 1024]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOutBwdRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== ProjBwd.lean ====
abbrev S4096x8320 : Shape := ⟨2, ![4096, 8320]⟩
abbrev S8320x1024 : Shape := ⟨2, ![8320, 1024]⟩
abbrev S4096x1024 : Shape := ⟨2, ![4096, 1024]⟩
abbrev S1024 : Shape := ⟨1, ![1024]⟩
abbrev S1x1024 : Shape := ⟨2, ![1, 1024]⟩
abbrev S512x1664 : Shape := ⟨2, ![512, 1664]⟩
abbrev S1664x1024 : Shape := ⟨2, ![1664, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x8320, .bf16⟩
  | .hbm, ⟨1, _⟩ => ⟨S8320x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1664, .bf16⟩
  | .local _ .vmem, ⟨1, _⟩ => ⟨S512x1664, .bf16⟩
  | .local _ .vmem, ⟨2, _⟩ => ⟨S1664x1024, .bf16⟩
  | .local _ .vmem, ⟨3, _⟩ => ⟨S1664x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 5], ![false, false]⟩

def k0_cond3 (i : grid0.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond5 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ProjBwdRefIdeal.lean ====
abbrev S4096x8320 : Shape := ⟨2, ![4096, 8320]⟩
abbrev S8320x1024 : Shape := ⟨2, ![8320, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8320 : Shape := ⟨2, ![1024, 8320]⟩

abbrev nBuf : Space → Nat
  | .hbm => 59
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S8320x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8320x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x8320, .f32⟩
  | .hbm, ⟨27, _⟩ => ⟨S4096x8320, .f32⟩
  | .hbm, ⟨28, _⟩ => ⟨S4096x8320, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== AdamwNorm.lean ====
abbrev S2x1024 : Shape := ⟨2, ![2, 1024]⟩
abbrev S1x2x1024 : Shape := ⟨3, ![1, 2, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwNormIdeal.lean ====
abbrev S2x1024 : Shape := ⟨2, ![2, 1024]⟩
abbrev S1x2x1024 : Shape := ⟨3, ![1, 2, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "debias_m" => some ((8388608 / 5463681 : ℝ) : EReal)
  | "debias_v" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwNormRefIdeal.lean ====
abbrev S2x1024 : Shape := ⟨2, ![2, 1024]⟩
abbrev S_ : Shape := ⟨0, ![]⟩
abbrev S1x2x1024 : Shape := ⟨3, ![1, 2, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S1x2x1024, .f32⟩
  | .hbm, ⟨38, _⟩ => ⟨S1x2x1024, .f32⟩
  | .hbm, ⟨39, _⟩ => ⟨S1x2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwFinal.lean ====
abbrev S1024 : Shape := ⟨1, ![1024]⟩
abbrev S1x1x1024 : Shape := ⟨3, ![1, 1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwFinalIdeal.lean ====
abbrev S1024 : Shape := ⟨1, ![1024]⟩
abbrev S1x1x1024 : Shape := ⟨3, ![1, 1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "debias_m" => some ((8388608 / 5463681 : ℝ) : EReal)
  | "debias_v" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwFinalRefIdeal.lean ====
abbrev S1024 : Shape := ⟨1, ![1024]⟩
abbrev S_ : Shape := ⟨0, ![]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1x1024, .f32⟩
  | .hbm, ⟨38, _⟩ => ⟨S1x1x1024, .f32⟩
  | .hbm, ⟨39, _⟩ => ⟨S1x1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwGateBias.lean ====
abbrev S2x512 : Shape := ⟨2, ![2, 512]⟩
abbrev S1x2x512 : Shape := ⟨3, ![1, 2, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .hbm, ⟨8, _⟩ => ⟨S1x2x512, .f32⟩
  | .hbm, ⟨9, _⟩ => ⟨S1x2x512, .f32⟩
  | .hbm, ⟨10, _⟩ => ⟨S1x2x512, .f32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGateBiasIdeal.lean ====
abbrev S2x512 : Shape := ⟨2, ![2, 512]⟩
abbrev S1x2x512 : Shape := ⟨3, ![1, 2, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .hbm, ⟨8, _⟩ => ⟨S1x2x512, .f32⟩
  | .hbm, ⟨9, _⟩ => ⟨S1x2x512, .f32⟩
  | .hbm, ⟨10, _⟩ => ⟨S1x2x512, .f32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "debias_m" => some ((8388608 / 5463681 : ℝ) : EReal)
  | "debias_v" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGateBiasRefIdeal.lean ====
abbrev S2x512 : Shape := ⟨2, ![2, 512]⟩
abbrev S_ : Shape := ⟨0, ![]⟩
abbrev S1x2x512 : Shape := ⟨3, ![1, 2, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | .hbm, ⟨37, _⟩ => ⟨S1x2x512, .f32⟩
  | .hbm, ⟨38, _⟩ => ⟨S1x2x512, .f32⟩
  | .hbm, ⟨39, _⟩ => ⟨S1x2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwGlaNorm.lean ====
abbrev S2x256 : Shape := ⟨2, ![2, 256]⟩
abbrev S1x2x256 : Shape := ⟨3, ![1, 2, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .hbm, ⟨8, _⟩ => ⟨S1x2x256, .f32⟩
  | .hbm, ⟨9, _⟩ => ⟨S1x2x256, .f32⟩
  | .hbm, ⟨10, _⟩ => ⟨S1x2x256, .f32⟩
  | .local _ .vmem, ⟨0, _⟩ => ⟨S1x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaNormIdeal.lean ====
abbrev S2x256 : Shape := ⟨2, ![2, 256]⟩
abbrev S1x2x256 : Shape := ⟨3, ![1, 2, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .hbm, ⟨8, _⟩ => ⟨S1x2x256, .f32⟩
  | .hbm, ⟨9, _⟩ => ⟨S1x2x256, .f32⟩
  | .hbm, ⟨10, _⟩ => ⟨S1x2x256, .f32⟩
  | .local _ .vmem, ⟨0, _⟩ => ⟨S1x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "debias_m" => some ((8388608 / 5463681 : ℝ) : EReal)
  | "debias_v" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaNormRefIdeal.lean ====
abbrev S2x256 : Shape := ⟨2, ![2, 256]⟩
abbrev S_ : Shape := ⟨0, ![]⟩
abbrev S1x2x256 : Shape := ⟨3, ![1, 2, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | .hbm, ⟨37, _⟩ => ⟨S1x2x256, .f32⟩
  | .hbm, ⟨38, _⟩ => ⟨S1x2x256, .f32⟩
  | .hbm, ⟨39, _⟩ => ⟨S1x2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwConv.lean ====
abbrev S2x3x256 : Shape := ⟨3, ![2, 3, 256]⟩
abbrev S1x3x256 : Shape := ⟨3, ![1, 3, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S2x3x256, .f32⟩
  | .hbm, ⟨5, _⟩ => ⟨S2x3x256, .f32⟩
  | .hbm, ⟨6, _⟩ => ⟨S2x3x256, .f32⟩
  | .local _ .vmem, ⟨0, _⟩ => ⟨S1x3x256, .f32⟩
  | .local _ .vmem, ⟨1, _⟩ => ⟨S1x3x256, .f32⟩
  | .local _ .vmem, ⟨2, _⟩ => ⟨S1x3x256, .f32⟩
  | .local _ .vmem, ⟨3, _⟩ => ⟨S1x3x256, .f32⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x3x256, .f32⟩
  | .local _ .vmem, ⟨11, _⟩ => ⟨S1x3x256, .f32⟩
  | .local _ .vmem, ⟨12, _⟩ => ⟨S1x3x256, .f32⟩
  | .local _ .vmem, ⟨13, _⟩ => ⟨S1x3x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwConvIdeal.lean ====
abbrev S2x3x256 : Shape := ⟨3, ![2, 3, 256]⟩
abbrev S1x3x256 : Shape := ⟨3, ![1, 3, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S2x3x256, .f32⟩
  | .hbm, ⟨5, _⟩ => ⟨S2x3x256, .f32⟩
  | .hbm, ⟨6, _⟩ => ⟨S2x3x256, .f32⟩
  | .local _ .vmem, ⟨0, _⟩ => ⟨S1x3x256, .f32⟩
  | .local _ .vmem, ⟨1, _⟩ => ⟨S1x3x256, .f32⟩
  | .local _ .vmem, ⟨2, _⟩ => ⟨S1x3x256, .f32⟩
  | .local _ .vmem, ⟨3, _⟩ => ⟨S1x3x256, .f32⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x3x256, .f32⟩
  | .local _ .vmem, ⟨11, _⟩ => ⟨S1x3x256, .f32⟩
  | .local _ .vmem, ⟨12, _⟩ => ⟨S1x3x256, .f32⟩
  | .local _ .vmem, ⟨13, _⟩ => ⟨S1x3x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "debias_m" => some ((8388608 / 5463681 : ℝ) : EReal)
  | "debias_v" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwConvRefIdeal.lean ====
abbrev S2x3x256 : Shape := ⟨3, ![2, 3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGateRank.lean ====
abbrev S2x16x128 : Shape := ⟨3, ![2, 16, 128]⟩
abbrev S1x16x128 : Shape := ⟨3, ![1, 16, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S2x16x128, .f32⟩
  | .hbm, ⟨5, _⟩ => ⟨S2x16x128, .f32⟩
  | .hbm, ⟨6, _⟩ => ⟨S2x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | _, _ => ⟨S2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwGateRankIdeal.lean ====
variable {F : FTy → Type} [FloatOps F] [Named F]
def κ : String → Option EReal := fun
  | "debias_m" => some ((8388608 / 5463681 : ℝ) : EReal)
  | "debias_v" => some ((268435456 / 2672307 : ℝ) : EReal)
  | _ => none
-- ==== AdamwGateRankRefIdeal.lean ====
abbrev S2x16x128 : Shape := ⟨3, ![2, 16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S_, .f32⟩
  | .hbm, ⟨5, _⟩ => ⟨S2x16x128, .f32⟩
  | .hbm, ⟨6, _⟩ => ⟨S2x16x128, .f32⟩
  | .hbm, ⟨7, _⟩ => ⟨S_, .f32⟩
  | .hbm, ⟨8, _⟩ => ⟨S2x16x128, .f32⟩
  | .hbm, ⟨9, _⟩ => ⟨S2x16x128, .f32⟩
  | .hbm, ⟨10, _⟩ => ⟨S2x16x128, .f32⟩
  | .hbm, ⟨11, _⟩ => ⟨S_, .f32⟩
  | .hbm, ⟨12, _⟩ => ⟨S2x16x128, .f32⟩
  | .hbm, ⟨13, _⟩ => ⟨S2x16x128, .f32⟩
  | .hbm, ⟨14, _⟩ => ⟨S2x16x128, .f32⟩
  | .hbm, ⟨15, _⟩ => ⟨S_, .f32⟩
  | .hbm, ⟨16, _⟩ => ⟨S2x16x128, .f32⟩
  | .hbm, ⟨17, _⟩ => ⟨S2x16x128, .f32⟩
  | .hbm, ⟨18, _⟩ => ⟨S2x16x128, .f32⟩
  | .hbm, ⟨19, _⟩ => ⟨S_, .f32⟩
  | .hbm, ⟨20, _⟩ => ⟨S2x16x128, .f32⟩
  | .hbm, ⟨21, _⟩ => ⟨S2x16x128, .f32⟩
  | .hbm, ⟨22, _⟩ => ⟨S_, .f32⟩
  | .hbm, ⟨23, _⟩ => ⟨S2x16x128, .f32⟩
  | .hbm, ⟨24, _⟩ => ⟨S2x16x128, .f32⟩
  | .hbm, ⟨25, _⟩ => ⟨S2x16x128, .f32⟩
  | .hbm, ⟨26, _⟩ => ⟨S_, .f32⟩
  | .hbm, ⟨27, _⟩ => ⟨S2x16x128, .f32⟩
  | .hbm, ⟨28, _⟩ => ⟨S2x16x128, .f32⟩
  | .hbm, ⟨29, _⟩ => ⟨S2x16x128, .f32⟩
  | .hbm, ⟨30, _⟩ => ⟨S_, .f32⟩
  | .hbm, ⟨31, _⟩ => ⟨S2x16x128, .f32⟩
  | .hbm, ⟨32, _⟩ => ⟨S2x16x128, .f32⟩
  | .hbm, ⟨33, _⟩ => ⟨S2x16x128, .f32⟩
  | .hbm, ⟨34, _⟩ => ⟨S_, .f32⟩
  | .hbm, ⟨35, _⟩ => ⟨S2x16x128, .f32⟩
  | .hbm, ⟨36, _⟩ => ⟨S2x16x128, .f32⟩
  | _, _ => ⟨S2x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwMixer.lean ====
abbrev S2x256x1024 : Shape := ⟨3, ![2, 256, 1024]⟩
abbrev S256x1024 : Shape := ⟨2, ![256, 1024]⟩
abbrev S1x1 : Shape := ⟨2, ![1, 1]⟩
abbrev S1x256x1024 : Shape := ⟨3, ![1, 256, 1024]⟩

abbrev nBuf : Space → Nat
  | .hbm => 12
  | .vmem => 23
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S1x1, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x1, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamwMixerIdeal.lean ====
abbrev S2x256x1024 : Shape := ⟨3, ![2, 256, 1024]⟩
abbrev S256x1024 : Shape := ⟨2, ![256, 1024]⟩
abbrev S1x1 : Shape := ⟨2, ![1, 1]⟩
abbrev S1x256x1024 : Shape := ⟨3, ![1, 256, 1024]⟩

abbrev nBuf : Space → Nat
  | .hbm => 12
  | .vmem => 23
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S1x1, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x1, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F] [Named F]

def κ : String → Option EReal := fun
  | "debias_m" => some ((8388608 / 5463681 : ℝ) : EReal)
  | "debias_v" => some ((268435456 / 2672307 : ℝ) : EReal)
  | _ => none

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamwMixerRefIdeal.lean ====
abbrev S2x256x1024 : Shape := ⟨3, ![2, 256, 1024]⟩
abbrev S256x1024 : Shape := ⟨2, ![256, 1024]⟩
abbrev S1x1 : Shape := ⟨2, ![1, 1]⟩
abbrev S1x1x1 : Shape := ⟨3, ![1, 1, 1]⟩
abbrev S_ : Shape := ⟨0, ![]⟩
abbrev S1x256x1024 : Shape := ⟨3, ![1, 256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S1x1, .f32⟩
  | .hbm, ⟨6, _⟩ => ⟨S2x256x1024, .f32⟩
  | .hbm, ⟨7, _⟩ => ⟨S2x256x1024, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S1x1x1, .i1⟩
  | .hbm, ⟨12, _⟩ => ⟨S1x256x1024, .f32⟩
  | .hbm, ⟨13, _⟩ => ⟨S1x256x1024, .f32⟩
  | .hbm, ⟨14, _⟩ => ⟨S2x256x1024, .f32⟩
  | .hbm, ⟨15, _⟩ => ⟨S1x256x1024, .f32⟩
  | .hbm, ⟨16, _⟩ => ⟨S1x256x1024, .f32⟩
  | .hbm, ⟨17, _⟩ => ⟨S2x256x1024, .f32⟩
  | .hbm, ⟨18, _⟩ => ⟨S2x256x1024, .i1⟩
  | .hbm, ⟨19, _⟩ => ⟨S2x256x1024, .f32⟩
  | .hbm, ⟨20, _⟩ => ⟨S_, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S2x256x1024, .f32⟩
  | .hbm, ⟨33, _⟩ => ⟨S2x256x1024, .f32⟩
  | .hbm, ⟨34, _⟩ => ⟨S2x256x1024, .f32⟩
  | .hbm, ⟨35, _⟩ => ⟨S_, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S2x256x1024, .f32⟩
  | .hbm, ⟨46, _⟩ => ⟨S_, .f32⟩
  | .hbm, ⟨47, _⟩ => ⟨S2x256x1024, .f32⟩
  | .hbm, ⟨48, _⟩ => ⟨S2x256x1024, .f32⟩
  | .hbm, ⟨49, _⟩ => ⟨S2x256x1024, .f32⟩
  | .hbm, ⟨50, _⟩ => ⟨S_, .f32⟩
  | .hbm, ⟨51, _⟩ => ⟨S2x256x1024, .f32⟩
  | .hbm, ⟨52, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== AdamwDown.lean ====
abbrev S2x704x1024 : Shape := ⟨3, ![2, 704, 1024]⟩
abbrev S704x1024 : Shape := ⟨2, ![704, 1024]⟩
abbrev S1x1 : Shape := ⟨2, ![1, 1]⟩
abbrev S1x352x1024 : Shape := ⟨3, ![1, 352, 1024]⟩
abbrev S352x1024 : Shape := ⟨2, ![352, 1024]⟩

abbrev nBuf : Space → Nat
  | .hbm => 12
  | .vmem => 23
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S1x1, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S1x1, .f32⟩
  | .local _ .vmem, ⟨1, _⟩ => ⟨S1x352x1024, .f32⟩
  | .local _ .vmem, ⟨2, _⟩ => ⟨S1x352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x352x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamwDownIdeal.lean ====
variable {F : FTy → Type} [FloatOps F] [Named F]
def κ : String → Option EReal := fun
  | "debias_m" => some ((8388608 / 5463681 : ℝ) : EReal)
  | "debias_v" => some ((268435456 / 2672307 : ℝ) : EReal)
  | _ => none
-- ==== AdamwDownRefIdeal.lean ====
abbrev S2x704x1024 : Shape := ⟨3, ![2, 704, 1024]⟩
abbrev S704x1024 : Shape := ⟨2, ![704, 1024]⟩
abbrev S1x1 : Shape := ⟨2, ![1, 1]⟩
abbrev S1x1x1 : Shape := ⟨3, ![1, 1, 1]⟩
abbrev S_ : Shape := ⟨0, ![]⟩
abbrev S1x704x1024 : Shape := ⟨3, ![1, 704, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S1x1, .f32⟩
  | .hbm, ⟨6, _⟩ => ⟨S2x704x1024, .f32⟩
  | .hbm, ⟨7, _⟩ => ⟨S2x704x1024, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S1x1x1, .i1⟩
  | .hbm, ⟨12, _⟩ => ⟨S1x704x1024, .f32⟩
  | .hbm, ⟨13, _⟩ => ⟨S1x704x1024, .f32⟩
  | .hbm, ⟨14, _⟩ => ⟨S2x704x1024, .f32⟩
  | .hbm, ⟨15, _⟩ => ⟨S1x704x1024, .f32⟩
  | .hbm, ⟨16, _⟩ => ⟨S1x704x1024, .f32⟩
  | .hbm, ⟨17, _⟩ => ⟨S2x704x1024, .f32⟩
  | .hbm, ⟨18, _⟩ => ⟨S2x704x1024, .i1⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | .hbm, ⟨45, _⟩ => ⟨S2x704x1024, .f32⟩
  | .hbm, ⟨46, _⟩ => ⟨S_, .f32⟩
  | .hbm, ⟨47, _⟩ => ⟨S2x704x1024, .f32⟩
  | .hbm, ⟨48, _⟩ => ⟨S2x704x1024, .f32⟩
  | .hbm, ⟨49, _⟩ => ⟨S2x704x1024, .f32⟩
  | .hbm, ⟨50, _⟩ => ⟨S_, .f32⟩
  | .hbm, ⟨51, _⟩ => ⟨S2x704x1024, .f32⟩
  | .hbm, ⟨52, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== AdamwGate.lean ====
abbrev S2x1024x704 : Shape := ⟨3, ![2, 1024, 704]⟩
abbrev S704x1024 : Shape := ⟨2, ![704, 1024]⟩
abbrev S1x1 : Shape := ⟨2, ![1, 1]⟩
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 19
  | .vmem => 23
  | .smem => 0
  | _ => 0

abbrev bufTy : (tb : Table) → Fin (tcTables nBuf tb) → BufTy
  | .hbm, ⟨0, _⟩ => ⟨S2x1024x704, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S1x1, .f32⟩
  | .hbm, ⟨6, _⟩ => ⟨S2x1024x704, .f32⟩
  | .hbm, ⟨7, _⟩ => ⟨S2x1024x704, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S2x1024x704, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .local _ .vmem, ⟨0, _⟩ => ⟨S1x1, .f32⟩
  | .local _ .vmem, ⟨1, _⟩ => ⟨S1x352x1024, .f32⟩
  | .local _ .vmem, ⟨2, _⟩ => ⟨S1x352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x352x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamwGateIdeal.lean ====
variable {F : FTy → Type} [FloatOps F] [Named F]
def κ : String → Option EReal := fun
  | "debias_m" => some ((8388608 / 5463681 : ℝ) : EReal)
  | "debias_v" => some ((268435456 / 2672307 : ℝ) : EReal)
  | _ => none
-- ==== AdamwGateRefIdeal.lean ====
abbrev S2x1024x704 : Shape := ⟨3, ![2, 1024, 704]⟩
abbrev S704x1024 : Shape := ⟨2, ![704, 1024]⟩
abbrev S1x1 : Shape := ⟨2, ![1, 1]⟩
abbrev S1024x704 : Shape := ⟨2, ![1024, 704]⟩
abbrev S1x1x1 : Shape := ⟨3, ![1, 1, 1]⟩
abbrev S_ : Shape := ⟨0, ![]⟩
abbrev S1x1024x704 : Shape := ⟨3, ![1, 1024, 704]⟩

abbrev nBuf : Space → Nat
  | .hbm => 57
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S1x1, .f32⟩
  | .hbm, ⟨6, _⟩ => ⟨S2x1024x704, .f32⟩
  | .hbm, ⟨7, _⟩ => ⟨S2x1024x704, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S1024x704, .f32⟩
  | .hbm, ⟨12, _⟩ => ⟨S1x1x1, .f32⟩
  | .hbm, ⟨13, _⟩ => ⟨S_, .f32⟩
  | .hbm, ⟨14, _⟩ => ⟨S1x1x1, .f32⟩
  | .hbm, ⟨15, _⟩ => ⟨S1x1x1, .i1⟩
  | .hbm, ⟨16, _⟩ => ⟨S1x1024x704, .f32⟩
  | .hbm, ⟨17, _⟩ => ⟨S1x1024x704, .f32⟩
  | .hbm, ⟨18, _⟩ => ⟨S2x1024x704, .f32⟩
  | .hbm, ⟨19, _⟩ => ⟨S1x1024x704, .f32⟩
  | .hbm, ⟨20, _⟩ => ⟨S1x1024x704, .f32⟩
  | .hbm, ⟨21, _⟩ => ⟨S2x1024x704, .f32⟩
  | .hbm, ⟨22, _⟩ => ⟨S2x1024x704, .i1⟩
  | .hbm, ⟨23, _⟩ => ⟨S2x1024x704, .f32⟩
  | .hbm, ⟨24, _⟩ => ⟨S_, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S2x1024x704, .f32⟩
  | .hbm, ⟨35, _⟩ => ⟨S_, .f32⟩
  | .hbm, ⟨36, _⟩ => ⟨S2x1024x704, .f32⟩
  | .hbm, ⟨37, _⟩ => ⟨S2x1024x704, .f32⟩
  | .hbm, ⟨38, _⟩ => ⟨S2x1024x704, .f32⟩
  | .hbm, ⟨39, _⟩ => ⟨S_, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S_, .f32⟩
  | .hbm, ⟨47, _⟩ => ⟨S2x1024x704, .f32⟩
  | .hbm, ⟨48, _⟩ => ⟨S2x1024x704, .f32⟩
  | .hbm, ⟨49, _⟩ => ⟨S2x1024x704, .f32⟩
  | .hbm, ⟨50, _⟩ => ⟨S_, .f32⟩
  | .hbm, ⟨51, _⟩ => ⟨S2x1024x704, .f32⟩
  | .hbm, ⟨52, _⟩ => ⟨S2x1024x704, .f32⟩
  | .hbm, ⟨53, _⟩ => ⟨S2x1024x704, .f32⟩
  | .hbm, ⟨54, _⟩ => ⟨S_, .f32⟩
  | .hbm, ⟨55, _⟩ => ⟨S2x1024x704, .f32⟩
  | .hbm, ⟨56, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== AdamwIn.lean ====
abbrev S2x1024x2052 : Shape := ⟨3, ![2, 1024, 2052]⟩
abbrev S2064x1024 : Shape := ⟨2, ![2064, 1024]⟩
abbrev S1x1 : Shape := ⟨2, ![1, 1]⟩
abbrev S2x2052x1024 : Shape := ⟨3, ![2, 2052, 1024]⟩
abbrev S_ : Shape := ⟨0, ![]⟩
abbrev S2x2064x1024 : Shape := ⟨3, ![2, 2064, 1024]⟩
abbrev S1x344x1024 : Shape := ⟨3, ![1, 344, 1024]⟩
abbrev S344x1024 : Shape := ⟨2, ![344, 1024]⟩

abbrev nBuf : Space → Nat
  | .hbm => 32
  | .vmem => 23
  | .smem => 0
  | _ => 0

abbrev bufTy : (tb : Table) → Fin (tcTables nBuf tb) → BufTy
  | .hbm, ⟨0, _⟩ => ⟨S2x1024x2052, .f32⟩
  | .hbm, ⟨1, _⟩ => ⟨S2064x1024, .f32⟩
  | .hbm, ⟨2, _⟩ => ⟨S2064x1024, .f32⟩
  | .hbm, ⟨3, _⟩ => ⟨S2064x1024, .f32⟩
  | .hbm, ⟨4, _⟩ => ⟨S2064x1024, .f32⟩
  | .hbm, ⟨5, _⟩ => ⟨S1x1, .f32⟩
  | .hbm, ⟨6, _⟩ => ⟨S2x1024x2052, .f32⟩
  | .hbm, ⟨7, _⟩ => ⟨S2x1024x2052, .f32⟩
  | .hbm, ⟨8, _⟩ => ⟨S2x2052x1024, .f32⟩
  | .hbm, ⟨9, _⟩ => ⟨S_, .i32⟩
  | .hbm, ⟨10, _⟩ => ⟨S_, .f32⟩
  | .hbm, ⟨11, _⟩ => ⟨S2x2064x1024, .f32⟩
  | .hbm, ⟨12, _⟩ => ⟨S2x2052x1024, .f32⟩
  | .hbm, ⟨13, _⟩ => ⟨S_, .i32⟩
  | .hbm, ⟨14, _⟩ => ⟨S_, .f32⟩
  | .hbm, ⟨15, _⟩ => ⟨S2x2064x1024, .f32⟩
  | .hbm, ⟨16, _⟩ => ⟨S2x2052x1024, .f32⟩
  | .hbm, ⟨17, _⟩ => ⟨S_, .i32⟩
  | .hbm, ⟨18, _⟩ => ⟨S_, .f32⟩
  | .hbm, ⟨19, _⟩ => ⟨S2x2064x1024, .f32⟩
  | .hbm, ⟨20, _⟩ => ⟨S2x2064x1024, .f32⟩
  | .hbm, ⟨21, _⟩ => ⟨S2x2064x1024, .f32⟩
  | .hbm, ⟨22, _⟩ => ⟨S2x2064x1024, .f32⟩
  | .hbm, ⟨23, _⟩ => ⟨S2x2064x1024, .f32⟩
  | .hbm, ⟨24, _⟩ => ⟨S2x2052x1024, .f32⟩
  | .hbm, ⟨25, _⟩ => ⟨S2x1024x2052, .f32⟩
  | .hbm, ⟨26, _⟩ => ⟨S2x2052x1024, .f32⟩
  | .hbm, ⟨27, _⟩ => ⟨S2x1024x2052, .f32⟩
  | .hbm, ⟨28, _⟩ => ⟨S2x2052x1024, .f32⟩
  | .hbm, ⟨29, _⟩ => ⟨S2x1024x2052, .f32⟩
  | .hbm, ⟨30, _⟩ => ⟨S2x2052x1024, .f32⟩
  | .hbm, ⟨31, _⟩ => ⟨S2x1024x2052, .f32⟩
  | .local _ .vmem, ⟨0, _⟩ => ⟨S1x1, .f32⟩
  | .local _ .vmem, ⟨1, _⟩ => ⟨S1x344x1024, .f32⟩
  | .local _ .vmem, ⟨2, _⟩ => ⟨S1x344x1024, .f32⟩
  | .local _ .vmem, ⟨3, _⟩ => ⟨S344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S1x344x1024, .f32⟩
  | .local _ .vmem, ⟨12, _⟩ => ⟨S1x344x1024, .f32⟩
  | .local _ .vmem, ⟨13, _⟩ => ⟨S1x344x1024, .f32⟩
  | .local _ .vmem, ⟨14, _⟩ => ⟨S1x344x1024, .f32⟩
  | .local _ .vmem, ⟨15, _⟩ => ⟨S1x344x1024, .f32⟩
  | .local _ .vmem, ⟨16, _⟩ => ⟨S1x344x1024, .f32⟩
  | .local _ .vmem, ⟨17, _⟩ => ⟨S1x344x1024, .f32⟩
  | .local _ .vmem, ⟨18, _⟩ => ⟨S1x344x1024, .f32⟩
  | .local _ .vmem, ⟨19, _⟩ => ⟨S1x344x1024, .f32⟩
  | .local _ .vmem, ⟨20, _⟩ => ⟨S1x344x1024, .f32⟩
  | .local _ .vmem, ⟨21, _⟩ => ⟨S1x344x1024, .f32⟩
  | .local _ .vmem, ⟨22, _⟩ => ⟨S1x344x1024, .f32⟩
  | _, _ => ⟨S2x1024x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x344x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x344x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x344x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x344x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x344x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamwInIdeal.lean ====
variable {F : FTy → Type} [FloatOps F] [Named F]
def κ : String → Option EReal := fun
  | "debias_m" => some ((8388608 / 5463681 : ℝ) : EReal)
  | "debias_v" => some ((268435456 / 2672307 : ℝ) : EReal)
  | _ => none
-- ==== AdamwInRefIdeal.lean ====
abbrev S2x1024x2052 : Shape := ⟨3, ![2, 1024, 2052]⟩
abbrev S2064x1024 : Shape := ⟨2, ![2064, 1024]⟩
abbrev S1x1 : Shape := ⟨2, ![1, 1]⟩
abbrev S2052x1024 : Shape := ⟨2, ![2052, 1024]⟩
abbrev S1024x2052 : Shape := ⟨2, ![1024, 2052]⟩
abbrev S1x1x1 : Shape := ⟨3, ![1, 1, 1]⟩
abbrev S_ : Shape := ⟨0, ![]⟩
abbrev S1x1024x2052 : Shape := ⟨3, ![1, 1024, 2052]⟩

abbrev nBuf : Space → Nat
  | .hbm => 61
  | .vmem => 0
  | .smem => 0
  | _ => 0

abbrev bufTy : (tb : Table) → Fin (tcTables nBuf tb) → BufTy
  | .hbm, ⟨0, _⟩ => ⟨S2x1024x2052, .f32⟩
  | .hbm, ⟨1, _⟩ => ⟨S2064x1024, .f32⟩
  | .hbm, ⟨2, _⟩ => ⟨S2064x1024, .f32⟩
  | .hbm, ⟨3, _⟩ => ⟨S2064x1024, .f32⟩
  | .hbm, ⟨4, _⟩ => ⟨S2064x1024, .f32⟩
  | .hbm, ⟨5, _⟩ => ⟨S1x1, .f32⟩
  | .hbm, ⟨6, _⟩ => ⟨S2x1024x2052, .f32⟩
  | .hbm, ⟨7, _⟩ => ⟨S2x1024x2052, .f32⟩
  | .hbm, ⟨8, _⟩ => ⟨S2052x1024, .f32⟩
  | .hbm, ⟨9, _⟩ => ⟨S1024x2052, .f32⟩
  | .hbm, ⟨10, _⟩ => ⟨S2052x1024, .f32⟩
  | .hbm, ⟨11, _⟩ => ⟨S1024x2052, .f32⟩
  | .hbm, ⟨12, _⟩ => ⟨S2052x1024, .f32⟩
  | .hbm, ⟨13, _⟩ => ⟨S1024x2052, .f32⟩
  | .hbm, ⟨14, _⟩ => ⟨S2052x1024, .f32⟩
  | .hbm, ⟨15, _⟩ => ⟨S1024x2052, .f32⟩
  | .hbm, ⟨16, _⟩ => ⟨S1x1x1, .f32⟩
  | .hbm, ⟨17, _⟩ => ⟨S_, .f32⟩
  | .hbm, ⟨18, _⟩ => ⟨S1x1x1, .f32⟩
  | .hbm, ⟨19, _⟩ => ⟨S1x1x1, .i1⟩
  | .hbm, ⟨20, _⟩ => ⟨S1x1024x2052, .f32⟩
  | .hbm, ⟨21, _⟩ => ⟨S1x1024x2052, .f32⟩
  | .hbm, ⟨22, _⟩ => ⟨S2x1024x2052, .f32⟩
  | .hbm, ⟨23, _⟩ => ⟨S1x1024x2052, .f32⟩
  | .hbm, ⟨24, _⟩ => ⟨S1x1024x2052, .f32⟩
  | .hbm, ⟨25, _⟩ => ⟨S2x1024x2052, .f32⟩
  | .hbm, ⟨26, _⟩ => ⟨S2x1024x2052, .i1⟩
  | .hbm, ⟨27, _⟩ => ⟨S2x1024x2052, .f32⟩
  | .hbm, ⟨28, _⟩ => ⟨S_, .f32⟩
  | .hbm, ⟨29, _⟩ => ⟨S2x1024x2052, .f32⟩
  | .hbm, ⟨30, _⟩ => ⟨S2x1024x2052, .f32⟩
  | .hbm, ⟨31, _⟩ => ⟨S_, .f32⟩
  | .hbm, ⟨32, _⟩ => ⟨S2x1024x2052, .f32⟩
  | .hbm, ⟨33, _⟩ => ⟨S2x1024x2052, .f32⟩
  | .hbm, ⟨34, _⟩ => ⟨S2x1024x2052, .f32⟩
  | .hbm, ⟨35, _⟩ => ⟨S_, .f32⟩
  | .hbm, ⟨36, _⟩ => ⟨S2x1024x2052, .f32⟩
  | .hbm, ⟨37, _⟩ => ⟨S2x1024x2052, .f32⟩
  | .hbm, ⟨38, _⟩ => ⟨S2x1024x2052, .f32⟩
  | .hbm, ⟨39, _⟩ => ⟨S_, .f32⟩
  | .hbm, ⟨40, _⟩ => ⟨S2x1024x2052, .f32⟩
  | .hbm, ⟨41, _⟩ => ⟨S2x1024x2052, .f32⟩
  | .hbm, ⟨42, _⟩ => ⟨S2x1024x2052, .f32⟩
  | .hbm, ⟨43, _⟩ => ⟨S_, .f32⟩
  | .hbm, ⟨44, _⟩ => ⟨S2x1024x2052, .f32⟩
  | .hbm, ⟨45, _⟩ => ⟨S2x1024x2052, .f32⟩
  | .hbm, ⟨46, _⟩ => ⟨S_, .f32⟩
  | .hbm, ⟨47, _⟩ => ⟨S2x1024x2052, .f32⟩
  | .hbm, ⟨48, _⟩ => ⟨S2x1024x2052, .f32⟩
  | .hbm, ⟨49, _⟩ => ⟨S2x1024x2052, .f32⟩
  | .hbm, ⟨50, _⟩ => ⟨S_, .f32⟩
  | .hbm, ⟨51, _⟩ => ⟨S2x1024x2052, .f32⟩
  | .hbm, ⟨52, _⟩ => ⟨S2x1024x2052, .f32⟩
  | .hbm, ⟨53, _⟩ => ⟨S2x1024x2052, .f32⟩
  | .hbm, ⟨54, _⟩ => ⟨S_, .f32⟩
  | .hbm, ⟨55, _⟩ => ⟨S2x1024x2052, .f32⟩
  | .hbm, ⟨56, _⟩ => ⟨S2x1024x2052, .f32⟩
  | .hbm, ⟨57, _⟩ => ⟨S2x1024x2052, .f32⟩
  | .hbm, ⟨58, _⟩ => ⟨S_, .f32⟩
  | .hbm, ⟨59, _⟩ => ⟨S2x1024x2052, .f32⟩
  | .hbm, ⟨60, _⟩ => ⟨S2x1024x2052, .f32⟩
  | _, _ => ⟨S2x1024x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== FfnOutFwd.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutFwdRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnHiddenFwd.lean ====
abbrev S4096x1024 : Shape := ⟨2, ![4096, 1024]⟩
abbrev S1024 : Shape := ⟨1, ![1024]⟩
abbrev S2816x1024 : Shape := ⟨2, ![2816, 1024]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2816x1024, .bf16⟩
  | .hbm, ⟨3, _⟩ => ⟨S2816x1024, .bf16⟩
  | .hbm, ⟨4, _⟩ => ⟨S1x1024, .f32⟩
  | .hbm, ⟨5, _⟩ => ⟨S4096x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnHiddenFwdRefIdeal.lean ====
abbrev S4096x1024 : Shape := ⟨2, ![4096, 1024]⟩
abbrev S1024 : Shape := ⟨1, ![1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S2816x1024, .f32⟩
  | .hbm, ⟨21, _⟩ => ⟨S1024x2816, .f32⟩
  | .hbm, ⟨22, _⟩ => ⟨S4096x2816, .f32⟩
  | .hbm, ⟨23, _⟩ => ⟨S2816x1024, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .bf16⟩
  | .hbm, ⟨37, _⟩ => ⟨S4096x2816, .bf16⟩
  | .hbm, ⟨38, _⟩ => ⟨S4096x2816, .bf16⟩
  | .hbm, ⟨39, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== MixerFwd.lean ====
abbrev S4096x1024 : Shape := ⟨2, ![4096, 1024]⟩
abbrev S4096x8320 : Shape := ⟨2, ![4096, 8320]⟩
abbrev S1024x1024 : Shape := ⟨2, ![1024, 1024]⟩
abbrev S512x1024 : Shape := ⟨2, ![512, 1024]⟩

abbrev nBuf : Space → Nat
  | .hbm => 11
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x8320, .bf16⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixerFwdRefIdeal.lean ====
abbrev S4096x1024 : Shape := ⟨2, ![4096, 1024]⟩
abbrev S4096x8320 : Shape := ⟨2, ![4096, 8320]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x8320, .bf16⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x1024, .bf16⟩
  | .hbm, ⟨41, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== ConvFwd.lean ====
abbrev S4096x8320 : Shape := ⟨2, ![4096, 8320]⟩
abbrev S8x1024 : Shape := ⟨2, ![8, 1024]⟩
abbrev S4096x1024 : Shape := ⟨2, ![4096, 1024]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩

abbrev nBuf : Space → Nat
  | .hbm => 3
  | .vmem => 13
  | .smem => 0
  | _ => 0

abbrev bufTy : (tb : Table) → Fin (tcTables nBuf tb) → BufTy
  | .hbm, ⟨0, _⟩ => ⟨S4096x8320, .bf16⟩
  | .hbm, ⟨1, _⟩ => ⟨S8x1024, .f32⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S8x1024, .f32⟩
  | .local _ .vmem, ⟨11, _⟩ => ⟨S512x1024, .bf16⟩
  | .local _ .vmem, ⟨12, _⟩ => ⟨S512x1024, .bf16⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S4096x8320 : Shape := ⟨2, ![4096, 8320]⟩
abbrev S8x1024 : Shape := ⟨2, ![8, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S8x1024, .f32⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩

abbrev nD : Nat := 1
abbrev τ : Topo := Topo.v7x

variable {F : FTy → Type} [FloatOps F]
-- ==== ConvBwd.lean ====
abbrev S4096x8320 : Shape := ⟨2, ![4096, 8320]⟩
abbrev S4096x1024 : Shape := ⟨2, ![4096, 1024]⟩
abbrev S8x1024 : Shape := ⟨2, ![8, 1024]⟩
abbrev S512x1024 : Shape := ⟨2, ![512, 1024]⟩
abbrev S16x1024 : Shape := ⟨2, ![16, 1024]⟩
abbrev S512x3072 : Shape := ⟨2, ![512, 3072]⟩
abbrev S528x1024 : Shape := ⟨2, ![528, 1024]⟩
abbrev S1x1024 : Shape := ⟨2, ![1, 1024]⟩
abbrev S1024 : Shape := ⟨1, ![1024]⟩
abbrev S4x1024 : Shape := ⟨2, ![4, 1024]⟩

abbrev nBuf : Space → Nat
  | .hbm => 6
  | .vmem => 20
  | .smem => 0
  | _ => 0

abbrev bufTy : (tb : Table) → Fin (tcTables nBuf tb) → BufTy
  | .hbm, ⟨0, _⟩ => ⟨S4096x8320, .bf16⟩
  | .hbm, ⟨1, _⟩ => ⟨S4096x1024, .bf16⟩
  | .hbm, ⟨2, _⟩ => ⟨S8x1024, .f32⟩
  | .hbm, ⟨3, _⟩ => ⟨S4096x8320, .bf16⟩
  | .hbm, ⟨4, _⟩ => ⟨S4096x8320, .bf16⟩
  | .hbm, ⟨5, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S8x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_36 : BitVec 32 := 0#32
  let v83 : BitVec 1 := Scalar.cmpi .eq arg0 c0_i32_36
  let v84 : BitVec 32 := Scalar.extui v83
  let c0_i32_37 : BitVec 32 := 0#32
  let v85 : BitVec 1 := Scalar.cmpi .ne v84 c0_i32_37
  v85

def k0_cond2 (i : grid0.Coords) : BitVec 1 :=
  let arg0 : BitVec 32 := BitVec.ofNat 32 (i 0).val
  let c0_i32_38 : BitVec 32 := 0#32
  let v86 : BitVec 1 := Scalar.cmpi .sgt arg0 c0_i32_38
  let v87 : BitVec 32 := Scalar.extui v86
  let c0_i32_39 : BitVec 32 := 0#32
  let v88 : BitVec 1 := Scalar.cmpi .ne v87 c0_i32_39
  v88

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvBwdRefIdeal.lean ====
abbrev S4096x8320 : Shape := ⟨2, ![4096, 8320]⟩
abbrev S4096x1024 : Shape := ⟨2, ![4096, 1024]⟩
abbrev S8x1024 : Shape := ⟨2, ![8, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S4098x1024 : Shape := ⟨2, ![4098, 1024]⟩
abbrev S4096x3072 : Shape := ⟨2, ![4096, 3072]⟩
abbrev S4x1024 : Shape := ⟨2, ![4, 1024]⟩
abbrev S4096x2176 : Shape := ⟨2, ![4096, 2176]⟩

abbrev nBuf : Space → Nat
  | .hbm => 110
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S4096x1024, .bf16⟩
  | .hbm, ⟨2, _⟩ => ⟨S8x1024, .f32⟩
  | .hbm, ⟨3, _⟩ => ⟨S4096x8320, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S3x1024, .f32⟩
  | .hbm, ⟨11, _⟩ => ⟨S1x1024, .f32⟩
  | .hbm, ⟨12, _⟩ => ⟨S1024, .f32⟩
  | .hbm, ⟨13, _⟩ => ⟨S_, .f32⟩
  | .hbm, ⟨14, _⟩ => ⟨S2x1024, .f32⟩
  | .hbm, ⟨15, _⟩ => ⟨S4096x1024, .f32⟩
  | .hbm, ⟨16, _⟩ => ⟨S4098x1024, .f32⟩
  | .hbm, ⟨17, _⟩ => ⟨S_, .f32⟩
  | .hbm, ⟨18, _⟩ => ⟨S2x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S4098x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S4098x1024, .f32⟩
  | .hbm, ⟨75, _⟩ => ⟨S4098x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S4098x1024, .f32⟩
  | .hbm, ⟨90, _⟩ => ⟨S4098x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S3x1024, .f32⟩
  | .hbm, ⟨96, _⟩ => ⟨S3x1024, .f32⟩
  | .hbm, ⟨97, _⟩ => ⟨S2x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x3072, .f32⟩
  | .hbm, ⟨102, _⟩ => ⟨S4096x3072, .bf16⟩
  | .hbm, ⟨103, _⟩ => ⟨S1x1024, .f32⟩
  | .hbm, ⟨104, _⟩ => ⟨S_, .f32⟩
  | .hbm, ⟨105, _⟩ => ⟨S4x1024, .f32⟩
  | .hbm, ⟨106, _⟩ => ⟨S8x1024, .f32⟩
  | .hbm, ⟨107, _⟩ => ⟨S4096x3072, .bf16⟩
  | .hbm, ⟨108, _⟩ => ⟨S4096x2176, .bf16⟩
  | .hbm, ⟨109, _⟩ => ⟨S4096x8320, .bf16⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩
abbrev main_cst_14 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_16 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== LossTotal.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | _ => false

abbrev sig : RefSig :=
  ofTc nBuf bufTy 1 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v4_s0 : Ref sig .tc := ⟨.hbm, 10, rfl⟩
abbrev main_v4_s1 : Ref sig .tc := ⟨.hbm, 11, rfl⟩
abbrev main_v4_s2 : Ref sig .tc := ⟨.hbm, 12, rfl⟩
abbrev main_v4_s3 : Ref sig .tc := ⟨.hbm, 13, rfl⟩
abbrev main_v4_s4 : Ref sig .tc := ⟨.hbm, 14, rfl⟩
abbrev main_v4_s5 : Ref sig .tc := ⟨.hbm, 15, rfl⟩
abbrev main_v4_s6 : Ref sig .tc := ⟨.hbm, 16, rfl⟩
abbrev main_v4_s7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev ar0_recv : DmaSem sig := 11
abbrev ar0_send : DmaSem sig := 12
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossTotalRefIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S_, .f32⟩
  | .hbm, ⟨24, _⟩ => ⟨S32768, .f32⟩
  | .hbm, ⟨25, _⟩ => ⟨S32768, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== PutGate.lean ====
abbrev S4096x8320 : Shape := ⟨2, ![4096, 8320]⟩
abbrev S4096x128 : Shape := ⟨2, ![4096, 128]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x8320, .bf16⟩
  | .hbm, ⟨1, _⟩ => ⟨S4096x128, .bf16⟩
  | .hbm, ⟨2, _⟩ => ⟨S4096x8320, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PutGateRefIdeal.lean ====
abbrev S4096x8320 : Shape := ⟨2, ![4096, 8320]⟩
abbrev S4096x128 : Shape := ⟨2, ![4096, 128]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S4096x128, .bf16⟩
  | .hbm, ⟨2, _⟩ => ⟨S4096x8192, .bf16⟩
  | .hbm, ⟨3, _⟩ => ⟨S4096x8320, .bf16⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RowsIn.lean ====
abbrev S4x2064x1024 : Shape := ⟨3, ![4, 2064, 1024]⟩
abbrev S8256x1024 : Shape := ⟨2, ![8256, 1024]⟩
abbrev S8320x1024 : Shape := ⟨2, ![8320, 1024]⟩
abbrev S640x656 : Shape := ⟨2, ![640, 656]⟩
abbrev S656x1024 : Shape := ⟨2, ![656, 1024]⟩
abbrev S640x1024 : Shape := ⟨2, ![640, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x2064x1024, .bf16⟩
  | .hbm, ⟨1, _⟩ => ⟨S8256x1024, .bf16⟩
  | .hbm, ⟨2, _⟩ => ⟨S8320x1024, .bf16⟩
  | .local _ .vmem, ⟨0, _⟩ => ⟨S8256x1024, .bf16⟩
  | .local _ .vmem, ⟨1, _⟩ => ⟨S8320x1024, .bf16⟩
  | _, _ => ⟨S4x2064x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8320x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RowsInRefIdeal.lean ====
abbrev S4x2064x1024 : Shape := ⟨3, ![4, 2064, 1024]⟩
abbrev S4x2052x1024 : Shape := ⟨3, ![4, 2052, 1024]⟩
abbrev S8208x1024 : Shape := ⟨2, ![8208, 1024]⟩
abbrev S3072x1024 : Shape := ⟨2, ![3072, 1024]⟩
abbrev S5120x1024 : Shape := ⟨2, ![5120, 1024]⟩
abbrev S16x1024 : Shape := ⟨2, ![16, 1024]⟩
abbrev S_ : Shape := ⟨0, ![]⟩
abbrev S112x1024 : Shape := ⟨2, ![112, 1024]⟩
abbrev S8320x1024 : Shape := ⟨2, ![8320, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2064x1024, .bf16⟩
  | .hbm, ⟨1, _⟩ => ⟨S4x2052x1024, .bf16⟩
  | .hbm, ⟨2, _⟩ => ⟨S8208x1024, .bf16⟩
  | .hbm, ⟨3, _⟩ => ⟨S3072x1024, .bf16⟩
  | .hbm, ⟨4, _⟩ => ⟨S5120x1024, .bf16⟩
  | .hbm, ⟨5, _⟩ => ⟨S16x1024, .bf16⟩
  | .hbm, ⟨6, _⟩ => ⟨S_, .bf16⟩
  | .hbm, ⟨7, _⟩ => ⟨S112x1024, .bf16⟩
  | .hbm, ⟨8, _⟩ => ⟨S8320x1024, .bf16⟩
  | _, _ => ⟨S4x2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== RowsOut.lean ====
abbrev S8320x1024 : Shape := ⟨2, ![8320, 1024]⟩
abbrev S8256x1024 : Shape := ⟨2, ![8256, 1024]⟩
abbrev S688x704 : Shape := ⟨2, ![688, 704]⟩
abbrev S704x1024 : Shape := ⟨2, ![704, 1024]⟩
abbrev S688x1024 : Shape := ⟨2, ![688, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8320x1024, .bf16⟩
  | .hbm, ⟨1, _⟩ => ⟨S8256x1024, .bf16⟩
  | .local _ .vmem, ⟨0, _⟩ => ⟨S8320x1024, .bf16⟩
  | .local _ .vmem, ⟨1, _⟩ => ⟨S8256x1024, .bf16⟩
  | _, _ => ⟨S8320x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RowsOutRefIdeal.lean ====
abbrev S8320x1024 : Shape := ⟨2, ![8320, 1024]⟩
abbrev S3072x1024 : Shape := ⟨2, ![3072, 1024]⟩
abbrev S16x1024 : Shape := ⟨2, ![16, 1024]⟩
abbrev S5120x1024 : Shape := ⟨2, ![5120, 1024]⟩
abbrev S8208x1024 : Shape := ⟨2, ![8208, 1024]⟩
abbrev S4x2052x1024 : Shape := ⟨3, ![4, 2052, 1024]⟩
abbrev S_ : Shape := ⟨0, ![]⟩
abbrev S4x2064x1024 : Shape := ⟨3, ![4, 2064, 1024]⟩
abbrev S8256x1024 : Shape := ⟨2, ![8256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S3072x1024, .bf16⟩
  | .hbm, ⟨2, _⟩ => ⟨S16x1024, .bf16⟩
  | .hbm, ⟨3, _⟩ => ⟨S5120x1024, .bf16⟩
  | .hbm, ⟨4, _⟩ => ⟨S8208x1024, .bf16⟩
  | .hbm, ⟨5, _⟩ => ⟨S4x2052x1024, .bf16⟩
  | .hbm, ⟨6, _⟩ => ⟨S_, .i32⟩
  | .hbm, ⟨7, _⟩ => ⟨S_, .bf16⟩
  | .hbm, ⟨8, _⟩ => ⟨S4x2064x1024, .bf16⟩
  | .hbm, ⟨9, _⟩ => ⟨S8256x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GlaFwd.lean ====
abbrev S4096x8320 : Shape := ⟨2, ![4096, 8320]⟩
abbrev S128x512 : Shape := ⟨2, ![128, 512]⟩
abbrev S1x512 : Shape := ⟨2, ![1, 512]⟩
abbrev S1x256 : Shape := ⟨2, ![1, 256]⟩
abbrev S4096x1024 : Shape := ⟨2, ![4096, 1024]⟩
abbrev S64x256x512 : Shape := ⟨3, ![64, 256, 512]⟩
abbrev S512x512 : Shape := ⟨2, ![512, 512]⟩
abbrev S512x1024 : Shape := ⟨2, ![512, 1024]⟩
abbrev S512x128 : Shape := ⟨2, ![512, 128]⟩
abbrev S8x256x512 : Shape := ⟨3, ![8, 256, 512]⟩
abbrev S256x512 : Shape := ⟨2, ![256, 512]⟩
abbrev S64x64 : Shape := ⟨2, ![64, 64]⟩
abbrev S64x512 : Shape := ⟨2, ![64, 512]⟩
abbrev S64x1024 : Shape := ⟨2, ![64, 1024]⟩
abbrev S64x256 : Shape := ⟨2, ![64, 256]⟩
abbrev S64x128 : Shape := ⟨2, ![64, 128]⟩
abbrev S256x128 : Shape := ⟨2, ![256, 128]⟩
abbrev S1x128 : Shape := ⟨2, ![1, 128]⟩
abbrev S1x256x512 : Shape := ⟨3, ![1, 256, 512]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 20
  | .smem => 0
  | _ => 0

abbrev bufTy : (tb : Table) → Fin (tcTables nBuf tb) → BufTy
  | .hbm, ⟨0, _⟩ => ⟨S4096x8320, .bf16⟩
  | .hbm, ⟨1, _⟩ => ⟨S128x512, .bf16⟩
  | .hbm, ⟨2, _⟩ => ⟨S1x512, .f32⟩
  | .hbm, ⟨3, _⟩ => ⟨S1x256, .f32⟩
  | .hbm, ⟨4, _⟩ => ⟨S4096x1024, .bf16⟩
  | .hbm, ⟨5, _⟩ => ⟨S64x256x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S512x1024, .bf16⟩
  | .local _ .vmem, ⟨14, _⟩ => ⟨S512x1024, .bf16⟩
  | .local _ .vmem, ⟨15, _⟩ => ⟨S8x256x512, .bf16⟩
  | .local _ .vmem, ⟨16, _⟩ => ⟨S8x256x512, .bf16⟩
  | .local _ .vmem, ⟨17, _⟩ => ⟨S256x512, .f32⟩
  | .local _ .vmem, ⟨18, _⟩ => ⟨S512x512, .f32⟩
  | .local _ .vmem, ⟨19, _⟩ => ⟨S512x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def k0_mult1 : BitVec 32 :=
  let c0_i32_13 : BitVec 32 := 0#32
  let c64_i32 : BitVec 32 := 64#32
  let v28 : BitVec 32 := Scalar.muli c0_i32_13 c64_i32
  v28
def k0_off1 (c0_i32_13 : BitVec 32) : Fin 2 → Nat :=
  let c64_i32 : BitVec 32 := 64#32
  let v28 : BitVec 32 := Scalar.muli c0_i32_13 c64_i32
  let v29 : BitVec 32 := v28
  let v30 : Index := Scalar.indexCast v29
  let c0_14 : Index := 0#32
  ![v30.toNat, 0]
def k0_off2 (c0_i32_13 : BitVec 32) : Fin 2 → Nat :=
  let c64_i32 : BitVec 32 := 64#32
  let v28 : BitVec 32 := Scalar.muli c0_i32_13 c64_i32
  let v29 : BitVec 32 := v28
  let v49 : Index := Scalar.indexCast v29
  let c0_19 : Index := 0#32
  ![v49.toNat, 0]
def k0_off3 (c0_i32_13 : BitVec 32) : Fin 2 → Nat :=
  let c64_i32 : BitVec 32 := 64#32
  let v28 : BitVec 32 := Scalar.muli c0_i32_13 c64_i32
  let v29 : BitVec 32 := v28
  let v65 : Index := Scalar.indexCast v29
  let c0_26 : Index := 0#32
  ![v65.toNat, 0]
def k0_off4 (c0_i32_13 : BitVec 32) : Fin 2 → Nat :=
  let c64_i32 : BitVec 32 := 64#32
  let v28 : BitVec 32 := Scalar.muli c0_i32_13 c64_i32
  let v29 : BitVec 32 := v28
  let v83 : Index := Scalar.indexCast v29
  let c256 : Index := 256#32
  ![v83.toNat, 256]
def k0_off5 (c0_i32_13 : BitVec 32) : Fin 2 → Nat :=
  let c64_i32 : BitVec 32 := 64#32
  let v28 : BitVec 32 := Scalar.muli c0_i32_13 c64_i32
  let v29 : BitVec 32 := v28
  let v101 : Index := Scalar.indexCast v29
  let c512 : Index := 512#32
  ![v101.toNat, 512]
def k0_off6 (c0_i32_13 : BitVec 32) : Fin 2 → Nat :=
  let c64_i32 : BitVec 32 := 64#32
  let v28 : BitVec 32 := Scalar.muli c0_i32_13 c64_i32
  let v29 : BitVec 32 := v28
  let v119 : Index := Scalar.indexCast v29
  let c768 : Index := 768#32
  ![v119.toNat, 768]
def k0_mult2 : BitVec 32 :=
  let c1_i32 : BitVec 32 := 1#32
  let c64_i32_47 : BitVec 32 := 64#32
  let v129 : BitVec 32 := Scalar.muli c1_i32 c64_i32_47
  v129
def k0_mult3 : BitVec 32 :=
  let c2_i32 : BitVec 32 := 2#32
  let c64_i32_86 : BitVec 32 := 64#32
  let v230 : BitVec 32 := Scalar.muli c2_i32 c64_i32_86
  v230
def k0_mult4 : BitVec 32 :=
  let c3_i32 : BitVec 32 := 3#32
  let c64_i32_125 : BitVec 32 := 64#32
  let v331 : BitVec 32 := Scalar.muli c3_i32 c64_i32_125
  v331
def k0_mult5 : BitVec 32 :=
  let c4_i32 : BitVec 32 := 4#32
  let c64_i32_164 : BitVec 32 := 64#32
  let v432 : BitVec 32 := Scalar.muli c4_i32 c64_i32_164
  v432
def k0_mult6 : BitVec 32 :=
  let c5_i32 : BitVec 32 := 5#32
  let c64_i32_203 : BitVec 32 := 64#32
  let v533 : BitVec 32 := Scalar.muli c5_i32 c64_i32_203
  v533
def k0_mult7 : BitVec 32 :=
  let c6_i32 : BitVec 32 := 6#32
  let c64_i32_242 : BitVec 32 := 64#32
  let v634 : BitVec 32 := Scalar.muli c6_i32 c64_i32_242
  v634
def k0_mult8 : BitVec 32 :=
  let c7_i32 : BitVec 32 := 7#32
  let c64_i32_281 : BitVec 32 := 64#32
  let v735 : BitVec 32 := Scalar.muli c7_i32 c64_i32_281
  v735
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlaFwdRefIdeal.lean ====
abbrev S4096x8320 : Shape := ⟨2, ![4096, 8320]⟩
abbrev S128x512 : Shape := ⟨2, ![128, 512]⟩
abbrev S1x512 : Shape := ⟨2, ![1, 512]⟩
abbrev S1x256 : Shape := ⟨2, ![1, 256]⟩
abbrev S4096x512 : Shape := ⟨2, ![4096, 512]⟩
abbrev S4096x1024 : Shape := ⟨2, ![4096, 1024]⟩
abbrev S4096x128 : Shape := ⟨2, ![4096, 128]⟩
abbrev S_ : Shape := ⟨0, ![]⟩
abbrev S64x64x4x128 : Shape := ⟨4, ![64, 64, 4, 128]⟩
abbrev S64x4x64x128 : Shape := ⟨4, ![64, 4, 64, 128]⟩
abbrev S64x64x4x256 : Shape := ⟨4, ![64, 64, 4, 256]⟩
abbrev S64x4x64x256 : Shape := ⟨4, ![64, 4, 64, 256]⟩
abbrev S64x4x1x128 : Shape := ⟨4, ![64, 4, 1, 128]⟩
abbrev S64x4x128 : Shape := ⟨3, ![64, 4, 128]⟩
abbrev S4x128x256 : Shape := ⟨3, ![4, 128, 256]⟩
abbrev S64x4x128x256 : Shape := ⟨4, ![64, 4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x128 : Shape := ⟨3, ![1, 4, 128]⟩
abbrev S4x128 : Shape := ⟨2, ![4, 128]⟩
abbrev S4x128x1 : Shape := ⟨3, ![4, 128, 1]⟩
abbrev S1x4x128x256 : Shape := ⟨4, ![1, 4, 128, 256]⟩
abbrev S4096x4x256 : Shape := ⟨3, ![4096, 4, 256]⟩
abbrev S4096x4 : Shape := ⟨2, ![4096, 4]⟩
abbrev S4096x4x1 : Shape := ⟨3, ![4096, 4, 1]⟩
abbrev S1x1x256 : Shape := ⟨3, ![1, 1, 256]⟩
abbrev S64x256x4x128 : Shape := ⟨4, ![64, 256, 4, 128]⟩
abbrev S64x256x512 : Shape := ⟨3, ![64, 256, 512]⟩

abbrev nBuf : Space → Nat
  | .hbm => 145
  | .vmem => 0
  | .smem => 0
  | _ => 0

abbrev hbmTy0_0 (i : Nat) : BufTy := match i % 128 with
  | 0 => ⟨S4096x8320, .bf16⟩
  | 1 => ⟨S128x512, .bf16⟩
  | 2 => ⟨S1x512, .f32⟩
  | 3 => ⟨S1x256, .f32⟩
  | 4 => ⟨S4096x512, .bf16⟩
  | 5 => ⟨S4096x512, .f32⟩
  | 6 => ⟨S4096x512, .bf16⟩
  | 7 => ⟨S4096x512, .f32⟩
  | 8 => ⟨S4096x1024, .bf16⟩
  | 9 => ⟨S4096x1024, .f32⟩
  | 10 => ⟨S4096x128, .bf16⟩
  | 11 => ⟨S4096x128, .f32⟩
  | 12 => ⟨S128x512, .f32⟩
  | 13 => ⟨S4096x512, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S4096x512, .f32⟩
  | 22 => ⟨S4096x512, .i1⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S64x64x4x128, .f32⟩
  | 39 => ⟨S64x4x64x128, .f32⟩
  | 40 => ⟨S64x64x4x128, .f32⟩
  | 41 => ⟨S64x4x64x128, .f32⟩
  | 42 => ⟨S64x64x4x256, .f32⟩
  | 43 => ⟨S64x4x64x256, .f32⟩
  | 44 => ⟨S64x64x4x128, .f32⟩
  | 45 => ⟨S64x4x64x128, .f32⟩
  | 46 => ⟨S_, .f32⟩
  | 47 => ⟨S_, .f32⟩
  | 48 => ⟨S64x4x64x128, .f32⟩
  | 49 => ⟨S64x4x1x128, .f32⟩
  | 50 => ⟨S64x4x64x128, .f32⟩
  | 51 => ⟨S64x4x64x128, .f32⟩
  | 52 => ⟨S64x4x64x128, .f32⟩
  | 53 => ⟨S64x4x64x128, .f32⟩
  | 54 => ⟨S64x4x128, .f32⟩
  | 55 => ⟨S64x4x128, .f32⟩
  | 56 => ⟨S_, .f32⟩
  | 57 => ⟨S4x128x256, .f32⟩
  | 58 => ⟨S_, .f32⟩
  | 59 => ⟨S64x4x64x256, .f32⟩
  | 60 => ⟨S_, .f32⟩
  | 61 => ⟨S64x4x128x256, .f32⟩
  | 62 => ⟨S_, .i32⟩
  | 63 => ⟨S64x4x64x128, .f32⟩
  | 64 => ⟨S64x4x64x128, .f32⟩
  | 65 => ⟨S64x4x64x256, .f32⟩
  | 66 => ⟨S64x4x128, .f32⟩
  | 67 => ⟨S_, .i32⟩
  | 68 => ⟨S4x128x256, .f32⟩
  | 69 => ⟨S64x4x64x256, .f32⟩
  | 70 => ⟨S64x4x128x256, .f32⟩
  | 71 => ⟨S_, .i32⟩
  | 72 => ⟨S_, .i1⟩
  | 73 => ⟨S_, .i32⟩
  | 74 => ⟨S_, .i32⟩
  | 75 => ⟨S_, .i32⟩
  | 76 => ⟨S1x4x64x128, .f32⟩
  | 77 => ⟨S4x64x128, .f32⟩
  | 78 => ⟨S_, .i32⟩
  | 79 => ⟨S_, .i32⟩
  | 80 => ⟨S_, .i32⟩
  | 81 => ⟨S1x4x64x128, .f32⟩
  | 82 => ⟨S4x64x128, .f32⟩
  | 83 => ⟨S_, .i32⟩
  | 84 => ⟨S_, .i32⟩
  | 85 => ⟨S_, .i32⟩
  | 86 => ⟨S1x4x64x256, .f32⟩
  | 87 => ⟨S4x64x256, .f32⟩
  | 88 => ⟨S_, .i32⟩
  | 89 => ⟨S_, .i32⟩
  | 90 => ⟨S1x4x128, .f32⟩
  | 91 => ⟨S4x128, .f32⟩
  | 92 => ⟨S4x128x1, .f32⟩
  | 93 => ⟨S4x128x256, .f32⟩
  | 94 => ⟨S4x128x256, .f32⟩
  | 95 => ⟨S4x128x256, .f32⟩
  | 96 => ⟨S4x128x256, .f32⟩
  | 97 => ⟨S4x64x256, .f32⟩
  | 98 => ⟨S1x4x64x256, .f32⟩
  | 99 => ⟨S_, .i32⟩
  | 100 => ⟨S_, .i32⟩
  | 101 => ⟨S_, .i32⟩
  | 102 => ⟨S64x4x64x256, .f32⟩
  | 103 => ⟨S1x4x128x256, .f32⟩
  | 104 => ⟨S_, .i32⟩
  | 105 => ⟨S_, .i32⟩
  | 106 => ⟨S_, .i32⟩
  | 107 => ⟨S64x4x128x256, .f32⟩
  | 108 => ⟨S_, .i32⟩
  | 109 => ⟨S_, .i32⟩
  | 110 => ⟨S64x64x4x256, .f32⟩
  | 111 => ⟨S4096x4x256, .f32⟩
  | 112 => ⟨S4096x4x256, .f32⟩
  | 113 => ⟨S_, .f32⟩
  | 114 => ⟨S4096x4, .f32⟩
  | 115 => ⟨S4096x4x1, .f32⟩
  | 116 => ⟨S_, .f32⟩
  | 117 => ⟨S4096x4x1, .f32⟩
  | 118 => ⟨S4096x4x1, .f32⟩
  | 119 => ⟨S_, .f32⟩
  | 120 => ⟨S4096x4x1, .f32⟩
  | 121 => ⟨S4096x4x1, .f32⟩
  | 122 => ⟨S4096x4x1, .f32⟩
  | 123 => ⟨S4096x4x256, .f32⟩
  | 124 => ⟨S4096x4x256, .f32⟩
  | 125 => ⟨S1x1x256, .f32⟩
  | 126 => ⟨S4096x4x256, .f32⟩
  | 127 => ⟨S4096x4x256, .f32⟩
  | _ => ⟨S4096x8320, .bf16⟩

abbrev hbmTy0_1 (i : Nat) : BufTy := match i % 128 with
  | 0 => ⟨S4096x1024, .f32⟩
  | 1 => ⟨S4096x1024, .bf16⟩
  | 2 => ⟨S4096x1024, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S4096x1024, .f32⟩
  | 12 => ⟨S4096x1024, .f32⟩
  | 13 => ⟨S4096x1024, .bf16⟩
  | 14 => ⟨S64x256x4x128, .f32⟩
  | 15 => ⟨S64x256x512, .f32⟩
  | 16 => ⟨S64x256x512, .bf16⟩
  | _ => ⟨S4096x8320, .bf16⟩

abbrev hbmTy (i : Nat) : BufTy := match i / 128 with
  | 0 => hbmTy0_0 i
  | 1 => hbmTy0_1 i
  | _ => ⟨S4096x8320, .bf16⟩

abbrev bufTy : (tb : Table) → Fin (tcTables nBuf tb) → BufTy
  | .hbm, ⟨i, _⟩ => hbmTy i
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_call0_call0_cst : Ref sig .tc := ⟨.hbm, 46, rfl⟩
abbrev main_call0_call0_v0 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_c : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v50_3 : Ref sig .tc := ⟨.hbm, 66, rfl⟩
abbrev main_v50_4 : Ref sig .tc := ⟨.hbm, 67, rfl⟩
abbrev main_v50_5 : Ref sig .tc := ⟨.hbm, 68, rfl⟩
abbrev main_v50_6 : Ref sig .tc := ⟨.hbm, 69, rfl⟩
abbrev main_v50_7 : Ref sig .tc := ⟨.hbm, 70, rfl⟩
abbrev main_while0c_c_15 : Ref sig .tc := ⟨.hbm, 71, rfl⟩
abbrev main_while0c_v75 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_call1_c_1 : Ref sig .tc := ⟨.hbm, 75, rfl⟩
abbrev main_while0b_call1_v0 : Ref sig .tc := ⟨.hbm, 76, rfl⟩
abbrev main_while0b_v75 : Ref sig .tc := ⟨.hbm, 77, rfl⟩
abbrev main_while0b_call2_c : Ref sig .tc := ⟨.hbm, 78, rfl⟩
abbrev main_while0b_call2_c_0 : Ref sig .tc := ⟨.hbm, 79, rfl⟩
abbrev main_while0b_call2_c_1 : Ref sig .tc := ⟨.hbm, 80, rfl⟩
abbrev main_while0b_call2_v0 : Ref sig .tc := ⟨.hbm, 81, rfl⟩
abbrev main_while0b_v76 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_v0 : Ref sig .tc := ⟨.hbm, 86, rfl⟩
abbrev main_while0b_v77 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_v0 : Ref sig .tc := ⟨.hbm, 90, rfl⟩
abbrev main_while0b_v78 : Ref sig .tc := ⟨.hbm, 91, rfl⟩
abbrev main_while0b_v79 : Ref sig .tc := ⟨.hbm, 92, rfl⟩
abbrev main_while0b_v80 : Ref sig .tc := ⟨.hbm, 93, rfl⟩
abbrev main_while0b_v81 : Ref sig .tc := ⟨.hbm, 94, rfl⟩
abbrev main_while0b_v82 : Ref sig .tc := ⟨.hbm, 95, rfl⟩
abbrev main_while0b_v83 : Ref sig .tc := ⟨.hbm, 96, rfl⟩
abbrev main_while0b_v84 : Ref sig .tc := ⟨.hbm, 97, rfl⟩
abbrev main_while0b_call5_v0 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_v85 : Ref sig .tc := ⟨.hbm, 102, rfl⟩
abbrev main_while0b_call6_v0 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_c_1 : Ref sig .tc := ⟨.hbm, 106, rfl⟩
abbrev main_while0b_v86 : Ref sig .tc := ⟨.hbm, 107, rfl⟩
abbrev main_while0b_c_15 : Ref sig .tc := ⟨.hbm, 108, rfl⟩
abbrev main_while0b_v87 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_cst_5 : Ref sig .tc := ⟨.hbm, 113, rfl⟩
abbrev main_v54 : Ref sig .tc := ⟨.hbm, 114, rfl⟩
abbrev main_v55 : Ref sig .tc := ⟨.hbm, 115, rfl⟩
abbrev main_cst_6 : Ref sig .tc := ⟨.hbm, 116, rfl⟩
abbrev main_v56 : Ref sig .tc := ⟨.hbm, 117, rfl⟩
abbrev main_v57 : Ref sig .tc := ⟨.hbm, 118, rfl⟩
abbrev main_cst_7 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_call7_v0 : Ref sig .tc := ⟨.hbm, 131, rfl⟩
abbrev main_call7_v1 : Ref sig .tc := ⟨.hbm, 132, rfl⟩
abbrev main_call7_cst : Ref sig .tc := ⟨.hbm, 133, rfl⟩
abbrev main_call7_v2 : Ref sig .tc := ⟨.hbm, 134, rfl⟩
abbrev main_call7_v3 : Ref sig .tc := ⟨.hbm, 135, rfl⟩
abbrev main_call7_cst_0 : Ref sig .tc := ⟨.hbm, 136, rfl⟩
abbrev main_call7_v4 : Ref sig .tc := ⟨.hbm, 137, rfl⟩
abbrev main_call7_v5 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩

abbrev nD : Nat := 1
abbrev τ : Topo := Topo.v7x

variable {F : FTy → Type} [FloatOps F]

abbrev main_while0_count : Scf.Loop 32 := ⟨0#32, 64#32, 1#32⟩
-- ==== Proof.Common.lean ====
/- What the value proofs share: the claims and the lemmas on pipelines, points and tables. -/
module

public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
-- ==== Proof.ProjForward.lean ====
/- The value of the forward projection: the result array of `ProjFwdIdeal` is the reference's product. -/
module

public import proofs.«01_k».proof.Proof.Gen.ProjFwdIdeal.Value
public import proofs.«01_k».proof.Proof.Gen.ProjFwdRefIdeal.Run
public import proofs.«01_k».proof.Proof.Gen.ProjFwdRefIdeal.Read
public import proofs.«01_k».proof.Proof.Common

@[expose] public section

set_option maxRecDepth 16384

noncomputable section

namespace Cert.ProjForward

open Idealize.ShloMosaic Idealize.ShloMosaic.TcCoe Idealize.SL.Sem
open Cert.ProjFwdIdeal Cert.ProjFwdIdeal.Gen

/-- Where the three windows stand at each point of the grid. -/
theorem places : ∀ t : Fin cfg0.N, win0_0.index t = ![(grid0.coords t 0).val, (grid0.coords t 2).val] ∧ win0_1.index t = ![(grid0.coords t 1).val, (grid0.coords t 2).val]
    ∧ win0_2.index t = ![(grid0.coords t 0).val, (grid0.coords t 1).val] ∧ (grid0.coords t 2).val = 0 :=
  (by decide +kernel : ∀ t : Fin grid0.N, _)

/-- The result array after the run is the product the reference computes. -/
theorem result (m : (ℓ : Loc nD τ sig) → Buf (Elt Ideal) ℓ) (c : Dev nD) : (dats m 0 c).arrAt 2 (cfgs 0).N
    = Cert.ProjFwdRefIdeal.Read.val_main_v16 (F := Ideal) (m (c.tc.loc main_arg0)) (m (c.tc.loc main_arg1)) (m (c.tc.loc main_arg2)) := by
  refine (dats m 0 c).arrAt_eq_of_covers 2 _ (by decide +kernel) fun t _ y => ?_
  blk_simp
  rw [after0_2]
  frame_out
  pointwise [k0_pay1, Cert.ProjFwdRefIdeal.Read.val_main_v16, Cert.ProjFwdRefIdeal.Read.val_main_v15, Cert.ProjFwdRefIdeal.Read.val_main_v14]
  blk_point [iblk, V, places t]

theorem holds : Cert.algebraic_ProjFwdIdeal_ProjFwdRefIdeal := by
  pair_intro
  · run_from Cert.ProjFwdIdeal.Gen.run_main m g
  · run_from Cert.ProjFwdRefIdeal.Value.run m' g'
    exact (result m c).symm

end Cert.ProjForward

end
-- ==== Proof.ProjWeight.lean ====
/- The value of ProjWgrad: at the last point of a run the accumulator holds the whole contraction over the rows. -/
module

public import proofs.«01_k».proof.Proof.Gen.ProjWgradIdeal.Value
public import proofs.«01_k».proof.Proof.Gen.ProjWgradRefIdeal.Run
public import proofs.«01_k».proof.Proof.Common

@[expose] public section

set_option maxRecDepth 16384

noncomputable section

namespace Cert.ProjWeight

open Idealize.ShloMosaic Idealize.ShloMosaic.TcCoe Idealize.SL.Sem
open Cert.ProjWgradIdeal Cert.ProjWgradIdeal.Gen

variable (m : (ℓ : Loc nD τ sig) → Buf (Elt Ideal) ℓ) (c : Dev nD)

/-- Where the windows stand at each point of the grid. -/
theorem places : ∀ t : Fin cfg0.N, win0_0.index t = ![t.val % 4, t.val / 4] ∧ win0_1.index t = ![t.val % 4, 0] ∧ win0_2.index t = ![t.val / 4, 0] :=
  (by decide +kernel : ∀ t : Fin grid0.N, _)

/-- One point's share of the contraction. -/
theorem share (x0 : Vec Ideal S1024x1664 .bf16) (x1 : Vec Ideal S1024x1024 .bf16) (j : S1664x1024.Idx) :
    k0_pay1 x0 x1 j = ∑ k : Fin 1024, x0 (ix2 k (j 0)) * x1 (ix2 k (j 1)) := by
  pointwise [k0_pay1]

/-- The first point of a run sets the accumulator. -/
theorem first (t : Fin cfg0.N) (h : t.val % 4 = 0) (j) :
    (outsAt0 m c t.val t.isLt).2 j = (0 : EReal) + k0_pay1 (F := Ideal) (iblk m c 0 t) (iblk m c 1 t) j := by
  rw [outsAt0_A m c t h (by omega) (by omega), zero_add]
  frame_out
  pointwise [k0_pay2]

/-- Every later point adds its share. -/
theorem next (t : Fin cfg0.N) (h : ¬t.val % 4 = 0) (j) : (outsAt0 m c t.val t.isLt).2 j
    = (outsAt0 m c (t.val - 1) (Nat.lt_of_le_of_lt (Nat.sub_le _ _) t.isLt)).2 j + k0_pay1 (F := Ideal) (iblk m c 0 t) (iblk m c 1 t) j := by
  by_cases h3 : t.val % 4 = 3
  · rw [outsAt0_C m c t h (by omega) h3]
    frame_out
    simp only [read_unread_whole]
    pointwise [k0_pay3]
  · rw [outsAt0_B m c t h (by omega) h3]
    frame_out
    simp only [read_unread_whole]
    pointwise [k0_pay3]

/-- The last point of a run writes the accumulator out. -/
theorem last (t : Fin cfg0.N) (h : t.val % 4 = 4 - 1) (j) : (outsAt0 m c t.val t.isLt).1 j = (outsAt0 m c t.val t.isLt).2 j := by
  rw [outsAt0_C m c t (by omega) (by omega) (by omega)]
  frame_out
  pointwise [k0_pay4, k0_pay3]

/-- A row of `x` divided by its root mean square and scaled by `g`, at an index. -/
def normedRow (x : FVec Ideal S4096x1024 .f32) (g : FVec Ideal S1024 .f32) (i : S4096x1024.Idx) : EReal :=
  x i * Ideal.rsqrt (Ideal.div (∑ k : Fin 1024, x (ix2 (i 0) k) * x (ix2 (i 0) k)) (Ideal.ofBits .f32 0x44800000#32) + Ideal.ofBits .f32 0x358637BD#32) * g (ix1 (i 1))

/-- The normalized rows, which the host prepares for the call, read at an index. -/
theorem normed (i : S4096x1024.Idx) : V m c main_v13 i = normedRow (m (c.tc.loc main_arg1)) (m (c.tc.loc main_arg2)) i := by
  entry_read
  pointwise [normedRow]

/-- The kernel's result array is the reference's gradient. -/
theorem holds : Cert.algebraic_ProjWgradIdeal_ProjWgradRefIdeal := by
  pair_intro
  · run_from Cert.ProjWgradIdeal.Gen.run_main m g
  · run_from Cert.ProjWgradRefIdeal.Value.run m' g'
    symm
    refine (dats m 0 c).arrAt_eq_of_covers 2 _ (by decide +kernel) fun t hf y => ?_
    blk_simp
    rw [after0_2, last m c t ((flush0_2 t).mp hf),
      Pipeline.eq_sum_fin_of_reset_step_apply_of_flush (fun n h => (outsAt0 m c n h).2) 4 (fun _ => (0 : EReal))
        (fun t => k0_pay1 (F := Ideal) (iblk m c 0 t) (iblk m c 1 t)) (first m c) (next m c) t ((flush0_2 t).mp hf) _, zero_add]
    pointwise [share]
    refine Fin.sum_mul_add_congr fun s k hl => ?_
    blk_simp [iblk, places t, places ⟨_, Pipeline.run_point_lt_of_flush t ((flush0_2 t).mp hf) s⟩]
    rw [normed]
    pointwise [normedRow]
    blk_point [V, places t, places ⟨_, Pipeline.run_point_lt_of_flush t ((flush0_2 t).mp hf) s⟩]

end Cert.ProjWeight

end
-- ==== Proof.FfnWeight.lean ====
/- The value of FfnWgrad: at the last point of a run the accumulator holds the whole contraction over the rows. -/
module

public import proofs.«01_k».proof.Proof.Gen.FfnWgradIdeal.Value
public import proofs.«01_k».proof.Proof.Gen.FfnWgradRefIdeal.Run
public import proofs.«01_k».proof.Proof.Common

@[expose] public section

set_option maxRecDepth 16384

noncomputable section

namespace Cert.FfnWeight

open Idealize.ShloMosaic Idealize.ShloMosaic.TcCoe Idealize.SL.Sem
open Cert.FfnWgradIdeal Cert.FfnWgradIdeal.Gen

variable (m : (ℓ : Loc nD τ sig) → Buf (Elt Ideal) ℓ) (c : Dev nD)

/-- Where the windows stand at each point of the grid. -/
theorem places : ∀ t : Fin cfg0.N, win0_0.index t = ![t.val % 4, t.val / 4] ∧ win0_1.index t = ![t.val % 4, 0] ∧ win0_2.index t = ![t.val / 4, 0] :=
  (by decide +kernel : ∀ t : Fin grid0.N, _)

/-- One point's share of the contraction. -/
theorem share (x0 : Vec Ideal S1024x1408 .bf16) (x1 : Vec Ideal S1024x1024 .bf16) (j : S1408x1024.Idx) :
    k0_pay1 x0 x1 j = ∑ k : Fin 1024, x0 (ix2 k (j 0)) * x1 (ix2 k (j 1)) := by
  pointwise [k0_pay1]

/-- The first point of a run sets the accumulator. -/
theorem first (t : Fin cfg0.N) (h : t.val % 4 = 0) (j) :
    (outsAt0 m c t.val t.isLt).2 j = (0 : EReal) + k0_pay1 (F := Ideal) (iblk m c 0 t) (iblk m c 1 t) j := by
  rw [outsAt0_A m c t h (by omega) (by omega), zero_add]
  frame_out
  pointwise [k0_pay2]

/-- Every later point adds its share. -/
theorem next (t : Fin cfg0.N) (h : ¬t.val % 4 = 0) (j) : (outsAt0 m c t.val t.isLt).2 j
    = (outsAt0 m c (t.val - 1) (Nat.lt_of_le_of_lt (Nat.sub_le _ _) t.isLt)).2 j + k0_pay1 (F := Ideal) (iblk m c 0 t) (iblk m c 1 t) j := by
  by_cases h3 : t.val % 4 = 3
  · rw [outsAt0_C m c t h (by omega) h3]
    frame_out
    simp only [read_unread_whole]
    pointwise [k0_pay3]
  · rw [outsAt0_B m c t h (by omega) h3]
    frame_out
    simp only [read_unread_whole]
    pointwise [k0_pay3]

/-- The last point of a run writes the accumulator out. -/
theorem last (t : Fin cfg0.N) (h : t.val % 4 = 4 - 1) (j) : (outsAt0 m c t.val t.isLt).1 j = (outsAt0 m c t.val t.isLt).2 j := by
  rw [outsAt0_C m c t (by omega) (by omega) (by omega)]
  frame_out
  pointwise [k0_pay4, k0_pay3]

/-- A row of `x` divided by its root mean square and scaled by `g`, at an index. -/
def normedRow (x : FVec Ideal S4096x1024 .f32) (g : FVec Ideal S1024 .f32) (i : S4096x1024.Idx) : EReal :=
  x i * Ideal.rsqrt (Ideal.div (∑ k : Fin 1024, x (ix2 (i 0) k) * x (ix2 (i 0) k)) (Ideal.ofBits .f32 0x44800000#32) + Ideal.ofBits .f32 0x358637BD#32) * g (ix1 (i 1))

/-- The normalized rows, which the host prepares for the call, read at an index. -/
theorem normed (i : S4096x1024.Idx) : V m c main_v13 i = normedRow (m (c.tc.loc main_arg1)) (m (c.tc.loc main_arg2)) i := by
  entry_read
  pointwise [normedRow]

/-- The kernel's result array is the reference's gradient. -/
theorem holds : Cert.algebraic_FfnWgradIdeal_FfnWgradRefIdeal := by
  pair_intro
  · run_from Cert.FfnWgradIdeal.Gen.run_main m g
  · run_from Cert.FfnWgradRefIdeal.Value.run m' g'
    symm
    refine (dats m 0 c).arrAt_eq_of_covers 2 _ (by decide +kernel) fun t hf y => ?_
    blk_simp
    rw [after0_2, last m c t ((flush0_2 t).mp hf),
      Pipeline.eq_sum_fin_of_reset_step_apply_of_flush (fun n h => (outsAt0 m c n h).2) 4 (fun _ => (0 : EReal))
        (fun t => k0_pay1 (F := Ideal) (iblk m c 0 t) (iblk m c 1 t)) (first m c) (next m c) t ((flush0_2 t).mp hf) _, zero_add]
    pointwise [share]
    refine Fin.sum_mul_add_congr fun s k hl => ?_
    blk_simp [iblk, places t, places ⟨_, Pipeline.run_point_lt_of_flush t ((flush0_2 t).mp hf) s⟩]
    rw [normed]
    pointwise [normedRow]
    blk_point [V, places t, places ⟨_, Pipeline.run_point_lt_of_flush t ((flush0_2 t).mp hf) s⟩]

end Cert.FfnWeight

end
-- ==== Proof.FfnDownWeight.lean ====
/- The value of FfnDownWgrad: at the last point of a run the accumulator holds the whole contraction over the rows. -/
module

public import proofs.«01_k».proof.Proof.Gen.FfnDownWgradIdeal.Value
public import proofs.«01_k».proof.Proof.Gen.FfnDownWgradRefIdeal.Run
public import proofs.«01_k».proof.Proof.Common

@[expose] public section

set_option maxRecDepth 16384

noncomputable section

namespace Cert.FfnDownWeight

open Idealize.ShloMosaic Idealize.ShloMosaic.TcCoe Idealize.SL.Sem
open Cert.FfnDownWgradIdeal Cert.FfnDownWgradIdeal.Gen

variable (m : (ℓ : Loc nD τ sig) → Buf (Elt Ideal) ℓ) (c : Dev nD)

/-- Where the windows stand at each point of the grid. -/
theorem places : ∀ t : Fin cfg0.N, win0_0.index t = ![t.val % 4, t.val / 4] ∧ win0_1.index t = ![t.val % 4, 0] ∧ win0_2.index t = ![t.val / 4, 0] :=
  (by decide +kernel : ∀ t : Fin grid0.N, _)

/-- One point's share of the contraction. -/
theorem share (x0 : Vec Ideal S1024x1408 .bf16) (x1 : Vec Ideal S1024x1024 .bf16) (j : S1408x1024.Idx) :
    k0_pay1 x0 x1 j = ∑ k : Fin 1024, x0 (ix2 k (j 0)) * x1 (ix2 k (j 1)) := by
  pointwise [k0_pay1]

/-- The first point of a run sets the accumulator. -/
theorem first (t : Fin cfg0.N) (h : t.val % 4 = 0) (j) :
    (outsAt0 m c t.val t.isLt).2 j = (0 : EReal) + k0_pay1 (F := Ideal) (iblk m c 0 t) (iblk m c 1 t) j := by
  rw [outsAt0_A m c t h (by omega) (by omega), zero_add]
  frame_out
  pointwise [k0_pay2]

/-- Every later point adds its share. -/
theorem next (t : Fin cfg0.N) (h : ¬t.val % 4 = 0) (j) : (outsAt0 m c t.val t.isLt).2 j
    = (outsAt0 m c (t.val - 1) (Nat.lt_of_le_of_lt (Nat.sub_le _ _) t.isLt)).2 j + k0_pay1 (F := Ideal) (iblk m c 0 t) (iblk m c 1 t) j := by
  by_cases h3 : t.val % 4 = 3
  · rw [outsAt0_C m c t h (by omega) h3]
    frame_out
    simp only [read_unread_whole]
    pointwise [k0_pay3]
  · rw [outsAt0_B m c t h (by omega) h3]
    frame_out
    simp only [read_unread_whole]
    pointwise [k0_pay3]

/-- The last point of a run writes the accumulator out. -/
theorem last (t : Fin cfg0.N) (h : t.val % 4 = 4 - 1) (j) : (outsAt0 m c t.val t.isLt).1 j = (outsAt0 m c t.val t.isLt).2 j := by
  rw [outsAt0_C m c t (by omega) (by omega) (by omega)]
  frame_out
  pointwise [k0_pay4, k0_pay3]

/-- The kernel's result array is the reference's gradient. -/
theorem holds : Cert.algebraic_FfnDownWgradIdeal_FfnDownWgradRefIdeal := by
  pair_intro
  · run_from Cert.FfnDownWgradIdeal.Gen.run_main m g
  · run_from Cert.FfnDownWgradRefIdeal.Value.run m' g'
    symm
    refine (dats m 0 c).arrAt_eq_of_covers 2 _ (by decide +kernel) fun t hf y => ?_
    blk_simp
    rw [after0_2, last m c t ((flush0_2 t).mp hf),
      Pipeline.eq_sum_fin_of_reset_step_apply_of_flush (fun n h => (outsAt0 m c n h).2) 4 (fun _ => (0 : EReal))
        (fun t => k0_pay1 (F := Ideal) (iblk m c 0 t) (iblk m c 1 t)) (first m c) (next m c) t ((flush0_2 t).mp hf) _, zero_add]
    pointwise [share]
    refine Fin.sum_mul_add_congr fun s k hl => ?_
    rw [mul_comm]
    blk_point [iblk, V, places t, places ⟨_, Pipeline.run_point_lt_of_flush t ((flush0_2 t).mp hf) s⟩]

end Cert.FfnDownWeight

end
-- ==== Proof.MixerWeight.lean ====
/- The value of MixerWgrad: at the last point of a run the accumulator holds the whole contraction over the rows. -/
module

public import proofs.«01_k».proof.Proof.Gen.MixerWgradIdeal.Value
public import proofs.«01_k».proof.Proof.Gen.MixerWgradRefIdeal.Run
public import proofs.«01_k».proof.Proof.Common

@[expose] public section

set_option maxRecDepth 16384

noncomputable section

namespace Cert.MixerWeight

open Idealize.ShloMosaic Idealize.ShloMosaic.TcCoe Idealize.SL.Sem
open Cert.MixerWgradIdeal Cert.MixerWgradIdeal.Gen

variable (m : (ℓ : Loc nD τ sig) → Buf (Elt Ideal) ℓ) (c : Dev nD)

/-- Where the windows stand at each point of the grid. -/
theorem places : ∀ t : Fin cfg0.N, win0_0.index t = ![t.val % 2, t.val / 2] ∧ win0_1.index t = ![t.val % 2, 0] ∧ win0_2.index t = ![t.val / 2, 0] :=
  (by decide +kernel : ∀ t : Fin grid0.N, _)

/-- One point's share of the contraction. -/
theorem share (x0 : Vec Ideal S2048x1024 .bf16) (x1 : Vec Ideal S2048x1024 .bf16) (j : S1024x1024.Idx) :
    k0_pay1 x0 x1 j = ∑ k : Fin 2048, x0 (ix2 k (j 0)) * x1 (ix2 k (j 1)) := by
  pointwise [k0_pay1]

/-- The first point of a run sets the accumulator. -/
theorem first (t : Fin cfg0.N) (h : t.val % 2 = 0) (j) :
    (outsAt0 m c t.val t.isLt).2 j = (0 : EReal) + k0_pay1 (F := Ideal) (iblk m c 0 t) (iblk m c 1 t) j := by
  rw [outsAt0_A m c t h (by omega) (by omega), zero_add]
  frame_out
  pointwise [k0_pay2]

/-- Every later point adds its share. -/
theorem next (t : Fin cfg0.N) (h : ¬t.val % 2 = 0) (j) : (outsAt0 m c t.val t.isLt).2 j
    = (outsAt0 m c (t.val - 1) (Nat.lt_of_le_of_lt (Nat.sub_le _ _) t.isLt)).2 j + k0_pay1 (F := Ideal) (iblk m c 0 t) (iblk m c 1 t) j := by
  rw [outsAt0_B m c t h (by omega) (by omega)]
  frame_out
  simp only [read_unread_whole]
  pointwise [k0_pay3]

/-- The last point of a run writes the accumulator out. -/
theorem last (t : Fin cfg0.N) (h : t.val % 2 = 2 - 1) (j) : (outsAt0 m c t.val t.isLt).1 j = (outsAt0 m c t.val t.isLt).2 j := by
  rw [outsAt0_B m c t (by omega) (by omega) (by omega)]
  frame_out
  pointwise [k0_pay4, k0_pay3]

/-- The kernel's result array is the reference's gradient. -/
theorem holds : Cert.algebraic_MixerWgradIdeal_MixerWgradRefIdeal := by
  pair_intro
  · run_from Cert.MixerWgradIdeal.Gen.run_main m g
  · run_from Cert.MixerWgradRefIdeal.Value.run m' g'
    symm
    refine (dats m 0 c).arrAt_eq_of_covers 2 _ (by decide +kernel) fun t hf y => ?_
    blk_simp
    rw [after0_2, last m c t ((flush0_2 t).mp hf),
      Pipeline.eq_sum_fin_of_reset_step_apply_of_flush (fun n h => (outsAt0 m c n h).2) 2 (fun _ => (0 : EReal))
        (fun t => k0_pay1 (F := Ideal) (iblk m c 0 t) (iblk m c 1 t)) (first m c) (next m c) t ((flush0_2 t).mp hf) _, zero_add]
    pointwise [share]
    refine Fin.sum_mul_add_congr fun s k hl => ?_
    rw [mul_comm]
    blk_point [iblk, V, places t, places ⟨_, Pipeline.run_point_lt_of_flush t ((flush0_2 t).mp hf) s⟩]

end Cert.MixerWeight

end
-- ==== Proof.MixerBackward.lean ====
/- The value of the merge's backward call. -/
module

public import proofs.«01_k».proof.Proof.Gen.MixerBwdIdeal.Value
public import proofs.«01_k».proof.Proof.Gen.MixerBwdRefIdeal.Run
public import proofs.«01_k».proof.Proof.Gen.MixerBwdRefIdeal.Read
public import proofs.«01_k».proof.Proof.Gen.On_mixer_bwd_written
public import proofs.«01_k».proof.Proof.Common

@[expose] public section

set_option maxRecDepth 16384

noncomputable section

namespace Cert.MixerBackward

open Idealize.ShloMosaic Idealize.ShloMosaic.TcCoe Idealize.SL.Sem
open Cert.MixerBwdIdeal Cert.MixerBwdIdeal.Gen
open Cert.MixerBwdRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![t.val, 6] ∧ win0_2.index t = ![t.val, 7] ∧ win0_3.index t = ![t.val, 0]
    ∧ win0_4.index t = ![t.val, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 3] :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

variable (t : Fin cfg0.N)

theorem rd0 (a : Fin 512) (b : Fin 1024) : iblk m c 0 t (ix2 a b) = (m (c.tc.loc main_arg0) : FVec Ideal S4096x1024 .bf16) (ix2 (row t a) b) := by
  blk_simp [iblk]
  rw [V_main_arg0]
  blk_point [row, places t]

theorem rd1 (a : Fin 512) (b : Fin 1024) : X0_1 m c t (ix2 a b) = (m (c.tc.loc main_arg1) : FVec Ideal S4096x8320 .bf16) (ix2 (row t a) ⟨6144 + b.val, by omega⟩) := by
  unfold X0_1 Pipeline.Window.fill
  rw [dif_pos (moved0_1 t _)]
  blk_simp [iblk]
  rw [V_main_arg1]
  blk_point [row, places t]

theorem rd2 (a : Fin 512) (b : Fin 1024) : X0_2 m c t (ix2 a b) = (m (c.tc.loc main_arg1) : FVec Ideal S4096x8320 .bf16) (ix2 (row t a) ⟨7168 + b.val, by omega⟩) := by
  unfold X0_2 Pipeline.Window.fill
  rw [dif_pos (moved0_2 t _)]
  blk_simp [iblk]
  rw [V_main_arg1]
  blk_point [row, places t]

theorem rd5 (a : Fin 1024) (b : Fin 1024) : iblk m c 5 t (ix2 a b) = (m (c.tc.loc main_arg4) : FVec Ideal S1024x1024 .bf16) (ix2 a b) := by
  blk_simp [iblk]
  rw [V_main_arg4]
  blk_point [row, places t]

theorem rd6 (a : Fin 1024) (b : Fin 1024) : iblk m c 6 t (ix2 a b) = (m (c.tc.loc main_arg5) : FVec Ideal S1024x1024 .bf16) (ix2 a b) := by
  blk_simp [iblk]
  rw [V_main_arg5]
  blk_point [row, places t]

theorem rd7 (a : Fin 1024) (b : Fin 1024) : iblk m c 7 t (ix2 a b) = (m (c.tc.loc main_arg6) : FVec Ideal S1024x1024 .bf16) (ix2 a b) := by
  blk_simp [iblk]
  rw [V_main_arg6]
  blk_point [row, places t]

/-- A product of a row of `x` with a column of `w`. -/
def prod (x : FVec Ideal S4096x1024 .bf16) (w : FVec Ideal S1024x1024 .bf16) (i : Fin 4096) (k : Fin 1024) : EReal := ∑ l : Fin 1024, x (ix2 i l) * w (ix2 l k)

theorem rd3 (a : Fin 512) (b : Fin 1024) : iblk m c 3 t (ix2 a b) = prod (m (c.tc.loc main_arg2)) (m (c.tc.loc main_arg4)) (row t a) b := by
  blk_simp [iblk]
  entry_read
  pointwise [prod]
  blk_point [row, places t]

theorem rd4 (a : Fin 512) (b : Fin 1024) : iblk m c 4 t (ix2 a b) = prod (m (c.tc.loc main_arg3)) (m (c.tc.loc main_arg5)) (row t a) b := by
  blk_simp [iblk]
  entry_read
  pointwise [prod]
  blk_point [row, places t]

theorem emb8 (y : S512x1024.Idx) : ((cfg0.win 8).blk t).view.emb y = ix2 (row t (y 0)) (y 1) := by
  blk_ext [row, places t]

theorem emb9 (y : S512x1024.Idx) : ((cfg0.win 9).blk t).view.emb y = ix2 (row t (y 0)) (y 1) := by
  blk_ext [row, places t]

theorem emb10 (y : S512x1024.Idx) : ((cfg0.win 10).blk t).view.emb y = ix2 (row t (y 0)) (y 1) := by
  blk_ext [row, places t]

theorem emb11 (y : S512x1024.Idx) : ((cfg0.win 11).blk t).view.emb y = ix2 (row t (y 0)) (y 1) := by
  blk_ext [row, places t]

theorem spot_a (y : ((cfg0.win 12).xblock (cfg0.grid.coords t)).Idx) (x : S512x1024.Idx) (h0 : (y 0).val = (x 0).val) (h1 : (y 1).val = (x 1).val) :
    ((cfg0.win 12).blk t).view.emb y = ix2 (row t (x 0)) ⟨6144 + (x 1).val, by have h : (x 1).val < 1024 := (x 1).isLt; omega⟩ := by
  blk_ext [row, places t, h0, h1]

theorem spot_b (y : ((cfg0.win 12).xblock (cfg0.grid.coords t)).Idx) (x : S512x1024.Idx) (h0 : (y 0).val = (x 0).val) (h1 : (y 1).val = 1024 + (x 1).val) :
    ((cfg0.win 12).blk t).view.emb y = ix2 (row t (x 0)) ⟨7168 + (x 1).val, by have h : (x 1).val < 1024 := (x 1).isLt; omega⟩ := by
  blk_ext [row, places t, h0, h1]

/-- The merge's cotangent at a row and a column: the incoming one through the transposed output product. -/
def dm (x : FVec Ideal S4096x1024 .bf16) (w : FVec Ideal S1024x1024 .bf16) (i : Fin 4096) (k : Fin 1024) : EReal := ∑ l : Fin 1024, x (ix2 i l) * w (ix2 k l)

variable (x0 x2 x3 : FVec Ideal S4096x1024 .bf16) (x1 : FVec Ideal S4096x8320 .bf16) (x4 x5 x6 : FVec Ideal S1024x1024 .bf16) (i : Fin 4096) (k : Fin 1024)

/-- A gate of the merge at a row and a column. -/
def ga (x : FVec Ideal S4096x8320 .bf16) (i : Fin 4096) (k : Fin 1024) : EReal := Ideal.logistic (x (ix2 i ⟨6144 + k.val, by omega⟩))
def gb (x : FVec Ideal S4096x8320 .bf16) (i : Fin 4096) (k : Fin 1024) : EReal := Ideal.logistic (x (ix2 i ⟨7168 + k.val, by omega⟩))

theorem ref_ga : val_main_v15 (F := Ideal) x1 (ix2 i k) = ga x1 i k := by
  pointwise [val_main_v15, val_main_v14, val_main_cst_0, val_main_v13, val_main_v12, val_main_cst, val_main_v11, val_main_v10, val_main_v4, val_main_v3, ga, Ideal.logistic]

theorem ref_gb : val_main_v25 (F := Ideal) x1 (ix2 i k) = gb x1 i k := by
  pointwise [val_main_v25, val_main_v24, val_main_cst_3, val_main_v23, val_main_v22, val_main_cst_2, val_main_v21, val_main_v20, val_main_v5, val_main_v3, gb, Ideal.logistic]

theorem ref_dm : val_main_v33 (F := Ideal) x0 x6 (ix2 i k) = dm x0 x6 i k := by
  pointwise [val_main_v33, val_main_v32, val_main_v2, dm]

theorem ref_ya : val_main_v7 (F := Ideal) x2 x4 (ix2 i k) = prod x2 x4 i k := by
  pointwise [val_main_v7, val_main_v6, val_main_v0, prod]

theorem ref_yb : val_main_v9 (F := Ideal) x3 x5 (ix2 i k) = prod x3 x5 i k := by
  pointwise [val_main_v9, val_main_v8, val_main_v1, prod]

theorem ref45 : val_main_v45 (F := Ideal) x0 x1 x6 (ix2 i k) = ga x1 i k * dm x0 x6 i k := by
  pointwise [val_main_v45, val_main_v37, ref_ga, ref_dm]

theorem ref46 : val_main_v46 (F := Ideal) x0 x1 x6 (ix2 i k) = gb x1 i k * dm x0 x6 i k := by
  pointwise [val_main_v46, val_main_v34, ref_gb, ref_dm]

theorem ref47 : val_main_v47 (F := Ideal) x0 x1 x5 x6 (ix2 i k) = ∑ l : Fin 1024, gb x1 i l * dm x0 x6 i l * x5 (ix2 k l) := by
  pointwise [val_main_v47, val_main_v41, val_main_v34, val_main_v1, ref_gb, ref_dm]

theorem ref48 : val_main_v48 (F := Ideal) x0 x1 x4 x6 (ix2 i k) = ∑ l : Fin 1024, ga x1 i l * dm x0 x6 i l * x4 (ix2 k l) := by
  pointwise [val_main_v48, val_main_v40, val_main_v37, val_main_v0, ref_ga, ref_dm]

theorem ref39 : val_main_v39 (F := Ideal) x0 x1 x2 x4 x6 (ix2 i k) = dm x0 x6 i k * prod x2 x4 i k * (ga x1 i k * (1 - ga x1 i k)) := by
  pointwise [val_main_v39, val_main_v38, val_main_v18, val_main_v17, val_main_v16, val_main_cst_1, ref_ga, ref_dm, ref_ya]

theorem ref36 : val_main_v36 (F := Ideal) x0 x1 x3 x5 x6 (ix2 i k) = dm x0 x6 i k * prod x3 x5 i k * (gb x1 i k * (1 - gb x1 i k)) := by
  pointwise [val_main_v36, val_main_v35, val_main_v28, val_main_v27, val_main_v26, val_main_cst_4, ref_gb, ref_dm, ref_yb]

theorem ref49_a : val_main_v49 (F := Ideal) x0 x1 x2 x3 x4 x5 x6 (ix2 i ⟨6144 + k.val, by omega⟩) = dm x0 x6 i k * prod x2 x4 i k * (ga x1 i k * (1 - ga x1 i k)) := by
  rw [← ref39]
  pointwise [val_main_v49, val_main_v44]

theorem ref49_b : val_main_v49 (F := Ideal) x0 x1 x2 x3 x4 x5 x6 (ix2 i ⟨7168 + k.val, by omega⟩) = dm x0 x6 i k * prod x3 x5 i k * (gb x1 i k * (1 - gb x1 i k)) := by
  rw [← ref36]
  pointwise [val_main_v49, val_main_v44]
  rw [dif_neg (by omega), dif_neg (by omega), dif_pos (by omega)]
  exact congrArg _ ((ix2_inj _ _ _ _).mpr ⟨rfl, Fin.ext (by simp; omega)⟩)

theorem written (j : S4096x8320.Idx) (a b d : FVec Ideal S4096x1024 .bf16) (p q s : FVec Ideal S1024x1024 .bf16)
    (h : (Cert.On_mixer_bwd_written.fn (F := Ideal) a x1 b d p q s).2.2.2.2 j = 1#1) : 6144 ≤ (j 1).val ∧ (j 1).val < 8192 := by
  dsimp only [Cert.On_mixer_bwd_written.fn] at h
  pointwise at h
  have hj : (j 1).val < 8320 := (j 1).isLt
  rw [WordCmp.cmpi_sge_ofNat (by omega) (by omega), WordCmp.cmpi_slt_ofNat (by omega) (by omega), WordCmp.andi_ofBool, WordCmp.ofBool_eq_one_iff] at h
  simpa using h

theorem pay4 (a : Fin 512) (b : Fin 1024) : k0_pay4 (F := Ideal) (iblk m c 0 t) (iblk m c 7 t) (ix2 a b) = dm (m (c.tc.loc main_arg0)) (m (c.tc.loc main_arg6)) (row t a) b := by
  pointwise [k0_pay4, dm, rd0, rd7]

theorem pay9 (a : Fin 512) (b : Fin 1024) : k0_pay9 (F := Ideal) (iblk m c 0 t) (iblk m c 7 t) (X0_1 m c t) (iblk m c 3 t) (ix2 a b)
    = dm (m (c.tc.loc main_arg0)) (m (c.tc.loc main_arg6)) (row t a) b * prod (m (c.tc.loc main_arg2)) (m (c.tc.loc main_arg4)) (row t a) b
      * (ga (m (c.tc.loc main_arg1)) (row t a) b * (1 - ga (m (c.tc.loc main_arg1)) (row t a) b)) := by
  pointwise [k0_pay9, pay4, k0_pay5, rd1, rd3, ga]
  rw [mul_assoc]

theorem pay10 (a : Fin 512) (b : Fin 1024) : k0_pay1 (k0_pay10 (F := Ideal) (iblk m c 0 t) (iblk m c 7 t) (X0_2 m c t) (iblk m c 4 t)) (ix2 a b)
    = dm (m (c.tc.loc main_arg0)) (m (c.tc.loc main_arg6)) (row t a) b * prod (m (c.tc.loc main_arg3)) (m (c.tc.loc main_arg5)) (row t a) b
      * (gb (m (c.tc.loc main_arg1)) (row t a) b * (1 - gb (m (c.tc.loc main_arg1)) (row t a) b)) := by
  pointwise [k0_pay1, k0_pay10, pay4, k0_pay6, rd2, rd4, gb]
  rw [mul_assoc]

theorem pay7 (a : Fin 512) (b : Fin 1024) : k0_pay7 (F := Ideal) (iblk m c 0 t) (iblk m c 7 t) (X0_1 m c t) (ix2 a b) = ga (m (c.tc.loc main_arg1)) (row t a) b * dm (m (c.tc.loc main_arg0)) (m (c.tc.loc main_arg6)) (row t a) b := by
  pointwise [k0_pay7, pay4, k0_pay5, rd1, ga]
  rw [mul_comm]

theorem pay8 (a : Fin 512) (b : Fin 1024) : k0_pay8 (F := Ideal) (iblk m c 0 t) (iblk m c 7 t) (X0_2 m c t) (ix2 a b) = gb (m (c.tc.loc main_arg1)) (row t a) b * dm (m (c.tc.loc main_arg0)) (m (c.tc.loc main_arg6)) (row t a) b := by
  pointwise [k0_pay8, pay4, k0_pay6, rd2, gb]
  rw [mul_comm]

theorem pay2 (a : Fin 512) (b : Fin 1024) : k0_pay2 (k0_pay8 (F := Ideal) (iblk m c 0 t) (iblk m c 7 t) (X0_2 m c t)) (iblk m c 6 t) (ix2 a b)
    = ∑ l : Fin 1024, gb (m (c.tc.loc main_arg1)) (row t a) l * dm (m (c.tc.loc main_arg0)) (m (c.tc.loc main_arg6)) (row t a) l * ((m (c.tc.loc main_arg5)) : FVec Ideal S1024x1024 .bf16) (ix2 b l) := by
  pointwise [k0_pay2, pay8, rd6]

theorem pay3 (a : Fin 512) (b : Fin 1024) : k0_pay3 (k0_pay7 (F := Ideal) (iblk m c 0 t) (iblk m c 7 t) (X0_1 m c t)) (iblk m c 5 t) (ix2 a b)
    = ∑ l : Fin 1024, ga (m (c.tc.loc main_arg1)) (row t a) l * dm (m (c.tc.loc main_arg0)) (m (c.tc.loc main_arg6)) (row t a) l * ((m (c.tc.loc main_arg4)) : FVec Ideal S1024x1024 .bf16) (ix2 b l) := by
  pointwise [k0_pay3, pay7, rd5]

theorem result8 : (dats m 0 c).arrAt 8 (cfgs 0).N = val_main_v45 (F := Ideal) (m (c.tc.loc main_arg0)) (m (c.tc.loc main_arg1)) (m (c.tc.loc main_arg6)) := by
  refine (dats m 0 c).arrAt_eq_of_covers 8 _ (by decide +kernel) fun t _ y => ?_
  refine (?_ : _ = _).trans ((congrArg _ (emb8 t y)).trans (ref45 ..)).symm
  blk_simp
  rw [after0_8]
  dsimp only [outsAt0]
  frame_out
  exact (congrArg _ (eq_ix2 (n0 := 512) (n1 := 1024) y)).trans (pay7 m c t (y 0) (y 1))

theorem result9 : (dats m 0 c).arrAt 9 (cfgs 0).N = val_main_v46 (F := Ideal) (m (c.tc.loc main_arg0)) (m (c.tc.loc main_arg1)) (m (c.tc.loc main_arg6)) := by
  refine (dats m 0 c).arrAt_eq_of_covers 9 _ (by decide +kernel) fun t _ y => ?_
  refine (?_ : _ = _).trans ((congrArg _ (emb9 t y)).trans (ref46 ..)).symm
  blk_simp
  rw [after0_9]
  dsimp only [outsAt0]
  frame_out
  exact (congrArg _ (eq_ix2 (n0 := 512) (n1 := 1024) y)).trans (pay8 m c t (y 0) (y 1))

theorem result10 : (dats m 0 c).arrAt 10 (cfgs 0).N = val_main_v47 (F := Ideal) (m (c.tc.loc main_arg0)) (m (c.tc.loc main_arg1)) (m (c.tc.loc main_arg5)) (m (c.tc.loc main_arg6)) := by
  refine (dats m 0 c).arrAt_eq_of_covers 10 _ (by decide +kernel) fun t _ y => ?_
  refine (?_ : _ = _).trans ((congrArg _ (emb10 t y)).trans (ref47 ..)).symm
  blk_simp
  rw [after0_10]
  dsimp only [outsAt0]
  frame_out
  exact (congrArg _ (eq_ix2 (n0 := 512) (n1 := 1024) y)).trans (pay2 m c t (y 0) (y 1))

theorem result11 : (dats m 0 c).arrAt 11 (cfgs 0).N = val_main_v48 (F := Ideal) (m (c.tc.loc main_arg0)) (m (c.tc.loc main_arg1)) (m (c.tc.loc main_arg4)) (m (c.tc.loc main_arg6)) := by
  refine (dats m 0 c).arrAt_eq_of_covers 11 _ (by decide +kernel) fun t _ y => ?_
  refine (?_ : _ = _).trans ((congrArg _ (emb11 t y)).trans (ref48 ..)).symm
  blk_simp
  rw [after0_11]
  dsimp only [outsAt0]
  frame_out
  exact (congrArg _ (eq_ix2 (n0 := 512) (n1 := 1024) y)).trans (pay3 m c t (y 0) (y 1))

theorem result12 : (dats m 0 c).arrAt 12 (cfgs 0).N = fun j => if 6144 ≤ (j 1).val ∧ (j 1).val < 8192 then
     val_main_v49 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) j
     else V m c main_v8_4 j := by
  refine (dats m 0 c).arrAt_eq_of_coversWhere 12 _ (fun β => β 1 = 3) (by decide +kernel) (fun t hf y => ?_) (fun j => by blk_simp [Pipeline.Window.cell_apply]; omega)
  blk_simp
  rw [after0_12]
  dsimp only [outsAt0]
  frame_out
  canon_tiles x h
  · refine Eq.trans ?_ ((congrArg _ (spot_b t y x h0 h1)).trans (ref49_b ..)).symm
    exact (congrArg _ (eq_ix2 x)).trans (pay10 m c t (x 0) (x 1))
  · refine Eq.trans ?_ ((congrArg _ (spot_a t y x h0 h1)).trans (ref49_a ..)).symm
    exact (congrArg _ (eq_ix2 x)).trans (pay9 m c t (x 0) (x 1))

theorem holds : Cert.algebraic_MixerBwdIdeal_MixerBwdRefIdeal_on_mixer_bwd_written := by
  intro m g m' g' _ hagree
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, ?_, ?_⟩
  · refine θ_run_mono (Cert.MixerBwdIdeal.Value.run_blocks m g) fun r h c => ?_
    obtain ⟨h8, h9, h10, h11, h12, hk⟩ := h c
    exact ⟨fun i _ => congrFun h8 i, fun i _ => congrFun h9 i, fun i _ => congrFun h10 i, fun i _ => congrFun h11 i, fun i _ => congrFun h12 i, hk⟩
  · refine θ_run_mono (Cert.MixerBwdRefIdeal.Value.run m' g') fun r h c => ?_
    obtain ⟨h8, h9, h10, h11, h12, hk⟩ := h c
    obtain ⟨a0, a1, a2, a3, a4, a5, a6⟩ := hagree c
    rw [a0, a1, a6] at h8 h9
    rw [a0, a1, a5, a6] at h10
    rw [a0, a1, a4, a6] at h11
    rw [a0, a1, a2, a3, a4, a5, a6] at h12
    exact ⟨fun i _ => congrFun (h8.trans (result8 m c).symm) i, fun i _ => congrFun (h9.trans (result9 m c).symm) i, fun i _ => congrFun (h10.trans (result10 m c).symm) i, fun i _ => congrFun (h11.trans (result11 m c).symm) i,
      fun i hi => ((congrFun h12 i).trans (if_pos (written (m (c.tc.loc main_arg1)) i (m (c.tc.loc main_arg0)) (m (c.tc.loc main_arg2)) (m (c.tc.loc main_arg3)) (m (c.tc.loc main_arg4)) (m (c.tc.loc main_arg5)) (m (c.tc.loc main_arg6)) hi)).symm).trans (congrFun (result12 m c) i).symm, hk⟩

end Cert.MixerBackward

end
-- ==== Proof.NormBack.lean ====
/- The gradient of the root-mean-square norm over one row: the folded form and the chain rule's form agree at every extended real. -/
module

public import Idealize.ShloMosaic.Lib.Pointwise
public import Idealize.ShloMosaic.Lib.IdealHost

@[expose] public section

noncomputable section

namespace Cert.NormBack

open Idealize.ShloMosaic

/-- The width of a row. -/
theorem width : Ideal.ofBits .f32 0x44800000#32 = ((1024 : ℝ) : EReal) := by
  simp [Ideal.ofBits, Ideal.ieee]
  rw [← EReal.coe_mul]
  norm_num

/-- The norm's epsilon is a positive real. -/
theorem small : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- The chain rule's constant. -/
theorem half : Ideal.ofBits .f32 0xBF000000#32 = ((-(1 / 2) : ℝ) : EReal) := by
  simp [Ideal.ofBits, Ideal.ieee]
  rw [← EReal.coe_mul]
  norm_num

/-- A nonnegative real passes through a finite sum. -/
theorem sum_mul_pos {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top _), ih]

variable (x d : Fin 1024 → EReal)

/-- The mean of the squares of a row, with the epsilon. -/
def mean : EReal := Ideal.div (∑ l, x l * x l) (Ideal.ofBits .f32 0x44800000#32) + Ideal.ofBits .f32 0x358637BD#32

/-- The norm's scale of a row. -/
def scale : EReal := Ideal.rsqrt (mean x)

/-- The cotangent that reaches a row through its scale, by the chain rule. -/
def back : EReal :=
  Ideal.div ((∑ l, x l * d l) * (Ideal.ofBits .f32 0xBF000000#32 * Ideal.div (scale x) (mean x))) (Ideal.ofBits .f32 0x44800000#32)

theorem square (a : EReal) : 0 ≤ a * a := by
  induction a with
  | bot => simp
  | coe r => rw [← EReal.coe_mul]; exact_mod_cast mul_self_nonneg r
  | top => simp

/-- The scale is zero with an infinite mean, or both are positive reals. -/
theorem cases : (mean x = ⊤ ∧ scale x = 0) ∨ ∃ m r : ℝ, 0 < m ∧ 0 < r ∧ r * r * m = 1 ∧ mean x = (m : EReal) ∧ scale x = (r : EReal) := by
  obtain ⟨e, he, hs⟩ := small
  have h0 : 0 ≤ ∑ l, x l * x l := Finset.sum_nonneg fun l _ => square _
  unfold scale mean
  rw [width, hs, Ideal.div_coe (by norm_num)]
  generalize (∑ l, x l * x l) = p at h0
  induction p with
  | bot => simp at h0
  | top =>
    left
    rw [EReal.top_mul_coe_of_pos (by norm_num), EReal.top_add_coe]
    exact ⟨rfl, rfl⟩
  | coe a =>
    right
    have ha : 0 ≤ a := by exact_mod_cast h0
    have hm : 0 < a * (1 / 1024) + e := by positivity
    refine ⟨a * (1 / 1024) + e, (Real.sqrt (a * (1 / 1024) + e))⁻¹, hm, by positivity, ?_, by push_cast; rfl, ?_⟩
    · rw [← mul_inv, Real.mul_self_sqrt hm.le, inv_mul_cancel₀ hm.ne']
    · rw [← EReal.coe_mul, ← EReal.coe_add, Ideal.rsqrt_coe, if_neg (not_lt.mpr hm.le), if_neg hm.ne']

/-- A product with a real, twice. -/
theorem twice (z : EReal) (t : ℝ) : z * (t : EReal) + z * (t : EReal) = z * ((2 * t : ℝ) : EReal) := by
  have h : (1 + 1 : EReal) * (z * (t : EReal)) = z * (t : EReal) + z * (t : EReal) := by
    rw [EReal.right_distrib_of_nonneg (by simp) (by simp), one_mul]
  rw [← h, EReal.coe_mul, mul_left_comm, one_add_one_eq_two]
  rfl

/-- The two forms of the norm's gradient at one entry of a row. -/
theorem grad (k : Fin 1024) :
    scale x * (d k - x k * scale x * Ideal.div (∑ l, d l * (x l * scale x)) (Ideal.ofBits .f32 0x44800000#32))
      = d k * scale x + x k * back x d + back x d * x k := by
  unfold back
  rw [width, half, Ideal.div_coe (by norm_num), Ideal.div_coe (by norm_num)]
  rcases cases x with ⟨hm, hs⟩ | ⟨m, r, hm, hr, hrm, em, er⟩
  · rw [hm, hs]
    simp [Ideal.div]
  · rw [em, er, Ideal.div_coe hm.ne']
    have hsum : ∑ l, d l * (x l * (r : EReal)) = (∑ l, x l * d l) * (r : EReal) := by
      rw [sum_mul_pos _ _ hr.le]
      exact Finset.sum_congr rfl fun l _ => by rw [← mul_assoc, mul_comm (d l)]
    rw [hsum]
    generalize (∑ l, x l * d l) = s
    rw [sub_eq_add_neg, EReal.left_distrib_of_nonneg_of_ne_top (by exact_mod_cast hr.le) (EReal.coe_ne_top _), add_assoc, mul_comm (r : EReal) (d k)]
    congr 1
    have e1 : s * (((-(1 / 2) : ℝ) : EReal) * ((r : EReal) * ((1 / m : ℝ) : EReal))) * ((1 / 1024 : ℝ) : EReal)
        = s * ((-(1 / 2) * (r * (1 / m)) * (1 / 1024) : ℝ) : EReal) := by
      push_cast; rw [mul_assoc]
    rw [e1, mul_comm _ (x k), ← mul_assoc (x k), twice, mul_neg, mul_assoc (x k), mul_assoc s]
    have e2 : (r : EReal) * (x k * ((r : EReal) * (s * ((r : EReal) * ((1 / 1024 : ℝ) : EReal))))) = x k * s * ((r * r * r * (1 / 1024) : ℝ) : EReal) := by
      push_cast; ac_rfl
    rw [mul_assoc, e2, ← mul_neg, ← EReal.coe_neg]
    have e3 : (-(r * r * r * (1 / 1024)) : ℝ) = 2 * (-(1 / 2) * (r * (1 / m)) * (1 / 1024)) := by
      have : 1 / m = r * r := by field_simp; linarith
      rw [this]; ring
    rw [e3, mul_assoc]

end Cert.NormBack

end
-- ==== Proof.FfnInput.lean ====
/- The value of FfnInBwd: two products added, then the norm's gradient row by row; the gain's gradient gathers over the row blocks. -/
module

public import proofs.«01_k».proof.Proof.Gen.FfnInBwdIdeal.Value
public import proofs.«01_k».proof.Proof.Gen.FfnInBwdRefIdeal.Run
public import proofs.«01_k».proof.Proof.Gen.FfnInBwdRefIdeal.Read
public import proofs.«01_k».proof.Proof.Common
public import proofs.«01_k».proof.Proof.NormBack

@[expose] public section

set_option maxRecDepth 16384

noncomputable section

namespace Cert.FfnInput

open Idealize.ShloMosaic Idealize.ShloMosaic.TcCoe Idealize.SL.Sem
open Cert.FfnInBwdIdeal Cert.FfnInBwdIdeal.Gen
open Cert.FfnInBwdRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

/-- The row of the array at a row of a point's block. -/
def row (t : Fin cfg0.N) (a : Fin 256) : Fin 4096 := ⟨t.val * 256 + a.val, by have h := lt_of_lt_of_eq t.isLt N_0; omega⟩

/-- A row of an array. -/
def line (x : FVec Ideal S4096x1024 .f32) (i : Fin 4096) : Fin 1024 → EReal := fun l => x (ix2 i l)

/-- The cotangent of the normed row: both products, added. -/
def dh (a b : FVec Ideal S4096x2816 .bf16) (u v : FVec Ideal S2816x1024 .bf16) (i : Fin 4096) (k : Fin 1024) : EReal :=
  (∑ l : Fin 2816, a (ix2 i l) * u (ix2 l k)) + ∑ l : Fin 2816, b (ix2 i l) * v (ix2 l k)

/-- The same past the gain. -/
def dn (a b : FVec Ideal S4096x2816 .bf16) (u v : FVec Ideal S2816x1024 .bf16) (g : FVec Ideal S1024 .f32) (i : Fin 4096) : Fin 1024 → EReal :=
  fun k => dh a b u v i k * g (ix1 k)

section Reference

variable (x0 x1 : FVec Ideal S4096x2816 .bf16) (x2 x3 : FVec Ideal S2816x1024 .bf16) (x4 x6 : FVec Ideal S4096x1024 .f32) (x5 : FVec Ideal S1024 .f32) (i : Fin 4096) (k : Fin 1024) (o : Fin 1)

theorem ref_mean : val_main_v8 (F := Ideal) x4 (ix2 i o) = NormBack.mean (line x4 i) := by
  pointwise [val_main_v8, val_main_v7, val_main_cst_1, val_main_v6, val_main_v5, val_main_cst_0, val_main_v4, val_main_v3, val_main_cst, val_main_v2, NormBack.mean, line]

theorem ref_scale : val_main_v9 (F := Ideal) x4 (ix2 i o) = NormBack.scale (line x4 i) := by
  pointwise [val_main_v9, ref_mean, NormBack.scale]

theorem ref_dh : val_main_v26 (F := Ideal) x0 x1 x2 x3 (ix2 i k) = dh x0 x1 x2 x3 i k := by
  pointwise [val_main_v26, val_main_v25, val_main_v24, val_main_v23, val_main_v22, val_main_v20, val_main_v18, val_main_v1, val_main_v0, dh]
  rw [add_comm]

theorem ref_dn : val_main_v31 (F := Ideal) x0 x1 x2 x3 x5 (ix2 i k) = dn x0 x1 x2 x3 x5 i k := by
  pointwise [val_main_v31, ref_dh, val_main_v30, val_main_v15, dn]

theorem ref_back : val_main_v41 (F := Ideal) x0 x1 x2 x3 x4 x5 (ix1 i) = NormBack.back (line x4 i) (dn x0 x1 x2 x3 x5 i) := by
  pointwise [val_main_v41, val_main_cst_7, val_main_v40, val_main_v39, val_main_cst_6, val_main_v38, val_main_v35, val_main_v34, val_main_cst_5, val_main_v33, ref_dn, val_main_v12, val_main_v11, val_main_cst_2, val_main_v10, ref_scale, ref_mean, NormBack.back, line]
  simp only [Finset.univ_unique, Finset.sum_singleton]

theorem ref_dx : val_main_v47 (F := Ideal) x0 x1 x2 x3 x4 x5 x6 (ix2 i k)
    = x6 (ix2 i k) + (dn x0 x1 x2 x3 x5 i k * NormBack.scale (line x4 i) + line x4 i k * NormBack.back (line x4 i) (dn x0 x1 x2 x3 x5 i) + NormBack.back (line x4 i) (dn x0 x1 x2 x3 x5 i) * line x4 i k) := by
  pointwise [val_main_v47, val_main_v46, val_main_v45, val_main_v44, val_main_v43, val_main_v42, ref_back, val_main_v37, ref_dn, val_main_v36, ref_scale, line]

theorem ref_dxb : val_main_v49 (F := Ideal) x0 x1 x2 x3 x4 x5 x6 (ix2 i k) = val_main_v47 (F := Ideal) x0 x1 x2 x3 x4 x5 x6 (ix2 i k) := by
  pointwise [val_main_v49, val_main_v48, val_main_v47]

theorem ref_dg : val_main_v50 (F := Ideal) x0 x1 x2 x3 x4 (ix2 o k) = ∑ i : Fin 4096, dh x0 x1 x2 x3 i k * (line x4 i k * NormBack.scale (line x4 i)) := by
  pointwise [val_main_v50, val_main_v32, val_main_cst_4, val_main_v29, val_main_v28, val_main_cst_3, val_main_v27, ref_dh, val_main_v14, val_main_v13, ref_scale, line]
  simp only [Finset.univ_unique, Finset.sum_singleton, mul_comm]

end Reference

variable (t : Fin cfg0.N)

theorem rd0 (a : Fin 256) (b : Fin 2816) : iblk m c 0 t (ix2 a b) = ((m (c.tc.loc main_arg0)) : FVec Ideal S4096x2816 .bf16) (ix2 (row t a) b) := by
  blk_simp [iblk]
  rw [V_main_arg0]
  blk_point [row, places t]

theorem rd1 (a : Fin 2816) (b : Fin 1024) : iblk m c 1 t (ix2 a b) = ((m (c.tc.loc main_arg2)) : FVec Ideal S2816x1024 .bf16) (ix2 a b) := by
  blk_simp [iblk]
  rw [V_main_arg2]
  blk_point [row, places t]

theorem rd2 (a : Fin 256) (b : Fin 2816) : iblk m c 2 t (ix2 a b) = ((m (c.tc.loc main_arg1)) : FVec Ideal S4096x2816 .bf16) (ix2 (row t a) b) := by
  blk_simp [iblk]
  rw [V_main_arg1]
  blk_point [row, places t]

theorem rd3 (a : Fin 2816) (b : Fin 1024) : iblk m c 3 t (ix2 a b) = ((m (c.tc.loc main_arg3)) : FVec Ideal S2816x1024 .bf16) (ix2 a b) := by
  blk_simp [iblk]
  rw [V_main_arg3]
  blk_point [row, places t]

theorem rd4 (a : Fin 256) (b : Fin 1024) : iblk m c 4 t (ix2 a b) = ((m (c.tc.loc main_arg4)) : FVec Ideal S4096x1024 .f32) (ix2 (row t a) b) := by
  blk_simp [iblk]
  rw [V_main_arg4]
  blk_point [row, places t]

theorem rd5 (o : Fin 1) (b : Fin 1024) : iblk m c 5 t (ix2 o b) = ((m (c.tc.loc main_arg5)) : FVec Ideal S1024 .f32) (ix1 b) := by
  blk_simp [iblk]
  entry_read
  pointwise
  blk_point [row, places t]

theorem rd6 (a : Fin 256) (b : Fin 1024) : iblk m c 6 t (ix2 a b) = ((m (c.tc.loc main_arg6)) : FVec Ideal S4096x1024 .f32) (ix2 (row t a) b) := by
  blk_simp [iblk]
  rw [V_main_arg6]
  blk_point [row, places t]

/-- The cotangent and the row at this program's arguments. -/
abbrev DH (i : Fin 4096) (k : Fin 1024) : EReal := dh (m (c.tc.loc main_arg0)) (m (c.tc.loc main_arg1)) (m (c.tc.loc main_arg2)) (m (c.tc.loc main_arg3)) i k
abbrev DN (i : Fin 4096) : Fin 1024 → EReal := dn (m (c.tc.loc main_arg0)) (m (c.tc.loc main_arg1)) (m (c.tc.loc main_arg2)) (m (c.tc.loc main_arg3)) (m (c.tc.loc main_arg5)) i
abbrev X (i : Fin 4096) : Fin 1024 → EReal := line (m (c.tc.loc main_arg4)) i

theorem pay4 (a : Fin 256) (b : Fin 1024) : k0_pay4 (F := Ideal) (iblk m c 0 t) (iblk m c 1 t) (iblk m c 2 t) (iblk m c 3 t) (ix2 a b) = DH m c (row t a) b := by
  pointwise [k0_pay4, rd0, rd1, rd2, rd3, DH, dh]

theorem pay5 (a : Fin 256) (o : Fin 1) : k0_pay5 (F := Ideal) (iblk m c 4 t) (ix2 a o) = NormBack.scale (X m c (row t a)) := by
  pointwise [k0_pay5, rd4, NormBack.scale, NormBack.mean, line]

theorem pay6 (a : Fin 256) (b : Fin 1024) : k0_pay6 (F := Ideal) (iblk m c 4 t) (ix2 a b) = X m c (row t a) b * NormBack.scale (X m c (row t a)) := by
  pointwise [k0_pay6, pay5, rd4, line]

theorem pay7 (a : Fin 256) (b : Fin 1024) :
    k0_pay7 (F := Ideal) (iblk m c 0 t) (iblk m c 1 t) (iblk m c 2 t) (iblk m c 3 t) (iblk m c 4 t) (iblk m c 5 t) (iblk m c 6 t) (ix2 a b)
      = val_main_v47 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix2 (row t a) b) := by
  rw [ref_dx, ← NormBack.grad]
  pointwise [k0_pay7, pay4, pay5, pay6, rd5, rd6, dn]

theorem emb7 (y : S256x1024.Idx) : ((cfg0.win 7).blk t).view.emb y = ix2 (row t (y 0)) (y 1) := by
  blk_ext [row, places t]

theorem emb8 (y : S256x1024.Idx) : ((cfg0.win 8).blk t).view.emb y = ix2 (row t (y 0)) (y 1) := by
  blk_ext [row, places t]

theorem emb9 (y : S1x1024.Idx) : ((cfg0.win 9).blk t).view.emb y = ix2 (y 0) (y 1) := by
  blk_ext [row, places t]

theorem out7 : (outsAt0 m c t.val t.isLt).1 = k0_pay7 (F := Ideal) (iblk m c 0 t) (iblk m c 1 t) (iblk m c 2 t) (iblk m c 3 t) (iblk m c 4 t) (iblk m c 5 t) (iblk m c 6 t) := by
  by_cases h : t.val % 16 = 0
  · rw [outsAt0_A m c t h (by have := lt_of_lt_of_eq t.isLt N_0; omega)]
    frame_out
  · rw [outsAt0_B m c t h (by omega)]
    frame_out

theorem out8 : (outsAt0 m c t.val t.isLt).2.1 = k0_pay1 (k0_pay7 (F := Ideal) (iblk m c 0 t) (iblk m c 1 t) (iblk m c 2 t) (iblk m c 3 t) (iblk m c 4 t) (iblk m c 5 t) (iblk m c 6 t)) := by
  by_cases h : t.val % 16 = 0
  · rw [outsAt0_A m c t h (by have := lt_of_lt_of_eq t.isLt N_0; omega)]
    frame_out
  · rw [outsAt0_B m c t h (by omega)]
    frame_out

/-- One row block's share of the gain's gradient. -/
def part : FVec Ideal S1x1024 .f32 := k0_pay2 (k0_pay4 (F := Ideal) (iblk m c 0 t) (iblk m c 1 t) (iblk m c 2 t) (iblk m c 3 t)) (k0_pay6 (iblk m c 4 t))

theorem share (j : S1x1024.Idx) : part m c t j = ∑ a : Fin 256, DH m c (row t a) (j 1) * (X m c (row t a) (j 1) * NormBack.scale (X m c (row t a))) := by
  pointwise [part, k0_pay2, pay4, pay6]

theorem first (h : t.val % 16 = 0) (j) : (outsAt0 m c t.val t.isLt).2.2 j = (0 : EReal) + part m c t j := by
  rw [outsAt0_A m c t h (by have := lt_of_lt_of_eq t.isLt N_0; omega), zero_add]
  frame_out
  rfl

theorem next (h : ¬t.val % 16 = 0) (j) : (outsAt0 m c t.val t.isLt).2.2 j
    = (outsAt0 m c (t.val - 1) (Nat.lt_of_le_of_lt (Nat.sub_le _ _) t.isLt)).2.2 j + part m c t j := by
  rw [outsAt0_B m c t h (by omega)]
  frame_out
  pointwise [k0_pay3]
  rfl

theorem result7 : (dats m 0 c).arrAt 7 (cfgs 0).N = val_main_v47 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 7 _ (by decide +kernel) fun t _ y => ?_
  refine (?_ : _ = _).trans (congrArg _ (emb7 t y)).symm
  blk_simp
  rw [after0_7, out7]
  exact (congrArg _ (eq_ix2 (n0 := 256) (n1 := 1024) y)).trans (pay7 m c t (y 0) (y 1))

theorem result8 : (dats m 0 c).arrAt 8 (cfgs 0).N = val_main_v49 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  refine (?_ : _ = _).trans ((congrArg _ (emb8 t y)).trans (ref_dxb ..)).symm
  blk_simp
  rw [after0_8, out8]
  exact (congrArg _ (eq_ix2 (n0 := 256) (n1 := 1024) y)).trans (pay7 m c t (y 0) (y 1))

theorem result9 : (dats m 0 c).arrAt 9 (cfgs 0).N = val_main_v50 (F := Ideal) (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t hf y => ?_
  refine (?_ : _ = _).trans ((congrArg _ (emb9 t y)).trans (ref_dg ..)).symm
  blk_simp
  rw [after0_9, Pipeline.eq_sum_fin_of_reset_step_apply_of_flush (fun n h => (outsAt0 m c n h).2.2) 16 (fun _ => (0 : EReal))
      (fun t => part m c t) (first m c) (next m c) t ((flush0_9 t).mp hf) _, zero_add]
  pointwise [share]
  refine Fin.sum_mul_add_congr fun s a hl => ?_
  have ht := (flush0_9 t).mp hf
  have hN := lt_of_lt_of_eq t.isLt N_0
  rw [show row ⟨16 * (t.val / 16) + s.val, by have := s.isLt; rw [show cfg0.N = 16 from N_0]; omega⟩ a = ⟨s.val * 256 + a.val, hl⟩ from Fin.ext (by simp only [row]; omega)]

/-- The kernel's results are the reference's gradients. -/
theorem holds : Cert.algebraic_FfnInBwdIdeal_FfnInBwdRefIdeal := by
  intro m g m' g' _ hagree
  refine ⟨fun c => (dats m 0 c).arrAt 7 cfg0.N, fun c => (dats m 0 c).arrAt 8 cfg0.N, fun c => (dats m 0 c).arrAt 9 cfg0.N, θ_run_mono (Cert.FfnInBwdIdeal.Value.run_blocks m g) fun r h c => h c, θ_run_mono (Cert.FfnInBwdRefIdeal.Value.run m' g') fun r h c => ?_⟩
  obtain ⟨h0, h1, h2, hk⟩ := h c
  obtain ⟨a0, a1, a2, a3, a4, a5, a6⟩ := hagree c
  have e0 := h0.trans (show _ = val_main_v47 (F := Ideal) (m' (c.tc.loc Cert.FfnInBwdRefIdeal.main_arg0)) (m' (c.tc.loc Cert.FfnInBwdRefIdeal.main_arg1)) (m' (c.tc.loc Cert.FfnInBwdRefIdeal.main_arg2)) (m' (c.tc.loc Cert.FfnInBwdRefIdeal.main_arg3)) (m' (c.tc.loc Cert.FfnInBwdRefIdeal.main_arg4)) (m' (c.tc.loc Cert.FfnInBwdRefIdeal.main_arg5)) (m' (c.tc.loc Cert.FfnInBwdRefIdeal.main_arg6)) from rfl)
  rw [a0, a1, a2, a3, a4, a5, a6] at e0
  have e1 := h1.trans (show _ = val_main_v49 (F := Ideal) (m' (c.tc.loc Cert.FfnInBwdRefIdeal.main_arg0)) (m' (c.tc.loc Cert.FfnInBwdRefIdeal.main_arg1)) (m' (c.tc.loc Cert.FfnInBwdRefIdeal.main_arg2)) (m' (c.tc.loc Cert.FfnInBwdRefIdeal.main_arg3)) (m' (c.tc.loc Cert.FfnInBwdRefIdeal.main_arg4)) (m' (c.tc.loc Cert.FfnInBwdRefIdeal.main_arg5)) (m' (c.tc.loc Cert.FfnInBwdRefIdeal.main_arg6)) from rfl)
  rw [a0, a1, a2, a3, a4, a5, a6] at e1
  have e2 := h2.trans (show _ = val_main_v50 (F := Ideal) (m' (c.tc.loc Cert.FfnInBwdRefIdeal.main_arg0)) (m' (c.tc.loc Cert.FfnInBwdRefIdeal.main_arg1)) (m' (c.tc.loc Cert.FfnInBwdRefIdeal.main_arg2)) (m' (c.tc.loc Cert.FfnInBwdRefIdeal.main_arg3)) (m' (c.tc.loc Cert.FfnInBwdRefIdeal.main_arg4)) from rfl)
  rw [a0, a1, a2, a3, a4] at e2
  exact ⟨e0.trans (result7 m c).symm, e1.trans (result8 m c).symm, e2.trans (result9 m c).symm, hk⟩

end Cert.FfnInput

end
-- ==== Proof.Reals.lean ====
/- Extended reals that are real numbers: sums and products of them, and arrays whose elements a printed precondition says are finite. -/
module

public import Idealize.ShloMosaic.Lib.Pointwise
public import Idealize.ShloMosaic.Lib.IdealHost
public import Idealize.ShloMosaic.Lib.ReduceAll

@[expose] public section

noncomputable section

namespace Cert.Reals

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) : IsReal (∑ i ∈ s, f i) :=
  Finset.sum_induction f IsReal (fun _ _ => IsReal.add) ⟨0, rfl⟩ h

theorem infinite : Ideal.ofBits .f32 0x7F800000#32 = ⊤ := by
  simp [Ideal.ofBits, Ideal.ieee]

/-- A magnitude below infinity is that of a real number. -/
theorem of_lt {x : EReal} (h : max x (-x) < ⊤) : IsReal x := by
  induction x using EReal.rec with
  | bot => simp at h
  | coe r => exact ⟨r, rfl⟩
  | top => simp at h

/-- The printed test that every magnitude of an array is below infinity. -/
theorem of_all {s u t : Shape} {axes : List (Fin s.rank)} [Subsingleton t.Idx] (v : FVec Ideal s .f32) (w : FVec Ideal s .f32) (hw : ∀ i, w i = Ideal.ofBits .f32 0x7F800000#32)
    (init : IVec u 1) (h : s.ReducesTo axes t) (hu : 0 < u.numel) (j : t.Idx)
    (e : Host.reduce IntOp.andi (cmpf .olt (Host.absf v) w) init h hu j = 1#1) (i : s.Idx) : IsReal (v i) := by
  have k := Host.reduce_andi_all _ _ _ _ j e i
  refine of_lt ?_
  have k' : Ideal.cmp .olt (max (v i) (-(v i))) (w i) = 1#1 := k
  rw [hw, infinite] at k'
  by_contra hc
  rw [Ideal.cmp, decide_eq_false hc] at k'
  exact absurd k' (by decide)

end Cert.Reals

end
-- ==== Proof.FfnOutput.lean ====
/- The value of FfnOutBwd: the product, then the gradient of the gated hidden layer at each element. -/
module

public import proofs.«01_k».proof.Proof.Gen.FfnOutBwdIdeal.Value
public import proofs.«01_k».proof.Proof.Gen.FfnOutBwdRefIdeal.Run
public import proofs.«01_k».proof.Proof.Gen.FfnOutBwdRefIdeal.Read
public import proofs.«01_k».proof.Proof.Common
public import proofs.«01_k».proof.Proof.Gen.Pre_ffn_out_bwd_finite
public import proofs.«01_k».proof.Proof.Reals

@[expose] public section

set_option maxRecDepth 16384

noncomputable section

namespace Cert.FfnOutput

open Idealize.ShloMosaic Idealize.ShloMosaic.TcCoe Idealize.SL.Sem
open Cert.FfnOutBwdIdeal Cert.FfnOutBwdIdeal.Gen
open Cert.FfnOutBwdRefIdeal.Read
open Cert.Reals (IsReal)

variable (m : (ℓ : Loc nD τ sig) → Buf (Elt Ideal) ℓ) (c : Dev nD)

/-- Where the windows stand at each point of the grid. -/
theorem places : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

/-- The row of the array at a row of a point's block. -/
def row (t : Fin cfg0.N) (a : Fin 256) : Fin 4096 := ⟨t.val * 256 + a.val, by have h := lt_of_lt_of_eq t.isLt N_0; omega⟩

theorem one_word : Ideal.ofBits .f32 0x3F800000#32 = 1 := by
  simp [Ideal.ofBits, Ideal.ieee]
  rw [← EReal.coe_mul]
  norm_num

/-- The gate's derivative, factored and as the sum of the product rule. -/
theorem gate (e g : EReal) (he : IsReal e) :
    e * Ideal.logistic g * (1 + g * (1 - Ideal.logistic g)) = e * Ideal.logistic g + g * e * (Ideal.logistic g * (1 - Ideal.logistic g)) := by
  obtain ⟨e, rfl⟩ := he
  induction g using EReal.rec with
  | bot => simp
  | top =>
    have h : (1 : EReal) - 1 = 0 := by rw [← EReal.coe_one, ← EReal.coe_sub, sub_self]; rfl
    simp [h]
  | coe g =>
    rw [Ideal.logistic_coe]
    norm_cast
    ring

/-- The hidden layer's cotangent times the up branch. -/
def cot (x0 : FVec Ideal S4096x1024 .bf16) (x1 : FVec Ideal S2816x1024 .bf16) (x3 : FVec Ideal S4096x2816 .bf16) (i : Fin 4096) (k : Fin 2816) : EReal :=
  (∑ l : Fin 1024, x0 (ix2 i l) * x1 (ix2 k l)) * x3 (ix2 i k)

section Reference

variable (x0 : FVec Ideal S4096x1024 .bf16) (x1 : FVec Ideal S2816x1024 .bf16) (x2 x3 : FVec Ideal S4096x2816 .bf16) (i : Fin 4096) (k : Fin 2816)

theorem ref_sg : val_main_v3_2 (F := Ideal) x2 (ix2 i k) = Ideal.logistic (x2 (ix2 i k)) := by
  pointwise [val_main_v3_2, val_main_call0_v4, val_main_call0_cst_0, val_main_call0_v3, val_main_call0_v2, val_main_call0_cst, val_main_call0_v1, val_main_call0_v0, val_main_v1, Ideal.logistic, one_word]

theorem ref_dgt : val_main_v11 (F := Ideal) x0 x1 x2 x3 (ix2 i k)
    = cot x0 x1 x3 i k * Ideal.logistic (x2 (ix2 i k))
      + x2 (ix2 i k) * cot x0 x1 x3 i k * (Ideal.logistic (x2 (ix2 i k)) * (1 - Ideal.logistic (x2 (ix2 i k)))) := by
  pointwise [cot, val_main_v11, val_main_v10, val_main_call1_v1, val_main_call1_v2, val_main_call1_v0, val_main_v9, val_main_v7, val_main_v6, val_main_v0, val_main_v1, val_main_v2, val_main_v3_1, val_main_call0_v7, val_main_call0_v6, val_main_call0_cst_1, ref_sg, one_word]

theorem ref_dup : val_main_v12 (F := Ideal) x0 x1 x2 (ix2 i k)
    = x2 (ix2 i k) * Ideal.logistic (x2 (ix2 i k)) * ∑ l : Fin 1024, x0 (ix2 i l) * x1 (ix2 k l) := by
  pointwise [val_main_v12, val_main_v8, val_main_v7, val_main_v6, val_main_v0, val_main_v3_0, val_main_v1, ref_sg]

end Reference

variable (t : Fin cfg0.N)

theorem rd0 (a : Fin 256) (b : Fin 1024) : iblk m c 0 t (ix2 a b) = ((m (c.tc.loc main_arg0)) : FVec Ideal S4096x1024 .bf16) (ix2 (row t a) b) := by
  blk_simp [iblk]
  rw [V_main_arg0]
  blk_point [row, places t]

theorem rd1 (a : Fin 2816) (b : Fin 1024) : iblk m c 1 t (ix2 a b) = ((m (c.tc.loc main_arg1)) : FVec Ideal S2816x1024 .bf16) (ix2 a b) := by
  blk_simp [iblk]
  rw [V_main_arg1]
  blk_point [row, places t]

theorem rd2 (a : Fin 256) (b : Fin 2816) : iblk m c 2 t (ix2 a b) = ((m (c.tc.loc main_arg2)) : FVec Ideal S4096x2816 .bf16) (ix2 (row t a) b) := by
  blk_simp [iblk]
  rw [V_main_arg2]
  blk_point [row, places t]

theorem rd3 (a : Fin 256) (b : Fin 2816) : iblk m c 3 t (ix2 a b) = ((m (c.tc.loc main_arg3)) : FVec Ideal S4096x2816 .bf16) (ix2 (row t a) b) := by
  blk_simp [iblk]
  rw [V_main_arg3]
  blk_point [row, places t]

theorem pay4 (h : ∀ i k, IsReal (cot (m (c.tc.loc main_arg0)) (m (c.tc.loc main_arg1)) (m (c.tc.loc main_arg3)) i k))
    (a : Fin 256) (b : Fin 2816) :
    k0_pay4 (F := Ideal) (iblk m c 0 t) (iblk m c 1 t) (iblk m c 2 t) (iblk m c 3 t) (ix2 a b) = val_main_v11 (F := Ideal) (m (c.tc.loc main_arg0)) (m (c.tc.loc main_arg1)) (m (c.tc.loc main_arg2)) (m (c.tc.loc main_arg3)) (ix2 (row t a) b) := by
  rw [ref_dgt, ← gate _ _ (h _ _)]
  pointwise [cot, k0_pay4, k0_pay3, k0_pay2, k0_pay1, rd0, rd1, rd2, rd3, one_word]

theorem pay5 (a : Fin 256) (b : Fin 2816) :
    k0_pay5 (F := Ideal) (iblk m c 0 t) (iblk m c 1 t) (iblk m c 2 t) (ix2 a b) = val_main_v12 (F := Ideal) (m (c.tc.loc main_arg0)) (m (c.tc.loc main_arg1)) (m (c.tc.loc main_arg2)) (ix2 (row t a) b) := by
  rw [ref_dup, mul_comm, ← mul_assoc]
  pointwise [k0_pay5, k0_pay3, k0_pay2, k0_pay1, rd0, rd1, rd2]

theorem emb4 (y : S256x2816.Idx) : ((cfg0.win 4).blk t).view.emb y = ix2 (row t (y 0)) (y 1) := by
  blk_ext [row, places t]

theorem emb5 (y : S256x2816.Idx) : ((cfg0.win 5).blk t).view.emb y = ix2 (row t (y 0)) (y 1) := by
  blk_ext [row, places t]

/-- The precondition makes the hidden layer's cotangent, times the up branch, real. -/
theorem real (hp : Cert.Pre_FfnOutBwdIdeal_ffn_out_bwd_finite m) (i : Fin 4096) (k : Fin 2816) :
    IsReal (cot (m (c.tc.loc main_arg0)) (m (c.tc.loc main_arg1)) (m (c.tc.loc main_arg3)) i k) := by
  have e := congrFun (hp c) ix0
  dsimp only [Cert.Pre_ffn_out_bwd_finite.fn] at e
  obtain ⟨e, e3⟩ := IntOp.andi_eq_one.1 e
  obtain ⟨e0, e1⟩ := IntOp.andi_eq_one.1 e
  rw [cot]
  refine IsReal.mul (IsReal.sum _ _ fun l _ => IsReal.mul ?_ ?_) ?_
  · exact Reals.of_all _ _ (fun _ => rfl) _ _ _ _ e0 (ix2 i l)
  · exact Reals.of_all _ _ (fun _ => rfl) _ _ _ _ e1 (ix2 k l)
  · exact Reals.of_all _ _ (fun _ => rfl) _ _ _ _ e3 (ix2 i k)

theorem result4 (hp : Cert.Pre_FfnOutBwdIdeal_ffn_out_bwd_finite m) : (dats m 0 c).arrAt 4 (cfgs 0).N = val_main_v11 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  refine (?_ : _ = _).trans (congrArg _ (emb4 t y)).symm
  blk_simp
  rw [after0_4]
  frame_out
  exact (congrArg _ (eq_ix2 (n0 := 256) (n1 := 2816) y)).trans (pay4 m c t (real m c hp) (y 0) (y 1))

theorem result5 : (dats m 0 c).arrAt 5 (cfgs 0).N = val_main_v12 (F := Ideal) (m (c.tc.loc main_arg0)) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ (eq_ix2 (n0 := 256) (n1 := 2816) y)).trans (pay5 m c t (y 0) (y 1))

/-- The kernel's results are the reference's gradients. -/
theorem holds : Cert.algebraic_FfnOutBwdIdeal_FfnOutBwdRefIdeal_pre_ffn_out_bwd_finite := by
  intro m g m' g' hp hagree
  refine ⟨fun c => (dats m 0 c).arrAt 4 cfg0.N, fun c => (dats m 0 c).arrAt 5 cfg0.N, θ_run_mono (Cert.FfnOutBwdIdeal.Value.run_blocks m g) fun r h c => h c, θ_run_mono (Cert.FfnOutBwdRefIdeal.Value.run m' g') fun r h c => ?_⟩
  obtain ⟨h0, h1, hk⟩ := h c
  obtain ⟨a0, a1, a2, a3⟩ := hagree c
  have e0 := h0.trans (show _ = val_main_v11 (F := Ideal) (m' (c.tc.loc Cert.FfnOutBwdRefIdeal.main_arg0)) (m' (c.tc.loc Cert.FfnOutBwdRefIdeal.main_arg1)) (m' (c.tc.loc Cert.FfnOutBwdRefIdeal.main_arg2)) (m' (c.tc.loc Cert.FfnOutBwdRefIdeal.main_arg3)) from rfl)
  rw [a0, a1, a2, a3] at e0
  have e1 := h1.trans (show _ = val_main_v12 (F := Ideal) (m' (c.tc.loc Cert.FfnOutBwdRefIdeal.main_arg0)) (m' (c.tc.loc Cert.FfnOutBwdRefIdeal.main_arg1)) (m' (c.tc.loc Cert.FfnOutBwdRefIdeal.main_arg2)) from rfl)
  rw [a0, a1, a2] at e1
  exact ⟨e0.trans (result4 m c hp).symm, e1.trans (result5 m c).symm, hk⟩

end Cert.FfnOutput

end
-- ==== Proof.ProjBackward.lean ====
/- The value of ProjBwd: the product gathered over five column blocks, then the norm's gradient row by row; the gain's gradient gathers over the row blocks. -/
module

public import proofs.«01_k».proof.Proof.Gen.ProjBwdIdeal.Value
public import proofs.«01_k».proof.Proof.Gen.ProjBwdRefIdeal.Run
public import proofs.«01_k».proof.Proof.Gen.ProjBwdRefIdeal.Read
public import proofs.«01_k».proof.Proof.Common
public import proofs.«01_k».proof.Proof.NormBack

@[expose] public section

set_option maxRecDepth 16384

noncomputable section

namespace Cert.ProjBackward

open Idealize.ShloMosaic Idealize.ShloMosaic.TcCoe Idealize.SL.Sem
open Cert.ProjBwdIdeal Cert.ProjBwdIdeal.Gen
open Cert.ProjBwdRefIdeal.Read

variable (m : (ℓ : Loc nD τ sig) → Buf (Elt Ideal) ℓ) (c : Dev nD)

/-- Where the windows stand at each point of the grid. -/
theorem places : ∀ t : Fin cfg0.N, win0_0.index t = ![t.val / 5, t.val % 5] ∧ win0_1.index t = ![t.val % 5, 0] ∧ win0_2.index t = ![t.val / 5, 0] ∧ win0_3.index t = ![0, 0]
    ∧ win0_4.index t = ![t.val / 5, 0] ∧ win0_5.index t = ![t.val / 5, 0] ∧ win0_6.index t = ![t.val / 5, 0] ∧ win0_7.index t = ![0, 0] :=
  (by decide +kernel : ∀ t : Fin grid0.N, _)

/-- The row of the array at a row of a point's block. -/
def row (t : Fin cfg0.N) (a : Fin 512) : Fin 4096 := ⟨t.val / 5 * 512 + a.val, by have h := lt_of_lt_of_eq t.isLt N_0; omega⟩

/-- The column of the cotangent at a column of a point's block. -/
def col (t : Fin cfg0.N) (a : Fin 1664) : Fin 8320 := ⟨t.val % 5 * 1664 + a.val, by omega⟩

/-- A row of an array. -/
def line (x : FVec Ideal S4096x1024 .f32) (i : Fin 4096) : Fin 1024 → EReal := fun l => x (ix2 i l)

/-- The cotangent of the normed row: a row of the product. -/
def dh (a : FVec Ideal S4096x8320 .bf16) (w : FVec Ideal S8320x1024 .bf16) (i : Fin 4096) (k : Fin 1024) : EReal :=
  ∑ l : Fin 8320, a (ix2 i l) * w (ix2 l k)

/-- The same past the gain. -/
def dn (a : FVec Ideal S4096x8320 .bf16) (w : FVec Ideal S8320x1024 .bf16) (g : FVec Ideal S1024 .f32) (i : Fin 4096) : Fin 1024 → EReal :=
  fun k => dh a w i k * g (ix1 k)

section Reference

variable (x0 : FVec Ideal S4096x8320 .bf16) (x1 : FVec Ideal S8320x1024 .bf16) (x2 x4 : FVec Ideal S4096x1024 .f32) (x3 : FVec Ideal S1024 .f32) (i : Fin 4096) (k : Fin 1024) (o : Fin 1)

theorem ref_mean : val_main_v7 (F := Ideal) x2 (ix2 i o) = NormBack.mean (line x2 i) := by
  pointwise [val_main_v7, val_main_v6, val_main_cst_1, val_main_v5, val_main_v4, val_main_cst_0, val_main_v3, val_main_v2, val_main_cst, val_main_v1, NormBack.mean, line]

theorem ref_scale : val_main_v8 (F := Ideal) x2 (ix2 i o) = NormBack.scale (line x2 i) := by
  pointwise [val_main_v8, ref_mean, NormBack.scale]

theorem ref_dh : val_main_v20 (F := Ideal) x0 x1 (ix2 i k) = dh x0 x1 i k := by
  pointwise [val_main_v20, val_main_v19, val_main_v17, val_main_v0, dh]

theorem ref_dn : val_main_v25 (F := Ideal) x0 x1 x3 (ix2 i k) = dn x0 x1 x3 i k := by
  pointwise [val_main_v25, ref_dh, val_main_v24, val_main_v14, dn]

theorem ref_back : val_main_v35 (F := Ideal) x0 x1 x2 x3 (ix1 i) = NormBack.back (line x2 i) (dn x0 x1 x3 i) := by
  pointwise [val_main_v35, val_main_cst_7, val_main_v34, val_main_v33, val_main_cst_6, val_main_v32, val_main_v29, val_main_v28, val_main_cst_5, val_main_v27, ref_dn, val_main_v11, val_main_v10, val_main_cst_2, val_main_v9, ref_scale, ref_mean, NormBack.back, line]
  simp only [Finset.univ_unique, Finset.sum_singleton]

theorem ref_dx : val_main_v41 (F := Ideal) x0 x1 x2 x3 x4 (ix2 i k)
    = x4 (ix2 i k) + (dn x0 x1 x3 i k * NormBack.scale (line x2 i) + line x2 i k * NormBack.back (line x2 i) (dn x0 x1 x3 i) + NormBack.back (line x2 i) (dn x0 x1 x3 i) * line x2 i k) := by
  pointwise [val_main_v41, val_main_v40, val_main_v39, val_main_v38, val_main_v37, val_main_v36, ref_back, val_main_v31, ref_dn, val_main_v30, ref_scale, line]

theorem ref_dxb : val_main_v43 (F := Ideal) x0 x1 x2 x3 x4 (ix2 i k) = val_main_v41 (F := Ideal) x0 x1 x2 x3 x4 (ix2 i k) := by
  pointwise [val_main_v43, val_main_v42, val_main_v41]

theorem ref_dg : val_main_v44 (F := Ideal) x0 x1 x2 (ix2 o k) = ∑ i : Fin 4096, dh x0 x1 i k * (line x2 i k * NormBack.scale (line x2 i)) := by
  pointwise [val_main_v44, val_main_v26, val_main_cst_4, val_main_v23, val_main_v22, val_main_cst_3, val_main_v21, ref_dh, val_main_v13, val_main_v12, ref_scale, line]
  simp only [Finset.univ_unique, Finset.sum_singleton, mul_comm]

end Reference

variable (t : Fin cfg0.N)

theorem rd0 (a : Fin 512) (b : Fin 1664) : iblk m c 0 t (ix2 a b) = ((m (c.tc.loc main_arg0)) : FVec Ideal S4096x8320 .bf16) (ix2 (row t a) (col t b)) := by
  blk_simp [iblk]
  rw [V_main_arg0]
  blk_point [row, col, places t]

theorem rd1 (a : Fin 1664) (b : Fin 1024) : iblk m c 1 t (ix2 a b) = ((m (c.tc.loc main_arg1)) : FVec Ideal S8320x1024 .bf16) (ix2 (col t a) b) := by
  blk_simp [iblk]
  rw [V_main_arg1]
  blk_point [row, col, places t]

theorem rd2 (a : Fin 512) (b : Fin 1024) : iblk m c 2 t (ix2 a b) = ((m (c.tc.loc main_arg2)) : FVec Ideal S4096x1024 .f32) (ix2 (row t a) b) := by
  blk_simp [iblk]
  rw [V_main_arg2]
  blk_point [row, col, places t]

theorem rd3 (o : Fin 1) (b : Fin 1024) : iblk m c 3 t (ix2 o b) = ((m (c.tc.loc main_arg3)) : FVec Ideal S1024 .f32) (ix1 b) := by
  blk_simp [iblk]
  entry_read
  pointwise
  blk_point [row, places t]

theorem rd4 (a : Fin 512) (b : Fin 1024) : iblk m c 4 t (ix2 a b) = ((m (c.tc.loc main_arg4)) : FVec Ideal S4096x1024 .f32) (ix2 (row t a) b) := by
  blk_simp [iblk]
  rw [V_main_arg4]
  blk_point [row, col, places t]

/-- The cotangent and the row at this program's arguments. -/
abbrev DH (i : Fin 4096) (k : Fin 1024) : EReal := dh (m (c.tc.loc main_arg0)) (m (c.tc.loc main_arg1)) i k
abbrev X (i : Fin 4096) : Fin 1024 → EReal := line (m (c.tc.loc main_arg2)) i

/-- What the accumulator holds after a point. -/
abbrev acc : FVec Ideal S512x1024 .f32 := (outsAt0 m c t.val t.isLt).2.2.2

theorem bit (x0 : Vec Ideal S512x1664 .bf16) (x1 : Vec Ideal S1664x1024 .bf16) (j : S512x1024.Idx) :
    k0_pay1 x0 x1 j = ∑ k : Fin 1664, x0 (ix2 (j 0) k) * x1 (ix2 k (j 1)) := by
  pointwise [k0_pay1]

theorem first (h : t.val % 5 = 0) (j) :
    (outsAt0 m c t.val t.isLt).2.2.2 j = (0 : EReal) + k0_pay1 (F := Ideal) (iblk m c 0 t) (iblk m c 1 t) j := by
  rw [outsAt0_A m c t h (by omega) (by omega), zero_add]
  frame_out
  pointwise [k0_pay2]

theorem next (h : ¬t.val % 5 = 0) (j) : (outsAt0 m c t.val t.isLt).2.2.2 j
    = (outsAt0 m c (t.val - 1) (Nat.lt_of_le_of_lt (Nat.sub_le _ _) t.isLt)).2.2.2 j + k0_pay1 (F := Ideal) (iblk m c 0 t) (iblk m c 1 t) j := by
  by_cases h4 : t.val % 5 = 4
  · by_cases h5 : t.val < 5
    · rw [outsAt0_C m c t h (by omega) h4 h5 (by omega)]
      frame_out
      simp only [read_unread_whole]
      pointwise [k0_pay3]
    · rw [outsAt0_D m c t h (by omega) h4 h5 (by omega)]
      frame_out
      simp only [read_unread_whole]
      pointwise [k0_pay3]
  · rw [outsAt0_B m c t h (by omega) h4]
    frame_out
    simp only [read_unread_whole]
    pointwise [k0_pay3]

/-- At the last column block the accumulator holds the whole product. -/
theorem whole (h : t.val % 5 = 4) (j) : acc m c t j = DH m c (row t (j 0)) (j 1) := by
  rw [acc, Pipeline.eq_sum_fin_of_reset_step_apply_of_flush (fun n h => (outsAt0 m c n h).2.2.2) 5 (fun _ => (0 : EReal))
      (fun t => k0_pay1 (F := Ideal) (iblk m c 0 t) (iblk m c 1 t)) (first m c) (next m c) t h _, zero_add]
  pointwise [bit, rd0, rd1, DH, dh]
  refine Fin.sum_mul_add_congr fun s a hl => ?_
  have hN := lt_of_lt_of_eq t.isLt N_0
  rw [show col ⟨5 * (t.val / 5) + s.val, by have := s.isLt; exact lt_of_lt_of_eq (by omega) N_0.symm⟩ a = ⟨s.val * 1664 + a.val, hl⟩ from Fin.ext (by simp only [col]; omega),
    show row ⟨5 * (t.val / 5) + s.val, by have := s.isLt; exact lt_of_lt_of_eq (by omega) N_0.symm⟩ (j 0) = row t (j 0) from Fin.ext (by simp only [row]; omega)]

theorem pay5 (a : Fin 512) (o : Fin 1) : k0_pay5 (F := Ideal) (iblk m c 2 t) (ix2 a o) = NormBack.scale (X m c (row t a)) := by
  pointwise [k0_pay5, rd2, NormBack.scale, NormBack.mean, line]

theorem pay6 (a : Fin 512) (b : Fin 1024) : k0_pay6 (F := Ideal) (iblk m c 2 t) (ix2 a b) = X m c (row t a) b * NormBack.scale (X m c (row t a)) := by
  pointwise [k0_pay6, pay5, rd2, line]

theorem pay7 (h : t.val % 5 = 4) (a : Fin 512) (b : Fin 1024) :
    k0_pay7 (F := Ideal) (acc m c t) (iblk m c 2 t) (iblk m c 3 t) (iblk m c 4 t) (ix2 a b)
      = val_main_v41 (F := Ideal) (m (c.tc.loc main_arg0)) (m (c.tc.loc main_arg1)) (m (c.tc.loc main_arg2)) (m (c.tc.loc main_arg3)) (m (c.tc.loc main_arg4)) (ix2 (row t a) b) := by
  rw [ref_dx, ← NormBack.grad]
  pointwise [k0_pay7, whole m c t h, pay5, pay6, rd3, rd4, dn]

/-- One row block's share of the gain's gradient. -/
def part : FVec Ideal S1x1024 .f32 := k0_pay9 (F := Ideal) (acc m c t) (iblk m c 2 t)

theorem share (h : t.val % 5 = 4) (j : S1x1024.Idx) : part m c t j = ∑ a : Fin 512, DH m c (row t a) (j 1) * (X m c (row t a) (j 1) * NormBack.scale (X m c (row t a))) := by
  pointwise [part, k0_pay9, whole m c t h, pay6]

theorem emb5 (y : S512x1024.Idx) : ((cfg0.win 5).blk t).view.emb y = ix2 (row t (y 0)) (y 1) := by
  blk_ext [row, places t]

theorem emb6 (y : S512x1024.Idx) : ((cfg0.win 6).blk t).view.emb y = ix2 (row t (y 0)) (y 1) := by
  blk_ext [row, places t]

theorem emb7 (y : S1x1024.Idx) : ((cfg0.win 7).blk t).view.emb y = ix2 (y 0) (y 1) := by
  blk_ext [row, places t]

theorem out5 (h : t.val % 5 = 4) : (outsAt0 m c t.val t.isLt).1 = k0_pay7 (F := Ideal) (acc m c t) (iblk m c 2 t) (iblk m c 3 t) (iblk m c 4 t) := by
  rw [acc]
  by_cases h5 : t.val < 5
  · rw [outsAt0_C m c t (by omega) (by omega) h h5 (by omega)]
    frame_out
  · rw [outsAt0_D m c t (by omega) (by omega) h h5 (by omega)]
    frame_out

theorem out6 (h : t.val % 5 = 4) : (outsAt0 m c t.val t.isLt).2.1 = k0_pay8 (F := Ideal) (acc m c t) (iblk m c 2 t) (iblk m c 3 t) (iblk m c 4 t) := by
  rw [acc]
  by_cases h5 : t.val < 5
  · rw [outsAt0_C m c t (by omega) (by omega) h h5 (by omega)]
    frame_out
  · rw [outsAt0_D m c t (by omega) (by omega) h h5 (by omega)]
    frame_out

/-- The first row block sets the gain's gradient. -/
theorem start (h : t.val = 4) : (outsAt0 m c t.val t.isLt).2.2.1 = part m c t := by
  rw [part, acc, outsAt0_C m c t (by omega) (by omega) (by omega) (by omega) (by omega)]
  frame_out

/-- Every later row block adds its share. -/
theorem more (h : t.val % 5 = 4) (h5 : 5 ≤ t.val) (j) : (outsAt0 m c t.val t.isLt).2.2.1 j
    = (outsAt0 m c (t.val - 1) (Nat.lt_of_le_of_lt (Nat.sub_le _ _) t.isLt)).2.2.1 j + part m c t j := by
  rw [part, acc, outsAt0_D m c t (by omega) (by omega) h (by omega) h5]
  frame_out
  pointwise [k0_pay4]

/-- Between row blocks the gain's gradient stands. -/
theorem keep (h : ¬t.val % 5 = 4) : (outsAt0 m c t.val t.isLt).2.2.1 = (outsAt0 m c (t.val - 1) (Nat.lt_of_le_of_lt (Nat.sub_le _ _) t.isLt)).2.2.1 := by
  by_cases h0 : t.val % 5 = 0
  · rw [outsAt0_A m c t h0 (by omega) h]
    frame_out
    rfl
  · rw [outsAt0_B m c t h0 (by omega) h]
    frame_out
    rfl

theorem stay (n k : ℕ) (hk : k < 5) (h : 5 * n + 4 + k < cfg0.N) :
    (outsAt0 m c (5 * n + 4 + k) h).2.2.1 = (outsAt0 m c (5 * n + 4) (by omega)).2.2.1 := by
  induction k with
  | zero => rfl
  | succ k ih =>
    have e := keep m c ⟨5 * n + 4 + (k + 1), h⟩ (by dsimp only; omega)
    exact e.trans (ih (by omega) (by omega))

/-- After each row block the gain's gradient holds the shares so far. -/
theorem gather (n : ℕ) (h : 5 * n + 4 < cfg0.N) (j) : (outsAt0 m c (5 * n + 4) h).2.2.1 j
    = ∑ s : Fin (n + 1), part m c ⟨5 * s.val + 4, by omega⟩ j := by
  induction n with
  | zero => rw [Fin.sum_univ_one]; exact congrFun (start m c ⟨4, h⟩ rfl) j
  | succ n ih =>
    have e := more m c ⟨5 * (n + 1) + 4, h⟩ (by dsimp only; omega) (by dsimp only; omega) j
    have k := congrFun (stay m c n 4 (by omega) (by omega)) j
    rw [Fin.sum_univ_castSucc]
    refine e.trans ?_
    refine congrArg₂ (· + ·) ?_ rfl
    exact k.trans (ih (by omega))

theorem result5 : (dats m 0 c).arrAt 5 (cfgs 0).N = val_main_v41 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  refine (?_ : _ = _).trans (congrArg _ (emb5 t y)).symm
  blk_simp
  rw [after0_5, out5 m c t ((flush0_5 t).mp hf)]
  exact (congrArg _ (eq_ix2 (n0 := 512) (n1 := 1024) y)).trans (pay7 m c t ((flush0_5 t).mp hf) (y 0) (y 1))

theorem result6 : (dats m 0 c).arrAt 6 (cfgs 0).N = val_main_v43 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  refine (?_ : _ = _).trans ((congrArg _ (emb6 t y)).trans (ref_dxb ..)).symm
  blk_simp
  rw [after0_6, out6 m c t ((flush0_6 t).mp hf)]
  exact (congrArg _ (eq_ix2 (n0 := 512) (n1 := 1024) y)).trans (pay7 m c t ((flush0_6 t).mp hf) (y 0) (y 1))

/-- The last point of the grid. -/
def final : Fin cfg0.N := ⟨5 * 7 + 4, lt_of_lt_of_eq (by omega) N_0.symm⟩

theorem result7 : (dats m 0 c).arrAt 7 (cfgs 0).N = val_main_v44 (F := Ideal) (m (c.tc.loc main_arg0)) (m (c.tc.loc main_arg1)) (m (c.tc.loc main_arg2)) := by
  refine (dats m 0 c).arrAt_eq_of_covers 7 _ (by decide +kernel) fun t hf y => ?_
  refine (?_ : _ = _).trans ((congrArg _ (emb7 t y)).trans (ref_dg ..)).symm
  have ht := (flush0_7 t).mp hf
  have hN := lt_of_lt_of_eq t.isLt N_0
  obtain rfl : t = final := Fin.ext (by simp only [final]; omega)
  blk_simp
  rw [after0_7]
  refine (gather m c 7 _ _).trans ?_
  refine Eq.trans (Finset.sum_congr rfl fun s _ => share m c ⟨5 * s.val + 4, by have := s.isLt; exact lt_of_lt_of_eq (by omega) N_0.symm⟩ (by dsimp only; omega) _) ?_
  refine Fin.sum_mul_add_congr fun s a hl => ?_
  rw [show row ⟨5 * s.val + 4, by have := s.isLt; exact lt_of_lt_of_eq (by omega) N_0.symm⟩ a = ⟨s.val * 512 + a.val, hl⟩ from Fin.ext (by simp only [row]; omega)]

/-- The kernel's results are the reference's gradients. -/
theorem holds : Cert.algebraic_ProjBwdIdeal_ProjBwdRefIdeal := by
  intro m g m' g' _ hagree
  refine ⟨fun c => (dats m 0 c).arrAt 5 cfg0.N, fun c => (dats m 0 c).arrAt 6 cfg0.N, fun c => (dats m 0 c).arrAt 7 cfg0.N, θ_run_mono (Cert.ProjBwdIdeal.Value.run_blocks m g) fun r h c => h c, θ_run_mono (Cert.ProjBwdRefIdeal.Value.run m' g') fun r h c => ?_⟩
  obtain ⟨h0, h1, h2, hk⟩ := h c
  obtain ⟨a0, a1, a2, a3, a4⟩ := hagree c
  have e0 := h0.trans (show _ = val_main_v41 (F := Ideal) (m' (c.tc.loc Cert.ProjBwdRefIdeal.main_arg0)) (m' (c.tc.loc Cert.ProjBwdRefIdeal.main_arg1)) (m' (c.tc.loc Cert.ProjBwdRefIdeal.main_arg2)) (m' (c.tc.loc Cert.ProjBwdRefIdeal.main_arg3)) (m' (c.tc.loc Cert.ProjBwdRefIdeal.main_arg4)) from rfl)
  rw [a0, a1, a2, a3, a4] at e0
  have e1 := h1.trans (show _ = val_main_v43 (F := Ideal) (m' (c.tc.loc Cert.ProjBwdRefIdeal.main_arg0)) (m' (c.tc.loc Cert.ProjBwdRefIdeal.main_arg1)) (m' (c.tc.loc Cert.ProjBwdRefIdeal.main_arg2)) (m' (c.tc.loc Cert.ProjBwdRefIdeal.main_arg3)) (m' (c.tc.loc Cert.ProjBwdRefIdeal.main_arg4)) from rfl)
  rw [a0, a1, a2, a3, a4] at e1
  have e2 := h2.trans (show _ = val_main_v44 (F := Ideal) (m' (c.tc.loc Cert.ProjBwdRefIdeal.main_arg0)) (m' (c.tc.loc Cert.ProjBwdRefIdeal.main_arg1)) (m' (c.tc.loc Cert.ProjBwdRefIdeal.main_arg2)) from rfl)
  rw [a0, a1, a2] at e2
  exact ⟨e0.trans (result5 m c).symm, e1.trans (result6 m c).symm, e2.trans (result7 m c).symm, hk⟩

end Cert.ProjBackward

end
-- ==== Proof.Debias.lean ====
/- The optimiser's two bias corrections: a division by the word of each divisor is a product with its reciprocal. -/
module

public import Idealize.ShloMosaic.PureOps
public import Idealize.ShloMosaic.Lib.Pipeline.ValueKit

@[expose] public section

noncomputable section

namespace Cert.Debias

open Idealize.ShloMosaic

theorem word_m : Ideal.ofBits .f32 0x3F26BD02#32 = ((5463681 / 8388608 : ℝ) : EReal) := by
  simp [Ideal.ofBits, Ideal.ieee, -EReal.coe_mul]
  norm_num

theorem word_v : Ideal.ofBits .f32 0x3C231ACC#32 = ((2672307 / 268435456 : ℝ) : EReal) := by
  simp [Ideal.ofBits, Ideal.ieee, -EReal.coe_mul]
  norm_num

theorem div_m (x : EReal) : Ideal.div x (Ideal.ofBits .f32 0x3F26BD02#32) = x * ((8388608 / 5463681 : ℝ) : EReal) := by
  rw [word_m, Ideal.div_coe (by norm_num)]
  norm_num

theorem div_v (x : EReal) : Ideal.div x (Ideal.ofBits .f32 0x3C231ACC#32) = x * ((268435456 / 2672307 : ℝ) : EReal) := by
  rw [word_v, Ideal.div_coe (by norm_num)]
  norm_num

end Cert.Debias

end
-- ==== Proof.UpdateNorm.lean ====
/- The value of AdamwNorm: the optimiser's three results at each element. -/
module

public import proofs.«01_k».proof.Proof.Gen.AdamwNormIdeal.Value
public import proofs.«01_k».proof.Proof.Gen.AdamwNormRefIdeal.Run
public import proofs.«01_k».proof.Proof.Gen.AdamwNormRefIdeal.Read
public import proofs.«01_k».proof.Proof.Common
public import proofs.«01_k».proof.Proof.Debias

@[expose] public section

set_option maxRecDepth 16384

noncomputable section

namespace Cert.UpdateNorm

open Idealize.ShloMosaic Idealize.ShloMosaic.TcCoe Idealize.SL.Sem
open Cert.AdamwNormIdeal Cert.AdamwNormIdeal.Gen
open Cert.AdamwNormRefIdeal.Read

variable (m : (ℓ : Loc nD τ sig) → Buf (Elt Ideal) ℓ) (c : Dev nD)

/-- The two ledger entries: each named constant rounds to the kernel's word. -/
theorem preserves : Cert.preserves_AdamwNorm_AdamwNormIdeal :=
  ⟨IdealRules.named_const.statement Cert.AdamwNormIdeal.κ "debias_m" .f32 0x3FC48605#32 ((8388608 / 5463681 : ℝ) : EReal) rfl,
   IdealRules.named_const.statement Cert.AdamwNormIdeal.κ "debias_v" .f32 0x42C8E6D3#32 ((268435456 / 2672307 : ℝ) : EReal) rfl⟩

theorem named_m : Named.named (F := Ideal) Cert.AdamwNormIdeal.κ "debias_m" (φ := .f32) 0x3FC48605#32 = ((8388608 / 5463681 : ℝ) : EReal) :=
  IdealRules.named_const.ideal_named_scalar _ _ _ _ rfl

theorem named_v : Named.named (F := Ideal) Cert.AdamwNormIdeal.κ "debias_v" (φ := .f32) 0x42C8E6D3#32 = ((268435456 / 2672307 : ℝ) : EReal) :=
  IdealRules.named_const.ideal_named_scalar _ _ _ _ rfl

/-- Where the windows stand at the one point of the grid. -/
theorem places : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

variable (t : Fin cfg0.N)

theorem rd0 (a : Fin 2) (b : Fin 1024) : iblk m c 0 t (ix3 0 a b) = ((m (c.tc.loc main_arg0)) : FVec Ideal S2x1024 .f32) (ix2 a b) := by
  blk_simp [iblk]
  entry_read
  pointwise
  blk_point [places t]

theorem rd1 (a : Fin 2) (b : Fin 1024) : iblk m c 1 t (ix3 0 a b) = ((m (c.tc.loc main_arg1)) : FVec Ideal S2x1024 .f32) (ix2 a b) := by
  blk_simp [iblk]
  entry_read
  pointwise
  blk_point [places t]

theorem rd2 (a : Fin 2) (b : Fin 1024) : iblk m c 2 t (ix3 0 a b) = ((m (c.tc.loc main_arg2)) : FVec Ideal S2x1024 .f32) (ix2 a b) := by
  blk_simp [iblk]
  entry_read
  pointwise
  blk_point [places t]

theorem rd3 (a : Fin 2) (b : Fin 1024) : iblk m c 3 t (ix3 0 a b) = ((m (c.tc.loc main_arg3)) : FVec Ideal S2x1024 .f32) (ix2 a b) := by
  blk_simp [iblk]
  entry_read
  pointwise
  blk_point [places t]

theorem pay4 (a : Fin 2) (b : Fin 1024) : k0_pay4 (F := Ideal) (iblk m c 0 t) (iblk m c 1 t) (iblk m c 2 t) (iblk m c 3 t) (ix3 0 a b) = val_main_v24 (F := Ideal) (m (c.tc.loc main_arg0)) (m (c.tc.loc main_arg1)) (m (c.tc.loc main_arg2)) (m (c.tc.loc main_arg3)) (ix3 0 a b) := by
  pointwise [k0_pay4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb4 (y : S1x2x1024.Idx) : ((cfg0.win 4).blk t).view.emb y = ix3 0 (y 1) (y 2) := by
  blk_ext [places t]

theorem result4 : (dats m 0 c).arrAt 4 (cfgs 0).N = val_main_v24 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  refine (?_ : _ = _).trans (congrArg _ (emb4 t y)).symm
  blk_simp
  rw [after0_4]
  frame_out
  exact (congrArg _ ((eq_ix3 (n0 := 1) (n1 := 2) (n2 := 1024) y).trans (congrArg (fun k => ix3 k (y 1) (y 2)) (Subsingleton.elim (α := Fin 1) (y 0) 0)))).trans (pay4 m c t (y 1) (y 2))

theorem pay5 (a : Fin 2) (b : Fin 1024) : k0_pay2 (F := Ideal) (iblk m c 1 t) (iblk m c 2 t) (ix3 0 a b) = val_main_v25 (F := Ideal) (m (c.tc.loc main_arg1)) (m (c.tc.loc main_arg2)) (ix3 0 a b) := by
  pointwise [k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb5 (y : S1x2x1024.Idx) : ((cfg0.win 5).blk t).view.emb y = ix3 0 (y 1) (y 2) := by
  blk_ext [places t]

theorem result5 : (dats m 0 c).arrAt 5 (cfgs 0).N = val_main_v25 (F := Ideal) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ ((eq_ix3 (n0 := 1) (n1 := 2) (n2 := 1024) y).trans (congrArg (fun k => ix3 k (y 1) (y 2)) (Subsingleton.elim (α := Fin 1) (y 0) 0)))).trans (pay5 m c t (y 1) (y 2))

theorem pay6 (a : Fin 2) (b : Fin 1024) : k0_pay3 (F := Ideal) (iblk m c 1 t) (iblk m c 3 t) (ix3 0 a b) = val_main_v26 (F := Ideal) (m (c.tc.loc main_arg1)) (m (c.tc.loc main_arg3)) (ix3 0 a b) := by
  pointwise [k0_pay3, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb6 (y : S1x2x1024.Idx) : ((cfg0.win 6).blk t).view.emb y = ix3 0 (y 1) (y 2) := by
  blk_ext [places t]

theorem result6 : (dats m 0 c).arrAt 6 (cfgs 0).N = val_main_v26 (F := Ideal) (m (c.tc.loc main_arg1)) (m (c.tc.loc main_arg3)) := by
  refine (dats m 0 c).arrAt_eq_of_covers 6 _ (by decide +kernel) fun t _ y => ?_
  refine (?_ : _ = _).trans (congrArg _ (emb6 t y)).symm
  blk_simp
  rw [after0_6]
  frame_out
  exact (congrArg _ ((eq_ix3 (n0 := 1) (n1 := 2) (n2 := 1024) y).trans (congrArg (fun k => ix3 k (y 1) (y 2)) (Subsingleton.elim (α := Fin 1) (y 0) 0)))).trans (pay6 m c t (y 1) (y 2))

theorem holds : Cert.algebraic_AdamwNormIdeal_AdamwNormRefIdeal := by
  intro m g m' g' _ hagree
  refine ⟨fun c => (dats m 0 c).arrAt 4 cfg0.N, fun c => (dats m 0 c).arrAt 5 cfg0.N, fun c => (dats m 0 c).arrAt 6 cfg0.N, θ_run_mono (Cert.AdamwNormIdeal.Value.run_blocks m g) fun r h c => h c, θ_run_mono (Cert.AdamwNormRefIdeal.Value.run m' g') fun r h c => ?_⟩
  obtain ⟨h0, h1, h2, hk⟩ := h c
  obtain ⟨a0, a1, a2, a3⟩ := hagree c
  have e0 := h0.trans (show _ = val_main_v24 (F := Ideal) (m' (c.tc.loc Cert.AdamwNormRefIdeal.main_arg0)) (m' (c.tc.loc Cert.AdamwNormRefIdeal.main_arg1)) (m' (c.tc.loc Cert.AdamwNormRefIdeal.main_arg2)) (m' (c.tc.loc Cert.AdamwNormRefIdeal.main_arg3)) from rfl)
  rw [a0, a1, a2, a3] at e0
  have e1 := h1.trans (show _ = val_main_v25 (F := Ideal) (m' (c.tc.loc Cert.AdamwNormRefIdeal.main_arg1)) (m' (c.tc.loc Cert.AdamwNormRefIdeal.main_arg2)) from rfl)
  rw [a1, a2] at e1
  have e2 := h2.trans (show _ = val_main_v26 (F := Ideal) (m' (c.tc.loc Cert.AdamwNormRefIdeal.main_arg1)) (m' (c.tc.loc Cert.AdamwNormRefIdeal.main_arg3)) from rfl)
  rw [a1, a3] at e2
  exact ⟨e0.trans (result4 m c).symm, e1.trans (result5 m c).symm, e2.trans (result6 m c).symm, hk⟩

end Cert.UpdateNorm

end
-- ==== Proof.UpdateFinal.lean ====
/- The value of AdamwFinal: the optimiser's three results at each element. -/
module

public import proofs.«01_k».proof.Proof.Gen.AdamwFinalIdeal.Value
public import proofs.«01_k».proof.Proof.Gen.AdamwFinalRefIdeal.Run
public import proofs.«01_k».proof.Proof.Gen.AdamwFinalRefIdeal.Read
public import proofs.«01_k».proof.Proof.Common
public import proofs.«01_k».proof.Proof.Debias

@[expose] public section

set_option maxRecDepth 16384

noncomputable section

namespace Cert.UpdateFinal

open Idealize.ShloMosaic Idealize.ShloMosaic.TcCoe Idealize.SL.Sem
open Cert.AdamwFinalIdeal Cert.AdamwFinalIdeal.Gen
open Cert.AdamwFinalRefIdeal.Read

variable (m : (ℓ : Loc nD τ sig) → Buf (Elt Ideal) ℓ) (c : Dev nD)

/-- The two ledger entries: each named constant rounds to the kernel's word. -/
theorem preserves : Cert.preserves_AdamwFinal_AdamwFinalIdeal :=
  ⟨IdealRules.named_const.statement Cert.AdamwFinalIdeal.κ "debias_m" .f32 0x3FC48605#32 ((8388608 / 5463681 : ℝ) : EReal) rfl,
   IdealRules.named_const.statement Cert.AdamwFinalIdeal.κ "debias_v" .f32 0x42C8E6D3#32 ((268435456 / 2672307 : ℝ) : EReal) rfl⟩

theorem named_m : Named.named (F := Ideal) Cert.AdamwFinalIdeal.κ "debias_m" (φ := .f32) 0x3FC48605#32 = ((8388608 / 5463681 : ℝ) : EReal) :=
  IdealRules.named_const.ideal_named_scalar _ _ _ _ rfl

theorem named_v : Named.named (F := Ideal) Cert.AdamwFinalIdeal.κ "debias_v" (φ := .f32) 0x42C8E6D3#32 = ((268435456 / 2672307 : ℝ) : EReal) :=
  IdealRules.named_const.ideal_named_scalar _ _ _ _ rfl

/-- Where the windows stand at the one point of the grid. -/
theorem places : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

variable (t : Fin cfg0.N)

theorem rd0 (a : Fin 1) (b : Fin 1024) : iblk m c 0 t (ix3 0 a b) = ((m (c.tc.loc main_arg0)) : FVec Ideal S1024 .f32) (ix1 b) := by
  blk_simp [iblk]
  entry_read
  pointwise
  blk_point [places t]

theorem rd1 (a : Fin 1) (b : Fin 1024) : iblk m c 1 t (ix3 0 a b) = ((m (c.tc.loc main_arg1)) : FVec Ideal S1024 .f32) (ix1 b) := by
  blk_simp [iblk]
  entry_read
  pointwise
  blk_point [places t]

theorem rd2 (a : Fin 1) (b : Fin 1024) : iblk m c 2 t (ix3 0 a b) = ((m (c.tc.loc main_arg2)) : FVec Ideal S1024 .f32) (ix1 b) := by
  blk_simp [iblk]
  entry_read
  pointwise
  blk_point [places t]

theorem rd3 (a : Fin 1) (b : Fin 1024) : iblk m c 3 t (ix3 0 a b) = ((m (c.tc.loc main_arg3)) : FVec Ideal S1024 .f32) (ix1 b) := by
  blk_simp [iblk]
  entry_read
  pointwise
  blk_point [places t]

theorem pay4 (a : Fin 1) (b : Fin 1024) : k0_pay4 (F := Ideal) (iblk m c 0 t) (iblk m c 1 t) (iblk m c 2 t) (iblk m c 3 t) (ix3 0 a b) = val_main_v24 (F := Ideal) (m (c.tc.loc main_arg0)) (m (c.tc.loc main_arg1)) (m (c.tc.loc main_arg2)) (m (c.tc.loc main_arg3)) (ix3 0 a b) := by
  pointwise [k0_pay4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb4 (y : S1x1x1024.Idx) : ((cfg0.win 4).blk t).view.emb y = ix3 0 (y 1) (y 2) := by
  blk_ext [places t]

theorem result4 : (dats m 0 c).arrAt 4 (cfgs 0).N = val_main_v24 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  refine (?_ : _ = _).trans (congrArg _ (emb4 t y)).symm
  blk_simp
  rw [after0_4]
  frame_out
  exact (congrArg _ ((eq_ix3 (n0 := 1) (n1 := 1) (n2 := 1024) y).trans (congrArg (fun k => ix3 k (y 1) (y 2)) (Subsingleton.elim (α := Fin 1) (y 0) 0)))).trans (pay4 m c t (y 1) (y 2))

theorem pay5 (a : Fin 1) (b : Fin 1024) : k0_pay2 (F := Ideal) (iblk m c 1 t) (iblk m c 2 t) (ix3 0 a b) = val_main_v25 (F := Ideal) (m (c.tc.loc main_arg1)) (m (c.tc.loc main_arg2)) (ix3 0 a b) := by
  pointwise [k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb5 (y : S1x1x1024.Idx) : ((cfg0.win 5).blk t).view.emb y = ix3 0 (y 1) (y 2) := by
  blk_ext [places t]

theorem result5 : (dats m 0 c).arrAt 5 (cfgs 0).N = val_main_v25 (F := Ideal) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ ((eq_ix3 (n0 := 1) (n1 := 1) (n2 := 1024) y).trans (congrArg (fun k => ix3 k (y 1) (y 2)) (Subsingleton.elim (α := Fin 1) (y 0) 0)))).trans (pay5 m c t (y 1) (y 2))

theorem pay6 (a : Fin 1) (b : Fin 1024) : k0_pay3 (F := Ideal) (iblk m c 1 t) (iblk m c 3 t) (ix3 0 a b) = val_main_v26 (F := Ideal) (m (c.tc.loc main_arg1)) (m (c.tc.loc main_arg3)) (ix3 0 a b) := by
  pointwise [k0_pay3, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb6 (y : S1x1x1024.Idx) : ((cfg0.win 6).blk t).view.emb y = ix3 0 (y 1) (y 2) := by
  blk_ext [places t]

theorem result6 : (dats m 0 c).arrAt 6 (cfgs 0).N = val_main_v26 (F := Ideal) (m (c.tc.loc main_arg1)) (m (c.tc.loc main_arg3)) := by
  refine (dats m 0 c).arrAt_eq_of_covers 6 _ (by decide +kernel) fun t _ y => ?_
  refine (?_ : _ = _).trans (congrArg _ (emb6 t y)).symm
  blk_simp
  rw [after0_6]
  frame_out
  exact (congrArg _ ((eq_ix3 (n0 := 1) (n1 := 1) (n2 := 1024) y).trans (congrArg (fun k => ix3 k (y 1) (y 2)) (Subsingleton.elim (α := Fin 1) (y 0) 0)))).trans (pay6 m c t (y 1) (y 2))

theorem holds : Cert.algebraic_AdamwFinalIdeal_AdamwFinalRefIdeal := by
  intro m g m' g' _ hagree
  refine ⟨fun c => (dats m 0 c).arrAt 4 cfg0.N, fun c => (dats m 0 c).arrAt 5 cfg0.N, fun c => (dats m 0 c).arrAt 6 cfg0.N, θ_run_mono (Cert.AdamwFinalIdeal.Value.run_blocks m g) fun r h c => h c, θ_run_mono (Cert.AdamwFinalRefIdeal.Value.run m' g') fun r h c => ?_⟩
  obtain ⟨h0, h1, h2, hk⟩ := h c
  obtain ⟨a0, a1, a2, a3⟩ := hagree c
  have e0 := h0.trans (show _ = val_main_v24 (F := Ideal) (m' (c.tc.loc Cert.AdamwFinalRefIdeal.main_arg0)) (m' (c.tc.loc Cert.AdamwFinalRefIdeal.main_arg1)) (m' (c.tc.loc Cert.AdamwFinalRefIdeal.main_arg2)) (m' (c.tc.loc Cert.AdamwFinalRefIdeal.main_arg3)) from rfl)
  rw [a0, a1, a2, a3] at e0
  have e1 := h1.trans (show _ = val_main_v25 (F := Ideal) (m' (c.tc.loc Cert.AdamwFinalRefIdeal.main_arg1)) (m' (c.tc.loc Cert.AdamwFinalRefIdeal.main_arg2)) from rfl)
  rw [a1, a2] at e1
  have e2 := h2.trans (show _ = val_main_v26 (F := Ideal) (m' (c.tc.loc Cert.AdamwFinalRefIdeal.main_arg1)) (m' (c.tc.loc Cert.AdamwFinalRefIdeal.main_arg3)) from rfl)
  rw [a1, a3] at e2
  exact ⟨e0.trans (result4 m c).symm, e1.trans (result5 m c).symm, e2.trans (result6 m c).symm, hk⟩

end Cert.UpdateFinal

end
-- ==== Proof.UpdateGateBias.lean ====
/- The value of AdamwGateBias: the optimiser's three results at each element. -/
module

public import proofs.«01_k».proof.Proof.Gen.AdamwGateBiasIdeal.Value
public import proofs.«01_k».proof.Proof.Gen.AdamwGateBiasRefIdeal.Run
public import proofs.«01_k».proof.Proof.Gen.AdamwGateBiasRefIdeal.Read
public import proofs.«01_k».proof.Proof.Common
public import proofs.«01_k».proof.Proof.Debias

@[expose] public section

set_option maxRecDepth 16384

noncomputable section

namespace Cert.UpdateGateBias

open Idealize.ShloMosaic Idealize.ShloMosaic.TcCoe Idealize.SL.Sem
open Cert.AdamwGateBiasIdeal Cert.AdamwGateBiasIdeal.Gen
open Cert.AdamwGateBiasRefIdeal.Read

variable (m : (ℓ : Loc nD τ sig) → Buf (Elt Ideal) ℓ) (c : Dev nD)

/-- The two ledger entries: each named constant rounds to the kernel's word. -/
theorem preserves : Cert.preserves_AdamwGateBias_AdamwGateBiasIdeal :=
  ⟨IdealRules.named_const.statement Cert.AdamwGateBiasIdeal.κ "debias_m" .f32 0x3FC48605#32 ((8388608 / 5463681 : ℝ) : EReal) rfl,
   IdealRules.named_const.statement Cert.AdamwGateBiasIdeal.κ "debias_v" .f32 0x42C8E6D3#32 ((268435456 / 2672307 : ℝ) : EReal) rfl⟩

theorem named_m : Named.named (F := Ideal) Cert.AdamwGateBiasIdeal.κ "debias_m" (φ := .f32) 0x3FC48605#32 = ((8388608 / 5463681 : ℝ) : EReal) :=
  IdealRules.named_const.ideal_named_scalar _ _ _ _ rfl

theorem named_v : Named.named (F := Ideal) Cert.AdamwGateBiasIdeal.κ "debias_v" (φ := .f32) 0x42C8E6D3#32 = ((268435456 / 2672307 : ℝ) : EReal) :=
  IdealRules.named_const.ideal_named_scalar _ _ _ _ rfl

/-- Where the windows stand at the one point of the grid. -/
theorem places : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

variable (t : Fin cfg0.N)

theorem rd0 (a : Fin 2) (b : Fin 512) : iblk m c 0 t (ix3 0 a b) = ((m (c.tc.loc main_arg0)) : FVec Ideal S2x512 .f32) (ix2 a b) := by
  blk_simp [iblk]
  entry_read
  pointwise
  blk_point [places t]

theorem rd1 (a : Fin 2) (b : Fin 512) : iblk m c 1 t (ix3 0 a b) = ((m (c.tc.loc main_arg1)) : FVec Ideal S2x512 .f32) (ix2 a b) := by
  blk_simp [iblk]
  entry_read
  pointwise
  blk_point [places t]

theorem rd2 (a : Fin 2) (b : Fin 512) : iblk m c 2 t (ix3 0 a b) = ((m (c.tc.loc main_arg2)) : FVec Ideal S2x512 .f32) (ix2 a b) := by
  blk_simp [iblk]
  entry_read
  pointwise
  blk_point [places t]

theorem rd3 (a : Fin 2) (b : Fin 512) : iblk m c 3 t (ix3 0 a b) = ((m (c.tc.loc main_arg3)) : FVec Ideal S2x512 .f32) (ix2 a b) := by
  blk_simp [iblk]
  entry_read
  pointwise
  blk_point [places t]

theorem pay4 (a : Fin 2) (b : Fin 512) : k0_pay4 (F := Ideal) (iblk m c 0 t) (iblk m c 1 t) (iblk m c 2 t) (iblk m c 3 t) (ix3 0 a b) = val_main_v24 (F := Ideal) (m (c.tc.loc main_arg0)) (m (c.tc.loc main_arg1)) (m (c.tc.loc main_arg2)) (m (c.tc.loc main_arg3)) (ix3 0 a b) := by
  pointwise [k0_pay4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb4 (y : S1x2x512.Idx) : ((cfg0.win 4).blk t).view.emb y = ix3 0 (y 1) (y 2) := by
  blk_ext [places t]

theorem result4 : (dats m 0 c).arrAt 4 (cfgs 0).N = val_main_v24 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  refine (?_ : _ = _).trans (congrArg _ (emb4 t y)).symm
  blk_simp
  rw [after0_4]
  frame_out
  exact (congrArg _ ((eq_ix3 (n0 := 1) (n1 := 2) (n2 := 512) y).trans (congrArg (fun k => ix3 k (y 1) (y 2)) (Subsingleton.elim (α := Fin 1) (y 0) 0)))).trans (pay4 m c t (y 1) (y 2))

theorem pay5 (a : Fin 2) (b : Fin 512) : k0_pay2 (F := Ideal) (iblk m c 1 t) (iblk m c 2 t) (ix3 0 a b) = val_main_v25 (F := Ideal) (m (c.tc.loc main_arg1)) (m (c.tc.loc main_arg2)) (ix3 0 a b) := by
  pointwise [k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb5 (y : S1x2x512.Idx) : ((cfg0.win 5).blk t).view.emb y = ix3 0 (y 1) (y 2) := by
  blk_ext [places t]

theorem result5 : (dats m 0 c).arrAt 5 (cfgs 0).N = val_main_v25 (F := Ideal) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ ((eq_ix3 (n0 := 1) (n1 := 2) (n2 := 512) y).trans (congrArg (fun k => ix3 k (y 1) (y 2)) (Subsingleton.elim (α := Fin 1) (y 0) 0)))).trans (pay5 m c t (y 1) (y 2))

theorem pay6 (a : Fin 2) (b : Fin 512) : k0_pay3 (F := Ideal) (iblk m c 1 t) (iblk m c 3 t) (ix3 0 a b) = val_main_v26 (F := Ideal) (m (c.tc.loc main_arg1)) (m (c.tc.loc main_arg3)) (ix3 0 a b) := by
  pointwise [k0_pay3, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb6 (y : S1x2x512.Idx) : ((cfg0.win 6).blk t).view.emb y = ix3 0 (y 1) (y 2) := by
  blk_ext [places t]

theorem result6 : (dats m 0 c).arrAt 6 (cfgs 0).N = val_main_v26 (F := Ideal) (m (c.tc.loc main_arg1)) (m (c.tc.loc main_arg3)) := by
  refine (dats m 0 c).arrAt_eq_of_covers 6 _ (by decide +kernel) fun t _ y => ?_
  refine (?_ : _ = _).trans (congrArg _ (emb6 t y)).symm
  blk_simp
  rw [after0_6]
  frame_out
  exact (congrArg _ ((eq_ix3 (n0 := 1) (n1 := 2) (n2 := 512) y).trans (congrArg (fun k => ix3 k (y 1) (y 2)) (Subsingleton.elim (α := Fin 1) (y 0) 0)))).trans (pay6 m c t (y 1) (y 2))

theorem holds : Cert.algebraic_AdamwGateBiasIdeal_AdamwGateBiasRefIdeal := by
  intro m g m' g' _ hagree
  refine ⟨fun c => (dats m 0 c).arrAt 4 cfg0.N, fun c => (dats m 0 c).arrAt 5 cfg0.N, fun c => (dats m 0 c).arrAt 6 cfg0.N, θ_run_mono (Cert.AdamwGateBiasIdeal.Value.run_blocks m g) fun r h c => h c, θ_run_mono (Cert.AdamwGateBiasRefIdeal.Value.run m' g') fun r h c => ?_⟩
  obtain ⟨h0, h1, h2, hk⟩ := h c
  obtain ⟨a0, a1, a2, a3⟩ := hagree c
  have e0 := h0.trans (show _ = val_main_v24 (F := Ideal) (m' (c.tc.loc Cert.AdamwGateBiasRefIdeal.main_arg0)) (m' (c.tc.loc Cert.AdamwGateBiasRefIdeal.main_arg1)) (m' (c.tc.loc Cert.AdamwGateBiasRefIdeal.main_arg2)) (m' (c.tc.loc Cert.AdamwGateBiasRefIdeal.main_arg3)) from rfl)
  rw [a0, a1, a2, a3] at e0
  have e1 := h1.trans (show _ = val_main_v25 (F := Ideal) (m' (c.tc.loc Cert.AdamwGateBiasRefIdeal.main_arg1)) (m' (c.tc.loc Cert.AdamwGateBiasRefIdeal.main_arg2)) from rfl)
  rw [a1, a2] at e1
  have e2 := h2.trans (show _ = val_main_v26 (F := Ideal) (m' (c.tc.loc Cert.AdamwGateBiasRefIdeal.main_arg1)) (m' (c.tc.loc Cert.AdamwGateBiasRefIdeal.main_arg3)) from rfl)
  rw [a1, a3] at e2
  exact ⟨e0.trans (result4 m c).symm, e1.trans (result5 m c).symm, e2.trans (result6 m c).symm, hk⟩

end Cert.UpdateGateBias

end
-- ==== Proof.UpdateGlaNorm.lean ====
/- The value of AdamwGlaNorm: the optimiser's three results at each element. -/
module

public import proofs.«01_k».proof.Proof.Gen.AdamwGlaNormIdeal.Value
public import proofs.«01_k».proof.Proof.Gen.AdamwGlaNormRefIdeal.Run
public import proofs.«01_k».proof.Proof.Gen.AdamwGlaNormRefIdeal.Read
public import proofs.«01_k».proof.Proof.Common
public import proofs.«01_k».proof.Proof.Debias

@[expose] public section

set_option maxRecDepth 16384

noncomputable section

namespace Cert.UpdateGlaNorm

open Idealize.ShloMosaic Idealize.ShloMosaic.TcCoe Idealize.SL.Sem
open Cert.AdamwGlaNormIdeal Cert.AdamwGlaNormIdeal.Gen
open Cert.AdamwGlaNormRefIdeal.Read

variable (m : (ℓ : Loc nD τ sig) → Buf (Elt Ideal) ℓ) (c : Dev nD)

/-- The two ledger entries: each named constant rounds to the kernel's word. -/
theorem preserves : Cert.preserves_AdamwGlaNorm_AdamwGlaNormIdeal :=
  ⟨IdealRules.named_const.statement Cert.AdamwGlaNormIdeal.κ "debias_m" .f32 0x3FC48605#32 ((8388608 / 5463681 : ℝ) : EReal) rfl,
   IdealRules.named_const.statement Cert.AdamwGlaNormIdeal.κ "debias_v" .f32 0x42C8E6D3#32 ((268435456 / 2672307 : ℝ) : EReal) rfl⟩

theorem named_m : Named.named (F := Ideal) Cert.AdamwGlaNormIdeal.κ "debias_m" (φ := .f32) 0x3FC48605#32 = ((8388608 / 5463681 : ℝ) : EReal) :=
  IdealRules.named_const.ideal_named_scalar _ _ _ _ rfl

theorem named_v : Named.named (F := Ideal) Cert.AdamwGlaNormIdeal.κ "debias_v" (φ := .f32) 0x42C8E6D3#32 = ((268435456 / 2672307 : ℝ) : EReal) :=
  IdealRules.named_const.ideal_named_scalar _ _ _ _ rfl

/-- Where the windows stand at the one point of the grid. -/
theorem places : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

variable (t : Fin cfg0.N)

theorem rd0 (a : Fin 2) (b : Fin 256) : iblk m c 0 t (ix3 0 a b) = ((m (c.tc.loc main_arg0)) : FVec Ideal S2x256 .f32) (ix2 a b) := by
  blk_simp [iblk]
  entry_read
  pointwise
  blk_point [places t]

theorem rd1 (a : Fin 2) (b : Fin 256) : iblk m c 1 t (ix3 0 a b) = ((m (c.tc.loc main_arg1)) : FVec Ideal S2x256 .f32) (ix2 a b) := by
  blk_simp [iblk]
  entry_read
  pointwise
  blk_point [places t]

theorem rd2 (a : Fin 2) (b : Fin 256) : iblk m c 2 t (ix3 0 a b) = ((m (c.tc.loc main_arg2)) : FVec Ideal S2x256 .f32) (ix2 a b) := by
  blk_simp [iblk]
  entry_read
  pointwise
  blk_point [places t]

theorem rd3 (a : Fin 2) (b : Fin 256) : iblk m c 3 t (ix3 0 a b) = ((m (c.tc.loc main_arg3)) : FVec Ideal S2x256 .f32) (ix2 a b) := by
  blk_simp [iblk]
  entry_read
  pointwise
  blk_point [places t]

theorem pay4 (a : Fin 2) (b : Fin 256) : k0_pay4 (F := Ideal) (iblk m c 0 t) (iblk m c 1 t) (iblk m c 2 t) (iblk m c 3 t) (ix3 0 a b) = val_main_v24 (F := Ideal) (m (c.tc.loc main_arg0)) (m (c.tc.loc main_arg1)) (m (c.tc.loc main_arg2)) (m (c.tc.loc main_arg3)) (ix3 0 a b) := by
  pointwise [k0_pay4, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb4 (y : S1x2x256.Idx) : ((cfg0.win 4).blk t).view.emb y = ix3 0 (y 1) (y 2) := by
  blk_ext [places t]

theorem result4 : (dats m 0 c).arrAt 4 (cfgs 0).N = val_main_v24 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  refine (?_ : _ = _).trans (congrArg _ (emb4 t y)).symm
  blk_simp
  rw [after0_4]
  frame_out
  exact (congrArg _ ((eq_ix3 (n0 := 1) (n1 := 2) (n2 := 256) y).trans (congrArg (fun k => ix3 k (y 1) (y 2)) (Subsingleton.elim (α := Fin 1) (y 0) 0)))).trans (pay4 m c t (y 1) (y 2))

theorem pay5 (a : Fin 2) (b : Fin 256) : k0_pay2 (F := Ideal) (iblk m c 1 t) (iblk m c 2 t) (ix3 0 a b) = val_main_v25 (F := Ideal) (m (c.tc.loc main_arg1)) (m (c.tc.loc main_arg2)) (ix3 0 a b) := by
  pointwise [k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb5 (y : S1x2x256.Idx) : ((cfg0.win 5).blk t).view.emb y = ix3 0 (y 1) (y 2) := by
  blk_ext [places t]

theorem result5 : (dats m 0 c).arrAt 5 (cfgs 0).N = val_main_v25 (F := Ideal) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ ((eq_ix3 (n0 := 1) (n1 := 2) (n2 := 256) y).trans (congrArg (fun k => ix3 k (y 1) (y 2)) (Subsingleton.elim (α := Fin 1) (y 0) 0)))).trans (pay5 m c t (y 1) (y 2))

theorem pay6 (a : Fin 2) (b : Fin 256) : k0_pay3 (F := Ideal) (iblk m c 1 t) (iblk m c 3 t) (ix3 0 a b) = val_main_v26 (F := Ideal) (m (c.tc.loc main_arg1)) (m (c.tc.loc main_arg3)) (ix3 0 a b) := by
  pointwise [k0_pay3, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, rd0, rd1, rd2, rd3, named_m, named_v, Debias.div_m, Debias.div_v]

theorem emb6 (y : S1x2x256.Idx) : ((cfg0.win 6).blk t).view.emb y = ix3 0 (y 1) (y 2) := by
  blk_ext [places t]

theorem result6 : (dats m 0 c).arrAt 6 (cfgs 0).N = val_main_v26 (F := Ideal) (m (c.tc.loc main_arg1)) (m (c.tc.loc main_arg3)) := by
  refine (dats m 0 c).arrAt_eq_of_covers 6 _ (by decide +kernel) fun t _ y => ?_
  refine (?_ : _ = _).trans (congrArg _ (emb6 t y)).symm
  blk_simp
  rw [after0_6]
  frame_out
  exact (congrArg _ ((eq_ix3 (n0 := 1) (n1 := 2) (n2 := 256) y).trans (congrArg (fun k => ix3 k (y 1) (y 2)) (Subsingleton.elim (α := Fin 1) (y 0) 0)))).trans (pay6 m c t (y 1) (y 2))

theorem holds : Cert.algebraic_AdamwGlaNormIdeal_AdamwGlaNormRefIdeal := by
  intro m g m' g' _ hagree
  refine ⟨fun c => (dats m 0 c).arrAt 4 cfg0.N, fun c => (dats m 0 c).arrAt 5 cfg0.N, fun c => (dats m 0 c).arrAt 6 cfg0.N, θ_run_mono (Cert.AdamwGlaNormIdeal.Value.run_blocks m g) fun r h c => h c, θ_run_mono (Cert.AdamwGlaNormRefIdeal.Value.run m' g') fun r h c => ?_⟩
  obtain ⟨h0, h1, h2, hk⟩ := h c
  obtain ⟨a0, a1, a2, a3⟩ := hagree c
  have e0 := h0.trans (show _ = val_main_v24 (F := Ideal) (m' (c.tc.loc Cert.AdamwGlaNormRefIdeal.main_arg0)) (m' (c.tc.loc Cert.AdamwGlaNormRefIdeal.main_arg1)) (m' (c.tc.loc Cert.AdamwGlaNormRefIdeal.main_arg2)) (m' (c.tc.loc Cert.AdamwGlaNormRefIdeal.main_arg3)) from rfl)
  rw [a0, a1, a2, a3] at e0
  have e1 := h1.trans (show _ = val_main_v25 (F := Ideal) (m' (c.tc.loc Cert.AdamwGlaNormRefIdeal.main_arg1)) (m' (c.tc.loc Cert.AdamwGlaNormRefIdeal.main_arg2)) from rfl)
  rw [a1, a2] at e1
  have e2 := h2.trans (show _ = val_main_v26 (F := Ideal) (m' (c.tc.loc Cert.AdamwGlaNormRefIdeal.main_arg1)) (m' (c.tc.loc Cert.AdamwGlaNormRefIdeal.main_arg3)) from rfl)
  rw [a1, a3] at e2
  exact ⟨e0.trans (result4 m c).symm, e1.trans (result5 m c).symm, e2.trans (result6 m c).symm, hk⟩

end Cert.UpdateGlaNorm

end
-- ==== Proof.UpdateConv.lean ====
/- The value of AdamwConv: the optimiser's three results at each element. -/
module

public import proofs.«01_k».proof.Proof.Gen.AdamwConvIdeal.Value
public import proofs.«01_k».proof.Proof.Gen.AdamwConvRefIdeal.Run
public import proofs.«01_k».proof.Proof.Gen.AdamwConvRefIdeal.Read
public import proofs.«01_k».proof.Proof.Common
public import proofs.«01_k».proof.Proof.Debias

@[expose] public section

set_option maxRecDepth 16384

noncomputable section

namespace Cert.UpdateConv

open Idealize.ShloMosaic Idealize.ShloMosaic.TcCoe Idealize.SL.Sem
open Cert.AdamwConvIdeal Cert.AdamwConvIdeal.Gen
open Cert.AdamwConvRefIdeal.Read

variable (m : (ℓ : Loc nD τ sig) → Buf (Elt Ideal) ℓ) (c : Dev nD)

/-- The two ledger entries: each named constant rounds to the kernel's word. -/
theorem preserves : Cert.preserves_AdamwConv_AdamwConvIdeal :=
  ⟨IdealRules.named_const.statement Cert.AdamwConvIdeal.κ "debias_m" .f32 0x3FC48605#32 ((8388608 / 5463681 : ℝ) : EReal) rfl,
   IdealRules.named_const.statement Cert.AdamwConvIdeal.κ "debias_v" .f32 0x42C8E6D3#32 ((268435456 / 2672307 : ℝ) : EReal) rfl⟩

theorem named_m : Named.named (F := Ideal) Cert.AdamwConvIdeal.κ "debias_m" (φ := .f32) 0x3FC48605#32 = ((8388608 / 5463681 : ℝ) : EReal) :=
  IdealRules.named_const.ideal_named_scalar _ _ _ _ rfl

theorem named_v : Named.named (F := Ideal) Cert.AdamwConvIdeal.κ "debias_v" (φ := .f32) 0x42C8E6D3#32 = ((268435456 / 2672307 : ℝ) : EReal) :=
  IdealRules.named_const.ideal_named_scalar _ _ _ _ rfl

/-- Where the windows stand at each point of the grid. -/
theorem places : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The layer of a point of the grid. -/
def slot (t : Fin cfg0.N) : Fin 2 := ⟨t.val, lt_of_lt_of_eq t.isLt N_0⟩

variable (t : Fin cfg0.N)

theorem rd0 (a : Fin 3) (b : Fin 256) : iblk m c 0 t (ix3 0 a b) = ((m (c.tc.loc main_arg0)) : FVec Ideal S2x3x256 .f32) (ix3 (slot t) a b) := by
  blk_simp [iblk]
  rw [V_main_arg0]
  blk_point [slot, places t]

theorem rd1 (a : Fin 3) (b : Fin 256) : iblk m c 1 t (ix3 0 a b) = ((m (c.tc.loc main_arg1)) : FVec Ideal S2x3x256 .f32) (ix3 (slot t) a b) := by
  blk_simp [iblk]
  rw [V_main_arg1]
  blk_point [slot, places t]

theorem rd2 (a : Fin 3) (b : Fin 256) : iblk m c 2 t (ix3 0 a b) = ((m (c.tc.loc main_arg2)) : FVec Ideal S2x3x256 .f32) (ix3 (slot t) a b) := by
  blk_simp [iblk]
  rw [V_main_arg2]
  blk_point [slot, places t]

theorem rd3 (a : Fin 3) (b : Fin 256) : iblk m c 3 t (ix3 0 a b) = ((m (c.tc.loc main_arg3)) : FVec Ideal S2x3x256 .f32) (ix3 (slot t) a b) := by
  blk_simp [iblk]
  rw [V_main_arg3]
  blk_point [slot, places t]

theorem pay4 (a : Fin 3) (b : Fin 256) : k0_pay3 (F := Ideal) (iblk m c 0 t) (iblk m c 1 t) (iblk m c 2 t) (iblk m c 3 t) (ix3 0 a b) = val_main_v23 (F := Ideal) (m (c.tc.loc main_arg0)) (m (c.tc.loc main_arg1)) (m (c.tc.loc main_arg2)) (m (c.tc.loc main_arg3)) (ix3 (slot t) a b) := by
  pointwise [k0_pay3, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, rd0, rd1, rd2, rd3, named_m, named_v, Debias.div_m, Debias.div_v]

theorem emb4 (y : S1x3x256.Idx) : ((cfg0.win 4).blk t).view.emb y = ix3 (slot t) (y 1) (y 2) := by
  blk_ext [slot, places t]

theorem result4 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  refine (?_ : _ = _).trans (congrArg _ (emb4 t y)).symm
  blk_simp
  rw [after0_4]
  frame_out
  exact (congrArg _ ((eq_ix3 (n0 := 1) (n1 := 3) (n2 := 256) y).trans (congrArg (fun k => ix3 k (y 1) (y 2)) (Subsingleton.elim (α := Fin 1) (y 0) 0)))).trans (pay4 m c t (y 1) (y 2))

theorem pay5 (a : Fin 3) (b : Fin 256) : k0_pay1 (F := Ideal) (iblk m c 1 t) (iblk m c 2 t) (ix3 0 a b) = val_main_v4 (F := Ideal) (m (c.tc.loc main_arg1)) (m (c.tc.loc main_arg2)) (ix3 (slot t) a b) := by
  pointwise [k0_pay1, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, rd0, rd1, rd2, rd3, named_m, named_v, Debias.div_m, Debias.div_v]

theorem emb5 (y : S1x3x256.Idx) : ((cfg0.win 5).blk t).view.emb y = ix3 (slot t) (y 1) (y 2) := by
  blk_ext [slot, places t]

theorem result5 : (dats m 0 c).arrAt 5 (cfgs 0).N = val_main_v4 (F := Ideal) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ ((eq_ix3 (n0 := 1) (n1 := 3) (n2 := 256) y).trans (congrArg (fun k => ix3 k (y 1) (y 2)) (Subsingleton.elim (α := Fin 1) (y 0) 0)))).trans (pay5 m c t (y 1) (y 2))

theorem pay6 (a : Fin 3) (b : Fin 256) : k0_pay2 (F := Ideal) (iblk m c 1 t) (iblk m c 3 t) (ix3 0 a b) = val_main_v10 (F := Ideal) (m (c.tc.loc main_arg1)) (m (c.tc.loc main_arg3)) (ix3 (slot t) a b) := by
  pointwise [k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, rd0, rd1, rd2, rd3, named_m, named_v, Debias.div_m, Debias.div_v]

theorem emb6 (y : S1x3x256.Idx) : ((cfg0.win 6).blk t).view.emb y = ix3 (slot t) (y 1) (y 2) := by
  blk_ext [slot, places t]

theorem result6 : (dats m 0 c).arrAt 6 (cfgs 0).N = val_main_v10 (F := Ideal) (m (c.tc.loc main_arg1)) (m (c.tc.loc main_arg3)) := by
  refine (dats m 0 c).arrAt_eq_of_covers 6 _ (by decide +kernel) fun t _ y => ?_
  refine (?_ : _ = _).trans (congrArg _ (emb6 t y)).symm
  blk_simp
  rw [after0_6]
  frame_out
  exact (congrArg _ ((eq_ix3 (n0 := 1) (n1 := 3) (n2 := 256) y).trans (congrArg (fun k => ix3 k (y 1) (y 2)) (Subsingleton.elim (α := Fin 1) (y 0) 0)))).trans (pay6 m c t (y 1) (y 2))

theorem holds : Cert.algebraic_AdamwConvIdeal_AdamwConvRefIdeal := by
  intro m g m' g' _ hagree
  refine ⟨fun c => (dats m 0 c).arrAt 4 cfg0.N, fun c => (dats m 0 c).arrAt 5 cfg0.N, fun c => (dats m 0 c).arrAt 6 cfg0.N, θ_run_mono (Cert.AdamwConvIdeal.Value.run_blocks m g) fun r h c => h c, θ_run_mono (Cert.AdamwConvRefIdeal.Value.run m' g') fun r h c => ?_⟩
  obtain ⟨h0, h1, h2, hk⟩ := h c
  obtain ⟨a0, a1, a2, a3⟩ := hagree c
  have e0 := h0.trans (show _ = val_main_v23 (F := Ideal) (m' (c.tc.loc Cert.AdamwConvRefIdeal.main_arg0)) (m' (c.tc.loc Cert.AdamwConvRefIdeal.main_arg1)) (m' (c.tc.loc Cert.AdamwConvRefIdeal.main_arg2)) (m' (c.tc.loc Cert.AdamwConvRefIdeal.main_arg3)) from rfl)
  rw [a0, a1, a2, a3] at e0
  have e1 := h1.trans (show _ = val_main_v4 (F := Ideal) (m' (c.tc.loc Cert.AdamwConvRefIdeal.main_arg1)) (m' (c.tc.loc Cert.AdamwConvRefIdeal.main_arg2)) from rfl)
  rw [a1, a2] at e1
  have e2 := h2.trans (show _ = val_main_v10 (F := Ideal) (m' (c.tc.loc Cert.AdamwConvRefIdeal.main_arg1)) (m' (c.tc.loc Cert.AdamwConvRefIdeal.main_arg3)) from rfl)
  rw [a1, a3] at e2
  exact ⟨e0.trans (result4 m c).symm, e1.trans (result5 m c).symm, e2.trans (result6 m c).symm, hk⟩

end Cert.UpdateConv

end
-- ==== Proof.UpdateGateRank.lean ====
/- The value of AdamwGateRank: the optimiser's three results at each element. -/
module

public import proofs.«01_k».proof.Proof.Gen.AdamwGateRankIdeal.Value
public import proofs.«01_k».proof.Proof.Gen.AdamwGateRankRefIdeal.Run
public import proofs.«01_k».proof.Proof.Gen.AdamwGateRankRefIdeal.Read
public import proofs.«01_k».proof.Proof.Common
public import proofs.«01_k».proof.Proof.Debias

@[expose] public section

set_option maxRecDepth 16384

noncomputable section

namespace Cert.UpdateGateRank

open Idealize.ShloMosaic Idealize.ShloMosaic.TcCoe Idealize.SL.Sem
open Cert.AdamwGateRankIdeal Cert.AdamwGateRankIdeal.Gen
open Cert.AdamwGateRankRefIdeal.Read

variable (m : (ℓ : Loc nD τ sig) → Buf (Elt Ideal) ℓ) (c : Dev nD)

/-- The two ledger entries: each named constant rounds to the kernel's word. -/
theorem preserves : Cert.preserves_AdamwGateRank_AdamwGateRankIdeal :=
  ⟨IdealRules.named_const.statement Cert.AdamwGateRankIdeal.κ "debias_m" .f32 0x3FC48605#32 ((8388608 / 5463681 : ℝ) : EReal) rfl,
   IdealRules.named_const.statement Cert.AdamwGateRankIdeal.κ "debias_v" .f32 0x42C8E6D3#32 ((268435456 / 2672307 : ℝ) : EReal) rfl⟩

theorem named_m : Named.named (F := Ideal) Cert.AdamwGateRankIdeal.κ "debias_m" (φ := .f32) 0x3FC48605#32 = ((8388608 / 5463681 : ℝ) : EReal) :=
  IdealRules.named_const.ideal_named_scalar _ _ _ _ rfl

theorem named_v : Named.named (F := Ideal) Cert.AdamwGateRankIdeal.κ "debias_v" (φ := .f32) 0x42C8E6D3#32 = ((268435456 / 2672307 : ℝ) : EReal) :=
  IdealRules.named_const.ideal_named_scalar _ _ _ _ rfl

/-- Where the windows stand at each point of the grid. -/
theorem places : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The layer of a point of the grid. -/
def slot (t : Fin cfg0.N) : Fin 2 := ⟨t.val, lt_of_lt_of_eq t.isLt N_0⟩

variable (t : Fin cfg0.N)

theorem rd0 (a : Fin 16) (b : Fin 128) : iblk m c 0 t (ix3 0 a b) = ((m (c.tc.loc main_arg0)) : FVec Ideal S2x16x128 .f32) (ix3 (slot t) a b) := by
  blk_simp [iblk]
  rw [V_main_arg0]
  blk_point [slot, places t]

theorem rd1 (a : Fin 16) (b : Fin 128) : iblk m c 1 t (ix3 0 a b) = ((m (c.tc.loc main_arg1)) : FVec Ideal S2x16x128 .f32) (ix3 (slot t) a b) := by
  blk_simp [iblk]
  rw [V_main_arg1]
  blk_point [slot, places t]

theorem rd2 (a : Fin 16) (b : Fin 128) : iblk m c 2 t (ix3 0 a b) = ((m (c.tc.loc main_arg2)) : FVec Ideal S2x16x128 .f32) (ix3 (slot t) a b) := by
  blk_simp [iblk]
  rw [V_main_arg2]
  blk_point [slot, places t]

theorem rd3 (a : Fin 16) (b : Fin 128) : iblk m c 3 t (ix3 0 a b) = ((m (c.tc.loc main_arg3)) : FVec Ideal S2x16x128 .f32) (ix3 (slot t) a b) := by
  blk_simp [iblk]
  rw [V_main_arg3]
  blk_point [slot, places t]

theorem pay4 (a : Fin 16) (b : Fin 128) : k0_pay3 (F := Ideal) (iblk m c 0 t) (iblk m c 1 t) (iblk m c 2 t) (iblk m c 3 t) (ix3 0 a b) = val_main_v23 (F := Ideal) (m (c.tc.loc main_arg0)) (m (c.tc.loc main_arg1)) (m (c.tc.loc main_arg2)) (m (c.tc.loc main_arg3)) (ix3 (slot t) a b) := by
  pointwise [k0_pay3, k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, rd0, rd1, rd2, rd3, named_m, named_v, Debias.div_m, Debias.div_v]

theorem emb4 (y : S1x16x128.Idx) : ((cfg0.win 4).blk t).view.emb y = ix3 (slot t) (y 1) (y 2) := by
  blk_ext [slot, places t]

theorem result4 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  refine (?_ : _ = _).trans (congrArg _ (emb4 t y)).symm
  blk_simp
  rw [after0_4]
  frame_out
  exact (congrArg _ ((eq_ix3 (n0 := 1) (n1 := 16) (n2 := 128) y).trans (congrArg (fun k => ix3 k (y 1) (y 2)) (Subsingleton.elim (α := Fin 1) (y 0) 0)))).trans (pay4 m c t (y 1) (y 2))

theorem pay5 (a : Fin 16) (b : Fin 128) : k0_pay1 (F := Ideal) (iblk m c 1 t) (iblk m c 2 t) (ix3 0 a b) = val_main_v4 (F := Ideal) (m (c.tc.loc main_arg1)) (m (c.tc.loc main_arg2)) (ix3 (slot t) a b) := by
  pointwise [k0_pay1, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, rd0, rd1, rd2, rd3, named_m, named_v, Debias.div_m, Debias.div_v]

theorem emb5 (y : S1x16x128.Idx) : ((cfg0.win 5).blk t).view.emb y = ix3 (slot t) (y 1) (y 2) := by
  blk_ext [slot, places t]

theorem result5 : (dats m 0 c).arrAt 5 (cfgs 0).N = val_main_v4 (F := Ideal) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ ((eq_ix3 (n0 := 1) (n1 := 16) (n2 := 128) y).trans (congrArg (fun k => ix3 k (y 1) (y 2)) (Subsingleton.elim (α := Fin 1) (y 0) 0)))).trans (pay5 m c t (y 1) (y 2))

theorem pay6 (a : Fin 16) (b : Fin 128) : k0_pay2 (F := Ideal) (iblk m c 1 t) (iblk m c 3 t) (ix3 0 a b) = val_main_v10 (F := Ideal) (m (c.tc.loc main_arg1)) (m (c.tc.loc main_arg3)) (ix3 (slot t) a b) := by
  pointwise [k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, rd0, rd1, rd2, rd3, named_m, named_v, Debias.div_m, Debias.div_v]

theorem emb6 (y : S1x16x128.Idx) : ((cfg0.win 6).blk t).view.emb y = ix3 (slot t) (y 1) (y 2) := by
  blk_ext [slot, places t]

theorem result6 : (dats m 0 c).arrAt 6 (cfgs 0).N = val_main_v10 (F := Ideal) (m (c.tc.loc main_arg1)) (m (c.tc.loc main_arg3)) := by
  refine (dats m 0 c).arrAt_eq_of_covers 6 _ (by decide +kernel) fun t _ y => ?_
  refine (?_ : _ = _).trans (congrArg _ (emb6 t y)).symm
  blk_simp
  rw [after0_6]
  frame_out
  exact (congrArg _ ((eq_ix3 (n0 := 1) (n1 := 16) (n2 := 128) y).trans (congrArg (fun k => ix3 k (y 1) (y 2)) (Subsingleton.elim (α := Fin 1) (y 0) 0)))).trans (pay6 m c t (y 1) (y 2))

theorem holds : Cert.algebraic_AdamwGateRankIdeal_AdamwGateRankRefIdeal := by
  intro m g m' g' _ hagree
  refine ⟨fun c => (dats m 0 c).arrAt 4 cfg0.N, fun c => (dats m 0 c).arrAt 5 cfg0.N, fun c => (dats m 0 c).arrAt 6 cfg0.N, θ_run_mono (Cert.AdamwGateRankIdeal.Value.run_blocks m g) fun r h c => h c, θ_run_mono (Cert.AdamwGateRankRefIdeal.Value.run m' g') fun r h c => ?_⟩
  obtain ⟨h0, h1, h2, hk⟩ := h c
  obtain ⟨a0, a1, a2, a3⟩ := hagree c
  have e0 := h0.trans (show _ = val_main_v23 (F := Ideal) (m' (c.tc.loc Cert.AdamwGateRankRefIdeal.main_arg0)) (m' (c.tc.loc Cert.AdamwGateRankRefIdeal.main_arg1)) (m' (c.tc.loc Cert.AdamwGateRankRefIdeal.main_arg2)) (m' (c.tc.loc Cert.AdamwGateRankRefIdeal.main_arg3)) from rfl)
  rw [a0, a1, a2, a3] at e0
  have e1 := h1.trans (show _ = val_main_v4 (F := Ideal) (m' (c.tc.loc Cert.AdamwGateRankRefIdeal.main_arg1)) (m' (c.tc.loc Cert.AdamwGateRankRefIdeal.main_arg2)) from rfl)
  rw [a1, a2] at e1
  have e2 := h2.trans (show _ = val_main_v10 (F := Ideal) (m' (c.tc.loc Cert.AdamwGateRankRefIdeal.main_arg1)) (m' (c.tc.loc Cert.AdamwGateRankRefIdeal.main_arg3)) from rfl)
  rw [a1, a3] at e2
  exact ⟨e0.trans (result4 m c).symm, e1.trans (result5 m c).symm, e2.trans (result6 m c).symm, hk⟩

end Cert.UpdateGateRank

end
-- ==== Proof.UpdateMixer.lean ====
/- The value of AdamwMixer: the optimiser's three results at each element. -/
module

public import proofs.«01_k».proof.Proof.Gen.AdamwMixerIdeal.Value
public import proofs.«01_k».proof.Proof.Gen.AdamwMixerRefIdeal.Run
public import proofs.«01_k».proof.Proof.Gen.AdamwMixerRefIdeal.Read
public import proofs.«01_k».proof.Proof.Common
public import proofs.«01_k».proof.Proof.Debias

@[expose] public section

set_option maxRecDepth 16384

noncomputable section

namespace Cert.UpdateMixer

open Idealize.ShloMosaic Idealize.ShloMosaic.TcCoe Idealize.SL.Sem
open Cert.AdamwMixerIdeal Cert.AdamwMixerIdeal.Gen
open Cert.AdamwMixerRefIdeal.Read

variable (m : (ℓ : Loc nD τ sig) → Buf (Elt Ideal) ℓ) (c : Dev nD)

/-- The two ledger entries: each named constant rounds to the kernel's word. -/
theorem preserves : Cert.preserves_AdamwMixer_AdamwMixerIdeal :=
  ⟨IdealRules.named_const.statement Cert.AdamwMixerIdeal.κ "debias_m" .f32 0x3FC48605#32 ((8388608 / 5463681 : ℝ) : EReal) rfl,
   IdealRules.named_const.statement Cert.AdamwMixerIdeal.κ "debias_v" .f32 0x42C8E6D3#32 ((268435456 / 2672307 : ℝ) : EReal) rfl⟩

theorem named_m : Named.named (F := Ideal) Cert.AdamwMixerIdeal.κ "debias_m" (φ := .f32) 0x3FC48605#32 = ((8388608 / 5463681 : ℝ) : EReal) :=
  IdealRules.named_const.ideal_named_scalar _ _ _ _ rfl

theorem named_v : Named.named (F := Ideal) Cert.AdamwMixerIdeal.κ "debias_v" (φ := .f32) 0x42C8E6D3#32 = ((268435456 / 2672307 : ℝ) : EReal) :=
  IdealRules.named_const.ideal_named_scalar _ _ _ _ rfl

/-- Where the windows stand at each point of the grid. -/
theorem places : ∀ t : Fin cfg0.N, win0_0.index t = ![0, 0] ∧ win0_1.index t = ![t.val / 1, t.val % 1, 0] ∧ win0_2.index t = ![if t.val / 1 = 0 then t.val % 1 else 0, 0] ∧ win0_3.index t = ![if t.val / 1 = 0 then t.val % 1 else 0, 0] ∧ win0_4.index t = ![if t.val / 1 = 1 then t.val % 1 else 0, 0] ∧ win0_5.index t = ![if t.val / 1 = 1 then t.val % 1 else 0, 0] ∧ win0_6.index t = ![t.val / 1, t.val % 1, 0] ∧ win0_7.index t = ![t.val / 1, t.val % 1, 0] ∧ win0_8.index t = ![t.val / 1, t.val % 1, 0] ∧ win0_9.index t = ![t.val / 1, t.val % 1, 0] ∧ win0_10.index t = ![t.val / 1, t.val % 1, 0] ∧ win0_11.index t = ![t.val / 1, t.val % 1, 0] :=
  (by decide +kernel : ∀ t : Fin grid0.N, _)

/-- The first coordinate of a point of the grid is its layer. -/
theorem layer : ∀ t : Fin cfg0.N, (grid0.coords t 0).val = t.val / 1 :=
  (by decide +kernel : ∀ t : Fin grid0.N, _)

/-- The layer of a point of the grid. -/
def slot (t : Fin cfg0.N) : Fin 2 := ⟨t.val / 1, by have h := lt_of_lt_of_eq t.isLt N_0; omega⟩

/-- The row of the array at a row of a point's block. -/
def row (t : Fin cfg0.N) (a : Fin 256) : Fin 256 := ⟨t.val % 1 * 256 + a.val, by omega⟩

theorem slot_of (t : Fin cfg0.N) : slot t = 0 ∧ t.val / 1 = 0 ∨ slot t = 1 ∧ t.val / 1 = 1 := by
  have h := lt_of_lt_of_eq t.isLt N_0
  rcases (by omega : t.val / 1 = 0 ∨ t.val / 1 = 1) with e | e
  · exact Or.inl ⟨Fin.ext e, e⟩
  · exact Or.inr ⟨Fin.ext e, e⟩

theorem second (x y : EReal) : Scalar.select (Scalar.cmpi .eq 1#32 0#32) x y = y := rfl

section Reference

variable (x1 x2 x3 x4 : FVec Ideal S256x1024 .f32) (x5 : FVec Ideal S1x1 .f32) (a : Fin 256) (b : Fin 1024)

theorem ref_grad0 : val_main_v9 (F := Ideal) x1 x2 x3 x4 x5 (ix3 0 a b) = if Ideal.ofBits .f32 0x3F000000#32 < x5 (ix2 0 0) then x1 (ix2 a b) else x2 (ix2 a b) := by
  pointwise [val_main_v9, val_main_call0_v0, val_main_v2, val_main_v1, val_main_cst, val_main_v0, val_main_v5, val_main_v8, val_main_v3, val_main_v4, val_main_v6, val_main_v7]

theorem ref_grad1 : val_main_v9 (F := Ideal) x1 x2 x3 x4 x5 (ix3 1 a b) = if Ideal.ofBits .f32 0x3F000000#32 < x5 (ix2 0 0) then x4 (ix2 a b) else x3 (ix2 a b) := by
  pointwise [val_main_v9, val_main_call0_v0, val_main_v2, val_main_v1, val_main_cst, val_main_v0, val_main_v5, val_main_v8, val_main_v3, val_main_v4, val_main_v6, val_main_v7]

end Reference

variable (t : Fin cfg0.N)

theorem rd0 : iblk m c 0 t (ix2 0 0) = ((m (c.tc.loc main_arg5)) : FVec Ideal S1x1 .f32) (ix2 0 0) := by
  blk_simp [iblk]
  rw [V_main_arg5]
  blk_point [places t]

theorem rd1 (a : Fin 256) (b : Fin 1024) : iblk m c 1 t (ix3 0 a b) = ((m (c.tc.loc main_arg0)) : FVec Ideal S2x256x1024 .f32) (ix3 (slot t) (row t a) b) := by
  blk_simp [iblk]
  rw [V_main_arg0]
  blk_point [slot, row, places t]

theorem rd6 (a : Fin 256) (b : Fin 1024) : iblk m c 6 t (ix3 0 a b) = ((m (c.tc.loc main_arg6)) : FVec Ideal S2x256x1024 .f32) (ix3 (slot t) (row t a) b) := by
  blk_simp [iblk]
  rw [V_main_arg6]
  blk_point [slot, row, places t]

theorem rd7 (a : Fin 256) (b : Fin 1024) : iblk m c 7 t (ix3 0 a b) = ((m (c.tc.loc main_arg7)) : FVec Ideal S2x256x1024 .f32) (ix3 (slot t) (row t a) b) := by
  blk_simp [iblk]
  rw [V_main_arg7]
  blk_point [slot, row, places t]

theorem rd2 (h : t.val / 1 = 0) (a : Fin 256) (b : Fin 1024) : iblk m c 2 t (ix2 a b) = ((m (c.tc.loc main_arg1)) : FVec Ideal S256x1024 .f32) (ix2 (row t a) b) := by
  blk_simp [iblk]
  rw [V_main_arg1]
  have e := (places t).2.2.1
  rw [if_pos h] at e
  blk_point [row, e]

theorem rd3 (h : t.val / 1 = 0) (a : Fin 256) (b : Fin 1024) : iblk m c 3 t (ix2 a b) = ((m (c.tc.loc main_arg2)) : FVec Ideal S256x1024 .f32) (ix2 (row t a) b) := by
  blk_simp [iblk]
  rw [V_main_arg2]
  have e := (places t).2.2.2.1
  rw [if_pos h] at e
  blk_point [row, e]

theorem rd4 (h : t.val / 1 = 1) (a : Fin 256) (b : Fin 1024) : iblk m c 4 t (ix2 a b) = ((m (c.tc.loc main_arg3)) : FVec Ideal S256x1024 .f32) (ix2 (row t a) b) := by
  blk_simp [iblk]
  rw [V_main_arg3]
  have e := (places t).2.2.2.2.1
  rw [if_pos h] at e
  blk_point [row, e]

theorem rd5 (h : t.val / 1 = 1) (a : Fin 256) (b : Fin 1024) : iblk m c 5 t (ix2 a b) = ((m (c.tc.loc main_arg4)) : FVec Ideal S256x1024 .f32) (ix2 (row t a) b) := by
  blk_simp [iblk]
  rw [V_main_arg4]
  have e := (places t).2.2.2.2.2.1
  rw [if_pos h] at e
  blk_point [row, e]

/-- The gradient the kernel selects is the reference's at the point's layer. -/
theorem grad (a : Fin 256) (b : Fin 1024) : k0_pay5 (F := Ideal) (grid0.coords t) (iblk m c 0 t) (iblk m c 2 t) (iblk m c 3 t) (iblk m c 5 t) (iblk m c 4 t) (ix2 a b) = val_main_v9 (F := Ideal) (m (c.tc.loc main_arg1)) (m (c.tc.loc main_arg2)) (m (c.tc.loc main_arg3)) (m (c.tc.loc main_arg4)) (m (c.tc.loc main_arg5)) (ix3 (slot t) (row t a) b) := by
  rcases slot_of t with ⟨e, h⟩ | ⟨e, h⟩
  · rw [e, ref_grad0]
    pointwise [k0_pay5, layer t, h, rd0, rd2 m c t h, rd3 m c t h]
  · rw [e, ref_grad1]
    pointwise [k0_pay5, layer t, h, second, rd0, rd4 m c t h, rd5 m c t h]

theorem pay8 (a : Fin 256) (b : Fin 1024) : k0_pay6 (F := Ideal) (grid0.coords t) (iblk m c 0 t) (iblk m c 2 t) (iblk m c 3 t) (iblk m c 5 t) (iblk m c 4 t) (ix3 0 a b) = val_main_v9 (F := Ideal) (m (c.tc.loc main_arg1)) (m (c.tc.loc main_arg2)) (m (c.tc.loc main_arg3)) (m (c.tc.loc main_arg4)) (m (c.tc.loc main_arg5)) (ix3 (slot t) (row t a) b) := by
  pointwise [k0_pay6, grad]

theorem emb8 (y : S1x256x1024.Idx) : ((cfg0.win 8).blk t).view.emb y = ix3 (slot t) (row t (y 1)) (y 2) := by
  blk_ext [slot, row, places t]

theorem result8 : (dats m 0 c).arrAt 8 (cfgs 0).N = val_main_v9 (F := Ideal) (m (c.tc.loc main_arg1)) (m (c.tc.loc main_arg2)) (m (c.tc.loc main_arg3)) (m (c.tc.loc main_arg4)) (m (c.tc.loc main_arg5)) := by
  refine (dats m 0 c).arrAt_eq_of_covers 8 _ (by decide +kernel) fun t _ y => ?_
  refine (?_ : _ = _).trans (congrArg _ (emb8 t y)).symm
  blk_simp
  rw [after0_8]
  unfold_out out0_8
  frame_out
  exact (congrArg _ ((eq_ix3 (n0 := 1) (n1 := 256) (n2 := 1024) y).trans (congrArg (fun k => ix3 k (y 1) (y 2)) (Subsingleton.elim (α := Fin 1) (y 0) 0)))).trans (pay8 m c t (y 1) (y 2))

theorem pay9 (a : Fin 256) (b : Fin 1024) : k0_pay2 (F := Ideal) (k0_pay5 (F := Ideal) (grid0.coords t) (iblk m c 0 t) (iblk m c 2 t) (iblk m c 3 t) (iblk m c 5 t) (iblk m c 4 t)) (k0_pay7 (iblk m c 1 t)) (k0_pay8 (F := Ideal) (iblk m c 7 t)) (k0_pay9 (F := Ideal) (grid0.coords t) (iblk m c 0 t) (iblk m c 2 t) (iblk m c 3 t) (iblk m c 5 t) (iblk m c 4 t) (iblk m c 6 t)) (k0_pay10 (F := Ideal)) (ix3 0 a b) = val_main_v33 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix3 (slot t) (row t a) b) := by
  pointwise [k0_pay2, k0_pay1, k0_pay7, k0_pay8, k0_pay9, k0_pay10, grad, rd1, rd6, rd7, named_m, named_v, Debias.div_m, Debias.div_v, val_main_cst_0, val_main_v10, val_main_v11, val_main_cst_1, val_main_v12, val_main_v13, val_main_v14, val_main_cst_2, val_main_v15, val_main_v16, val_main_v17, val_main_cst_3, val_main_v18, val_main_v19, val_main_v20, val_main_cst_4, val_main_v21, val_main_v22, val_main_cst_5, val_main_v23, val_main_v24, val_main_v25, val_main_cst_6, val_main_v26, val_main_v27, val_main_v28, val_main_cst_7, val_main_v29, val_main_v30, val_main_v31, val_main_cst_8, val_main_v32, val_main_v33]

theorem emb9 (y : S1x256x1024.Idx) : ((cfg0.win 9).blk t).view.emb y = ix3 (slot t) (row t (y 1)) (y 2) := by
  blk_ext [slot, row, places t]

theorem result9 : (dats m 0 c).arrAt 9 (cfgs 0).N = val_main_v33 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 9 _ (by decide +kernel) fun t _ y => ?_
  refine (?_ : _ = _).trans (congrArg _ (emb9 t y)).symm
  blk_simp
  rw [after0_9]
  unfold_out out0_9
  frame_out
  exact (congrArg _ ((eq_ix3 (n0 := 1) (n1 := 256) (n2 := 1024) y).trans (congrArg (fun k => ix3 k (y 1) (y 2)) (Subsingleton.elim (α := Fin 1) (y 0) 0)))).trans (pay9 m c t (y 1) (y 2))

theorem pay10 (a : Fin 256) (b : Fin 1024) : k0_pay3 (F := Ideal) (k0_pay9 (F := Ideal) (grid0.coords t) (iblk m c 0 t) (iblk m c 2 t) (iblk m c 3 t) (iblk m c 5 t) (iblk m c 4 t) (iblk m c 6 t)) (ix3 0 a b) = val_main_v14 (F := Ideal) (m (c.tc.loc main_arg1)) (m (c.tc.loc main_arg2)) (m (c.tc.loc main_arg3)) (m (c.tc.loc main_arg4)) (m (c.tc.loc main_arg5)) (m (c.tc.loc main_arg6)) (ix3 (slot t) (row t a) b) := by
  pointwise [k0_pay3, k0_pay8, k0_pay9, k0_pay10, grad, rd6, val_main_cst_0, val_main_v10, val_main_v11, val_main_cst_1, val_main_v12, val_main_v13, val_main_v14]

theorem emb10 (y : S1x256x1024.Idx) : ((cfg0.win 10).blk t).view.emb y = ix3 (slot t) (row t (y 1)) (y 2) := by
  blk_ext [slot, row, places t]

theorem result10 : (dats m 0 c).arrAt 10 (cfgs 0).N = val_main_v14 (F := Ideal) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 10 _ (by decide +kernel) fun t _ y => ?_
  refine (?_ : _ = _).trans (congrArg _ (emb10 t y)).symm
  blk_simp
  rw [after0_10]
  unfold_out out0_10
  frame_out
  exact (congrArg _ ((eq_ix3 (n0 := 1) (n1 := 256) (n2 := 1024) y).trans (congrArg (fun k => ix3 k (y 1) (y 2)) (Subsingleton.elim (α := Fin 1) (y 0) 0)))).trans (pay10 m c t (y 1) (y 2))

theorem pay11 (a : Fin 256) (b : Fin 1024) : k0_pay4 (F := Ideal) (k0_pay5 (F := Ideal) (grid0.coords t) (iblk m c 0 t) (iblk m c 2 t) (iblk m c 3 t) (iblk m c 5 t) (iblk m c 4 t)) (k0_pay8 (F := Ideal) (iblk m c 7 t)) (k0_pay10 (F := Ideal)) (ix3 0 a b) = val_main_v20 (F := Ideal) (m (c.tc.loc main_arg1)) (m (c.tc.loc main_arg2)) (m (c.tc.loc main_arg3)) (m (c.tc.loc main_arg4)) (m (c.tc.loc main_arg5)) (m (c.tc.loc main_arg7)) (ix3 (slot t) (row t a) b) := by
  pointwise [k0_pay4, k0_pay1, k0_pay8, k0_pay9, k0_pay10, grad, rd7, val_main_cst_2, val_main_v15, val_main_v16, val_main_v17, val_main_cst_3, val_main_v18, val_main_v19, val_main_v20]

theorem emb11 (y : S1x256x1024.Idx) : ((cfg0.win 11).blk t).view.emb y = ix3 (slot t) (row t (y 1)) (y 2) := by
  blk_ext [slot, row, places t]

theorem result11 : (dats m 0 c).arrAt 11 (cfgs 0).N = val_main_v20 (F := Ideal) (m (c.tc.loc main_arg1)) (m (c.tc.loc main_arg2)) (m (c.tc.loc main_arg3)) (m (c.tc.loc main_arg4)) (m (c.tc.loc main_arg5)) (m (c.tc.loc main_arg7)) := by
  refine (dats m 0 c).arrAt_eq_of_covers 11 _ (by decide +kernel) fun t _ y => ?_
  refine (?_ : _ = _).trans (congrArg _ (emb11 t y)).symm
  blk_simp
  rw [after0_11]
  unfold_out out0_11
  frame_out
  exact (congrArg _ ((eq_ix3 (n0 := 1) (n1 := 256) (n2 := 1024) y).trans (congrArg (fun k => ix3 k (y 1) (y 2)) (Subsingleton.elim (α := Fin 1) (y 0) 0)))).trans (pay11 m c t (y 1) (y 2))

theorem holds : Cert.algebraic_AdamwMixerIdeal_AdamwMixerRefIdeal := by
  intro m g m' g' _ hagree
  refine ⟨fun c => (dats m 0 c).arrAt 8 cfg0.N, fun c => (dats m 0 c).arrAt 9 cfg0.N, fun c => (dats m 0 c).arrAt 10 cfg0.N, fun c => (dats m 0 c).arrAt 11 cfg0.N, θ_run_mono (Cert.AdamwMixerIdeal.Value.run_blocks m g) fun r h c => h c, θ_run_mono (Cert.AdamwMixerRefIdeal.Value.run m' g') fun r h c => ?_⟩
  obtain ⟨h0, h1, h2, h3, hk⟩ := h c
  obtain ⟨a0, a1, a2, a3, a4, a5, a6, a7⟩ := hagree c
  have e0 := h0.trans (show _ = val_main_v9 (F := Ideal) (m' (c.tc.loc Cert.AdamwMixerRefIdeal.main_arg1)) (m' (c.tc.loc Cert.AdamwMixerRefIdeal.main_arg2)) (m' (c.tc.loc Cert.AdamwMixerRefIdeal.main_arg3)) (m' (c.tc.loc Cert.AdamwMixerRefIdeal.main_arg4)) (m' (c.tc.loc Cert.AdamwMixerRefIdeal.main_arg5)) from rfl)
  rw [a1, a2, a3, a4, a5] at e0
  have e1 := h1.trans (show _ = val_main_v33 (F := Ideal) (m' (c.tc.loc Cert.AdamwMixerRefIdeal.main_arg0)) (m' (c.tc.loc Cert.AdamwMixerRefIdeal.main_arg1)) (m' (c.tc.loc Cert.AdamwMixerRefIdeal.main_arg2)) (m' (c.tc.loc Cert.AdamwMixerRefIdeal.main_arg3)) (m' (c.tc.loc Cert.AdamwMixerRefIdeal.main_arg4)) (m' (c.tc.loc Cert.AdamwMixerRefIdeal.main_arg5)) (m' (c.tc.loc Cert.AdamwMixerRefIdeal.main_arg6)) (m' (c.tc.loc Cert.AdamwMixerRefIdeal.main_arg7)) from rfl)
  rw [a0, a1, a2, a3, a4, a5, a6, a7] at e1
  have e2 := h2.trans (show _ = val_main_v14 (F := Ideal) (m' (c.tc.loc Cert.AdamwMixerRefIdeal.main_arg1)) (m' (c.tc.loc Cert.AdamwMixerRefIdeal.main_arg2)) (m' (c.tc.loc Cert.AdamwMixerRefIdeal.main_arg3)) (m' (c.tc.loc Cert.AdamwMixerRefIdeal.main_arg4)) (m' (c.tc.loc Cert.AdamwMixerRefIdeal.main_arg5)) (m' (c.tc.loc Cert.AdamwMixerRefIdeal.main_arg6)) from rfl)
  rw [a1, a2, a3, a4, a5, a6] at e2
  have e3 := h3.trans (show _ = val_main_v20 (F := Ideal) (m' (c.tc.loc Cert.AdamwMixerRefIdeal.main_arg1)) (m' (c.tc.loc Cert.AdamwMixerRefIdeal.main_arg2)) (m' (c.tc.loc Cert.AdamwMixerRefIdeal.main_arg3)) (m' (c.tc.loc Cert.AdamwMixerRefIdeal.main_arg4)) (m' (c.tc.loc Cert.AdamwMixerRefIdeal.main_arg5)) (m' (c.tc.loc Cert.AdamwMixerRefIdeal.main_arg7)) from rfl)
  rw [a1, a2, a3, a4, a5, a7] at e3
  exact ⟨e0.trans (result8 m c).symm, e1.trans (result9 m c).symm, e2.trans (result10 m c).symm, e3.trans (result11 m c).symm, hk⟩

end Cert.UpdateMixer

end
-- ==== Proof.UpdateDown.lean ====
/- The value of AdamwDown: the optimiser's three results at each element. -/
module

public import proofs.«01_k».proof.Proof.Gen.AdamwDownIdeal.Value
public import proofs.«01_k».proof.Proof.Gen.AdamwDownRefIdeal.Run
public import proofs.«01_k».proof.Proof.Gen.AdamwDownRefIdeal.Read
public import proofs.«01_k».proof.Proof.Common
public import proofs.«01_k».proof.Proof.Debias

@[expose] public section

set_option maxRecDepth 16384

noncomputable section

namespace Cert.UpdateDown

open Idealize.ShloMosaic Idealize.ShloMosaic.TcCoe Idealize.SL.Sem
open Cert.AdamwDownIdeal Cert.AdamwDownIdeal.Gen
open Cert.AdamwDownRefIdeal.Read

variable (m : (ℓ : Loc nD τ sig) → Buf (Elt Ideal) ℓ) (c : Dev nD)

/-- The two ledger entries: each named constant rounds to the kernel's word. -/
theorem preserves : Cert.preserves_AdamwDown_AdamwDownIdeal :=
  ⟨IdealRules.named_const.statement Cert.AdamwDownIdeal.κ "debias_m" .f32 0x3FC48605#32 ((8388608 / 5463681 : ℝ) : EReal) rfl,
   IdealRules.named_const.statement Cert.AdamwDownIdeal.κ "debias_v" .f32 0x42C8E6D3#32 ((268435456 / 2672307 : ℝ) : EReal) rfl⟩

theorem named_m : Named.named (F := Ideal) Cert.AdamwDownIdeal.κ "debias_m" (φ := .f32) 0x3FC48605#32 = ((8388608 / 5463681 : ℝ) : EReal) :=
  IdealRules.named_const.ideal_named_scalar _ _ _ _ rfl

theorem named_v : Named.named (F := Ideal) Cert.AdamwDownIdeal.κ "debias_v" (φ := .f32) 0x42C8E6D3#32 = ((268435456 / 2672307 : ℝ) : EReal) :=
  IdealRules.named_const.ideal_named_scalar _ _ _ _ rfl

/-- Where the windows stand at each point of the grid. -/
theorem places : ∀ t : Fin cfg0.N, win0_0.index t = ![0, 0] ∧ win0_1.index t = ![t.val / 2, t.val % 2, 0] ∧ win0_2.index t = ![if t.val / 2 = 0 then t.val % 2 else 0, 0] ∧ win0_3.index t = ![if t.val / 2 = 0 then t.val % 2 else 0, 0] ∧ win0_4.index t = ![if t.val / 2 = 1 then t.val % 2 else 0, 0] ∧ win0_5.index t = ![if t.val / 2 = 1 then t.val % 2 else 0, 0] ∧ win0_6.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0] ∧ win0_11.index t = ![t.val / 2, t.val % 2, 0] :=
  (by decide +kernel : ∀ t : Fin grid0.N, _)

/-- The first coordinate of a point of the grid is its layer. -/
theorem layer : ∀ t : Fin cfg0.N, (grid0.coords t 0).val = t.val / 2 :=
  (by decide +kernel : ∀ t : Fin grid0.N, _)

/-- The layer of a point of the grid. -/
def slot (t : Fin cfg0.N) : Fin 2 := ⟨t.val / 2, by have h := lt_of_lt_of_eq t.isLt N_0; omega⟩

/-- The row of the array at a row of a point's block. -/
def row (t : Fin cfg0.N) (a : Fin 352) : Fin 704 := ⟨t.val % 2 * 352 + a.val, by omega⟩

theorem slot_of (t : Fin cfg0.N) : slot t = 0 ∧ t.val / 2 = 0 ∨ slot t = 1 ∧ t.val / 2 = 1 := by
  have h := lt_of_lt_of_eq t.isLt N_0
  rcases (by omega : t.val / 2 = 0 ∨ t.val / 2 = 1) with e | e
  · exact Or.inl ⟨Fin.ext e, e⟩
  · exact Or.inr ⟨Fin.ext e, e⟩

theorem second (x y : EReal) : Scalar.select (Scalar.cmpi .eq 1#32 0#32) x y = y := rfl

section Reference

variable (x1 x2 x3 x4 : FVec Ideal S704x1024 .f32) (x5 : FVec Ideal S1x1 .f32) (a : Fin 704) (b : Fin 1024)

theorem ref_grad0 : val_main_v9 (F := Ideal) x1 x2 x3 x4 x5 (ix3 0 a b) = if Ideal.ofBits .f32 0x3F000000#32 < x5 (ix2 0 0) then x1 (ix2 a b) else x2 (ix2 a b) := by
  pointwise [val_main_v9, val_main_call0_v0, val_main_v2, val_main_v1, val_main_cst, val_main_v0, val_main_v5, val_main_v8, val_main_v3, val_main_v4, val_main_v6, val_main_v7]

theorem ref_grad1 : val_main_v9 (F := Ideal) x1 x2 x3 x4 x5 (ix3 1 a b) = if Ideal.ofBits .f32 0x3F000000#32 < x5 (ix2 0 0) then x4 (ix2 a b) else x3 (ix2 a b) := by
  pointwise [val_main_v9, val_main_call0_v0, val_main_v2, val_main_v1, val_main_cst, val_main_v0, val_main_v5, val_main_v8, val_main_v3, val_main_v4, val_main_v6, val_main_v7]

end Reference

variable (t : Fin cfg0.N)

theorem rd0 : iblk m c 0 t (ix2 0 0) = ((m (c.tc.loc main_arg5)) : FVec Ideal S1x1 .f32) (ix2 0 0) := by
  blk_simp [iblk]
  rw [V_main_arg5]
  blk_point [places t]

theorem rd1 (a : Fin 352) (b : Fin 1024) : iblk m c 1 t (ix3 0 a b) = ((m (c.tc.loc main_arg0)) : FVec Ideal S2x704x1024 .f32) (ix3 (slot t) (row t a) b) := by
  blk_simp [iblk]
  rw [V_main_arg0]
  blk_point [slot, row, places t]

theorem rd6 (a : Fin 352) (b : Fin 1024) : iblk m c 6 t (ix3 0 a b) = ((m (c.tc.loc main_arg6)) : FVec Ideal S2x704x1024 .f32) (ix3 (slot t) (row t a) b) := by
  blk_simp [iblk]
  rw [V_main_arg6]
  blk_point [slot, row, places t]

theorem rd7 (a : Fin 352) (b : Fin 1024) : iblk m c 7 t (ix3 0 a b) = ((m (c.tc.loc main_arg7)) : FVec Ideal S2x704x1024 .f32) (ix3 (slot t) (row t a) b) := by
  blk_simp [iblk]
  rw [V_main_arg7]
  blk_point [slot, row, places t]

theorem rd2 (h : t.val / 2 = 0) (a : Fin 352) (b : Fin 1024) : iblk m c 2 t (ix2 a b) = ((m (c.tc.loc main_arg1)) : FVec Ideal S704x1024 .f32) (ix2 (row t a) b) := by
  blk_simp [iblk]
  rw [V_main_arg1]
  have e := (places t).2.2.1
  rw [if_pos h] at e
  blk_point [row, e]

theorem rd3 (h : t.val / 2 = 0) (a : Fin 352) (b : Fin 1024) : iblk m c 3 t (ix2 a b) = ((m (c.tc.loc main_arg2)) : FVec Ideal S704x1024 .f32) (ix2 (row t a) b) := by
  blk_simp [iblk]
  rw [V_main_arg2]
  have e := (places t).2.2.2.1
  rw [if_pos h] at e
  blk_point [row, e]

theorem rd4 (h : t.val / 2 = 1) (a : Fin 352) (b : Fin 1024) : iblk m c 4 t (ix2 a b) = ((m (c.tc.loc main_arg3)) : FVec Ideal S704x1024 .f32) (ix2 (row t a) b) := by
  blk_simp [iblk]
  rw [V_main_arg3]
  have e := (places t).2.2.2.2.1
  rw [if_pos h] at e
  blk_point [row, e]

theorem rd5 (h : t.val / 2 = 1) (a : Fin 352) (b : Fin 1024) : iblk m c 5 t (ix2 a b) = ((m (c.tc.loc main_arg4)) : FVec Ideal S704x1024 .f32) (ix2 (row t a) b) := by
  blk_simp [iblk]
  rw [V_main_arg4]
  have e := (places t).2.2.2.2.2.1
  rw [if_pos h] at e
  blk_point [row, e]

/-- The gradient the kernel selects is the reference's at the point's layer. -/
theorem grad (a : Fin 352) (b : Fin 1024) : k0_pay5 (F := Ideal) (grid0.coords t) (iblk m c 0 t) (iblk m c 2 t) (iblk m c 3 t) (iblk m c 5 t) (iblk m c 4 t) (ix2 a b) = val_main_v9 (F := Ideal) (m (c.tc.loc main_arg1)) (m (c.tc.loc main_arg2)) (m (c.tc.loc main_arg3)) (m (c.tc.loc main_arg4)) (m (c.tc.loc main_arg5)) (ix3 (slot t) (row t a) b) := by
  rcases slot_of t with ⟨e, h⟩ | ⟨e, h⟩
  · rw [e, ref_grad0]
    pointwise [k0_pay5, layer t, h, rd0, rd2 m c t h, rd3 m c t h]
  · rw [e, ref_grad1]
    pointwise [k0_pay5, layer t, h, second, rd0, rd4 m c t h, rd5 m c t h]

theorem pay8 (a : Fin 352) (b : Fin 1024) : k0_pay6 (F := Ideal) (grid0.coords t) (iblk m c 0 t) (iblk m c 2 t) (iblk m c 3 t) (iblk m c 5 t) (iblk m c 4 t) (ix3 0 a b) = val_main_v9 (F := Ideal) (m (c.tc.loc main_arg1)) (m (c.tc.loc main_arg2)) (m (c.tc.loc main_arg3)) (m (c.tc.loc main_arg4)) (m (c.tc.loc main_arg5)) (ix3 (slot t) (row t a) b) := by
  pointwise [k0_pay6, grad]

theorem emb8 (y : S1x352x1024.Idx) : ((cfg0.win 8).blk t).view.emb y = ix3 (slot t) (row t (y 1)) (y 2) := by
  blk_ext [slot, row, places t]

theorem result8 : (dats m 0 c).arrAt 8 (cfgs 0).N = val_main_v9 (F := Ideal) (m (c.tc.loc main_arg1)) (m (c.tc.loc main_arg2)) (m (c.tc.loc main_arg3)) (m (c.tc.loc main_arg4)) (m (c.tc.loc main_arg5)) := by
  refine (dats m 0 c).arrAt_eq_of_covers 8 _ (by decide +kernel) fun t _ y => ?_
  refine (?_ : _ = _).trans (congrArg _ (emb8 t y)).symm
  blk_simp
  rw [after0_8]
  unfold_out out0_8
  frame_out
  exact (congrArg _ ((eq_ix3 (n0 := 1) (n1 := 352) (n2 := 1024) y).trans (congrArg (fun k => ix3 k (y 1) (y 2)) (Subsingleton.elim (α := Fin 1) (y 0) 0)))).trans (pay8 m c t (y 1) (y 2))

theorem pay9 (a : Fin 352) (b : Fin 1024) : k0_pay2 (F := Ideal) (k0_pay5 (F := Ideal) (grid0.coords t) (iblk m c 0 t) (iblk m c 2 t) (iblk m c 3 t) (iblk m c 5 t) (iblk m c 4 t)) (k0_pay7 (iblk m c 1 t)) (k0_pay8 (F := Ideal) (iblk m c 7 t)) (k0_pay9 (F := Ideal) (grid0.coords t) (iblk m c 0 t) (iblk m c 2 t) (iblk m c 3 t) (iblk m c 5 t) (iblk m c 4 t) (iblk m c 6 t)) (k0_pay10 (F := Ideal)) (ix3 0 a b) = val_main_v33 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix3 (slot t) (row t a) b) := by
  pointwise [k0_pay2, k0_pay1, k0_pay7, k0_pay8, k0_pay9, k0_pay10, grad, rd1, rd6, rd7, named_m, named_v, Debias.div_m, Debias.div_v, val_main_cst_0, val_main_v10, val_main_v11, val_main_cst_1, val_main_v12, val_main_v13, val_main_v14, val_main_cst_2, val_main_v15, val_main_v16, val_main_v17, val_main_cst_3, val_main_v18, val_main_v19, val_main_v20, val_main_cst_4, val_main_v21, val_main_v22, val_main_cst_5, val_main_v23, val_main_v24, val_main_v25, val_main_cst_6, val_main_v26, val_main_v27, val_main_v28, val_main_cst_7, val_main_v29, val_main_v30, val_main_v31, val_main_cst_8, val_main_v32, val_main_v33]

theorem emb9 (y : S1x352x1024.Idx) : ((cfg0.win 9).blk t).view.emb y = ix3 (slot t) (row t (y 1)) (y 2) := by
  blk_ext [slot, row, places t]

theorem result9 : (dats m 0 c).arrAt 9 (cfgs 0).N = val_main_v33 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 9 _ (by decide +kernel) fun t _ y => ?_
  refine (?_ : _ = _).trans (congrArg _ (emb9 t y)).symm
  blk_simp
  rw [after0_9]
  unfold_out out0_9
  frame_out
  exact (congrArg _ ((eq_ix3 (n0 := 1) (n1 := 352) (n2 := 1024) y).trans (congrArg (fun k => ix3 k (y 1) (y 2)) (Subsingleton.elim (α := Fin 1) (y 0) 0)))).trans (pay9 m c t (y 1) (y 2))

theorem pay10 (a : Fin 352) (b : Fin 1024) : k0_pay3 (F := Ideal) (k0_pay9 (F := Ideal) (grid0.coords t) (iblk m c 0 t) (iblk m c 2 t) (iblk m c 3 t) (iblk m c 5 t) (iblk m c 4 t) (iblk m c 6 t)) (ix3 0 a b) = val_main_v14 (F := Ideal) (m (c.tc.loc main_arg1)) (m (c.tc.loc main_arg2)) (m (c.tc.loc main_arg3)) (m (c.tc.loc main_arg4)) (m (c.tc.loc main_arg5)) (m (c.tc.loc main_arg6)) (ix3 (slot t) (row t a) b) := by
  pointwise [k0_pay3, k0_pay8, k0_pay9, k0_pay10, grad, rd6, val_main_cst_0, val_main_v10, val_main_v11, val_main_cst_1, val_main_v12, val_main_v13, val_main_v14]

theorem emb10 (y : S1x352x1024.Idx) : ((cfg0.win 10).blk t).view.emb y = ix3 (slot t) (row t (y 1)) (y 2) := by
  blk_ext [slot, row, places t]

theorem result10 : (dats m 0 c).arrAt 10 (cfgs 0).N = val_main_v14 (F := Ideal) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 10 _ (by decide +kernel) fun t _ y => ?_
  refine (?_ : _ = _).trans (congrArg _ (emb10 t y)).symm
  blk_simp
  rw [after0_10]
  unfold_out out0_10
  frame_out
  exact (congrArg _ ((eq_ix3 (n0 := 1) (n1 := 352) (n2 := 1024) y).trans (congrArg (fun k => ix3 k (y 1) (y 2)) (Subsingleton.elim (α := Fin 1) (y 0) 0)))).trans (pay10 m c t (y 1) (y 2))

theorem pay11 (a : Fin 352) (b : Fin 1024) : k0_pay4 (F := Ideal) (k0_pay5 (F := Ideal) (grid0.coords t) (iblk m c 0 t) (iblk m c 2 t) (iblk m c 3 t) (iblk m c 5 t) (iblk m c 4 t)) (k0_pay8 (F := Ideal) (iblk m c 7 t)) (k0_pay10 (F := Ideal)) (ix3 0 a b) = val_main_v20 (F := Ideal) (m (c.tc.loc main_arg1)) (m (c.tc.loc main_arg2)) (m (c.tc.loc main_arg3)) (m (c.tc.loc main_arg4)) (m (c.tc.loc main_arg5)) (m (c.tc.loc main_arg7)) (ix3 (slot t) (row t a) b) := by
  pointwise [k0_pay4, k0_pay1, k0_pay8, k0_pay9, k0_pay10, grad, rd7, val_main_cst_2, val_main_v15, val_main_v16, val_main_v17, val_main_cst_3, val_main_v18, val_main_v19, val_main_v20]

theorem emb11 (y : S1x352x1024.Idx) : ((cfg0.win 11).blk t).view.emb y = ix3 (slot t) (row t (y 1)) (y 2) := by
  blk_ext [slot, row, places t]

theorem result11 : (dats m 0 c).arrAt 11 (cfgs 0).N = val_main_v20 (F := Ideal) (m (c.tc.loc main_arg1)) (m (c.tc.loc main_arg2)) (m (c.tc.loc main_arg3)) (m (c.tc.loc main_arg4)) (m (c.tc.loc main_arg5)) (m (c.tc.loc main_arg7)) := by
  refine (dats m 0 c).arrAt_eq_of_covers 11 _ (by decide +kernel) fun t _ y => ?_
  refine (?_ : _ = _).trans (congrArg _ (emb11 t y)).symm
  blk_simp
  rw [after0_11]
  unfold_out out0_11
  frame_out
  exact (congrArg _ ((eq_ix3 (n0 := 1) (n1 := 352) (n2 := 1024) y).trans (congrArg (fun k => ix3 k (y 1) (y 2)) (Subsingleton.elim (α := Fin 1) (y 0) 0)))).trans (pay11 m c t (y 1) (y 2))

theorem holds : Cert.algebraic_AdamwDownIdeal_AdamwDownRefIdeal := by
  intro m g m' g' _ hagree
  refine ⟨fun c => (dats m 0 c).arrAt 8 cfg0.N, fun c => (dats m 0 c).arrAt 9 cfg0.N, fun c => (dats m 0 c).arrAt 10 cfg0.N, fun c => (dats m 0 c).arrAt 11 cfg0.N, θ_run_mono (Cert.AdamwDownIdeal.Value.run_blocks m g) fun r h c => h c, θ_run_mono (Cert.AdamwDownRefIdeal.Value.run m' g') fun r h c => ?_⟩
  obtain ⟨h0, h1, h2, h3, hk⟩ := h c
  obtain ⟨a0, a1, a2, a3, a4, a5, a6, a7⟩ := hagree c
  have e0 := h0.trans (show _ = val_main_v9 (F := Ideal) (m' (c.tc.loc Cert.AdamwDownRefIdeal.main_arg1)) (m' (c.tc.loc Cert.AdamwDownRefIdeal.main_arg2)) (m' (c.tc.loc Cert.AdamwDownRefIdeal.main_arg3)) (m' (c.tc.loc Cert.AdamwDownRefIdeal.main_arg4)) (m' (c.tc.loc Cert.AdamwDownRefIdeal.main_arg5)) from rfl)
  rw [a1, a2, a3, a4, a5] at e0
  have e1 := h1.trans (show _ = val_main_v33 (F := Ideal) (m' (c.tc.loc Cert.AdamwDownRefIdeal.main_arg0)) (m' (c.tc.loc Cert.AdamwDownRefIdeal.main_arg1)) (m' (c.tc.loc Cert.AdamwDownRefIdeal.main_arg2)) (m' (c.tc.loc Cert.AdamwDownRefIdeal.main_arg3)) (m' (c.tc.loc Cert.AdamwDownRefIdeal.main_arg4)) (m' (c.tc.loc Cert.AdamwDownRefIdeal.main_arg5)) (m' (c.tc.loc Cert.AdamwDownRefIdeal.main_arg6)) (m' (c.tc.loc Cert.AdamwDownRefIdeal.main_arg7)) from rfl)
  rw [a0, a1, a2, a3, a4, a5, a6, a7] at e1
  have e2 := h2.trans (show _ = val_main_v14 (F := Ideal) (m' (c.tc.loc Cert.AdamwDownRefIdeal.main_arg1)) (m' (c.tc.loc Cert.AdamwDownRefIdeal.main_arg2)) (m' (c.tc.loc Cert.AdamwDownRefIdeal.main_arg3)) (m' (c.tc.loc Cert.AdamwDownRefIdeal.main_arg4)) (m' (c.tc.loc Cert.AdamwDownRefIdeal.main_arg5)) (m' (c.tc.loc Cert.AdamwDownRefIdeal.main_arg6)) from rfl)
  rw [a1, a2, a3, a4, a5, a6] at e2
  have e3 := h3.trans (show _ = val_main_v20 (F := Ideal) (m' (c.tc.loc Cert.AdamwDownRefIdeal.main_arg1)) (m' (c.tc.loc Cert.AdamwDownRefIdeal.main_arg2)) (m' (c.tc.loc Cert.AdamwDownRefIdeal.main_arg3)) (m' (c.tc.loc Cert.AdamwDownRefIdeal.main_arg4)) (m' (c.tc.loc Cert.AdamwDownRefIdeal.main_arg5)) (m' (c.tc.loc Cert.AdamwDownRefIdeal.main_arg7)) from rfl)
  rw [a1, a2, a3, a4, a5, a7] at e3
  exact ⟨e0.trans (result8 m c).symm, e1.trans (result9 m c).symm, e2.trans (result10 m c).symm, e3.trans (result11 m c).symm, hk⟩

end Cert.UpdateDown

end
-- ==== Proof.Element.lean ====
/- One element of the optimiser's update, named: the gradient of a layer, the two moments and the step. -/
module

public import Idealize.ShloMosaic.PureOps
public import Idealize.ShloMosaic.Lib.Pipeline.ValueKit

@[expose] public section

noncomputable section

namespace Cert.Element

open Idealize.ShloMosaic

/-- The gradient of a layer, as this core holds it. -/
def pick (l : Fin 2) (flag r0 o0 r1 o1 : EReal) : EReal :=
  if l = 0 then (if Ideal.ofBits .f32 0x3F000000#32 < flag then r0 else o0) else (if Ideal.ofBits .f32 0x3F000000#32 < flag then o1 else r1)

/-- The new first moment. -/
def mean (g x : EReal) : EReal := Ideal.ofBits .f32 0x3F666666#32 * x + Ideal.ofBits .f32 0x3DCCCCCD#32 * g

/-- The new second moment. -/
def square (g x : EReal) : EReal := Ideal.ofBits .f32 0x3F7FBE77#32 * x + Ideal.ofBits .f32 0x3A83126F#32 * (g * g)

/-- The step of the weight. -/
def step (w g x y : EReal) : EReal :=
  Ideal.ofBits .f32 0xBA83126F#32 *
    (Ideal.div (mean g x * ((8388608 / 5463681 : ℝ) : EReal)) (Ideal.sqrt (square g y * ((268435456 / 2672307 : ℝ) : EReal)) + Ideal.ofBits .f32 0x322BCC77#32)
      + Ideal.ofBits .f32 0x3C23D70A#32 * w)

end Cert.Element

end
-- ==== Proof.UpdateGate.lean ====
/- The value of AdamwGate: the optimiser's three results at each element. -/
module

public import proofs.«01_k».proof.Proof.Gen.AdamwGateIdeal.Frame
public import proofs.«01_k».proof.Proof.Gen.AdamwGateRefIdeal.Run
public import proofs.«01_k».proof.Proof.Gen.AdamwGateRefIdeal.Read
public import proofs.«01_k».proof.Proof.Common
public import proofs.«01_k».proof.Proof.Debias
public import proofs.«01_k».proof.Proof.Element

@[expose] public section

set_option maxRecDepth 16384

noncomputable section

namespace Cert.UpdateGate

open Idealize.ShloMosaic Idealize.ShloMosaic.TcCoe Idealize.SL.Sem
open Cert.AdamwGateIdeal Cert.AdamwGateIdeal.Gen
open Cert.AdamwGateRefIdeal.Read

variable (m : (ℓ : Loc nD τ sig) → Buf (Elt Ideal) ℓ) (c : Dev nD)

/-- The two ledger entries: each named constant rounds to the kernel's word. -/
theorem preserves : Cert.preserves_AdamwGate_AdamwGateIdeal :=
  ⟨IdealRules.named_const.statement Cert.AdamwGateIdeal.κ "debias_m" .f32 0x3FC48605#32 ((8388608 / 5463681 : ℝ) : EReal) rfl,
   IdealRules.named_const.statement Cert.AdamwGateIdeal.κ "debias_v" .f32 0x42C8E6D3#32 ((268435456 / 2672307 : ℝ) : EReal) rfl⟩

theorem named_m : Named.named (F := Ideal) Cert.AdamwGateIdeal.κ "debias_m" (φ := .f32) 0x3FC48605#32 = ((8388608 / 5463681 : ℝ) : EReal) :=
  IdealRules.named_const.ideal_named_scalar _ _ _ _ rfl

theorem named_v : Named.named (F := Ideal) Cert.AdamwGateIdeal.κ "debias_v" (φ := .f32) 0x42C8E6D3#32 = ((268435456 / 2672307 : ℝ) : EReal) :=
  IdealRules.named_const.ideal_named_scalar _ _ _ _ rfl

/-- Where the windows stand at each point of the grid. -/
theorem places : ∀ t : Fin cfg0.N, win0_0.index t = ![0, 0] ∧ win0_1.index t = ![t.val / 2, t.val % 2, 0] ∧ win0_2.index t = ![if t.val / 2 = 0 then t.val % 2 else 0, 0] ∧ win0_3.index t = ![if t.val / 2 = 0 then t.val % 2 else 0, 0] ∧ win0_4.index t = ![if t.val / 2 = 1 then t.val % 2 else 0, 0] ∧ win0_5.index t = ![if t.val / 2 = 1 then t.val % 2 else 0, 0] ∧ win0_6.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0] ∧ win0_11.index t = ![t.val / 2, t.val % 2, 0] :=
  (by decide +kernel : ∀ t : Fin grid0.N, _)

/-- The first coordinate of a point of the grid is its layer. -/
theorem layer : ∀ t : Fin cfg0.N, (grid0.coords t 0).val = t.val / 2 :=
  (by decide +kernel : ∀ t : Fin grid0.N, _)

/-- The layer of a point of the grid. -/
def slot (t : Fin cfg0.N) : Fin 2 := ⟨t.val / 2, by have h := lt_of_lt_of_eq t.isLt N_0; omega⟩

/-- The row of the array at a row of a point's block. -/
def row (t : Fin cfg0.N) (a : Fin 352) : Fin 704 := ⟨t.val % 2 * 352 + a.val, by omega⟩

theorem slot_of (t : Fin cfg0.N) : slot t = 0 ∧ t.val / 2 = 0 ∨ slot t = 1 ∧ t.val / 2 = 1 := by
  have h := lt_of_lt_of_eq t.isLt N_0
  rcases (by omega : t.val / 2 = 0 ∨ t.val / 2 = 1) with e | e
  · exact Or.inl ⟨Fin.ext e, e⟩
  · exact Or.inr ⟨Fin.ext e, e⟩

theorem second (x y : EReal) : Scalar.select (Scalar.cmpi .eq 1#32 0#32) x y = y := rfl

section Reference

variable (x0 : FVec Ideal S2x1024x704 .f32) (x1 x2 x3 x4 : FVec Ideal S704x1024 .f32) (x5 : FVec Ideal S1x1 .f32) (x6 x7 : FVec Ideal S2x1024x704 .f32) (l : Fin 2) (r : Fin 704) (b : Fin 1024)

theorem ref_grad : val_main_v13 (F := Ideal) x1 x2 x3 x4 x5 (ix3 l b r) = Element.pick l (x5 (ix2 0 0)) (x1 (ix2 r b)) (x2 (ix2 r b)) (x3 (ix2 r b)) (x4 (ix2 r b)) := by
  rcases (by omega : l = 0 ∨ l = 1) with rfl | rfl
  · pointwise [Element.pick, val_main_v13, val_main_v0, val_main_v1, val_main_v2, val_main_v3, val_main_v4, val_main_v5, val_main_v6, val_main_v7, val_main_v8, val_main_v9, val_main_v10, val_main_v11, val_main_v12, val_main_cst, val_main_call0_v0]
  · pointwise [Element.pick, val_main_v13, val_main_v0, val_main_v1, val_main_v2, val_main_v3, val_main_v4, val_main_v5, val_main_v6, val_main_v7, val_main_v8, val_main_v9, val_main_v10, val_main_v11, val_main_v12, val_main_cst, val_main_call0_v0]

theorem ref_mean : val_main_v18 (F := Ideal) x1 x2 x3 x4 x5 x6 (ix3 l b r) = Element.mean (Element.pick l (x5 (ix2 0 0)) (x1 (ix2 r b)) (x2 (ix2 r b)) (x3 (ix2 r b)) (x4 (ix2 r b))) (x6 (ix3 l b r)) := by
  pointwise [Element.mean, ref_grad, val_main_cst_0, val_main_v14, val_main_v15, val_main_cst_1, val_main_v16, val_main_v17, val_main_v18]

theorem ref_square : val_main_v24 (F := Ideal) x1 x2 x3 x4 x5 x7 (ix3 l b r) = Element.square (Element.pick l (x5 (ix2 0 0)) (x1 (ix2 r b)) (x2 (ix2 r b)) (x3 (ix2 r b)) (x4 (ix2 r b))) (x7 (ix3 l b r)) := by
  pointwise [Element.square, ref_grad, val_main_cst_2, val_main_v19, val_main_v20, val_main_v21, val_main_cst_3, val_main_v22, val_main_v23, val_main_v24]

theorem ref_step : val_main_v37 (F := Ideal) x0 x1 x2 x3 x4 x5 x6 x7 (ix3 l b r) = Element.step (x0 (ix3 l b r)) (Element.pick l (x5 (ix2 0 0)) (x1 (ix2 r b)) (x2 (ix2 r b)) (x3 (ix2 r b)) (x4 (ix2 r b))) (x6 (ix3 l b r)) (x7 (ix3 l b r)) := by
  pointwise [Element.step, ref_mean, ref_square, val_main_cst_4, val_main_v25, val_main_v26, val_main_cst_5, val_main_v27, val_main_v28, val_main_v29, val_main_cst_6, val_main_v30, val_main_v31, val_main_v32, val_main_cst_7, val_main_v33, val_main_v34, val_main_v35, val_main_cst_8, val_main_v36, val_main_v37, Debias.div_m, Debias.div_v]

end Reference

/-- The gradient the kernel selects at an element of its layout. -/
def grads (l : Fin 2) (r : Fin 704) (b : Fin 1024) : EReal :=
  Element.pick l (((m (c.tc.loc main_arg5)) : FVec Ideal S1x1 .f32) (ix2 0 0)) (((m (c.tc.loc main_arg1)) : FVec Ideal S704x1024 .f32) (ix2 r b)) (((m (c.tc.loc main_arg2)) : FVec Ideal S704x1024 .f32) (ix2 r b)) (((m (c.tc.loc main_arg3)) : FVec Ideal S704x1024 .f32) (ix2 r b)) (((m (c.tc.loc main_arg4)) : FVec Ideal S704x1024 .f32) (ix2 r b))

theorem entry1 (l : Fin 2) (r : Fin 704) (b : Fin 1024) : (V m c main_v0 : FVec Ideal S2x704x1024 .f32) (ix3 l r b) = ((m (c.tc.loc main_arg0)) : FVec Ideal S2x1024x704 .f32) (ix3 l b r) := by
  show (StableHlo.after hostOps0 (fun b => m (c, b)) (Proc.tc.devRef main_v0) : FVec Ideal S2x704x1024 .f32) _ = _
  after_results
  pointwise

theorem entry6 (l : Fin 2) (r : Fin 704) (b : Fin 1024) : (V m c main_v1 : FVec Ideal S2x704x1024 .f32) (ix3 l r b) = ((m (c.tc.loc main_arg6)) : FVec Ideal S2x1024x704 .f32) (ix3 l b r) := by
  show (StableHlo.after hostOps0 (fun b => m (c, b)) (Proc.tc.devRef main_v1) : FVec Ideal S2x704x1024 .f32) _ = _
  after_results
  pointwise

theorem entry7 (l : Fin 2) (r : Fin 704) (b : Fin 1024) : (V m c main_v2 : FVec Ideal S2x704x1024 .f32) (ix3 l r b) = ((m (c.tc.loc main_arg7)) : FVec Ideal S2x1024x704 .f32) (ix3 l b r) := by
  show (StableHlo.after hostOps0 (fun b => m (c, b)) (Proc.tc.devRef main_v2) : FVec Ideal S2x704x1024 .f32) _ = _
  after_results
  pointwise

variable (t : Fin cfg0.N)

theorem rd0 : iblk m c 0 t (ix2 0 0) = ((m (c.tc.loc main_arg5)) : FVec Ideal S1x1 .f32) (ix2 0 0) := by
  blk_simp [iblk]
  rw [V_main_arg5]
  blk_point [places t]

theorem rd1 (a : Fin 352) (b : Fin 1024) : iblk m c 1 t (ix3 0 a b) = (V m c main_v0 : FVec Ideal S2x704x1024 .f32) (ix3 (slot t) (row t a) b) := by
  blk_simp [iblk]
  refine congrArg (V m c main_v0 : FVec Ideal S2x704x1024 .f32) ?_
  blk_ext [slot, row, places t]

theorem rd6 (a : Fin 352) (b : Fin 1024) : iblk m c 6 t (ix3 0 a b) = (V m c main_v1 : FVec Ideal S2x704x1024 .f32) (ix3 (slot t) (row t a) b) := by
  blk_simp [iblk]
  refine congrArg (V m c main_v1 : FVec Ideal S2x704x1024 .f32) ?_
  blk_ext [slot, row, places t]

theorem rd7 (a : Fin 352) (b : Fin 1024) : iblk m c 7 t (ix3 0 a b) = (V m c main_v2 : FVec Ideal S2x704x1024 .f32) (ix3 (slot t) (row t a) b) := by
  blk_simp [iblk]
  refine congrArg (V m c main_v2 : FVec Ideal S2x704x1024 .f32) ?_
  blk_ext [slot, row, places t]

theorem rd2 (h : t.val / 2 = 0) (a : Fin 352) (b : Fin 1024) : iblk m c 2 t (ix2 a b) = ((m (c.tc.loc main_arg1)) : FVec Ideal S704x1024 .f32) (ix2 (row t a) b) := by
  blk_simp [iblk]
  rw [V_main_arg1]
  have e := (places t).2.2.1
  rw [if_pos h] at e
  blk_point [row, e]

theorem rd3 (h : t.val / 2 = 0) (a : Fin 352) (b : Fin 1024) : iblk m c 3 t (ix2 a b) = ((m (c.tc.loc main_arg2)) : FVec Ideal S704x1024 .f32) (ix2 (row t a) b) := by
  blk_simp [iblk]
  rw [V_main_arg2]
  have e := (places t).2.2.2.1
  rw [if_pos h] at e
  blk_point [row, e]

theorem rd4 (h : t.val / 2 = 1) (a : Fin 352) (b : Fin 1024) : iblk m c 4 t (ix2 a b) = ((m (c.tc.loc main_arg3)) : FVec Ideal S704x1024 .f32) (ix2 (row t a) b) := by
  blk_simp [iblk]
  rw [V_main_arg3]
  have e := (places t).2.2.2.2.1
  rw [if_pos h] at e
  blk_point [row, e]

theorem rd5 (h : t.val / 2 = 1) (a : Fin 352) (b : Fin 1024) : iblk m c 5 t (ix2 a b) = ((m (c.tc.loc main_arg4)) : FVec Ideal S704x1024 .f32) (ix2 (row t a) b) := by
  blk_simp [iblk]
  rw [V_main_arg4]
  have e := (places t).2.2.2.2.2.1
  rw [if_pos h] at e
  blk_point [row, e]

theorem grad (a : Fin 352) (b : Fin 1024) : k0_pay5 (F := Ideal) (grid0.coords t) (iblk m c 0 t) (iblk m c 2 t) (iblk m c 3 t) (iblk m c 5 t) (iblk m c 4 t) (ix2 a b) = grads m c (slot t) (row t a) b := by
  rcases slot_of t with ⟨e, h⟩ | ⟨e, h⟩
  · rw [e]
    pointwise [grads, Element.pick, k0_pay5, layer t, h, rd0, rd2 m c t h, rd3 m c t h]
  · rw [e]
    pointwise [grads, Element.pick, k0_pay5, layer t, h, second, rd0, rd4 m c t h, rd5 m c t h]

def steps (l : Fin 2) (r : Fin 704) (b : Fin 1024) : EReal := Element.step ((V m c main_v0 : FVec Ideal S2x704x1024 .f32) (ix3 l r b)) (grads m c l r b) ((V m c main_v1 : FVec Ideal S2x704x1024 .f32) (ix3 l r b)) ((V m c main_v2 : FVec Ideal S2x704x1024 .f32) (ix3 l r b))

def means (l : Fin 2) (r : Fin 704) (b : Fin 1024) : EReal := Element.mean (grads m c l r b) ((V m c main_v1 : FVec Ideal S2x704x1024 .f32) (ix3 l r b))

def squares (l : Fin 2) (r : Fin 704) (b : Fin 1024) : EReal := Element.square (grads m c l r b) ((V m c main_v2 : FVec Ideal S2x704x1024 .f32) (ix3 l r b))

theorem pay8 (a : Fin 352) (b : Fin 1024) : k0_pay6 (F := Ideal) (grid0.coords t) (iblk m c 0 t) (iblk m c 2 t) (iblk m c 3 t) (iblk m c 5 t) (iblk m c 4 t) (ix3 0 a b) = grads m c (slot t) (row t a) b := by
  pointwise [k0_pay6, grad]

theorem emb8 (y : S1x352x1024.Idx) : ((cfg0.win 8).blk t).view.emb y = ix3 (slot t) (row t (y 1)) (y 2) := by
  blk_ext [slot, row, places t]

theorem array8 : (dats m 0 c).arrAt 8 (cfgs 0).N = (fun y : S2x704x1024.Idx => grads m c (y 0) (y 1) (y 2)) := by
  refine (dats m 0 c).arrAt_eq_of_covers 8 _ (by decide +kernel) fun t _ y => ?_
  refine (?_ : _ = _).trans (congrArg (fun y : S2x704x1024.Idx => grads m c (y 0) (y 1) (y 2)) (emb8 t y)).symm
  blk_simp
  rw [after0_8]
  unfold_out out0_8
  frame_out
  exact (congrArg _ ((eq_ix3 (n0 := 1) (n1 := 352) (n2 := 1024) y).trans (congrArg (fun k => ix3 k (y 1) (y 2)) (Subsingleton.elim (α := Fin 1) (y 0) 0)))).trans (pay8 m c t (y 1) (y 2))

/-- What the lines after the kernel leave in the result. -/
theorem tail8 : Pipeline.afterTail₀ cfgs (dats m) 0 (V0 m) [hostOps1] c main_v4 = transpose S2x1024x704 [0, 2, 1] ((dats m 0 c).arrAt 8 cfg0.N : FVec Ideal S2x704x1024 .f32) transposes_S2x704x1024_S2x1024x704_0_2_1 := by
  unfold Pipeline.afterTail₀
  change StableHlo.after hostOps1 (Pipeline.withArrays spec0 c (V0 m c) fun w => (dats m 0 c).arrAt w cfg0.N) (Proc.tc.devRef main_v4) = _
  after_results
  erw [Pipeline.withArrays_arr spec0 launch0.win.arr_inj c (V0 m c) _ 8]

theorem result8 : Pipeline.afterTail₀ cfgs (dats m) 0 (V0 m) [hostOps1] c main_v4 = val_main_v13 (F := Ideal) (m (c.tc.loc main_arg1)) (m (c.tc.loc main_arg2)) (m (c.tc.loc main_arg3)) (m (c.tc.loc main_arg4)) (m (c.tc.loc main_arg5)) := by
  refine (tail8 m c).trans ?_
  rw [array8]
  funext y
  obtain ⟨l, b, r, rfl⟩ : ∃ (l : Fin 2) (b : Fin 1024) (r : Fin 704), y = ix3 l b r := ⟨y 0, y 1, y 2, eq_ix3 y⟩
  refine Eq.trans (b := grads m c l r b) ?_ ?_
  · pointwise
  · rw [ref_grad]
    rfl

theorem pay9 (a : Fin 352) (b : Fin 1024) : k0_pay2 (F := Ideal) (k0_pay5 (F := Ideal) (grid0.coords t) (iblk m c 0 t) (iblk m c 2 t) (iblk m c 3 t) (iblk m c 5 t) (iblk m c 4 t)) (k0_pay7 (iblk m c 1 t)) (k0_pay8 (F := Ideal) (iblk m c 7 t)) (k0_pay9 (F := Ideal) (grid0.coords t) (iblk m c 0 t) (iblk m c 2 t) (iblk m c 3 t) (iblk m c 5 t) (iblk m c 4 t) (iblk m c 6 t)) (k0_pay10 (F := Ideal)) (ix3 0 a b) = steps m c (slot t) (row t a) b := by
  pointwise [steps, Element.step, Element.mean, Element.square, k0_pay2, k0_pay1, k0_pay7, k0_pay8, k0_pay9, k0_pay10, grad, rd1, rd6, rd7, named_m, named_v]

theorem emb9 (y : S1x352x1024.Idx) : ((cfg0.win 9).blk t).view.emb y = ix3 (slot t) (row t (y 1)) (y 2) := by
  blk_ext [slot, row, places t]

theorem array9 : (dats m 0 c).arrAt 9 (cfgs 0).N = (fun y : S2x704x1024.Idx => steps m c (y 0) (y 1) (y 2)) := by
  refine (dats m 0 c).arrAt_eq_of_covers 9 _ (by decide +kernel) fun t _ y => ?_
  refine (?_ : _ = _).trans (congrArg (fun y : S2x704x1024.Idx => steps m c (y 0) (y 1) (y 2)) (emb9 t y)).symm
  blk_simp
  rw [after0_9]
  unfold_out out0_9
  frame_out
  exact (congrArg _ ((eq_ix3 (n0 := 1) (n1 := 352) (n2 := 1024) y).trans (congrArg (fun k => ix3 k (y 1) (y 2)) (Subsingleton.elim (α := Fin 1) (y 0) 0)))).trans (pay9 m c t (y 1) (y 2))

/-- What the lines after the kernel leave in the result. -/
theorem tail9 : Pipeline.afterTail₀ cfgs (dats m) 0 (V0 m) [hostOps1] c main_v5 = transpose S2x1024x704 [0, 2, 1] ((dats m 0 c).arrAt 9 cfg0.N : FVec Ideal S2x704x1024 .f32) transposes_S2x704x1024_S2x1024x704_0_2_1 := by
  unfold Pipeline.afterTail₀
  change StableHlo.after hostOps1 (Pipeline.withArrays spec0 c (V0 m c) fun w => (dats m 0 c).arrAt w cfg0.N) (Proc.tc.devRef main_v5) = _
  after_results
  erw [Pipeline.withArrays_arr spec0 launch0.win.arr_inj c (V0 m c) _ 9]

theorem result9 : Pipeline.afterTail₀ cfgs (dats m) 0 (V0 m) [hostOps1] c main_v5 = val_main_v37 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (tail9 m c).trans ?_
  rw [array9]
  funext y
  obtain ⟨l, b, r, rfl⟩ : ∃ (l : Fin 2) (b : Fin 1024) (r : Fin 704), y = ix3 l b r := ⟨y 0, y 1, y 2, eq_ix3 y⟩
  refine Eq.trans (b := steps m c l r b) ?_ ?_
  · pointwise
  · rw [ref_step]
    unfold steps
    rw [entry1, entry6, entry7]
    rfl

theorem pay10 (a : Fin 352) (b : Fin 1024) : k0_pay3 (F := Ideal) (k0_pay9 (F := Ideal) (grid0.coords t) (iblk m c 0 t) (iblk m c 2 t) (iblk m c 3 t) (iblk m c 5 t) (iblk m c 4 t) (iblk m c 6 t)) (ix3 0 a b) = means m c (slot t) (row t a) b := by
  pointwise [means, Element.mean, k0_pay3, k0_pay8, k0_pay9, k0_pay10, grad, rd6]

theorem emb10 (y : S1x352x1024.Idx) : ((cfg0.win 10).blk t).view.emb y = ix3 (slot t) (row t (y 1)) (y 2) := by
  blk_ext [slot, row, places t]

theorem array10 : (dats m 0 c).arrAt 10 (cfgs 0).N = (fun y : S2x704x1024.Idx => means m c (y 0) (y 1) (y 2)) := by
  refine (dats m 0 c).arrAt_eq_of_covers 10 _ (by decide +kernel) fun t _ y => ?_
  refine (?_ : _ = _).trans (congrArg (fun y : S2x704x1024.Idx => means m c (y 0) (y 1) (y 2)) (emb10 t y)).symm
  blk_simp
  rw [after0_10]
  unfold_out out0_10
  frame_out
  exact (congrArg _ ((eq_ix3 (n0 := 1) (n1 := 352) (n2 := 1024) y).trans (congrArg (fun k => ix3 k (y 1) (y 2)) (Subsingleton.elim (α := Fin 1) (y 0) 0)))).trans (pay10 m c t (y 1) (y 2))

/-- What the lines after the kernel leave in the result. -/
theorem tail10 : Pipeline.afterTail₀ cfgs (dats m) 0 (V0 m) [hostOps1] c main_v6 = transpose S2x1024x704 [0, 2, 1] ((dats m 0 c).arrAt 10 cfg0.N : FVec Ideal S2x704x1024 .f32) transposes_S2x704x1024_S2x1024x704_0_2_1 := by
  unfold Pipeline.afterTail₀
  change StableHlo.after hostOps1 (Pipeline.withArrays spec0 c (V0 m c) fun w => (dats m 0 c).arrAt w cfg0.N) (Proc.tc.devRef main_v6) = _
  after_results
  erw [Pipeline.withArrays_arr spec0 launch0.win.arr_inj c (V0 m c) _ 10]

theorem result10 : Pipeline.afterTail₀ cfgs (dats m) 0 (V0 m) [hostOps1] c main_v6 = val_main_v18 (F := Ideal) (m (c.tc.loc main_arg1)) (m (c.tc.loc main_arg2)) (m (c.tc.loc main_arg3)) (m (c.tc.loc main_arg4)) (m (c.tc.loc main_arg5)) (m (c.tc.loc main_arg6)) := by
  refine (tail10 m c).trans ?_
  rw [array10]
  funext y
  obtain ⟨l, b, r, rfl⟩ : ∃ (l : Fin 2) (b : Fin 1024) (r : Fin 704), y = ix3 l b r := ⟨y 0, y 1, y 2, eq_ix3 y⟩
  refine Eq.trans (b := means m c l r b) ?_ ?_
  · pointwise
  · rw [ref_mean]
    unfold means
    rw [entry6]
    rfl

theorem pay11 (a : Fin 352) (b : Fin 1024) : k0_pay4 (F := Ideal) (k0_pay5 (F := Ideal) (grid0.coords t) (iblk m c 0 t) (iblk m c 2 t) (iblk m c 3 t) (iblk m c 5 t) (iblk m c 4 t)) (k0_pay8 (F := Ideal) (iblk m c 7 t)) (k0_pay10 (F := Ideal)) (ix3 0 a b) = squares m c (slot t) (row t a) b := by
  pointwise [squares, Element.square, k0_pay4, k0_pay1, k0_pay8, k0_pay9, k0_pay10, grad, rd7]

theorem emb11 (y : S1x352x1024.Idx) : ((cfg0.win 11).blk t).view.emb y = ix3 (slot t) (row t (y 1)) (y 2) := by
  blk_ext [slot, row, places t]

theorem array11 : (dats m 0 c).arrAt 11 (cfgs 0).N = (fun y : S2x704x1024.Idx => squares m c (y 0) (y 1) (y 2)) := by
  refine (dats m 0 c).arrAt_eq_of_covers 11 _ (by decide +kernel) fun t _ y => ?_
  refine (?_ : _ = _).trans (congrArg (fun y : S2x704x1024.Idx => squares m c (y 0) (y 1) (y 2)) (emb11 t y)).symm
  blk_simp
  rw [after0_11]
  unfold_out out0_11
  frame_out
  exact (congrArg _ ((eq_ix3 (n0 := 1) (n1 := 352) (n2 := 1024) y).trans (congrArg (fun k => ix3 k (y 1) (y 2)) (Subsingleton.elim (α := Fin 1) (y 0) 0)))).trans (pay11 m c t (y 1) (y 2))

/-- What the lines after the kernel leave in the result. -/
theorem tail11 : Pipeline.afterTail₀ cfgs (dats m) 0 (V0 m) [hostOps1] c main_v7 = transpose S2x1024x704 [0, 2, 1] ((dats m 0 c).arrAt 11 cfg0.N : FVec Ideal S2x704x1024 .f32) transposes_S2x704x1024_S2x1024x704_0_2_1 := by
  unfold Pipeline.afterTail₀
  change StableHlo.after hostOps1 (Pipeline.withArrays spec0 c (V0 m c) fun w => (dats m 0 c).arrAt w cfg0.N) (Proc.tc.devRef main_v7) = _
  after_results
  erw [Pipeline.withArrays_arr spec0 launch0.win.arr_inj c (V0 m c) _ 11]

theorem result11 : Pipeline.afterTail₀ cfgs (dats m) 0 (V0 m) [hostOps1] c main_v7 = val_main_v24 (F := Ideal) (m (c.tc.loc main_arg1)) (m (c.tc.loc main_arg2)) (m (c.tc.loc main_arg3)) (m (c.tc.loc main_arg4)) (m (c.tc.loc main_arg5)) (m (c.tc.loc main_arg7)) := by
  refine (tail11 m c).trans ?_
  rw [array11]
  funext y
  obtain ⟨l, b, r, rfl⟩ : ∃ (l : Fin 2) (b : Fin 1024) (r : Fin 704), y = ix3 l b r := ⟨y 0, y 1, y 2, eq_ix3 y⟩
  refine Eq.trans (b := squares m c l r b) ?_ ?_
  · pointwise
  · rw [ref_square]
    unfold squares
    rw [entry7]
    rfl

/-- The kernel's results are the reference's. -/
theorem holds : Cert.algebraic_AdamwGateIdeal_AdamwGateRefIdeal := by
  intro m g m' g' _ hagree
  refine ⟨fun c => Pipeline.afterTail₀ cfgs (dats m) 0 (V0 m) [hostOps1] c main_v4, fun c => Pipeline.afterTail₀ cfgs (dats m) 0 (V0 m) [hostOps1] c main_v5, fun c => Pipeline.afterTail₀ cfgs (dats m) 0 (V0 m) [hostOps1] c main_v6, fun c => Pipeline.afterTail₀ cfgs (dats m) 0 (V0 m) [hostOps1] c main_v7, θ_run_mono (run_main m g) fun r h c => ?_, θ_run_mono (Cert.AdamwGateRefIdeal.Value.run m' g') fun r h c => ?_⟩
  · exact ⟨(h c).2 main_v4 (Pipeline.mem_restRefs_of main_v4 (by decide) (by decide)), (h c).2 main_v5 (Pipeline.mem_restRefs_of main_v5 (by decide) (by decide)), (h c).2 main_v6 (Pipeline.mem_restRefs_of main_v6 (by decide) (by decide)), (h c).2 main_v7 (Pipeline.mem_restRefs_of main_v7 (by decide) (by decide)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 0).trans (((dats m 0 c).arrAt_in 0 rfl _).trans ((A_eq m c 0).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩
  obtain ⟨h0, h1, h2, h3, hk⟩ := h c
  obtain ⟨a0, a1, a2, a3, a4, a5, a6, a7⟩ := hagree c
  have e0 := h0.trans (show _ = val_main_v13 (F := Ideal) (m' (c.tc.loc Cert.AdamwGateRefIdeal.main_arg1)) (m' (c.tc.loc Cert.AdamwGateRefIdeal.main_arg2)) (m' (c.tc.loc Cert.AdamwGateRefIdeal.main_arg3)) (m' (c.tc.loc Cert.AdamwGateRefIdeal.main_arg4)) (m' (c.tc.loc Cert.AdamwGateRefIdeal.main_arg5)) from rfl)
  rw [a1, a2, a3, a4, a5] at e0
  have e1 := h1.trans (show _ = val_main_v37 (F := Ideal) (m' (c.tc.loc Cert.AdamwGateRefIdeal.main_arg0)) (m' (c.tc.loc Cert.AdamwGateRefIdeal.main_arg1)) (m' (c.tc.loc Cert.AdamwGateRefIdeal.main_arg2)) (m' (c.tc.loc Cert.AdamwGateRefIdeal.main_arg3)) (m' (c.tc.loc Cert.AdamwGateRefIdeal.main_arg4)) (m' (c.tc.loc Cert.AdamwGateRefIdeal.main_arg5)) (m' (c.tc.loc Cert.AdamwGateRefIdeal.main_arg6)) (m' (c.tc.loc Cert.AdamwGateRefIdeal.main_arg7)) from rfl)
  rw [a0, a1, a2, a3, a4, a5, a6, a7] at e1
  have e2 := h2.trans (show _ = val_main_v18 (F := Ideal) (m' (c.tc.loc Cert.AdamwGateRefIdeal.main_arg1)) (m' (c.tc.loc Cert.AdamwGateRefIdeal.main_arg2)) (m' (c.tc.loc Cert.AdamwGateRefIdeal.main_arg3)) (m' (c.tc.loc Cert.AdamwGateRefIdeal.main_arg4)) (m' (c.tc.loc Cert.AdamwGateRefIdeal.main_arg5)) (m' (c.tc.loc Cert.AdamwGateRefIdeal.main_arg6)) from rfl)
  rw [a1, a2, a3, a4, a5, a6] at e2
  have e3 := h3.trans (show _ = val_main_v24 (F := Ideal) (m' (c.tc.loc Cert.AdamwGateRefIdeal.main_arg1)) (m' (c.tc.loc Cert.AdamwGateRefIdeal.main_arg2)) (m' (c.tc.loc Cert.AdamwGateRefIdeal.main_arg3)) (m' (c.tc.loc Cert.AdamwGateRefIdeal.main_arg4)) (m' (c.tc.loc Cert.AdamwGateRefIdeal.main_arg5)) (m' (c.tc.loc Cert.AdamwGateRefIdeal.main_arg7)) from rfl)
  rw [a1, a2, a3, a4, a5, a7] at e3
  exact ⟨e0.trans (result8 m c).symm, e1.trans (result9 m c).symm, e2.trans (result10 m c).symm, e3.trans (result11 m c).symm, hk⟩

end Cert.UpdateGate

end
-- ==== Proof.UpdateIn.lean ====
/- The value of AdamwIn: the optimiser's three results at each element. -/
module

public import proofs.«01_k».proof.Proof.Gen.AdamwInIdeal.Frame
public import proofs.«01_k».proof.Proof.Gen.AdamwInRefIdeal.Run
public import proofs.«01_k».proof.Proof.Gen.AdamwInRefIdeal.Read
public import proofs.«01_k».proof.Proof.Common
public import proofs.«01_k».proof.Proof.Debias
public import proofs.«01_k».proof.Proof.Element

@[expose] public section

set_option maxRecDepth 16384

noncomputable section

namespace Cert.UpdateIn

open Idealize.ShloMosaic Idealize.ShloMosaic.TcCoe Idealize.SL.Sem
open Cert.AdamwInIdeal Cert.AdamwInIdeal.Gen
open Cert.AdamwInRefIdeal.Read

variable (m : (ℓ : Loc nD τ sig) → Buf (Elt Ideal) ℓ) (c : Dev nD)

/-- The two ledger entries: each named constant rounds to the kernel's word. -/
theorem preserves : Cert.preserves_AdamwIn_AdamwInIdeal :=
  ⟨IdealRules.named_const.statement Cert.AdamwInIdeal.κ "debias_m" .f32 0x3FC48605#32 ((8388608 / 5463681 : ℝ) : EReal) rfl,
   IdealRules.named_const.statement Cert.AdamwInIdeal.κ "debias_v" .f32 0x42C8E6D3#32 ((268435456 / 2672307 : ℝ) : EReal) rfl⟩

theorem named_m : Named.named (F := Ideal) Cert.AdamwInIdeal.κ "debias_m" (φ := .f32) 0x3FC48605#32 = ((8388608 / 5463681 : ℝ) : EReal) :=
  IdealRules.named_const.ideal_named_scalar _ _ _ _ rfl

theorem named_v : Named.named (F := Ideal) Cert.AdamwInIdeal.κ "debias_v" (φ := .f32) 0x42C8E6D3#32 = ((268435456 / 2672307 : ℝ) : EReal) :=
  IdealRules.named_const.ideal_named_scalar _ _ _ _ rfl

/-- Where the windows stand at each point of the grid. -/
theorem places : ∀ t : Fin cfg0.N, win0_0.index t = ![0, 0] ∧ win0_1.index t = ![t.val / 6, t.val % 6, 0] ∧ win0_2.index t = ![if t.val / 6 = 0 then t.val % 6 else 0, 0] ∧ win0_3.index t = ![if t.val / 6 = 0 then t.val % 6 else 0, 0] ∧ win0_4.index t = ![if t.val / 6 = 1 then t.val % 6 else 0, 0] ∧ win0_5.index t = ![if t.val / 6 = 1 then t.val % 6 else 0, 0] ∧ win0_6.index t = ![t.val / 6, t.val % 6, 0] ∧ win0_7.index t = ![t.val / 6, t.val % 6, 0] ∧ win0_8.index t = ![t.val / 6, t.val % 6, 0] ∧ win0_9.index t = ![t.val / 6, t.val % 6, 0] ∧ win0_10.index t = ![t.val / 6, t.val % 6, 0] ∧ win0_11.index t = ![t.val / 6, t.val % 6, 0] :=
  (by decide +kernel : ∀ t : Fin grid0.N, _)

/-- The first coordinate of a point of the grid is its layer. -/
theorem layer : ∀ t : Fin cfg0.N, (grid0.coords t 0).val = t.val / 6 :=
  (by decide +kernel : ∀ t : Fin grid0.N, _)

/-- The layer of a point of the grid. -/
def slot (t : Fin cfg0.N) : Fin 2 := ⟨t.val / 6, by have h := lt_of_lt_of_eq t.isLt N_0; omega⟩

/-- The row of the array at a row of a point's block. -/
def row (t : Fin cfg0.N) (a : Fin 344) : Fin 2064 := ⟨t.val % 6 * 344 + a.val, by omega⟩

theorem slot_of (t : Fin cfg0.N) : slot t = 0 ∧ t.val / 6 = 0 ∨ slot t = 1 ∧ t.val / 6 = 1 := by
  have h := lt_of_lt_of_eq t.isLt N_0
  rcases (by omega : t.val / 6 = 0 ∨ t.val / 6 = 1) with e | e
  · exact Or.inl ⟨Fin.ext e, e⟩
  · exact Or.inr ⟨Fin.ext e, e⟩

theorem second (x y : EReal) : Scalar.select (Scalar.cmpi .eq 1#32 0#32) x y = y := rfl

/-- A kept row among the rows of the padded layout. -/
def kept (r : Fin 2052) : Fin 2064 := ⟨r.val, by omega⟩

section Reference

variable (x0 : FVec Ideal S2x1024x2052 .f32) (x1 x2 x3 x4 : FVec Ideal S2064x1024 .f32) (x5 : FVec Ideal S1x1 .f32) (x6 x7 : FVec Ideal S2x1024x2052 .f32) (l : Fin 2) (r : Fin 2052) (b : Fin 1024)

theorem ref_grad : val_main_v17 (F := Ideal) x1 x2 x3 x4 x5 (ix3 l b r) = Element.pick l (x5 (ix2 0 0)) (x1 (ix2 (kept r) b)) (x2 (ix2 (kept r) b)) (x3 (ix2 (kept r) b)) (x4 (ix2 (kept r) b)) := by
  rcases (by omega : l = 0 ∨ l = 1) with rfl | rfl
  · pointwise [Element.pick, val_main_v17, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_call0_v0]
    all_goals rfl
  · pointwise [Element.pick, val_main_v17, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_call0_v0]
    all_goals rfl

theorem ref_mean : val_main_v22 (F := Ideal) x1 x2 x3 x4 x5 x6 (ix3 l b r) = Element.mean (Element.pick l (x5 (ix2 0 0)) (x1 (ix2 (kept r) b)) (x2 (ix2 (kept r) b)) (x3 (ix2 (kept r) b)) (x4 (ix2 (kept r) b))) (x6 (ix3 l b r)) := by
  pointwise [Element.mean, ref_grad, val_main_cst_0, val_main_v18, val_main_v19, val_main_cst_1, val_main_v20, val_main_v21, val_main_v22]

theorem ref_square : val_main_v28 (F := Ideal) x1 x2 x3 x4 x5 x7 (ix3 l b r) = Element.square (Element.pick l (x5 (ix2 0 0)) (x1 (ix2 (kept r) b)) (x2 (ix2 (kept r) b)) (x3 (ix2 (kept r) b)) (x4 (ix2 (kept r) b))) (x7 (ix3 l b r)) := by
  pointwise [Element.square, ref_grad, val_main_cst_2, val_main_v23, val_main_v24, val_main_v25, val_main_cst_3, val_main_v26, val_main_v27, val_main_v28]

theorem ref_step : val_main_v41 (F := Ideal) x0 x1 x2 x3 x4 x5 x6 x7 (ix3 l b r) = Element.step (x0 (ix3 l b r)) (Element.pick l (x5 (ix2 0 0)) (x1 (ix2 (kept r) b)) (x2 (ix2 (kept r) b)) (x3 (ix2 (kept r) b)) (x4 (ix2 (kept r) b))) (x6 (ix3 l b r)) (x7 (ix3 l b r)) := by
  pointwise [Element.step, ref_mean, ref_square, val_main_cst_4, val_main_v29, val_main_v30, val_main_cst_5, val_main_v31, val_main_v32, val_main_v33, val_main_cst_6, val_main_v34, val_main_v35, val_main_v36, val_main_cst_7, val_main_v37, val_main_v38, val_main_v39, val_main_cst_8, val_main_v40, val_main_v41, Debias.div_m, Debias.div_v]

end Reference

/-- The gradient the kernel selects at an element of its layout. -/
def grads (l : Fin 2) (r : Fin 2064) (b : Fin 1024) : EReal :=
  Element.pick l (((m (c.tc.loc main_arg5)) : FVec Ideal S1x1 .f32) (ix2 0 0)) (((m (c.tc.loc main_arg1)) : FVec Ideal S2064x1024 .f32) (ix2 r b)) (((m (c.tc.loc main_arg2)) : FVec Ideal S2064x1024 .f32) (ix2 r b)) (((m (c.tc.loc main_arg3)) : FVec Ideal S2064x1024 .f32) (ix2 r b)) (((m (c.tc.loc main_arg4)) : FVec Ideal S2064x1024 .f32) (ix2 r b))

theorem entry1 (l : Fin 2) (r : Fin 2052) (b : Fin 1024) : (V m c main_v1 : FVec Ideal S2x2064x1024 .f32) (ix3 l (kept r) b) = ((m (c.tc.loc main_arg0)) : FVec Ideal S2x1024x2052 .f32) (ix3 l b r) := by
  show (StableHlo.after [hostOps0, hostOps0_1, hostOps0_2, hostOps0_3, hostOps0_4, hostOps0_5].flatten (fun b => m (c, b)) (Proc.tc.devRef main_v1) : FVec Ideal S2x2064x1024 .f32) _ = _
  simp only [hostOps0, hostOps0_1, hostOps0_2, hostOps0_3, hostOps0_4, hostOps0_5, List.flatten_cons, List.flatten_nil, List.cons_append, List.nil_append, List.append_nil]
  after_results
  show pad S2x2064x1024 ![0, 0, 0] ![0, 12, 0] ![0, 0, 0] (transpose S2x2052x1024 [0, 2, 1] ((m (c.tc.loc main_arg0)) : FVec Ideal S2x1024x2052 .f32) transposes_S2x1024x2052_S2x2052x1024_0_2_1) (sitofp .f32 (constantI S_ 32 0#32) : FVec Ideal S_ .f32) pads_S2x2052x1024_S2x2064x1024_000_0120_000 h_S_ (ix3 l (kept r) b) = _
  pointwise
  exact dif_pos r.isLt

theorem entry6 (l : Fin 2) (r : Fin 2052) (b : Fin 1024) : (V m c main_v3 : FVec Ideal S2x2064x1024 .f32) (ix3 l (kept r) b) = ((m (c.tc.loc main_arg6)) : FVec Ideal S2x1024x2052 .f32) (ix3 l b r) := by
  show (StableHlo.after [hostOps0, hostOps0_1, hostOps0_2, hostOps0_3, hostOps0_4, hostOps0_5].flatten (fun b => m (c, b)) (Proc.tc.devRef main_v3) : FVec Ideal S2x2064x1024 .f32) _ = _
  simp only [hostOps0, hostOps0_1, hostOps0_2, hostOps0_3, hostOps0_4, hostOps0_5, List.flatten_cons, List.flatten_nil, List.cons_append, List.nil_append, List.append_nil]
  after_results
  show pad S2x2064x1024 ![0, 0, 0] ![0, 12, 0] ![0, 0, 0] (transpose S2x2052x1024 [0, 2, 1] ((m (c.tc.loc main_arg6)) : FVec Ideal S2x1024x2052 .f32) transposes_S2x1024x2052_S2x2052x1024_0_2_1) (sitofp .f32 (constantI S_ 32 0#32) : FVec Ideal S_ .f32) pads_S2x2052x1024_S2x2064x1024_000_0120_000 h_S_ (ix3 l (kept r) b) = _
  pointwise
  exact dif_pos r.isLt

theorem entry7 (l : Fin 2) (r : Fin 2052) (b : Fin 1024) : (V m c main_v5 : FVec Ideal S2x2064x1024 .f32) (ix3 l (kept r) b) = ((m (c.tc.loc main_arg7)) : FVec Ideal S2x1024x2052 .f32) (ix3 l b r) := by
  show (StableHlo.after [hostOps0, hostOps0_1, hostOps0_2, hostOps0_3, hostOps0_4, hostOps0_5].flatten (fun b => m (c, b)) (Proc.tc.devRef main_v5) : FVec Ideal S2x2064x1024 .f32) _ = _
  simp only [hostOps0, hostOps0_1, hostOps0_2, hostOps0_3, hostOps0_4, hostOps0_5, List.flatten_cons, List.flatten_nil, List.cons_append, List.nil_append, List.append_nil]
  after_results
  show pad S2x2064x1024 ![0, 0, 0] ![0, 12, 0] ![0, 0, 0] (transpose S2x2052x1024 [0, 2, 1] ((m (c.tc.loc main_arg7)) : FVec Ideal S2x1024x2052 .f32) transposes_S2x1024x2052_S2x2052x1024_0_2_1) (sitofp .f32 (constantI S_ 32 0#32) : FVec Ideal S_ .f32) pads_S2x2052x1024_S2x2064x1024_000_0120_000 h_S_ (ix3 l (kept r) b) = _
  pointwise
  exact dif_pos r.isLt

variable (t : Fin cfg0.N)

theorem rd0 : iblk m c 0 t (ix2 0 0) = ((m (c.tc.loc main_arg5)) : FVec Ideal S1x1 .f32) (ix2 0 0) := by
  blk_simp [iblk]
  rw [V_main_arg5]
  blk_point [places t]

theorem rd1 (a : Fin 344) (b : Fin 1024) : iblk m c 1 t (ix3 0 a b) = (V m c main_v1 : FVec Ideal S2x2064x1024 .f32) (ix3 (slot t) (row t a) b) := by
  blk_simp [iblk]
  refine congrArg (V m c main_v1 : FVec Ideal S2x2064x1024 .f32) ?_
  blk_ext [slot, row, places t]

theorem rd6 (a : Fin 344) (b : Fin 1024) : iblk m c 6 t (ix3 0 a b) = (V m c main_v3 : FVec Ideal S2x2064x1024 .f32) (ix3 (slot t) (row t a) b) := by
  blk_simp [iblk]
  refine congrArg (V m c main_v3 : FVec Ideal S2x2064x1024 .f32) ?_
  blk_ext [slot, row, places t]

theorem rd7 (a : Fin 344) (b : Fin 1024) : iblk m c 7 t (ix3 0 a b) = (V m c main_v5 : FVec Ideal S2x2064x1024 .f32) (ix3 (slot t) (row t a) b) := by
  blk_simp [iblk]
  refine congrArg (V m c main_v5 : FVec Ideal S2x2064x1024 .f32) ?_
  blk_ext [slot, row, places t]

theorem rd2 (h : t.val / 6 = 0) (a : Fin 344) (b : Fin 1024) : iblk m c 2 t (ix2 a b) = ((m (c.tc.loc main_arg1)) : FVec Ideal S2064x1024 .f32) (ix2 (row t a) b) := by
  blk_simp [iblk]
  rw [V_main_arg1]
  have e := (places t).2.2.1
  rw [if_pos h] at e
  blk_point [row, e]

theorem rd3 (h : t.val / 6 = 0) (a : Fin 344) (b : Fin 1024) : iblk m c 3 t (ix2 a b) = ((m (c.tc.loc main_arg2)) : FVec Ideal S2064x1024 .f32) (ix2 (row t a) b) := by
  blk_simp [iblk]
  rw [V_main_arg2]
  have e := (places t).2.2.2.1
  rw [if_pos h] at e
  blk_point [row, e]

theorem rd4 (h : t.val / 6 = 1) (a : Fin 344) (b : Fin 1024) : iblk m c 4 t (ix2 a b) = ((m (c.tc.loc main_arg3)) : FVec Ideal S2064x1024 .f32) (ix2 (row t a) b) := by
  blk_simp [iblk]
  rw [V_main_arg3]
  have e := (places t).2.2.2.2.1
  rw [if_pos h] at e
  blk_point [row, e]

theorem rd5 (h : t.val / 6 = 1) (a : Fin 344) (b : Fin 1024) : iblk m c 5 t (ix2 a b) = ((m (c.tc.loc main_arg4)) : FVec Ideal S2064x1024 .f32) (ix2 (row t a) b) := by
  blk_simp [iblk]
  rw [V_main_arg4]
  have e := (places t).2.2.2.2.2.1
  rw [if_pos h] at e
  blk_point [row, e]

theorem grad (a : Fin 344) (b : Fin 1024) : k0_pay5 (F := Ideal) (grid0.coords t) (iblk m c 0 t) (iblk m c 2 t) (iblk m c 3 t) (iblk m c 5 t) (iblk m c 4 t) (ix2 a b) = grads m c (slot t) (row t a) b := by
  rcases slot_of t with ⟨e, h⟩ | ⟨e, h⟩
  · rw [e]
    pointwise [grads, Element.pick, k0_pay5, layer t, h, rd0, rd2 m c t h, rd3 m c t h]
  · rw [e]
    pointwise [grads, Element.pick, k0_pay5, layer t, h, second, rd0, rd4 m c t h, rd5 m c t h]

def steps (l : Fin 2) (r : Fin 2064) (b : Fin 1024) : EReal := Element.step ((V m c main_v1 : FVec Ideal S2x2064x1024 .f32) (ix3 l r b)) (grads m c l r b) ((V m c main_v3 : FVec Ideal S2x2064x1024 .f32) (ix3 l r b)) ((V m c main_v5 : FVec Ideal S2x2064x1024 .f32) (ix3 l r b))

def means (l : Fin 2) (r : Fin 2064) (b : Fin 1024) : EReal := Element.mean (grads m c l r b) ((V m c main_v3 : FVec Ideal S2x2064x1024 .f32) (ix3 l r b))

def squares (l : Fin 2) (r : Fin 2064) (b : Fin 1024) : EReal := Element.square (grads m c l r b) ((V m c main_v5 : FVec Ideal S2x2064x1024 .f32) (ix3 l r b))

theorem pay8 (a : Fin 344) (b : Fin 1024) : k0_pay6 (F := Ideal) (grid0.coords t) (iblk m c 0 t) (iblk m c 2 t) (iblk m c 3 t) (iblk m c 5 t) (iblk m c 4 t) (ix3 0 a b) = grads m c (slot t) (row t a) b := by
  pointwise [k0_pay6, grad]

theorem emb8 (y : S1x344x1024.Idx) : ((cfg0.win 8).blk t).view.emb y = ix3 (slot t) (row t (y 1)) (y 2) := by
  blk_ext [slot, row, places t]

theorem array8 : (dats m 0 c).arrAt 8 (cfgs 0).N = (fun y : S2x2064x1024.Idx => grads m c (y 0) (y 1) (y 2)) := by
  refine (dats m 0 c).arrAt_eq_of_covers 8 _ (by decide +kernel) fun t _ y => ?_
  refine (?_ : _ = _).trans (congrArg (fun y : S2x2064x1024.Idx => grads m c (y 0) (y 1) (y 2)) (emb8 t y)).symm
  blk_simp
  rw [after0_8]
  unfold_out out0_8
  frame_out
  exact (congrArg _ ((eq_ix3 (n0 := 1) (n1 := 344) (n2 := 1024) y).trans (congrArg (fun k => ix3 k (y 1) (y 2)) (Subsingleton.elim (α := Fin 1) (y 0) 0)))).trans (pay8 m c t (y 1) (y 2))

/-- What the lines after the kernel leave in the result. -/
theorem tail8 : Pipeline.afterTail₀ cfgs (dats m) 0 (V0 m) [hostOps1] c main_v8 = transpose S2x1024x2052 [0, 2, 1] (extractStridedSlice S2x2052x1024 ![0, 0, 0] ((dats m 0 c).arrAt 8 cfg0.N : FVec Ideal S2x2064x1024 .f32) slices_S2x2064x1024_S2x2052x1024_0_0_0) transposes_S2x2052x1024_S2x1024x2052_0_2_1 := by
  unfold Pipeline.afterTail₀
  change StableHlo.after hostOps1 (Pipeline.withArrays spec0 c (V0 m c) fun w => (dats m 0 c).arrAt w cfg0.N) (Proc.tc.devRef main_v8) = _
  after_results
  erw [Pipeline.withArrays_arr spec0 launch0.win.arr_inj c (V0 m c) _ 8]

theorem result8 : Pipeline.afterTail₀ cfgs (dats m) 0 (V0 m) [hostOps1] c main_v8 = val_main_v17 (F := Ideal) (m (c.tc.loc main_arg1)) (m (c.tc.loc main_arg2)) (m (c.tc.loc main_arg3)) (m (c.tc.loc main_arg4)) (m (c.tc.loc main_arg5)) := by
  refine (tail8 m c).trans ?_
  rw [array8]
  funext y
  obtain ⟨l, b, r, rfl⟩ : ∃ (l : Fin 2) (b : Fin 1024) (r : Fin 2052), y = ix3 l b r := ⟨y 0, y 1, y 2, eq_ix3 y⟩
  refine Eq.trans (b := grads m c l (kept r) b) ?_ ?_
  · pointwise
    rfl
  · rw [ref_grad]
    rfl

theorem pay9 (a : Fin 344) (b : Fin 1024) : k0_pay2 (F := Ideal) (k0_pay5 (F := Ideal) (grid0.coords t) (iblk m c 0 t) (iblk m c 2 t) (iblk m c 3 t) (iblk m c 5 t) (iblk m c 4 t)) (k0_pay7 (iblk m c 1 t)) (k0_pay8 (F := Ideal) (iblk m c 7 t)) (k0_pay9 (F := Ideal) (grid0.coords t) (iblk m c 0 t) (iblk m c 2 t) (iblk m c 3 t) (iblk m c 5 t) (iblk m c 4 t) (iblk m c 6 t)) (k0_pay10 (F := Ideal)) (ix3 0 a b) = steps m c (slot t) (row t a) b := by
  pointwise [steps, Element.step, Element.mean, Element.square, k0_pay2, k0_pay1, k0_pay7, k0_pay8, k0_pay9, k0_pay10, grad, rd1, rd6, rd7, named_m, named_v]

theorem emb9 (y : S1x344x1024.Idx) : ((cfg0.win 9).blk t).view.emb y = ix3 (slot t) (row t (y 1)) (y 2) := by
  blk_ext [slot, row, places t]

theorem array9 : (dats m 0 c).arrAt 9 (cfgs 0).N = (fun y : S2x2064x1024.Idx => steps m c (y 0) (y 1) (y 2)) := by
  refine (dats m 0 c).arrAt_eq_of_covers 9 _ (by decide +kernel) fun t _ y => ?_
  refine (?_ : _ = _).trans (congrArg (fun y : S2x2064x1024.Idx => steps m c (y 0) (y 1) (y 2)) (emb9 t y)).symm
  blk_simp
  rw [after0_9]
  unfold_out out0_9
  frame_out
  exact (congrArg _ ((eq_ix3 (n0 := 1) (n1 := 344) (n2 := 1024) y).trans (congrArg (fun k => ix3 k (y 1) (y 2)) (Subsingleton.elim (α := Fin 1) (y 0) 0)))).trans (pay9 m c t (y 1) (y 2))

/-- What the lines after the kernel leave in the result. -/
theorem tail9 : Pipeline.afterTail₀ cfgs (dats m) 0 (V0 m) [hostOps1] c main_v10 = transpose S2x1024x2052 [0, 2, 1] (extractStridedSlice S2x2052x1024 ![0, 0, 0] ((dats m 0 c).arrAt 9 cfg0.N : FVec Ideal S2x2064x1024 .f32) slices_S2x2064x1024_S2x2052x1024_0_0_0) transposes_S2x2052x1024_S2x1024x2052_0_2_1 := by
  unfold Pipeline.afterTail₀
  change StableHlo.after hostOps1 (Pipeline.withArrays spec0 c (V0 m c) fun w => (dats m 0 c).arrAt w cfg0.N) (Proc.tc.devRef main_v10) = _
  after_results
  erw [Pipeline.withArrays_arr spec0 launch0.win.arr_inj c (V0 m c) _ 9]

theorem result9 : Pipeline.afterTail₀ cfgs (dats m) 0 (V0 m) [hostOps1] c main_v10 = val_main_v41 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (tail9 m c).trans ?_
  rw [array9]
  funext y
  obtain ⟨l, b, r, rfl⟩ : ∃ (l : Fin 2) (b : Fin 1024) (r : Fin 2052), y = ix3 l b r := ⟨y 0, y 1, y 2, eq_ix3 y⟩
  refine Eq.trans (b := steps m c l (kept r) b) ?_ ?_
  · pointwise
    rfl
  · rw [ref_step]
    unfold steps
    rw [entry1, entry6, entry7]
    rfl

theorem pay10 (a : Fin 344) (b : Fin 1024) : k0_pay3 (F := Ideal) (k0_pay9 (F := Ideal) (grid0.coords t) (iblk m c 0 t) (iblk m c 2 t) (iblk m c 3 t) (iblk m c 5 t) (iblk m c 4 t) (iblk m c 6 t)) (ix3 0 a b) = means m c (slot t) (row t a) b := by
  pointwise [means, Element.mean, k0_pay3, k0_pay8, k0_pay9, k0_pay10, grad, rd6]

theorem emb10 (y : S1x344x1024.Idx) : ((cfg0.win 10).blk t).view.emb y = ix3 (slot t) (row t (y 1)) (y 2) := by
  blk_ext [slot, row, places t]

theorem array10 : (dats m 0 c).arrAt 10 (cfgs 0).N = (fun y : S2x2064x1024.Idx => means m c (y 0) (y 1) (y 2)) := by
  refine (dats m 0 c).arrAt_eq_of_covers 10 _ (by decide +kernel) fun t _ y => ?_
  refine (?_ : _ = _).trans (congrArg (fun y : S2x2064x1024.Idx => means m c (y 0) (y 1) (y 2)) (emb10 t y)).symm
  blk_simp
  rw [after0_10]
  unfold_out out0_10
  frame_out
  exact (congrArg _ ((eq_ix3 (n0 := 1) (n1 := 344) (n2 := 1024) y).trans (congrArg (fun k => ix3 k (y 1) (y 2)) (Subsingleton.elim (α := Fin 1) (y 0) 0)))).trans (pay10 m c t (y 1) (y 2))

/-- What the lines after the kernel leave in the result. -/
theorem tail10 : Pipeline.afterTail₀ cfgs (dats m) 0 (V0 m) [hostOps1] c main_v12 = transpose S2x1024x2052 [0, 2, 1] (extractStridedSlice S2x2052x1024 ![0, 0, 0] ((dats m 0 c).arrAt 10 cfg0.N : FVec Ideal S2x2064x1024 .f32) slices_S2x2064x1024_S2x2052x1024_0_0_0) transposes_S2x2052x1024_S2x1024x2052_0_2_1 := by
  unfold Pipeline.afterTail₀
  change StableHlo.after hostOps1 (Pipeline.withArrays spec0 c (V0 m c) fun w => (dats m 0 c).arrAt w cfg0.N) (Proc.tc.devRef main_v12) = _
  after_results
  erw [Pipeline.withArrays_arr spec0 launch0.win.arr_inj c (V0 m c) _ 10]

theorem result10 : Pipeline.afterTail₀ cfgs (dats m) 0 (V0 m) [hostOps1] c main_v12 = val_main_v22 (F := Ideal) (m (c.tc.loc main_arg1)) (m (c.tc.loc main_arg2)) (m (c.tc.loc main_arg3)) (m (c.tc.loc main_arg4)) (m (c.tc.loc main_arg5)) (m (c.tc.loc main_arg6)) := by
  refine (tail10 m c).trans ?_
  rw [array10]
  funext y
  obtain ⟨l, b, r, rfl⟩ : ∃ (l : Fin 2) (b : Fin 1024) (r : Fin 2052), y = ix3 l b r := ⟨y 0, y 1, y 2, eq_ix3 y⟩
  refine Eq.trans (b := means m c l (kept r) b) ?_ ?_
  · pointwise
    rfl
  · rw [ref_mean]
    unfold means
    rw [entry6]
    rfl

theorem pay11 (a : Fin 344) (b : Fin 1024) : k0_pay4 (F := Ideal) (k0_pay5 (F := Ideal) (grid0.coords t) (iblk m c 0 t) (iblk m c 2 t) (iblk m c 3 t) (iblk m c 5 t) (iblk m c 4 t)) (k0_pay8 (F := Ideal) (iblk m c 7 t)) (k0_pay10 (F := Ideal)) (ix3 0 a b) = squares m c (slot t) (row t a) b := by
  pointwise [squares, Element.square, k0_pay4, k0_pay1, k0_pay8, k0_pay9, k0_pay10, grad, rd7]

theorem emb11 (y : S1x344x1024.Idx) : ((cfg0.win 11).blk t).view.emb y = ix3 (slot t) (row t (y 1)) (y 2) := by
  blk_ext [slot, row, places t]

theorem array11 : (dats m 0 c).arrAt 11 (cfgs 0).N = (fun y : S2x2064x1024.Idx => squares m c (y 0) (y 1) (y 2)) := by
  refine (dats m 0 c).arrAt_eq_of_covers 11 _ (by decide +kernel) fun t _ y => ?_
  refine (?_ : _ = _).trans (congrArg (fun y : S2x2064x1024.Idx => squares m c (y 0) (y 1) (y 2)) (emb11 t y)).symm
  blk_simp
  rw [after0_11]
  unfold_out out0_11
  frame_out
  exact (congrArg _ ((eq_ix3 (n0 := 1) (n1 := 344) (n2 := 1024) y).trans (congrArg (fun k => ix3 k (y 1) (y 2)) (Subsingleton.elim (α := Fin 1) (y 0) 0)))).trans (pay11 m c t (y 1) (y 2))

/-- What the lines after the kernel leave in the result. -/
theorem tail11 : Pipeline.afterTail₀ cfgs (dats m) 0 (V0 m) [hostOps1] c main_v14 = transpose S2x1024x2052 [0, 2, 1] (extractStridedSlice S2x2052x1024 ![0, 0, 0] ((dats m 0 c).arrAt 11 cfg0.N : FVec Ideal S2x2064x1024 .f32) slices_S2x2064x1024_S2x2052x1024_0_0_0) transposes_S2x2052x1024_S2x1024x2052_0_2_1 := by
  unfold Pipeline.afterTail₀
  change StableHlo.after hostOps1 (Pipeline.withArrays spec0 c (V0 m c) fun w => (dats m 0 c).arrAt w cfg0.N) (Proc.tc.devRef main_v14) = _
  after_results
  erw [Pipeline.withArrays_arr spec0 launch0.win.arr_inj c (V0 m c) _ 11]

theorem result11 : Pipeline.afterTail₀ cfgs (dats m) 0 (V0 m) [hostOps1] c main_v14 = val_main_v28 (F := Ideal) (m (c.tc.loc main_arg1)) (m (c.tc.loc main_arg2)) (m (c.tc.loc main_arg3)) (m (c.tc.loc main_arg4)) (m (c.tc.loc main_arg5)) (m (c.tc.loc main_arg7)) := by
  refine (tail11 m c).trans ?_
  rw [array11]
  funext y
  obtain ⟨l, b, r, rfl⟩ : ∃ (l : Fin 2) (b : Fin 1024) (r : Fin 2052), y = ix3 l b r := ⟨y 0, y 1, y 2, eq_ix3 y⟩
  refine Eq.trans (b := squares m c l (kept r) b) ?_ ?_
  · pointwise
    rfl
  · rw [ref_square]
    unfold squares
    rw [entry7]
    rfl

/-- The kernel's results are the reference's. -/
theorem holds : Cert.algebraic_AdamwInIdeal_AdamwInRefIdeal := by
  intro m g m' g' _ hagree
  refine ⟨fun c => Pipeline.afterTail₀ cfgs (dats m) 0 (V0 m) [hostOps1] c main_v8, fun c => Pipeline.afterTail₀ cfgs (dats m) 0 (V0 m) [hostOps1] c main_v10, fun c => Pipeline.afterTail₀ cfgs (dats m) 0 (V0 m) [hostOps1] c main_v12, fun c => Pipeline.afterTail₀ cfgs (dats m) 0 (V0 m) [hostOps1] c main_v14, θ_run_mono (run_main m g) fun r h c => ?_, θ_run_mono (Cert.AdamwInRefIdeal.Value.run m' g') fun r h c => ?_⟩
  · exact ⟨(h c).2 main_v8 (Pipeline.mem_restRefs_of main_v8 (by decide) (by decide)), (h c).2 main_v10 (Pipeline.mem_restRefs_of main_v10 (by decide) (by decide)), (h c).2 main_v12 (Pipeline.mem_restRefs_of main_v12 (by decide) (by decide)), (h c).2 main_v14 (Pipeline.mem_restRefs_of main_v14 (by decide) (by decide)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 0).trans (((dats m 0 c).arrAt_in 0 rfl _).trans ((A_eq m c 0).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩
  obtain ⟨h0, h1, h2, h3, hk⟩ := h c
  obtain ⟨a0, a1, a2, a3, a4, a5, a6, a7⟩ := hagree c
  have e0 := h0.trans (show _ = val_main_v17 (F := Ideal) (m' (c.tc.loc Cert.AdamwInRefIdeal.main_arg1)) (m' (c.tc.loc Cert.AdamwInRefIdeal.main_arg2)) (m' (c.tc.loc Cert.AdamwInRefIdeal.main_arg3)) (m' (c.tc.loc Cert.AdamwInRefIdeal.main_arg4)) (m' (c.tc.loc Cert.AdamwInRefIdeal.main_arg5)) from rfl)
  rw [a1, a2, a3, a4, a5] at e0
  have e1 := h1.trans (show _ = val_main_v41 (F := Ideal) (m' (c.tc.loc Cert.AdamwInRefIdeal.main_arg0)) (m' (c.tc.loc Cert.AdamwInRefIdeal.main_arg1)) (m' (c.tc.loc Cert.AdamwInRefIdeal.main_arg2)) (m' (c.tc.loc Cert.AdamwInRefIdeal.main_arg3)) (m' (c.tc.loc Cert.AdamwInRefIdeal.main_arg4)) (m' (c.tc.loc Cert.AdamwInRefIdeal.main_arg5)) (m' (c.tc.loc Cert.AdamwInRefIdeal.main_arg6)) (m' (c.tc.loc Cert.AdamwInRefIdeal.main_arg7)) from rfl)
  rw [a0, a1, a2, a3, a4, a5, a6, a7] at e1
  have e2 := h2.trans (show _ = val_main_v22 (F := Ideal) (m' (c.tc.loc Cert.AdamwInRefIdeal.main_arg1)) (m' (c.tc.loc Cert.AdamwInRefIdeal.main_arg2)) (m' (c.tc.loc Cert.AdamwInRefIdeal.main_arg3)) (m' (c.tc.loc Cert.AdamwInRefIdeal.main_arg4)) (m' (c.tc.loc Cert.AdamwInRefIdeal.main_arg5)) (m' (c.tc.loc Cert.AdamwInRefIdeal.main_arg6)) from rfl)
  rw [a1, a2, a3, a4, a5, a6] at e2
  have e3 := h3.trans (show _ = val_main_v28 (F := Ideal) (m' (c.tc.loc Cert.AdamwInRefIdeal.main_arg1)) (m' (c.tc.loc Cert.AdamwInRefIdeal.main_arg2)) (m' (c.tc.loc Cert.AdamwInRefIdeal.main_arg3)) (m' (c.tc.loc Cert.AdamwInRefIdeal.main_arg4)) (m' (c.tc.loc Cert.AdamwInRefIdeal.main_arg5)) (m' (c.tc.loc Cert.AdamwInRefIdeal.main_arg7)) from rfl)
  rw [a1, a2, a3, a4, a5, a7] at e3
  exact ⟨e0.trans (result8 m c).symm, e1.trans (result9 m c).symm, e2.trans (result10 m c).symm, e3.trans (result11 m c).symm, hk⟩

end Cert.UpdateIn

end
-- ==== Proof.FfnOutForward.lean ====
/- The value of the down product of the forward pass, added to the residual. -/
module

public import proofs.«01_k».proof.Proof.Gen.FfnOutFwdIdeal.Value
public import proofs.«01_k».proof.Proof.Gen.FfnOutFwdRefIdeal.Run
public import proofs.«01_k».proof.Proof.Gen.FfnOutFwdRefIdeal.Read
public import proofs.«01_k».proof.Proof.Common

@[expose] public section

set_option maxRecDepth 16384

noncomputable section

namespace Cert.FfnOutForward

open Idealize.ShloMosaic Idealize.ShloMosaic.TcCoe Idealize.SL.Sem
open Cert.FfnOutFwdIdeal Cert.FfnOutFwdIdeal.Gen
open Cert.FfnOutFwdRefIdeal.Read

variable (m : (ℓ : Loc nD τ sig) → Buf (Elt Ideal) ℓ) (c : Dev nD)

/-- Where the windows stand at each point of the grid. -/
theorem places : ∀ t : Fin cfg0.N, win0_0.index t = ![(grid0.coords t 0).val, (grid0.coords t 2).val] ∧ win0_1.index t = ![(grid0.coords t 2).val, (grid0.coords t 1).val]
    ∧ win0_2.index t = ![(grid0.coords t 0).val, (grid0.coords t 1).val] ∧ win0_3.index t = ![(grid0.coords t 0).val, (grid0.coords t 1).val] ∧ (grid0.coords t 2).val = 0 :=
  (by decide +kernel : ∀ t : Fin grid0.N, _)

/-- The result array after the run is the sum the reference computes. -/
theorem result : (dats m 0 c).arrAt 3 (cfgs 0).N = val_main_v3 (F := Ideal) (m (c.tc.loc main_arg0)) (m (c.tc.loc main_arg1)) (m (c.tc.loc main_arg2)) := by
  refine (dats m 0 c).arrAt_eq_of_covers 3 _ (by decide +kernel) fun t _ y => ?_
  blk_simp
  rw [after0_3]
  frame_out
  pointwise [k0_pay1, val_main_v0, val_main_v1, val_main_v2, val_main_v3]
  blk_point [iblk, V, places t]

theorem holds : Cert.algebraic_FfnOutFwdIdeal_FfnOutFwdRefIdeal := by
  pair_intro
  · run_from Cert.FfnOutFwdIdeal.Gen.run_main m g
  · run_from Cert.FfnOutFwdRefIdeal.Value.run m' g'
    exact (result m c).symm

end Cert.FfnOutForward

end
-- ==== Proof.RmsForward.lean ====
/- The value of the forward norm. -/
module

public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Common

@[expose] public section

set_option maxRecDepth 16384

noncomputable section

namespace Cert.RmsForward

open Idealize.ShloMosaic Idealize.ShloMosaic.TcCoe Idealize.SL.Sem
open Cert.RmsFwdIdeal Cert.RmsFwdIdeal.Gen
open Cert.RmsFwdRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![0, 0] ∧ win0_2.index t = ![t.val, 0] :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

variable (t : Fin cfg0.N)

theorem rd0 (a : Fin 512) (b : Fin 1024) : iblk m c 0 t (ix2 a b) = ((m (c.tc.loc main_arg0)) : FVec Ideal S4096x1024 .f32) (ix2 (row t a) b) := by
  blk_simp [iblk]
  rw [V_main_arg0]
  blk_point [row, places t]

theorem rd1 (b : Fin 1024) : iblk m c 1 t (ix2 0 b) = ((m (c.tc.loc main_arg1)) : FVec Ideal S1024 .f32) (ix1 b) := by
  blk_simp [iblk]
  entry_read
  pointwise
  blk_point [row, places t]

theorem emb2 (y : S512x1024.Idx) : ((cfg0.win 2).blk t).view.emb y = ix2 (row t (y 0)) (y 1) := by
  blk_ext [row, places t]

theorem pay (a : Fin 512) (b : Fin 1024) : k0_pay1 (F := Ideal) (iblk m c 0 t) (iblk m c 1 t) (ix2 a b) = val_main_v13 (F := Ideal) (m (c.tc.loc main_arg0)) (m (c.tc.loc main_arg1)) (ix2 (row t a) b) := by
  pointwise [k0_pay1, rd0, rd1, val_main_v0, val_main_v1, val_main_v2, val_main_v3, val_main_v4, val_main_v5, val_main_v6, val_main_v7, val_main_v8, val_main_v9, val_main_v10, val_main_v11, val_main_v12, val_main_v13, val_main_cst, val_main_cst_0, val_main_cst_1]

theorem result2 : (dats m 0 c).arrAt 2 (cfgs 0).N = val_main_v13 (F := Ideal) (m (c.tc.loc main_arg0)) (m (c.tc.loc main_arg1)) := by
  refine (dats m 0 c).arrAt_eq_of_covers 2 _ (by decide +kernel) fun t _ y => ?_
  refine (?_ : _ = _).trans (congrArg _ (emb2 t y)).symm
  blk_simp
  rw [after0_2]
  frame_out
  exact (congrArg _ (eq_ix2 (n0 := 512) (n1 := 1024) y)).trans (pay m c t (y 0) (y 1))

theorem holds : Cert.algebraic_RmsFwdIdeal_RmsFwdRefIdeal := by
  intro m g m' g' _ hagree
  refine ⟨fun c => (dats m 0 c).arrAt 2 cfg0.N, θ_run_mono (Cert.RmsFwdIdeal.Value.run_blocks m g) fun r h c => h c, θ_run_mono (Cert.RmsFwdRefIdeal.Value.run m' g') fun r h c => ?_⟩
  obtain ⟨h0, hk⟩ := h c
  obtain ⟨a0, a1⟩ := hagree c
  have e0 := h0.trans (show _ = val_main_v13 (F := Ideal) (m' (c.tc.loc Cert.RmsFwdRefIdeal.main_arg0)) (m' (c.tc.loc Cert.RmsFwdRefIdeal.main_arg1)) from rfl)
  rw [a0, a1] at e0
  exact ⟨e0.trans (result2 m c).symm, hk⟩

end Cert.RmsForward

end
-- ==== Proof.FfnHiddenForward.lean ====
/- The values of the hidden layer of the FFN in the forward pass: the norm, the gate and up products, and the gated product. -/
module

public import proofs.«01_k».proof.Proof.Gen.FfnHiddenFwdIdeal.Value
public import proofs.«01_k».proof.Proof.Gen.FfnHiddenFwdRefIdeal.Run
public import proofs.«01_k».proof.Proof.Gen.FfnHiddenFwdRefIdeal.Read
public import proofs.«01_k».proof.Proof.Common

@[expose] public section

set_option maxRecDepth 16384

noncomputable section

namespace Cert.FfnHiddenForward

open Idealize.ShloMosaic Idealize.ShloMosaic.TcCoe Idealize.SL.Sem
open Cert.FfnHiddenFwdIdeal Cert.FfnHiddenFwdIdeal.Gen
open Cert.FfnHiddenFwdRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The row of the array at a row of a point's block. -/
def row (t : Fin cfg0.N) (a : Fin 256) : Fin 4096 := ⟨t.val * 256 + a.val, by have h := lt_of_lt_of_eq t.isLt N_0; omega⟩

variable (t : Fin cfg0.N)

theorem rd0 (a : Fin 256) (b : Fin 1024) : iblk m c 0 t (ix2 a b) = ((m (c.tc.loc main_arg0)) : FVec Ideal S4096x1024 .f32) (ix2 (row t a) b) := by
  blk_simp [iblk]
  rw [V_main_arg0]
  blk_point [row, places t]

theorem rd1 (b : Fin 1024) : iblk m c 1 t (ix2 0 b) = ((m (c.tc.loc main_arg1)) : FVec Ideal S1024 .f32) (ix1 b) := by
  blk_simp [iblk]
  entry_read
  pointwise
  blk_point [row, places t]

theorem rd2 (a : Fin 2816) (b : Fin 1024) : iblk m c 2 t (ix2 a b) = ((m (c.tc.loc main_arg2)) : FVec Ideal S2816x1024 .bf16) (ix2 a b) := by
  blk_simp [iblk]
  rw [V_main_arg2]
  blk_point [row, places t]

theorem rd3 (a : Fin 2816) (b : Fin 1024) : iblk m c 3 t (ix2 a b) = ((m (c.tc.loc main_arg3)) : FVec Ideal S2816x1024 .bf16) (ix2 a b) := by
  blk_simp [iblk]
  rw [V_main_arg3]
  blk_point [row, places t]

theorem emb4 (y : S256x1024.Idx) : ((cfg0.win 4).blk t).view.emb y = ix2 (row t (y 0)) (y 1) := by
  blk_ext [row, places t]

theorem emb5 (y : S256x2816.Idx) : ((cfg0.win 5).blk t).view.emb y = ix2 (row t (y 0)) (y 1) := by
  blk_ext [row, places t]

theorem emb6 (y : S256x2816.Idx) : ((cfg0.win 6).blk t).view.emb y = ix2 (row t (y 0)) (y 1) := by
  blk_ext [row, places t]

theorem emb7 (y : S256x2816.Idx) : ((cfg0.win 7).blk t).view.emb y = ix2 (row t (y 0)) (y 1) := by
  blk_ext [row, places t]

theorem pay1 (a : Fin 256) (b : Fin 1024) : k0_pay1 (F := Ideal) (iblk m c 0 t) (iblk m c 1 t) (ix2 a b) = val_main_v12 (F := Ideal) (m (c.tc.loc main_arg0)) (m (c.tc.loc main_arg1)) (ix2 (row t a) b) := by
  pointwise [k0_pay1, rd0, rd1, val_main_v0, val_main_v1, val_main_v2, val_main_v3, val_main_v4, val_main_v5, val_main_v6, val_main_v7, val_main_v8, val_main_v9, val_main_v10, val_main_v11, val_main_v12, val_main_cst, val_main_cst_0, val_main_cst_1]

theorem pay2 (a : Fin 256) (b : Fin 2816) : k0_pay2 (F := Ideal) (iblk m c 0 t) (iblk m c 1 t) (iblk m c 2 t) (ix2 a b) = val_main_v15 (F := Ideal) (m (c.tc.loc main_arg0)) (m (c.tc.loc main_arg1)) (m (c.tc.loc main_arg2)) (ix2 (row t a) b) := by
  pointwise [k0_pay2, pay1, rd2, val_main_v13, val_main_v14, val_main_v15]

theorem pay3 (a : Fin 256) (b : Fin 2816) : k0_pay3 (F := Ideal) (iblk m c 0 t) (iblk m c 1 t) (iblk m c 3 t) (ix2 a b) = val_main_v18 (F := Ideal) (m (c.tc.loc main_arg0)) (m (c.tc.loc main_arg1)) (m (c.tc.loc main_arg3)) (ix2 (row t a) b) := by
  pointwise [k0_pay3, pay1, rd3, val_main_v16, val_main_v17, val_main_v18]

theorem pay4 (a : Fin 256) (b : Fin 2816) : k0_pay4 (F := Ideal) (iblk m c 0 t) (iblk m c 1 t) (iblk m c 2 t) (iblk m c 3 t) (ix2 a b) = val_main_v20 (F := Ideal) (m (c.tc.loc main_arg0)) (m (c.tc.loc main_arg1)) (m (c.tc.loc main_arg2)) (m (c.tc.loc main_arg3)) (ix2 (row t a) b) := by
  pointwise [k0_pay4, pay2, pay3, val_main_v19, val_main_v20, val_main_call0_v0, val_main_call0_v1, val_main_call0_v2, val_main_call0_v3, val_main_call0_v4, val_main_call0_v5, val_main_call0_cst, val_main_call0_cst_0, Ideal.logistic]

theorem result4 : (dats m 0 c).arrAt 4 (cfgs 0).N = val_main_v21 (F := Ideal) (m (c.tc.loc main_arg0)) (m (c.tc.loc main_arg1)) := by
  refine (dats m 0 c).arrAt_eq_of_covers 4 _ (by decide +kernel) fun t _ y => ?_
  refine (?_ : _ = _).trans (congrArg _ (emb4 t y)).symm
  blk_simp
  rw [after0_4]
  frame_out
  exact (congrArg _ (eq_ix2 (n0 := 256) (n1 := 1024) y)).trans (pay1 m c t (y 0) (y 1))

theorem result5 : (dats m 0 c).arrAt 5 (cfgs 0).N = val_main_v22 (F := Ideal) (m (c.tc.loc main_arg0)) (m (c.tc.loc main_arg1)) (m (c.tc.loc main_arg2)) := by
  refine (dats m 0 c).arrAt_eq_of_covers 5 _ (by decide +kernel) fun t _ y => ?_
  refine (?_ : _ = _).trans (congrArg _ (emb5 t y)).symm
  blk_simp
  rw [after0_5]
  frame_out
  exact (congrArg _ (eq_ix2 (n0 := 256) (n1 := 2816) y)).trans (pay2 m c t (y 0) (y 1))

theorem result6 : (dats m 0 c).arrAt 6 (cfgs 0).N = val_main_v23 (F := Ideal) (m (c.tc.loc main_arg0)) (m (c.tc.loc main_arg1)) (m (c.tc.loc main_arg3)) := by
  refine (dats m 0 c).arrAt_eq_of_covers 6 _ (by decide +kernel) fun t _ y => ?_
  refine (?_ : _ = _).trans (congrArg _ (emb6 t y)).symm
  blk_simp
  rw [after0_6]
  frame_out
  exact (congrArg _ (eq_ix2 (n0 := 256) (n1 := 2816) y)).trans (pay3 m c t (y 0) (y 1))

theorem result7 : (dats m 0 c).arrAt 7 (cfgs 0).N = val_main_v24 (F := Ideal) (m (c.tc.loc main_arg0)) (m (c.tc.loc main_arg1)) (m (c.tc.loc main_arg2)) (m (c.tc.loc main_arg3)) := by
  refine (dats m 0 c).arrAt_eq_of_covers 7 _ (by decide +kernel) fun t _ y => ?_
  refine (?_ : _ = _).trans (congrArg _ (emb7 t y)).symm
  blk_simp
  rw [after0_7]
  frame_out
  exact (congrArg _ (eq_ix2 (n0 := 256) (n1 := 2816) y)).trans (pay4 m c t (y 0) (y 1))

theorem holds : Cert.algebraic_FfnHiddenFwdIdeal_FfnHiddenFwdRefIdeal := by
  intro m g m' g' _ hagree
  refine ⟨fun c => (dats m 0 c).arrAt 4 cfg0.N, fun c => (dats m 0 c).arrAt 5 cfg0.N, fun c => (dats m 0 c).arrAt 6 cfg0.N, fun c => (dats m 0 c).arrAt 7 cfg0.N, θ_run_mono (Cert.FfnHiddenFwdIdeal.Value.run_blocks m g) fun r h c => h c, θ_run_mono (Cert.FfnHiddenFwdRefIdeal.Value.run m' g') fun r h c => ?_⟩
  obtain ⟨h0, h1, h2, h3, hk⟩ := h c
  obtain ⟨a0, a1, a2, a3⟩ := hagree c
  have e0 := h0.trans (show _ = val_main_v21 (F := Ideal) (m' (c.tc.loc Cert.FfnHiddenFwdRefIdeal.main_arg0)) (m' (c.tc.loc Cert.FfnHiddenFwdRefIdeal.main_arg1)) from rfl)
  rw [a0, a1] at e0
  have e1 := h1.trans (show _ = val_main_v22 (F := Ideal) (m' (c.tc.loc Cert.FfnHiddenFwdRefIdeal.main_arg0)) (m' (c.tc.loc Cert.FfnHiddenFwdRefIdeal.main_arg1)) (m' (c.tc.loc Cert.FfnHiddenFwdRefIdeal.main_arg2)) from rfl)
  rw [a0, a1, a2] at e1
  have e2 := h2.trans (show _ = val_main_v23 (F := Ideal) (m' (c.tc.loc Cert.FfnHiddenFwdRefIdeal.main_arg0)) (m' (c.tc.loc Cert.FfnHiddenFwdRefIdeal.main_arg1)) (m' (c.tc.loc Cert.FfnHiddenFwdRefIdeal.main_arg3)) from rfl)
  rw [a0, a1, a3] at e2
  have e3 := h3.trans (show _ = val_main_v24 (F := Ideal) (m' (c.tc.loc Cert.FfnHiddenFwdRefIdeal.main_arg0)) (m' (c.tc.loc Cert.FfnHiddenFwdRefIdeal.main_arg1)) (m' (c.tc.loc Cert.FfnHiddenFwdRefIdeal.main_arg2)) (m' (c.tc.loc Cert.FfnHiddenFwdRefIdeal.main_arg3)) from rfl)
  rw [a0, a1, a2, a3] at e3
  exact ⟨e0.trans (result4 m c).symm, e1.trans (result5 m c).symm, e2.trans (result6 m c).symm, e3.trans (result7 m c).symm, hk⟩

end Cert.FfnHiddenForward

end
-- ==== Proof.MixerForward.lean ====
/- The values of the merge in the forward pass: the two branches' products, the gated sum, and its output product added to the residual. -/
module

public import proofs.«01_k».proof.Proof.Gen.MixerFwdIdeal.Value
public import proofs.«01_k».proof.Proof.Gen.MixerFwdRefIdeal.Run
public import proofs.«01_k».proof.Proof.Gen.MixerFwdRefIdeal.Read
public import proofs.«01_k».proof.Proof.Common

@[expose] public section

set_option maxRecDepth 16384

noncomputable section

namespace Cert.MixerForward

open Idealize.ShloMosaic Idealize.ShloMosaic.TcCoe Idealize.SL.Sem
open Cert.MixerFwdIdeal Cert.MixerFwdIdeal.Gen
open Cert.MixerFwdRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![t.val, 0] ∧ win0_2.index t = ![t.val, 6] ∧ win0_3.index t = ![t.val, 7]
    ∧ win0_4.index t = ![t.val, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

variable (t : Fin cfg0.N)

theorem rd0 (a : Fin 512) (b : Fin 1024) : iblk m c 0 t (ix2 a b) = ((m (c.tc.loc main_arg0)) : FVec Ideal S4096x1024 .bf16) (ix2 (row t a) b) := by
  blk_simp [iblk]
  rw [V_main_arg0]
  blk_point [row, places t]

theorem rd1 (a : Fin 512) (b : Fin 1024) : iblk m c 1 t (ix2 a b) = ((m (c.tc.loc main_arg1)) : FVec Ideal S4096x1024 .bf16) (ix2 (row t a) b) := by
  blk_simp [iblk]
  rw [V_main_arg1]
  blk_point [row, places t]

theorem rd4 (a : Fin 512) (b : Fin 1024) : iblk m c 4 t (ix2 a b) = ((m (c.tc.loc main_arg3)) : FVec Ideal S4096x1024 .f32) (ix2 (row t a) b) := by
  blk_simp [iblk]
  rw [V_main_arg3]
  blk_point [row, places t]

theorem rd2 (a : Fin 512) (b : Fin 1024) : X0_2 m c t (ix2 a b) = ((m (c.tc.loc main_arg2)) : FVec Ideal S4096x8320 .bf16) (ix2 (row t a) ⟨6144 + b.val, by omega⟩) := by
  unfold X0_2 Pipeline.Window.fill
  rw [dif_pos (moved0_2 t _)]
  blk_simp [iblk]
  rw [V_main_arg2]
  blk_point [row, places t]

theorem rd3 (a : Fin 512) (b : Fin 1024) : X0_3 m c t (ix2 a b) = ((m (c.tc.loc main_arg2)) : FVec Ideal S4096x8320 .bf16) (ix2 (row t a) ⟨7168 + b.val, by omega⟩) := by
  unfold X0_3 Pipeline.Window.fill
  rw [dif_pos (moved0_3 t _)]
  blk_simp [iblk]
  rw [V_main_arg2]
  blk_point [row, places t]

theorem rd5 (a : Fin 1024) (b : Fin 1024) : iblk m c 5 t (ix2 a b) = ((m (c.tc.loc main_arg4)) : FVec Ideal S1024x1024 .bf16) (ix2 a b) := by
  blk_simp [iblk]
  rw [V_main_arg4]
  blk_point [row, places t]

theorem rd6 (a : Fin 1024) (b : Fin 1024) : iblk m c 6 t (ix2 a b) = ((m (c.tc.loc main_arg5)) : FVec Ideal S1024x1024 .bf16) (ix2 a b) := by
  blk_simp [iblk]
  rw [V_main_arg5]
  blk_point [row, places t]

theorem rd7 (a : Fin 1024) (b : Fin 1024) : iblk m c 7 t (ix2 a b) = ((m (c.tc.loc main_arg6)) : FVec Ideal S1024x1024 .bf16) (ix2 a b) := by
  blk_simp [iblk]
  rw [V_main_arg6]
  blk_point [row, places t]

theorem emb8 (y : S512x1024.Idx) : ((cfg0.win 8).blk t).view.emb y = ix2 (row t (y 0)) (y 1) := by
  blk_ext [row, places t]

theorem emb9 (y : S512x1024.Idx) : ((cfg0.win 9).blk t).view.emb y = ix2 (row t (y 0)) (y 1) := by
  blk_ext [row, places t]

theorem emb10 (y : S512x1024.Idx) : ((cfg0.win 10).blk t).view.emb y = ix2 (row t (y 0)) (y 1) := by
  blk_ext [row, places t]

theorem emb11 (y : S512x1024.Idx) : ((cfg0.win 11).blk t).view.emb y = ix2 (row t (y 0)) (y 1) := by
  blk_ext [row, places t]

theorem pay1 (a : Fin 512) (b : Fin 1024) : k0_pay1 (F := Ideal) (iblk m c 0 t) (iblk m c 5 t) (ix2 a b) = val_main_v2 (F := Ideal) (m (c.tc.loc main_arg0)) (m (c.tc.loc main_arg4)) (ix2 (row t a) b) := by
  pointwise [k0_pay1, rd0, rd5, val_main_v0, val_main_v1, val_main_v2]

theorem pay2 (a : Fin 512) (b : Fin 1024) : k0_pay2 (F := Ideal) (iblk m c 1 t) (iblk m c 6 t) (ix2 a b) = val_main_v5 (F := Ideal) (m (c.tc.loc main_arg1)) (m (c.tc.loc main_arg5)) (ix2 (row t a) b) := by
  pointwise [k0_pay2, rd1, rd6, val_main_v3, val_main_v4, val_main_v5]

theorem pay3 (a : Fin 512) (b : Fin 1024) : k0_pay3 (F := Ideal) (iblk m c 0 t) (iblk m c 5 t) (iblk m c 1 t) (iblk m c 6 t) (X0_2 m c t) (X0_3 m c t) (ix2 a b) = val_main_v24 (F := Ideal) (m (c.tc.loc main_arg0)) (m (c.tc.loc main_arg1)) (m (c.tc.loc main_arg2)) (m (c.tc.loc main_arg4)) (m (c.tc.loc main_arg5)) (ix2 (row t a) b) := by
  pointwise [k0_pay3, pay1, pay2, rd2, rd3, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, Ideal.logistic]

theorem pay4 (a : Fin 512) (b : Fin 1024) : k0_pay4 (F := Ideal) (iblk m c 0 t) (iblk m c 5 t) (iblk m c 1 t) (iblk m c 6 t) (X0_2 m c t) (X0_3 m c t) (iblk m c 4 t) (iblk m c 7 t) (ix2 a b) = val_main_v27 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix2 (row t a) b) := by
  pointwise [k0_pay4, pay3, rd4, rd7, val_main_v25, val_main_v26, val_main_v27]

theorem result8 : (dats m 0 c).arrAt 8 (cfgs 0).N = val_main_v28 (F := Ideal) (m (c.tc.loc main_arg0)) (m (c.tc.loc main_arg4)) := by
  refine (dats m 0 c).arrAt_eq_of_covers 8 _ (by decide +kernel) fun t _ y => ?_
  refine (?_ : _ = _).trans (congrArg _ (emb8 t y)).symm
  blk_simp
  rw [after0_8]
  dsimp only [outsAt0]
  frame_out
  exact (congrArg _ (eq_ix2 (n0 := 512) (n1 := 1024) y)).trans (pay1 m c t (y 0) (y 1))

theorem result9 : (dats m 0 c).arrAt 9 (cfgs 0).N = val_main_v29 (F := Ideal) (m (c.tc.loc main_arg1)) (m (c.tc.loc main_arg5)) := by
  refine (dats m 0 c).arrAt_eq_of_covers 9 _ (by decide +kernel) fun t _ y => ?_
  refine (?_ : _ = _).trans (congrArg _ (emb9 t y)).symm
  blk_simp
  rw [after0_9]
  dsimp only [outsAt0]
  frame_out
  exact (congrArg _ (eq_ix2 (n0 := 512) (n1 := 1024) y)).trans (pay2 m c t (y 0) (y 1))

theorem result10 : (dats m 0 c).arrAt 10 (cfgs 0).N = val_main_v30 (F := Ideal) (m (c.tc.loc main_arg0)) (m (c.tc.loc main_arg1)) (m (c.tc.loc main_arg2)) (m (c.tc.loc main_arg4)) (m (c.tc.loc main_arg5)) := by
  refine (dats m 0 c).arrAt_eq_of_covers 10 _ (by decide +kernel) fun t _ y => ?_
  refine (?_ : _ = _).trans (congrArg _ (emb10 t y)).symm
  blk_simp
  rw [after0_10]
  dsimp only [outsAt0]
  frame_out
  exact (congrArg _ (eq_ix2 (n0 := 512) (n1 := 1024) y)).trans (pay3 m c t (y 0) (y 1))

theorem result11 : (dats m 0 c).arrAt 11 (cfgs 0).N = val_main_v27 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 11 _ (by decide +kernel) fun t _ y => ?_
  refine (?_ : _ = _).trans (congrArg _ (emb11 t y)).symm
  blk_simp
  rw [after0_11]
  dsimp only [outsAt0]
  frame_out
  exact (congrArg _ (eq_ix2 (n0 := 512) (n1 := 1024) y)).trans (pay4 m c t (y 0) (y 1))

theorem holds : Cert.algebraic_MixerFwdIdeal_MixerFwdRefIdeal := by
  intro m g m' g' _ hagree
  refine ⟨fun c => (dats m 0 c).arrAt 8 cfg0.N, fun c => (dats m 0 c).arrAt 9 cfg0.N, fun c => (dats m 0 c).arrAt 10 cfg0.N, fun c => (dats m 0 c).arrAt 11 cfg0.N, θ_run_mono (Cert.MixerFwdIdeal.Value.run_blocks m g) fun r h c => h c, θ_run_mono (Cert.MixerFwdRefIdeal.Value.run m' g') fun r h c => ?_⟩
  obtain ⟨h0, h1, h2, h3, hk⟩ := h c
  obtain ⟨a0, a1, a2, a3, a4, a5, a6⟩ := hagree c
  have e0 := h0.trans (show _ = val_main_v28 (F := Ideal) (m' (c.tc.loc Cert.MixerFwdRefIdeal.main_arg0)) (m' (c.tc.loc Cert.MixerFwdRefIdeal.main_arg4)) from rfl)
  rw [a0, a4] at e0
  have e1 := h1.trans (show _ = val_main_v29 (F := Ideal) (m' (c.tc.loc Cert.MixerFwdRefIdeal.main_arg1)) (m' (c.tc.loc Cert.MixerFwdRefIdeal.main_arg5)) from rfl)
  rw [a1, a5] at e1
  have e2 := h2.trans (show _ = val_main_v30 (F := Ideal) (m' (c.tc.loc Cert.MixerFwdRefIdeal.main_arg0)) (m' (c.tc.loc Cert.MixerFwdRefIdeal.main_arg1)) (m' (c.tc.loc Cert.MixerFwdRefIdeal.main_arg2)) (m' (c.tc.loc Cert.MixerFwdRefIdeal.main_arg4)) (m' (c.tc.loc Cert.MixerFwdRefIdeal.main_arg5)) from rfl)
  rw [a0, a1, a2, a4, a5] at e2
  have e3 := h3.trans (show _ = val_main_v27 (F := Ideal) (m' (c.tc.loc Cert.MixerFwdRefIdeal.main_arg0)) (m' (c.tc.loc Cert.MixerFwdRefIdeal.main_arg1)) (m' (c.tc.loc Cert.MixerFwdRefIdeal.main_arg2)) (m' (c.tc.loc Cert.MixerFwdRefIdeal.main_arg3)) (m' (c.tc.loc Cert.MixerFwdRefIdeal.main_arg4)) (m' (c.tc.loc Cert.MixerFwdRefIdeal.main_arg5)) (m' (c.tc.loc Cert.MixerFwdRefIdeal.main_arg6)) from rfl)
  rw [a0, a1, a2, a3, a4, a5, a6] at e3
  exact ⟨e0.trans (result8 m c).symm, e1.trans (result9 m c).symm, e2.trans (result10 m c).symm, e3.trans (result11 m c).symm, hk⟩

end Cert.MixerForward

end
-- ==== Proof.LossValue.lean ====
/- The values of the loss head: the loss, the cotangent of its input, and the gain's gradient. -/
module

public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.NormBack
public import proofs.«01_k».proof.Proof.Common

@[expose] public section

set_option maxRecDepth 16384

noncomputable section

namespace Cert.LossValue

open Idealize.ShloMosaic Idealize.ShloMosaic.TcCoe Idealize.SL.Sem
open Cert.LossHeadIdeal Cert.LossHeadIdeal.Gen
open Cert.LossHeadRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

/-- A row of an array. -/
def line (x : FVec Ideal S4096x1024 .f32) (i : Fin 4096) : Fin 1024 → EReal := fun l => x (ix2 i l)

/-- The error at a row and a column: the normed row with its gain, less the target. -/
def err (x : FVec Ideal S4096x1024 .f32) (g : FVec Ideal S1024 .f32) (y : FVec Ideal S4096x1024 .f32) (i : Fin 4096) (k : Fin 1024) : EReal :=
  line x i k * NormBack.scale (line x i) * g (ix1 k) - y (ix2 i k)

/-- The cotangent of the normed row with its gain. -/
def dy (x : FVec Ideal S4096x1024 .f32) (g : FVec Ideal S1024 .f32) (y : FVec Ideal S4096x1024 .f32) (i : Fin 4096) (k : Fin 1024) : EReal :=
  err x g y i k * ((1 / 1024 : ℝ) : EReal)

/-- The same past the gain. -/
def dn (x : FVec Ideal S4096x1024 .f32) (g : FVec Ideal S1024 .f32) (y : FVec Ideal S4096x1024 .f32) (i : Fin 4096) : Fin 1024 → EReal :=
  fun k => dy x g y i k * g (ix1 k)

/-- The loss of a row, twice. -/
def cost (x : FVec Ideal S4096x1024 .f32) (g : FVec Ideal S1024 .f32) (y : FVec Ideal S4096x1024 .f32) (i : Fin 4096) : EReal :=
  Ideal.div (∑ l : Fin 1024, err x g y i l * err x g y i l) (Ideal.ofBits .f32 0x44800000#32)

theorem two : Ideal.ofBits .f32 0x40000000#32 = ((2 : ℝ) : EReal) := by
  simp [Ideal.ofBits, Ideal.ieee]
  rw [← EReal.coe_mul]
  norm_num

theorem one : Ideal.ofBits .f32 0x3F800000#32 = ((1 : ℝ) : EReal) := by
  simp [Ideal.ofBits, Ideal.ieee]
  rw [← EReal.coe_mul]
  norm_num

theorem half : Ideal.ofBits .f32 0x3F000000#32 = ((1 / 2 : ℝ) : EReal) := by
  simp [Ideal.ofBits, Ideal.ieee]
  rw [← EReal.coe_mul]
  norm_num

theorem share_of_row : Ideal.ofBits .f32 0x3A800000#32 = ((1 / 1024 : ℝ) : EReal) := by
  simp [Ideal.ofBits, Ideal.ieee]
  rw [← EReal.coe_mul]
  norm_num

/-- The chain rule's constants fold into one. -/
theorem fold (e : EReal) : Ideal.div (Ideal.ofBits .f32 0x3F000000#32 * Ideal.ofBits .f32 0x3F800000#32) (Ideal.ofBits .f32 0x44800000#32) * (Ideal.ofBits .f32 0x40000000#32 * e) = e * ((1 / 1024 : ℝ) : EReal) := by
  rw [half, one, two, NormBack.width, Ideal.div_coe (by norm_num), ← mul_assoc, ← EReal.coe_mul, ← EReal.coe_mul, ← EReal.coe_mul, mul_comm]
  norm_num

section Reference

variable (x0 x2 : FVec Ideal S4096x1024 .f32) (x1 : FVec Ideal S1024 .f32) (i : Fin 4096) (k : Fin 1024) (o o' : Fin 1)

theorem ref_mean : val_main_v6 (F := Ideal) x0 (ix2 i o) = NormBack.mean (line x0 i) := by
  pointwise [val_main_v6, val_main_v5, val_main_cst_1, val_main_v4, val_main_v3, val_main_cst_0, val_main_v2, val_main_v1, val_main_cst, val_main_v0, NormBack.mean, line]

theorem ref_scale : val_main_v7 (F := Ideal) x0 (ix2 i o) = NormBack.scale (line x0 i) := by
  pointwise [val_main_v7, ref_mean, NormBack.scale]

theorem ref_err : val_main_v16 (F := Ideal) x0 x1 x2 (ix2 i k) = err x0 x1 x2 i k := by
  pointwise [val_main_v16, val_main_v15, val_main_v14, val_main_v13, val_main_v12, val_main_v11, ref_scale, err, line]

theorem ref_cost : val_main_v22 (F := Ideal) x0 x1 x2 (ix1 i) = cost x0 x1 x2 i := by
  pointwise [val_main_v22, val_main_v21, val_main_cst_5, val_main_v20, val_main_cst_4, val_main_v17, ref_err, cost]

theorem ref_loss : val_main_v51 (F := Ideal) x0 x1 x2 (ix2 o o') = ((1 / 2 : ℝ) : EReal) * ∑ i : Fin 4096, cost x0 x1 x2 i := by
  pointwise [val_main_v51, val_main_v24, val_main_cst_7, val_main_v23, val_main_cst_6, ref_cost, half]

theorem ref_dy : val_main_v30 (F := Ideal) x0 x1 x2 (ix2 i k) = dy x0 x1 x2 i k := by
  rw [dy, ← fold]
  pointwise [val_main_v30, val_main_v29, val_main_v28, val_main_v27, val_main_cst_10, val_main_v26, val_main_v25, val_main_cst_9, val_main_cst_8, val_main_v19, val_main_v18, val_main_cst_3, ref_err]

theorem ref_dn : val_main_v35 (F := Ideal) x0 x1 x2 (ix2 i k) = dn x0 x1 x2 i k := by
  pointwise [val_main_v35, val_main_v34, val_main_v13, ref_dy, dn]

theorem ref_back : val_main_v45 (F := Ideal) x0 x1 x2 (ix1 i) = NormBack.back (line x0 i) (dn x0 x1 x2 i) := by
  pointwise [val_main_v45, val_main_cst_15, val_main_v44, val_main_v43, val_main_cst_14, val_main_v42, val_main_v39, val_main_v38, val_main_cst_13, val_main_v37, ref_dn, val_main_v10, val_main_v9, val_main_cst_2, val_main_v8, ref_scale, ref_mean, NormBack.back, line]
  simp only [Finset.univ_unique, Finset.sum_singleton]

theorem ref_dx : val_main_v50 (F := Ideal) x0 x1 x2 (ix2 i k)
    = dn x0 x1 x2 i k * NormBack.scale (line x0 i) + line x0 i k * NormBack.back (line x0 i) (dn x0 x1 x2 i) + NormBack.back (line x0 i) (dn x0 x1 x2 i) * line x0 i k := by
  pointwise [val_main_v50, val_main_v49, val_main_v48, val_main_v47, val_main_v46, ref_back, val_main_v41, ref_dn, val_main_v40, ref_scale, line]

theorem ref_dxb : val_main_v52 (F := Ideal) x0 x1 x2 (ix2 i k) = val_main_v50 (F := Ideal) x0 x1 x2 (ix2 i k) := by
  pointwise [val_main_v52]

theorem ref_dg : val_main_v53 (F := Ideal) x0 x1 x2 (ix2 o k) = ∑ i : Fin 4096, dy x0 x1 x2 i k * (line x0 i k * NormBack.scale (line x0 i)) := by
  pointwise [val_main_v53, val_main_v36, val_main_cst_12, val_main_v33, val_main_v32, val_main_cst_11, val_main_v31, ref_dy, val_main_v12, val_main_v11, ref_scale, line]
  simp only [Finset.univ_unique, Finset.sum_singleton, mul_comm]

end Reference

variable (t : Fin cfg0.N)

theorem rd0 (a : Fin 512) (b : Fin 1024) : iblk m c 0 t (ix2 a b) = ((m (c.tc.loc main_arg0)) : FVec Ideal S4096x1024 .f32) (ix2 (row t a) b) := by
  blk_simp [iblk]
  rw [V_main_arg0]
  blk_point [row, places t]

theorem rd2 (a : Fin 512) (b : Fin 1024) : iblk m c 2 t (ix2 a b) = ((m (c.tc.loc main_arg2)) : FVec Ideal S4096x1024 .f32) (ix2 (row t a) b) := by
  blk_simp [iblk]
  rw [V_main_arg2]
  blk_point [row, places t]

theorem rd1 (o : Fin 1) (b : Fin 1024) : iblk m c 1 t (ix2 o b) = ((m (c.tc.loc main_arg1)) : FVec Ideal S1024 .f32) (ix1 b) := by
  blk_simp [iblk]
  entry_read
  pointwise
  blk_point [row, places t]

abbrev X (i : Fin 4096) : Fin 1024 → EReal := line (m (c.tc.loc main_arg0)) i

theorem pay5 (a : Fin 512) (o : Fin 1) : k0_pay5 (F := Ideal) (iblk m c 0 t) (ix2 a o) = NormBack.scale (X m c (row t a)) := by
  pointwise [k0_pay5, rd0, NormBack.scale, NormBack.mean, line]

theorem pay6 (a : Fin 512) (b : Fin 1024) : k0_pay6 (F := Ideal) (iblk m c 0 t) (ix2 a b) = X m c (row t a) b * NormBack.scale (X m c (row t a)) := by
  pointwise [k0_pay6, pay5, rd0, line]

theorem pay8 (a : Fin 512) (b : Fin 1024) : k0_pay8 (F := Ideal) (iblk m c 0 t) (iblk m c 1 t) (iblk m c 2 t) (ix2 a b) = err (m (c.tc.loc main_arg0)) (m (c.tc.loc main_arg1)) (m (c.tc.loc main_arg2)) (row t a) b := by
  pointwise [k0_pay8, k0_pay7, pay6, rd1, rd2, err]

theorem pay9 (j : S1x1.Idx) : k0_pay9 (F := Ideal) (iblk m c 0 t) (iblk m c 1 t) (iblk m c 2 t) j = ((1 / 2 : ℝ) : EReal) * ∑ a : Fin 512, cost (m (c.tc.loc main_arg0)) (m (c.tc.loc main_arg1)) (m (c.tc.loc main_arg2)) (row t a) := by
  pointwise [k0_pay9, pay8, cost, half]

theorem pay10 (a : Fin 512) (b : Fin 1024) : k0_pay10 (F := Ideal) (iblk m c 0 t) (iblk m c 1 t) (iblk m c 2 t) (ix2 a b) = dy (m (c.tc.loc main_arg0)) (m (c.tc.loc main_arg1)) (m (c.tc.loc main_arg2)) (row t a) b := by
  pointwise [k0_pay10, pay8, dy, share_of_row]

theorem pay11 (a : Fin 512) (b : Fin 1024) : k0_pay11 (F := Ideal) (iblk m c 0 t) (iblk m c 1 t) (iblk m c 2 t) (ix2 a b) = val_main_v50 (F := Ideal) (m (c.tc.loc main_arg0)) (m (c.tc.loc main_arg1)) (m (c.tc.loc main_arg2)) (ix2 (row t a) b) := by
  rw [ref_dx, ← NormBack.grad]
  pointwise [k0_pay11, pay10, pay6, pay5, k0_pay7, rd1, dn]

theorem pay2 (j : S1x1024.Idx) : k0_pay2 (F := Ideal) (k0_pay6 (iblk m c 0 t)) (k0_pay10 (iblk m c 0 t) (iblk m c 1 t) (iblk m c 2 t)) j
    = ∑ a : Fin 512, dy (m (c.tc.loc main_arg0)) (m (c.tc.loc main_arg1)) (m (c.tc.loc main_arg2)) (row t a) (j 1) * (X m c (row t a) (j 1) * NormBack.scale (X m c (row t a))) := by
  pointwise [k0_pay2, pay10, pay6]

theorem first_loss (h : t.val % 8 = 0) (j) : (outsAt0 m c t.val t.isLt).1 j = (0 : EReal) + k0_pay9 (F := Ideal) (iblk m c 0 t) (iblk m c 1 t) (iblk m c 2 t) j := by
  rw [outsAt0_A m c t h (by have := lt_of_lt_of_eq t.isLt N_0; omega), zero_add]
  frame_out

theorem next_loss (h : ¬t.val % 8 = 0) (j) : (outsAt0 m c t.val t.isLt).1 j
    = (outsAt0 m c (t.val - 1) (Nat.lt_of_le_of_lt (Nat.sub_le _ _) t.isLt)).1 j + k0_pay9 (F := Ideal) (iblk m c 0 t) (iblk m c 1 t) (iblk m c 2 t) j := by
  rw [outsAt0_B m c t h (by omega)]
  frame_out
  pointwise [k0_pay3]

theorem first_gain (h : t.val % 8 = 0) (j) : (outsAt0 m c t.val t.isLt).2.2.2 j = (0 : EReal) + k0_pay2 (F := Ideal) (k0_pay6 (iblk m c 0 t)) (k0_pay10 (iblk m c 0 t) (iblk m c 1 t) (iblk m c 2 t)) j := by
  rw [outsAt0_A m c t h (by have := lt_of_lt_of_eq t.isLt N_0; omega), zero_add]
  frame_out

theorem next_gain (h : ¬t.val % 8 = 0) (j) : (outsAt0 m c t.val t.isLt).2.2.2 j
    = (outsAt0 m c (t.val - 1) (Nat.lt_of_le_of_lt (Nat.sub_le _ _) t.isLt)).2.2.2 j + k0_pay2 (F := Ideal) (k0_pay6 (iblk m c 0 t)) (k0_pay10 (iblk m c 0 t) (iblk m c 1 t) (iblk m c 2 t)) j := by
  rw [outsAt0_B m c t h (by omega)]
  frame_out
  pointwise [k0_pay4]

theorem out4 : (outsAt0 m c t.val t.isLt).2.1 = k0_pay11 (F := Ideal) (iblk m c 0 t) (iblk m c 1 t) (iblk m c 2 t) := by
  by_cases h : t.val % 8 = 0
  · rw [outsAt0_A m c t h (by have := lt_of_lt_of_eq t.isLt N_0; omega)]
    frame_out
  · rw [outsAt0_B m c t h (by omega)]
    frame_out

theorem out5 : (outsAt0 m c t.val t.isLt).2.2.1 = k0_pay1 (k0_pay11 (F := Ideal) (iblk m c 0 t) (iblk m c 1 t) (iblk m c 2 t)) := by
  by_cases h : t.val % 8 = 0
  · rw [outsAt0_A m c t h (by have := lt_of_lt_of_eq t.isLt N_0; omega)]
    frame_out
  · rw [outsAt0_B m c t h (by omega)]
    frame_out

theorem emb4 (y : S512x1024.Idx) : ((cfg0.win 4).blk t).view.emb y = ix2 (row t (y 0)) (y 1) := by
  blk_ext [row, places t]

theorem emb5 (y : S512x1024.Idx) : ((cfg0.win 5).blk t).view.emb y = ix2 (row t (y 0)) (y 1) := by
  blk_ext [row, places t]

theorem emb3 (y : S1x1.Idx) : ((cfg0.win 3).blk t).view.emb y = ix2 (y 0) (y 1) := by
  blk_ext [row, places t]

theorem emb6 (y : S1x1024.Idx) : ((cfg0.win 6).blk t).view.emb y = ix2 (y 0) (y 1) := by
  blk_ext [row, places t]

theorem result4 : (dats m 0 c).arrAt 4 (cfgs 0).N = val_main_v50 (F := Ideal) (m (c.tc.loc main_arg0)) (m (c.tc.loc main_arg1)) (m (c.tc.loc main_arg2)) := by
  refine (dats m 0 c).arrAt_eq_of_covers 4 _ (by decide +kernel) fun t _ y => ?_
  refine (?_ : _ = _).trans (congrArg _ (emb4 t y)).symm
  blk_simp
  rw [after0_4, out4]
  exact (congrArg _ (eq_ix2 (n0 := 512) (n1 := 1024) y)).trans (pay11 m c t (y 0) (y 1))

theorem result5 : (dats m 0 c).arrAt 5 (cfgs 0).N = val_main_v52 (F := Ideal) (m (c.tc.loc main_arg0)) (m (c.tc.loc main_arg1)) (m (c.tc.loc main_arg2)) := by
  refine (dats m 0 c).arrAt_eq_of_covers 5 _ (by decide +kernel) fun t _ y => ?_
  refine (?_ : _ = _).trans ((congrArg _ (emb5 t y)).trans (ref_dxb ..)).symm
  blk_simp
  rw [after0_5, out5]
  exact (congrArg _ (eq_ix2 (n0 := 512) (n1 := 1024) y)).trans (pay11 m c t (y 0) (y 1))

theorem result3 : (dats m 0 c).arrAt 3 (cfgs 0).N = val_main_v51 (F := Ideal) (m (c.tc.loc main_arg0)) (m (c.tc.loc main_arg1)) (m (c.tc.loc main_arg2)) := by
  refine (dats m 0 c).arrAt_eq_of_covers 3 _ (by decide +kernel) fun t hf y => ?_
  refine (?_ : _ = _).trans ((congrArg _ (emb3 t y)).trans (ref_loss ..)).symm
  have ht := (flush0_3 t).mp hf
  have hN := lt_of_lt_of_eq t.isLt N_0
  blk_simp
  rw [after0_3]
  refine (Pipeline.eq_sum_fin_of_reset_step_apply_of_flush (fun n h => (outsAt0 m c n h).1) 8 (fun _ => (0 : EReal))
    (fun n => k0_pay9 (F := Ideal) (iblk m c 0 n) (iblk m c 1 n) (iblk m c 2 n)) (first_loss m c) (next_loss m c) t (by omega) _).trans ?_
  rw [zero_add, mul_comm ((1 / 2 : ℝ) : EReal), NormBack.sum_mul_pos _ _ (by norm_num)]
  refine Eq.trans (Finset.sum_congr rfl fun s _ => (pay9 m c _ _).trans ((mul_comm _ _).trans (NormBack.sum_mul_pos _ _ (by norm_num)))) ?_
  refine Fin.sum_mul_add_congr fun s a hl => ?_
  rw [show row ⟨8 * (t.val / 8) + s.val, by have := s.isLt; exact lt_of_lt_of_eq (by omega) N_0.symm⟩ a = ⟨s.val * 512 + a.val, hl⟩ from Fin.ext (by simp only [row]; omega)]

theorem result6 : (dats m 0 c).arrAt 6 (cfgs 0).N = val_main_v53 (F := Ideal) (m (c.tc.loc main_arg0)) (m (c.tc.loc main_arg1)) (m (c.tc.loc main_arg2)) := by
  refine (dats m 0 c).arrAt_eq_of_covers 6 _ (by decide +kernel) fun t hf y => ?_
  refine (?_ : _ = _).trans ((congrArg _ (emb6 t y)).trans (ref_dg ..)).symm
  have ht := (flush0_6 t).mp hf
  have hN := lt_of_lt_of_eq t.isLt N_0
  blk_simp
  rw [after0_6]
  refine (Pipeline.eq_sum_fin_of_reset_step_apply_of_flush (fun n h => (outsAt0 m c n h).2.2.2) 8 (fun _ => (0 : EReal))
    (fun n => k0_pay2 (F := Ideal) (k0_pay6 (iblk m c 0 n)) (k0_pay10 (iblk m c 0 n) (iblk m c 1 n) (iblk m c 2 n))) (first_gain m c) (next_gain m c) t (by omega) _).trans ?_
  rw [zero_add]
  refine Eq.trans (Finset.sum_congr rfl fun s _ => pay2 m c _ _) ?_
  refine Fin.sum_mul_add_congr fun s a hl => ?_
  rw [show row ⟨8 * (t.val / 8) + s.val, by have := s.isLt; exact lt_of_lt_of_eq (by omega) N_0.symm⟩ a = ⟨s.val * 512 + a.val, hl⟩ from Fin.ext (by simp only [row]; omega)]

theorem holds : Cert.algebraic_LossHeadIdeal_LossHeadRefIdeal := by
  intro m g m' g' _ hagree
  refine ⟨fun c => (dats m 0 c).arrAt 3 cfg0.N, fun c => (dats m 0 c).arrAt 4 cfg0.N, fun c => (dats m 0 c).arrAt 5 cfg0.N, fun c => (dats m 0 c).arrAt 6 cfg0.N, θ_run_mono (Cert.LossHeadIdeal.Value.run_blocks m g) fun r h c => h c, θ_run_mono (Cert.LossHeadRefIdeal.Value.run m' g') fun r h c => ?_⟩
  obtain ⟨h0, h1, h2, h3, hk⟩ := h c
  obtain ⟨a0, a1, a2⟩ := hagree c
  have e0 := h0.trans (show _ = val_main_v51 (F := Ideal) (m' (c.tc.loc Cert.LossHeadRefIdeal.main_arg0)) (m' (c.tc.loc Cert.LossHeadRefIdeal.main_arg1)) (m' (c.tc.loc Cert.LossHeadRefIdeal.main_arg2)) from rfl)
  rw [a0, a1, a2] at e0
  have e1 := h1.trans (show _ = val_main_v50 (F := Ideal) (m' (c.tc.loc Cert.LossHeadRefIdeal.main_arg0)) (m' (c.tc.loc Cert.LossHeadRefIdeal.main_arg1)) (m' (c.tc.loc Cert.LossHeadRefIdeal.main_arg2)) from rfl)
  rw [a0, a1, a2] at e1
  have e2 := h2.trans (show _ = val_main_v52 (F := Ideal) (m' (c.tc.loc Cert.LossHeadRefIdeal.main_arg0)) (m' (c.tc.loc Cert.LossHeadRefIdeal.main_arg1)) (m' (c.tc.loc Cert.LossHeadRefIdeal.main_arg2)) from rfl)
  rw [a0, a1, a2] at e2
  have e3 := h3.trans (show _ = val_main_v53 (F := Ideal) (m' (c.tc.loc Cert.LossHeadRefIdeal.main_arg0)) (m' (c.tc.loc Cert.LossHeadRefIdeal.main_arg1)) (m' (c.tc.loc Cert.LossHeadRefIdeal.main_arg2)) from rfl)
  rw [a0, a1, a2] at e3
  exact ⟨e0.trans (result3 m c).symm, e1.trans (result4 m c).symm, e2.trans (result5 m c).symm, e3.trans (result6 m c).symm, hk⟩

end Cert.LossValue

end
-- ==== Proof.ConvForward.lean ====
/- The value of the short gated convolution in the forward pass. -/
module

public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Common

@[expose] public section

set_option maxRecDepth 16384

noncomputable section

namespace Cert.ConvForward

open Idealize.ShloMosaic Idealize.ShloMosaic.TcCoe Idealize.SL.Sem
open Cert.ConvFwdIdeal Cert.ConvFwdIdeal.Gen
open Cert.ConvFwdRefIdeal.Read

variable (m : (ℓ : Loc nD τ sig) → Buf (Elt Ideal) ℓ) (c : Dev nD)

/-- Where the windows stand at each point of the grid. -/
theorem places : ∀ t : Fin cfg0.N, win0_0.index t = ![t.val, 3] ∧ win0_1.index t = ![t.val, 4] ∧ win0_2.index t = ![t.val, 5]
    ∧ win0_3.index t = ![t.val * 32 - 1, 4] ∧ win0_4.index t = ![t.val * 32 - 1, 5] ∧ win0_5.index t = ![0, 0] ∧ win0_6.index t = ![t.val, 0] ∧ (grid0.coords t 0).val = t.val :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

/-- The row of the array at a row of the halo before a point's block. -/
def halo (t : Fin cfg0.N) (a : Fin 16) : Fin 4096 := ⟨(t.val * 32 - 1) * 16 + a.val, by have h := lt_of_lt_of_eq t.isLt N_0; omega⟩

/-- The convolution's input: the gated channel at a row. -/
def u (x : FVec Ideal S4096x8320 .bf16) (i : Fin 4096) (k : Fin 1024) : EReal := x (ix2 i ⟨4096 + k.val, by omega⟩) * x (ix2 i ⟨5120 + k.val, by omega⟩)

/-- The input two rows before, zero before the sequence begins. -/
def past (x : FVec Ideal S4096x8320 .bf16) (n : ℕ) (k : Fin 1024) : EReal := if h : 2 ≤ n ∧ n - 2 < 4096 then u x ⟨n - 2, h.2⟩ k else 0

/-- The convolution with its gate. -/
def conv (x : FVec Ideal S4096x8320 .bf16) (w : FVec Ideal S8x1024 .f32) (i : Fin 4096) (k : Fin 1024) : EReal :=
  x (ix2 i ⟨3072 + k.val, by omega⟩) * (w (ix2 0 k) * past x i.val k + w (ix2 1 k) * past x (1 + i.val) k + w (ix2 2 k) * u x i k + w (ix2 3 k))

variable (t : Fin cfg0.N)

abbrev A0 : FVec Ideal S4096x8320 .bf16 := m (c.tc.loc main_arg0)

abbrev H3 : FVec Ideal S16x1024 .bf16 := X0_3 m c t

abbrev H4 : FVec Ideal S16x1024 .bf16 := X0_4 m c t

theorem rd0 (a : Fin 512) (b : Fin 1024) : X0_0 m c t (ix2 a b) = ((m (c.tc.loc main_arg0)) : FVec Ideal S4096x8320 .bf16) (ix2 (row t a) ⟨3072 + b.val, by omega⟩) := by
  unfold X0_0 Pipeline.Window.fill
  rw [dif_pos (moved0_0 t _)]
  blk_simp [iblk]
  rw [V_main_arg0]
  blk_point [row, places t]

theorem rd1 (a : Fin 512) (b : Fin 1024) : X0_1 m c t (ix2 a b) = ((m (c.tc.loc main_arg0)) : FVec Ideal S4096x8320 .bf16) (ix2 (row t a) ⟨4096 + b.val, by omega⟩) := by
  unfold X0_1 Pipeline.Window.fill
  rw [dif_pos (moved0_1 t _)]
  blk_simp [iblk]
  rw [V_main_arg0]
  blk_point [row, places t]

theorem rd2 (a : Fin 512) (b : Fin 1024) : X0_2 m c t (ix2 a b) = ((m (c.tc.loc main_arg0)) : FVec Ideal S4096x8320 .bf16) (ix2 (row t a) ⟨5120 + b.val, by omega⟩) := by
  unfold X0_2 Pipeline.Window.fill
  rw [dif_pos (moved0_2 t _)]
  blk_simp [iblk]
  rw [V_main_arg0]
  blk_point [row, places t]

theorem rd3 (a : Fin 16) (b : Fin 1024) : X0_3 m c t (ix2 a b) = ((m (c.tc.loc main_arg0)) : FVec Ideal S4096x8320 .bf16) (ix2 (halo t a) ⟨4096 + b.val, by omega⟩) := by
  unfold X0_3 Pipeline.Window.fill
  rw [dif_pos (moved0_3 t _)]
  blk_simp [iblk]
  rw [V_main_arg0]
  blk_point [halo, places t]

theorem rd4 (a : Fin 16) (b : Fin 1024) : X0_4 m c t (ix2 a b) = ((m (c.tc.loc main_arg0)) : FVec Ideal S4096x8320 .bf16) (ix2 (halo t a) ⟨5120 + b.val, by omega⟩) := by
  unfold X0_4 Pipeline.Window.fill
  rw [dif_pos (moved0_4 t _)]
  blk_simp [iblk]
  rw [V_main_arg0]
  blk_point [halo, places t]

theorem rd5 (a : Fin 8) (b : Fin 1024) : iblk m c 5 t (ix2 a b) = ((m (c.tc.loc main_arg1)) : FVec Ideal S8x1024 .f32) (ix2 a b) := by
  blk_simp [iblk]
  rw [V_main_arg1]
  blk_point [row, places t]

theorem emb6 (y : S512x1024.Idx) : ((cfg0.win 6).blk t).view.emb y = ix2 (row t (y 0)) (y 1) := by
  blk_ext [row, places t]

section Reference

variable (x0 : FVec Ideal S4096x8320 .bf16) (x1 : FVec Ideal S8x1024 .f32) (i : Fin 4096) (k : Fin 1024)

theorem ref_u : val_main_v6 (F := Ideal) x0 (ix2 i k) = u x0 i k := by
  pointwise [val_main_v2, val_main_v3, val_main_v4, val_main_v5, val_main_v6, u]

theorem ref_pad (r : Fin 4098) : val_main_v8 (F := Ideal) x0 (ix2 r k) = past x0 r.val k := by
  pointwise [val_main_v7, val_main_v8, val_main_cst]
  unfold past
  by_cases h : 2 ≤ r.val
  · rw [dif_neg (show ¬r.val < 2 by omega), dif_pos ⟨h, by omega⟩, ref_u]
  · rw [dif_pos (show r.val < 2 by omega), dif_neg (fun q => h q.1)]

theorem ref_now : past x0 (2 + i.val) k = u x0 i k := by
  unfold past
  rw [dif_pos ⟨by omega, by omega⟩]
  exact congrArg (fun j => u x0 j k) (Fin.ext (by simp only; omega))

theorem ref : val_main_v37 (F := Ideal) x0 x1 (ix2 i k) = conv x0 x1 i k := by
  pointwise [val_main_v0, val_main_v1, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_0, ref_pad, ref_now]
  rw [conv]

end Reference

theorem pick (n : ℕ) (h : n < 8) (p q : EReal) : Scalar.select (Scalar.cmpi CmpIPredicate.eq (BitVec.ofNat 32 n) 0#32) p q = if n = 0 then p else q := by
  interval_cases n <;> rfl

/-- A row of the rolled block, with the halo above it, is the input some rows before. -/
theorem tap (d n : ℕ) (hd : d ≤ 2) (a : Fin 512) (hn : n + d = (row t a).val + 2) (b : Fin 1024) :
    (if h : (16 + a.val + 528 - d) % 528 < 16 then
      Scalar.select (Scalar.cmpi CmpIPredicate.eq (BitVec.ofNat 32 (grid0.coords t 0).val) 0#32) (0 : EReal)
        (H3 m c t (ix2 ⟨(16 + a.val + 528 - d) % 528, h⟩ b) * H4 m c t (ix2 ⟨(16 + a.val + 528 - d) % 528, h⟩ b))
    else
      A0 m c (ix2 (row t ⟨(16 + a.val + 528 - d) % 528 - 16, by omega⟩) ⟨4096 + b.val, by omega⟩)
        * A0 m c (ix2 (row t ⟨(16 + a.val + 528 - d) % 528 - 16, by omega⟩) ⟨5120 + b.val, by omega⟩))
    = past (m (c.tc.loc main_arg0)) n b := by
  have hN := lt_of_lt_of_eq t.isLt N_0
  have hm : (16 + a.val + 528 - d) % 528 = 16 + a.val - d := by omega
  rw [(places t).2.2.2.2.2.2.2]
  have hr : (row t a).val = t.val * 512 + a.val := rfl
  simp only [hm, rd3, rd4]
  unfold past u
  by_cases h : a.val < d
  · rw [dif_pos (by omega), pick _ hN]
    by_cases h0 : t.val = 0
    · rw [if_pos h0, dif_neg (by omega)]
    · rw [if_neg h0, dif_pos (by omega)]
      rw [show halo t ⟨16 + a.val - d, by omega⟩ = ⟨n - 2, by omega⟩ from Fin.ext (by simp only [halo]; omega)]
  · rw [dif_neg (by omega), dif_pos (by omega)]
    rw [show row t ⟨16 + a.val - d - 16, by omega⟩ = ⟨n - 2, by omega⟩ from Fin.ext (by simp only [row]; omega)]

theorem pay (a : Fin 512) (b : Fin 1024) (w0 w1 w2 w3 : FVec Ideal S1x1024 .f32) :
    k0_pay1 (F := Ideal) (grid0.coords t) (X0_1 m c t) (X0_2 m c t) (X0_3 m c t) (X0_4 m c t) w0 w1 w2 w3 (X0_0 m c t) (ix2 a b)
    = A0 m c (ix2 (row t a) ⟨3072 + b.val, by omega⟩)
      * (w0 (ix2 0 b) * past (m (c.tc.loc main_arg0)) (row t a).val b + w1 (ix2 0 b) * past (m (c.tc.loc main_arg0)) (1 + (row t a).val) b
        + w2 (ix2 0 b) * u (m (c.tc.loc main_arg0)) (row t a) b + w3 (ix2 0 b)) := by
  pointwise [k0_pay1, rd0, rd1, rd2]
  rw [tap m c t 2 (row t a).val (by omega) a (by omega) b, tap m c t 1 (1 + (row t a).val) (by omega) a (by omega) b, u]

theorem tile (a : Fin 512) (b : Fin 1024) :
    k0_pay1 (F := Ideal) (grid0.coords t) (X0_1 m c t) (X0_2 m c t) (X0_3 m c t) (X0_4 m c t) (View.ld (iblk m c 5 t) (Rect.unit ![0, 0] ![1, 1024] inb_S8x1024_S1x1024_0_0)) (View.ld (iblk m c 5 t) (Rect.unit ![1, 0] ![1, 1024] inb_S8x1024_S1x1024_1_0)) (View.ld (iblk m c 5 t) (Rect.unit ![2, 0] ![1, 1024] inb_S8x1024_S1x1024_2_0)) (View.ld (iblk m c 5 t) (Rect.unit ![3, 0] ![1, 1024] inb_S8x1024_S1x1024_3_0)) (X0_0 m c t) (ix2 a b)
    = conv (m (c.tc.loc main_arg0)) (m (c.tc.loc main_arg1)) (row t a) b := by
  have h0 : View.ld (iblk m c 5 t) (Rect.unit ![0, 0] ![1, 1024] inb_S8x1024_S1x1024_0_0) (ix2 0 b) = (m (c.tc.loc main_arg1) : FVec Ideal S8x1024 .f32) (ix2 0 b) := by
    refine Eq.trans ?_ (rd5 m c t 0 b)
    pointwise
  have h1 : View.ld (iblk m c 5 t) (Rect.unit ![1, 0] ![1, 1024] inb_S8x1024_S1x1024_1_0) (ix2 0 b) = (m (c.tc.loc main_arg1) : FVec Ideal S8x1024 .f32) (ix2 1 b) := by
    refine Eq.trans ?_ (rd5 m c t 1 b)
    pointwise
  have h2 : View.ld (iblk m c 5 t) (Rect.unit ![2, 0] ![1, 1024] inb_S8x1024_S1x1024_2_0) (ix2 0 b) = (m (c.tc.loc main_arg1) : FVec Ideal S8x1024 .f32) (ix2 2 b) := by
    refine Eq.trans ?_ (rd5 m c t 2 b)
    pointwise
  have h3 : View.ld (iblk m c 5 t) (Rect.unit ![3, 0] ![1, 1024] inb_S8x1024_S1x1024_3_0) (ix2 0 b) = (m (c.tc.loc main_arg1) : FVec Ideal S8x1024 .f32) (ix2 3 b) := by
    refine Eq.trans ?_ (rd5 m c t 3 b)
    pointwise
  rw [pay, h0, h1, h2, h3, conv]

theorem result6 : (dats m 0 c).arrAt 6 (cfgs 0).N = val_main_v37 (F := Ideal) (m (c.tc.loc main_arg0)) (m (c.tc.loc main_arg1)) := by
  refine (dats m 0 c).arrAt_eq_of_covers 6 _ (by decide +kernel) fun t _ y => ?_
  refine (?_ : _ = _).trans ((congrArg _ (emb6 t y)).trans (ref ..)).symm
  blk_simp
  rw [after0_6]
  dsimp only [outsAt0]
  frame_out
  exact (congrArg _ (eq_ix2 (n0 := 512) (n1 := 1024) y)).trans (tile m c t (y 0) (y 1))

theorem holds : Cert.algebraic_ConvFwdIdeal_ConvFwdRefIdeal := by
  intro m g m' g' _ hagree
  refine ⟨fun c => (dats m 0 c).arrAt 6 cfg0.N, θ_run_mono (Cert.ConvFwdIdeal.Value.run_blocks m g) fun r h c => h c, θ_run_mono (Cert.ConvFwdRefIdeal.Value.run m' g') fun r h c => ?_⟩
  obtain ⟨h0, hk⟩ := h c
  obtain ⟨a0, a1⟩ := hagree c
  have e0 := h0.trans (show _ = val_main_v37 (F := Ideal) (m' (c.tc.loc Cert.ConvFwdRefIdeal.main_arg0)) (m' (c.tc.loc Cert.ConvFwdRefIdeal.main_arg1)) from rfl)
  rw [a0, a1] at e0
  exact ⟨e0.trans (result6 m c).symm, hk⟩

end Cert.ConvForward

end
-- ==== Proof.ConvBackward.lean ====
/- The value of the short gated convolution in the backward pass. -/
module

public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Common

@[expose] public section

set_option maxRecDepth 16384

noncomputable section

namespace Cert.ConvBackward

open Idealize.ShloMosaic Idealize.ShloMosaic.TcCoe Idealize.SL.Sem
open Cert.ConvBwdIdeal Cert.ConvBwdIdeal.Gen
open Cert.ConvBwdRefIdeal.Read

variable (m : (ℓ : Loc nD τ sig) → Buf (Elt Ideal) ℓ) (c : Dev nD)

/-- Where the windows stand at each point of the grid. -/
theorem places : ∀ t : Fin cfg0.N, win0_0.index t = ![t.val, 3] ∧ win0_1.index t = ![t.val, 4] ∧ win0_2.index t = ![t.val, 5] ∧ win0_3.index t = ![t.val, 0]
    ∧ win0_4.index t = ![t.val * 32 - 1, 4] ∧ win0_5.index t = ![t.val * 32 - 1, 5] ∧ win0_6.index t = ![min ((t.val + 1) * 32) 255, 3] ∧ win0_7.index t = ![min ((t.val + 1) * 32) 255, 0]
    ∧ win0_8.index t = ![0, 0] ∧ win0_9.index t = ![t.val, 1] ∧ win0_10.index t = ![0, 0] ∧ (grid0.coords t 0).val = t.val :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

/-- The row of the array at a row of the halo before a point's block. -/
def halo (t : Fin cfg0.N) (a : Fin 16) : Fin 4096 := ⟨(t.val * 32 - 1) * 16 + a.val, by have h := lt_of_lt_of_eq t.isLt N_0; omega⟩

/-- The row of the array at a row of the halo after a point's block. -/
def after (t : Fin cfg0.N) (a : Fin 16) : Fin 4096 := ⟨min ((t.val + 1) * 32) 255 * 16 + a.val, by have h := lt_of_lt_of_eq t.isLt N_0; omega⟩

/-- The convolution's input: the gated channel at a row. -/
def u (x : FVec Ideal S4096x8320 .bf16) (i : Fin 4096) (k : Fin 1024) : EReal := x (ix2 i ⟨4096 + k.val, by omega⟩) * x (ix2 i ⟨5120 + k.val, by omega⟩)

/-- The input two rows before, zero before the sequence begins. -/
def past (x : FVec Ideal S4096x8320 .bf16) (n : ℕ) (k : Fin 1024) : EReal := if h : 2 ≤ n ∧ n - 2 < 4096 then u x ⟨n - 2, h.2⟩ k else 0

/-- The convolution's cotangent: the branch's cotangent with the gate. -/
def dc (x : FVec Ideal S4096x8320 .bf16) (y : FVec Ideal S4096x1024 .bf16) (i : Fin 4096) (k : Fin 1024) : EReal := y (ix2 i k) * x (ix2 i ⟨3072 + k.val, by omega⟩)

/-- The convolution's cotangent at a row, zero after the sequence ends. -/
def next (x : FVec Ideal S4096x8320 .bf16) (y : FVec Ideal S4096x1024 .bf16) (n : ℕ) (k : Fin 1024) : EReal := if h : n < 4096 then dc x y ⟨n, h⟩ k else 0

/-- The convolution. -/
def conv (x : FVec Ideal S4096x8320 .bf16) (w : FVec Ideal S8x1024 .f32) (i : Fin 4096) (k : Fin 1024) : EReal :=
  w (ix2 0 k) * past x i.val k + w (ix2 1 k) * past x (1 + i.val) k + w (ix2 2 k) * u x i k + w (ix2 3 k)

/-- The input's cotangent. -/
def du (x : FVec Ideal S4096x8320 .bf16) (y : FVec Ideal S4096x1024 .bf16) (w : FVec Ideal S8x1024 .f32) (i : Fin 4096) (k : Fin 1024) : EReal :=
  w (ix2 2 k) * dc x y i k + w (ix2 1 k) * next x y (1 + i.val) k + w (ix2 0 k) * next x y (2 + i.val) k

section Reference

variable (x0 x3 : FVec Ideal S4096x8320 .bf16) (x1 : FVec Ideal S4096x1024 .bf16) (x2 : FVec Ideal S8x1024 .f32) (i : Fin 4096) (k : Fin 1024)

theorem ref_u : val_main_v10 (F := Ideal) x0 (ix2 i k) = u x0 i k := by
  pointwise [val_main_v2, val_main_v3, val_main_v4, val_main_v5, val_main_v10, u]

theorem ref_pad (r : Fin 4098) : val_main_v11 (F := Ideal) x0 (ix2 r k) = past x0 r.val k := by
  pointwise [val_main_v9, val_main_v11, val_main_cst]
  unfold past
  by_cases h : 2 ≤ r.val
  · rw [dif_neg (show ¬r.val < 2 by omega), dif_pos ⟨h, by omega⟩, ref_u]
  · rw [dif_pos (show r.val < 2 by omega), dif_neg (fun q => h q.1)]

theorem ref_now : past x0 (2 + i.val) k = u x0 i k := by
  unfold past
  rw [dif_pos ⟨by omega, by omega⟩]
  exact congrArg (fun j => u x0 j k) (Fin.ext (by simp only; omega))

theorem ref_conv : val_main_v37 (F := Ideal) x0 x2 (ix2 i k) = conv x0 x2 i k := by
  pointwise [val_main_v6, val_main_v7, val_main_v8, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_1, ref_pad, ref_now]
  rw [conv]

theorem ref_dc : val_main_v40 (F := Ideal) x0 x1 (ix2 i k) = dc x0 x1 i k := by
  pointwise [val_main_v0, val_main_v1, val_main_v39, val_main_v40, dc]
  rw [mul_comm]

theorem next_in (n : ℕ) (h : n < 4096) : next x0 x1 n k = dc x0 x1 ⟨n, h⟩ k := dif_pos h

theorem next_out (n : ℕ) (h : ¬n < 4096) : next x0 x1 n k = 0 := dif_neg h

theorem ref_du : val_main_v77 (F := Ideal) x0 x1 x2 (ix2 i k) = du x0 x1 x2 i k := by
  pointwise [val_main_v77, val_main_v71, val_main_v60, val_main_v70, val_main_v59, val_main_v50, val_main_v46, val_main_v45, val_main_v55, val_main_v54, val_main_v66, val_main_v65, val_main_v28, val_main_v29, val_main_v30, val_main_v21, val_main_v22, val_main_v23, val_main_v13, val_main_v14, val_main_v15, val_main_v6, val_main_cst_5, val_main_cst_8, val_main_cst_13, ref_dc]
  unfold du
  congr 1
  · congr 1
    by_cases h : 1 + i.val < 4096
    · rw [dif_pos ⟨by omega, by omega⟩, next_in x0 x1 k _ h]
      congr 2
      exact Fin.ext (by simp only; omega)
    · rw [dif_neg (by omega), next_out x0 x1 k _ h, mul_zero, val_main_cst_9]
      pointwise
  · by_cases h : 2 + i.val < 4096
    · rw [dif_pos h, next_in x0 x1 k _ h]
    · rw [dif_neg h, next_out x0 x1 k _ h, mul_zero]

theorem ref_gb : val_main_v81 (F := Ideal) x0 x1 x2 (ix2 i ⟨k.val, by omega⟩) = x1 (ix2 i k) * conv x0 x2 i k := by
  pointwise [val_main_v80, val_main_v81, val_main_v41, val_main_v39, ref_conv]

theorem ref_gc : val_main_v81 (F := Ideal) x0 x1 x2 (ix2 i ⟨1024 + k.val, by omega⟩) = du x0 x1 x2 i k * x0 (ix2 i ⟨5120 + k.val, by omega⟩) := by
  pointwise [val_main_v80, val_main_v81, val_main_v79, val_main_v78, val_main_v2, val_main_v3, val_main_v4, val_main_v5, ref_du]

theorem ref_cx : val_main_v81 (F := Ideal) x0 x1 x2 (ix2 i ⟨2048 + k.val, by omega⟩) = du x0 x1 x2 i k * x0 (ix2 i ⟨4096 + k.val, by omega⟩) := by
  pointwise [val_main_v80, val_main_v81, val_main_v79, val_main_v78, val_main_v2, val_main_v3, val_main_v4, val_main_v5, ref_du]
  rw [dif_neg (by omega), dif_neg (by omega), mul_comm]
  have e : 2048 + k.val - 1024 - 1024 = k.val := by omega
  simp only [e]

theorem ref_dp (b : Fin 8320) : val_main_v87 (F := Ideal) x0 x1 x2 x3 (ix2 i b)
    = if h : b.val < 3072 then x3 (ix2 i b) else if h : b.val - 3072 < 3072 then val_main_v81 (F := Ideal) x0 x1 x2 (ix2 i ⟨b.val - 3072, h⟩) else x3 (ix2 i b) := by
  pointwise [val_main_v85, val_main_v86, val_main_v87]
  split
  · rfl
  · split
    · rfl
    · exact congrArg x3 ((ix2_inj _ _ _ _).mpr ⟨rfl, Fin.ext (by simp; omega)⟩)

theorem ref_dp_in (b : Fin 8320) (d : Fin 3072) (h : b.val = 3072 + d.val) : val_main_v87 (F := Ideal) x0 x1 x2 x3 (ix2 i b) = val_main_v81 (F := Ideal) x0 x1 x2 (ix2 i d) := by
  rw [ref_dp, dif_neg (by omega), dif_pos (by omega)]
  congr 2
  exact Fin.ext (by simp only; omega)

theorem ref_dp_out (b : Fin 8320) (h : ¬(3072 ≤ b.val ∧ b.val < 6144)) : val_main_v87 (F := Ideal) x0 x1 x2 x3 (ix2 i b) = x3 (ix2 i b) := by
  rw [ref_dp]
  split
  · rfl
  · rw [dif_neg (by omega)]

theorem ref_dw0 : val_main_v84 (F := Ideal) x0 x1 (ix2 0 k) = ∑ i : Fin 4096, dc x0 x1 i k * past x0 i.val k := by
  pointwise [val_main_v82, val_main_v83, val_main_v84, val_main_cst_16, val_main_v75, val_main_v74, val_main_v73, val_main_v72, val_main_v64, val_main_v63, val_main_v62, val_main_v61, val_main_v53, val_main_v52, val_main_v51, val_main_v49, val_main_v48, val_main_v58, val_main_v57, val_main_v56, val_main_v47, val_main_v69, val_main_v68, val_main_v67, val_main_v44, val_main_v43, val_main_v42, val_main_v31, val_main_v24, val_main_v16,
    val_main_cst_15, val_main_cst_14, val_main_cst_12, val_main_cst_11, val_main_cst_10, val_main_cst_9, val_main_cst_8, val_main_cst_7, val_main_cst_6, val_main_cst_4, val_main_cst_3, val_main_cst_2, ref_dc, ref_pad, ref_now]
  simp only [Finset.univ_unique, Finset.sum_singleton]

theorem ref_dw1 : val_main_v84 (F := Ideal) x0 x1 (ix2 1 k) = ∑ i : Fin 4096, dc x0 x1 i k * past x0 (1 + i.val) k := by
  pointwise [val_main_v82, val_main_v83, val_main_v84, val_main_cst_16, val_main_v75, val_main_v74, val_main_v73, val_main_v72, val_main_v64, val_main_v63, val_main_v62, val_main_v61, val_main_v53, val_main_v52, val_main_v51, val_main_v49, val_main_v48, val_main_v58, val_main_v57, val_main_v56, val_main_v47, val_main_v69, val_main_v68, val_main_v67, val_main_v44, val_main_v43, val_main_v42, val_main_v31, val_main_v24, val_main_v16,
    val_main_cst_15, val_main_cst_14, val_main_cst_12, val_main_cst_11, val_main_cst_10, val_main_cst_9, val_main_cst_8, val_main_cst_7, val_main_cst_6, val_main_cst_4, val_main_cst_3, val_main_cst_2, ref_dc, ref_pad, ref_now]
  simp only [Finset.univ_unique, Finset.sum_singleton]

theorem ref_dw2 : val_main_v84 (F := Ideal) x0 x1 (ix2 2 k) = ∑ i : Fin 4096, dc x0 x1 i k * u x0 i k := by
  pointwise [val_main_v82, val_main_v83, val_main_v84, val_main_cst_16, val_main_v75, val_main_v74, val_main_v73, val_main_v72, val_main_v64, val_main_v63, val_main_v62, val_main_v61, val_main_v53, val_main_v52, val_main_v51, val_main_v49, val_main_v48, val_main_v58, val_main_v57, val_main_v56, val_main_v47, val_main_v69, val_main_v68, val_main_v67, val_main_v44, val_main_v43, val_main_v42, val_main_v31, val_main_v24, val_main_v16,
    val_main_cst_15, val_main_cst_14, val_main_cst_12, val_main_cst_11, val_main_cst_10, val_main_cst_9, val_main_cst_8, val_main_cst_7, val_main_cst_6, val_main_cst_4, val_main_cst_3, val_main_cst_2, ref_dc, ref_pad, ref_now]
  simp only [Finset.univ_unique, Finset.sum_singleton]

theorem ref_dw3 : val_main_v84 (F := Ideal) x0 x1 (ix2 3 k) = ∑ i : Fin 4096, dc x0 x1 i k := by
  pointwise [val_main_v82, val_main_v83, val_main_v84, val_main_cst_16, val_main_v75, val_main_v74, val_main_v73, val_main_v72, val_main_v64, val_main_v63, val_main_v62, val_main_v61, val_main_v53, val_main_v52, val_main_v51, val_main_v49, val_main_v48, val_main_v58, val_main_v57, val_main_v56, val_main_v47, val_main_v69, val_main_v68, val_main_v67, val_main_v44, val_main_v43, val_main_v42, val_main_v31, val_main_v24, val_main_v16,
    val_main_cst_15, val_main_cst_14, val_main_cst_12, val_main_cst_11, val_main_cst_10, val_main_cst_9, val_main_cst_8, val_main_cst_7, val_main_cst_6, val_main_cst_4, val_main_cst_3, val_main_cst_2, ref_dc, ref_pad, ref_now]
  simp only [Finset.univ_unique, Finset.sum_singleton]

theorem ref_dw4 (r : Fin 8) (h : 4 ≤ r.val) : val_main_v84 (F := Ideal) x0 x1 (ix2 r k) = 0 := by
  pointwise [val_main_v82, val_main_v83, val_main_v84, val_main_cst_16]
  rw [dif_neg (by omega), dif_neg (by omega)]

end Reference

variable (t : Fin cfg0.N)

abbrev A0 : FVec Ideal S4096x8320 .bf16 := m (c.tc.loc main_arg0)

abbrev A1 : FVec Ideal S4096x1024 .bf16 := m (c.tc.loc main_arg1)

abbrev A2 : FVec Ideal S8x1024 .f32 := m (c.tc.loc main_arg2)

abbrev H4 : FVec Ideal S16x1024 .bf16 := X0_4 m c t

abbrev H5 : FVec Ideal S16x1024 .bf16 := X0_5 m c t

abbrev H6 : FVec Ideal S16x1024 .bf16 := X0_6 m c t

abbrev H7 : FVec Ideal S16x1024 .bf16 := iblk m c 7 t

theorem rd0 (a : Fin 512) (b : Fin 1024) : X0_0 m c t (ix2 a b) = A0 m c (ix2 (row t a) ⟨3072 + b.val, by omega⟩) := by
  unfold X0_0 Pipeline.Window.fill
  rw [dif_pos (moved0_0 t _)]
  blk_simp [iblk]
  rw [V_main_arg0]
  blk_point [row, places t]

theorem rd1 (a : Fin 512) (b : Fin 1024) : X0_1 m c t (ix2 a b) = A0 m c (ix2 (row t a) ⟨4096 + b.val, by omega⟩) := by
  unfold X0_1 Pipeline.Window.fill
  rw [dif_pos (moved0_1 t _)]
  blk_simp [iblk]
  rw [V_main_arg0]
  blk_point [row, places t]

theorem rd2 (a : Fin 512) (b : Fin 1024) : X0_2 m c t (ix2 a b) = A0 m c (ix2 (row t a) ⟨5120 + b.val, by omega⟩) := by
  unfold X0_2 Pipeline.Window.fill
  rw [dif_pos (moved0_2 t _)]
  blk_simp [iblk]
  rw [V_main_arg0]
  blk_point [row, places t]

theorem rd4 (a : Fin 16) (b : Fin 1024) : X0_4 m c t (ix2 a b) = A0 m c (ix2 (halo t a) ⟨4096 + b.val, by omega⟩) := by
  unfold X0_4 Pipeline.Window.fill
  rw [dif_pos (moved0_4 t _)]
  blk_simp [iblk]
  rw [V_main_arg0]
  blk_point [halo, places t]

theorem rd5 (a : Fin 16) (b : Fin 1024) : X0_5 m c t (ix2 a b) = A0 m c (ix2 (halo t a) ⟨5120 + b.val, by omega⟩) := by
  unfold X0_5 Pipeline.Window.fill
  rw [dif_pos (moved0_5 t _)]
  blk_simp [iblk]
  rw [V_main_arg0]
  blk_point [halo, places t]

theorem rd6 (a : Fin 16) (b : Fin 1024) : X0_6 m c t (ix2 a b) = A0 m c (ix2 (after t a) ⟨3072 + b.val, by omega⟩) := by
  unfold X0_6 Pipeline.Window.fill
  rw [dif_pos (moved0_6 t _)]
  blk_simp [iblk]
  rw [V_main_arg0]
  blk_point [after, places t]

theorem rd3 (a : Fin 512) (b : Fin 1024) : iblk m c 3 t (ix2 a b) = A1 m c (ix2 (row t a) b) := by
  blk_simp [iblk]
  rw [V_main_arg1]
  blk_point [row, after, places t]

theorem rd7 (a : Fin 16) (b : Fin 1024) : iblk m c 7 t (ix2 a b) = A1 m c (ix2 (after t a) b) := by
  blk_simp [iblk]
  rw [V_main_arg1]
  blk_point [row, after, places t]

theorem rd8 (a : Fin 8) (b : Fin 1024) : iblk m c 8 t (ix2 a b) = A2 m c (ix2 (a) b) := by
  blk_simp [iblk]
  rw [V_main_arg2]
  blk_point [row, after, places t]

theorem pick (q n : ℕ) (hq : q < 8) (h : n < 8) (x y : EReal) : Scalar.select (Scalar.cmpi CmpIPredicate.eq (BitVec.ofNat 32 n) (BitVec.ofNat 32 q)) x y = if n = q then x else y := by
  interval_cases q <;> interval_cases n <;> rfl

/-- A row of the rolled block, with the halo above it, is the input some rows before. -/
theorem tap (d n : ℕ) (hd : d ≤ 2) (a : Fin 512) (hn : n + d = (row t a).val + 2) (b : Fin 1024) :
    (if h : (16 + a.val + 528 - d) % 528 < 16 then
      Scalar.select (Scalar.cmpi CmpIPredicate.eq (BitVec.ofNat 32 (grid0.coords t 0).val) 0#32) (0 : EReal)
        (H4 m c t (ix2 ⟨(16 + a.val + 528 - d) % 528, h⟩ b) * H5 m c t (ix2 ⟨(16 + a.val + 528 - d) % 528, h⟩ b))
    else u (A0 m c) (row t ⟨(16 + a.val + 528 - d) % 528 - 16, by omega⟩) b) = past (A0 m c) n b := by
  have hN := lt_of_lt_of_eq t.isLt N_0
  have hm : (16 + a.val + 528 - d) % 528 = 16 + a.val - d := by omega
  rw [(places t).2.2.2.2.2.2.2.2.2.2.2]
  have hr : (row t a).val = t.val * 512 + a.val := rfl
  simp only [hm, rd4, rd5]
  unfold past u
  by_cases h : a.val < d
  · rw [dif_pos (by omega), pick 0 _ (by omega) hN]
    by_cases h0 : t.val = 0
    · rw [if_pos h0, dif_neg (by omega)]
    · rw [if_neg h0, dif_pos (by omega)]
      rw [show halo t ⟨16 + a.val - d, by omega⟩ = ⟨n - 2, by omega⟩ from Fin.ext (by simp only [halo]; omega)]
  · rw [dif_neg (by omega), dif_pos (by omega)]
    rw [show row t ⟨16 + a.val - d - 16, by omega⟩ = ⟨n - 2, by omega⟩ from Fin.ext (by simp only [row]; omega)]

/-- A row of the block rolled the other way, with the halo below it, is the cotangent some rows after. -/
theorem tip (p d n : ℕ) (hp : p + d = 528) (hd : d ≤ 2) (a : Fin 512) (hn : n = d + (row t a).val) (b : Fin 1024) :
    (if h : (a.val + 528 - p) % 528 < 512 then dc (A0 m c) (A1 m c) (row t ⟨(a.val + 528 - p) % 528, h⟩) b
    else
      Scalar.select (Scalar.cmpi CmpIPredicate.eq (BitVec.ofNat 32 (grid0.coords t 0).val) 7#32) (0 : EReal)
        (H7 m c t (ix2 ⟨(a.val + 528 - p) % 528 - 512, by omega⟩ b) * H6 m c t (ix2 ⟨(a.val + 528 - p) % 528 - 512, by omega⟩ b))) = next (A0 m c) (A1 m c) n b := by
  have hN := lt_of_lt_of_eq t.isLt N_0
  have hm : (a.val + 528 - p) % 528 = a.val + d := by omega
  rw [(places t).2.2.2.2.2.2.2.2.2.2.2]
  have hr : (row t a).val = t.val * 512 + a.val := rfl
  simp only [hm, rd6, rd7]
  unfold next dc
  by_cases h : a.val + d < 512
  · rw [dif_pos h, dif_pos (by omega)]
    rw [show row t ⟨a.val + d, h⟩ = ⟨n, by omega⟩ from Fin.ext (by simp only [row]; omega)]
  · rw [dif_neg h, pick 7 _ (by omega) hN]
    by_cases h0 : t.val = 7
    · rw [if_pos h0, dif_neg (by omega)]
    · rw [if_neg h0, dif_pos (by omega)]
      rw [show after t ⟨a.val + d - 512, by omega⟩ = ⟨n, by omega⟩ from Fin.ext (by simp only [after]; omega)]

theorem pay7 (a : Fin 512) (b : Fin 1024) : k0_pay7 (F := Ideal) (X0_1 m c t) (X0_2 m c t) (ix2 a b) = u (A0 m c) (row t a) b := by
  pointwise [k0_pay7, k0_pay4, k0_pay5, rd1, rd2, u]

theorem pay9 (a : Fin 512) (b : Fin 1024) : k0_pay9 (F := Ideal) (grid0.coords t) (X0_1 m c t) (X0_2 m c t) (X0_4 m c t) (X0_5 m c t) (ix2 a b) = past (A0 m c) (1 + (row t a).val) b := by
  rw [← tap m c t 1 (1 + (row t a).val) (by omega) a (by omega) b]
  pointwise [k0_pay9, k0_pay8, pay7]

theorem pay10 (a : Fin 512) (b : Fin 1024) : k0_pay10 (F := Ideal) (grid0.coords t) (X0_1 m c t) (X0_2 m c t) (X0_4 m c t) (X0_5 m c t) (ix2 a b) = past (A0 m c) (row t a).val b := by
  rw [← tap m c t 2 (row t a).val (by omega) a (by omega) b]
  pointwise [k0_pay10, k0_pay8, pay7]

theorem pay13 (a : Fin 512) (b : Fin 1024) : k0_pay13 (F := Ideal) (k0_pay3 (X0_0 m c t)) (k0_pay6 (iblk m c 3 t)) (ix2 a b) = dc (A0 m c) (A1 m c) (row t a) b := by
  pointwise [k0_pay13, k0_pay3, k0_pay6, rd0, rd3, dc]

abbrev tapRow (j : Fin 8) (b : Fin 1024) : EReal := A2 m c (ix2 j b)

theorem ld0 (b : Fin 1024) : View.ld (iblk m c 8 t) (Rect.unit ![0, 0] ![1, 1024] inb_S8x1024_S1x1024_0_0) (ix2 0 b) = A2 m c (ix2 0 b) := by
  refine Eq.trans ?_ (rd8 m c t 0 b)
  pointwise

theorem ld1 (b : Fin 1024) : View.ld (iblk m c 8 t) (Rect.unit ![1, 0] ![1, 1024] inb_S8x1024_S1x1024_1_0) (ix2 0 b) = A2 m c (ix2 1 b) := by
  refine Eq.trans ?_ (rd8 m c t 1 b)
  pointwise

theorem ld2 (b : Fin 1024) : View.ld (iblk m c 8 t) (Rect.unit ![2, 0] ![1, 1024] inb_S8x1024_S1x1024_2_0) (ix2 0 b) = A2 m c (ix2 2 b) := by
  refine Eq.trans ?_ (rd8 m c t 2 b)
  pointwise

theorem ld3 (b : Fin 1024) : View.ld (iblk m c 8 t) (Rect.unit ![3, 0] ![1, 1024] inb_S8x1024_S1x1024_3_0) (ix2 0 b) = A2 m c (ix2 3 b) := by
  refine Eq.trans ?_ (rd8 m c t 3 b)
  pointwise

theorem pay14 (a : Fin 512) (b : Fin 1024) (w2 w1 w0 : FVec Ideal S1x1024 .f32) :
    k0_pay14 (F := Ideal) (BitVec.ofNat 32 (grid0.coords t 0).val) (k0_pay3 (X0_0 m c t)) (k0_pay6 (iblk m c 3 t)) (iblk m c 7 t) (X0_6 m c t) w2 w1 w0 (ix2 a b)
      = w2 (ix2 0 b) * dc (A0 m c) (A1 m c) (row t a) b + w1 (ix2 0 b) * next (A0 m c) (A1 m c) (1 + (row t a).val) b + w0 (ix2 0 b) * next (A0 m c) (A1 m c) (2 + (row t a).val) b := by
  rw [← tip m c t 527 1 _ (by omega) (by omega) a rfl b, ← tip m c t 526 2 _ (by omega) (by omega) a rfl b]
  pointwise [k0_pay14, pay13]

theorem pay15 (a : Fin 512) (b : Fin 1024) : k0_pay15 (F := Ideal) (k0_pay6 (iblk m c 3 t)) (k0_pay11 (grid0.coords t) (X0_1 m c t) (X0_2 m c t) (X0_4 m c t) (X0_5 m c t) (View.ld (iblk m c 8 t) (Rect.unit ![0, 0] ![1, 1024] inb_S8x1024_S1x1024_0_0)) (View.ld (iblk m c 8 t) (Rect.unit ![1, 0] ![1, 1024] inb_S8x1024_S1x1024_1_0)) (View.ld (iblk m c 8 t) (Rect.unit ![2, 0] ![1, 1024] inb_S8x1024_S1x1024_2_0))) (k0_pay12 (View.ld (iblk m c 8 t) (Rect.unit ![3, 0] ![1, 1024] inb_S8x1024_S1x1024_3_0))) (ix2 a b)
    = A1 m c (ix2 (row t a) b) * conv (A0 m c) (A2 m c) (row t a) b := by
  rw [conv, ← ld0 m c t, ← ld1 m c t, ← ld2 m c t, ← ld3 m c t, ← pay10, ← pay9, ← pay7]
  pointwise [k0_pay15, k0_pay6, k0_pay11, k0_pay12, rd3]

theorem pay16 (a : Fin 512) (b : Fin 1024) : k0_pay16 (F := Ideal) (BitVec.ofNat 32 (grid0.coords t 0).val) (k0_pay3 (X0_0 m c t)) (k0_pay5 (X0_2 m c t)) (k0_pay6 (iblk m c 3 t)) (iblk m c 7 t) (X0_6 m c t) (View.ld (iblk m c 8 t) (Rect.unit ![2, 0] ![1, 1024] inb_S8x1024_S1x1024_2_0)) (View.ld (iblk m c 8 t) (Rect.unit ![1, 0] ![1, 1024] inb_S8x1024_S1x1024_1_0)) (View.ld (iblk m c 8 t) (Rect.unit ![0, 0] ![1, 1024] inb_S8x1024_S1x1024_0_0)) (ix2 a b)
    = du (A0 m c) (A1 m c) (A2 m c) (row t a) b * A0 m c (ix2 (row t a) ⟨5120 + b.val, by omega⟩) := by
  rw [du, ← ld0 m c t, ← ld1 m c t, ← ld2 m c t, ← pay14]
  pointwise [k0_pay16, k0_pay5, rd2]

theorem pay17 (a : Fin 512) (b : Fin 1024) : k0_pay17 (F := Ideal) (BitVec.ofNat 32 (grid0.coords t 0).val) (k0_pay3 (X0_0 m c t)) (k0_pay4 (X0_1 m c t)) (k0_pay6 (iblk m c 3 t)) (iblk m c 7 t) (X0_6 m c t) (View.ld (iblk m c 8 t) (Rect.unit ![2, 0] ![1, 1024] inb_S8x1024_S1x1024_2_0)) (View.ld (iblk m c 8 t) (Rect.unit ![1, 0] ![1, 1024] inb_S8x1024_S1x1024_1_0)) (View.ld (iblk m c 8 t) (Rect.unit ![0, 0] ![1, 1024] inb_S8x1024_S1x1024_0_0)) (ix2 a b)
    = du (A0 m c) (A1 m c) (A2 m c) (row t a) b * A0 m c (ix2 (row t a) ⟨4096 + b.val, by omega⟩) := by
  rw [du, ← ld0 m c t, ← ld1 m c t, ← ld2 m c t, ← pay14]
  pointwise [k0_pay17, k0_pay4, rd1]

/-- A point's share of the gradient of the taps and the bias. -/
def part : FVec Ideal S8x1024 .f32 := k0_pay1 (k0_pay7 (X0_1 m c t) (X0_2 m c t)) (k0_pay9 (grid0.coords t) (X0_1 m c t) (X0_2 m c t) (X0_4 m c t) (X0_5 m c t)) (k0_pay13 (k0_pay3 (X0_0 m c t)) (k0_pay6 (iblk m c 3 t)))
  (k0_pay18 (k0_pay3 (X0_0 m c t)) (k0_pay6 (iblk m c 3 t)) (k0_pay10 (grid0.coords t) (X0_1 m c t) (X0_2 m c t) (X0_4 m c t) (X0_5 m c t)))

theorem part0 (k : Fin 1024) : part m c t (ix2 0 k) = ∑ a : Fin 512, dc (A0 m c) (A1 m c) (row t a) k * past (A0 m c) (row t a).val k := by
  unfold part
  pointwise [k0_pay1, k0_pay18, pay7, pay9, pay10, pay13]

theorem part1 (k : Fin 1024) : part m c t (ix2 1 k) = ∑ a : Fin 512, dc (A0 m c) (A1 m c) (row t a) k * past (A0 m c) (1 + (row t a).val) k := by
  unfold part
  pointwise [k0_pay1, k0_pay18, pay7, pay9, pay10, pay13]

theorem part2 (k : Fin 1024) : part m c t (ix2 2 k) = ∑ a : Fin 512, dc (A0 m c) (A1 m c) (row t a) k * u (A0 m c) (row t a) k := by
  unfold part
  pointwise [k0_pay1, k0_pay18, pay7, pay9, pay10, pay13]

theorem part3 (k : Fin 1024) : part m c t (ix2 3 k) = ∑ a : Fin 512, dc (A0 m c) (A1 m c) (row t a) k := by
  unfold part
  pointwise [k0_pay1, k0_pay18, pay7, pay9, pay10, pay13]

theorem part4 (r : Fin 8) (h : 4 ≤ r.val) (k : Fin 1024) : part m c t (ix2 r k) = 0 := by
  unfold part
  pointwise [k0_pay1]
  rw [dif_neg (by omega), dif_neg (by omega), dif_neg (by omega), dif_neg (by omega)]

theorem first_dw (h : t.val % 8 = 0) (j) : (outsAt0 m c t.val t.isLt).2 j = (0 : EReal) + part m c t j := by
  rw [outsAt0_A m c t h (by have := lt_of_lt_of_eq t.isLt N_0; omega), zero_add]
  frame_out
  rfl

theorem next_dw (h : ¬t.val % 8 = 0) (j) : (outsAt0 m c t.val t.isLt).2 j
    = (outsAt0 m c (t.val - 1) (Nat.lt_of_le_of_lt (Nat.sub_le _ _) t.isLt)).2 j + part m c t j := by
  rw [outsAt0_B m c t h (by omega)]
  frame_out
  pointwise [k0_pay2]
  rfl

theorem spot (n : ℕ) (hn : n ≤ 2048) (y : ((cfg0.win 9).xblock (cfg0.grid.coords t)).Idx) (x : S512x1024.Idx) (h0 : (y 0).val = (x 0).val) (h1 : (y 1).val = n + (x 1).val) :
    ((cfg0.win 9).blk t).view.emb y = ix2 (row t (x 0)) ⟨3072 + (n + (x 1).val), by have h : (x 1).val < 1024 := (x 1).isLt; omega⟩ := by
  blk_ext [row, places t, h0, h1]

theorem emb10 (y : S8x1024.Idx) : ((cfg0.win 10).blk t).view.emb y = ix2 (y 0) (y 1) := by
  blk_ext [row, places t]

theorem V9 : V m c main_v0_0 = m (c.tc.loc main_arg3) := by
  show (StableHlo.after _ _) _ = _
  after_results
  rfl

theorem result9 : (dats m 0 c).arrAt 9 (cfgs 0).N = fun j => if 3072 ≤ (j 1).val ∧ (j 1).val < 6144 then
    val_main_v87 (F := Ideal) (A0 m c) (A1 m c) (A2 m c) (m (c.tc.loc main_arg3)) j else V m c main_v0_0 j := by
  refine (dats m 0 c).arrAt_eq_of_coversWhere 9 _ (fun β => β 1 = 1) (by decide +kernel) (fun t hf y => ?_) (fun j => by blk_simp [Pipeline.Window.cell_apply]; omega)
  blk_simp
  rw [after0_9]
  by_cases h : t.val % 8 = 0
  · rw [outsAt0_A m c t h (by have := lt_of_lt_of_eq t.isLt N_0; omega)]
    frame_out
    canon_tiles x q
    · refine Eq.trans ?_ ((congrArg _ (spot t 2048 (by omega) y x q0 q1)).trans ((ref_dp_in _ _ _ _ _ _ ⟨2048 + (x 1).val, by omega⟩ rfl).trans (ref_cx ..))).symm
      exact (congrArg _ (eq_ix2 x)).trans (pay17 m c t (x 0) (x 1))
    · refine Eq.trans ?_ ((congrArg _ (spot t 1024 (by omega) y x q0 q1)).trans ((ref_dp_in _ _ _ _ _ _ ⟨1024 + (x 1).val, by omega⟩ rfl).trans (ref_gc ..))).symm
      exact (congrArg _ (eq_ix2 x)).trans (pay16 m c t (x 0) (x 1))
    · refine Eq.trans ?_ ((congrArg _ (spot t 0 (by omega) y x q0 (q1.trans (Nat.zero_add _).symm))).trans ((ref_dp_in _ _ _ _ _ _ ⟨(x 1).val, by omega⟩ (by simp)).trans (ref_gb _ _ _ _ ⟨(x 1).val, x1_lt⟩))).symm
      exact (congrArg _ (eq_ix2 x)).trans (pay15 m c t (x 0) (x 1))
  · rw [outsAt0_B m c t h (by omega)]
    frame_out
    canon_tiles x q
    · refine Eq.trans ?_ ((congrArg _ (spot t 2048 (by omega) y x q0 q1)).trans ((ref_dp_in _ _ _ _ _ _ ⟨2048 + (x 1).val, by omega⟩ rfl).trans (ref_cx ..))).symm
      exact (congrArg _ (eq_ix2 x)).trans (pay17 m c t (x 0) (x 1))
    · refine Eq.trans ?_ ((congrArg _ (spot t 1024 (by omega) y x q0 q1)).trans ((ref_dp_in _ _ _ _ _ _ ⟨1024 + (x 1).val, by omega⟩ rfl).trans (ref_gc ..))).symm
      exact (congrArg _ (eq_ix2 x)).trans (pay16 m c t (x 0) (x 1))
    · refine Eq.trans ?_ ((congrArg _ (spot t 0 (by omega) y x q0 (q1.trans (Nat.zero_add _).symm))).trans ((ref_dp_in _ _ _ _ _ _ ⟨(x 1).val, by omega⟩ (by simp)).trans (ref_gb _ _ _ _ ⟨(x 1).val, x1_lt⟩))).symm
      exact (congrArg _ (eq_ix2 x)).trans (pay15 m c t (x 0) (x 1))

theorem whole9 : (dats m 0 c).arrAt 9 (cfgs 0).N = val_main_v87 (F := Ideal) (A0 m c) (A1 m c) (A2 m c) (m (c.tc.loc main_arg3)) := by
  rw [result9]
  funext j
  by_cases h : 3072 ≤ (j 1).val ∧ (j 1).val < 6144
  · exact if_pos h
  · refine (if_neg h).trans ?_
    rw [V9]
    rw [eq_ix2 (n0 := 4096) (n1 := 8320) j]
    exact (ref_dp_out _ _ _ _ (j 0) (j 1) h).symm

theorem result10 : (dats m 0 c).arrAt 10 (cfgs 0).N = val_main_v84 (F := Ideal) (A0 m c) (A1 m c) := by
  refine (dats m 0 c).arrAt_eq_of_covers 10 _ (by decide +kernel) fun t hf y => ?_
  refine (?_ : _ = _).trans (congrArg _ (emb10 t y)).symm
  have ht := (flush0_10 t).mp hf
  have hN := lt_of_lt_of_eq t.isLt N_0
  blk_simp
  rw [after0_10]
  refine (Pipeline.eq_sum_fin_of_reset_step_apply_of_flush (fun n h => (outsAt0 m c n h).2) 8 (fun _ => (0 : EReal)) (part m c) (first_dw m c) (next_dw m c) t (by omega) _).trans ?_
  rw [zero_add]
  have hrow : ∀ (s : Fin 8) (a : Fin 512) (hl : s.val * 512 + a.val < 4096), row ⟨8 * (t.val / 8) + s.val, by have := s.isLt; exact lt_of_lt_of_eq (by omega) N_0.symm⟩ a = ⟨s.val * 512 + a.val, hl⟩ :=
    fun s a hl => Fin.ext (by simp only [row]; omega)
  refine (?_ : ∀ (r : Fin 8) (k : Fin 1024), ∑ s : Fin 8, part m c ⟨8 * (t.val / 8) + s.val, by have := s.isLt; exact lt_of_lt_of_eq (by omega) N_0.symm⟩ (ix2 r k) = val_main_v84 (F := Ideal) (A0 m c) (A1 m c) (ix2 r k)) |> fun h => (Finset.sum_congr rfl fun s _ => congrArg _ (eq_ix2 (n0 := 8) (n1 := 1024) y)).trans (h (y 0) (y 1))
  intro r k
  by_cases h4 : 4 ≤ r.val
  · rw [ref_dw4 _ _ _ _ h4]
    exact Finset.sum_eq_zero fun s _ => part4 m c _ r h4 k
  · obtain h | h | h | h : r = 0 ∨ r = 1 ∨ r = 2 ∨ r = 3 := by
      simp only [Fin.ext_iff, Fin.isValue]
      have : (0 : Fin 8).val = 0 ∧ (1 : Fin 8).val = 1 ∧ (2 : Fin 8).val = 2 ∧ (3 : Fin 8).val = 3 := ⟨rfl, rfl, rfl, rfl⟩
      omega
    · subst h
      rw [ref_dw0]
      refine (Finset.sum_congr rfl fun s _ => part0 m c _ k).trans ?_
      exact Fin.sum_mul_add_congr fun s a hl => by rw [hrow s a hl]
    · subst h
      rw [ref_dw1]
      refine (Finset.sum_congr rfl fun s _ => part1 m c _ k).trans ?_
      exact Fin.sum_mul_add_congr fun s a hl => by rw [hrow s a hl]
    · subst h
      rw [ref_dw2]
      refine (Finset.sum_congr rfl fun s _ => part2 m c _ k).trans ?_
      exact Fin.sum_mul_add_congr fun s a hl => by rw [hrow s a hl]
    · subst h
      rw [ref_dw3]
      refine (Finset.sum_congr rfl fun s _ => part3 m c _ k).trans ?_
      exact Fin.sum_mul_add_congr fun s a hl => by rw [hrow s a hl]

theorem holds : Cert.algebraic_ConvBwdIdeal_ConvBwdRefIdeal := by
  intro m g m' g' _ hagree
  refine ⟨fun c => (dats m 0 c).arrAt 9 cfg0.N, fun c => (dats m 0 c).arrAt 10 cfg0.N, θ_run_mono (Cert.ConvBwdIdeal.Value.run_blocks m g) fun r h c => h c, θ_run_mono (Cert.ConvBwdRefIdeal.Value.run m' g') fun r h c => ?_⟩
  obtain ⟨h0, h1, hk⟩ := h c
  obtain ⟨a0, a1, a2, a3⟩ := hagree c
  have e0 := h0.trans (show _ = val_main_v87 (F := Ideal) (m' (c.tc.loc Cert.ConvBwdRefIdeal.main_arg0)) (m' (c.tc.loc Cert.ConvBwdRefIdeal.main_arg1)) (m' (c.tc.loc Cert.ConvBwdRefIdeal.main_arg2)) (m' (c.tc.loc Cert.ConvBwdRefIdeal.main_arg3)) from rfl)
  rw [a0, a1, a2, a3] at e0
  have e1 := h1.trans (show _ = val_main_v84 (F := Ideal) (m' (c.tc.loc Cert.ConvBwdRefIdeal.main_arg0)) (m' (c.tc.loc Cert.ConvBwdRefIdeal.main_arg1)) from rfl)
  rw [a0, a1] at e1
  exact ⟨e0.trans (whole9 m c).symm, e1.trans (result10 m c).symm, hk⟩

end Cert.ConvBackward

end
-- ==== Proof.LossTotalIdealBase.lean ====
/- The blocks and the branch conditions of the loss kernel, run on every device before the sum over devices. -/
module

public import proofs.«01_k».proof.Proof.Gen.LossTotalIdeal.Launch
public import proofs.«01_k».proof.Proof.Gen.LossTotalIdeal.Skeleton
public import proofs.«01_k».proof.Proof.Gen.LossTotalIdeal.Points
public import proofs.«01_k».proof.Proof.Gen.LossTotalIdeal.Regions
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.LossTotalIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossTotalIdeal Cert.LossTotalIdeal.Gen

variable {F : FTy → Type} [FloatOps F]

variable (m : (ℓ : Loc nD τ sig) → Buf (Elt F) ℓ) (ρ : Dev nD → PrngReg)

abbrev UU : Type := UR sig nD τ × Sites.UC
abbrev MM (F : FTy → Type) : Type := MT nD τ sig ℕ (Elt F) ℕ UU ℕ
abbrev V (c : Dev nD) (b : Ref sig .tc) : Buf (Elt F) ((c : Thread nD τ).loc b) := V1 m c b

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) ℕ ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) ℕ ℕ UU ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) ℕ ℕ UU ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := k0_cond1 i = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
def freshTab0_3 : ℕ → Bool
  | 0 => true
  | n + 1 => (0x80 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
theorem liveAt0_3_A : ∀ t : Fin cfg0.N, cond0_0 (grid0.coords t) → ¬cond0_1 (grid0.coords t) → cfg0.idle 3 (grid0.coords t) = false := by decide +kernel
theorem liveAt0_3_B : ∀ t : Fin cfg0.N, ¬cond0_0 (grid0.coords t) → cond0_1 (grid0.coords t) → cfg0.idle 3 (grid0.coords t) = false := by decide +kernel
theorem notFresh0_3_B : ∀ t : Fin cfg0.N, ¬cond0_0 (grid0.coords t) → cond0_1 (grid0.coords t) → cfg0.fresh 3 t.val = false := by
  intro t; rw [fresh0_3_eq t]; revert t; decide +kernel
def freshTab0_6 : ℕ → Bool
  | 0 => true
  | n + 1 => (0x80 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
theorem liveAt0_6_A : ∀ t : Fin cfg0.N, cond0_0 (grid0.coords t) → ¬cond0_1 (grid0.coords t) → cfg0.idle 6 (grid0.coords t) = false := by decide +kernel
theorem liveAt0_6_B : ∀ t : Fin cfg0.N, ¬cond0_0 (grid0.coords t) → cond0_1 (grid0.coords t) → cfg0.idle 6 (grid0.coords t) = false := by decide +kernel
theorem notFresh0_6_B : ∀ t : Fin cfg0.N, ¬cond0_0 (grid0.coords t) → cond0_1 (grid0.coords t) → cfg0.fresh 6 t.val = false := by
  intro t; rw [fresh0_6_eq t]; revert t; decide +kernel

/-! ## The kernel body on any staging memrefs: a subtype the run finds -/

abbrev VO0_3 : View sig .tc .vmem S1x1 .f32 := (Memref.whole cc0_stg3_0 : Memref sig .tc .vmem S1x1 .f32).view
abbrev VO0_4 : View sig .tc .vmem S512x1024 .f32 := (Memref.whole cc0_stg4_0 : Memref sig .tc .vmem S512x1024 .f32).view
abbrev VO0_5 : View sig .tc .vmem S512x1024 .bf16 := (Memref.whole cc0_stg5_0 : Memref sig .tc .vmem S512x1024 .bf16).view
abbrev VO0_6 : View sig .tc .vmem S1x1024 .f32 := (Memref.whole cc0_stg6_0 : Memref sig .tc .vmem S1x1024 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)

end Cert.LossTotalIdeal.Run

end
-- ==== Proof.LossTotalIdealBody.lean ====
/- The loss kernel run at the first point and at a later point, for the program over the reals; as in the module of the same name without Ideal. -/
module

public import proofs.«01_k».proof.Proof.LossTotalIdealBase

@[expose] public section

set_option maxRecDepth 16384

noncomputable section

namespace Cert.LossTotalIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossTotalIdeal Cert.LossTotalIdeal.Gen

variable {F : FTy → Type} [FloatOps F]

variable (m : (ℓ : Loc nD τ sig) → Buf (Elt F) ℓ) (ρ : Dev nD → PrngReg)
variable (c : Dev nD) (i : grid0.Coords) (p1 : Memref sig .tc .vmem S512x1024 .f32) (q1 : p1.IsWhole) (p2 : Memref sig .tc .vmem S1x1024 .f32) (q2 : p2.IsWhole) (p3 : Memref sig .tc .vmem S512x1024 .f32) (q3 : p3.IsWhole) (p4 : Memref sig .tc .vmem S1x1 .f32) (q4 : p4.IsWhole) (p5 : Memref sig .tc .vmem S512x1024 .f32) (q5 : p5.IsWhole) (p6 : Memref sig .tc .vmem S512x1024 .bf16) (q6 : p6.IsWhole) (p7 : Memref sig .tc .vmem S1x1024 .f32) (q7 : p7.IsWhole)

-- (the run's proof term is large: the definition's epilogue — `abstractNestedProofs` — walks it past the default budget)
set_option maxHeartbeats 1000000 in
noncomputable def kernelRun0_A (hc0 : cond0_0 i) (hc1 : ¬cond0_1 i)
    (x0 : Vec F S512x1024 .f32) (x1 : Vec F S1x1024 .f32) (x2 : Vec F S512x1024 .f32) :
    Σ' (L3 : List (View.Piece (Elt F) S1x1 .f32)), Σ' (L4 : List (View.Piece (Elt F) S512x1024 .f32)), Σ' (L5 : List (View.Piece (Elt F) S512x1024 .bf16)), { L6 : List (View.Piece (Elt F) S1x1024 .f32) //
      ∀ (E : Set ℕ) (K : PUnit → sProp (MM F)),
        iprop(owns (c : Thread nD τ) p1 fullShare x0 ∗ owns (c : Thread nD τ) p2 fullShare x1 ∗ owns (c : Thread nD τ) p3 fullShare x2 ∗ (∃ d, owns (c : Thread nD τ) p4 fullShare d) ∗ (∃ d, owns (c : Thread nD τ) p5 fullShare d) ∗ (∃ d, owns (c : Thread nD τ) p6 fullShare d) ∗ (∃ d, owns (c : Thread nD τ) p7 fullShare d)
            ∗ (iprop(owns (c : Thread nD τ) p1 fullShare x0 ∗ owns (c : Thread nD τ) p2 fullShare x1 ∗ owns (c : Thread nD τ) p3 fullShare x2 ∗ (∃ f, p4.view.loc (c : Thread nD τ) ↦[p4.view.set]{fullShare} p4.view.writes (Elt F) f L3) ∗ (∃ f, p5.view.loc (c : Thread nD τ) ↦[p5.view.set]{fullShare} p5.view.writes (Elt F) f L4) ∗ (∃ f, p6.view.loc (c : Thread nD τ) ↦[p6.view.set]{fullShare} p6.view.writes (Elt F) f L5) ∗ (∃ f, p7.view.loc (c : Thread nD τ) ↦[p7.view.set]{fullShare} p7.view.writes (Elt F) f L6)) -∗ K ⟨⟩))
          ⊢ wp frame (wpE (defs₀ (F := F)) Variants.none c none) E (cc0_loss_head i p1 q1 p2 q2 p3 q3 p4 q4 p5 q5 p6 q6 p7 q7) K } := by
  refine ⟨?_, ?_, ?_, ?_, fun E K => ?run⟩
  case run =>
    simp only [cc0_loss_head_eq_skeleton]; unfold cc0_loss_head_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := q1.eq_unread hf0; obtain rfl := q2.eq_unread hf1; obtain rfl := q3.eq_unread hf2
    sl_exec (disch := first | sl_exact hc0 | sl_exact hc1)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]; · iexists _; iexact H3
    isplitl [H4]; · iexists _; iexact H4
    isplitl [H5]; · iexists _; iexact H5
    iexists _; iexact H6

-- (the run's proof term is large: the definition's epilogue — `abstractNestedProofs` — walks it past the default budget)
set_option maxHeartbeats 1000000 in
noncomputable def kernelRun0_B (hc0 : ¬cond0_0 i) (hc1 : cond0_1 i)
    (x0 : Vec F S512x1024 .f32) (x1 : Vec F S1x1024 .f32) (x2 : Vec F S512x1024 .f32) (xo3 : Vec F S1x1 .f32) (xo6 : Vec F S1x1024 .f32) :
    Σ' (L3 : List (View.Piece (Elt F) S1x1 .f32)), Σ' (L4 : List (View.Piece (Elt F) S512x1024 .f32)), Σ' (L5 : List (View.Piece (Elt F) S512x1024 .bf16)), { L6 : List (View.Piece (Elt F) S1x1024 .f32) //
      ∀ (E : Set ℕ) (K : PUnit → sProp (MM F)),
        iprop(owns (c : Thread nD τ) p1 fullShare x0 ∗ owns (c : Thread nD τ) p2 fullShare x1 ∗ owns (c : Thread nD τ) p3 fullShare x2 ∗ owns (c : Thread nD τ) p4 fullShare xo3 ∗ (∃ d, owns (c : Thread nD τ) p5 fullShare d) ∗ (∃ d, owns (c : Thread nD τ) p6 fullShare d) ∗ owns (c : Thread nD τ) p7 fullShare xo6
            ∗ (iprop(owns (c : Thread nD τ) p1 fullShare x0 ∗ owns (c : Thread nD τ) p2 fullShare x1 ∗ owns (c : Thread nD τ) p3 fullShare x2 ∗ (∃ f, p4.view.loc (c : Thread nD τ) ↦[p4.view.set]{fullShare} p4.view.writes (Elt F) f L3) ∗ (∃ f, p5.view.loc (c : Thread nD τ) ↦[p5.view.set]{fullShare} p5.view.writes (Elt F) f L4) ∗ (∃ f, p6.view.loc (c : Thread nD τ) ↦[p6.view.set]{fullShare} p6.view.writes (Elt F) f L5) ∗ (∃ f, p7.view.loc (c : Thread nD τ) ↦[p7.view.set]{fullShare} p7.view.writes (Elt F) f L6)) -∗ K ⟨⟩))
          ⊢ wp frame (wpE (defs₀ (F := F)) Variants.none c none) E (cc0_loss_head i p1 q1 p2 q2 p3 q3 p4 q4 p5 q5 p6 q6 p7 q7) K } := by
  refine ⟨?_, ?_, ?_, ?_, fun E K => ?run⟩
  case run =>
    simp only [cc0_loss_head_eq_skeleton]; unfold cc0_loss_head_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := q1.eq_unread hf0; obtain rfl := q2.eq_unread hf1; obtain rfl := q3.eq_unread hf2; obtain rfl := q4.eq_unread hf3; obtain rfl := q7.eq_unread hf6
    sl_exec (disch := first | sl_exact hc0 | sl_exact hc1)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]; · iexists _; iexact H3
    isplitl [H4]; · iexists _; iexact H4
    isplitl [H5]; · iexists _; iexact H5
    iexists _; iexact H6

end Cert.LossTotalIdeal.Run

end
-- ==== Proof.LossTotalIdealData.lean ====
/- What the loss kernel leaves at each point, and its body obligation, for the program over the reals; as in the module of the same name without Ideal. -/
module

public import proofs.«01_k».proof.Proof.LossTotalIdealBody

@[expose] public section

set_option maxRecDepth 16384

noncomputable section

namespace Cert.LossTotalIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossTotalIdeal Cert.LossTotalIdeal.Gen

variable {F : FTy → Type} [FloatOps F]

variable (m : (ℓ : Loc nD τ sig) → Buf (Elt F) ℓ) (ρ : Dev nD → PrngReg)
variable (c : Dev nD) (i : grid0.Coords) (p1 : Memref sig .tc .vmem S512x1024 .f32) (q1 : p1.IsWhole) (p2 : Memref sig .tc .vmem S1x1024 .f32) (q2 : p2.IsWhole) (p3 : Memref sig .tc .vmem S512x1024 .f32) (q3 : p3.IsWhole) (p4 : Memref sig .tc .vmem S1x1 .f32) (q4 : p4.IsWhole) (p5 : Memref sig .tc .vmem S512x1024 .f32) (q5 : p5.IsWhole) (p6 : Memref sig .tc .vmem S512x1024 .bf16) (q6 : p6.IsWhole) (p7 : Memref sig .tc .vmem S1x1024 .f32) (q7 : p7.IsWhole)

section CaseA

variable (hc0 : cond0_0 i) (hc1 : ¬cond0_1 i)
    (x0 : Vec F S512x1024 .f32) (x1 : Vec F S1x1024 .f32) (x2 : Vec F S512x1024 .f32)

theorem cover0_A_3 (y : S1x1.Idx) :
    ∃ pc ∈ (kernelRun0_A c i p1 q1 p2 q2 p3 q3 p4 q4 p5 q5 p6 q6 p7 q7 hc0 hc1 x0 x1 x2).1, y ∈ pc.1.set :=
  View.cover_of_tiledL (kernelRun0_A c i p1 q1 p2 q2 p3 q3 p4 q4 p5 q5 p6 q6 p7 q7 hc0 hc1 x0 x1 x2).1 S1x1.size (by sl_kernel_rfl) y

def out0_A_3 : Vec F S1x1 .f32 :=
  VO0_3.read (Elt F) (VO0_3.writes (Elt F) VO0_3.junk (kernelRun0_A c i p1 q1 p2 q2 p3 q3 p4 q4 p5 q5 p6 q6 p7 q7 hc0 hc1 x0 x1 x2).1)

theorem cover0_A_4 (y : S512x1024.Idx) :
    ∃ pc ∈ (kernelRun0_A c i p1 q1 p2 q2 p3 q3 p4 q4 p5 q5 p6 q6 p7 q7 hc0 hc1 x0 x1 x2).2.1, y ∈ pc.1.set :=
  View.cover_of_tiledL (kernelRun0_A c i p1 q1 p2 q2 p3 q3 p4 q4 p5 q5 p6 q6 p7 q7 hc0 hc1 x0 x1 x2).2.1 S512x1024.size (by sl_kernel_rfl) y

def out0_A_4 : Vec F S512x1024 .f32 :=
  VO0_4.read (Elt F) (VO0_4.writes (Elt F) VO0_4.junk (kernelRun0_A c i p1 q1 p2 q2 p3 q3 p4 q4 p5 q5 p6 q6 p7 q7 hc0 hc1 x0 x1 x2).2.1)

theorem cover0_A_5 (y : S512x1024.Idx) :
    ∃ pc ∈ (kernelRun0_A c i p1 q1 p2 q2 p3 q3 p4 q4 p5 q5 p6 q6 p7 q7 hc0 hc1 x0 x1 x2).2.2.1, y ∈ pc.1.set :=
  View.cover_of_tiledL (kernelRun0_A c i p1 q1 p2 q2 p3 q3 p4 q4 p5 q5 p6 q6 p7 q7 hc0 hc1 x0 x1 x2).2.2.1 S512x1024.size (by sl_kernel_rfl) y

def out0_A_5 : Vec F S512x1024 .bf16 :=
  VO0_5.read (Elt F) (VO0_5.writes (Elt F) VO0_5.junk (kernelRun0_A c i p1 q1 p2 q2 p3 q3 p4 q4 p5 q5 p6 q6 p7 q7 hc0 hc1 x0 x1 x2).2.2.1)

theorem cover0_A_6 (y : S1x1024.Idx) :
    ∃ pc ∈ (kernelRun0_A c i p1 q1 p2 q2 p3 q3 p4 q4 p5 q5 p6 q6 p7 q7 hc0 hc1 x0 x1 x2).2.2.2.1, y ∈ pc.1.set :=
  View.cover_of_tiledL (kernelRun0_A c i p1 q1 p2 q2 p3 q3 p4 q4 p5 q5 p6 q6 p7 q7 hc0 hc1 x0 x1 x2).2.2.2.1 S1x1024.size (by sl_kernel_rfl) y

def out0_A_6 : Vec F S1x1024 .f32 :=
  VO0_6.read (Elt F) (VO0_6.writes (Elt F) VO0_6.junk (kernelRun0_A c i p1 q1 p2 q2 p3 q3 p4 q4 p5 q5 p6 q6 p7 q7 hc0 hc1 x0 x1 x2).2.2.2.1)

end CaseA

section CaseB

variable (hc0 : ¬cond0_0 i) (hc1 : cond0_1 i)
    (x0 : Vec F S512x1024 .f32) (x1 : Vec F S1x1024 .f32) (x2 : Vec F S512x1024 .f32) (xo3 : Vec F S1x1 .f32) (xo6 : Vec F S1x1024 .f32)

theorem cover0_B_3 (y : S1x1.Idx) :
    ∃ pc ∈ (kernelRun0_B c i p1 q1 p2 q2 p3 q3 p4 q4 p5 q5 p6 q6 p7 q7 hc0 hc1 x0 x1 x2 xo3 xo6).1, y ∈ pc.1.set :=
  View.cover_of_tiledL (kernelRun0_B c i p1 q1 p2 q2 p3 q3 p4 q4 p5 q5 p6 q6 p7 q7 hc0 hc1 x0 x1 x2 xo3 xo6).1 S1x1.size (by sl_kernel_rfl) y

def out0_B_3 : Vec F S1x1 .f32 :=
  VO0_3.read (Elt F) (VO0_3.writes (Elt F) VO0_3.junk (kernelRun0_B c i p1 q1 p2 q2 p3 q3 p4 q4 p5 q5 p6 q6 p7 q7 hc0 hc1 x0 x1 x2 xo3 xo6).1)

theorem cover0_B_4 (y : S512x1024.Idx) :
    ∃ pc ∈ (kernelRun0_B c i p1 q1 p2 q2 p3 q3 p4 q4 p5 q5 p6 q6 p7 q7 hc0 hc1 x0 x1 x2 xo3 xo6).2.1, y ∈ pc.1.set :=
  View.cover_of_tiledL (kernelRun0_B c i p1 q1 p2 q2 p3 q3 p4 q4 p5 q5 p6 q6 p7 q7 hc0 hc1 x0 x1 x2 xo3 xo6).2.1 S512x1024.size (by sl_kernel_rfl) y

def out0_B_4 : Vec F S512x1024 .f32 :=
  VO0_4.read (Elt F) (VO0_4.writes (Elt F) VO0_4.junk (kernelRun0_B c i p1 q1 p2 q2 p3 q3 p4 q4 p5 q5 p6 q6 p7 q7 hc0 hc1 x0 x1 x2 xo3 xo6).2.1)

theorem cover0_B_5 (y : S512x1024.Idx) :
    ∃ pc ∈ (kernelRun0_B c i p1 q1 p2 q2 p3 q3 p4 q4 p5 q5 p6 q6 p7 q7 hc0 hc1 x0 x1 x2 xo3 xo6).2.2.1, y ∈ pc.1.set :=
  View.cover_of_tiledL (kernelRun0_B c i p1 q1 p2 q2 p3 q3 p4 q4 p5 q5 p6 q6 p7 q7 hc0 hc1 x0 x1 x2 xo3 xo6).2.2.1 S512x1024.size (by sl_kernel_rfl) y

def out0_B_5 : Vec F S512x1024 .bf16 :=
  VO0_5.read (Elt F) (VO0_5.writes (Elt F) VO0_5.junk (kernelRun0_B c i p1 q1 p2 q2 p3 q3 p4 q4 p5 q5 p6 q6 p7 q7 hc0 hc1 x0 x1 x2 xo3 xo6).2.2.1)

theorem cover0_B_6 (y : S1x1024.Idx) :
    ∃ pc ∈ (kernelRun0_B c i p1 q1 p2 q2 p3 q3 p4 q4 p5 q5 p6 q6 p7 q7 hc0 hc1 x0 x1 x2 xo3 xo6).2.2.2.1, y ∈ pc.1.set :=
  View.cover_of_tiledL (kernelRun0_B c i p1 q1 p2 q2 p3 q3 p4 q4 p5 q5 p6 q6 p7 q7 hc0 hc1 x0 x1 x2 xo3 xo6).2.2.2.1 S1x1024.size (by sl_kernel_rfl) y

def out0_B_6 : Vec F S1x1024 .f32 :=
  VO0_6.read (Elt F) (VO0_6.writes (Elt F) VO0_6.junk (kernelRun0_B c i p1 q1 p2 q2 p3 q3 p4 q4 p5 q5 p6 q6 p7 q7 hc0 hc1 x0 x1 x2 xo3 xo6).2.2.2.1)

end CaseB

/-! ## What the outputs hold after each point -/

def outsAt0 (c : Dev nD) : (n : ℕ) → n < cfg0.N → Vec F S1x1 .f32 × Vec F S512x1024 .f32 × Vec F S512x1024 .bf16 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : 1 ≤ (n + 1) then
        False.elim (by have hN : n + 1 < 8 := lt_of_lt_of_eq hn (show cfg0.N = 8 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : 1 ≤ (n + 1) then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2)
      else
        False.elim (by have hN : n + 1 < 8 := lt_of_lt_of_eq hn (show cfg0.N = 8 from N_0); omega)

theorem outsAt0_A (c : Dev nD) (t : Fin cfg0.N) (h0 : t.val % 8 = 0) (h1 : ¬1 ≤ t.val) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : 1 ≤ t.val) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

def dats (_ : Fin 1) (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := iprop(Pipeline.scopedRest spec0 c ∗ ∃ r, prngReg c r)
  q _ := fullShare
  owed _ := Sites.O0 (F := F) c

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 8 := lt_of_lt_of_eq t.isLt (show cfg0.N = 8 from N_0)
  rw [after0_3, after0_3]
  by_cases h0 : t.val % 8 = 0
  · by_cases h1 : 1 ≤ t.val
    · exfalso; omega
    · rw [liveAt0_3_A t ((hcond0_0 t).mpr h0) (fun h => h1 ((hcond0_1 t).mp h))] at hi
      exact absurd hi Bool.false_ne_true
  · by_cases h1 : 1 ≤ t.val
    · rw [liveAt0_3_B t (fun h => h0 ((hcond0_0 t).mp h)) ((hcond0_1 t).mpr h1)] at hi
      exact absurd hi Bool.false_ne_true
    · exfalso; omega

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 8 := lt_of_lt_of_eq t.isLt (show cfg0.N = 8 from N_0)
  rw [after0_6, after0_6]
  by_cases h0 : t.val % 8 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega
theorem before0_3_B (c : Dev nD) (t : Fin cfg0.N) (h0 : ¬t.val % 8 = 0) (h1 : 1 ≤ t.val) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_B t (fun h => h0 ((hcond0_0 t).mp h)) ((hcond0_1 t).mpr h1)]; exact Bool.false_ne_true)]
  dsimp only [dats]
theorem before0_6_B (c : Dev nD) (t : Fin cfg0.N) (h0 : ¬t.val % 8 = 0) (h1 : 1 ≤ t.val) (d) :
    (dats m 0 c).before 6 t d = (outsAt0 m c (t.val - 1) (Nat.lt_of_le_of_lt (Nat.sub_le _ _) t.isLt)).2.2.2 := by
  rw [Dat.before_out_traj _ 6 rfl (fun _ _ => rfl) (hcarry0_6 m c) t.val t rfl d,
    if_neg (by rw [notFresh0_6_B t (fun h => h0 ((hcond0_0 t).mp h)) ((hcond0_1 t).mpr h1)]; exact Bool.false_ne_true)]
  dsimp only [dats]

/-! ## The body obligation, at a generic point -/

def bodyPre (c : Dev nD) (t : Fin cfg0.N) : sProp (MM F) :=
  iprop((dats m 0 c).Φ t.castSucc ∗ (dats m 0 c).owesAt 0 t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp (MM F) :=
  iprop((dats m 0 c).Φ t.succ ∗ (dats m 0 c).owesAt 0 t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt 0 t.succ = (dats m 0 c).owesAt 0 t.castSucc from rfl]
  have hN : t.val < 8 := lt_of_lt_of_eq t.isLt (show cfg0.N = 8 from N_0)
  by_cases h0 : t.val % 8 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h))], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [outsAt0_A m c t h0 h1]
      unfold out0_A_3 out0_A_4 out0_A_5 out0_A_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      iintro ⟨H0, H1, H2, ⟨%e3, H3⟩, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _)
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1)], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      rw [outsAt0_B m c t h0 h1]
      simp only [before0_3_B m c t h0 h1, before0_6_B m c t h0 h1]
      unfold out0_B_3 out0_B_4 out0_B_5 out0_B_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      iintro ⟨H0, H1, H2, ⟨%e3, H3⟩, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none 0 Set.univ := fun t => by
  rw [bigSep_W0, bigSep_W0, defs₀_row]
  exact triple_restated (sound_body m c t) rfl .rfl fun _ => .rfl

end Cert.LossTotalIdeal.Run

end
-- ==== Proof.LossTotalIdealFrame.lean ====
/- The run of the loss kernel on every device and of the sum over devices, for the program over the reals; as in the module of the same name without Ideal. -/
module

public import proofs.«01_k».proof.Proof.LossTotalIdealData
public import proofs.«01_k».proof.Proof.Gen.LossTotalIdeal.RegionsRQ
public import Idealize.ShloMosaic.Lib.Pipeline.RegionArrays
public import Idealize.ShloMosaic.Lib.Quiescent

@[expose] public section

set_option maxRecDepth 16384

noncomputable section

namespace Cert.LossTotalIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossTotalIdeal Cert.LossTotalIdeal.Gen

variable {F : FTy → Type} [FloatOps F]

variable (m : (ℓ : Loc nD τ sig) → Buf (Elt F) ℓ) (ρ : Dev nD → PrngReg)

abbrev EP : Emb (UR sig nD τ) (MM F) := embL
abbrev EC : Emb Sites.UC (MM F) := embR

def left (c : Dev nD) : Valuation τ sig (Elt F) :=
  Function.update (Function.update (Function.update (Function.update (V1 m c)
    main_v2_0 ((dats m 0 c).arrAt 3 cfg0.N)) main_v2_1 ((dats m 0 c).arrAt 4 cfg0.N))
    main_v2_2 ((dats m 0 c).arrAt 5 cfg0.N)) main_v2_3 ((dats m 0 c).arrAt 6 cfg0.N)

def outs0 : Outs (F := F) := fun _ b c => left m c b
abbrev VS (c : Dev nD) : Valuation τ sig (Elt F) := V3 m (outs0 m) c
def outs : Outs (F := F) := fun n b c => if n = 4 then (ar0 (F := F)).after₀ (VS m) c b else left m c b

theorem outs_two (b : DevRef τ sig) (c : Dev nD) : outs m 2 b c = outs0 m 2 b c := if_neg (by decide)
theorem outs_four (b : DevRef τ sig) (c : Dev nD) : outs m 4 b c = (ar0 (F := F)).after₀ (VS m) c b := if_pos rfl
theorem V2_outs (c : Dev nD) : V2 m (outs m) c = V2 m (outs0 m) c := by
  simp only [V2, outs_two]
theorem V3_outs (c : Dev nD) : V3 m (outs m) c = VS m c := by
  show StableHlo.after hostOps1 (V2 m (outs m) c) = StableHlo.after hostOps1 (V2 m (outs0 m) c)
  rw [V2_outs]

theorem left_0 (c : Dev nD) : left m c main_v2_0 = (dats m 0 c).arrAt 3 cfg0.N := by
  simp only [left, Function.update_of_ne (StableHlo.devRef_ne_of_ne (by decide : (main_v2_0 : Ref sig .tc) ≠ main_v2_1)), Function.update_of_ne (StableHlo.devRef_ne_of_ne (by decide : (main_v2_0 : Ref sig .tc) ≠ main_v2_2)), Function.update_of_ne (StableHlo.devRef_ne_of_ne (by decide : (main_v2_0 : Ref sig .tc) ≠ main_v2_3)), Function.update_self]
theorem left_1 (c : Dev nD) : left m c main_v2_1 = (dats m 0 c).arrAt 4 cfg0.N := by
  simp only [left, Function.update_of_ne (StableHlo.devRef_ne_of_ne (by decide : (main_v2_1 : Ref sig .tc) ≠ main_v2_2)), Function.update_of_ne (StableHlo.devRef_ne_of_ne (by decide : (main_v2_1 : Ref sig .tc) ≠ main_v2_3)), Function.update_self]
theorem left_2 (c : Dev nD) : left m c main_v2_2 = (dats m 0 c).arrAt 5 cfg0.N := by
  simp only [left, Function.update_of_ne (StableHlo.devRef_ne_of_ne (by decide : (main_v2_2 : Ref sig .tc) ≠ main_v2_3)), Function.update_self]
theorem left_3 (c : Dev nD) : left m c main_v2_3 = (dats m 0 c).arrAt 6 cfg0.N := by
  simp only [left, Function.update_self]

theorem V2_at_0 (c : Dev nD) : V2 m (outs0 m) c main_v2_0 = (dats m 0 c).arrAt 3 cfg0.N := by
  simp only [V2, outs0, Function.update_of_ne (StableHlo.devRef_ne_of_ne (by decide : (main_v2_0 : Ref sig .tc) ≠ main_v2_1)), Function.update_of_ne (StableHlo.devRef_ne_of_ne (by decide : (main_v2_0 : Ref sig .tc) ≠ main_v2_2)), Function.update_of_ne (StableHlo.devRef_ne_of_ne (by decide : (main_v2_0 : Ref sig .tc) ≠ main_v2_3)), Function.update_self]
  exact left_0 m c
theorem V2_at_1 (c : Dev nD) : V2 m (outs0 m) c main_v2_1 = (dats m 0 c).arrAt 4 cfg0.N := by
  simp only [V2, outs0, Function.update_of_ne (StableHlo.devRef_ne_of_ne (by decide : (main_v2_1 : Ref sig .tc) ≠ main_v2_2)), Function.update_of_ne (StableHlo.devRef_ne_of_ne (by decide : (main_v2_1 : Ref sig .tc) ≠ main_v2_3)), Function.update_self]
  exact left_1 m c
theorem V2_at_2 (c : Dev nD) : V2 m (outs0 m) c main_v2_2 = (dats m 0 c).arrAt 5 cfg0.N := by
  simp only [V2, outs0, Function.update_of_ne (StableHlo.devRef_ne_of_ne (by decide : (main_v2_2 : Ref sig .tc) ≠ main_v2_3)), Function.update_self]
  exact left_2 m c
theorem V2_at_3 (c : Dev nD) : V2 m (outs0 m) c main_v2_3 = (dats m 0 c).arrAt 6 cfg0.N := by
  simp only [V2, outs0, Function.update_self]
  exact left_3 m c

abbrev arrs : Finset (DevRef τ sig) := Pipeline.arrRefs (τ := τ) spec0
theorem arr_mem (w : Fin cfg0.W) : (Proc.devRef .tc (Pipeline.arrRef spec0 w) : DevRef τ sig) ∈ arrs :=
  Finset.mem_map_of_mem _ (Finset.mem_image_of_mem _ (Finset.mem_univ w))
theorem arr_sub : arrs ⊆ Pipeline.ucRefs τ sig := Pipeline.arrRefs_sub_ucRefs spec0 (by decide)

theorem rest_eq (c : Dev nD) : ∀ b ∈ Pipeline.ucRefs τ sig \ arrs, V2 m (outs0 m) c b = V1 m c b := fun b hb => by
  have hn : b ∉ arrs := (Finset.mem_sdiff.mp hb).2
  have h0 : b ≠ Proc.devRef .tc main_v2_0 := by rintro rfl; exact hn (arr_mem 3)
  have h1 : b ≠ Proc.devRef .tc main_v2_1 := by rintro rfl; exact hn (arr_mem 4)
  have h2 : b ≠ Proc.devRef .tc main_v2_2 := by rintro rfl; exact hn (arr_mem 5)
  have h3 : b ≠ Proc.devRef .tc main_v2_3 := by rintro rfl; exact hn (arr_mem 6)
  simp only [V2, Function.update_of_ne h0, Function.update_of_ne h1, Function.update_of_ne h2, Function.update_of_ne h3]

theorem V4_eq (c : Dev nD) (b : DevRef τ sig) : V4 m (outs m) c b = (ar0 (F := F)).after₀ (VS m) c b := by
  by_cases hb : b ∈ W4.map (Proc.devRef (τ := τ) .tc)
  · exact (if_pos hb).trans (outs_four m b c)
  · have hn : b ∉ (ar0 (F := F)).foldBufs := fun h => hb (by
      rcases Finset.mem_insert.mp h with h | h
      · rw [h]; exact List.mem_map_of_mem (by decide : main_v4 ∈ W4)
      · obtain ⟨r, hr, rfl⟩ := Finset.mem_map.mp h
        exact (by decide : ∀ j : Fin 8, Proc.devRef (τ := τ) .tc (ar0_stage j) ∈ W4.map (Proc.devRef (τ := τ) .tc)) r)
    exact (if_neg hb).trans ((congrFun (V3_outs m c) b).trans ((ar0 (F := F)).after₀_of_notMem (VS m) c hn).symm)

theorem cut : Pipeline.LevelCut (pcfgs (F := F)) adm 0 Sites.L Sites.lv 0 (fun c => Sites.O0 (F := F) c) (fun _ => 0) :=
  ⟨fun _ _ _ => Sites.mem_L _ _ (by decide), fun _ _ _ => le_refl _, fun _ _ _ hg => ⟨(Sites.O0_pos hg).1, (Sites.O0_pos hg).2⟩⟩

abbrev past (c : Dev nD) : sProp (MM F) :=
  iprop(StableHlo.held (c : Thread nD τ) (Pipeline.ucRefs τ sig \ arrs) (V1 m c) ∗ Sites.rides0 EC (VS m) c)

set_option backward.isDefEq.respectTransparency.types false in
def R0 : Pipeline.RegionSeg (pcfgs (F := F)) adm (dats m) 0 defs₀ Variants.none Sites.L Sites.lv 0 :=
  Pipeline.RegionSeg.ofHeld (pcfgs (F := F)) adm (dats m) 0 defs₀ Variants.none Sites.L Sites.lv 0 (fun c => Sites.O0 (F := F) c)
    (fun c => iprop(∃ r, prngReg c r)) (fun c => iprop(∃ r, prngReg c r))
    launch0.toP rfl
    (fun c => (body_obligation m c).loose) (fun _ _ => rfl) (fun _ => rfl)
    (fun c => (dats m 0 c).share_full fun _ => rfl) (fun _ => .rfl) (fun _ => .rfl) (fun _ => 0) cut
    (past m) (V1 m) (V2 m (outs0 m)) (fun _ _ => rfl)
    (fun c => fun
      | 0 => ((dats m 0 c).arrAt_in 0 rfl _).trans ((A_eq m c 0).trans (V2_of m (outs0 m) c (Pipeline.arrRef spec0 0) (by decide)).symm)
      | 1 => ((dats m 0 c).arrAt_in 1 rfl _).trans ((A_eq m c 1).trans (V2_of m (outs0 m) c (Pipeline.arrRef spec0 1) (by decide)).symm)
      | 2 => ((dats m 0 c).arrAt_in 2 rfl _).trans ((A_eq m c 2).trans (V2_of m (outs0 m) c (Pipeline.arrRef spec0 2) (by decide)).symm)
      | 3 => (V2_at_0 m c).symm
      | 4 => (V2_at_1 m c).symm
      | 5 => (V2_at_2 m c).symm
      | 6 => (V2_at_3 m c).symm
      | ⟨_ + 7, h⟩ => absurd h (Nat.not_lt.2 (Nat.le_add_left _ _)))

theorem pre_R0 (c : Dev nD) :
    iprop(StableHlo.held (c : Thread nD τ) (Pipeline.ucRefs τ sig) (V1 m c) ∗ Sites.Es EC (VS m) 0 c) ⊢ (R0 m).pre c := by
  show _ ⊢ iprop(StableHlo.held (c : Thread nD τ) arrs (V1 m c) ∗ (∃ r, prngReg c r) ∗ past m c ∗ ∃ W, owes (c : Thread nD τ) (Sites.O0 (F := F) c) W)
  rw [StableHlo.held_sub_split (c : Thread nD τ) arr_sub (V1 m c), Sites.Es_0]
  iintro ⟨⟨Ha, Hr⟩, HO, Hp, Hx⟩
  isplitl [Ha]; · iexact Ha
  isplitl [Hp]; · iexact Hp
  isplitl [Hr Hx]; · isplitl [Hr] <;> iassumption
  iexact HO

theorem post_R0 (c : Dev nD) :
    (R0 m).post c ⊢ iprop(StableHlo.held (c : Thread nD τ) (Pipeline.ucRefs τ sig) (V2 m (outs m) c) ∗ Sites.Es EC (VS m) 0 c) := by
  show iprop(StableHlo.held (c : Thread nD τ) arrs (V2 m (outs0 m) c) ∗ (∃ r, prngReg c r) ∗ past m c ∗ ∃ W, owes (c : Thread nD τ) (Sites.O0 (F := F) c) W) ⊢ _
  rw [V2_outs, StableHlo.held_sub_split (c : Thread nD τ) arr_sub (V2 m (outs0 m) c),
    StableHlo.held_congr (c : Thread nD τ) (S := Pipeline.ucRefs τ sig \ arrs) (rest_eq m c), Sites.Es_0]
  iintro ⟨Ha, Hp, ⟨Hr, Hx⟩, HO⟩
  isplitl [Ha Hr]; · isplitl [Ha] <;> iassumption
  isplitl [HO]; · iexact HO
  isplitl [Hp] <;> iassumption

abbrev invs (_ : Dev nD) : sProp (MM F) := iprop(∃ κ, (AllReduce.Dat.once (ar0 (F := F)) (VS m)).cellInvs (Sites.E0 EC) κ)

abbrev CS0 : Pipeline.HostSeg (Ix := ℕ) (Name := ℕ) (U := UU) (Lvl := ℕ) (pcfgs (F := F)) defs₀ Variants.none Sites.L Sites.lv :=
  Sites.seg0 EC Variants.none (VS m) (Sites.Rest0 (VS m) (invs m))

theorem pre_CS0 (c : Dev nD) :
    iprop(StableHlo.held (c : Thread nD τ) (Pipeline.ucRefs τ sig) (V3 m (outs m) c) ∗ Sites.Es EC (VS m) 0 c) ⊢ (CS0 m).pre c := by
  rw [V3_outs]
  refine .trans ?_ (Sites.pre0 EC Variants.none (VS m) (invs m) c)
  rw [Sites.Es_0]
  iintro ⟨Hh, HO, Hp, Hr⟩
  ihave #Hi := (show (AllReduce.Dat.once (ar0 (F := F)) (VS m)).rides (Sites.E0 EC) c 1 2 ⊢ invs m c from by unfold AllReduce.Dat.rides; iintro ⟨Hi, -⟩; iexact Hi) $$ Hr
  isplitl [Hh]; · iexact Hh
  isplitl [HO Hp Hr]
  · isplitl [HO]; · iexact HO
    isplitl [Hp] <;> iassumption
  iexact Hi

abbrev ended (c : Dev nD) : sProp (MM F) := iprop(Sites.Es EC (VS m) 1 c ∗ (Sites.Ghost0 EC c ∗ invs m c))

theorem post_CS0 (c : Dev nD) :
    (CS0 m).post c ⊢ iprop(StableHlo.held (c : Thread nD τ) (Pipeline.ucRefs τ sig) (V4 m (outs m) c) ∗ ended m c) :=
  Sites.post0' EC Variants.none (VS m) (invs m) c (V4 m (outs m) c) fun b _ => V4_eq m c b

def E : Fin 3 → Dev nD → sProp (MM F)
  | 0 => Sites.Es EC (VS m) 0
  | 1 => Sites.Es EC (VS m) 0
  | 2 => ended m

abbrev EQ (c : Dev nD) : sProp (MM F) := iprop(invs m c ∗ Sites.Ghost0 EC c)

theorem ended_owes (c : Dev nD) : ended m c ⊢ iprop(EQ m c ∗ ∃ W, owes (c : Thread nD τ) (0 : CellTallies nD τ sig ℕ) W) := by
  iintro ⟨HE, Hg, Hi⟩
  isplitl [Hg Hi]; · isplitl [Hi] <;> iassumption
  iapply (Sites.hE_last EC (VS m) c); iexact HE

theorem ended_sems (c : Dev nD) (s' : Phys nD τ sig (Elt F)) :
    iprop(EQ m c ∗ SI s') ⊢ (|={Set.univ}=> iprop(⌜∀ sm : SemLoc sig, sm.isScoped .tc = false → s'.mem.sem ((c.tc : Thread nD τ), sm) = 0⌝ ∗ SI s') : sProp (MM F)) := by
  iintro ⟨Hg, HSI⟩
  imod ((AllReduce.Dat.once (ar0 (F := F)) (VS m)).ghostAfter_read (Sites.E0 EC) c (k := 0) le_rfl s') $$ [Hg HSI] with ⟨%h, HSI⟩
  · isplitl [Hg] <;> iassumption
  imodintro
  isplitr
  · ipureintro
    intro sm hsm
    have hl : ∀ sm : SemLoc sig, sm.isScoped .tc = false → sm = .reg ar0_barrier ∨ sm = .dma ar0_recv ∨ sm = .dma ar0_send := by decide
    rcases hl sm hsm with rfl | rfl | rfl
    exacts [h.1, h.2.1, h.2.2]
  iexact HSI

def u₀ : UU :=
  (initOf (Pipeline.cells cfgs cellOf_inj) (Pipeline.launchToks cfgs cellOf_inj), Sites.uC (U := UU) (VS m))

theorem own_u₀ : (ownU (u₀ m) : sProp (MM F)) ⊢ |={Set.univ}=> iprop(BI.own (EP (F := F) (initOf (Pipeline.cells cfgs cellOf_inj) (Pipeline.launchToks cfgs cellOf_inj)))
    ∗ bigSep Finset.univ (Sites.G EC (VS m))) := by
  unfold u₀
  iintro Hu
  ihave H := (ownU_pair _ _) $$ Hu
  icases H with ⟨HP, HX⟩
  imodintro
  isplitl [HP]; · iexact HP
  rw [Sites.bigSep_G]; iexact HX

theorem run : θ_run defs (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1) ∧ r.2.mem (c.tc.loc main_arg2) = m (c.tc.loc main_arg2))
      ∧ (∀ c : Dev nD, ∀ b ∈ (Pipeline.ucRefs τ sig), r.2.mem ((c : Thread nD τ).1, b) = V4 m (outs m) c b)
      ∧ r.2.sem = fun _ => 0) :=
  frame_condRQ m EP 0 Variants.none Sites.L Sites.lv Sites.hL ρ (outs m) (dats m) (fun c => Sites.O0 (F := F) c) (Sites.G EC (VS m)) (u₀ m) (own_u₀ m)
    (E m) (Sites.hE0 EC (VS m) ρ) (EQ m) (ended_owes m) (ended_sems m) (R0 m) (pre_R0 m) (post_R0 m) (CS0 m) rfl (pre_CS0 m) (post_CS0 m)

theorem quiet : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  (θ_run defs _ _).mono (fun _ h => ⟨h.1, h.2.2⟩) (run m ρ)

end Cert.LossTotalIdeal.Run

end
-- ==== Proof.LossTotalValue.lean ====
/- The value of the loss over all devices. -/
module

public import proofs.«01_k».proof.Proof.LossTotalIdealFrame
public import proofs.«01_k».proof.Proof.Gen.LossTotalRefIdeal.Run
public import proofs.«01_k».proof.Proof.Gen.LossTotalRefIdeal.Read
public import proofs.«01_k».proof.Proof.NormBack
public import proofs.«01_k».proof.Proof.Common
public import Idealize.ShloMosaic.Lib.Pipeline.Value
public import Idealize.ShloMosaic.Lib.Layout

@[expose] public section

set_option maxRecDepth 16384

noncomputable section

namespace Cert.LossTotalValue

open Idealize.ShloMosaic Idealize.ShloMosaic.TcCoe Idealize.SL.Sem
open Cert.LossTotalIdeal Cert.LossTotalIdeal.Gen Cert.LossTotalIdeal.Run
open Cert.LossTotalRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![0, 0] ∧ win0_2.index t = ![t.val, 0]
    ∧ win0_3.index t = ![0, 0] :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

/-- A row of an array. -/
def line {n : ℕ} (x : FVec Ideal ⟨2, ![n, 1024]⟩ .f32) (i : Fin n) : Fin 1024 → EReal := fun l => x (ix2 i l)

/-- The error of a row at a column: the normed row with its gain, less the target. -/
def err (x : Fin 1024 → EReal) (g : FVec Ideal S1024 .f32) (y : Fin 1024 → EReal) (k : Fin 1024) : EReal :=
  x k * NormBack.scale x * g (ix1 k) - y k

/-- The loss of a row, twice. -/
def cost (x : Fin 1024 → EReal) (g : FVec Ideal S1024 .f32) (y : Fin 1024 → EReal) : EReal :=
  Ideal.div (∑ l : Fin 1024, err x g y l * err x g y l) (Ideal.ofBits .f32 0x44800000#32)

theorem half : Ideal.ofBits .f32 0x3F000000#32 = ((1 / 2 : ℝ) : EReal) := by
  simp [Ideal.ofBits, Ideal.ieee]
  rw [← EReal.coe_mul]
  norm_num

section Reference

variable (x0 x2 : FVec Ideal Cert.LossTotalRefIdeal.S32768x1024 .f32) (x1 : FVec Ideal S1024 .f32) (i : Fin 32768) (k : Fin 1024) (o : Fin 1)

theorem ref_mean : val_main_v6 (F := Ideal) x0 (ix2 i o) = NormBack.mean (line x0 i) := by
  pointwise [val_main_v6, val_main_v5, val_main_cst_1, val_main_v4, val_main_v3, val_main_cst_0, val_main_v2, val_main_v1, val_main_cst, val_main_v0, NormBack.mean, line]

theorem ref_scale : val_main_v7 (F := Ideal) x0 (ix2 i o) = NormBack.scale (line x0 i) := by
  pointwise [val_main_v7, ref_mean, NormBack.scale]

theorem ref_err : val_main_v13 (F := Ideal) x0 x1 x2 (ix2 i k) = err (line x0 i) x1 (line x2 i) k := by
  pointwise [val_main_v13, val_main_v12, val_main_v11, val_main_v10, val_main_v9, val_main_v8, ref_scale, err, line]

theorem ref_cost : val_main_v17 (F := Ideal) x0 x1 x2 (ix1 i) = cost (line x0 i) x1 (line x2 i) := by
  pointwise [val_main_v17, val_main_v16, val_main_cst_3, val_main_v15, val_main_cst_2, val_main_v14, ref_err, cost]

theorem ref_loss (j) : val_main_v19 (F := Ideal) x0 x1 x2 j = ((1 / 2 : ℝ) : EReal) * ∑ i : Fin 32768, cost (line x0 i) x1 (line x2 i) := by
  pointwise [val_main_v19, val_main_cst_5, val_main_v18, val_main_cst_4, ref_cost, half]

end Reference

variable (t : Fin cfg0.N)

theorem V_main_arg0 : V m c main_arg0 = m (c.tc.loc main_arg0) := V1_args m c main_arg0 (by decide)
theorem V_main_arg2 : V m c main_arg2 = m (c.tc.loc main_arg2) := V1_args m c main_arg2 (by decide)

theorem rd0 (a : Fin 512) (b : Fin 1024) : iblk m c 0 t (ix2 a b) = ((m (c.tc.loc main_arg0)) : FVec Ideal S4096x1024 .f32) (ix2 (row t a) b) := by
  blk_simp [iblk]
  rw [V_main_arg0]
  blk_point [row, places t]

theorem rd2 (a : Fin 512) (b : Fin 1024) : iblk m c 2 t (ix2 a b) = ((m (c.tc.loc main_arg2)) : FVec Ideal S4096x1024 .f32) (ix2 (row t a) b) := by
  blk_simp [iblk]
  rw [V_main_arg2]
  blk_point [row, places t]

theorem rd1 (o : Fin 1) (b : Fin 1024) : iblk m c 1 t (ix2 o b) = ((m (c.tc.loc main_arg1)) : FVec Ideal S1024 .f32) (ix1 b) := by
  blk_simp [iblk]
  entry_read
  pointwise
  blk_point [row, places t]

/-- A row of a core's activations. -/
abbrev X (i : Fin 4096) : Fin 1024 → EReal := line (n := 4096) (m (c.tc.loc main_arg0)) i
/-- A row of a core's targets. -/
abbrev Y (i : Fin 4096) : Fin 1024 → EReal := line (n := 4096) (m (c.tc.loc main_arg2)) i
/-- The loss of a core's row, twice. -/
abbrev C (i : Fin 4096) : EReal := cost (X m c i) (m (c.tc.loc main_arg1)) (Y m c i)

theorem pay6 (a : Fin 512) (o : Fin 1) : k0_pay6 (F := Ideal) (iblk m c 0 t) (ix2 a o) = NormBack.scale (X m c (row t a)) := by
  pointwise [k0_pay6, k0_pay5, rd0, NormBack.scale, NormBack.mean, line]

theorem pay9 (a : Fin 512) (b : Fin 1024) : k0_pay9 (F := Ideal) (iblk m c 0 t) (iblk m c 1 t) (iblk m c 2 t) (ix2 a b)
    = err (X m c (row t a)) (m (c.tc.loc main_arg1)) (Y m c (row t a)) b := by
  pointwise [k0_pay9, k0_pay8, k0_pay7, k0_pay5, pay6, rd0, rd1, rd2, err, line]

theorem pay10 (j : S1x1.Idx) : k0_pay10 (F := Ideal) (iblk m c 0 t) (iblk m c 1 t) (iblk m c 2 t) j = ((1 / 2 : ℝ) : EReal) * ∑ a : Fin 512, C m c (row t a) := by
  pointwise [k0_pay10, pay9, cost, half]

theorem first_loss (h : t.val % 8 = 0) (j) : (outsAt0 m c t.val t.isLt).1 j = (0 : EReal) + k0_pay10 (F := Ideal) (iblk m c 0 t) (iblk m c 1 t) (iblk m c 2 t) j := by
  rw [outsAt0_A m c t h (by have := lt_of_lt_of_eq t.isLt N_0; omega), zero_add]
  frame_out

theorem next_loss (h : ¬t.val % 8 = 0) (j) : (outsAt0 m c t.val t.isLt).1 j
    = (outsAt0 m c (t.val - 1) (Nat.lt_of_le_of_lt (Nat.sub_le _ _) t.isLt)).1 j + k0_pay10 (F := Ideal) (iblk m c 0 t) (iblk m c 1 t) (iblk m c 2 t) j := by
  rw [outsAt0_B m c t h (by omega)]
  frame_out
  pointwise [k0_pay3]

theorem emb3 (y : S1x1.Idx) : ((cfg0.win 3).blk t).view.emb y = ix2 (y 0) (y 1) := by
  blk_ext [row, places t]

/-- A core's loss after the region. -/
theorem result3 : (dats m 0 c).arrAt 3 cfg0.N = (fun _ => ((1 / 2 : ℝ) : EReal) * ∑ i : Fin 4096, C m c i : FVec Ideal S1x1 .f32) := by
  refine (dats m 0 c).arrAt_eq_of_covers 3 _ (by decide +kernel) fun t hf y => ?_
  have ht := (flush0_3 t).mp hf
  have hN := lt_of_lt_of_eq t.isLt N_0
  blk_simp
  rw [after0_3]
  refine (Pipeline.eq_sum_fin_of_reset_step_apply_of_flush (fun n h => (outsAt0 m c n h).1) 8 (fun _ => (0 : EReal))
    (fun n => k0_pay10 (F := Ideal) (iblk m c 0 n) (iblk m c 1 n) (iblk m c 2 n)) (first_loss m c) (next_loss m c) t (by omega) _).trans ?_
  rw [zero_add, mul_comm ((1 / 2 : ℝ) : EReal), NormBack.sum_mul_pos _ _ (by norm_num)]
  refine Eq.trans (Finset.sum_congr rfl fun s _ => (pay10 m c _ _).trans ((mul_comm _ _).trans (NormBack.sum_mul_pos _ _ (by norm_num)))) ?_
  refine Fin.sum_mul_add_congr fun s a hl => ?_
  rw [show row ⟨8 * (t.val / 8) + s.val, by have := s.isLt; exact lt_of_lt_of_eq (by omega) N_0.symm⟩ a = ⟨s.val * 512 + a.val, hl⟩ from Fin.ext (by simp only [row]; omega)]

/-- The all-reduce's operand on a core: its loss as a scalar. -/
theorem operand (j) : VS m c main_v3 j = ((1 / 2 : ℝ) : EReal) * ∑ i : Fin 4096, C m c i := by
  have e : VS m c main_v3 = shapeCast S_ (V2 m (outs0 m) c main_v2_0) shapeCasts_S1x1_S_ := by
    show StableHlo.after hostOps1 (V2 m (outs0 m) c) main_v3 = _
    after_results
    rfl
  rw [e, V2_at_0, result3]
  rfl

/-- The same buffer, at its written type. -/
def held3 : FVec Ideal S_ .f32 := VS m c main_v3

/-- The eight cores, in the group's order. -/
theorem peers : ∀ j : Fin 8, (ar0 (F := Ideal)).peer c j = j := by
  intro j
  have h : ∀ (c j : Fin 8), ar0_mem ((ar0_pos c).1, j) = j := by decide
  exact h c j

/-- The sum over the cores, taken in the group's order. -/
theorem folded (v : Fin 8 → FVec Ideal S_ .f32) (i : S_.Idx) : (ar0 (F := Ideal)).foldGroup v i = ∑ j : Fin 8, v j i := by
  rw [Fin.sum_univ_eight]
  rfl

/-- The contents of an all-reduce's result, read at the operand's type. -/
theorem result_read (Y : FVec Ideal S_ .f32) : (ar0 (F := Ideal)).toResult Y = Y := by
  unfold AllReduce.Cfg.toResult
  exact cast_eq _ _

/-- What the all-reduce leaves in its result's buffer. -/
theorem left_v4 : V4 m (outs m) c main_v4 = (ar0 (F := Ideal)).foldGroup fun j => VS m ((ar0 (F := Ideal)).peer c j) main_v3 :=
  (V4_eq m c main_v4).trans (((ar0 (F := Ideal)).after₀_result (VS m) c).trans (result_read _))

/-- The loss over all cores. -/
theorem total (i : S_.Idx) : (V4 m (outs m) c main_v4 : FVec Ideal S_ .f32) i = ∑ d : Fin 8, ((1 / 2 : ℝ) : EReal) * ∑ r : Fin 4096, C m d r := by
  have h : (ar0 (F := Ideal)).foldGroup (fun j => VS m ((ar0 (F := Ideal)).peer c j) main_v3) i
      = ∑ d : Fin 8, held3 m ((ar0 (F := Ideal)).peer c d) i :=
    folded (fun j => held3 m ((ar0 (F := Ideal)).peer c j)) i
  have g : ∑ d : Fin 8, held3 m ((ar0 (F := Ideal)).peer c d) i = ∑ d : Fin 8, ((1 / 2 : ℝ) : EReal) * ∑ r : Fin 4096, C m d r :=
    Finset.sum_congr rfl fun d _ => by
      rw [peers]
      exact operand m d i
  exact (congrFun (left_v4 m c) i).trans (h.trans g)

section Whole

variable (m' : (ℓ : Loc Cert.LossTotalRefIdeal.nD Cert.LossTotalRefIdeal.τ Cert.LossTotalRefIdeal.sig) → Buf (Elt Ideal) ℓ)

/-- The whole activations. -/
abbrev WX : FVec Ideal Cert.LossTotalRefIdeal.S32768x1024 .f32 := m' (((0 : Dev Cert.LossTotalRefIdeal.nD).tc : Thread Cert.LossTotalRefIdeal.nD Cert.LossTotalRefIdeal.τ).loc Cert.LossTotalRefIdeal.main_arg0)
/-- The gain. -/
abbrev WG : FVec Ideal S1024 .f32 := m' (((0 : Dev Cert.LossTotalRefIdeal.nD).tc : Thread Cert.LossTotalRefIdeal.nD Cert.LossTotalRefIdeal.τ).loc Cert.LossTotalRefIdeal.main_arg1)
/-- The whole targets. -/
abbrev WY : FVec Ideal Cert.LossTotalRefIdeal.S32768x1024 .f32 := m' (((0 : Dev Cert.LossTotalRefIdeal.nD).tc : Thread Cert.LossTotalRefIdeal.nD Cert.LossTotalRefIdeal.τ).loc Cert.LossTotalRefIdeal.main_arg2)

/-- The row of the whole array at a core's row. -/
def place (d : Fin 8) (a : Fin 4096) : Fin 32768 := ⟨d.val * 4096 + a.val, by omega⟩

theorem block_line (d : Fin 8) (x : FVec Ideal Cert.LossTotalRefIdeal.S32768x1024 .f32) (a : Fin 4096) :
    line (n := 4096) (Layout.block ⟨2, ![4096, 1024]⟩ ⟨2, ![32768, 1024]⟩ 0 8 d x) a = line x (place d a) :=
  funext fun k => congrArg x (funext fun b => Fin.ext (by match b with | ⟨0, _⟩ => rfl | ⟨1, _⟩ => rfl))

/-- The cores' losses add to the loss of the whole. -/
theorem spread (h : ∀ d : Dev nD,
      m ((d.tc : Thread nD τ).loc main_arg0) = Layout.block ⟨2, ![4096, 1024]⟩ ⟨2, ![32768, 1024]⟩ 0 8 d (WX m')
      ∧ m ((d.tc : Thread nD τ).loc main_arg1) = WG m'
      ∧ m ((d.tc : Thread nD τ).loc main_arg2) = Layout.block ⟨2, ![4096, 1024]⟩ ⟨2, ![32768, 1024]⟩ 0 8 d (WY m')) :
    ∑ d : Fin 8, ((1 / 2 : ℝ) : EReal) * ∑ r : Fin 4096, C m d r
      = ((1 / 2 : ℝ) : EReal) * ∑ i : Fin 32768, cost (line (WX m') i) (WG m') (line (WY m') i) := by
  have hc : ∀ (d : Fin 8) (a : Fin 4096), C m d a = cost (line (WX m') (place d a)) (WG m') (line (WY m') (place d a)) := fun d a => by
    obtain ⟨a0, a1, a2⟩ := h d
    rw [← block_line, ← block_line, ← a0, ← a1, ← a2]
  rw [mul_comm ((1 / 2 : ℝ) : EReal) (∑ i : Fin 32768, _), NormBack.sum_mul_pos _ _ (by norm_num)]
  refine Eq.trans (Finset.sum_congr rfl fun d _ => (mul_comm _ _).trans (NormBack.sum_mul_pos _ _ (by norm_num))) ?_
  refine Fin.sum_mul_add_congr fun d a hl => ?_
  rw [hc]
  rfl

end Whole

theorem holds : Cert.algebraic_LossTotalIdeal_LossTotalRefIdeal := by
  intro m g m' g' _ hagree
  refine ⟨_, (θ_run defs _ _).mono (fun r h c => ⟨?_, h.1 c⟩) (run m g), (θ_run _ _ _).mono (fun r h => h 0) (Cert.LossTotalRefIdeal.Value.run m' g')⟩
  refine (h.2.1 c main_v4 (by decide)).trans ?_
  refine Eq.trans ?_ (val_main_v19_eq (F := Ideal) _ _ _).symm
  funext i
  refine (total m c i).trans (Eq.trans ?_ (ref_loss _ _ _ i).symm)
  exact spread m m' hagree

end Cert.LossTotalValue

end
-- ==== Proof.PutGate.lean ====
/- The value of the call that puts the gate's cotangent into its columns. -/
module

public import proofs.«01_k».proof.Proof.Gen.PutGateIdeal.Value
public import proofs.«01_k».proof.Proof.Gen.PutGateRefIdeal.Run
public import proofs.«01_k».proof.Proof.Gen.PutGateRefIdeal.Read
public import proofs.«01_k».proof.Proof.Common

@[expose] public section

set_option maxRecDepth 16384

noncomputable section

namespace Cert.PutGateValue

open Idealize.ShloMosaic Idealize.ShloMosaic.TcCoe Idealize.SL.Sem
open Cert.PutGateIdeal Cert.PutGateIdeal.Gen Cert.PutGateIdeal.Value
open Cert.PutGateRefIdeal.Read

variable (m : (ℓ : Loc nD τ sig) → Buf (Elt Ideal) ℓ) (c : Dev nD)

/-- Where the windows stand at each point of the grid. -/
theorem places : ∀ t : Fin cfg0.N, win0_0.index t = ![t.val, 0] ∧ win0_1.index t = ![t.val, 64] :=
  (by decide +kernel : ∀ t : Fin grid0.N, _)

/-- The projection's cotangent as launched. -/
def A0 : FVec Ideal S4096x8320 .bf16 := m (c.tc.loc main_arg0)

/-- The gate's cotangent as launched. -/
def A1 : FVec Ideal S4096x128 .bf16 := m (c.tc.loc main_arg1)

/-- The row of the array at a row of a point's block. -/
def row (t : Fin cfg0.N) (a : Fin 512) : Fin 4096 := ⟨t.val * 512 + a.val, by have h := lt_of_lt_of_eq t.isLt N_0; omega⟩

variable (t : Fin cfg0.N)

theorem ld0 (a : Fin 512) (b : Fin 128) : iblk m c 0 t (ix2 a b) = A1 m c (ix2 (row t a) b) := by
  show V m c main_arg1 _ = _
  refine (congrFun (V_main_arg1 m c) _).trans ?_
  refine congrArg (m (c.tc.loc main_arg1)) ?_
  blk_ext [row, places t]

theorem ref_in (x : FVec Ideal S4096x8320 .bf16) (y : FVec Ideal S4096x128 .bf16) (i : Fin 4096) (k : Fin 8320) (b : Fin 128) (h : k.val = 8192 + b.val) :
    val_main_v1 (F := Ideal) x y (ix2 i k) = y (ix2 i b) := by
  unfold val_main_v1
  pointwise
  rw [dif_neg (by omega)]
  exact congrArg (fun z => y (ix2 i z)) (Fin.ext (by simp only []; omega))

theorem ref_out (x : FVec Ideal S4096x8320 .bf16) (y : FVec Ideal S4096x128 .bf16) (i : Fin 4096) (k : Fin 8320) (h : k.val < 8192) :
    val_main_v1 (F := Ideal) x y (ix2 i k) = x (ix2 i k) := by
  unfold val_main_v1
  pointwise
  rw [dif_pos h]
  pointwise [val_main_v0]

theorem spot (y : S512x128.Idx) : ((cfg0.win 1).blk t).view.emb y = ix2 (row t (y 0)) ⟨8192 + (y 1).val, by have h : (y 1).val < 128 := (y 1).isLt; omega⟩ := by
  blk_ext [row, places t]

theorem V1 : V m c main_v0 = A0 m c := by
  show (StableHlo.after _ _) _ = _
  after_results
  rfl

theorem result1 : (dats m 0 c).arrAt 1 (cfgs 0).N = fun j => if 8192 ≤ (j 1).val then
    val_main_v1 (F := Ideal) (A0 m c) (A1 m c) j else V m c main_v0 j := by
  refine (dats m 0 c).arrAt_eq_of_coversWhere 1 _ (fun β => β 1 = 64) (by decide +kernel) (fun t hf y => ?_) (fun j => by have : (j 1).val < 8320 := (j 1).isLt; blk_simp [Pipeline.Window.cell_apply]; omega)
  blk_simp
  rw [after0_1]
  unfold outsAt0
  frame_out
  refine Eq.trans ?_ ((congrArg _ (spot t y)).trans (ref_in _ _ _ _ (y 1) rfl)).symm
  exact (congrArg _ (eq_ix2 y)).trans (ld0 m c t (y 0) (y 1))

theorem whole1 : (dats m 0 c).arrAt 1 (cfgs 0).N = val_main_v1 (F := Ideal) (A0 m c) (A1 m c) := by
  rw [result1]
  funext j
  by_cases h : 8192 ≤ (j 1).val
  · exact if_pos h
  · refine (if_neg h).trans ?_
    rw [V1, eq_ix2 (n0 := 4096) (n1 := 8320) j]
    exact (ref_out _ _ (j 0) (j 1) (by omega)).symm

theorem holds : Cert.algebraic_PutGateIdeal_PutGateRefIdeal := by
  intro m g m' g' _ hagree
  refine ⟨fun c => (dats m 0 c).arrAt 1 cfg0.N, θ_run_mono (Cert.PutGateIdeal.Value.run_blocks m g) fun r h c => h c, θ_run_mono (Cert.PutGateRefIdeal.Value.run m' g') fun r h c => ?_⟩
  obtain ⟨h0, hk⟩ := h c
  obtain ⟨a0, a1⟩ := hagree c
  have e0 := h0.trans (val_main_v1_eq _ _)
  rw [a0, a1] at e0
  exact ⟨e0.trans (whole1 m c).symm, hk⟩

end Cert.PutGateValue

end
-- ==== Proof.Pick.lean ====
/- A sum that picks one row of a window. -/
module

public import Idealize.ShloMosaic.Lib.Pointwise

@[expose] public section

noncomputable section

namespace Cert.Pick

open Idealize.ShloMosaic

/-- A word that holds a small natural number reads as it. -/
theorem toInt_small (k : ℕ) (h : k < 100000) : (BitVec.ofNat 32 k).toInt = k := by
  rw [BitVec.toInt_ofNat', Int.bmod_def]
  omega

theorem toInt_add (k : ℕ) (h : k < 100000) (s : BitVec 32) (h0 : -100000 < s.toInt) (h1 : s.toInt < 100000) : (BitVec.ofNat 32 k + s).toInt = k + s.toInt := by
  rw [BitVec.toInt_add, toInt_small k h, Int.bmod_def]
  omega

/-- The condition of a pick: the column is the row and a shift, and the row lies between two bounds. -/
theorem select_pick (k a : ℕ) (hk : k < 1000) (ha : a < 1000) (s lo hi : BitVec 32) (h0 : -100000 < s.toInt) (h1 : s.toInt < 100000) (u : EReal) :
    Scalar.select (IntOp.andi (IntOp.andi (IntOp.cmpi CmpIPredicate.eq (BitVec.ofNat 32 k) (IntOp.addi (BitVec.ofNat 32 a) s)) (IntOp.cmpi CmpIPredicate.sge (BitVec.ofNat 32 a) lo))
      (IntOp.cmpi CmpIPredicate.slt (BitVec.ofNat 32 a) hi)) u 0 = if (k : ℤ) = a + s.toInt ∧ lo.toInt ≤ a ∧ (a : ℤ) < hi.toInt then u else 0 := by
  have e1 : (BitVec.ofNat 32 k == BitVec.ofNat 32 a + s) = decide ((k : ℤ) = a + s.toInt) := by
    rw [Bool.eq_iff_iff, beq_iff_eq, decide_eq_true_iff, ← BitVec.toInt_inj, toInt_small k (by omega), toInt_add a (by omega) s h0 h1]
  have e2 : lo.sle (BitVec.ofNat 32 a) = decide (lo.toInt ≤ a) := by
    rw [BitVec.sle_eq_decide, toInt_small a (by omega)]
  have e3 : (BitVec.ofNat 32 a).slt hi = decide ((a : ℤ) < hi.toInt) := by
    rw [BitVec.slt_eq_decide, toInt_small a (by omega)]
  simp only [Scalar.select, IntOp.andi, IntOp.cmpi, IntOp.addi, e1, e2, e3]
  by_cases c1 : (k : ℤ) = a + s.toInt <;> by_cases c2 : lo.toInt ≤ a <;> by_cases c3 : (a : ℤ) < hi.toInt <;> simp [c1, c2, c3]

theorem sum_pick {n : ℕ} (hn : n ≤ 1000) (a : ℕ) (ha : a < 1000) (s lo hi : BitVec 32) (h0 : -100000 < s.toInt) (h1 : s.toInt < 100000) (f : Fin n → EReal) :
    ∑ k : Fin n, Scalar.select (IntOp.andi (IntOp.andi (IntOp.cmpi CmpIPredicate.eq (BitVec.ofNat 32 k.val) (IntOp.addi (BitVec.ofNat 32 a) s)) (IntOp.cmpi CmpIPredicate.sge (BitVec.ofNat 32 a) lo))
      (IntOp.cmpi CmpIPredicate.slt (BitVec.ofNat 32 a) hi)) (f k) 0
    = if h : (lo.toInt ≤ a ∧ (a : ℤ) < hi.toInt) ∧ 0 ≤ a + s.toInt ∧ a + s.toInt < n then f ⟨(a + s.toInt).toNat, by omega⟩ else 0 := by
  rw [Finset.sum_congr rfl fun k _ => select_pick k.val a (by omega) ha s lo hi h0 h1 (f k)]
  by_cases h : (lo.toInt ≤ a ∧ (a : ℤ) < hi.toInt) ∧ 0 ≤ a + s.toInt ∧ a + s.toInt < n
  · rw [dif_pos h, Finset.sum_eq_single (⟨(a + s.toInt).toNat, by omega⟩ : Fin n)]
    · exact if_pos ⟨by simp only []; omega, h.1⟩
    · intro k _ hk
      exact if_neg fun h' => hk (Fin.ext (by simp only []; omega))
    · intro h'
      exact absurd (Finset.mem_univ _) h'
  · rw [dif_neg h]
    refine Finset.sum_eq_zero fun k _ => if_neg fun h' => h ⟨h'.2, ?_, ?_⟩
    · omega
    · have := k.isLt
      omega

end Cert.Pick

end
-- ==== Proof.RowsIn.lean ====
/- The value of the call that puts the rows of the input projection in the order the step uses. -/
module

public import proofs.«01_k».proof.Proof.Gen.RowsInIdeal.Value
public import proofs.«01_k».proof.Proof.Gen.RowsInRefIdeal.Run
public import proofs.«01_k».proof.Proof.Gen.RowsInRefIdeal.Read
public import proofs.«01_k».proof.Proof.Pick
public import proofs.«01_k».proof.Proof.Common

@[expose] public section

set_option maxRecDepth 16384

noncomputable section

namespace Cert.RowsInValue

open Idealize.ShloMosaic Idealize.ShloMosaic.TcCoe Idealize.SL.Sem
open Cert.RowsInIdeal Cert.RowsInIdeal.Gen Cert.RowsInIdeal.Value
open Cert.RowsInRefIdeal.Read

variable (m : (ℓ : Loc nD τ sig) → Buf (Elt Ideal) ℓ) (c : Dev nD)

/-- The row of the padded shards that a row of the step's order comes from. -/
def src (r : ℕ) : ℕ := (if r < 3072 then r else if r < 8192 then r + 16 else r - 5120) / 2052 * 2064 + (if r < 3072 then r else if r < 8192 then r + 16 else r - 5120) % 2052

theorem src_lt (r : ℕ) (h : r < 8208) : src r < 8256 := by
  unfold src
  split_ifs <;> omega

/-- The rows in the step's order, with zeros after the last. -/
def rows (x : FVec Ideal S8256x1024 .bf16) (r : ℕ) (b : Fin 1024) : EReal := if h : r < 8208 then x (ix2 ⟨src r, src_lt r h⟩ b) else 0

theorem pick_eq (x : FVec Ideal S8256x1024 .bf16) (b : Fin 1024) {p q : Fin 8256} (h : p.val = q.val) : x (ix2 p b) = x (ix2 q b) := congrArg (fun z => x (ix2 z b)) (Fin.ext h)

theorem rows_eq (x : FVec Ideal S8256x1024 .bf16) {p q : ℕ} {b d : Fin 1024} (h : p = q) (k : b.val = d.val) : rows x p b = rows x q d := by
  rw [h, Fin.ext k]

variable (x : FVec Ideal S8256x1024 .bf16) (a : Fin 640) (b : Fin 1024)

theorem block0 : k0_pay2 (F := Ideal) (View.ld x r0_0) (ix2 a b) = rows x (0 + a.val) b := by
  pointwise [k0_pay2]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block1 : k0_pay3 (F := Ideal) (View.ld x r0_2) (ix2 a b) = rows x (640 + a.val) b := by
  pointwise [k0_pay3]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block2 : k0_pay4 (F := Ideal) (k0_pay26 (F := Ideal) x) (k0_pay27 (F := Ideal) x) (View.ld x r0_4) (ix2 a b) = rows x (1280 + a.val) b := by
  pointwise [k0_pay26, k0_pay27, k0_pay4]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block3 : k0_pay8 (F := Ideal) (k0_pay26 (F := Ideal) x) (k0_pay5 (F := Ideal) (k0_pay26 (F := Ideal) x) (k0_pay27 (F := Ideal) x) (View.ld x r0_6)) (k0_pay6 (k0_pay26 (F := Ideal) x) (k0_pay27 (F := Ideal) x)) (k0_pay7 (k0_pay26 (F := Ideal) x)) (View.ld x r0_7) (ix2 a b) = rows x (1920 + a.val) b := by
  pointwise [k0_pay26, k0_pay27, k0_pay5, k0_pay6, k0_pay7, k0_pay8]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block4 : k0_pay11 (F := Ideal) (k0_pay9 (F := Ideal) (k0_pay26 (F := Ideal) x) (k0_pay27 (F := Ideal) x) (View.ld x r0_9)) (k0_pay10 (k0_pay26 (F := Ideal) x) (k0_pay27 (F := Ideal) x)) (Scalar.ofBits .f32 0x3F800000#32) (View.ld x r0_10) (ix2 a b) = rows x (2560 + a.val) b := by
  pointwise [k0_pay10, k0_pay11, k0_pay26, k0_pay27, k0_pay9]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block5 : k0_pay12 (F := Ideal) (k0_pay26 (F := Ideal) x) (k0_pay27 (F := Ideal) x) (View.ld x r0_12) (ix2 a b) = rows x (3200 + a.val) b := by
  pointwise [k0_pay12, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block6 : k0_pay14 (F := Ideal) (k0_pay26 (F := Ideal) x) (k0_pay27 (F := Ideal) x) (k0_pay13 (k0_pay26 (F := Ideal) x) (k0_pay27 (F := Ideal) x)) (Scalar.ofBits .f32 0x3F800000#32) (Scalar.ofBits .f32 0x00000000#32) (View.ld x r0_14) (View.ld x r0_15) (ix2 a b) = rows x (3840 + a.val) b := by
  pointwise [k0_pay13, k0_pay14, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block7 : k0_pay16 (F := Ideal) (k0_pay15 (F := Ideal) (k0_pay26 (F := Ideal) x) (k0_pay27 (F := Ideal) x)) (View.ld x r0_17) (ix2 a b) = rows x (4480 + a.val) b := by
  pointwise [k0_pay15, k0_pay16, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block8 : k0_pay17 (F := Ideal) (k0_pay26 (F := Ideal) x) (k0_pay27 (F := Ideal) x) (View.ld x r0_19) (ix2 a b) = rows x (5120 + a.val) b := by
  pointwise [k0_pay17, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block9 : k0_pay20 (F := Ideal) (k0_pay26 (F := Ideal) x) (k0_pay27 (F := Ideal) x) (k0_pay18 (F := Ideal) (k0_pay26 (F := Ideal) x) (k0_pay27 (F := Ideal) x)) (k0_pay19 (F := Ideal) (View.ld x r0_21)) (View.ld x r0_22) (ix2 a b) = rows x (5760 + a.val) b := by
  pointwise [k0_pay18, k0_pay19, k0_pay20, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block10 : k0_pay21 (F := Ideal) (k0_pay26 (F := Ideal) x) (k0_pay27 (F := Ideal) x) (View.ld x r0_24) (ix2 a b) = rows x (6400 + a.val) b := by
  pointwise [k0_pay21, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block11 : k0_pay22 (F := Ideal) (k0_pay26 (F := Ideal) x) (k0_pay27 (F := Ideal) x) (View.ld x r0_26) (ix2 a b) = rows x (7040 + a.val) b := by
  pointwise [k0_pay22, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem block12 : k0_pay1 (F := Ideal) (k0_pay26 (F := Ideal) x) (k0_pay23 (F := Ideal) (k0_pay26 (F := Ideal) x) (k0_pay27 (F := Ideal) x) (View.ld x r0_28)) (k0_pay24 (k0_pay26 (F := Ideal) x) (k0_pay27 (F := Ideal) x)) k0_pay25 (View.ld x r0_29) (ix2 a b) = rows x (7680 + a.val) b := by
  pointwise [k0_pay1, k0_pay23, k0_pay24, k0_pay25, k0_pay26, k0_pay27]
  simp (disch := first | decide | omega) only [Pick.sum_pick]
  simp only [BitVec.reduceToInt]
  unfold rows src
  split_ifs
  all_goals try omega
  all_goals first
    | exact zero_add (0 : EReal)
    | exact pick_eq x b (by simp only [BitVec.reduceToInt]; omega)
    | exact (add_zero _).trans (pick_eq x b (by simp only [BitVec.reduceToInt]; omega))
    | exact (zero_add _).trans (pick_eq x b (by simp only [BitVec.reduceToInt]; omega))

theorem out_rows (y : S8320x1024.Idx) : out0_1 (F := Ideal) x y = rows x (y 0).val (y 1) := by
  unfold out0_1
  canon_tiles z h
  · exact (congrArg _ (eq_ix2 (n0 := 640) (n1 := 1024) z)).trans ((block12 x (z 0) (z 1)).trans (rows_eq x (by omega) (by omega)))
  · exact (congrArg _ (eq_ix2 (n0 := 640) (n1 := 1024) z)).trans ((block11 x (z 0) (z 1)).trans (rows_eq x (by omega) (by omega)))
  · exact (congrArg _ (eq_ix2 (n0 := 640) (n1 := 1024) z)).trans ((block10 x (z 0) (z 1)).trans (rows_eq x (by omega) (by omega)))
  · exact (congrArg _ (eq_ix2 (n0 := 640) (n1 := 1024) z)).trans ((block9 x (z 0) (z 1)).trans (rows_eq x (by omega) (by omega)))
  · exact (congrArg _ (eq_ix2 (n0 := 640) (n1 := 1024) z)).trans ((block8 x (z 0) (z 1)).trans (rows_eq x (by omega) (by omega)))
  · exact (congrArg _ (eq_ix2 (n0 := 640) (n1 := 1024) z)).trans ((block7 x (z 0) (z 1)).trans (rows_eq x (by omega) (by omega)))
  · exact (congrArg _ (eq_ix2 (n0 := 640) (n1 := 1024) z)).trans ((block6 x (z 0) (z 1)).trans (rows_eq x (by omega) (by omega)))
  · exact (congrArg _ (eq_ix2 (n0 := 640) (n1 := 1024) z)).trans ((block5 x (z 0) (z 1)).trans (rows_eq x (by omega) (by omega)))
  · exact (congrArg _ (eq_ix2 (n0 := 640) (n1 := 1024) z)).trans ((block4 x (z 0) (z 1)).trans (rows_eq x (by omega) (by omega)))
  · exact (congrArg _ (eq_ix2 (n0 := 640) (n1 := 1024) z)).trans ((block3 x (z 0) (z 1)).trans (rows_eq x (by omega) (by omega)))
  · exact (congrArg _ (eq_ix2 (n0 := 640) (n1 := 1024) z)).trans ((block2 x (z 0) (z 1)).trans (rows_eq x (by omega) (by omega)))
  · exact (congrArg _ (eq_ix2 (n0 := 640) (n1 := 1024) z)).trans ((block1 x (z 0) (z 1)).trans (rows_eq x (by omega) (by omega)))
  · exact (congrArg _ (eq_ix2 (n0 := 640) (n1 := 1024) z)).trans ((block0 x (z 0) (z 1)).trans (rows_eq x (by omega) (by omega)))

/-- The padded shards as launched. -/
def A0 : FVec Ideal S4x2064x1024 .bf16 := m (c.tc.loc main_arg0)

theorem V0 (r : Fin 8256) (h0 : r.val / 2064 < 4) (h1 : r.val % 2064 < 2064) : V m c main_v0 (ix2 r b) = A0 m c (ix3 ⟨r.val / 2064, h0⟩ ⟨r.val % 2064, h1⟩ b) := by
  show (StableHlo.after _ _) _ _ = _
  after_results
  refine shapeCast_apply (A0 m c) _ (ix2 r b) _ ?_
  rewrite [Shape.rowMajor_val_three, Shape.rowMajor_val_two]
  show (r.val / 2064 * 2064 + r.val % 2064) * 1024 + b.val = r.val * 1024 + b.val
  omega

theorem flat (q : Fin 8208) (p : Fin 8256) (h : p.val = q.val / 2052 * 2064 + q.val % 2052) :
    A0 m c (idx_main_v0 (idx_main_v1 (ix2 q b))) = V m c main_v0 (ix2 p b) := by
  refine Eq.trans ?_ (V0 m c b p (by omega) (by omega)).symm
  refine congrArg (A0 m c) (funext fun d => ?_)
  fin_cases d
  · refine Fin.ext ?_
    show (q.val * 1024 + b.val) / 2101248 = p.val / 2064
    omega
  · refine Fin.ext ?_
    show (q.val * 1024 + b.val) / 1024 % 2052 = p.val % 2064
    omega
  · refine Fin.ext ?_
    show (q.val * 1024 + b.val) % 1024 = b.val
    omega

theorem ref_rows (p : Fin 8320) : val_main_v6 (F := Ideal) (A0 m c) (ix2 p b) = rows (V m c main_v0) p.val b := by
  unfold val_main_v6 rows
  pointwise [val_main_v5, val_main_cst, val_main_v2, val_main_v3, val_main_v4, val_main_v1_apply, val_main_v0_apply]
  by_cases h : p.val < 8208
  · rw [dif_pos h]
    split_ifs
    all_goals first
      | exact flat m c b _ _ (by simp only [src]; split_ifs <;> omega)
      | omega
  · rw [dif_neg h]
    split_ifs
    all_goals first
      | rfl
      | omega

theorem ld0 (t : Fin cfg0.N) : iblk m c 0 t = V m c main_v0 := by
  funext y
  show V m c main_v0 _ = _
  refine congrArg (V m c main_v0) ?_
  blk_ext [show win0_0.index t = ![0, 0] from (by decide +kernel : ∀ t : Fin grid0.N, win0_0.index t = ![0, 0]) t]

theorem spot (t : Fin cfg0.N) (y : S8320x1024.Idx) : ((cfg0.win 1).blk t).view.emb y = y := by
  blk_ext [show win0_1.index t = ![0, 0] from (by decide +kernel : ∀ t : Fin grid0.N, win0_1.index t = ![0, 0]) t]

theorem result1 : (dats m 0 c).arrAt 1 (cfgs 0).N = val_main_v6 (F := Ideal) (A0 m c) := by
  refine (dats m 0 c).arrAt_eq_of_covers 1 _ (by decide +kernel) fun t _ y => ?_
  blk_simp
  rw [after0_1, ld0]
  refine (out_rows (V m c main_v0) y).trans ?_
  refine ((congrArg _ ((spot t y).trans (eq_ix2 (n0 := 8320) (n1 := 1024) y))).trans (ref_rows m c (y 1) (y 0))).symm

theorem holds : Cert.algebraic_RowsInIdeal_RowsInRefIdeal := by
  intro m g m' g' _ hagree
  refine ⟨fun c => (dats m 0 c).arrAt 1 cfg0.N, θ_run_mono (Cert.RowsInIdeal.Value.run_blocks m g) fun r h c => h c, θ_run_mono (Cert.RowsInRefIdeal.Value.run m' g') fun r h c => ?_⟩
  obtain ⟨h0, hk⟩ := h c
  have a0 := hagree c
  have e0 := h0.trans (val_main_v6_eq _)
  rw [a0] at e0
  exact ⟨e0.trans (result1 m c).symm, hk⟩

end Cert.RowsInValue

end
-- ==== Proof.RowsOut.lean ====
/- The value of the call that puts the rows of the input projection back into the shards. -/
module

public import proofs.«01_k».proof.Proof.Gen.RowsOutIdeal.Value
public import proofs.«01_k».proof.Proof.Gen.RowsOutRefIdeal.Run
public import proofs.«01_k».proof.Proof.Gen.RowsOutRefIdeal.Read
public import proofs.«01_k».proof.Proof.Pick
public import proofs.«01_k».proof.Proof.Common

@[expose] public section

set_option maxRecDepth 16384

noncomputable section

namespace Cert.RowsOutValue

open Idealize.ShloMosaic Idealize.ShloMosaic.TcCoe Idealize.SL.Sem
open Cert.RowsOutIdeal Cert.RowsOutIdeal.Gen Cert.RowsOutIdeal.Value
open Cert.RowsOutRefIdeal.Read

variable (m : (ℓ : Loc nD τ sig) → Buf (Elt Ideal) ℓ) (c : Dev nD)

/-- The row of the step's order that a row of the padded shards comes from. -/
def src (r : ℕ) : ℕ := if r / 2064 * 2052 + r % 2064 < 3072 then r / 2064 * 2052 + r % 2064 else if r / 2064 * 2052 + r % 2064 < 3088 then r / 2064 * 2052 + r % 2064 + 5120 else r / 2064 * 2052 + r % 2064 - 16

theorem src_lt (r : ℕ) (h : r < 8256) (k : r % 2064 < 2052) : src r < 8320 := by
  unfold src
  split_ifs <;> omega

/-- The rows of the shards, with zeros after the last of each. -/
def rows (x : FVec Ideal S8320x1024 .bf16) (r : ℕ) (b : Fin 1024) : EReal := if h : r < 8256 ∧ r % 2064 < 2052 then x (ix2 ⟨src r, src_lt r h.1 h.2⟩ b) else 0

theorem pick_eq (x : FVec Ideal S8320x1024 .bf16) (b : Fin 1024) {p q : Fin 8320} (h : p.val = q.val) : x (ix2 p b) = x (ix2 q b) := congrArg (fun z => x (ix2 z b)) (Fin.ext h)

theorem rows_eq (x : FVec Ideal S8320x1024 .bf16) {p q : ℕ} {b d : Fin 1024} (h : p = q) (k : b.val = d.val) : rows x p b = rows x q d := by
  rw [h, Fin.ext k]

variable (x : FVec Ideal S8320x1024 .bf16) (a : Fin 688) (b : Fin 1024)

theorem block0 : k0_pay2 (F := Ideal) (View.ld x r0_0) (ix2 a b) = rows x (0 + a.val) b := by
  pointwise [k0_pay2]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block1 : k0_pay3 (F := Ideal) (View.ld x r0_2) (ix2 a b) = rows x (688 + a.val) b := by
  pointwise [k0_pay3]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block2 : k0_pay5 (F := Ideal) (k0_pay20 (F := Ideal) x) (k0_pay21 (F := Ideal) x) k0_pay4 (View.ld x r0_4) (ix2 a b) = rows x (1376 + a.val) b := by
  pointwise [k0_pay20, k0_pay21, k0_pay4, k0_pay5]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block3 : k0_pay6 (F := Ideal) (k0_pay20 (F := Ideal) x) (k0_pay21 (F := Ideal) x) (View.ld x r0_6) (ix2 a b) = rows x (2064 + a.val) b := by
  pointwise [k0_pay20, k0_pay21, k0_pay6]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block4 : k0_pay11 (F := Ideal) (k0_pay9 (F := Ideal) (k0_pay20 (F := Ideal) x) (k0_pay21 (F := Ideal) x) (k0_pay7 (k0_pay20 (F := Ideal) x) (k0_pay21 (F := Ideal) x)) k0_pay8 (View.ld x r0_8) (View.ld x r0_9)) (k0_pay10 (F := Ideal) (k0_pay20 (F := Ideal) x) (k0_pay21 (F := Ideal) x)) (View.ld x r0_10) (ix2 a b) = rows x (2752 + a.val) b := by
  pointwise [k0_pay10, k0_pay11, k0_pay20, k0_pay21, k0_pay7, k0_pay8, k0_pay9]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block5 : k0_pay12 (F := Ideal) (k0_pay20 (F := Ideal) x) (k0_pay21 (F := Ideal) x) (View.ld x r0_12) (ix2 a b) = rows x (3440 + a.val) b := by
  pointwise [k0_pay12, k0_pay20, k0_pay21]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block6 : k0_pay14 (F := Ideal) (k0_pay13 (F := Ideal) (k0_pay20 (F := Ideal) x) (k0_pay21 (F := Ideal) x)) (View.ld x r0_14) (constant S688x1024 .f32 0x00000000#32) (ix2 a b) = rows x (4128 + a.val) b := by
  pointwise [k0_pay13, k0_pay14, k0_pay20, k0_pay21]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block7 : k0_pay15 (F := Ideal) (k0_pay20 (F := Ideal) x) (k0_pay21 (F := Ideal) x) (View.ld x r0_16) (ix2 a b) = rows x (4816 + a.val) b := by
  pointwise [k0_pay15, k0_pay20, k0_pay21]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block8 : k0_pay16 (F := Ideal) (k0_pay20 (F := Ideal) x) (k0_pay21 (F := Ideal) x) (View.ld x r0_18) (ix2 a b) = rows x (5504 + a.val) b := by
  pointwise [k0_pay16, k0_pay20, k0_pay21]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block9 : k0_pay17 (F := Ideal) (k0_pay20 (F := Ideal) x) (k0_pay21 (F := Ideal) x) (View.ld x r0_20) (ix2 a b) = rows x (6192 + a.val) b := by
  pointwise [k0_pay17, k0_pay20, k0_pay21]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block10 : k0_pay18 (F := Ideal) (k0_pay20 (F := Ideal) x) (k0_pay21 (F := Ideal) x) (View.ld x r0_22) (ix2 a b) = rows x (6880 + a.val) b := by
  pointwise [k0_pay18, k0_pay20, k0_pay21]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem block11 : k0_pay1 (F := Ideal) (k0_pay20 (F := Ideal) x) (k0_pay21 (F := Ideal) x) k0_pay19 (View.ld x r0_24) (ix2 a b) = rows x (7568 + a.val) b := by
  pointwise [k0_pay1, k0_pay19, k0_pay20, k0_pay21]
  simp (disch := first | decide | omega) only [Pick.sum_pick]
  simp only [BitVec.reduceToInt]
  unfold rows src
  split_ifs
  all_goals try omega
  all_goals first
    | rfl
    | exact zero_add (0 : EReal)
    | exact (add_zero _).trans (zero_add (0 : EReal))
    | exact pick_eq x b (by first | omega | (simp only [BitVec.reduceToInt]; omega))
    | exact (add_zero _).trans (pick_eq x b (by first | omega | (simp only [BitVec.reduceToInt]; omega)))
    | exact (zero_add _).trans (pick_eq x b (by first | omega | (simp only [BitVec.reduceToInt]; omega)))
    | exact (add_zero _).trans ((zero_add _).trans (pick_eq x b (by first | omega | (simp only [BitVec.reduceToInt]; omega))))
    | exact (add_zero _).trans ((add_zero _).trans (pick_eq x b (by first | omega | (simp only [BitVec.reduceToInt]; omega))))
    | exact (congrArg (· + _) (add_zero (0 : EReal))).trans ((zero_add _).trans (pick_eq x b (by first | omega | (simp only [BitVec.reduceToInt]; omega))))

theorem out_rows (y : S8256x1024.Idx) : out0_1 (F := Ideal) x y = rows x (y 0).val (y 1) := by
  unfold out0_1
  canon_tiles z h
  · exact (congrArg _ (eq_ix2 (n0 := 688) (n1 := 1024) z)).trans ((block11 x (z 0) (z 1)).trans (rows_eq x (by omega) (by omega)))
  · exact (congrArg _ (eq_ix2 (n0 := 688) (n1 := 1024) z)).trans ((block10 x (z 0) (z 1)).trans (rows_eq x (by omega) (by omega)))
  · exact (congrArg _ (eq_ix2 (n0 := 688) (n1 := 1024) z)).trans ((block9 x (z 0) (z 1)).trans (rows_eq x (by omega) (by omega)))
  · exact (congrArg _ (eq_ix2 (n0 := 688) (n1 := 1024) z)).trans ((block8 x (z 0) (z 1)).trans (rows_eq x (by omega) (by omega)))
  · exact (congrArg _ (eq_ix2 (n0 := 688) (n1 := 1024) z)).trans ((block7 x (z 0) (z 1)).trans (rows_eq x (by omega) (by omega)))
  · exact (congrArg _ (eq_ix2 (n0 := 688) (n1 := 1024) z)).trans ((block6 x (z 0) (z 1)).trans (rows_eq x (by omega) (by omega)))
  · exact (congrArg _ (eq_ix2 (n0 := 688) (n1 := 1024) z)).trans ((block5 x (z 0) (z 1)).trans (rows_eq x (by omega) (by omega)))
  · exact (congrArg _ (eq_ix2 (n0 := 688) (n1 := 1024) z)).trans ((block4 x (z 0) (z 1)).trans (rows_eq x (by omega) (by omega)))
  · exact (congrArg _ (eq_ix2 (n0 := 688) (n1 := 1024) z)).trans ((block3 x (z 0) (z 1)).trans (rows_eq x (by omega) (by omega)))
  · exact (congrArg _ (eq_ix2 (n0 := 688) (n1 := 1024) z)).trans ((block2 x (z 0) (z 1)).trans (rows_eq x (by omega) (by omega)))
  · exact (congrArg _ (eq_ix2 (n0 := 688) (n1 := 1024) z)).trans ((block1 x (z 0) (z 1)).trans (rows_eq x (by omega) (by omega)))
  · exact (congrArg _ (eq_ix2 (n0 := 688) (n1 := 1024) z)).trans ((block0 x (z 0) (z 1)).trans (rows_eq x (by omega) (by omega)))

/-- The rows in the step's order as launched. -/
def A0 : FVec Ideal S8320x1024 .bf16 := m (c.tc.loc main_arg0)

theorem mid (g : FVec Ideal S8320x1024 .bf16) (q : Fin 8208) (s : Fin 8320)
    (h : s.val = if q.val < 3072 then q.val else if q.val < 3088 then q.val + 5120 else q.val - 16) :
    val_main_v3 (F := Ideal) g (ix2 q b) = g (ix2 s b) := by
  unfold val_main_v3
  pointwise [val_main_v0, val_main_v1, val_main_v2]
  split_ifs
  all_goals exact congrArg (fun z => g (ix2 z b)) (Fin.ext (by simp only []; split_ifs at h <;> omega))

theorem zero : FloatOps.sitofp (F := Ideal) FTy.bf16 0#32 = (0 : EReal) := by
  show (((0#32).toInt : ℝ) : EReal) = 0
  simp

theorem ref_rows (g : FVec Ideal S8320x1024 .bf16) (p : Fin 8256) : val_main_v6 (F := Ideal) g (ix2 p b) = rows g p.val b := by
  rw [val_main_v6_apply]
  unfold val_main_v5 rows
  pointwise [val_main_call0_v0, val_main_c, val_main_v4_apply]
  split_ifs with h0 h1 h1
  · have e : idx_main_v4 (ix3 ⟨(p.val * 1024 + b.val) / 2113536, h0.1⟩ ⟨(p.val * 1024 + b.val) / 1024 % 2064, h0.2.1⟩ ⟨(p.val * 1024 + b.val) % 1024, h0.2.2⟩)
        = ix2 (⟨p.val / 2064 * 2052 + p.val % 2064, by omega⟩ : Fin 8208) b := by
      funext d
      fin_cases d
      · refine Fin.ext ?_
        show ((((p.val * 1024 + b.val) / 2113536) * 2052 + (p.val * 1024 + b.val) / 1024 % 2064) * 1024 + (p.val * 1024 + b.val) % 1024) / 1024 = p.val / 2064 * 2052 + p.val % 2064
        omega
      · refine Fin.ext ?_
        show ((((p.val * 1024 + b.val) / 2113536) * 2052 + (p.val * 1024 + b.val) / 1024 % 2064) * 1024 + (p.val * 1024 + b.val) % 1024) % 1024 = b.val
        omega
    exact (congrArg (val_main_v3 (F := Ideal) g) e).trans (mid b g _ _ rfl)
  · omega
  · omega
  · exact zero

theorem ld0 (t : Fin cfg0.N) : iblk m c 0 t = A0 m c := by
  funext y
  show V m c main_arg0 _ = _
  refine (congrFun (V_main_arg0 m c) _).trans ?_
  refine congrArg (m (c.tc.loc main_arg0)) ?_
  blk_ext [show win0_0.index t = ![0, 0] from (by decide +kernel : ∀ t : Fin grid0.N, win0_0.index t = ![0, 0]) t]

theorem spot (t : Fin cfg0.N) (y : S8256x1024.Idx) : ((cfg0.win 1).blk t).view.emb y = y := by
  blk_ext [show win0_1.index t = ![0, 0] from (by decide +kernel : ∀ t : Fin grid0.N, win0_1.index t = ![0, 0]) t]

theorem result1 : (dats m 0 c).arrAt 1 (cfgs 0).N = val_main_v6 (F := Ideal) (A0 m c) := by
  refine (dats m 0 c).arrAt_eq_of_covers 1 _ (by decide +kernel) fun t _ y => ?_
  blk_simp
  rw [after0_1, ld0]
  refine (out_rows (A0 m c) y).trans ?_
  refine ((congrArg _ ((spot t y).trans (eq_ix2 (n0 := 8256) (n1 := 1024) y))).trans (ref_rows (y 1) (A0 m c) (y 0))).symm

theorem holds : Cert.algebraic_RowsOutIdeal_RowsOutRefIdeal := by
  intro m g m' g' _ hagree
  refine ⟨fun c => (dats m 0 c).arrAt 1 cfg0.N, θ_run_mono (Cert.RowsOutIdeal.Value.run_blocks m g) fun r h c => h c, θ_run_mono (Cert.RowsOutRefIdeal.Value.run m' g') fun r h c => ?_⟩
  obtain ⟨h0, hk⟩ := h c
  have a0 := hagree c
  have e0 := h0.trans (val_main_v6_eq _)
  rw [a0] at e0
  exact ⟨e0.trans (result1 m c).symm, hk⟩

end Cert.RowsOutValue

end
-- ==== Proof.GlaStores.lean ====
/- Stores of parts of an array, read at an index. -/
module

public import proofs.«01_k».proof.Proof.Gen.GlaFwdIdeal.Value
public import proofs.«01_k».proof.Proof.Common

@[expose] public section

set_option maxRecDepth 16384

noncomputable section

namespace Cert.GlaForward

open Idealize.ShloMosaic Idealize.ShloMosaic.TcCoe Idealize.SL.Sem
open Cert.GlaFwdIdeal Cert.GlaFwdIdeal.Gen

section Stores

variable {Val : EltTy → Type} {e : EltTy} [∀ e, Nonempty (Val e)] {p q p' q' : ℕ}

/-- The last store, read where it wrote. -/
theorem hit (r o : ℕ) (inb) (w : (⟨2, ![p', q']⟩ : Shape).Idx → Val e) (L : List (View.Piece Val ⟨2, ![p, q]⟩ e)) (a : Fin p) (b : Fin q) (x : Fin p') (y : Fin q')
    (hx : a.val = r + x.val) (hy : b.val = o + y.val) :
    View.canon ((⟨Rect.unit (s := ⟨2, ![p, q]⟩) ![r, o] ![p', q'] inb, w⟩ : View.Piece Val ⟨2, ![p, q]⟩ e) :: L) (ix2 a b) = w (ix2 x y) := by
  rw [show (ix2 a b : (⟨2, ![p, q]⟩ : Shape).Idx) = (Rect.unit (s := ⟨2, ![p, q]⟩) ![r, o] ![p', q'] inb).emb (ix2 x y) from ?_]
  · exact View.canon_cons_emb _ _ _ _
  · funext k
    refine Fin.ext ?_
    refine Eq.trans ?_ (Rect.idx_unit_val (s := ⟨2, ![p, q]⟩) ![r, o] ![p', q'] inb (ix2 x y) k).symm
    match k with
    | ⟨0, _⟩ => exact hx
    | ⟨1, _⟩ => exact hy

/-- The last store, read where it did not write. -/
theorem miss (r o : ℕ) (inb) (w : (⟨2, ![p', q']⟩ : Shape).Idx → Val e) (L : List (View.Piece Val ⟨2, ![p, q]⟩ e)) (a : Fin p) (b : Fin q)
    (h : a.val < r ∨ r + p' ≤ a.val ∨ b.val < o ∨ o + q' ≤ b.val) :
    View.canon ((⟨Rect.unit (s := ⟨2, ![p, q]⟩) ![r, o] ![p', q'] inb, w⟩ : View.Piece Val ⟨2, ![p, q]⟩ e) :: L) (ix2 a b) = View.canon L (ix2 a b) := by
  refine View.canon_cons_of_not_mem _ _ fun hm => ?_
  have hs := (Rect.mem_set_unit (s := ⟨2, ![p, q]⟩) (off := ![r, o]) (size := ![p', q']) (inb := inb)).mp hm
  have h0 := hs 0
  have h1 := hs 1
  change r ≤ a.val ∧ a.val < r + p' at h0
  change o ≤ b.val ∧ b.val < o + q' at h1
  omega

/-- A load of part of what the stores left. -/
theorem load (r o : ℕ) (inb) (f : (⟨2, ![p, q]⟩ : Shape).Idx → Val e) (x : Fin p') (y : Fin q') (hx : r + x.val < p) (hy : o + y.val < q) :
    View.ld f (Rect.unit (s := ⟨2, ![p, q]⟩) ![r, o] ![p', q'] inb) (ix2 x y) = f (ix2 ⟨r + x.val, hx⟩ ⟨o + y.val, hy⟩) := by
  refine View.ld_unit_apply_of f _ _ inb _ _ fun k => ?_
  match k with
  | ⟨0, _⟩ => rfl
  | ⟨1, _⟩ => rfl

/-- A load of part of what the stores left, from the stores. -/
theorem cov {sig : RefSig} {κ : Kind} {sp : Space} (u : View sig κ sp (⟨2, ![p, q]⟩ : Shape) e) (r o : ℕ) (inb) (L : List (View.Piece Val ⟨2, ![p, q]⟩ e)) (x : Fin p') (y : Fin q')
    (a : Fin p) (b : Fin q) (hx : a.val = r + x.val) (hy : b.val = o + y.val) :
    u.readCov L (Rect.unit (s := ⟨2, ![p, q]⟩) ![r, o] ![p', q'] inb).toLoadRect (ix2 x y) = View.canon L (ix2 a b) := by
  rw [View.readCov_eq_canon']
  refine congrArg (View.canon L) (funext fun k => Fin.ext ?_)
  refine (Rect.idx_unit_val (s := ⟨2, ![p, q]⟩) ![r, o] ![p', q'] inb (ix2 x y) k).trans ?_
  match k with
  | ⟨0, _⟩ => exact hx.symm
  | ⟨1, _⟩ => exact hy.symm

/-- A load of part of an array. -/
theorem lda (r o : ℕ) (inb) (f : (⟨2, ![p, q]⟩ : Shape).Idx → Val e) (x : Fin p') (y : Fin q') (a : Fin p) (b : Fin q) (hx : a.val = r + x.val) (hy : b.val = o + y.val) :
    View.ld f (Rect.unit (s := ⟨2, ![p, q]⟩) ![r, o] ![p', q'] inb) (ix2 x y) = f (ix2 a b) := by
  refine View.ld_unit_apply_of f _ _ inb _ _ fun k => ?_
  match k with
  | ⟨0, _⟩ => exact hx
  | ⟨1, _⟩ => exact hy

/-- The last store of a plane, read in that plane. -/
theorem hit3 {n : ℕ} (r : ℕ) (inb) (w : (⟨3, ![1, p, q]⟩ : Shape).Idx → Val e) (L : List (View.Piece Val ⟨3, ![n, p, q]⟩ e)) (t : Fin n) (a : Fin p) (b : Fin q) (hx : t.val = r) :
    View.canon ((⟨Rect.unit (s := ⟨3, ![n, p, q]⟩) ![r, 0, 0] ![1, p, q] inb, w⟩ : View.Piece Val ⟨3, ![n, p, q]⟩ e) :: L) (ix3 t a b) = w (ix3 0 a b) := by
  rw [show (ix3 t a b : (⟨3, ![n, p, q]⟩ : Shape).Idx) = (Rect.unit (s := ⟨3, ![n, p, q]⟩) ![r, 0, 0] ![1, p, q] inb).emb (ix3 0 a b) from ?_]
  · exact View.canon_cons_emb _ _ _ _
  · funext k
    refine Fin.ext ?_
    refine Eq.trans ?_ (Rect.idx_unit_val (s := ⟨3, ![n, p, q]⟩) ![r, 0, 0] ![1, p, q] inb (ix3 0 a b) k).symm
    match k with
    | ⟨0, _⟩ => exact hx
    | ⟨1, _⟩ => exact (Nat.zero_add _).symm
    | ⟨2, _⟩ => exact (Nat.zero_add _).symm

/-- The last store of a plane, read in another plane. -/
theorem miss3 {n : ℕ} (r : ℕ) (inb) (w : (⟨3, ![1, p, q]⟩ : Shape).Idx → Val e) (L : List (View.Piece Val ⟨3, ![n, p, q]⟩ e)) (t : Fin n) (a : Fin p) (b : Fin q) (h : t.val ≠ r) :
    View.canon ((⟨Rect.unit (s := ⟨3, ![n, p, q]⟩) ![r, 0, 0] ![1, p, q] inb, w⟩ : View.Piece Val ⟨3, ![n, p, q]⟩ e) :: L) (ix3 t a b) = View.canon L (ix3 t a b) := by
  refine View.canon_cons_of_not_mem _ _ fun hm => ?_
  have hs := (Rect.mem_set_unit (s := ⟨3, ![n, p, q]⟩) (off := ![r, 0, 0]) (size := ![1, p, q]) (inb := inb)).mp hm
  have h0 := hs 0
  change r ≤ t.val ∧ t.val < r + 1 at h0
  omega

end Stores

/-- The column of the values at a column of the keys and a row of the state. -/
def col (b : Fin 512) (v : Fin 256) : Fin 1024 := ⟨b.val / 128 * 256 + v.val, by omega⟩

section Pieces

variable {F : FTy → Type} [FloatOps F]

/-- The decay over a chunk, from the logarithmic decay of its rows. -/
def gate (w : FVec F S64x512 .f32) : FVec F S1x512 .f32 := k0_pay26 (k0_pay3 (F := F)) w

/-- The keys of a chunk, decayed to its end. -/
def keys (w : FVec F S64x512 .f32) (k : FVec F S64x512 .bf16) : FVec F S64x512 .bf16 := k0_pay27 (k0_pay3 (F := F)) w k

/-- The scaled queries of a chunk. -/
def asks (q : FVec F S64x512 .bf16) : FVec F S64x512 .bf16 := k0_pay28 q

variable (g : FVec F S1x512 .f32) (kd : FVec F S64x512 .bf16) (qs : FVec F S64x512 .bf16) (v : FVec F S64x1024 .bf16) (s s0 s1 s2 s3 : FVec F S256x128 .f32)

/-- The columns of head 0 of the state, moved over a chunk. -/
def up0 : FVec F S256x128 .f32 :=
  addf (mulf s (broadcastTo S256x128 (extractStridedSlice S1x128 ![0, 0] g slices_S1x512_o0_0_S1x128) broadcasts_S1x128_S256x128))
    (matmul dot_S64x256_S64x128_S256x128_0_0_1_1_n_n none (extractStridedSlice S64x256 ![0, 0] v slices_S64x1024_o0_0_S64x256) (extractStridedSlice S64x128 ![0, 0] kd slices_S64x512_o0_0_S64x128) (constant S256x128 .f32 0x00000000#32))

/-- The answers of head 0 in a chunk. -/
def an0 (s : FVec F S256x128 .f32) : FVec F S64x256 .f32 :=
  shapeCast S64x256 (matmul dot_S64x128_S256x128_S64x256_1_1_0_0_n_n none (extractStridedSlice S64x128 ![0, 0] qs slices_S64x512_o0_0_S64x128) (truncf .bf16 s bitsLt_bf16_f32) (constant S64x256 .f32 0x00000000#32)) shapeCasts_S64x256_S64x256

/-- The columns of head 1 of the state, moved over a chunk. -/
def up1 : FVec F S256x128 .f32 :=
  addf (mulf s (broadcastTo S256x128 (extractStridedSlice S1x128 ![0, 128] g slices_S1x512_o0_128_S1x128) broadcasts_S1x128_S256x128))
    (matmul dot_S64x256_S64x128_S256x128_0_0_1_1_n_n none (extractStridedSlice S64x256 ![0, 256] v slices_S64x1024_o0_256_S64x256) (extractStridedSlice S64x128 ![0, 128] kd slices_S64x512_o0_128_S64x128) (constant S256x128 .f32 0x00000000#32))

/-- The answers of head 1 in a chunk. -/
def an1 (s : FVec F S256x128 .f32) : FVec F S64x256 .f32 :=
  shapeCast S64x256 (matmul dot_S64x128_S256x128_S64x256_1_1_0_0_n_n none (extractStridedSlice S64x128 ![0, 128] qs slices_S64x512_o0_128_S64x128) (truncf .bf16 s bitsLt_bf16_f32) (constant S64x256 .f32 0x00000000#32)) shapeCasts_S64x256_S64x256

/-- The columns of head 2 of the state, moved over a chunk. -/
def up2 : FVec F S256x128 .f32 :=
  addf (mulf s (broadcastTo S256x128 (extractStridedSlice S1x128 ![0, 256] g slices_S1x512_o0_256_S1x128) broadcasts_S1x128_S256x128))
    (matmul dot_S64x256_S64x128_S256x128_0_0_1_1_n_n none (extractStridedSlice S64x256 ![0, 512] v slices_S64x1024_o0_512_S64x256) (extractStridedSlice S64x128 ![0, 256] kd slices_S64x512_o0_256_S64x128) (constant S256x128 .f32 0x00000000#32))

/-- The answers of head 2 in a chunk. -/
def an2 (s : FVec F S256x128 .f32) : FVec F S64x256 .f32 :=
  shapeCast S64x256 (matmul dot_S64x128_S256x128_S64x256_1_1_0_0_n_n none (extractStridedSlice S64x128 ![0, 256] qs slices_S64x512_o0_256_S64x128) (truncf .bf16 s bitsLt_bf16_f32) (constant S64x256 .f32 0x00000000#32)) shapeCasts_S64x256_S64x256

/-- The columns of head 3 of the state, moved over a chunk. -/
def up3 : FVec F S256x128 .f32 :=
  addf (mulf s (broadcastTo S256x128 (extractStridedSlice S1x128 ![0, 384] g slices_S1x512_o0_384_S1x128) broadcasts_S1x128_S256x128))
    (matmul dot_S64x256_S64x128_S256x128_0_0_1_1_n_n none (extractStridedSlice S64x256 ![0, 768] v slices_S64x1024_o0_768_S64x256) (extractStridedSlice S64x128 ![0, 384] kd slices_S64x512_o0_384_S64x128) (constant S256x128 .f32 0x00000000#32))

/-- The answers of head 3 in a chunk. -/
def an3 (s : FVec F S256x128 .f32) : FVec F S64x256 .f32 :=
  shapeCast S64x256 (matmul dot_S64x128_S256x128_S64x256_1_1_0_0_n_n none (extractStridedSlice S64x128 ![0, 384] qs slices_S64x512_o0_384_S64x128) (truncf .bf16 s bitsLt_bf16_f32) (constant S64x256 .f32 0x00000000#32)) shapeCasts_S64x256_S64x256

/-- The stores of a chunk into the state. -/
def puts (L : List (View.Piece (Elt F) S256x512 .f32)) : List (View.Piece (Elt F) S256x512 .f32) :=
  (⟨Rect.unit ![0, 384] S256x128.size inb_S256x512_S256x128_0_384, shapeCast S256x128 (up3 g kd v s3) shapeCasts_S256x128_S256x128⟩ : View.Piece (Elt F) S256x512 .f32) ::
      (⟨Rect.unit ![0, 256] S256x128.size inb_S256x512_S256x128_0_256, shapeCast S256x128 (up2 g kd v s2) shapeCasts_S256x128_S256x128⟩ : View.Piece (Elt F) S256x512 .f32) ::
      (⟨Rect.unit ![0, 128] S256x128.size inb_S256x512_S256x128_0_128, shapeCast S256x128 (up1 g kd v s1) shapeCasts_S256x128_S256x128⟩ : View.Piece (Elt F) S256x512 .f32) ::
      (⟨Rect.unit ![0, 0] S256x128.size inb_S256x512_S256x128_0_0, shapeCast S256x128 (up0 g kd v s0) shapeCasts_S256x128_S256x128⟩ : View.Piece (Elt F) S256x512 .f32) :: L

/-- The stores of a chunk into the answers. -/
def tells (o : ℕ) (inb0 : ∀ a, (![o, 0] : Fin 2 → ℕ) a + S64x256.size a ≤ S512x1024.size a) (inb1 : ∀ a, (![o, 256] : Fin 2 → ℕ) a + S64x256.size a ≤ S512x1024.size a) (inb2 : ∀ a, (![o, 512] : Fin 2 → ℕ) a + S64x256.size a ≤ S512x1024.size a) (inb3 : ∀ a, (![o, 768] : Fin 2 → ℕ) a + S64x256.size a ≤ S512x1024.size a) (L : List (View.Piece (Elt F) S512x1024 .f32)) : List (View.Piece (Elt F) S512x1024 .f32) :=
  (⟨Rect.unit ![o, 768] S64x256.size inb3, an3 qs (up3 g kd v s3)⟩ : View.Piece (Elt F) S512x1024 .f32) ::
      (⟨Rect.unit ![o, 512] S64x256.size inb2, an2 qs (up2 g kd v s2)⟩ : View.Piece (Elt F) S512x1024 .f32) ::
      (⟨Rect.unit ![o, 256] S64x256.size inb1, an1 qs (up1 g kd v s1)⟩ : View.Piece (Elt F) S512x1024 .f32) ::
      (⟨Rect.unit ![o, 0] S64x256.size inb0, an0 qs (up0 g kd v s0)⟩ : View.Piece (Elt F) S512x1024 .f32) :: L

end Pieces

section Reading

theorem part512 (o : ℕ) (ho : o + 128 ≤ 512) (b : Fin 512) (h : o ≤ b.val) (h' : b.val < o + 128) : ∃ k : Fin 128, b = ⟨o + k.val, Nat.lt_of_lt_of_le (Nat.add_lt_add_left k.isLt o) ho⟩ :=
  ⟨⟨b.val - o, by omega⟩, Fin.ext (by dsimp only; omega)⟩

theorem part1024 (o : ℕ) (ho : o + 256 ≤ 1024) (b : Fin 1024) (h : o ≤ b.val) (h' : b.val < o + 256) : ∃ k : Fin 256, b = ⟨o + k.val, Nat.lt_of_lt_of_le (Nat.add_lt_add_left k.isLt o) ho⟩ :=
  ⟨⟨b.val - o, by omega⟩, Fin.ext (by dsimp only; omega)⟩

variable (g : FVec Ideal S1x512 .f32) (kd : FVec Ideal S64x512 .bf16) (qs : FVec Ideal S64x512 .bf16) (v : FVec Ideal S64x1024 .bf16) (s0 s1 s2 s3 : FVec Ideal S256x128 .f32)

/-- The state after a chunk, from the decay, the keys and the values of the chunk. -/
def move (S : FVec Ideal S256x512 .f32) (a : Fin 256) (b : Fin 512) : EReal := S (ix2 a b) * g (ix2 0 b) + ∑ l : Fin 64, v (ix2 l (col b a)) * kd (ix2 l b)

variable (S : FVec Ideal S256x512 .f32)

theorem up0_at (h0 : ∀ (a : Fin 256) (k : Fin 128), s0 (ix2 a k) = S (ix2 a ⟨0 + k.val, by omega⟩)) (a : Fin 256) (k : Fin 128) :
    up0 g kd v s0 (ix2 a k) = move g kd v S a ⟨0 + k.val, by omega⟩ := by
  pointwise [up0, h0, move]
  refine congrArg _ (Finset.sum_congr rfl fun l _ => ?_)
  exact congrArg (fun z => v (ix2 l z) * _) (Fin.ext (by simp only [col]; omega))

theorem up1_at (h1 : ∀ (a : Fin 256) (k : Fin 128), s1 (ix2 a k) = S (ix2 a ⟨128 + k.val, by omega⟩)) (a : Fin 256) (k : Fin 128) :
    up1 g kd v s1 (ix2 a k) = move g kd v S a ⟨128 + k.val, by omega⟩ := by
  pointwise [up1, h1, move]
  refine congrArg _ (Finset.sum_congr rfl fun l _ => ?_)
  rw [show col ⟨128 + k.val, by omega⟩ a = ⟨256 + a.val, by omega⟩ from Fin.ext (by simp only [col]; omega)]
  try rfl

theorem up2_at (h2 : ∀ (a : Fin 256) (k : Fin 128), s2 (ix2 a k) = S (ix2 a ⟨256 + k.val, by omega⟩)) (a : Fin 256) (k : Fin 128) :
    up2 g kd v s2 (ix2 a k) = move g kd v S a ⟨256 + k.val, by omega⟩ := by
  pointwise [up2, h2, move]
  refine congrArg _ (Finset.sum_congr rfl fun l _ => ?_)
  rw [show col ⟨256 + k.val, by omega⟩ a = ⟨512 + a.val, by omega⟩ from Fin.ext (by simp only [col]; omega)]
  try rfl

theorem up3_at (h3 : ∀ (a : Fin 256) (k : Fin 128), s3 (ix2 a k) = S (ix2 a ⟨384 + k.val, by omega⟩)) (a : Fin 256) (k : Fin 128) :
    up3 g kd v s3 (ix2 a k) = move g kd v S a ⟨384 + k.val, by omega⟩ := by
  pointwise [up3, h3, move]
  refine congrArg _ (Finset.sum_congr rfl fun l _ => ?_)
  rw [show col ⟨384 + k.val, by omega⟩ a = ⟨768 + a.val, by omega⟩ from Fin.ext (by simp only [col]; omega)]
  try rfl

variable (h0 : ∀ (a : Fin 256) (k : Fin 128), s0 (ix2 a k) = S (ix2 a ⟨0 + k.val, by omega⟩)) (h1 : ∀ (a : Fin 256) (k : Fin 128), s1 (ix2 a k) = S (ix2 a ⟨128 + k.val, by omega⟩)) (h2 : ∀ (a : Fin 256) (k : Fin 128), s2 (ix2 a k) = S (ix2 a ⟨256 + k.val, by omega⟩)) (h3 : ∀ (a : Fin 256) (k : Fin 128), s3 (ix2 a k) = S (ix2 a ⟨384 + k.val, by omega⟩))

include h0 h1 h2 h3

theorem puts_at (L : List (View.Piece (Elt Ideal) S256x512 .f32)) (a : Fin 256) (b : Fin 512) :
    View.canon (puts g kd v s0 s1 s2 s3 L) (ix2 a b) = move g kd v S a b := by
  unfold puts
  by_cases c3 : 384 ≤ b.val
  · obtain ⟨k, rfl⟩ := part512 384 (by decide) b (by omega) (by omega)
    refine (hit _ _ _ _ _ _ _ a k (by omega) rfl).trans ?_
    exact (congrFun (shapeCast_self _ _) _).trans (up3_at g kd v s3 S h3 a k)
  refine (miss _ _ _ _ _ _ _ (by omega)).trans ?_
  by_cases c2 : 256 ≤ b.val
  · obtain ⟨k, rfl⟩ := part512 256 (by decide) b (by omega) (by omega)
    refine (hit _ _ _ _ _ _ _ a k (by omega) rfl).trans ?_
    exact (congrFun (shapeCast_self _ _) _).trans (up2_at g kd v s2 S h2 a k)
  refine (miss _ _ _ _ _ _ _ (by omega)).trans ?_
  by_cases c1 : 128 ≤ b.val
  · obtain ⟨k, rfl⟩ := part512 128 (by decide) b (by omega) (by omega)
    refine (hit _ _ _ _ _ _ _ a k (by omega) rfl).trans ?_
    exact (congrFun (shapeCast_self _ _) _).trans (up1_at g kd v s1 S h1 a k)
  refine (miss _ _ _ _ _ _ _ (by omega)).trans ?_
  obtain ⟨k, rfl⟩ := part512 0 (by decide) b (by omega) (by omega)
  refine (hit _ _ _ _ _ _ _ a k (by omega) rfl).trans ?_
  exact (congrFun (shapeCast_self _ _) _).trans (up0_at g kd v s0 S h0 a k)

omit h1 h2 h3 in
theorem an0_at (l : Fin 64) (a : Fin 256) :
    an0 qs (up0 g kd v s0) (ix2 l a) = ∑ k : Fin 128, qs (ix2 l ⟨0 + k.val, by omega⟩) * move g kd v S a ⟨0 + k.val, by omega⟩ := by
  pointwise [an0, up0_at g kd v s0 S h0]

omit h0 h2 h3 in
theorem an1_at (l : Fin 64) (a : Fin 256) :
    an1 qs (up1 g kd v s1) (ix2 l a) = ∑ k : Fin 128, qs (ix2 l ⟨128 + k.val, by omega⟩) * move g kd v S a ⟨128 + k.val, by omega⟩ := by
  pointwise [an1, up1_at g kd v s1 S h1]

omit h0 h1 h3 in
theorem an2_at (l : Fin 64) (a : Fin 256) :
    an2 qs (up2 g kd v s2) (ix2 l a) = ∑ k : Fin 128, qs (ix2 l ⟨256 + k.val, by omega⟩) * move g kd v S a ⟨256 + k.val, by omega⟩ := by
  pointwise [an2, up2_at g kd v s2 S h2]

omit h0 h1 h2 in
theorem an3_at (l : Fin 64) (a : Fin 256) :
    an3 qs (up3 g kd v s3) (ix2 l a) = ∑ k : Fin 128, qs (ix2 l ⟨384 + k.val, by omega⟩) * move g kd v S a ⟨384 + k.val, by omega⟩ := by
  pointwise [an3, up3_at g kd v s3 S h3]

theorem tells_at (o : ℕ) (inb0 : ∀ a, (![o, 0] : Fin 2 → ℕ) a + S64x256.size a ≤ S512x1024.size a) (inb1 : ∀ a, (![o, 256] : Fin 2 → ℕ) a + S64x256.size a ≤ S512x1024.size a) (inb2 : ∀ a, (![o, 512] : Fin 2 → ℕ) a + S64x256.size a ≤ S512x1024.size a) (inb3 : ∀ a, (![o, 768] : Fin 2 → ℕ) a + S64x256.size a ≤ S512x1024.size a) (L : List (View.Piece (Elt Ideal) S512x1024 .f32)) (i : Fin 512) (j : Fin 1024) :
    View.canon (tells g kd qs v s0 s1 s2 s3 o inb0 inb1 inb2 inb3 L) (ix2 i j)
      = if h : o ≤ i.val ∧ i.val < o + 64 then
          ∑ k : Fin 128, qs (ix2 ⟨i.val - o, by omega⟩ ⟨128 * (j.val / 256) + k.val, by omega⟩) * move g kd v S ⟨j.val % 256, by omega⟩ ⟨128 * (j.val / 256) + k.val, by omega⟩
        else View.canon L (ix2 i j) := by
  unfold tells
  split_ifs with h
  · by_cases c3 : 768 ≤ j.val
    · obtain ⟨a, rfl⟩ := part1024 768 (by decide) j (by omega) (by omega)
      refine (hit _ _ _ _ _ _ _ ⟨i.val - o, by omega⟩ a (by dsimp only; omega) rfl).trans ?_
      rw [an3_at g kd qs v s3 S h3]
      have e : ∀ k : Fin 128, (⟨384 + k.val, by omega⟩ : Fin 512) = ⟨128 * ((768 + a.val) / 256) + k.val, by omega⟩ := fun k => Fin.ext (by dsimp only; omega)
      have f : a = ⟨(768 + a.val) % 256, by omega⟩ := Fin.ext (by dsimp only; omega)
      simp only [e, ← f]
    refine (miss _ _ _ _ _ _ _ (by omega)).trans ?_
    by_cases c2 : 512 ≤ j.val
    · obtain ⟨a, rfl⟩ := part1024 512 (by decide) j (by omega) (by omega)
      refine (hit _ _ _ _ _ _ _ ⟨i.val - o, by omega⟩ a (by dsimp only; omega) rfl).trans ?_
      rw [an2_at g kd qs v s2 S h2]
      have e : ∀ k : Fin 128, (⟨256 + k.val, by omega⟩ : Fin 512) = ⟨128 * ((512 + a.val) / 256) + k.val, by omega⟩ := fun k => Fin.ext (by dsimp only; omega)
      have f : a = ⟨(512 + a.val) % 256, by omega⟩ := Fin.ext (by dsimp only; omega)
      simp only [e, ← f]
    refine (miss _ _ _ _ _ _ _ (by omega)).trans ?_
    by_cases c1 : 256 ≤ j.val
    · obtain ⟨a, rfl⟩ := part1024 256 (by decide) j (by omega) (by omega)
      refine (hit _ _ _ _ _ _ _ ⟨i.val - o, by omega⟩ a (by dsimp only; omega) rfl).trans ?_
      rw [an1_at g kd qs v s1 S h1]
      have e : ∀ k : Fin 128, (⟨128 + k.val, by omega⟩ : Fin 512) = ⟨128 * ((256 + a.val) / 256) + k.val, by omega⟩ := fun k => Fin.ext (by dsimp only; omega)
      have f : a = ⟨(256 + a.val) % 256, by omega⟩ := Fin.ext (by dsimp only; omega)
      simp only [e, ← f]
    refine (miss _ _ _ _ _ _ _ (by omega)).trans ?_
    obtain ⟨a, rfl⟩ := part1024 0 (by decide) j (by omega) (by omega)
    refine (hit _ _ _ _ _ _ _ ⟨i.val - o, by omega⟩ a (by dsimp only; omega) rfl).trans ?_
    rw [an0_at g kd qs v s0 S h0]
    have e : ∀ k : Fin 128, (⟨0 + k.val, by omega⟩ : Fin 512) = ⟨128 * ((0 + a.val) / 256) + k.val, by omega⟩ := fun k => Fin.ext (by dsimp only; omega)
    have f : a = ⟨(0 + a.val) % 256, by omega⟩ := Fin.ext (by dsimp only; omega)
    simp only [e, ← f]
  · refine (miss _ _ _ _ _ _ _ (by omega)).trans ((miss _ _ _ _ _ _ _ (by omega)).trans ((miss _ _ _ _ _ _ _ (by omega)).trans (miss _ _ _ _ _ _ _ (by omega))))

end Reading

theorem inb512 (o : ℕ) (ho : o + 64 ≤ 512) : ∀ a, (![o, 0] : Fin 2 → ℕ) a + S64x512.size a ≤ S512x512.size a := fun a => by
  match a with
  | ⟨0, _⟩ => exact ho
  | ⟨1, _⟩ => exact le_refl _

theorem inb1024 (o : ℕ) (ho : o + 64 ≤ 512) : ∀ a, (![o, 0] : Fin 2 → ℕ) a + S64x1024.size a ≤ S512x1024.size a := fun a => by
  match a with
  | ⟨0, _⟩ => exact ho
  | ⟨1, _⟩ => exact le_refl _

section Next

variable (x0 x1 : FVec Ideal S512x512 .bf16) (x2 : FVec Ideal S512x1024 .bf16) (la : FVec Ideal S512x512 .f32) (o : ℕ) (ho : o + 64 ≤ 512) (S : FVec Ideal S256x512 .f32)

/-- The logarithmic decay of a chunk. -/
def pickA : FVec Ideal S64x512 .f32 := View.ld (Val := Elt Ideal) (e' := .f32) la (Rect.unit (s := S512x512) ![o, 0] S64x512.size (inb512 o ho))

/-- The queries or the keys of a chunk. -/
def pickK : FVec Ideal S64x512 .bf16 := View.ld (Val := Elt Ideal) (e' := .bf16) x1 (Rect.unit (s := S512x512) ![o, 0] S64x512.size (inb512 o ho))

/-- The values of a chunk. -/
def pickV : FVec Ideal S64x1024 .bf16 := View.ld (Val := Elt Ideal) (e' := .bf16) x2 (Rect.unit (s := S512x1024) ![o, 0] S64x1024.size (inb1024 o ho))

/-- The state after a chunk. -/
def next : FVec Ideal S256x512 .f32 := fun y => move (gate (pickA la o ho)) (keys (pickA la o ho) (pickK x1 o ho)) (pickV x2 o ho) S (y 0) (y 1)

theorem pickA_at (l : Fin 64) (b : Fin 512) : pickA la o ho (ix2 l b) = la (ix2 ⟨o + l.val, by omega⟩ b) :=
  lda (Val := Elt Ideal) (e := .f32) _ _ _ _ _ _ _ _ rfl (Nat.zero_add _).symm

theorem pickK_at (l : Fin 64) (b : Fin 512) : pickK x1 o ho (ix2 l b) = x1 (ix2 ⟨o + l.val, by omega⟩ b) :=
  lda (Val := Elt Ideal) (e := .bf16) _ _ _ _ _ _ _ _ rfl (Nat.zero_add _).symm

theorem pickV_at (l : Fin 64) (b : Fin 1024) : pickV x2 o ho (ix2 l b) = x2 (ix2 ⟨o + l.val, by omega⟩ b) :=
  lda (Val := Elt Ideal) (e := .bf16) _ _ _ _ _ _ _ _ rfl (Nat.zero_add _).symm

/-- The running sum of the logarithmic decay inside a chunk. -/
def cum (a : Fin 64) (b : Fin 512) : EReal := ∑ l : Fin 64, k0_pay3 (F := Ideal) (ix2 a l) * la (ix2 ⟨o + l.val, by omega⟩ b)

theorem gate_at (b : Fin 512) (z : Fin 1) : gate (pickA la o ho) (ix2 z b) = Ideal.exp (cum la o ho 63 b) := by
  pointwise [gate, k0_pay26, k0_pay25, k0_pay24, pickA_at, cum]

theorem keys_at (l : Fin 64) (b : Fin 512) : keys (pickA la o ho) (pickK x1 o ho) (ix2 l b) = x1 (ix2 ⟨o + l.val, by omega⟩ b) * Ideal.exp (cum la o ho 63 b - cum la o ho l b) := by
  pointwise [keys, k0_pay27, k0_pay25, k0_pay24, pickA_at, pickK_at, cum]

theorem next_at (a : Fin 256) (b : Fin 512) : next x1 x2 la o ho S (ix2 a b)
    = S (ix2 a b) * Ideal.exp (cum la o ho 63 b)
      + ∑ l : Fin 64, x2 (ix2 ⟨o + l.val, by omega⟩ (col b a)) * (x1 (ix2 ⟨o + l.val, by omega⟩ b) * Ideal.exp (cum la o ho 63 b - cum la o ho l b)) := by
  show move _ _ _ S a b = _
  simp only [move, gate_at, keys_at, pickV_at]

theorem asks_at (l : Fin 64) (b : Fin 512) : asks (pickK x0 o ho) (ix2 l b) = x0 (ix2 ⟨o + l.val, by omega⟩ b) * Ideal.ofBits .f32 0x3DB504F3#32 := by
  pointwise [asks, k0_pay28, pickK_at]

end Next

section Last

variable {F : FTy → Type} [FloatOps F]

/-- The columns of a head of the result: the answers normed, weighted and gated. -/
def fin (v : FVec F S512x256 .f32) (r : FVec F S512x256 .bf16) (w : FVec F S1x256 .f32) : FVec F S512x256 .bf16 := k0_pay166 v r w

end Last

/-- One element of the result, from the answers of its row and head. -/
def elem (v : Fin 256 → EReal) (r w : EReal) (a : Fin 256) : EReal :=
  v a * Ideal.rsqrt (Ideal.div (∑ k : Fin 256, v k * v k) (Ideal.ofBits .f32 0x43800000#32) + Ideal.ofBits .f32 0x358637BD#32) * w * (r * Ideal.logistic r)

theorem fin_at (v : FVec Ideal S512x256 .f32) (r : FVec Ideal S512x256 .bf16) (w : FVec Ideal S1x256 .f32) (i : Fin 512) (a : Fin 256) :
    fin v r w (ix2 i a) = elem (fun k => v (ix2 i k)) (r (ix2 i a)) (w (ix2 0 a)) a := by
  pointwise [fin, k0_pay166, elem]

/-- The states of a point: at its start and after each chunk. -/
def chain (x1 : FVec Ideal S512x512 .bf16) (x2 : FVec Ideal S512x1024 .bf16) (la : FVec Ideal S512x512 .f32) (S : FVec Ideal S256x512 .f32) : ℕ → FVec Ideal S256x512 .f32
  | 0 => S
  | n + 1 => next x1 x2 la (64 * (n % 8)) (by omega) (chain x1 x2 la S n)

theorem inbO (o : ℕ) (ho : o + 64 ≤ 512) (z : ℕ) (hz : z + 256 ≤ 1024) : ∀ a, (![o, z] : Fin 2 → ℕ) a + S64x256.size a ≤ S512x1024.size a := fun a => by
  match a with
  | ⟨0, _⟩ => exact ho
  | ⟨1, _⟩ => exact hz

section Lists

variable (m1 : Memref sig .tc .vmem S512x512 .bf16) (h1 : m1.IsWhole) (m2 : Memref sig .tc .vmem S512x512 .bf16) (h2 : m2.IsWhole) (m3 : Memref sig .tc .vmem S512x1024 .bf16) (h3 : m3.IsWhole) (m4 : Memref sig .tc .vmem S512x1024 .bf16) (h4 : m4.IsWhole) (m8 : Memref sig .tc .vmem S1x256 .f32) (h8 : m8.IsWhole) (m11 : Memref sig .tc .vmem S256x512 .f32) (h11 : m11.IsWhole) (m12 : Memref sig .tc .vmem S512x512 .f32) (m13 : Memref sig .tc .vmem S512x1024 .f32)
  (x0 x1 : FVec Ideal S512x512 .bf16) (x2 x3 : FVec Ideal S512x1024 .bf16) (x7 : FVec Ideal S1x256 .f32) (la : FVec Ideal S512x512 .f32) (S : FVec Ideal S256x512 .f32)
  (A : List (View.Piece (Elt Ideal) S512x512 .f32)) (L : List (View.Piece (Elt Ideal) S256x512 .f32)) (O : List (View.Piece (Elt Ideal) S512x1024 .f32))

/-- The decay of a chunk, as loaded. -/
def rowA (o : ℕ) (ho : o + 64 ≤ 512) : FVec Ideal S64x512 .f32 := m12.view.readCov A (Rect.unit (s := S512x512) ![o, 0] S64x512.size (inb512 o ho)).toLoadRect
/-- The queries or the keys of a chunk, as loaded. -/
def rowK (o : ℕ) (ho : o + 64 ≤ 512) : FVec Ideal S64x512 .bf16 := View.readAt (Elt Ideal) m2.view (Rect.unit (s := S512x512) ![o, 0] S64x512.size (inb512 o ho)).toLoadRect (h2.unread x1)
/-- The values of a chunk, as loaded. -/
def rowV (o : ℕ) (ho : o + 64 ≤ 512) : FVec Ideal S64x1024 .bf16 := View.readAt (Elt Ideal) m3.view (Rect.unit (s := S512x1024) ![o, 0] S64x1024.size (inb1024 o ho)).toLoadRect (h3.unread x2)

/-- The state's columns of a head, as loaded. -/
def get0 : FVec Ideal S256x128 .f32 := m11.view.readCov L (Rect.unit (s := S256x512) ![0, 0] S256x128.size inb_S256x512_S256x128_0_0).toLoadRect
def get1 : FVec Ideal S256x128 .f32 := m11.view.readCov L (Rect.unit (s := S256x512) ![0, 128] S256x128.size inb_S256x512_S256x128_0_128).toLoadRect
def get2 : FVec Ideal S256x128 .f32 := m11.view.readCov L (Rect.unit (s := S256x512) ![0, 256] S256x128.size inb_S256x512_S256x128_0_256).toLoadRect
def get3 : FVec Ideal S256x128 .f32 := m11.view.readCov L (Rect.unit (s := S256x512) ![0, 384] S256x128.size inb_S256x512_S256x128_0_384).toLoadRect

/-- The state's columns of a head at the start of a point that goes on, as loaded. -/
def old0 : FVec Ideal S256x128 .f32 := View.readAt (Elt Ideal) m11.view (Rect.unit (s := S256x512) ![0, 0] S256x128.size inb_S256x512_S256x128_0_0).toLoadRect (h11.unread S)
def old1 : FVec Ideal S256x128 .f32 := View.readAt (Elt Ideal) m11.view (Rect.unit (s := S256x512) ![0, 128] S256x128.size inb_S256x512_S256x128_0_128).toLoadRect (h11.unread S)
def old2 : FVec Ideal S256x128 .f32 := View.readAt (Elt Ideal) m11.view (Rect.unit (s := S256x512) ![0, 256] S256x128.size inb_S256x512_S256x128_0_256).toLoadRect (h11.unread S)
def old3 : FVec Ideal S256x128 .f32 := View.readAt (Elt Ideal) m11.view (Rect.unit (s := S256x512) ![0, 384] S256x128.size inb_S256x512_S256x128_0_384).toLoadRect (h11.unread S)

abbrev gA (o : ℕ) (ho : o + 64 ≤ 512) := gate (rowA m12 A o ho)
abbrev kA (o : ℕ) (ho : o + 64 ≤ 512) := keys (rowA m12 A o ho) (rowK m2 h2 x1 o ho)
abbrev vA (o : ℕ) (ho : o + 64 ≤ 512) := rowV m3 h3 x2 o ho

/-- The stores into the state up to a head of a chunk. -/
def ls1 (o : ℕ) (ho : o + 64 ≤ 512) : List (View.Piece (Elt Ideal) S256x512 .f32) := (⟨Rect.unit ![0, 0] S256x128.size inb_S256x512_S256x128_0_0, shapeCast S256x128 (up0 (gA m12 A o ho) (kA m2 h2 m12 x1 A o ho) (vA m3 h3 x2 o ho) (get0 m11 L)) shapeCasts_S256x128_S256x128⟩ : View.Piece (Elt Ideal) S256x512 .f32) :: L
def ls2 (o : ℕ) (ho : o + 64 ≤ 512) : List (View.Piece (Elt Ideal) S256x512 .f32) := (⟨Rect.unit ![0, 128] S256x128.size inb_S256x512_S256x128_0_128, shapeCast S256x128 (up1 (gA m12 A o ho) (kA m2 h2 m12 x1 A o ho) (vA m3 h3 x2 o ho) (get1 m11 (ls1 m2 h2 m3 h3 m11 m12 x1 x2 A L o ho))) shapeCasts_S256x128_S256x128⟩ : View.Piece (Elt Ideal) S256x512 .f32) :: ls1 m2 h2 m3 h3 m11 m12 x1 x2 A L o ho
def ls3 (o : ℕ) (ho : o + 64 ≤ 512) : List (View.Piece (Elt Ideal) S256x512 .f32) := (⟨Rect.unit ![0, 256] S256x128.size inb_S256x512_S256x128_0_256, shapeCast S256x128 (up2 (gA m12 A o ho) (kA m2 h2 m12 x1 A o ho) (vA m3 h3 x2 o ho) (get2 m11 (ls2 m2 h2 m3 h3 m11 m12 x1 x2 A L o ho))) shapeCasts_S256x128_S256x128⟩ : View.Piece (Elt Ideal) S256x512 .f32) :: ls2 m2 h2 m3 h3 m11 m12 x1 x2 A L o ho

/-- The stores of a chunk into the state, on top of the earlier ones. -/
def step (o : ℕ) (ho : o + 64 ≤ 512) : List (View.Piece (Elt Ideal) S256x512 .f32) :=
  puts (gA m12 A o ho) (kA m2 h2 m12 x1 A o ho) (vA m3 h3 x2 o ho) (get0 m11 L) (get1 m11 (ls1 m2 h2 m3 h3 m11 m12 x1 x2 A L o ho)) (get2 m11 (ls2 m2 h2 m3 h3 m11 m12 x1 x2 A L o ho)) (get3 m11 (ls3 m2 h2 m3 h3 m11 m12 x1 x2 A L o ho)) L

/-- The stores of a chunk into the answers, on top of the earlier ones. -/
def tell (o : ℕ) (ho : o + 64 ≤ 512) : List (View.Piece (Elt Ideal) S512x1024 .f32) :=
  tells (gA m12 A o ho) (kA m2 h2 m12 x1 A o ho) (asks (rowK m1 h1 x0 o ho)) (vA m3 h3 x2 o ho) (get0 m11 L) (get1 m11 (ls1 m2 h2 m3 h3 m11 m12 x1 x2 A L o ho)) (get2 m11 (ls2 m2 h2 m3 h3 m11 m12 x1 x2 A L o ho)) (get3 m11 (ls3 m2 h2 m3 h3 m11 m12 x1 x2 A L o ho)) o (inbO o ho 0 (by decide)) (inbO o ho 256 (by decide)) (inbO o ho 512 (by decide)) (inbO o ho 768 (by decide)) O

/-- The stores of the first chunk of a point that goes on. -/
def step' (o : ℕ) (ho : o + 64 ≤ 512) : List (View.Piece (Elt Ideal) S256x512 .f32) :=
  puts (gA m12 A o ho) (kA m2 h2 m12 x1 A o ho) (vA m3 h3 x2 o ho) (old0 m11 h11 S) (old1 m11 h11 S) (old2 m11 h11 S) (old3 m11 h11 S) L
def tell' (o : ℕ) (ho : o + 64 ≤ 512) : List (View.Piece (Elt Ideal) S512x1024 .f32) :=
  tells (gA m12 A o ho) (kA m2 h2 m12 x1 A o ho) (asks (rowK m1 h1 x0 o ho)) (vA m3 h3 x2 o ho) (old0 m11 h11 S) (old1 m11 h11 S) (old2 m11 h11 S) (old3 m11 h11 S) o (inbO o ho 0 (by decide)) (inbO o ho 256 (by decide)) (inbO o ho 512 (by decide)) (inbO o ho 768 (by decide)) O

theorem rowA_eq (o : ℕ) (ho : o + 64 ≤ 512) (hA : View.canon A = la) : rowA m12 A o ho = pickA la o ho := by
  subst hA
  unfold rowA
  rw [View.readCov_eq_canon']
  generalize View.canon A = f
  rfl

theorem rowK_eq (o : ℕ) (ho : o + 64 ≤ 512) : rowK m2 h2 x1 o ho = pickK x1 o ho := by
  unfold rowK
  simp only [View.readAt_eq_ld, Memref.IsWhole.read_unread]
  rfl

theorem rowV_eq (o : ℕ) (ho : o + 64 ≤ 512) : rowV m3 h3 x2 o ho = pickV x2 o ho := by
  unfold rowV
  simp only [View.readAt_eq_ld, Memref.IsWhole.read_unread]
  rfl

theorem get0_at (a : Fin 256) (k : Fin 128) : get0 m11 L (ix2 a k) = View.canon L (ix2 a ⟨0 + k.val, by omega⟩) :=
  cov (Val := Elt Ideal) (e := .f32) _ _ _ _ _ _ _ a _ (Nat.zero_add _).symm rfl
theorem get1_at (o : ℕ) (ho : o + 64 ≤ 512) (a : Fin 256) (k : Fin 128) : get1 m11 (ls1 m2 h2 m3 h3 m11 m12 x1 x2 A L o ho) (ix2 a k) = View.canon L (ix2 a ⟨128 + k.val, by omega⟩) := by
  refine (cov (Val := Elt Ideal) (e := .f32) _ _ _ _ _ _ _ a ⟨128 + k.val, by omega⟩ (Nat.zero_add _).symm rfl).trans ?_
  unfold ls1
  exact miss _ _ _ _ _ _ _ (by dsimp only; omega)
theorem get2_at (o : ℕ) (ho : o + 64 ≤ 512) (a : Fin 256) (k : Fin 128) : get2 m11 (ls2 m2 h2 m3 h3 m11 m12 x1 x2 A L o ho) (ix2 a k) = View.canon L (ix2 a ⟨256 + k.val, by omega⟩) := by
  refine (cov (Val := Elt Ideal) (e := .f32) _ _ _ _ _ _ _ a ⟨256 + k.val, by omega⟩ (Nat.zero_add _).symm rfl).trans ?_
  unfold ls2 ls1
  exact (miss _ _ _ _ _ _ _ (by dsimp only; omega)).trans (miss _ _ _ _ _ _ _ (by dsimp only; omega))
theorem get3_at (o : ℕ) (ho : o + 64 ≤ 512) (a : Fin 256) (k : Fin 128) : get3 m11 (ls3 m2 h2 m3 h3 m11 m12 x1 x2 A L o ho) (ix2 a k) = View.canon L (ix2 a ⟨384 + k.val, by omega⟩) := by
  refine (cov (Val := Elt Ideal) (e := .f32) _ _ _ _ _ _ _ a ⟨384 + k.val, by omega⟩ (Nat.zero_add _).symm rfl).trans ?_
  unfold ls3 ls2 ls1
  exact (miss _ _ _ _ _ _ _ (by dsimp only; omega)).trans ((miss _ _ _ _ _ _ _ (by dsimp only; omega)).trans (miss _ _ _ _ _ _ _ (by dsimp only; omega)))
theorem old0_at (a : Fin 256) (k : Fin 128) : old0 m11 h11 S (ix2 a k) = S (ix2 a ⟨0 + k.val, by omega⟩) := by
  unfold old0
  simp only [View.readAt_eq_ld, Memref.IsWhole.read_unread]
  exact lda (Val := Elt Ideal) (e := .f32) _ _ _ _ _ _ _ _ (Nat.zero_add _).symm rfl
theorem old1_at (a : Fin 256) (k : Fin 128) : old1 m11 h11 S (ix2 a k) = S (ix2 a ⟨128 + k.val, by omega⟩) := by
  unfold old1
  simp only [View.readAt_eq_ld, Memref.IsWhole.read_unread]
  exact lda (Val := Elt Ideal) (e := .f32) _ _ _ _ _ _ _ _ (Nat.zero_add _).symm rfl
theorem old2_at (a : Fin 256) (k : Fin 128) : old2 m11 h11 S (ix2 a k) = S (ix2 a ⟨256 + k.val, by omega⟩) := by
  unfold old2
  simp only [View.readAt_eq_ld, Memref.IsWhole.read_unread]
  exact lda (Val := Elt Ideal) (e := .f32) _ _ _ _ _ _ _ _ (Nat.zero_add _).symm rfl
theorem old3_at (a : Fin 256) (k : Fin 128) : old3 m11 h11 S (ix2 a k) = S (ix2 a ⟨384 + k.val, by omega⟩) := by
  unfold old3
  simp only [View.readAt_eq_ld, Memref.IsWhole.read_unread]
  exact lda (Val := Elt Ideal) (e := .f32) _ _ _ _ _ _ _ _ (Nat.zero_add _).symm rfl

/-- The element of the answers in the rows of a chunk, from the state after it. -/
def ans (T : FVec Ideal S256x512 .f32) (i : Fin 512) (j : Fin 1024) : EReal :=
  ∑ k : Fin 128, x0 (ix2 i ⟨128 * (j.val / 256) + k.val, by omega⟩) * Ideal.ofBits .f32 0x3DB504F3#32 * T (ix2 ⟨j.val % 256, by omega⟩ ⟨128 * (j.val / 256) + k.val, by omega⟩)

theorem two (y : S256x512.Idx) : y = ix2 (y 0) (y 1) := by
  funext k
  match k with
  | ⟨0, _⟩ => rfl
  | ⟨1, _⟩ => rfl

theorem step_eq (o : ℕ) (ho : o + 64 ≤ 512) (hA : View.canon A = la) : View.canon (step m2 h2 m3 h3 m11 m12 x1 x2 A L o ho) = next x1 x2 la o ho (View.canon L) := by
  funext y
  rw [two y]
  unfold step
  refine (puts_at _ _ _ _ _ _ _ (View.canon L) (get0_at m11 L) (get1_at m2 h2 m3 h3 m11 m12 x1 x2 A L o ho) (get2_at m2 h2 m3 h3 m11 m12 x1 x2 A L o ho) (get3_at m2 h2 m3 h3 m11 m12 x1 x2 A L o ho) _ _ _).trans ?_
  rw [gA, kA, vA, rowA_eq m12 la A o ho hA, rowK_eq, rowV_eq]
  rfl

theorem step'_eq (o : ℕ) (ho : o + 64 ≤ 512) (hA : View.canon A = la) : View.canon (step' m2 h2 m3 h3 m11 h11 m12 x1 x2 S A L o ho) = next x1 x2 la o ho S := by
  funext y
  rw [two y]
  unfold step'
  refine (puts_at _ _ _ _ _ _ _ S (old0_at m11 h11 S) (old1_at m11 h11 S) (old2_at m11 h11 S) (old3_at m11 h11 S) _ _ _).trans ?_
  rw [gA, kA, vA, rowA_eq m12 la A o ho hA, rowK_eq, rowV_eq]
  rfl

theorem tell_eq (o : ℕ) (ho : o + 64 ≤ 512) (hA : View.canon A = la) (i : Fin 512) (j : Fin 1024) : View.canon (tell m1 h1 m2 h2 m3 h3 m11 m12 x0 x1 x2 A L O o ho) (ix2 i j)
    = if o ≤ i.val ∧ i.val < o + 64 then ans x0 (next x1 x2 la o ho (View.canon L)) i j else View.canon O (ix2 i j) := by
  unfold tell
  refine (tells_at _ _ _ _ _ _ _ _ (View.canon L) (get0_at m11 L) (get1_at m2 h2 m3 h3 m11 m12 x1 x2 A L o ho) (get2_at m2 h2 m3 h3 m11 m12 x1 x2 A L o ho) (get3_at m2 h2 m3 h3 m11 m12 x1 x2 A L o ho) _ _ _ _ _ _ _ _).trans ?_
  rw [gA, kA, vA, rowA_eq m12 la A o ho hA, rowK_eq, rowK_eq, rowV_eq]
  split_ifs with h
  · refine Finset.sum_congr rfl fun k _ => ?_
    rw [asks_at]
    refine congrArg (· * _) (congrArg (· * _) ?_)
    exact congrArg (fun z => x0 (ix2 z _)) (Fin.ext (by dsimp only; omega))
  · rfl

theorem tell'_eq (o : ℕ) (ho : o + 64 ≤ 512) (hA : View.canon A = la) (i : Fin 512) (j : Fin 1024) : View.canon (tell' m1 h1 m2 h2 m3 h3 m11 h11 m12 x0 x1 x2 S A O o ho) (ix2 i j)
    = if o ≤ i.val ∧ i.val < o + 64 then ans x0 (next x1 x2 la o ho S) i j else View.canon O (ix2 i j) := by
  unfold tell'
  refine (tells_at _ _ _ _ _ _ _ _ S (old0_at m11 h11 S) (old1_at m11 h11 S) (old2_at m11 h11 S) (old3_at m11 h11 S) _ _ _ _ _ _ _ _).trans ?_
  rw [gA, kA, vA, rowA_eq m12 la A o ho hA, rowK_eq, rowK_eq, rowV_eq]
  split_ifs with h
  · refine Finset.sum_congr rfl fun k _ => ?_
    rw [asks_at]
    refine congrArg (· * _) (congrArg (· * _) ?_)
    exact congrArg (fun z => x0 (ix2 z _)) (Fin.ext (by dsimp only; omega))
  · rfl

/-- The stores into the state from a chunk on. -/
def sts (b : ℕ) : ℕ → List (View.Piece (Elt Ideal) S256x512 .f32)
  | 0 => L
  | m + 1 => step m2 h2 m3 h3 m11 m12 x1 x2 A (sts b m) (64 * ((b + m) % 8)) (by omega)

/-- The stores into the answers from a chunk on. -/
def tls (b : ℕ) : ℕ → List (View.Piece (Elt Ideal) S512x1024 .f32)
  | 0 => O
  | m + 1 => tell m1 h1 m2 h2 m3 h3 m11 m12 x0 x1 x2 A (sts m2 h2 m3 h3 m11 m12 x1 x2 A L b m) (tls b m) (64 * ((b + m) % 8)) (by omega)

theorem sts_eq (hA : View.canon A = la) (b : ℕ) (hL : View.canon L = chain x1 x2 la S b) (m : ℕ) :
    View.canon (sts m2 h2 m3 h3 m11 m12 x1 x2 A L b m) = chain x1 x2 la S (b + m) := by
  induction m with
  | zero => exact hL
  | succ m ih =>
    rw [sts, step_eq _ _ _ _ _ _ _ _ la _ _ _ _ hA, ih]
    rfl

theorem tls_eq (hA : View.canon A = la) (b : ℕ) (hL : View.canon L = chain x1 x2 la S b) (j : Fin 1024)
    (hO : ∀ i : Fin 512, i.val < 64 * b → View.canon O (ix2 i j) = ans x0 (chain x1 x2 la S (i.val / 64 + 1)) i j) (m : ℕ) (hm : b + m ≤ 8) (i : Fin 512) (hi : i.val < 64 * (b + m)) :
    View.canon (tls m1 h1 m2 h2 m3 h3 m11 m12 x0 x1 x2 A L O b m) (ix2 i j) = ans x0 (chain x1 x2 la S (i.val / 64 + 1)) i j := by
  induction m with
  | zero => exact hO i hi
  | succ m ih =>
    rw [tls, tell_eq _ _ _ _ _ _ _ _ _ _ _ la _ _ _ _ _ hA, sts_eq _ _ _ _ _ _ _ _ la S _ _ hA b hL]
    split_ifs with h
    · rw [show i.val / 64 = b + m by omega]
      rfl
    · exact ih (by omega) (by omega)

/-- The stores into the result. -/
def cells : List (View.Piece (Elt Ideal) S512x1024 .bf16) :=
  [(⟨Rect.unit ![0, 768] S512x256.size inb_S512x1024_S512x256_0_768, fin (F := Ideal) (m13.view.readCov O (Rect.unit (s := S512x1024) ![0, 768] S512x256.size inb_S512x1024_S512x256_0_768).toLoadRect) (View.readAt (Elt Ideal) m4.view (Rect.unit (s := S512x1024) ![0, 768] S512x256.size inb_S512x1024_S512x256_0_768).toLoadRect (h4.unread x3)) (View.readAt (Elt Ideal) m8.view (Rect.unit (s := S1x256) ![0, 0] S1x256.size inb_S1x256_S1x256_0_0).toLoadRect (h8.unread x7))⟩ : View.Piece (Elt Ideal) S512x1024 .bf16),
  (⟨Rect.unit ![0, 512] S512x256.size inb_S512x1024_S512x256_0_512, fin (F := Ideal) (m13.view.readCov O (Rect.unit (s := S512x1024) ![0, 512] S512x256.size inb_S512x1024_S512x256_0_512).toLoadRect) (View.readAt (Elt Ideal) m4.view (Rect.unit (s := S512x1024) ![0, 512] S512x256.size inb_S512x1024_S512x256_0_512).toLoadRect (h4.unread x3)) (View.readAt (Elt Ideal) m8.view (Rect.unit (s := S1x256) ![0, 0] S1x256.size inb_S1x256_S1x256_0_0).toLoadRect (h8.unread x7))⟩ : View.Piece (Elt Ideal) S512x1024 .bf16),
  (⟨Rect.unit ![0, 256] S512x256.size inb_S512x1024_S512x256_0_256, fin (F := Ideal) (m13.view.readCov O (Rect.unit (s := S512x1024) ![0, 256] S512x256.size inb_S512x1024_S512x256_0_256).toLoadRect) (View.readAt (Elt Ideal) m4.view (Rect.unit (s := S512x1024) ![0, 256] S512x256.size inb_S512x1024_S512x256_0_256).toLoadRect (h4.unread x3)) (View.readAt (Elt Ideal) m8.view (Rect.unit (s := S1x256) ![0, 0] S1x256.size inb_S1x256_S1x256_0_0).toLoadRect (h8.unread x7))⟩ : View.Piece (Elt Ideal) S512x1024 .bf16),
  (⟨Rect.unit ![0, 0] S512x256.size inb_S512x1024_S512x256_0_0, fin (F := Ideal) (m13.view.readCov O (Rect.unit (s := S512x1024) ![0, 0] S512x256.size inb_S512x1024_S512x256_0_0).toLoadRect) (View.readAt (Elt Ideal) m4.view (Rect.unit (s := S512x1024) ![0, 0] S512x256.size inb_S512x1024_S512x256_0_0).toLoadRect (h4.unread x3)) (View.readAt (Elt Ideal) m8.view (Rect.unit (s := S1x256) ![0, 0] S1x256.size inb_S1x256_S1x256_0_0).toLoadRect (h8.unread x7))⟩ : View.Piece (Elt Ideal) S512x1024 .bf16)]

/-- The columns of a head of the result at an index. -/
theorem cell (o : ℕ) (ho : o + 256 ≤ 1024) (inb) (i : Fin 512) (a : Fin 256) :
    fin (F := Ideal) (m13.view.readCov O (Rect.unit (s := S512x1024) ![0, o] S512x256.size inb).toLoadRect) (View.readAt (Elt Ideal) m4.view (Rect.unit (s := S512x1024) ![0, o] S512x256.size inb).toLoadRect (h4.unread x3)) (View.readAt (Elt Ideal) m8.view (Rect.unit (s := S1x256) ![0, 0] S1x256.size inb_S1x256_S1x256_0_0).toLoadRect (h8.unread x7)) (ix2 i a)
      = elem (fun k => View.canon O (ix2 i ⟨o + k.val, by omega⟩)) (x3 (ix2 i ⟨o + a.val, by omega⟩)) (x7 (ix2 0 a)) a := by
  rw [fin_at]
  simp only [View.readAt_eq_ld, Memref.IsWhole.read_unread]
  refine congr (congr (congr (congrArg elem ?_) ?_) ?_) rfl
  · funext k
    exact cov (Val := Elt Ideal) (e := .f32) _ _ _ _ _ _ _ _ _ (Nat.zero_add _).symm rfl
  · exact lda (Val := Elt Ideal) (e := .bf16) _ _ _ _ _ _ _ _ (Nat.zero_add _).symm rfl
  · exact lda (Val := Elt Ideal) (e := .f32) _ _ _ _ _ _ _ _ (Nat.zero_add _).symm (Nat.zero_add _).symm

theorem cells_at (i : Fin 512) (j : Fin 1024) : View.canon (cells m4 h4 m8 h8 m13 x3 x7 O) (ix2 i j)
    = elem (fun k => View.canon O (ix2 i ⟨256 * (j.val / 256) + k.val, by omega⟩)) (x3 (ix2 i j)) (x7 (ix2 0 ⟨j.val % 256, by omega⟩)) ⟨j.val % 256, by omega⟩ := by
  unfold cells
  have key : ∀ (o : ℕ) (ho : o + 256 ≤ 1024) (a : Fin 256), j.val = o + a.val → o % 256 = 0 →
      elem (fun k => View.canon O (ix2 i ⟨o + k.val, by omega⟩)) (x3 (ix2 i ⟨o + a.val, by omega⟩)) (x7 (ix2 0 a)) a
        = elem (fun k => View.canon O (ix2 i ⟨256 * (j.val / 256) + k.val, by omega⟩)) (x3 (ix2 i j)) (x7 (ix2 0 ⟨j.val % 256, by omega⟩)) ⟨j.val % 256, by omega⟩ := by
    intro o ho a hj h0
    have e1 : (⟨o + a.val, by omega⟩ : Fin 1024) = j := Fin.ext hj.symm
    have e2 : (⟨j.val % 256, by omega⟩ : Fin 256) = a := Fin.ext (by dsimp only; omega)
    have e3 : o = 256 * (j.val / 256) := by omega
    rw [e1, e2]
    subst e3
    rfl
  by_cases c3 : 768 ≤ j.val
  · obtain ⟨a, hj⟩ : ∃ a : Fin 256, j.val = 768 + a.val := ⟨⟨j.val - 768, by omega⟩, by dsimp only; omega⟩
    refine (hit _ _ _ _ _ _ _ i a (Nat.zero_add _).symm hj).trans ((cell m4 h4 m8 h8 m13 x3 x7 O 768 (by decide) _ i a).trans (key 768 (by decide) a hj rfl))
  refine (miss _ _ _ _ _ _ _ (by omega)).trans ?_
  by_cases c2 : 512 ≤ j.val
  · obtain ⟨a, hj⟩ : ∃ a : Fin 256, j.val = 512 + a.val := ⟨⟨j.val - 512, by omega⟩, by dsimp only; omega⟩
    refine (hit _ _ _ _ _ _ _ i a (Nat.zero_add _).symm hj).trans ((cell m4 h4 m8 h8 m13 x3 x7 O 512 (by decide) _ i a).trans (key 512 (by decide) a hj rfl))
  refine (miss _ _ _ _ _ _ _ (by omega)).trans ?_
  by_cases c1 : 256 ≤ j.val
  · obtain ⟨a, hj⟩ : ∃ a : Fin 256, j.val = 256 + a.val := ⟨⟨j.val - 256, by omega⟩, by dsimp only; omega⟩
    refine (hit _ _ _ _ _ _ _ i a (Nat.zero_add _).symm hj).trans ((cell m4 h4 m8 h8 m13 x3 x7 O 256 (by decide) _ i a).trans (key 256 (by decide) a hj rfl))
  refine (miss _ _ _ _ _ _ _ (by omega)).trans ?_
  obtain ⟨a, hj⟩ : ∃ a : Fin 256, j.val = 0 + a.val := ⟨⟨j.val, by omega⟩, by dsimp only; omega⟩
  exact (hit _ _ _ _ _ _ _ i a (Nat.zero_add _).symm hj).trans ((cell m4 h4 m8 h8 m13 x3 x7 O 0 (by decide) _ i a).trans (key 0 (by decide) a hj rfl))

/-- The state after a chunk, as stored among the results. -/
def plane : FVec Ideal S1x256x512 .bf16 := k0_pay159 (F := Ideal) (m11.view.readCov L (Rect.unit (s := S256x512) ![0, 0] S256x512.size inb_S256x512_S256x512_0_0).toLoadRect)

theorem plane_at (a : Fin 256) (b : Fin 512) : plane m11 L (ix3 0 a b) = View.canon L (ix2 a b) := by
  have h : ∀ w : FVec Ideal S256x512 .f32, (k0_pay159 (F := Ideal) w : FVec Ideal S1x256x512 .bf16) (ix3 0 a b) = w (ix2 a b) := fun w => by pointwise [k0_pay159]
  exact (h _).trans (cov (Val := Elt Ideal) (e := .f32) _ _ _ _ _ _ _ _ _ (Nat.zero_add _).symm (Nat.zero_add _).symm)

/-- The stores of the states into the results. -/
def planes (st : ℕ → List (View.Piece (Elt Ideal) S256x512 .f32)) : List (View.Piece (Elt Ideal) S8x256x512 .bf16) :=
  [(⟨Rect.unit ![7, 0, 0] S1x256x512.size inb_S8x256x512_S1x256x512_7_0_0, plane m11 (st 7)⟩ : View.Piece (Elt Ideal) S8x256x512 .bf16),
  (⟨Rect.unit ![6, 0, 0] S1x256x512.size inb_S8x256x512_S1x256x512_6_0_0, plane m11 (st 6)⟩ : View.Piece (Elt Ideal) S8x256x512 .bf16),
  (⟨Rect.unit ![5, 0, 0] S1x256x512.size inb_S8x256x512_S1x256x512_5_0_0, plane m11 (st 5)⟩ : View.Piece (Elt Ideal) S8x256x512 .bf16),
  (⟨Rect.unit ![4, 0, 0] S1x256x512.size inb_S8x256x512_S1x256x512_4_0_0, plane m11 (st 4)⟩ : View.Piece (Elt Ideal) S8x256x512 .bf16),
  (⟨Rect.unit ![3, 0, 0] S1x256x512.size inb_S8x256x512_S1x256x512_3_0_0, plane m11 (st 3)⟩ : View.Piece (Elt Ideal) S8x256x512 .bf16),
  (⟨Rect.unit ![2, 0, 0] S1x256x512.size inb_S8x256x512_S1x256x512_2_0_0, plane m11 (st 2)⟩ : View.Piece (Elt Ideal) S8x256x512 .bf16),
  (⟨Rect.unit ![1, 0, 0] S1x256x512.size inb_S8x256x512_S1x256x512_1_0_0, plane m11 (st 1)⟩ : View.Piece (Elt Ideal) S8x256x512 .bf16),
  (⟨Rect.unit ![0, 0, 0] S1x256x512.size inb_S8x256x512_S1x256x512_0_0_0, plane m11 (st 0)⟩ : View.Piece (Elt Ideal) S8x256x512 .bf16)]

theorem planes_at (st : ℕ → List (View.Piece (Elt Ideal) S256x512 .f32)) (n : Fin 8) (a : Fin 256) (b : Fin 512) :
    View.canon (planes m11 st) (ix3 n a b) = View.canon (st n.val) (ix2 a b) := by
  unfold planes
  by_cases c7 : n.val = 7
  · rw [c7]
    exact (hit3 _ _ _ _ n a b c7).trans (plane_at _ _ a b)
  refine (miss3 _ _ _ _ n a b c7).trans ?_
  by_cases c6 : n.val = 6
  · rw [c6]
    exact (hit3 _ _ _ _ n a b c6).trans (plane_at _ _ a b)
  refine (miss3 _ _ _ _ n a b c6).trans ?_
  by_cases c5 : n.val = 5
  · rw [c5]
    exact (hit3 _ _ _ _ n a b c5).trans (plane_at _ _ a b)
  refine (miss3 _ _ _ _ n a b c5).trans ?_
  by_cases c4 : n.val = 4
  · rw [c4]
    exact (hit3 _ _ _ _ n a b c4).trans (plane_at _ _ a b)
  refine (miss3 _ _ _ _ n a b c4).trans ?_
  by_cases c3 : n.val = 3
  · rw [c3]
    exact (hit3 _ _ _ _ n a b c3).trans (plane_at _ _ a b)
  refine (miss3 _ _ _ _ n a b c3).trans ?_
  by_cases c2 : n.val = 2
  · rw [c2]
    exact (hit3 _ _ _ _ n a b c2).trans (plane_at _ _ a b)
  refine (miss3 _ _ _ _ n a b c2).trans ?_
  by_cases c1 : n.val = 1
  · rw [c1]
    exact (hit3 _ _ _ _ n a b c1).trans (plane_at _ _ a b)
  refine (miss3 _ _ _ _ n a b c1).trans ?_
  have c0 : n.val = 0 := by omega
  rw [c0]
  exact (hit3 _ _ _ _ n a b c0).trans (plane_at _ _ a b)
end Lists
end Cert.GlaForward
-- ==== Proof.GlaPoint.lean ====
/- What a point leaves: its results and the state after it, in the first point and in a point that goes on. -/
module

public import proofs.«01_k».proof.Proof.GlaStores
public import proofs.«01_k».proof.Proof.Common

@[expose] public section

set_option maxRecDepth 16384

noncomputable section

namespace Cert.GlaForward

open Idealize.ShloMosaic Idealize.ShloMosaic.TcCoe Idealize.SL.Sem
open Cert.GlaFwdIdeal Cert.GlaFwdIdeal.Gen

section PointA

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S512x1024 .bf16) (harg9 : arg9.IsWhole) (arg10 : Memref sig .tc .vmem S8x256x512 .bf16) (harg10 : arg10.IsWhole) (arg11 : Memref sig .tc .vmem S256x512 .f32) (harg11 : arg11.IsWhole) (arg12 : Memref sig .tc .vmem S512x512 .f32) (harg12 : arg12.IsWhole) (arg13 : Memref sig .tc .vmem S512x1024 .f32) (harg13 : arg13.IsWhole) (hc0 : cond0_0 i)
  (x0 : FVec Ideal S512x512 .bf16) (x1 : FVec Ideal S512x512 .bf16) (x2 : FVec Ideal S512x1024 .bf16) (x3 : FVec Ideal S512x1024 .bf16) (x4 : FVec Ideal S512x128 .bf16) (x5 : FVec Ideal S128x512 .bf16) (x6 : FVec Ideal S1x512 .f32) (x7 : FVec Ideal S1x256 .f32)

/-- The logarithmic decay of the point's rows. -/
theorem decayA : View.canon (kernelRun0_A.sl.HS1_1 (F := Ideal) c arg5 harg5 arg6 harg6 arg7 harg7 x4 x5 x6) = k0_pay2 (F := Ideal) x4 x5 x6 := by
  unfold kernelRun0_A.sl.HS1_1
  simp (disch := decide) only [View.canon_cons_unit_lit', View.ld_unit_lit', View.readAt_eq_ld, Memref.IsWhole.read_unread]

/-- The first point starts from zero. -/
theorem zeroA : View.canon (kernelRun0_A.sl.HS0_1 (F := Ideal) ) = k0_pay1 (F := Ideal) := by
  unfold kernelRun0_A.sl.HS0_1
  simp (disch := decide) only [View.canon_cons_unit_lit']

theorem stateA : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = chain x1 x2 (k0_pay2 (F := Ideal) x4 x5 x6) (k0_pay1 (F := Ideal)) 8 := by
  unfold sout0_A_0
  rw [View.read_writes_junk_eq_canon]
  refine (show _ = View.canon (sts arg2 harg2 arg3 harg3 arg11 arg12 x1 x2 (kernelRun0_A.sl.HS1_1 (F := Ideal) c arg5 harg5 arg6 harg6 arg7 harg7 x4 x5 x6) (kernelRun0_A.sl.HS0_1 (F := Ideal) ) 0 8) from rfl).trans ?_
  exact sts_eq arg2 harg2 arg3 harg3 arg11 arg12 x1 x2 (k0_pay2 (F := Ideal) x4 x5 x6) (k0_pay1 (F := Ideal)) (kernelRun0_A.sl.HS1_1 (F := Ideal) c arg5 harg5 arg6 harg6 arg7 harg7 x4 x5 x6) (kernelRun0_A.sl.HS0_1 (F := Ideal) ) (decayA c arg5 harg5 arg6 harg6 arg7 harg7 x4 x5 x6) 0 (zeroA) 8

theorem planesA (n : Fin 8) (a : Fin 256) (b : Fin 512) : (out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 : FVec Ideal S8x256x512 .bf16) (ix3 n a b) = chain x1 x2 (k0_pay2 (F := Ideal) x4 x5 x6) (k0_pay1 (F := Ideal)) (n.val + 1) (ix2 a b) := by
  unfold out0_A_9
  rw [View.read_writes_junk_eq_canon]
  refine (show _ = View.canon (planes arg11 (fun n => sts arg2 harg2 arg3 harg3 arg11 arg12 x1 x2 (kernelRun0_A.sl.HS1_1 (F := Ideal) c arg5 harg5 arg6 harg6 arg7 harg7 x4 x5 x6) (kernelRun0_A.sl.HS0_1 (F := Ideal) ) 0 (n + 1))) (ix3 n a b) from rfl).trans ((planes_at _ _ n a b).trans ?_)
  refine congrFun ((sts_eq arg2 harg2 arg3 harg3 arg11 arg12 x1 x2 (k0_pay2 (F := Ideal) x4 x5 x6) (k0_pay1 (F := Ideal)) (kernelRun0_A.sl.HS1_1 (F := Ideal) c arg5 harg5 arg6 harg6 arg7 harg7 x4 x5 x6) (kernelRun0_A.sl.HS0_1 (F := Ideal) ) (decayA c arg5 harg5 arg6 harg6 arg7 harg7 x4 x5 x6) 0 (zeroA) _).trans ?_) _
  exact congrArg (chain x1 x2 (k0_pay2 (F := Ideal) x4 x5 x6) (k0_pay1 (F := Ideal))) (by omega)

theorem cellsA (i' : Fin 512) (j : Fin 1024) : (out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 : FVec Ideal S512x1024 .bf16) (ix2 i' j)
    = elem (fun k => ans x0 (chain x1 x2 (k0_pay2 (F := Ideal) x4 x5 x6) (k0_pay1 (F := Ideal)) (i'.val / 64 + 1)) i' ⟨256 * (j.val / 256) + k.val, by omega⟩) (x3 (ix2 i' j)) (x7 (ix2 0 ⟨j.val % 256, by omega⟩)) ⟨j.val % 256, by omega⟩ := by
  unfold out0_A_8
  rw [View.read_writes_junk_eq_canon]
  refine (show _ = View.canon (cells arg4 harg4 arg8 harg8 arg13 x3 x7 (tls arg1 harg1 arg2 harg2 arg3 harg3 arg11 arg12 x0 x1 x2 (kernelRun0_A.sl.HS1_1 (F := Ideal) c arg5 harg5 arg6 harg6 arg7 harg7 x4 x5 x6) (kernelRun0_A.sl.HS0_1 (F := Ideal) ) [] 0 8)) (ix2 i' j) from rfl).trans ((cells_at _ _ _ _ _ _ _ _ i' j).trans ?_)
  refine congrArg (fun f => elem f _ _ _) (funext fun k => ?_)
  generalize (⟨256 * (j.val / 256) + k.val, by omega⟩ : Fin 1024) = j
  exact tls_eq arg1 harg1 arg2 harg2 arg3 harg3 arg11 arg12 x0 x1 x2 (k0_pay2 (F := Ideal) x4 x5 x6) (k0_pay1 (F := Ideal)) (kernelRun0_A.sl.HS1_1 (F := Ideal) c arg5 harg5 arg6 harg6 arg7 harg7 x4 x5 x6) (kernelRun0_A.sl.HS0_1 (F := Ideal) ) [] (decayA c arg5 harg5 arg6 harg6 arg7 harg7 x4 x5 x6) 0 (zeroA) j (fun i hi => absurd hi (by omega)) 8 (le_refl _) i' (by omega)

end PointA

section PointB

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S512x1024 .bf16) (harg9 : arg9.IsWhole) (arg10 : Memref sig .tc .vmem S8x256x512 .bf16) (harg10 : arg10.IsWhole) (arg11 : Memref sig .tc .vmem S256x512 .f32) (harg11 : arg11.IsWhole) (arg12 : Memref sig .tc .vmem S512x512 .f32) (harg12 : arg12.IsWhole) (arg13 : Memref sig .tc .vmem S512x1024 .f32) (harg13 : arg13.IsWhole) (hc0 : ¬cond0_0 i)
  (x0 : FVec Ideal S512x512 .bf16) (x1 : FVec Ideal S512x512 .bf16) (x2 : FVec Ideal S512x1024 .bf16) (x3 : FVec Ideal S512x1024 .bf16) (x4 : FVec Ideal S512x128 .bf16) (x5 : FVec Ideal S128x512 .bf16) (x6 : FVec Ideal S1x512 .f32) (x7 : FVec Ideal S1x256 .f32) (xs0 : FVec Ideal S256x512 .f32)

/-- The logarithmic decay of the point's rows. -/
theorem decayB : View.canon (kernelRun0_B.sl.HS1_1 (F := Ideal) c arg5 harg5 arg6 harg6 arg7 harg7 x4 x5 x6) = k0_pay2 (F := Ideal) x4 x5 x6 := by
  unfold kernelRun0_B.sl.HS1_1
  simp (disch := decide) only [View.canon_cons_unit_lit', View.ld_unit_lit', View.readAt_eq_ld, Memref.IsWhole.read_unread]

theorem startB : View.canon (kernelRun0_B.sl.HS0_4 (F := Ideal) c arg2 harg2 arg3 harg3 arg5 harg5 arg6 harg6 arg7 harg7 arg11 harg11 arg12 x1 x2 x4 x5 x6 xs0) = chain x1 x2 (k0_pay2 (F := Ideal) x4 x5 x6) xs0 1 :=
  (congrArg View.canon (show (kernelRun0_B.sl.HS0_4 (F := Ideal) c arg2 harg2 arg3 harg3 arg5 harg5 arg6 harg6 arg7 harg7 arg11 harg11 arg12 x1 x2 x4 x5 x6 xs0) = (step' arg2 harg2 arg3 harg3 arg11 harg11 arg12 x1 x2 xs0 (kernelRun0_B.sl.HS1_1 (F := Ideal) c arg5 harg5 arg6 harg6 arg7 harg7 x4 x5 x6) [] 0 (by decide)) from rfl)).trans <| (step'_eq arg2 harg2 arg3 harg3 arg11 harg11 arg12 x1 x2 (k0_pay2 (F := Ideal) x4 x5 x6) xs0 (kernelRun0_B.sl.HS1_1 (F := Ideal) c arg5 harg5 arg6 harg6 arg7 harg7 x4 x5 x6) [] 0 (by decide) (decayB c arg5 harg5 arg6 harg6 arg7 harg7 x4 x5 x6)).trans (by rw [chain, chain])

theorem firstB (j : Fin 1024) (i : Fin 512) (hi : i.val < 64 * 1) : View.canon (tell' arg1 harg1 arg2 harg2 arg3 harg3 arg11 harg11 arg12 x0 x1 x2 xs0 (kernelRun0_B.sl.HS1_1 (F := Ideal) c arg5 harg5 arg6 harg6 arg7 harg7 x4 x5 x6) [] 0 (by decide)) (ix2 i j) = ans x0 (chain x1 x2 (k0_pay2 (F := Ideal) x4 x5 x6) xs0 (i.val / 64 + 1)) i j := by
  refine (tell'_eq arg1 harg1 arg2 harg2 arg3 harg3 arg11 harg11 arg12 x0 x1 x2 (k0_pay2 (F := Ideal) x4 x5 x6) xs0 (kernelRun0_B.sl.HS1_1 (F := Ideal) c arg5 harg5 arg6 harg6 arg7 harg7 x4 x5 x6) [] 0 (by decide) (decayB c arg5 harg5 arg6 harg6 arg7 harg7 x4 x5 x6) i j).trans ((if_pos ⟨Nat.zero_le _, by omega⟩).trans ?_)
  rw [show i.val / 64 = 0 by omega, chain, chain]

theorem stateB : sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = chain x1 x2 (k0_pay2 (F := Ideal) x4 x5 x6) xs0 8 := by
  unfold sout0_B_0
  rw [View.read_writes_junk_eq_canon]
  refine (show _ = View.canon (sts arg2 harg2 arg3 harg3 arg11 arg12 x1 x2 (kernelRun0_B.sl.HS1_1 (F := Ideal) c arg5 harg5 arg6 harg6 arg7 harg7 x4 x5 x6) (kernelRun0_B.sl.HS0_4 (F := Ideal) c arg2 harg2 arg3 harg3 arg5 harg5 arg6 harg6 arg7 harg7 arg11 harg11 arg12 x1 x2 x4 x5 x6 xs0) 1 7) from rfl).trans ?_
  exact sts_eq arg2 harg2 arg3 harg3 arg11 arg12 x1 x2 (k0_pay2 (F := Ideal) x4 x5 x6) xs0 (kernelRun0_B.sl.HS1_1 (F := Ideal) c arg5 harg5 arg6 harg6 arg7 harg7 x4 x5 x6) (kernelRun0_B.sl.HS0_4 (F := Ideal) c arg2 harg2 arg3 harg3 arg5 harg5 arg6 harg6 arg7 harg7 arg11 harg11 arg12 x1 x2 x4 x5 x6 xs0) (decayB c arg5 harg5 arg6 harg6 arg7 harg7 x4 x5 x6) 1 (startB c arg2 harg2 arg3 harg3 arg5 harg5 arg6 harg6 arg7 harg7 arg11 harg11 arg12 x1 x2 x4 x5 x6 xs0) 7

theorem planesB (n : Fin 8) (a : Fin 256) (b : Fin 512) : (out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 : FVec Ideal S8x256x512 .bf16) (ix3 n a b) = chain x1 x2 (k0_pay2 (F := Ideal) x4 x5 x6) xs0 (n.val + 1) (ix2 a b) := by
  unfold out0_B_9
  rw [View.read_writes_junk_eq_canon]
  refine (show _ = View.canon (planes arg11 (fun n => sts arg2 harg2 arg3 harg3 arg11 arg12 x1 x2 (kernelRun0_B.sl.HS1_1 (F := Ideal) c arg5 harg5 arg6 harg6 arg7 harg7 x4 x5 x6) (kernelRun0_B.sl.HS0_4 (F := Ideal) c arg2 harg2 arg3 harg3 arg5 harg5 arg6 harg6 arg7 harg7 arg11 harg11 arg12 x1 x2 x4 x5 x6 xs0) 1 (n))) (ix3 n a b) from rfl).trans ((planes_at _ _ n a b).trans ?_)
  refine congrFun ((sts_eq arg2 harg2 arg3 harg3 arg11 arg12 x1 x2 (k0_pay2 (F := Ideal) x4 x5 x6) xs0 (kernelRun0_B.sl.HS1_1 (F := Ideal) c arg5 harg5 arg6 harg6 arg7 harg7 x4 x5 x6) (kernelRun0_B.sl.HS0_4 (F := Ideal) c arg2 harg2 arg3 harg3 arg5 harg5 arg6 harg6 arg7 harg7 arg11 harg11 arg12 x1 x2 x4 x5 x6 xs0) (decayB c arg5 harg5 arg6 harg6 arg7 harg7 x4 x5 x6) 1 (startB c arg2 harg2 arg3 harg3 arg5 harg5 arg6 harg6 arg7 harg7 arg11 harg11 arg12 x1 x2 x4 x5 x6 xs0) _).trans ?_) _
  exact congrArg (chain x1 x2 (k0_pay2 (F := Ideal) x4 x5 x6) xs0) (by omega)

theorem cellsB (i' : Fin 512) (j : Fin 1024) : (out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 : FVec Ideal S512x1024 .bf16) (ix2 i' j)
    = elem (fun k => ans x0 (chain x1 x2 (k0_pay2 (F := Ideal) x4 x5 x6) xs0 (i'.val / 64 + 1)) i' ⟨256 * (j.val / 256) + k.val, by omega⟩) (x3 (ix2 i' j)) (x7 (ix2 0 ⟨j.val % 256, by omega⟩)) ⟨j.val % 256, by omega⟩ := by
  unfold out0_B_8
  rw [View.read_writes_junk_eq_canon]
  refine (show _ = View.canon (cells arg4 harg4 arg8 harg8 arg13 x3 x7 (tls arg1 harg1 arg2 harg2 arg3 harg3 arg11 arg12 x0 x1 x2 (kernelRun0_B.sl.HS1_1 (F := Ideal) c arg5 harg5 arg6 harg6 arg7 harg7 x4 x5 x6) (kernelRun0_B.sl.HS0_4 (F := Ideal) c arg2 harg2 arg3 harg3 arg5 harg5 arg6 harg6 arg7 harg7 arg11 harg11 arg12 x1 x2 x4 x5 x6 xs0) (tell' arg1 harg1 arg2 harg2 arg3 harg3 arg11 harg11 arg12 x0 x1 x2 xs0 (kernelRun0_B.sl.HS1_1 (F := Ideal) c arg5 harg5 arg6 harg6 arg7 harg7 x4 x5 x6) [] 0 (by decide)) 1 7)) (ix2 i' j) from rfl).trans ((cells_at _ _ _ _ _ _ _ _ i' j).trans ?_)
  refine congrArg (fun f => elem f _ _ _) (funext fun k => ?_)
  generalize (⟨256 * (j.val / 256) + k.val, by omega⟩ : Fin 1024) = j
  exact tls_eq arg1 harg1 arg2 harg2 arg3 harg3 arg11 arg12 x0 x1 x2 (k0_pay2 (F := Ideal) x4 x5 x6) xs0 (kernelRun0_B.sl.HS1_1 (F := Ideal) c arg5 harg5 arg6 harg6 arg7 harg7 x4 x5 x6) (kernelRun0_B.sl.HS0_4 (F := Ideal) c arg2 harg2 arg3 harg3 arg5 harg5 arg6 harg6 arg7 harg7 arg11 harg11 arg12 x1 x2 x4 x5 x6 xs0) (tell' arg1 harg1 arg2 harg2 arg3 harg3 arg11 harg11 arg12 x0 x1 x2 xs0 (kernelRun0_B.sl.HS1_1 (F := Ideal) c arg5 harg5 arg6 harg6 arg7 harg7 x4 x5 x6) [] 0 (by decide)) (decayB c arg5 harg5 arg6 harg6 arg7 harg7 x4 x5 x6) 1 (startB c arg2 harg2 arg3 harg3 arg5 harg5 arg6 harg6 arg7 harg7 arg11 harg11 arg12 x1 x2 x4 x5 x6 xs0) j (firstB c arg1 harg1 arg2 harg2 arg3 harg3 arg5 harg5 arg6 harg6 arg7 harg7 arg11 harg11 arg12 x0 x1 x2 x4 x5 x6 xs0 j) 7 (le_refl _) i' (by omega)

end PointB

end Cert.GlaForward
-- ==== Proof.GlaState.lean ====
/- The results of the whole run, at each index. -/
module

public import proofs.«01_k».proof.Proof.GlaPoint
public import proofs.«01_k».proof.Proof.Common

@[expose] public section

set_option maxRecDepth 16384

noncomputable section

namespace Cert.GlaForward

open Idealize.ShloMosaic Idealize.ShloMosaic.TcCoe Idealize.SL.Sem
open Cert.GlaFwdIdeal Cert.GlaFwdIdeal.Gen

variable (m : (ℓ : Loc nD τ sig) → Buf (Elt Ideal) ℓ) (c : Dev nD)

/-- Where the windows stand at each point of the grid. -/
theorem places : ∀ t : Fin cfg0.N, win0_0.index t = ![t.val, 0] ∧ win0_1.index t = ![t.val, 1] ∧ win0_2.index t = ![t.val, 1] ∧ win0_3.index t = ![t.val, 2]
    ∧ win0_4.index t = ![t.val, 64] ∧ win0_5.index t = ![0, 0] ∧ win0_6.index t = ![0, 0] ∧ win0_7.index t = ![0, 0]
    ∧ win0_8.index t = ![t.val, 0] ∧ win0_9.index t = ![t.val, 0, 0] :=
  (by decide +kernel : ∀ t : Fin grid0.N, _)

/-- The row of the array at a row of a point's block. -/
def row (t : Fin cfg0.N) (a : Fin 512) : Fin 4096 := ⟨t.val * 512 + a.val, by have h := lt_of_lt_of_eq t.isLt N_0; omega⟩

/-- The chunk of the array at a chunk of a point. -/
def part (t : Fin cfg0.N) (n : Fin 8) : Fin 64 := ⟨t.val * 8 + n.val, by have h := lt_of_lt_of_eq t.isLt N_0; omega⟩

section Whole

variable (X : FVec Ideal S4096x8320 .bf16) (W : FVec Ideal S128x512 .bf16) (B : FVec Ideal S1x512 .f32) (G : FVec Ideal S1x256 .f32)

/-- The gate's argument at a row and a column. -/
def arg (r : Fin 4096) (b : Fin 512) : EReal := (∑ z : Fin 128, X (ix2 r ⟨8192 + z.val, by omega⟩) * W (ix2 z b)) + B (ix2 0 b)

/-- The logarithmic decay of a gate's argument. -/
def decay (x : EReal) : EReal := (min x (Ideal.ofBits .f32 0x00000000#32) - Ideal.log1p (Ideal.exp (Ideal.ofBits .f32 0x00000000#32 - max x (-x)))) * Ideal.ofBits .f32 0x3D800000#32

/-- A row of a chunk. -/
def line (n : ℕ) (l : Fin 64) : Fin 4096 := ⟨64 * (n % 64) + l.val, by omega⟩

/-- The running sum of the logarithmic decay inside a chunk. -/
def run (n : ℕ) (a : Fin 64) (b : Fin 512) : EReal := ∑ l : Fin 64, k0_pay3 (F := Ideal) (ix2 a l) * decay (arg X W B (line n l) b)

/-- The state before each chunk. -/
def big : ℕ → Fin 256 → Fin 512 → EReal
  | 0 => fun _ _ => Ideal.ofBits .f32 0x00000000#32
  | n + 1 => fun a b => big n a b * Ideal.exp (run X W B n 63 b)
      + ∑ l : Fin 64, X (ix2 (line n l) ⟨1024 + (col b a).val, by omega⟩) * (X (ix2 (line n l) ⟨512 + b.val, by omega⟩) * Ideal.exp (run X W B n 63 b - run X W B n l b))

/-- The answers at a row. -/
def reply (r : Fin 4096) (j : Fin 1024) : EReal :=
  ∑ k : Fin 128, X (ix2 r ⟨128 * (j.val / 256) + k.val, by omega⟩) * Ideal.ofBits .f32 0x3DB504F3#32 * big X W B (r.val / 64 + 1) ⟨j.val % 256, by omega⟩ ⟨128 * (j.val / 256) + k.val, by omega⟩

/-- The first result. -/
def res8 : FVec Ideal S4096x1024 .bf16 := fun y =>
  elem (fun k => reply X W B (y 0) ⟨256 * ((show Fin 1024 from y 1).val / 256) + k.val, by have := (show Fin 1024 from y 1).isLt; omega⟩) (X (ix2 (y 0) ⟨2048 + (show Fin 1024 from y 1).val, by have := (show Fin 1024 from y 1).isLt; omega⟩)) (G (ix2 0 ⟨(show Fin 1024 from y 1).val % 256, by omega⟩)) ⟨(show Fin 1024 from y 1).val % 256, by omega⟩

/-- The second result. -/
def res9 : FVec Ideal S64x256x512 .bf16 := fun y => big X W B ((show Fin 64 from y 0).val + 1) (y 1) (y 2)

variable (t : Fin cfg0.N) (x0 x1 : FVec Ideal S512x512 .bf16) (x2 : FVec Ideal S512x1024 .bf16) (x4 : FVec Ideal S512x128 .bf16) (x5 : FVec Ideal S128x512 .bf16) (x6 : FVec Ideal S1x512 .f32) (S : FVec Ideal S256x512 .f32)

theorem gates (h4 : ∀ a b, x4 (ix2 a b) = X (ix2 (row t a) ⟨8192 + b.val, by omega⟩)) (h5 : ∀ a b, x5 (ix2 a b) = W (ix2 a b)) (h6 : ∀ b, x6 (ix2 0 b) = B (ix2 0 b)) (a : Fin 512) (b : Fin 512) :
    k0_pay2 (F := Ideal) x4 x5 x6 (ix2 a b) = decay (arg X W B (row t a) b) := by
  pointwise [k0_pay2, h4, h5, h6, decay, arg]
  rfl

/-- Inside a point the state goes as in the whole. -/
theorem chain_at (h1 : ∀ a b, x1 (ix2 a b) = X (ix2 (row t a) ⟨512 + b.val, by omega⟩)) (h2 : ∀ a b, x2 (ix2 a b) = X (ix2 (row t a) ⟨1024 + b.val, by omega⟩))
    (la : FVec Ideal S512x512 .f32) (hla : ∀ a b, la (ix2 a b) = decay (arg X W B (row t a) b))
    (hS : ∀ a b, S (ix2 a b) = big X W B (t.val * 8) a b) (n : ℕ) (hn : n ≤ 8) (a : Fin 256) (b : Fin 512) :
    chain x1 x2 la S n (ix2 a b) = big X W B (t.val * 8 + n) a b := by
  induction n generalizing a b with
  | zero => exact hS a b
  | succ n ih =>
    have hN := lt_of_lt_of_eq t.isLt N_0
    have hr : ∀ (l : Fin 64) (h), row t ⟨64 * (n % 8) + l.val, h⟩ = line (t.val * 8 + n) l := fun l h => Fin.ext (by simp only [row, line]; omega)
    have hc : ∀ (a : Fin 64) (b : Fin 512) (h), cum la (64 * (n % 8)) h a b = run X W B (t.val * 8 + n) a b := fun a b h => by
      unfold cum run
      refine Finset.sum_congr rfl fun l _ => ?_
      rw [hla, hr]
    rw [chain, next_at, ih (by omega), hc]
    show _ = big X W B (t.val * 8 + n) a b * Ideal.exp (run X W B (t.val * 8 + n) 63 b) + _
    refine congrArg _ (Finset.sum_congr rfl fun l _ => ?_)
    rw [hc, h1, h2, hr]
    rfl

end Whole

abbrev AX : FVec Ideal S4096x8320 .bf16 := m (c.tc.loc main_arg0)
abbrev AW : FVec Ideal S128x512 .bf16 := m (c.tc.loc main_arg1)
abbrev AB : FVec Ideal S1x512 .f32 := m (c.tc.loc main_arg2)
abbrev AG : FVec Ideal S1x256 .f32 := m (c.tc.loc main_arg3)

variable (t : Fin cfg0.N)

theorem rd0 (a : Fin 512) (b : Fin 512) : X0_0 m c t (ix2 a b) = AX m c (ix2 (row t a) ⟨b.val, by omega⟩) := by
  unfold X0_0 Pipeline.Window.fill
  rw [dif_pos (moved0_0 t _)]
  blk_simp [iblk]
  rw [V_main_arg0]
  blk_point [row, places t]

theorem rd1 (a : Fin 512) (b : Fin 512) : X0_1 m c t (ix2 a b) = AX m c (ix2 (row t a) ⟨512 + b.val, by omega⟩) := by
  unfold X0_1 Pipeline.Window.fill
  rw [dif_pos (moved0_1 t _)]
  blk_simp [iblk]
  rw [V_main_arg0]
  blk_point [row, places t]

theorem rd2 (a : Fin 512) (b : Fin 1024) : X0_2 m c t (ix2 a b) = AX m c (ix2 (row t a) ⟨1024 + b.val, by omega⟩) := by
  unfold X0_2 Pipeline.Window.fill
  rw [dif_pos (moved0_2 t _)]
  blk_simp [iblk]
  rw [V_main_arg0]
  blk_point [row, places t]

theorem rd3 (a : Fin 512) (b : Fin 1024) : X0_3 m c t (ix2 a b) = AX m c (ix2 (row t a) ⟨2048 + b.val, by omega⟩) := by
  unfold X0_3 Pipeline.Window.fill
  rw [dif_pos (moved0_3 t _)]
  blk_simp [iblk]
  rw [V_main_arg0]
  blk_point [row, places t]

theorem rd4 (a : Fin 512) (b : Fin 128) : iblk m c 4 t (ix2 a b) = AX m c (ix2 (row t a) ⟨8192 + b.val, by omega⟩) := by
  blk_simp [iblk]
  rw [V_main_arg0]
  blk_point [row, places t]

theorem rd5 (a : Fin 128) (b : Fin 512) : iblk m c 5 t (ix2 a b) = AW m c (ix2 a b) := by
  blk_simp [iblk]
  rw [V_main_arg1]
  blk_point [row, places t]

theorem rd6 (a : Fin 1) (b : Fin 512) : iblk m c 6 t (ix2 a b) = AB m c (ix2 a b) := by
  blk_simp [iblk]
  rw [V_main_arg2]
  blk_point [row, places t]

theorem rd7 (a : Fin 1) (b : Fin 256) : iblk m c 7 t (ix2 a b) = AG m c (ix2 a b) := by
  blk_simp [iblk]
  rw [V_main_arg3]
  blk_point [row, places t]

theorem emb8 (y : S512x1024.Idx) : ((cfg0.win 8).blk t).view.emb y = ix2 (row t (y 0)) (y 1) := by
  blk_ext [row, places t]

theorem emb9 (y : S8x256x512.Idx) : ((cfg0.win 9).blk t).view.emb y = ix3 (part t (y 0)) (y 1) (y 2) := by
  blk_ext [part, places t]

theorem zero_at (a : Fin 256) (b : Fin 512) : k0_pay1 (F := Ideal) (ix2 a b) = Ideal.ofBits .f32 0x00000000#32 := by
  pointwise [k0_pay1]

theorem la_at (a : Fin 512) (b : Fin 512) : k0_pay2 (F := Ideal) (iblk m c 4 t) (iblk m c 5 t) (iblk m c 6 t) (ix2 a b) = decay (arg (AX m c) (AW m c) (AB m c) (row t a) b) :=
  gates _ _ _ t _ _ _ (rd4 m c t) (rd5 m c t) (rd6 m c t 0) a b

/-- The state a point starts from, in the whole. -/
def Starts (S : FVec Ideal S256x512 .f32) : Prop := ∀ a b, S (ix2 a b) = big (AX m c) (AW m c) (AB m c) (t.val * 8) a b

theorem inside (S : FVec Ideal S256x512 .f32) (hS : Starts m c t S) (n : ℕ) (hn : n ≤ 8) (a : Fin 256) (b : Fin 512) :
    chain (X0_1 m c t) (X0_2 m c t) (k0_pay2 (F := Ideal) (iblk m c 4 t) (iblk m c 5 t) (iblk m c 6 t)) S n (ix2 a b) = big (AX m c) (AW m c) (AB m c) (t.val * 8 + n) a b :=
  chain_at _ _ _ t _ _ S (rd1 m c t) (rd2 m c t) _ (la_at m c t) hS n hn a b

theorem cells_in (S : FVec Ideal S256x512 .f32) (hS : Starts m c t S) (i : Fin 512) (j : Fin 1024) :
    elem (fun k => ans (X0_0 m c t) (chain (X0_1 m c t) (X0_2 m c t) (k0_pay2 (F := Ideal) (iblk m c 4 t) (iblk m c 5 t) (iblk m c 6 t)) S (i.val / 64 + 1)) i ⟨256 * (j.val / 256) + k.val, by omega⟩)
      ((X0_3 m c t : FVec Ideal S512x1024 .bf16) (ix2 i j)) ((iblk m c 7 t : FVec Ideal S1x256 .f32) (ix2 0 ⟨j.val % 256, by omega⟩)) ⟨j.val % 256, by omega⟩
      = res8 (AX m c) (AW m c) (AB m c) (AG m c) (ix2 (row t i) j) := by
  unfold res8
  refine congr (congr (congr (congrArg elem (funext fun k => ?_)) (rd3 m c t i j)) (rd7 m c t 0 _)) rfl
  unfold ans reply
  refine Finset.sum_congr rfl fun k' _ => ?_
  rw [inside m c t S hS _ (by omega), rd0]
  have e : t.val * 8 + (i.val / 64 + 1) = (row t i).val / 64 + 1 := by simp only [row]; omega
  rw [e]
  rfl

theorem planes_in (S : FVec Ideal S256x512 .f32) (hS : Starts m c t S) (n : Fin 8) (a : Fin 256) (b : Fin 512) :
    chain (X0_1 m c t) (X0_2 m c t) (k0_pay2 (F := Ideal) (iblk m c 4 t) (iblk m c 5 t) (iblk m c 6 t)) S (n.val + 1) (ix2 a b) = res9 (AX m c) (AW m c) (AB m c) (ix3 (part t n) a b) := by
  rw [inside m c t S hS _ (by omega)]
  unfold res9
  exact congrArg (fun z => big (AX m c) (AW m c) (AB m c) z a b) (show t.val * 8 + (n.val + 1) = (part t n).val + 1 by simp only [part]; omega)

theorem mid {α β γ δ : Type _} {z : α × (β → δ) × γ} {x : α} {y : β → δ} {w : γ} {i : β} {r : δ} (h : z = (x, y, w)) (h' : y i = r) : z.2.1 i = r := by
  subst h
  exact h'

theorem top {α β γ δ : Type _} {z : (β → δ) × α × γ} {x : α} {y : β → δ} {w : γ} {i : β} {r : δ} (h : z = (y, x, w)) (h' : y i = r) : z.1 i = r := by
  subst h
  exact h'

theorem low {α β γ δ : Type _} {z : γ × α × (β → δ)} {x : α} {y : β → δ} {w : γ} {i : β} {r : δ} (h : z = (w, x, y)) (h' : y i = r) : z.2.2 i = r := by
  subst h
  exact h'

/-- What a point leaves. -/
def Leaves : Prop := (∀ a b, ((outsAt0 m c t.val t.isLt).2.2 : FVec Ideal S256x512 .f32) (ix2 a b) = big (AX m c) (AW m c) (AB m c) (t.val * 8 + 8) a b)
    ∧ (∀ n a b, ((outsAt0 m c t.val t.isLt).2.1 : FVec Ideal S8x256x512 .bf16) (ix3 n a b) = res9 (AX m c) (AW m c) (AB m c) (ix3 (part t n) a b))
    ∧ (∀ i j, ((outsAt0 m c t.val t.isLt).1 : FVec Ideal S512x1024 .bf16) (ix2 i j) = res8 (AX m c) (AW m c) (AB m c) (AG m c) (ix2 (row t i) j))

theorem leavesA (h0 : t.val % 8 = 0) (hS : Starts m c t (k0_pay1 (F := Ideal))) : Leaves m c t := by
  refine ⟨fun a b => ?_, fun n a b => ?_, fun i j => ?_⟩
  · have h1 := (congrFun (stateA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (X0_0 m c t) (X0_1 m c t) (X0_2 m c t) (X0_3 m c t) (iblk m c 4 t) (iblk m c 5 t) (iblk m c 6 t) (iblk m c 7 t)) (ix2 a b)).trans (inside m c t _ hS 8 (le_refl _) a b)
    exact low (outsAt0_A m c t h0) h1
  · have h1 := (planesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (X0_0 m c t) (X0_1 m c t) (X0_2 m c t) (X0_3 m c t) (iblk m c 4 t) (iblk m c 5 t) (iblk m c 6 t) (iblk m c 7 t) n a b).trans (planes_in m c t _ hS n a b)
    exact mid (outsAt0_A m c t h0) h1
  · have h1 := (cellsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (X0_0 m c t) (X0_1 m c t) (X0_2 m c t) (X0_3 m c t) (iblk m c 4 t) (iblk m c 5 t) (iblk m c 6 t) (iblk m c 7 t) i j).trans (cells_in m c t _ hS i j)
    exact top (outsAt0_A m c t h0) h1

theorem leavesB (h0 : ¬t.val % 8 = 0) (hS : Starts m c t (outsAt0 m c (t.val - 1) (Nat.lt_of_le_of_lt (Nat.sub_le _ _) t.isLt)).2.2) : Leaves m c t := by
  refine ⟨fun a b => ?_, fun n a b => ?_, fun i j => ?_⟩
  · have h1 := (congrFun (stateB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2) (ix2 a b)).trans (inside m c t _ hS 8 (le_refl _) a b)
    exact low (outsAt0_B m c t h0) h1
  · have h1 := (planesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2 n a b).trans (planes_in m c t _ hS n a b)
    exact mid (outsAt0_B m c t h0) h1
  · have h1 := (cellsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2 i j).trans (cells_in m c t _ hS i j)
    exact top (outsAt0_B m c t h0) h1

theorem leaves : Leaves m c t := by
  obtain ⟨n, hn⟩ := t
  have hN := lt_of_lt_of_eq hn N_0
  induction n with
  | zero => exact leavesA m c ⟨0, hn⟩ rfl fun a b => zero_at a b
  | succ n ih =>
    refine leavesB m c ⟨n + 1, hn⟩ (by dsimp only; omega) fun a b => ((ih (by omega) (by omega)).1 a b).trans ?_
    exact congrArg (fun z => big (AX m c) (AW m c) (AB m c) z a b) (show n * 8 + 8 = (n + 1) * 8 by omega)

theorem result8 : (dats m 0 c).arrAt 8 (cfgs 0).N = res8 (AX m c) (AW m c) (AB m c) (AG m c) := by
  refine (dats m 0 c).arrAt_eq_of_covers 8 _ (by decide +kernel) fun t _ y => ?_
  refine (?_ : _ = _).trans (congrArg _ (emb8 t y)).symm
  blk_simp
  rw [after0_8]
  exact (congrArg _ (eq_ix2 (n0 := 512) (n1 := 1024) y)).trans ((leaves m c t).2.2 (y 0) (y 1))

theorem result9 : (dats m 0 c).arrAt 9 (cfgs 0).N = res9 (AX m c) (AW m c) (AB m c) := by
  refine (dats m 0 c).arrAt_eq_of_covers 9 _ (by decide +kernel) fun t _ y => ?_
  refine (?_ : _ = _).trans (congrArg _ (emb9 t y)).symm
  blk_simp
  rw [after0_9]
  exact (congrArg _ (eq_ix3 (n0 := 8) (n1 := 256) (n2 := 512) y)).trans ((leaves m c t).2.1 (y 0) (y 1) (y 2))

end Cert.GlaForward
-- ==== Proof.GlaFwdSteps.lean ====
/- The reference's run, by the states of its loop. -/
module

public import proofs.«01_k».proof.Proof.Gen.GlaFwdRefIdeal.Run
public import proofs.«01_k».proof.Proof.Gen.GlaFwdRefIdeal.Step

@[expose] public section

noncomputable section

namespace Cert.GlaFwdRefIdeal.StepRun

open Idealize.ShloMosaic Idealize.ShloMosaic.TcCoe Idealize.SL.Sem Idealize.ShloMosaic.StableHlo
open Cert.GlaFwdRefIdeal Cert.GlaFwdRefIdeal.Gen Cert.GlaFwdRefIdeal.Value
open Cert.GlaFwdRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v50_5) = s.main_v50_5
  f_6 : V0 (Proc.devRef .tc main_v50_6) = s.main_v50_6
  f_7 : V0 (Proc.devRef .tc main_v50_7) = s.main_v50_7
  f_0 : V0 (Proc.devRef .tc main_v50_0) = s.main_v50_0
  f_1 : V0 (Proc.devRef .tc main_v50_1) = s.main_v50_1
  f_2 : V0 (Proc.devRef .tc main_v50_2) = s.main_v50_2
  f_3 : V0 (Proc.devRef .tc main_v50_3) = s.main_v50_3
  n_4 : V0 (Proc.devRef .tc main_v50_4) = constantI S_ 32 (BitVec.ofNat 32 j)

variable {V0 s j}

set_option maxRecDepth 8192 in
theorem al_23 (h : Holds V0 s j) : res_main_while0b_v83 V0 = Cert.GlaFwdRefIdeal.Step.b23 j s := by
  unfold res_main_while0b_v83
  rw [h.f_1, h.f_2, h.f_3, h.f_5, h.n_4]
  rfl

/-! One trip's step of the carried values is `step`, field by field; a counter steps to the next number. -/

theorem step_5 (h : Holds V0 s j) : step_main_v50_5 V0 = (step j s).main_v50_5 := by
  unfold step_main_v50_5 Cert.GlaFwdRefIdeal.Step.step
  show id (res_main_while0b_v83 V0) = _
  rw [al_23 h]
  rfl
set_option maxRecDepth 8192 in
theorem step_6 (h : Holds V0 s j) : step_main_v50_6 V0 = (step j s).main_v50_6 := by
  refine Eq.trans ?_ (Cert.GlaFwdRefIdeal.Step.step_main_v50_6 j s).symm
  unfold step_main_v50_6
  rw [al_23 h, h.f_6, h.f_0, h.n_4]
  rfl
set_option maxRecDepth 8192 in
theorem step_7 (h : Holds V0 s j) : step_main_v50_7 V0 = (step j s).main_v50_7 := by
  refine Eq.trans ?_ (Cert.GlaFwdRefIdeal.Step.step_main_v50_7 j s).symm
  unfold step_main_v50_7
  rw [al_23 h, h.f_7, h.n_4]
  rfl
theorem step_4 (h : Holds V0 s j) : step_main_v50_4 V0 = constantI S_ 32 (BitVec.ofNat 32 (j + 1)) := by
  unfold step_main_v50_4
  rw [h.n_4]
  funext i
  show BitVec.ofNat 32 j + 1#32 = BitVec.ofNat 32 (j + 1)
  simp only [BitVec.ofNat_add]

set_option maxRecDepth 8192 in
theorem out_main_v71_holds (h : Holds V0 s j) {x_main_arg0 : (⟨S4096x8320, .bf16⟩ : BufTy).Contents (Elt F)} (h_main_arg0 : V0 (Proc.devRef .tc main_arg0) = x_main_arg0) {x_main_arg3 : (⟨S1x256, .f32⟩ : BufTy).Contents (Elt F)} (h_main_arg3 : V0 (Proc.devRef .tc main_arg3) = x_main_arg3) : out_main_v71 V0 = Cert.GlaFwdRefIdeal.Step.R_main_v71 s x_main_arg0 x_main_arg3 := by
  unfold out_main_v71 Cert.GlaFwdRefIdeal.Step.R_main_v71
  rw [h.f_6, h_main_arg0, h_main_arg3]
  try rfl

set_option maxRecDepth 8192 in
theorem out_main_v74_holds (h : Holds V0 s j) : out_main_v74 V0 = Cert.GlaFwdRefIdeal.Step.R_main_v74 s := by
  unfold out_main_v74 Cert.GlaFwdRefIdeal.Step.R_main_v74
  rw [h.f_7]
  try rfl

/-- One trip keeps the valuation holding: `step` of the state, the same set-up values, the next number. -/
theorem holds_step (h : Holds V0 s j) : Holds (STEP V0) (step j s) (j + 1) where
  f_5 := (STEP_main_v50_5 V0).trans (step_5 h)
  f_6 := (STEP_main_v50_6 V0).trans (step_6 h)
  f_7 := (STEP_main_v50_7 V0).trans (step_7 h)
  n_4 := (STEP_main_v50_4 V0).trans (step_4 h)
  f_0 := (STEP_main_v50_0 V0).trans h.f_0
  f_1 := (STEP_main_v50_1 V0).trans h.f_1
  f_2 := (STEP_main_v50_2 V0).trans h.f_2
  f_3 := (STEP_main_v50_3 V0).trans h.f_3

/-- The state the first trip starts from, of the memory the run starts from. -/
abbrev initState (m : (ℓ : Loc nD τ sig) → Buf (Elt F) ℓ) (c : Dev nD) : State F :=
  init (m (c.tc.loc main_arg0)) (m (c.tc.loc main_arg1)) (m (c.tc.loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GlaFwdRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem (c.tc.loc main_v71) = Cert.GlaFwdRefIdeal.Step.R_main_v71 (it c 64) (m (c.tc.loc main_arg0)) (m (c.tc.loc main_arg3))
      ∧ r.2.mem (c.tc.loc main_v74) = Cert.GlaFwdRefIdeal.Step.R_main_v74 (it c 64)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c =>
    have hk := holds_iter m c (it c) (h0 c) (hs c) 64
    ⟨(h c).1.trans (out_main_v71_holds hk (iter_main_arg0 m c 64) (iter_main_arg3 m c 64)), (h c).2.1.trans (out_main_v74_holds hk), (h c).2.2.1, (h c).2.2.2.1, (h c).2.2.2.2.1, (h c).2.2.2.2.2⟩) (Value.run m ρ)

end Cert.GlaFwdRefIdeal.StepRun

end
-- ==== Proof.GlaRef.lean ====
/- The values the reference starts its loop from, at each index. -/
module

public import proofs.«01_k».proof.Proof.GlaState
public import proofs.«01_k».proof.Proof.GlaFwdSteps
public import proofs.«01_k».proof.Proof.Common

@[expose] public section

set_option maxRecDepth 16384

noncomputable section

namespace Cert.GlaForward

open Idealize.ShloMosaic Idealize.ShloMosaic.TcCoe Idealize.SL.Sem
open Cert.GlaFwdIdeal Cert.GlaFwdIdeal.Gen

open Cert.GlaFwdRefIdeal.Gen (h_S_)

theorem fold_sum {N : ℕ} (g : Fin N → EReal) (v : EReal) : (List.finRange N).foldl (fun r n => r + g n) v = v + ∑ n, g n := by
  rw [Fin.sum_univ_def]
  generalize List.finRange N = L
  induction L generalizing v with
  | nil => simp
  | cons n L ih => rw [List.foldl_cons, ih, List.map_cons, List.sum_cons, add_assoc]

theorem pay3_at (a l : Fin 64) : k0_pay3 (F := Ideal) (ix2 a l) = if l.val ≤ a.val then 1 else 0 := by
  refine (show _ = Scalar.select (IntOp.cmpi CmpIPredicate.sle (BitVec.ofNat 32 l.val) (BitVec.ofNat 32 a.val)) (1 : EReal) 0 by pointwise [k0_pay3]).trans ?_
  rw [(by decide +kernel : ∀ a l : Fin 64, IntOp.cmpi CmpIPredicate.sle (BitVec.ofNat 32 l.val) (BitVec.ofNat 32 a.val) = if l.val ≤ a.val then 1#1 else 0#1) a l]
  by_cases h : l.val ≤ a.val
  · rw [if_pos h, if_pos h]
    rfl
  · rw [if_neg h, if_neg h]
    rfl

abbrev Win : Shape := ⟨4, ![1, 1, 64, 1]⟩

theorem win_at : ∀ n : Fin Win.numel, (Win.rowMajor.symm n 0).val = 0 ∧ (Win.rowMajor.symm n 1).val = 0 ∧ (Win.rowMajor.symm n 2).val = n.val ∧ (Win.rowMajor.symm n 3).val = 0 := by
  decide +kernel

/-- A running sum along the rows of a chunk, at an index. -/
theorem prefix_at (x : FVec Ideal Cert.GlaFwdRefIdeal.S64x4x64x128 .f32) (v : FVec Ideal Cert.GlaFwdRefIdeal.S_ .f32) (hv : v (Shape.Idx.first h_S_) = 0) (c : Fin 64) (h : Fin 4) (a : Fin 64) (k : Fin 128) (hw) :
    Host.reduceWindowAdd (F := Ideal) (t := Cert.GlaFwdRefIdeal.S64x4x64x128) ![1, 1, 64, 1] ![1, 1, 1, 1] ![0, 0, 63, 0] ![0, 0, 0, 0] x v hw h_S_ (ix4 c h a k)
      = ∑ l : Fin 64, k0_pay3 (F := Ideal) (ix2 a l) * x (ix4 c h l k) := by
  refine (show _ = Host.reduceWindow (fun (p q : EReal) => p + q) ![1, 1, 64, 1] ![1, 1, 1, 1] ![0, 0, 63, 0] ![0, 0, 0, 0] x v hw h_S_ (ix4 c h a k) from rfl).trans ?_
  unfold Host.reduceWindow
  dsimp only
  rw [fold_sum, hv, zero_add]
  refine Fintype.sum_equiv ((finCongr (by decide +kernel)).trans (Equiv.addRight (a + 1))) _ _ fun n => ?_
  rw [pay3_at]
  obtain ⟨e0, e1, e2, e3⟩ := win_at n
  have hn : n.val < 64 := lt_of_lt_of_eq n.isLt (by decide +kernel)
  have he : (((finCongr (by decide +kernel)).trans (Equiv.addRight (a + 1)) : Fin Win.numel ≃ Fin 64) n).val = (n.val + (a.val + 1)) % 64 := by
    show (n.val + (a.val + 1) % 64) % 64 = _
    omega
  by_cases hc : 63 ≤ a.val + n.val
  · rw [dif_pos, if_pos, one_mul]
    · refine congrArg x (funext fun i => Fin.ext ?_)
      match i with
      | 0 =>
        show c.val * 1 + (Win.rowMajor.symm n 0).val - 0 = c.val
        omega
      | 1 =>
        show h.val * 1 + (Win.rowMajor.symm n 1).val - 0 = h.val
        omega
      | 2 =>
        show a.val * 1 + (Win.rowMajor.symm n 2).val - 63 = _
        refine Eq.trans ?_ he.symm
        omega
      | 3 =>
        show k.val * 1 + (Win.rowMajor.symm n 3).val - 0 = k.val
        omega
    · exact (le_of_eq he).trans (by omega)
    · intro i
      match i with
      | 0 =>
        show 0 ≤ c.val * 1 + (Win.rowMajor.symm n 0).val ∧ c.val * 1 + (Win.rowMajor.symm n 0).val - 0 < 64
        omega
      | 1 =>
        show 0 ≤ h.val * 1 + (Win.rowMajor.symm n 1).val ∧ h.val * 1 + (Win.rowMajor.symm n 1).val - 0 < 4
        omega
      | 2 =>
        show 63 ≤ a.val * 1 + (Win.rowMajor.symm n 2).val ∧ a.val * 1 + (Win.rowMajor.symm n 2).val - 63 < 64
        omega
      | 3 =>
        show 0 ≤ k.val * 1 + (Win.rowMajor.symm n 3).val ∧ k.val * 1 + (Win.rowMajor.symm n 3).val - 0 < 128
        omega
  · rw [dif_neg, if_neg, zero_mul]
    · refine fun h' => absurd ((le_of_eq he.symm).trans h') ?_
      omega
    · intro hin
      have h2 : 63 ≤ a.val * 1 + (Win.rowMajor.symm n 2).val := (hin 2).1
      omega

theorem sixteen : Ideal.ofBits .f32 0x41800000#32 = ((16 : ℝ) : EReal) := by
  simp [Ideal.ofBits, Ideal.ieee]
  rw [← EReal.coe_mul]
  norm_num

theorem sixteenth : Ideal.ofBits .f32 0x3D800000#32 = ((1 / 16 : ℝ) : EReal) := by
  simp [Ideal.ofBits, Ideal.ieee]
  rw [← EReal.coe_mul]
  norm_num

theorem log_ne (z : EReal) : Ideal.log1p (Ideal.exp z) ≠ ⊥ := by
  have one : ∀ r : ℝ, 0 < r → Ideal.log (r : EReal) ≠ ⊥ := fun r hr => by
    show (if r ≤ 0 then ⊥ else (Real.log r : EReal)) ≠ ⊥
    rw [if_neg (not_le.mpr hr)]
    exact EReal.coe_ne_bot _
  induction z using EReal.rec with
  | bot =>
    show Ideal.log (1 + 0) ≠ ⊥
    rw [add_zero]
    exact one 1 one_pos
  | coe r => exact one (1 + Real.exp r) (by positivity)
  | top =>
    show Ideal.log (1 + ⊤) ≠ ⊥
    rw [show (1 : EReal) + ⊤ = ⊤ from EReal.coe_add_top 1]
    exact top_ne_bot

theorem log_sig (x : EReal) : Ideal.div (-(max (-x) 0 + Ideal.log1p (Ideal.exp (-(max (-x - 0) (-(-x - 0))))))) (Ideal.ofBits .f32 0x41800000#32) = decay x := by
  unfold decay
  rw [sixteen, sixteenth, Ideal.div_coe (by norm_num), Ideal.ofBits_zero_f32, sub_zero, neg_neg, max_comm (-x) x, zero_sub]
  have hA : max (-x) 0 ≠ ⊥ := fun h => absurd (h ▸ le_max_right (-x) 0 : (0 : EReal) ≤ ⊥) (by decide)
  have hL : Ideal.log1p (Ideal.exp (-(max x (-x)))) ≠ ⊥ := log_ne _
  have hm : min x 0 = -(max (-x) 0) := by
    rcases le_total x 0 with h | h
    · rw [min_eq_left h, max_eq_left (EReal.neg_nonneg.mpr h), neg_neg]
    · rw [min_eq_right h, max_eq_right (by simpa using EReal.neg_le_neg_iff.mpr h), neg_zero]
  rw [EReal.neg_add (Or.inl hA) (Or.inr hL), hm]

section Ref
variable (X : FVec Ideal S4096x8320 .bf16) (W : FVec Ideal S128x512 .bf16) (B : FVec Ideal S1x512 .f32) (G : FVec Ideal S1x256 .f32)

/-- The row of a chunk's line. -/
def pos (c l : Fin 64) : Fin 4096 := ⟨c.val * 64 + l.val, by omega⟩

def ck (h : Fin 4) (k : Fin 128) : Fin 512 := ⟨h.val * 128 + k.val, by omega⟩

theorem v28_at (r : Fin 4096) (b : Fin 512) : (Cert.GlaFwdRefIdeal.Step.A_main_v28 (F := Ideal) X W B : FVec Ideal Cert.GlaFwdRefIdeal.S4096x512 .f32) (ix2 r b) = decay (arg X W B r b) := by
  refine (?_ : _ = _).trans (log_sig _)
  pointwise [Cert.GlaFwdRefIdeal.Step.A_main_v28, Cert.GlaFwdRefIdeal.Step.A_main_v26, Cert.GlaFwdRefIdeal.Step.A_main_v25, Cert.GlaFwdRefIdeal.Step.A_main_v24, Cert.GlaFwdRefIdeal.Step.A_main_v23, Cert.GlaFwdRefIdeal.Step.A_main_v22, Cert.GlaFwdRefIdeal.Step.A_main_v21, Cert.GlaFwdRefIdeal.Step.A_main_v20, Cert.GlaFwdRefIdeal.Step.A_main_v19, Cert.GlaFwdRefIdeal.Step.A_main_v17, Cert.GlaFwdRefIdeal.Step.A_main_v16, Cert.GlaFwdRefIdeal.Step.A_main_v14, Cert.GlaFwdRefIdeal.Step.A_main_v12, Cert.GlaFwdRefIdeal.Step.A_main_v11, Cert.GlaFwdRefIdeal.Step.A_main_v10, Cert.GlaFwdRefIdeal.Step.A_main_v9, Cert.GlaFwdRefIdeal.Step.K_main_v27, Cert.GlaFwdRefIdeal.Step.K_main_v13, Cert.GlaFwdRefIdeal.Step.K_main_v15, Cert.GlaFwdRefIdeal.Step.K_main_v18, Cert.GlaFwdRefIdeal.Step.K_main_cst, Cert.GlaFwdRefIdeal.Step.K_main_cst_0, Cert.GlaFwdRefIdeal.Step.A_main_v6, Cert.GlaFwdRefIdeal.Step.A_main_v7, Cert.GlaFwdRefIdeal.Step.A_main_v8, arg]
  rw [if_neg (not_not.mpr rfl)]
  rfl

theorem v38_at (c : Fin 64) (h : Fin 4) (l : Fin 64) (k : Fin 128) : (Cert.GlaFwdRefIdeal.Step.A_main_v38 (F := Ideal) X W B : FVec Ideal Cert.GlaFwdRefIdeal.S64x4x64x128 .f32) (ix4 c h l k) = decay (arg X W B (pos c l) (ck h k)) := by
  rw [← v28_at]
  pointwise [Cert.GlaFwdRefIdeal.Step.A_main_v38, Cert.GlaFwdRefIdeal.Step.A_main_v37, pos, ck]

theorem v32_at (c : Fin 64) (h : Fin 4) (l : Fin 64) (k : Fin 128) : (Cert.GlaFwdRefIdeal.Step.A_main_v32 (F := Ideal) X W B : FVec Ideal Cert.GlaFwdRefIdeal.S64x4x64x128 .f32) (ix4 c h l k) = X (ix2 (pos c l) ⟨(ck h k).val, by omega⟩) * Ideal.ofBits .f32 0x3DB504F3#32 := by
  pointwise [Cert.GlaFwdRefIdeal.Step.A_main_v32, Cert.GlaFwdRefIdeal.Step.A_main_v31, Cert.GlaFwdRefIdeal.Step.A_main_v30, Cert.GlaFwdRefIdeal.Step.A_main_v1, Cert.GlaFwdRefIdeal.Step.A_main_v0, Cert.GlaFwdRefIdeal.Step.K_main_v29, Cert.GlaFwdRefIdeal.Step.K_main_cst_1, pos, ck]

theorem v36_at (c : Fin 64) (h : Fin 4) (l : Fin 64) (v : Fin 256) : (Cert.GlaFwdRefIdeal.Step.A_main_v36 (F := Ideal) X W B : FVec Ideal Cert.GlaFwdRefIdeal.S64x4x64x256 .f32) (ix4 c h l v) = X (ix2 (pos c l) ⟨1024 + (h.val * 256 + v.val), by omega⟩) := by
  pointwise [Cert.GlaFwdRefIdeal.Step.A_main_v36, Cert.GlaFwdRefIdeal.Step.A_main_v35, Cert.GlaFwdRefIdeal.Step.A_main_v5, Cert.GlaFwdRefIdeal.Step.A_main_v4, pos, ck]

theorem v34_at (c : Fin 64) (h : Fin 4) (l : Fin 64) (k : Fin 128) : (Cert.GlaFwdRefIdeal.Step.A_main_v34 (F := Ideal) X W B : FVec Ideal Cert.GlaFwdRefIdeal.S64x4x64x128 .f32) (ix4 c h l k) = X (ix2 (pos c l) ⟨512 + (ck h k).val, by omega⟩) := by
  pointwise [Cert.GlaFwdRefIdeal.Step.A_main_v34, Cert.GlaFwdRefIdeal.Step.A_main_v33, Cert.GlaFwdRefIdeal.Step.A_main_v3, Cert.GlaFwdRefIdeal.Step.A_main_v2, pos, ck]

theorem v39_at (c : Fin 64) (h : Fin 4) (l : Fin 64) (k : Fin 128) : (Cert.GlaFwdRefIdeal.Step.A_main_v39 (F := Ideal) X W B : FVec Ideal Cert.GlaFwdRefIdeal.S64x4x64x128 .f32) (ix4 c h l k) = run X W B c.val l (ck h k) := by
  unfold Cert.GlaFwdRefIdeal.Step.A_main_v39 run
  rw [prefix_at]
  · refine Finset.sum_congr rfl fun l' _ => ?_
    rw [v38_at]
    congr 4
    exact Fin.ext (by simp only [pos, line]; omega)
  · pointwise [Cert.GlaFwdRefIdeal.Step.K_main_call0_call0_v0, Cert.GlaFwdRefIdeal.Step.K_main_call0_call0_cst]

theorem v44_at (c : Fin 64) (h : Fin 4) (l : Fin 64) (k : Fin 128) : (Cert.GlaFwdRefIdeal.Step.A_main_v44 (F := Ideal) X W B : FVec Ideal Cert.GlaFwdRefIdeal.S64x4x64x128 .f32) (ix4 c h l k) = X (ix2 (pos c l) ⟨512 + (ck h k).val, by omega⟩) * Ideal.exp (run X W B c.val 63 (ck h k) - run X W B c.val l (ck h k)) := by
  pointwise [Cert.GlaFwdRefIdeal.Step.A_main_v44, Cert.GlaFwdRefIdeal.Step.A_main_v43, Cert.GlaFwdRefIdeal.Step.A_main_v42, Cert.GlaFwdRefIdeal.Step.A_main_v41, Cert.GlaFwdRefIdeal.Step.A_main_v40, v34_at, v39_at]

theorem v46_at (c : Fin 64) (h : Fin 4) (k : Fin 128) : (Cert.GlaFwdRefIdeal.Step.A_main_v46 (F := Ideal) X W B : FVec Ideal Cert.GlaFwdRefIdeal.S64x4x128 .f32) (ix3 c h k) = Ideal.exp (run X W B c.val 63 (ck h k)) := by
  pointwise [Cert.GlaFwdRefIdeal.Step.A_main_v46, Cert.GlaFwdRefIdeal.Step.A_main_v45, Cert.GlaFwdRefIdeal.Step.A_main_v40, v39_at]

end Ref

end Cert.GlaForward
-- ==== Proof.GlaLoop.lean ====
/- One trip of the reference's loop, at each index. -/
module

public import proofs.«01_k».proof.Proof.GlaRef
public import proofs.«01_k».proof.Proof.Common

@[expose] public section

set_option maxRecDepth 16384

noncomputable section

namespace Cert.GlaForward

open Idealize.ShloMosaic Idealize.ShloMosaic.TcCoe Idealize.SL.Sem
open Cert.GlaFwdIdeal Cert.GlaFwdIdeal.Gen

open Cert.GlaFwdRefIdeal.Step

theorem small_word (k : ℕ) (h : k < 64) : (BitVec.ofNat 32 k).toInt = k := by
  rw [BitVec.toInt_ofNat', Int.bmod_def]
  omega

section Slices

variable {α : Type _} {n0 n1 n2 n3 : ℕ}

theorem slice4 (x : (⟨4, ![n0, n1, n2, n3]⟩ : Shape).Idx → α) (start : Fin 4 → Int) (h : (⟨4, ![n0, n1, n2, n3]⟩ : Shape).Slices (fun _ => 0) ⟨4, ![1, n1, n2, n3]⟩) (j : ℕ) (hj : j < n0) (h0 : start 0 = j) (h1 : start 1 = 0) (h2 : start 2 = 0) (h3 : start 3 = 0)
    (b : Fin n1) (c : Fin n2) (d : Fin n3) : Host.dynamicSlice (s := ⟨4, ![n0, n1, n2, n3]⟩) ⟨4, ![1, n1, n2, n3]⟩ x start h (ix4 0 b c d) = x (ix4 ⟨j, hj⟩ b c d) := by
  have e0 := Host.clampedStart_of_le (s := ⟨4, ![n0, n1, n2, n3]⟩) (t := ⟨4, ![1, n1, n2, n3]⟩) h.1 start 0 j h0 (show j + 1 ≤ n0 from hj)
  have e1 := Host.clampedStart_of_le (s := ⟨4, ![n0, n1, n2, n3]⟩) (t := ⟨4, ![1, n1, n2, n3]⟩) h.1 start 1 0 h1 (show 0 + n1 ≤ n1 by omega)
  have e2 := Host.clampedStart_of_le (s := ⟨4, ![n0, n1, n2, n3]⟩) (t := ⟨4, ![1, n1, n2, n3]⟩) h.1 start 2 0 h2 (show 0 + n2 ≤ n2 by omega)
  have e3 := Host.clampedStart_of_le (s := ⟨4, ![n0, n1, n2, n3]⟩) (t := ⟨4, ![1, n1, n2, n3]⟩) h.1 start 3 0 h3 (show 0 + n3 ≤ n3 by omega)
  rw [Host.dynamicSlice_apply]
  refine congrArg x (funext fun i => Fin.ext ?_)
  match i with
  | 0 => exact (congrArg (· + 0) e0).trans (Nat.add_zero j)
  | 1 => exact (congrArg (· + b.val) e1).trans (Nat.zero_add _)
  | 2 => exact (congrArg (· + c.val) e2).trans (Nat.zero_add _)
  | 3 => exact (congrArg (· + d.val) e3).trans (Nat.zero_add _)

theorem slice3 (x : (⟨3, ![n0, n1, n2]⟩ : Shape).Idx → α) (start : Fin 3 → Int) (h : (⟨3, ![n0, n1, n2]⟩ : Shape).Slices (fun _ => 0) ⟨3, ![1, n1, n2]⟩) (j : ℕ) (hj : j < n0) (h0 : start 0 = j) (h1 : start 1 = 0) (h2 : start 2 = 0)
    (b : Fin n1) (c : Fin n2) : Host.dynamicSlice (s := ⟨3, ![n0, n1, n2]⟩) ⟨3, ![1, n1, n2]⟩ x start h (ix3 0 b c) = x (ix3 ⟨j, hj⟩ b c) := by
  have e0 := Host.clampedStart_of_le (s := ⟨3, ![n0, n1, n2]⟩) (t := ⟨3, ![1, n1, n2]⟩) h.1 start 0 j h0 (show j + 1 ≤ n0 from hj)
  have e1 := Host.clampedStart_of_le (s := ⟨3, ![n0, n1, n2]⟩) (t := ⟨3, ![1, n1, n2]⟩) h.1 start 1 0 h1 (show 0 + n1 ≤ n1 by omega)
  have e2 := Host.clampedStart_of_le (s := ⟨3, ![n0, n1, n2]⟩) (t := ⟨3, ![1, n1, n2]⟩) h.1 start 2 0 h2 (show 0 + n2 ≤ n2 by omega)
  rw [Host.dynamicSlice_apply]
  refine congrArg x (funext fun i => Fin.ext ?_)
  match i with
  | 0 => exact (congrArg (· + 0) e0).trans (Nat.add_zero j)
  | 1 => exact (congrArg (· + b.val) e1).trans (Nat.zero_add _)
  | 2 => exact (congrArg (· + c.val) e2).trans (Nat.zero_add _)

theorem put4 (x : (⟨4, ![n0, n1, n2, n3]⟩ : Shape).Idx → α) (upd : (⟨4, ![1, n1, n2, n3]⟩ : Shape).Idx → α) (start : Fin 4 → Int) (h : (⟨4, ![n0, n1, n2, n3]⟩ : Shape).Slices (fun _ => 0) ⟨4, ![1, n1, n2, n3]⟩) (j : ℕ) (hj : j < n0) (h0 : start 0 = j) (h1 : start 1 = 0) (h2 : start 2 = 0) (h3 : start 3 = 0)
    (a : Fin n0) (b : Fin n1) (c : Fin n2) (d : Fin n3) : Host.dynamicUpdateSlice (s := ⟨4, ![n0, n1, n2, n3]⟩) (u := ⟨4, ![1, n1, n2, n3]⟩) x upd start h (ix4 a b c d) = if a.val = j then upd (ix4 0 b c d) else x (ix4 a b c d) := by
  have e0 := Host.clampedStart_of_le (s := ⟨4, ![n0, n1, n2, n3]⟩) (t := ⟨4, ![1, n1, n2, n3]⟩) h.1 start 0 j h0 (show j + 1 ≤ n0 from hj)
  have e1 := Host.clampedStart_of_le (s := ⟨4, ![n0, n1, n2, n3]⟩) (t := ⟨4, ![1, n1, n2, n3]⟩) h.1 start 1 0 h1 (show 0 + n1 ≤ n1 by omega)
  have e2 := Host.clampedStart_of_le (s := ⟨4, ![n0, n1, n2, n3]⟩) (t := ⟨4, ![1, n1, n2, n3]⟩) h.1 start 2 0 h2 (show 0 + n2 ≤ n2 by omega)
  have e3 := Host.clampedStart_of_le (s := ⟨4, ![n0, n1, n2, n3]⟩) (t := ⟨4, ![1, n1, n2, n3]⟩) h.1 start 3 0 h3 (show 0 + n3 ≤ n3 by omega)
  rw [Host.dynamicUpdateSlice_apply]
  by_cases ha : a.val = j
  · rw [if_pos ha, dif_pos]
    · refine congrArg upd (funext fun i => Fin.ext ?_)
      match i with
      | 0 => exact (congrArg (a.val - ·) e0).trans (show a.val - j = 0 by omega)
      | 1 => exact (congrArg (b.val - ·) e1).trans (Nat.sub_zero _)
      | 2 => exact (congrArg (c.val - ·) e2).trans (Nat.sub_zero _)
      | 3 => exact (congrArg (d.val - ·) e3).trans (Nat.sub_zero _)
    · intro i
      match i with
      | 0 => exact ⟨e0.trans_le (by omega : j ≤ a.val), lt_of_lt_of_eq (by omega : a.val < j + 1) (congrArg (· + 1) e0.symm)⟩
      | 1 => exact ⟨e1.trans_le (Nat.zero_le b.val), lt_of_lt_of_eq (by omega : b.val < 0 + n1) (congrArg (· + n1) e1.symm)⟩
      | 2 => exact ⟨e2.trans_le (Nat.zero_le c.val), lt_of_lt_of_eq (by omega : c.val < 0 + n2) (congrArg (· + n2) e2.symm)⟩
      | 3 => exact ⟨e3.trans_le (Nat.zero_le d.val), lt_of_lt_of_eq (by omega : d.val < 0 + n3) (congrArg (· + n3) e3.symm)⟩
  · rw [if_neg ha, dif_neg]
    intro hin
    have q1 : j ≤ a.val := e0.symm.trans_le (hin 0).1
    have q2 : a.val < j + 1 := lt_of_lt_of_eq (hin 0).2 (congrArg (· + 1) e0)
    omega

end Slices

variable (s : State Ideal) (j : ℕ) (hj : j < 64)

theorem b4_at (h : Fin 4) (l : Fin 64) (k : Fin 128) : (b4 j s : FVec Ideal Cert.GlaFwdRefIdeal.S4x64x128 .f32) (ix3 h l k) = (s.main_v50_0 : FVec Ideal Cert.GlaFwdRefIdeal.S64x4x64x128 .f32) (ix4 ⟨j, hj⟩ h l k) := by
  refine (?_ : _ = (b3 j s : FVec Ideal Cert.GlaFwdRefIdeal.S1x4x64x128 .f32) (ix4 0 h l k)).trans ?_
  · pointwise [b4]
  · exact slice4 _ _ _ j hj (small_word j hj) rfl rfl rfl h l k

theorem b9_at (h : Fin 4) (l : Fin 64) (k : Fin 128) : (b9 j s : FVec Ideal Cert.GlaFwdRefIdeal.S4x64x128 .f32) (ix3 h l k) = (s.main_v50_1 : FVec Ideal Cert.GlaFwdRefIdeal.S64x4x64x128 .f32) (ix4 ⟨j, hj⟩ h l k) := by
  refine (?_ : _ = (b8 j s : FVec Ideal Cert.GlaFwdRefIdeal.S1x4x64x128 .f32) (ix4 0 h l k)).trans ?_
  · pointwise [b9]
  · exact slice4 _ _ _ j hj (small_word j hj) rfl rfl rfl h l k

theorem b14_at (h : Fin 4) (l : Fin 64) (v : Fin 256) : (b14 j s : FVec Ideal Cert.GlaFwdRefIdeal.S4x64x256 .f32) (ix3 h l v) = (s.main_v50_2 : FVec Ideal Cert.GlaFwdRefIdeal.S64x4x64x256 .f32) (ix4 ⟨j, hj⟩ h l v) := by
  refine (?_ : _ = (b13 j s : FVec Ideal Cert.GlaFwdRefIdeal.S1x4x64x256 .f32) (ix4 0 h l v)).trans ?_
  · pointwise [b14]
  · exact slice4 _ _ _ j hj (small_word j hj) rfl rfl rfl h l v

theorem b18_at (h : Fin 4) (k : Fin 128) : (b18 j s : FVec Ideal Cert.GlaFwdRefIdeal.S4x128 .f32) (ix2 h k) = (s.main_v50_3 : FVec Ideal Cert.GlaFwdRefIdeal.S64x4x128 .f32) (ix3 ⟨j, hj⟩ h k) := by
  refine (?_ : _ = (b17 j s : FVec Ideal Cert.GlaFwdRefIdeal.S1x4x128 .f32) (ix3 0 h k)).trans ?_
  · pointwise [b18]
  · exact slice3 _ _ _ j hj (small_word j hj) rfl rfl h k

theorem b23_at (h : Fin 4) (k : Fin 128) (v : Fin 256) : (b23 j s : FVec Ideal Cert.GlaFwdRefIdeal.S4x128x256 .f32) (ix3 h k v)
    = (s.main_v50_3 : FVec Ideal Cert.GlaFwdRefIdeal.S64x4x128 .f32) (ix3 ⟨j, hj⟩ h k) * (s.main_v50_5 : FVec Ideal Cert.GlaFwdRefIdeal.S4x128x256 .f32) (ix3 h k v)
      + ∑ l : Fin 64, (s.main_v50_1 : FVec Ideal Cert.GlaFwdRefIdeal.S64x4x64x128 .f32) (ix4 ⟨j, hj⟩ h l k) * (s.main_v50_2 : FVec Ideal Cert.GlaFwdRefIdeal.S64x4x64x256 .f32) (ix4 ⟨j, hj⟩ h l v) := by
  pointwise [b23, b22, b21, b20, b19, b18_at s j hj, b9_at s j hj, b14_at s j hj]

theorem b24_at (h : Fin 4) (l : Fin 64) (v : Fin 256) : (b24 j s : FVec Ideal Cert.GlaFwdRefIdeal.S4x64x256 .f32) (ix3 h l v)
    = ∑ k : Fin 128, (s.main_v50_0 : FVec Ideal Cert.GlaFwdRefIdeal.S64x4x64x128 .f32) (ix4 ⟨j, hj⟩ h l k) * (b23 j s : FVec Ideal Cert.GlaFwdRefIdeal.S4x128x256 .f32) (ix3 h k v) := by
  pointwise [b24, b4_at s j hj]

include hj in
theorem b29_at (c : Fin 64) (h : Fin 4) (l : Fin 64) (v : Fin 256) : (b29 j s : FVec Ideal Cert.GlaFwdRefIdeal.S64x4x64x256 .f32) (ix4 c h l v)
    = if c.val = j then (b24 j s : FVec Ideal Cert.GlaFwdRefIdeal.S4x64x256 .f32) (ix3 h l v) else (s.main_v50_6 : FVec Ideal Cert.GlaFwdRefIdeal.S64x4x64x256 .f32) (ix4 c h l v) := by
  refine (put4 _ (b25 j s) _ _ j hj (small_word j hj) rfl rfl rfl c h l v).trans ?_
  pointwise [b25]

include hj in
theorem b34_at (c : Fin 64) (h : Fin 4) (k : Fin 128) (v : Fin 256) : (b34 j s : FVec Ideal Cert.GlaFwdRefIdeal.S64x4x128x256 .f32) (ix4 c h k v)
    = if c.val = j then (b23 j s : FVec Ideal Cert.GlaFwdRefIdeal.S4x128x256 .f32) (ix3 h k v) else (s.main_v50_7 : FVec Ideal Cert.GlaFwdRefIdeal.S64x4x128x256 .f32) (ix4 c h k v) := by
  refine (put4 _ (b30 j s) _ _ j hj (small_word j hj) rfl rfl rfl c h k v).trans ?_
  pointwise [b30]

end Cert.GlaForward
-- ==== Proof.GlaForward.lean ====
/- The reference's results at each index, and the claim. -/
module

public import proofs.«01_k».proof.Proof.GlaLoop
public import proofs.«01_k».proof.Proof.Common

@[expose] public section

set_option maxRecDepth 16384

noncomputable section

namespace Cert.GlaForward

open Idealize.ShloMosaic Idealize.ShloMosaic.TcCoe Idealize.SL.Sem
open Cert.GlaFwdIdeal Cert.GlaFwdIdeal.Gen

open Cert.GlaFwdRefIdeal.Step

variable (X : FVec Ideal S4096x8320 .bf16) (W : FVec Ideal S128x512 .bf16) (B : FVec Ideal S1x512 .f32) (G : FVec Ideal S1x256 .f32)

/-- The states of the reference's loop. -/
def itr : ℕ → State Ideal
  | 0 => Cert.GlaFwdRefIdeal.Step.init (F := Ideal) X W B
  | n + 1 => Cert.GlaFwdRefIdeal.Step.step n (itr n)

theorem keeps (n : ℕ) : (itr X W B n).main_v50_0 = A_main_v32 (F := Ideal) X W B ∧ (itr X W B n).main_v50_1 = A_main_v44 (F := Ideal) X W B
    ∧ (itr X W B n).main_v50_2 = A_main_v36 (F := Ideal) X W B ∧ (itr X W B n).main_v50_3 = A_main_v46 (F := Ideal) X W B := by
  induction n with
  | zero => exact ⟨rfl, rfl, rfl, rfl⟩
  | succ n ih =>
    exact ⟨(show (Cert.GlaFwdRefIdeal.Step.step n (itr X W B n)).main_v50_0 = (itr X W B n).main_v50_0 by unfold Cert.GlaFwdRefIdeal.Step.step; rfl).trans ih.1,
      (show (Cert.GlaFwdRefIdeal.Step.step n (itr X W B n)).main_v50_1 = (itr X W B n).main_v50_1 by unfold Cert.GlaFwdRefIdeal.Step.step; rfl).trans ih.2.1,
      (show (Cert.GlaFwdRefIdeal.Step.step n (itr X W B n)).main_v50_2 = (itr X W B n).main_v50_2 by unfold Cert.GlaFwdRefIdeal.Step.step; rfl).trans ih.2.2.1,
      (show (Cert.GlaFwdRefIdeal.Step.step n (itr X W B n)).main_v50_3 = (itr X W B n).main_v50_3 by unfold Cert.GlaFwdRefIdeal.Step.step; rfl).trans ih.2.2.2⟩

theorem line_pos (n : ℕ) (hn : n < 64) (l : Fin 64) : line n l = pos ⟨n, hn⟩ l := Fin.ext (by simp only [line, pos]; omega)

/-- One trip takes the state on as the chunk does. -/
theorem trip (n : ℕ) (hn : n < 64) (ih : ∀ (h : Fin 4) (k : Fin 128) (v : Fin 256), ((itr X W B n).main_v50_5 : FVec Ideal Cert.GlaFwdRefIdeal.S4x128x256 .f32) (ix3 h k v) = big X W B n v (ck h k))
    (h : Fin 4) (k : Fin 128) (v : Fin 256) : (b23 n (itr X W B n) : FVec Ideal Cert.GlaFwdRefIdeal.S4x128x256 .f32) (ix3 h k v) = big X W B (n + 1) v (ck h k) := by
  obtain ⟨-, k1, k2, k3⟩ := keeps X W B n
  rw [b23_at _ n hn, ih, k1, k2, k3, v46_at]
  show _ = big X W B n v (ck h k) * Ideal.exp (run X W B n 63 (ck h k)) + _
  refine congr (congrArg _ (mul_comm _ _)) (Finset.sum_congr rfl fun l _ => ?_)
  rw [v44_at, v36_at, line_pos n hn, mul_comm]
  have e : (⟨1024 + (h.val * 256 + v.val), by omega⟩ : Fin 8320) = ⟨1024 + (col (ck h k) v).val, by omega⟩ := Fin.ext (by simp only [col, ck]; omega)
  rw [e]

/-- What the loop has left after `n` trips. -/
theorem after (n : ℕ) (hn : n ≤ 64) :
    (∀ (h : Fin 4) (k : Fin 128) (v : Fin 256), ((itr X W B n).main_v50_5 : FVec Ideal Cert.GlaFwdRefIdeal.S4x128x256 .f32) (ix3 h k v) = big X W B n v (ck h k))
    ∧ (∀ (c : Fin 64) (h : Fin 4) (l : Fin 64) (v : Fin 256), c.val < n → ((itr X W B n).main_v50_6 : FVec Ideal Cert.GlaFwdRefIdeal.S64x4x64x256 .f32) (ix4 c h l v)
        = ∑ k : Fin 128, X (ix2 (pos c l) ⟨(ck h k).val, by omega⟩) * Ideal.ofBits .f32 0x3DB504F3#32 * big X W B (c.val + 1) v (ck h k))
    ∧ (∀ (c : Fin 64) (h : Fin 4) (k : Fin 128) (v : Fin 256), c.val < n → ((itr X W B n).main_v50_7 : FVec Ideal Cert.GlaFwdRefIdeal.S64x4x128x256 .f32) (ix4 c h k v) = big X W B (c.val + 1) v (ck h k)) := by
  induction n with
  | zero =>
    refine ⟨fun h k v => ?_, fun _ _ _ _ h => absurd h (Nat.not_lt_zero _), fun _ _ _ _ h => absurd h (Nat.not_lt_zero _)⟩
    show (K_main_v47 (F := Ideal) : FVec Ideal Cert.GlaFwdRefIdeal.S4x128x256 .f32) (ix3 h k v) = Ideal.ofBits .f32 0x00000000#32
    pointwise [K_main_v47, K_main_cst_2]
  | succ n ih =>
    have hn' : n < 64 := hn
    obtain ⟨i5, i6, i7⟩ := ih (by omega)
    have t := trip X W B n hn' i5
    refine ⟨fun h k v => (congrFun (step_main_v50_5 n (itr X W B n)) _).trans (t h k v), fun c h l v hc => (congrFun (step_main_v50_6 n (itr X W B n)) _).trans ?_, fun c h k v hc => (congrFun (step_main_v50_7 n (itr X W B n)) _).trans ?_⟩
    · refine (b29_at _ n hn' c h l v).trans ?_
      by_cases e : c.val = n
      · rw [if_pos e, b24_at _ n hn']
        refine Finset.sum_congr rfl fun k _ => ?_
        rw [t, (keeps X W B n).1, v32_at, e]
        have ec : (⟨n, hn'⟩ : Fin 64) = c := Fin.ext e.symm
        rw [ec]
      · rw [if_neg e]
        exact i6 c h l v (by omega)
    · refine (b34_at _ n hn' c h k v).trans ?_
      by_cases e : c.val = n
      · rw [if_pos e, t, e]
      · rw [if_neg e]
        exact i7 c h k v (by omega)

theorem ref9 (c : Fin 64) (a : Fin 256) (b : Fin 512) : (R_main_v74 (F := Ideal) (itr X W B 64) : FVec Ideal S64x256x512 .bf16) (ix3 c a b) = res9 X W B (ix3 c a b) := by
  refine (?_ : _ = ((itr X W B 64).main_v50_7 : FVec Ideal Cert.GlaFwdRefIdeal.S64x4x128x256 .f32) (ix4 c ⟨b.val / 128, by omega⟩ ⟨b.val % 128, by omega⟩ a)).trans ?_
  · pointwise [R_main_v74]
  · rw [(after X W B 64 (le_refl _)).2.2 _ _ _ _ c.isLt]
    have e : ck ⟨b.val / 128, by omega⟩ ⟨b.val % 128, by omega⟩ = b := Fin.ext (by simp only [ck]; omega)
    rw [e]
    rfl

theorem term (i : Fin 4096) (n : ℕ) {u u' : Fin 512} {k k' : Fin 256} (hu : u.val = u'.val) (hk : k = k') :
    X (ix2 i ⟨u.val, by omega⟩) * Ideal.ofBits .f32 0x3DB504F3#32 * big X W B n k u = X (ix2 i ⟨u'.val, by omega⟩) * Ideal.ofBits .f32 0x3DB504F3#32 * big X W B n k' u' := by
  obtain rfl := Fin.ext hu
  subst hk
  rfl

theorem ref8 (i : Fin 4096) (j : Fin 1024) : (R_main_v71 (F := Ideal) (itr X W B 64) X G : FVec Ideal S4096x1024 .bf16) (ix2 i j) = res8 X W B G (ix2 i j) := by
  refine (?_ : _ = elem (fun k => ((itr X W B 64).main_v50_6 : FVec Ideal Cert.GlaFwdRefIdeal.S64x4x64x256 .f32) (ix4 ⟨i.val / 64, by omega⟩ ⟨j.val / 256, by omega⟩ ⟨i.val % 64, by omega⟩ k)) (X (ix2 i ⟨2048 + j.val, by omega⟩)) (G (ix2 0 ⟨j.val % 256, by omega⟩)) ⟨j.val % 256, by omega⟩).trans ?_
  · pointwise [R_main_v71, elem]
    rfl
  · refine (congr (congr (congr (congrArg elem (funext fun k => ?_)) rfl) rfl) rfl : _ = elem (fun k => reply X W B i ⟨256 * (j.val / 256) + k.val, by omega⟩) (X (ix2 i ⟨2048 + j.val, by omega⟩)) (G (ix2 0 ⟨j.val % 256, by omega⟩)) ⟨j.val % 256, by omega⟩)
    rw [(after X W B 64 (le_refl _)).2.1 _ _ _ _ (show i.val / 64 < 64 by omega)]
    unfold reply
    refine Finset.sum_congr rfl fun q _ => ?_
    have e1 : pos ⟨i.val / 64, by omega⟩ ⟨i.val % 64, by omega⟩ = i := Fin.ext (by simp only [pos]; omega)
    have e2 : ck ⟨j.val / 256, by omega⟩ q = ⟨128 * ((256 * (j.val / 256) + k.val) / 256) + q.val, by omega⟩ := Fin.ext (by simp only [ck]; omega)
    have e3 : k = ⟨(256 * (j.val / 256) + k.val) % 256, by omega⟩ := Fin.ext (by dsimp only; omega)
    rw [e1]
    exact term X W B i _ (congrArg Fin.val e2) e3

theorem holds : Cert.algebraic_GlaFwdIdeal_GlaFwdRefIdeal := by
  intro m g m' g' _ hagree
  refine ⟨fun c => (dats m 0 c).arrAt 8 cfg0.N, fun c => (dats m 0 c).arrAt 9 cfg0.N, θ_run_mono (Cert.GlaFwdIdeal.Value.run_blocks m g) fun r h c => h c,
    θ_run_mono (Cert.GlaFwdRefIdeal.StepRun.run_iter (F := Ideal) m' g' (fun c => itr (m' (c.tc.loc Cert.GlaFwdRefIdeal.main_arg0)) (m' (c.tc.loc Cert.GlaFwdRefIdeal.main_arg1)) (m' (c.tc.loc Cert.GlaFwdRefIdeal.main_arg2))) (fun _ => rfl) (fun _ _ => rfl)) fun r h c => ?_⟩
  obtain ⟨h0, h1, hk⟩ := h c
  obtain ⟨a0, a1, a2, a3⟩ := hagree c
  rw [a0, a1, a2, a3] at h0
  rw [a0, a1, a2] at h1
  refine ⟨h0.trans (Eq.trans ?_ (result8 m c).symm), h1.trans (Eq.trans ?_ (result9 m c).symm), hk⟩
  · funext y
    have e := eq_ix2 (n0 := 4096) (n1 := 1024) y
    rw [e]
    exact ref8 (AX m c) (AW m c) (AB m c) (AG m c) (y 0) (y 1)
  · funext y
    have e := eq_ix3 (n0 := 64) (n1 := 256) (n2 := 512) y
    rw [e]
    exact ref9 (AX m c) (AW m c) (AB m c) (y 0) (y 1) (y 2)

end Cert.GlaForward
-- ==== Proof.lean ====
/- The claims: every program leaves its arguments and counters as they were, no operation was rewritten for the reals, and over the reals each kernel computes its reference. -/
module

public import proofs.«01_k».proof.Defs
public import proofs.«01_k».proof.Proof.Gen.ProjFwd.Frame
public import proofs.«01_k».proof.Proof.Gen.ProjFwdIdeal.Frame
public import proofs.«01_k».proof.Proof.Gen.ProjFwdIdeal.Value
public import proofs.«01_k».proof.Proof.Gen.ProjFwdRefIdeal.Run
public import proofs.«01_k».proof.Proof.Gen.ProjFwdRefIdeal.Read
public import proofs.«01_k».proof.Proof.ProjForward
public import proofs.«01_k».proof.Proof.Gen.ProjWgrad.Frame
public import proofs.«01_k».proof.Proof.Gen.ProjWgradIdeal.Frame
public import proofs.«01_k».proof.Proof.Gen.ProjWgradIdeal.Value
public import proofs.«01_k».proof.Proof.Gen.ProjWgradRefIdeal.Run
public import proofs.«01_k».proof.Proof.ProjWeight
public import proofs.«01_k».proof.Proof.Gen.FfnWgrad.Frame
public import proofs.«01_k».proof.Proof.Gen.FfnWgradIdeal.Frame
public import proofs.«01_k».proof.Proof.Gen.FfnWgradIdeal.Value
public import proofs.«01_k».proof.Proof.Gen.FfnWgradRefIdeal.Run
public import proofs.«01_k».proof.Proof.FfnWeight
public import proofs.«01_k».proof.Proof.Gen.FfnDownWgrad.Frame
public import proofs.«01_k».proof.Proof.Gen.FfnDownWgradIdeal.Frame
public import proofs.«01_k».proof.Proof.Gen.FfnDownWgradIdeal.Value
public import proofs.«01_k».proof.Proof.Gen.FfnDownWgradRefIdeal.Run
public import proofs.«01_k».proof.Proof.FfnDownWeight
public import proofs.«01_k».proof.Proof.Gen.MixerWgrad.Frame
public import proofs.«01_k».proof.Proof.Gen.MixerWgradIdeal.Frame
public import proofs.«01_k».proof.Proof.Gen.MixerWgradIdeal.Value
public import proofs.«01_k».proof.Proof.Gen.MixerWgradRefIdeal.Run
public import proofs.«01_k».proof.Proof.MixerWeight
public import proofs.«01_k».proof.Proof.Gen.MixerBwd.Frame
public import proofs.«01_k».proof.Proof.Gen.MixerBwdIdeal.Frame
public import proofs.«01_k».proof.Proof.Gen.MixerBwdIdeal.Value
public import proofs.«01_k».proof.Proof.Gen.MixerBwdRefIdeal.Run
public import proofs.«01_k».proof.Proof.Gen.MixerBwdRefIdeal.Read
public import proofs.«01_k».proof.Proof.MixerBackward
public import proofs.«01_k».proof.Proof.Gen.FfnInBwd.Frame
public import proofs.«01_k».proof.Proof.Gen.FfnInBwdIdeal.Frame
public import proofs.«01_k».proof.Proof.Gen.FfnInBwdIdeal.Value
public import proofs.«01_k».proof.Proof.Gen.FfnInBwdRefIdeal.Run
public import proofs.«01_k».proof.Proof.Gen.FfnInBwdRefIdeal.Read
public import proofs.«01_k».proof.Proof.NormBack
public import proofs.«01_k».proof.Proof.FfnInput
public import proofs.«01_k».proof.Proof.Gen.FfnOutBwd.Frame
public import proofs.«01_k».proof.Proof.Gen.FfnOutBwdIdeal.Frame
public import proofs.«01_k».proof.Proof.Gen.FfnOutBwdIdeal.Value
public import proofs.«01_k».proof.Proof.Gen.FfnOutBwdRefIdeal.Run
public import proofs.«01_k».proof.Proof.Gen.FfnOutBwdRefIdeal.Read
public import proofs.«01_k».proof.Proof.Reals
public import proofs.«01_k».proof.Proof.FfnOutput
public import proofs.«01_k».proof.Proof.Gen.ProjBwd.Frame
public import proofs.«01_k».proof.Proof.Gen.ProjBwdIdeal.Frame
public import proofs.«01_k».proof.Proof.Gen.ProjBwdIdeal.Value
public import proofs.«01_k».proof.Proof.Gen.ProjBwdRefIdeal.Run
public import proofs.«01_k».proof.Proof.Gen.ProjBwdRefIdeal.Read
public import proofs.«01_k».proof.Proof.ProjBackward
public import proofs.«01_k».proof.Proof.Gen.AdamwNorm.Frame
public import proofs.«01_k».proof.Proof.Gen.AdamwNormIdeal.Frame
public import proofs.«01_k».proof.Proof.Gen.AdamwNormIdeal.Value
public import proofs.«01_k».proof.Proof.Gen.AdamwNormRefIdeal.Run
public import proofs.«01_k».proof.Proof.Gen.AdamwNormRefIdeal.Read
public import proofs.«01_k».proof.Proof.Debias
public import proofs.«01_k».proof.Proof.UpdateNorm
public import proofs.«01_k».proof.Proof.Gen.AdamwFinal.Frame
public import proofs.«01_k».proof.Proof.Gen.AdamwFinalIdeal.Frame
public import proofs.«01_k».proof.Proof.Gen.AdamwFinalIdeal.Value
public import proofs.«01_k».proof.Proof.Gen.AdamwFinalRefIdeal.Run
public import proofs.«01_k».proof.Proof.Gen.AdamwFinalRefIdeal.Read
public import proofs.«01_k».proof.Proof.UpdateFinal
public import proofs.«01_k».proof.Proof.Gen.AdamwGateBias.Frame
public import proofs.«01_k».proof.Proof.Gen.AdamwGateBiasIdeal.Frame
public import proofs.«01_k».proof.Proof.Gen.AdamwGateBiasIdeal.Value
public import proofs.«01_k».proof.Proof.Gen.AdamwGateBiasRefIdeal.Run
public import proofs.«01_k».proof.Proof.Gen.AdamwGateBiasRefIdeal.Read
public import proofs.«01_k».proof.Proof.UpdateGateBias
public import proofs.«01_k».proof.Proof.Gen.AdamwGlaNorm.Frame
public import proofs.«01_k».proof.Proof.Gen.AdamwGlaNormIdeal.Frame
public import proofs.«01_k».proof.Proof.Gen.AdamwGlaNormIdeal.Value
public import proofs.«01_k».proof.Proof.Gen.AdamwGlaNormRefIdeal.Run
public import proofs.«01_k».proof.Proof.Gen.AdamwGlaNormRefIdeal.Read
public import proofs.«01_k».proof.Proof.UpdateGlaNorm
public import proofs.«01_k».proof.Proof.Gen.AdamwConv.Frame
public import proofs.«01_k».proof.Proof.Gen.AdamwConvIdeal.Frame
public import proofs.«01_k».proof.Proof.Gen.AdamwConvIdeal.Value
public import proofs.«01_k».proof.Proof.Gen.AdamwConvRefIdeal.Run
public import proofs.«01_k».proof.Proof.Gen.AdamwConvRefIdeal.Read
public import proofs.«01_k».proof.Proof.UpdateConv
public import proofs.«01_k».proof.Proof.Gen.AdamwGateRank.Frame
public import proofs.«01_k».proof.Proof.Gen.AdamwGateRankIdeal.Frame
public import proofs.«01_k».proof.Proof.Gen.AdamwGateRankIdeal.Value
public import proofs.«01_k».proof.Proof.Gen.AdamwGateRankRefIdeal.Run
public import proofs.«01_k».proof.Proof.Gen.AdamwGateRankRefIdeal.Read
public import proofs.«01_k».proof.Proof.UpdateGateRank
public import proofs.«01_k».proof.Proof.Gen.AdamwMixer.Frame
public import proofs.«01_k».proof.Proof.Gen.AdamwMixerIdeal.Frame
public import proofs.«01_k».proof.Proof.Gen.AdamwMixerIdeal.Value
public import proofs.«01_k».proof.Proof.Gen.AdamwMixerRefIdeal.Run
public import proofs.«01_k».proof.Proof.Gen.AdamwMixerRefIdeal.Read
public import proofs.«01_k».proof.Proof.UpdateMixer
public import proofs.«01_k».proof.Proof.Gen.AdamwDown.Frame
public import proofs.«01_k».proof.Proof.Gen.AdamwDownIdeal.Frame
public import proofs.«01_k».proof.Proof.Gen.AdamwDownIdeal.Value
public import proofs.«01_k».proof.Proof.Gen.AdamwDownRefIdeal.Run
public import proofs.«01_k».proof.Proof.Gen.AdamwDownRefIdeal.Read
public import proofs.«01_k».proof.Proof.UpdateDown
public import proofs.«01_k».proof.Proof.Gen.AdamwGate.Frame
public import proofs.«01_k».proof.Proof.Gen.AdamwGateIdeal.Frame
public import proofs.«01_k».proof.Proof.Gen.AdamwGateRefIdeal.Run
public import proofs.«01_k».proof.Proof.Gen.AdamwGateRefIdeal.Read
public import proofs.«01_k».proof.Proof.Element
public import proofs.«01_k».proof.Proof.UpdateGate
public import proofs.«01_k».proof.Proof.Gen.AdamwIn.Frame
public import proofs.«01_k».proof.Proof.Gen.AdamwInIdeal.Frame
public import proofs.«01_k».proof.Proof.Gen.AdamwInRefIdeal.Run
public import proofs.«01_k».proof.Proof.Gen.AdamwInRefIdeal.Read
public import proofs.«01_k».proof.Proof.UpdateIn
public import proofs.«01_k».proof.Proof.Gen.FfnOutFwd.Frame
public import proofs.«01_k».proof.Proof.Gen.FfnOutFwdIdeal.Frame
public import proofs.«01_k».proof.Proof.Gen.FfnOutFwdIdeal.Value
public import proofs.«01_k».proof.Proof.Gen.FfnOutFwdRefIdeal.Run
public import proofs.«01_k».proof.Proof.Gen.FfnOutFwdRefIdeal.Read
public import proofs.«01_k».proof.Proof.FfnOutForward
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.RmsForward
public import proofs.«01_k».proof.Proof.Gen.FfnHiddenFwd.Frame
public import proofs.«01_k».proof.Proof.Gen.FfnHiddenFwdIdeal.Frame
public import proofs.«01_k».proof.Proof.Gen.FfnHiddenFwdIdeal.Value
public import proofs.«01_k».proof.Proof.Gen.FfnHiddenFwdRefIdeal.Run
public import proofs.«01_k».proof.Proof.Gen.FfnHiddenFwdRefIdeal.Read
public import proofs.«01_k».proof.Proof.FfnHiddenForward
public import proofs.«01_k».proof.Proof.Gen.MixerFwd.Frame
public import proofs.«01_k».proof.Proof.Gen.MixerFwdIdeal.Frame
public import proofs.«01_k».proof.Proof.Gen.MixerFwdIdeal.Value
public import proofs.«01_k».proof.Proof.Gen.MixerFwdRefIdeal.Run
public import proofs.«01_k».proof.Proof.Gen.MixerFwdRefIdeal.Read
public import proofs.«01_k».proof.Proof.MixerForward
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossValue
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.ConvForward
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.ConvBackward
public import proofs.«01_k».proof.Proof.Gen.LossTotal.RegionsRQ
public import proofs.«01_k».proof.Proof.Gen.LossTotalIdeal.RegionsRQ
public import proofs.«01_k».proof.Proof.Gen.LossTotalRefIdeal.Run
public import proofs.«01_k».proof.Proof.Gen.LossTotalRefIdeal.Read
public import proofs.«01_k».proof.Proof.LossTotalBase
public import proofs.«01_k».proof.Proof.LossTotalBody
public import proofs.«01_k».proof.Proof.LossTotalData
public import proofs.«01_k».proof.Proof.LossTotalFrame
public import proofs.«01_k».proof.Proof.LossTotalIdealBase
public import proofs.«01_k».proof.Proof.LossTotalIdealBody
public import proofs.«01_k».proof.Proof.LossTotalIdealData
public import proofs.«01_k».proof.Proof.LossTotalIdealFrame
public import proofs.«01_k».proof.Proof.LossTotalValue
public import proofs.«01_k».proof.Proof.Gen.PutGate.Frame
public import proofs.«01_k».proof.Proof.Gen.PutGateIdeal.Frame
public import proofs.«01_k».proof.Proof.Gen.PutGateIdeal.Value
public import proofs.«01_k».proof.Proof.Gen.PutGateRefIdeal.Run
public import proofs.«01_k».proof.Proof.Gen.PutGateRefIdeal.Read
public import proofs.«01_k».proof.Proof.PutGate
public import proofs.«01_k».proof.Proof.Gen.RowsIn.Frame
public import proofs.«01_k».proof.Proof.Gen.RowsInIdeal.Frame
public import proofs.«01_k».proof.Proof.Gen.RowsInIdeal.Value
public import proofs.«01_k».proof.Proof.Gen.RowsInRefIdeal.Run
public import proofs.«01_k».proof.Proof.Gen.RowsInRefIdeal.Read
public import proofs.«01_k».proof.Proof.Pick
public import proofs.«01_k».proof.Proof.RowsIn
public import proofs.«01_k».proof.Proof.Gen.RowsOut.Frame
public import proofs.«01_k».proof.Proof.Gen.RowsOutIdeal.Frame
public import proofs.«01_k».proof.Proof.Gen.RowsOutIdeal.Value
public import proofs.«01_k».proof.Proof.Gen.RowsOutRefIdeal.Run
public import proofs.«01_k».proof.Proof.Gen.RowsOutRefIdeal.Read
public import proofs.«01_k».proof.Proof.RowsOut
public import proofs.«01_k».proof.Proof.Gen.On_mixer_bwd_written
public import proofs.«01_k».proof.Proof.Gen.Pre_ffn_out_bwd_finite
public import proofs.«01_k».proof.Proof.Gen.GlaFwd.Frame
public import proofs.«01_k».proof.Proof.Gen.GlaFwdIdeal.Frame
public import proofs.«01_k».proof.Proof.Gen.GlaFwdIdeal.Value
public import proofs.«01_k».proof.Proof.Gen.GlaFwdRefIdeal.Run
public import proofs.«01_k».proof.Proof.Gen.GlaFwdRefIdeal.Step
public import proofs.«01_k».proof.Proof.GlaForward
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim := ⟨Cert.ProjFwd.Gen.facts,
  Cert.ProjFwdIdeal.Gen.facts,
  Cert.ProjFwdRefIdeal.Gen.facts,
  Cert.ProjWgrad.Gen.facts,
  Cert.ProjWgradIdeal.Gen.facts,
  Cert.ProjWgradRefIdeal.Gen.facts,
  Cert.FfnWgrad.Gen.facts,
  Cert.FfnWgradIdeal.Gen.facts,
  Cert.FfnWgradRefIdeal.Gen.facts,
  Cert.FfnDownWgrad.Gen.facts,
  Cert.FfnDownWgradIdeal.Gen.facts,
  Cert.FfnDownWgradRefIdeal.Gen.facts,
  Cert.MixerWgrad.Gen.facts,
  Cert.MixerWgradIdeal.Gen.facts,
  Cert.MixerWgradRefIdeal.Gen.facts,
  Cert.MixerBwd.Gen.facts,
  Cert.MixerBwdIdeal.Gen.facts,
  Cert.MixerBwdRefIdeal.Gen.facts,
  Cert.FfnInBwd.Gen.facts,
  Cert.FfnInBwdIdeal.Gen.facts,
  Cert.FfnInBwdRefIdeal.Gen.facts,
  Cert.FfnOutBwd.Gen.facts,
  Cert.FfnOutBwdIdeal.Gen.facts,
  Cert.FfnOutBwdRefIdeal.Gen.facts,
  Cert.ProjBwd.Gen.facts,
  Cert.ProjBwdIdeal.Gen.facts,
  Cert.ProjBwdRefIdeal.Gen.facts,
  Cert.AdamwNorm.Gen.facts,
  Cert.AdamwNormIdeal.Gen.facts,
  Cert.AdamwNormRefIdeal.Gen.facts,
  Cert.AdamwFinal.Gen.facts,
  Cert.AdamwFinalIdeal.Gen.facts,
  Cert.AdamwFinalRefIdeal.Gen.facts,
  Cert.AdamwGateBias.Gen.facts,
  Cert.AdamwGateBiasIdeal.Gen.facts,
  Cert.AdamwGateBiasRefIdeal.Gen.facts,
  Cert.AdamwGlaNorm.Gen.facts,
  Cert.AdamwGlaNormIdeal.Gen.facts,
  Cert.AdamwGlaNormRefIdeal.Gen.facts,
  Cert.AdamwConv.Gen.facts,
  Cert.AdamwConvIdeal.Gen.facts,
  Cert.AdamwConvRefIdeal.Gen.facts,
  Cert.AdamwGateRank.Gen.facts,
  Cert.AdamwGateRankIdeal.Gen.facts,
  Cert.AdamwGateRankRefIdeal.Gen.facts,
  Cert.AdamwMixer.Gen.facts,
  Cert.AdamwMixerIdeal.Gen.facts,
  Cert.AdamwMixerRefIdeal.Gen.facts,
  Cert.AdamwDown.Gen.facts,
  Cert.AdamwDownIdeal.Gen.facts,
  Cert.AdamwDownRefIdeal.Gen.facts,
  Cert.AdamwGate.Gen.facts,
  Cert.AdamwGateIdeal.Gen.facts,
  Cert.AdamwGateRefIdeal.Gen.facts,
  Cert.AdamwIn.Gen.facts,
  Cert.AdamwInIdeal.Gen.facts,
  Cert.AdamwInRefIdeal.Gen.facts,
  Cert.FfnOutFwd.Gen.facts,
  Cert.FfnOutFwdIdeal.Gen.facts,
  Cert.FfnOutFwdRefIdeal.Gen.facts,
  Cert.RmsFwd.Gen.facts,
  Cert.RmsFwdIdeal.Gen.facts,
  Cert.RmsFwdRefIdeal.Gen.facts,
  Cert.FfnHiddenFwd.Gen.facts,
  Cert.FfnHiddenFwdIdeal.Gen.facts,
  Cert.FfnHiddenFwdRefIdeal.Gen.facts,
  Cert.MixerFwd.Gen.facts,
  Cert.MixerFwdIdeal.Gen.facts,
  Cert.MixerFwdRefIdeal.Gen.facts,
  Cert.LossHead.Gen.facts,
  Cert.LossHeadIdeal.Gen.facts,
  Cert.LossHeadRefIdeal.Gen.facts,
  Cert.ConvFwd.Gen.facts,
  Cert.ConvFwdIdeal.Gen.facts,
  Cert.ConvFwdRefIdeal.Gen.facts,
  Cert.ConvBwd.Gen.facts,
  Cert.ConvBwdIdeal.Gen.facts,
  Cert.ConvBwdRefIdeal.Gen.facts,
  Cert.LossTotal.Gen.facts,
  Cert.LossTotalIdeal.Gen.facts,
  Cert.LossTotalRefIdeal.Gen.facts,
  Cert.PutGate.Gen.facts,
  Cert.PutGateIdeal.Gen.facts,
  Cert.PutGateRefIdeal.Gen.facts,
  Cert.RowsIn.Gen.facts,
  Cert.RowsInIdeal.Gen.facts,
  Cert.RowsInRefIdeal.Gen.facts,
  Cert.RowsOut.Gen.facts,
  Cert.RowsOutIdeal.Gen.facts,
  Cert.RowsOutRefIdeal.Gen.facts,
  Cert.GlaFwd.Gen.facts,
  Cert.GlaFwdIdeal.Gen.facts,
  Cert.GlaFwdRefIdeal.Gen.facts,
  Cert.Pre_ffn_out_bwd_finite.Gen.facts,
  Cert.On_mixer_bwd_written.Gen.facts,
  fun m ρ _ => Cert.ProjFwd.Gen.frame m ρ,
  fun m ρ _ => Cert.ProjFwdIdeal.Gen.frame m ρ,
  fun m ρ _ => (θ_run Cert.ProjFwdRefIdeal.defs _ _).mono (fun r h => ⟨fun c => (h c).2, sem_eq_zero_of_no_sems rfl _⟩) (Cert.ProjFwdRefIdeal.Value.run m ρ),
  fun m ρ _ => Cert.ProjWgrad.Gen.frame m ρ,
  fun m ρ _ => Cert.ProjWgradIdeal.Gen.frame m ρ,
  fun m ρ _ => (θ_run Cert.ProjWgradRefIdeal.defs _ _).mono (fun r h => ⟨fun c => (h c).2, sem_eq_zero_of_no_sems rfl _⟩) (Cert.ProjWgradRefIdeal.Value.run m ρ),
  fun m ρ _ => Cert.FfnWgrad.Gen.frame m ρ,
  fun m ρ _ => Cert.FfnWgradIdeal.Gen.frame m ρ,
  fun m ρ _ => (θ_run Cert.FfnWgradRefIdeal.defs _ _).mono (fun r h => ⟨fun c => (h c).2, sem_eq_zero_of_no_sems rfl _⟩) (Cert.FfnWgradRefIdeal.Value.run m ρ),
  fun m ρ _ => Cert.FfnDownWgrad.Gen.frame m ρ,
  fun m ρ _ => Cert.FfnDownWgradIdeal.Gen.frame m ρ,
  fun m ρ _ => (θ_run Cert.FfnDownWgradRefIdeal.defs _ _).mono (fun r h => ⟨fun c => (h c).2, sem_eq_zero_of_no_sems rfl _⟩) (Cert.FfnDownWgradRefIdeal.Value.run m ρ),
  fun m ρ _ => Cert.MixerWgrad.Gen.frame m ρ,
  fun m ρ _ => Cert.MixerWgradIdeal.Gen.frame m ρ,
  fun m ρ _ => (θ_run Cert.MixerWgradRefIdeal.defs _ _).mono (fun r h => ⟨fun c => (h c).2, sem_eq_zero_of_no_sems rfl _⟩) (Cert.MixerWgradRefIdeal.Value.run m ρ),
  fun m ρ _ => Cert.MixerBwd.Gen.frame m ρ,
  fun m ρ _ => Cert.MixerBwdIdeal.Gen.frame m ρ,
  fun m ρ _ => (θ_run Cert.MixerBwdRefIdeal.defs _ _).mono (fun r h => ⟨fun c => (h c).2.2.2.2.2, sem_eq_zero_of_no_sems rfl _⟩) (Cert.MixerBwdRefIdeal.Value.run m ρ),
  fun m ρ _ => Cert.FfnInBwd.Gen.frame m ρ,
  fun m ρ _ => Cert.FfnInBwdIdeal.Gen.frame m ρ,
  fun m ρ _ => (θ_run Cert.FfnInBwdRefIdeal.defs _ _).mono (fun r h => ⟨fun c => (h c).2.2.2, sem_eq_zero_of_no_sems rfl _⟩) (Cert.FfnInBwdRefIdeal.Value.run m ρ),
  fun m ρ _ => Cert.FfnOutBwd.Gen.frame m ρ,
  fun m ρ _ => Cert.FfnOutBwdIdeal.Gen.frame m ρ,
  fun m ρ _ => Cert.FfnOutBwdIdeal.Gen.frame m ρ,
  fun m ρ _ => (θ_run Cert.FfnOutBwdRefIdeal.defs _ _).mono (fun r h => ⟨fun c => (h c).2.2, sem_eq_zero_of_no_sems rfl _⟩) (Cert.FfnOutBwdRefIdeal.Value.run m ρ),
  fun m ρ _ => (θ_run Cert.FfnOutBwdRefIdeal.defs _ _).mono (fun r h => ⟨fun c => (h c).2.2, sem_eq_zero_of_no_sems rfl _⟩) (Cert.FfnOutBwdRefIdeal.Value.run m ρ),
  fun m ρ _ => Cert.ProjBwd.Gen.frame m ρ,
  fun m ρ _ => Cert.ProjBwdIdeal.Gen.frame m ρ,
  fun m ρ _ => (θ_run Cert.ProjBwdRefIdeal.defs _ _).mono (fun r h => ⟨fun c => (h c).2.2.2, sem_eq_zero_of_no_sems rfl _⟩) (Cert.ProjBwdRefIdeal.Value.run m ρ),
  fun m ρ _ => Cert.AdamwNorm.Gen.frame m ρ,
  fun m ρ _ => Cert.AdamwNormIdeal.Gen.frame m ρ,
  fun m ρ _ => (θ_run Cert.AdamwNormRefIdeal.defs _ _).mono (fun r h => ⟨fun c => (h c).2.2.2, sem_eq_zero_of_no_sems rfl _⟩) (Cert.AdamwNormRefIdeal.Value.run m ρ),
  fun m ρ _ => Cert.AdamwFinal.Gen.frame m ρ,
  fun m ρ _ => Cert.AdamwFinalIdeal.Gen.frame m ρ,
  fun m ρ _ => (θ_run Cert.AdamwFinalRefIdeal.defs _ _).mono (fun r h => ⟨fun c => (h c).2.2.2, sem_eq_zero_of_no_sems rfl _⟩) (Cert.AdamwFinalRefIdeal.Value.run m ρ),
  fun m ρ _ => Cert.AdamwGateBias.Gen.frame m ρ,
  fun m ρ _ => Cert.AdamwGateBiasIdeal.Gen.frame m ρ,
  fun m ρ _ => (θ_run Cert.AdamwGateBiasRefIdeal.defs _ _).mono (fun r h => ⟨fun c => (h c).2.2.2, sem_eq_zero_of_no_sems rfl _⟩) (Cert.AdamwGateBiasRefIdeal.Value.run m ρ),
  fun m ρ _ => Cert.AdamwGlaNorm.Gen.frame m ρ,
  fun m ρ _ => Cert.AdamwGlaNormIdeal.Gen.frame m ρ,
  fun m ρ _ => (θ_run Cert.AdamwGlaNormRefIdeal.defs _ _).mono (fun r h => ⟨fun c => (h c).2.2.2, sem_eq_zero_of_no_sems rfl _⟩) (Cert.AdamwGlaNormRefIdeal.Value.run m ρ),
  fun m ρ _ => Cert.AdamwConv.Gen.frame m ρ,
  fun m ρ _ => Cert.AdamwConvIdeal.Gen.frame m ρ,
  fun m ρ _ => (θ_run Cert.AdamwConvRefIdeal.defs _ _).mono (fun r h => ⟨fun c => (h c).2.2.2, sem_eq_zero_of_no_sems rfl _⟩) (Cert.AdamwConvRefIdeal.Value.run m ρ),
  fun m ρ _ => Cert.AdamwGateRank.Gen.frame m ρ,
  fun m ρ _ => Cert.AdamwGateRankIdeal.Gen.frame m ρ,
  fun m ρ _ => (θ_run Cert.AdamwGateRankRefIdeal.defs _ _).mono (fun r h => ⟨fun c => (h c).2.2.2, sem_eq_zero_of_no_sems rfl _⟩) (Cert.AdamwGateRankRefIdeal.Value.run m ρ),
  fun m ρ _ => Cert.AdamwMixer.Gen.frame m ρ,
  fun m ρ _ => Cert.AdamwMixerIdeal.Gen.frame m ρ,
  fun m ρ _ => (θ_run Cert.AdamwMixerRefIdeal.defs _ _).mono (fun r h => ⟨fun c => (h c).2.2.2.2, sem_eq_zero_of_no_sems rfl _⟩) (Cert.AdamwMixerRefIdeal.Value.run m ρ),
  fun m ρ _ => Cert.AdamwDown.Gen.frame m ρ,
  fun m ρ _ => Cert.AdamwDownIdeal.Gen.frame m ρ,
  fun m ρ _ => (θ_run Cert.AdamwDownRefIdeal.defs _ _).mono (fun r h => ⟨fun c => (h c).2.2.2.2, sem_eq_zero_of_no_sems rfl _⟩) (Cert.AdamwDownRefIdeal.Value.run m ρ),
  fun m ρ _ => Cert.AdamwGate.Gen.frame m ρ,
  fun m ρ _ => Cert.AdamwGateIdeal.Gen.frame m ρ,
  fun m ρ _ => (θ_run Cert.AdamwGateRefIdeal.defs _ _).mono (fun r h => ⟨fun c => (h c).2.2.2.2, sem_eq_zero_of_no_sems rfl _⟩) (Cert.AdamwGateRefIdeal.Value.run m ρ),
  fun m ρ _ => Cert.AdamwIn.Gen.frame m ρ,
  fun m ρ _ => Cert.AdamwInIdeal.Gen.frame m ρ,
  fun m ρ _ => (θ_run Cert.AdamwInRefIdeal.defs _ _).mono (fun r h => ⟨fun c => (h c).2.2.2.2, sem_eq_zero_of_no_sems rfl _⟩) (Cert.AdamwInRefIdeal.Value.run m ρ),
  fun m ρ _ => Cert.FfnOutFwd.Gen.frame m ρ,
  fun m ρ _ => Cert.FfnOutFwdIdeal.Gen.frame m ρ,
  fun m ρ _ => (θ_run Cert.FfnOutFwdRefIdeal.defs _ _).mono (fun r h => ⟨fun c => (h c).2, sem_eq_zero_of_no_sems rfl _⟩) (Cert.FfnOutFwdRefIdeal.Value.run m ρ),
  fun m ρ _ => Cert.RmsFwd.Gen.frame m ρ,
  fun m ρ _ => Cert.RmsFwdIdeal.Gen.frame m ρ,
  fun m ρ _ => (θ_run Cert.RmsFwdRefIdeal.defs _ _).mono (fun r h => ⟨fun c => (h c).2, sem_eq_zero_of_no_sems rfl _⟩) (Cert.RmsFwdRefIdeal.Value.run m ρ),
  fun m ρ _ => Cert.FfnHiddenFwd.Gen.frame m ρ,
  fun m ρ _ => Cert.FfnHiddenFwdIdeal.Gen.frame m ρ,
  fun m ρ _ => (θ_run Cert.FfnHiddenFwdRefIdeal.defs _ _).mono (fun r h => ⟨fun c => (h c).2.2.2.2, sem_eq_zero_of_no_sems rfl _⟩) (Cert.FfnHiddenFwdRefIdeal.Value.run m ρ),
  fun m ρ _ => Cert.MixerFwd.Gen.frame m ρ,
  fun m ρ _ => Cert.MixerFwdIdeal.Gen.frame m ρ,
  fun m ρ _ => (θ_run Cert.MixerFwdRefIdeal.defs _ _).mono (fun r h => ⟨fun c => (h c).2.2.2.2, sem_eq_zero_of_no_sems rfl _⟩) (Cert.MixerFwdRefIdeal.Value.run m ρ),
  fun m ρ _ => Cert.LossHead.Gen.frame m ρ,
  fun m ρ _ => Cert.LossHeadIdeal.Gen.frame m ρ,
  fun m ρ _ => (θ_run Cert.LossHeadRefIdeal.defs _ _).mono (fun r h => ⟨fun c => (h c).2.2.2.2, sem_eq_zero_of_no_sems rfl _⟩) (Cert.LossHeadRefIdeal.Value.run m ρ),
  fun m ρ _ => Cert.ConvFwd.Gen.frame m ρ,
  fun m ρ _ => Cert.ConvFwdIdeal.Gen.frame m ρ,
  fun m ρ _ => (θ_run Cert.ConvFwdRefIdeal.defs _ _).mono (fun r h => ⟨fun c => (h c).2, sem_eq_zero_of_no_sems rfl _⟩) (Cert.ConvFwdRefIdeal.Value.run m ρ),
  fun m ρ _ => Cert.ConvBwd.Gen.frame m ρ,
  fun m ρ _ => Cert.ConvBwdIdeal.Gen.frame m ρ,
  fun m ρ _ => (θ_run Cert.ConvBwdRefIdeal.defs _ _).mono (fun r h => ⟨fun c => (h c).2.2, sem_eq_zero_of_no_sems rfl _⟩) (Cert.ConvBwdRefIdeal.Value.run m ρ),
  fun m ρ _ => Cert.LossTotal.Run.quiet m ρ,
  fun m ρ _ => Cert.LossTotalIdeal.Run.quiet m ρ,
  fun m ρ _ => (θ_run Cert.LossTotalRefIdeal.defs _ _).mono (fun r h => ⟨fun c => (h c).2, sem_eq_zero_of_no_sems rfl _⟩) (Cert.LossTotalRefIdeal.Value.run m ρ),
  fun m ρ _ => Cert.PutGate.Gen.frame m ρ,
  fun m ρ _ => Cert.PutGateIdeal.Gen.frame m ρ,
  fun m ρ _ => (θ_run Cert.PutGateRefIdeal.defs _ _).mono (fun r h => ⟨fun c => (h c).2, sem_eq_zero_of_no_sems rfl _⟩) (Cert.PutGateRefIdeal.Value.run m ρ),
  fun m ρ _ => Cert.RowsIn.Gen.frame m ρ,
  fun m ρ _ => Cert.RowsInIdeal.Gen.frame m ρ,
  fun m ρ _ => (θ_run Cert.RowsInRefIdeal.defs _ _).mono (fun r h => ⟨fun c => (h c).2, sem_eq_zero_of_no_sems rfl _⟩) (Cert.RowsInRefIdeal.Value.run m ρ),
  fun m ρ _ => Cert.RowsOut.Gen.frame m ρ,
  fun m ρ _ => Cert.RowsOutIdeal.Gen.frame m ρ,
  fun m ρ _ => (θ_run Cert.RowsOutRefIdeal.defs _ _).mono (fun r h => ⟨fun c => (h c).2, sem_eq_zero_of_no_sems rfl _⟩) (Cert.RowsOutRefIdeal.Value.run m ρ),
  fun m ρ _ => Cert.GlaFwd.Gen.frame m ρ,
  fun m ρ _ => Cert.GlaFwdIdeal.Gen.frame m ρ,
  fun m ρ _ => (θ_run Cert.GlaFwdRefIdeal.defs _ _).mono (fun r h => ⟨fun c => (h c).2.2, sem_eq_zero_of_no_sems rfl _⟩) (Cert.GlaFwdRefIdeal.Value.run m ρ),
  trivial,
  Cert.ProjForward.holds,
  trivial,
  Cert.ProjWeight.holds,
  trivial,
  Cert.FfnWeight.holds,
  trivial,
  Cert.FfnDownWeight.holds,
  trivial,
  Cert.MixerWeight.holds,
  trivial,
  Cert.MixerBackward.holds,
  trivial,
  Cert.FfnInput.holds,
  trivial,
  Cert.FfnOutput.holds,
  trivial,
  Cert.ProjBackward.holds,
  Cert.UpdateNorm.preserves,
  Cert.UpdateNorm.holds,
  Cert.UpdateFinal.preserves,
  Cert.UpdateFinal.holds,
  Cert.UpdateGateBias.preserves,
  Cert.UpdateGateBias.holds,
  Cert.UpdateGlaNorm.preserves,
  Cert.UpdateGlaNorm.holds,
  Cert.UpdateConv.preserves,
  Cert.UpdateConv.holds,
  Cert.UpdateGateRank.preserves,
  Cert.UpdateGateRank.holds,
  Cert.UpdateMixer.preserves,
  Cert.UpdateMixer.holds,
  Cert.UpdateDown.preserves,
  Cert.UpdateDown.holds,
  Cert.UpdateGate.preserves,
  Cert.UpdateGate.holds,
  Cert.UpdateIn.preserves,
  Cert.UpdateIn.holds,
  trivial,
  Cert.FfnOutForward.holds,
  trivial,
  Cert.RmsForward.holds,
  trivial,
  Cert.FfnHiddenForward.holds,
  trivial,
  Cert.MixerForward.holds,
  trivial,
  Cert.LossValue.holds,
  trivial,
  Cert.ConvForward.holds,
  trivial,
  Cert.ConvBackward.holds,
  trivial,
  Cert.LossTotalValue.holds,
  trivial,
  Cert.PutGateValue.holds,
  trivial,
  Cert.RowsInValue.holds,
  trivial,
  Cert.RowsOutValue.holds,
  trivial,
  Cert.GlaForward.holds⟩

end Cert.Proof

end
